-- ==== Defs.lean ====
def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossIdeal_out_loss_finite [hPre_out_loss_finite : Cert.Pre_out_loss_finite.Facts] (m : (ℓ : Loc Cert.OutLossIdeal.nD Cert.OutLossIdeal.τ Cert.OutLossIdeal.sig) → Buf (Elt Ideal) ℓ) : Prop :=
  ∀ c : Dev Cert.OutLossIdeal.nD,
    (Cert.Pre_out_loss_finite.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4)) (m ((c.tc : Thread Cert.OutLossIdeal.nD Cert.OutLossIdeal.τ).loc Cert.OutLossIdeal.main_arg5)) (m ((c.tc : Thread Cert.OutLossIdeal.nD Cert.OutLossIdeal.τ).loc Cert.OutLossIdeal.main_arg6))) = (fun _ => 1#1)

def Pre_OutLossRefIdeal (m : (ℓ : Loc Cert.OutLossRefIdeal.nD Cert.OutLossRefIdeal.τ Cert.OutLossRefIdeal.sig) → Buf (Elt Ideal) ℓ) : Prop :=
  True

def Pre_OutLossRefIdeal_out_loss_finite [hPre_out_loss_finite : Cert.Pre_out_loss_finite.Facts] (m : (ℓ : Loc Cert.OutLossRefIdeal.nD Cert.OutLossRefIdeal.τ Cert.OutLossRefIdeal.sig) → Buf (Elt Ideal) ℓ) : Prop :=
  ∀ c : Dev Cert.OutLossRefIdeal.nD,
    (Cert.Pre_out_loss_finite.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4)) (m ((c.tc : Thread Cert.OutLossRefIdeal.nD Cert.OutLossRefIdeal.τ).loc Cert.OutLossRefIdeal.main_arg5)) (m ((c.tc : Thread Cert.OutLossRefIdeal.nD Cert.OutLossRefIdeal.τ).loc Cert.OutLossRefIdeal.main_arg6))) = (fun _ => 1#1)

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwIdeal_pool_dw_finite [hPre_pool_dw_finite : Cert.Pre_pool_dw_finite.Facts] (m : (ℓ : Loc Cert.PoolDwIdeal.nD Cert.PoolDwIdeal.τ Cert.PoolDwIdeal.sig) → Buf (Elt Ideal) ℓ) : Prop :=
  ∀ c : Dev Cert.PoolDwIdeal.nD,
    (Cert.Pre_pool_dw_finite.fn (F := Ideal) (m ((c.tc : Thread Cert.PoolDwIdeal.nD Cert.PoolDwIdeal.τ).loc Cert.PoolDwIdeal.main_arg0)) (m ((c.tc : Thread Cert.PoolDwIdeal.nD Cert.PoolDwIdeal.τ).loc Cert.PoolDwIdeal.main_arg1)) (m ((c.tc : Thread Cert.PoolDwIdeal.nD Cert.PoolDwIdeal.τ).loc Cert.PoolDwIdeal.main_arg2)) (m ((c.tc : Thread Cert.PoolDwIdeal.nD Cert.PoolDwIdeal.τ).loc Cert.PoolDwIdeal.main_arg3)) (m ((c.tc : Thread Cert.PoolDwIdeal.nD Cert.PoolDwIdeal.τ).loc Cert.PoolDwIdeal.main_arg4)) (m ((c.tc : Thread Cert.PoolDwIdeal.nD Cert.PoolDwIdeal.τ).loc Cert.PoolDwIdeal.main_arg5)) (m ((c.tc : Thread Cert.PoolDwIdeal.nD Cert.PoolDwIdeal.τ).loc Cert.PoolDwIdeal.main_arg6)) (m ((c.tc : Thread Cert.PoolDwIdeal.nD Cert.PoolDwIdeal.τ).loc Cert.PoolDwIdeal.main_arg7)) (m ((c.tc : Thread Cert.PoolDwIdeal.nD Cert.PoolDwIdeal.τ).loc Cert.PoolDwIdeal.main_arg8)) (m ((c.tc : Thread Cert.PoolDwIdeal.nD Cert.PoolDwIdeal.τ).loc Cert.PoolDwIdeal.main_arg9))) = (fun _ => 1#1)

def Pre_PoolDwRefIdeal (m : (ℓ : Loc Cert.PoolDwRefIdeal.nD Cert.PoolDwRefIdeal.τ Cert.PoolDwRefIdeal.sig) → Buf (Elt Ideal) ℓ) : Prop :=
  True

def Pre_PoolDwRefIdeal_pool_dw_finite [hPre_pool_dw_finite : Cert.Pre_pool_dw_finite.Facts] (m : (ℓ : Loc Cert.PoolDwRefIdeal.nD Cert.PoolDwRefIdeal.τ Cert.PoolDwRefIdeal.sig) → Buf (Elt Ideal) ℓ) : Prop :=
  ∀ c : Dev Cert.PoolDwRefIdeal.nD,
    (Cert.Pre_pool_dw_finite.fn (F := Ideal) (m ((c.tc : Thread Cert.PoolDwRefIdeal.nD Cert.PoolDwRefIdeal.τ).loc Cert.PoolDwRefIdeal.main_arg0)) (m ((c.tc : Thread Cert.PoolDwRefIdeal.nD Cert.PoolDwRefIdeal.τ).loc Cert.PoolDwRefIdeal.main_arg1)) (m ((c.tc : Thread Cert.PoolDwRefIdeal.nD Cert.PoolDwRefIdeal.τ).loc Cert.PoolDwRefIdeal.main_arg2)) (m ((c.tc : Thread Cert.PoolDwRefIdeal.nD Cert.PoolDwRefIdeal.τ).loc Cert.PoolDwRefIdeal.main_arg3)) (m ((c.tc : Thread Cert.PoolDwRefIdeal.nD Cert.PoolDwRefIdeal.τ).loc Cert.PoolDwRefIdeal.main_arg4)) (m ((c.tc : Thread Cert.PoolDwRefIdeal.nD Cert.PoolDwRefIdeal.τ).loc Cert.PoolDwRefIdeal.main_arg5)) (m ((c.tc : Thread Cert.PoolDwRefIdeal.nD Cert.PoolDwRefIdeal.τ).loc Cert.PoolDwRefIdeal.main_arg6)) (m ((c.tc : Thread Cert.PoolDwRefIdeal.nD Cert.PoolDwRefIdeal.τ).loc Cert.PoolDwRefIdeal.main_arg7)) (m ((c.tc : Thread Cert.PoolDwRefIdeal.nD Cert.PoolDwRefIdeal.τ).loc Cert.PoolDwRefIdeal.main_arg8)) (m ((c.tc : Thread Cert.PoolDwRefIdeal.nD Cert.PoolDwRefIdeal.τ).loc Cert.PoolDwRefIdeal.main_arg9))) = (fun _ => 1#1)

def Pre_NormDx (m : (ℓ : Loc Cert.NormDx.nD Cert.NormDx.τ Cert.NormDx.sig) → Buf (Elt Bits) ℓ) : Prop :=
  True

def Pre_NormDxIdeal (m : (ℓ : Loc Cert.NormDxIdeal.nD Cert.NormDxIdeal.τ Cert.NormDxIdeal.sig) → Buf (Elt Ideal) ℓ) : Prop :=
  True

def Pre_NormDxRefIdeal (m : (ℓ : Loc Cert.NormDxRefIdeal.nD Cert.NormDxRefIdeal.τ Cert.NormDxRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackIdeal_pack_small_finite [hPre_pack_small_finite : Cert.Pre_pack_small_finite.Facts] (m : (ℓ : Loc Cert.PackIdeal.nD Cert.PackIdeal.τ Cert.PackIdeal.sig) → Buf (Elt Ideal) ℓ) : Prop :=
  ∀ c : Dev Cert.PackIdeal.nD,
    (Cert.Pre_pack_small_finite.fn (F := Ideal) (m ((c.tc : Thread Cert.PackIdeal.nD Cert.PackIdeal.τ).loc Cert.PackIdeal.main_arg0)) (m ((c.tc : Thread Cert.PackIdeal.nD Cert.PackIdeal.τ).loc Cert.PackIdeal.main_arg1)) (m ((c.tc : Thread Cert.PackIdeal.nD Cert.PackIdeal.τ).loc Cert.PackIdeal.main_arg2)) (m ((c.tc : Thread Cert.PackIdeal.nD Cert.PackIdeal.τ).loc Cert.PackIdeal.main_arg3))) = (fun _ => 1#1)

def Pre_PackRefIdeal (m : (ℓ : Loc Cert.PackRefIdeal.nD Cert.PackRefIdeal.τ Cert.PackRefIdeal.sig) → Buf (Elt Ideal) ℓ) : Prop :=
  True

def Pre_PackRefIdeal_pack_small_finite [hPre_pack_small_finite : Cert.Pre_pack_small_finite.Facts] (m : (ℓ : Loc Cert.PackRefIdeal.nD Cert.PackRefIdeal.τ Cert.PackRefIdeal.sig) → Buf (Elt Ideal) ℓ) : Prop :=
  ∀ c : Dev Cert.PackRefIdeal.nD,
    (Cert.Pre_pack_small_finite.fn (F := Ideal) (m ((c.tc : Thread Cert.PackRefIdeal.nD Cert.PackRefIdeal.τ).loc Cert.PackRefIdeal.main_arg0)) (m ((c.tc : Thread Cert.PackRefIdeal.nD Cert.PackRefIdeal.τ).loc Cert.PackRefIdeal.main_arg1)) (m ((c.tc : Thread Cert.PackRefIdeal.nD Cert.PackRefIdeal.τ).loc Cert.PackRefIdeal.main_arg2)) (m ((c.tc : Thread Cert.PackRefIdeal.nD Cert.PackRefIdeal.τ).loc Cert.PackRefIdeal.main_arg3))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdRefIdeal (m : (ℓ : Loc Cert.AttnBwdRefIdeal.nD Cert.AttnBwdRefIdeal.τ Cert.AttnBwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_norm_inproj_finite [hPre_norm_inproj_finite : Cert.Pre_norm_inproj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_norm_inproj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_norm_inproj_finite [hPre_norm_inproj_finite : Cert.Pre_norm_inproj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_norm_inproj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4)
      ∧ r.2.mem ((c.tc : Thread Cert.OutLoss.nD Cert.OutLoss.τ).loc Cert.OutLoss.main_arg5) = m ((c.tc : Thread Cert.OutLoss.nD Cert.OutLoss.τ).loc Cert.OutLoss.main_arg5)
      ∧ r.2.mem ((c.tc : Thread Cert.OutLoss.nD Cert.OutLoss.τ).loc Cert.OutLoss.main_arg6) = m ((c.tc : Thread Cert.OutLoss.nD Cert.OutLoss.τ).loc Cert.OutLoss.main_arg6))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
      ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5)
      ∧ r.2.mem ((c.tc : Thread Cert.OutLossIdeal.nD Cert.OutLossIdeal.τ).loc Cert.OutLossIdeal.main_arg6) = m ((c.tc : Thread Cert.OutLossIdeal.nD Cert.OutLossIdeal.τ).loc Cert.OutLossIdeal.main_arg6))
      ∧ r.2.sem = fun _ => 0)

def quiescent_OutLossIdeal_pre_out_loss_finite [hOutLossIdeal : Cert.OutLossIdeal.Facts] [hPre_out_loss_finite : Cert.Pre_out_loss_finite.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal_out_loss_finite m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
      ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5)
      ∧ r.2.mem ((c.tc : Thread Cert.OutLossIdeal.nD Cert.OutLossIdeal.τ).loc Cert.OutLossIdeal.main_arg6) = m ((c.tc : Thread Cert.OutLossIdeal.nD Cert.OutLossIdeal.τ).loc Cert.OutLossIdeal.main_arg6))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4)
      ∧ r.2.mem ((c.tc : Thread Cert.OutLossRefIdeal.nD Cert.OutLossRefIdeal.τ).loc Cert.OutLossRefIdeal.main_arg5) = m ((c.tc : Thread Cert.OutLossRefIdeal.nD Cert.OutLossRefIdeal.τ).loc Cert.OutLossRefIdeal.main_arg5)
      ∧ r.2.mem ((c.tc : Thread Cert.OutLossRefIdeal.nD Cert.OutLossRefIdeal.τ).loc Cert.OutLossRefIdeal.main_arg6) = m ((c.tc : Thread Cert.OutLossRefIdeal.nD Cert.OutLossRefIdeal.τ).loc Cert.OutLossRefIdeal.main_arg6))
      ∧ r.2.sem = fun _ => 0)

def quiescent_OutLossRefIdeal_pre_out_loss_finite [hOutLossRefIdeal : Cert.OutLossRefIdeal.Facts] [hPre_out_loss_finite : Cert.Pre_out_loss_finite.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal_out_loss_finite m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4)
      ∧ r.2.mem ((c.tc : Thread Cert.OutLossRefIdeal.nD Cert.OutLossRefIdeal.τ).loc Cert.OutLossRefIdeal.main_arg5) = m ((c.tc : Thread Cert.OutLossRefIdeal.nD Cert.OutLossRefIdeal.τ).loc Cert.OutLossRefIdeal.main_arg5)
      ∧ r.2.mem ((c.tc : Thread Cert.OutLossRefIdeal.nD Cert.OutLossRefIdeal.τ).loc Cert.OutLossRefIdeal.main_arg6) = m ((c.tc : Thread Cert.OutLossRefIdeal.nD Cert.OutLossRefIdeal.τ).loc Cert.OutLossRefIdeal.main_arg6))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1)
      ∧ r.2.mem ((c.tc : Thread Cert.PoolDw.nD Cert.PoolDw.τ).loc Cert.PoolDw.main_arg2) = m ((c.tc : Thread Cert.PoolDw.nD Cert.PoolDw.τ).loc Cert.PoolDw.main_arg2)
      ∧ r.2.mem ((c.tc : Thread Cert.PoolDw.nD Cert.PoolDw.τ).loc Cert.PoolDw.main_arg3) = m ((c.tc : Thread Cert.PoolDw.nD Cert.PoolDw.τ).loc Cert.PoolDw.main_arg3)
      ∧ r.2.mem ((c.tc : Thread Cert.PoolDw.nD Cert.PoolDw.τ).loc Cert.PoolDw.main_arg4) = m ((c.tc : Thread Cert.PoolDw.nD Cert.PoolDw.τ).loc Cert.PoolDw.main_arg4)
      ∧ r.2.mem ((c.tc : Thread Cert.PoolDw.nD Cert.PoolDw.τ).loc Cert.PoolDw.main_arg5) = m ((c.tc : Thread Cert.PoolDw.nD Cert.PoolDw.τ).loc Cert.PoolDw.main_arg5)
      ∧ r.2.mem ((c.tc : Thread Cert.PoolDw.nD Cert.PoolDw.τ).loc Cert.PoolDw.main_arg6) = m ((c.tc : Thread Cert.PoolDw.nD Cert.PoolDw.τ).loc Cert.PoolDw.main_arg6)
      ∧ r.2.mem ((c.tc : Thread Cert.PoolDw.nD Cert.PoolDw.τ).loc Cert.PoolDw.main_arg7) = m ((c.tc : Thread Cert.PoolDw.nD Cert.PoolDw.τ).loc Cert.PoolDw.main_arg7)
      ∧ r.2.mem ((c.tc : Thread Cert.PoolDw.nD Cert.PoolDw.τ).loc Cert.PoolDw.main_arg8) = m ((c.tc : Thread Cert.PoolDw.nD Cert.PoolDw.τ).loc Cert.PoolDw.main_arg8)
      ∧ r.2.mem ((c.tc : Thread Cert.PoolDw.nD Cert.PoolDw.τ).loc Cert.PoolDw.main_arg9) = m ((c.tc : Thread Cert.PoolDw.nD Cert.PoolDw.τ).loc Cert.PoolDw.main_arg9))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1)
      ∧ r.2.mem ((c.tc : Thread Cert.PoolDwIdeal.nD Cert.PoolDwIdeal.τ).loc Cert.PoolDwIdeal.main_arg2) = m ((c.tc : Thread Cert.PoolDwIdeal.nD Cert.PoolDwIdeal.τ).loc Cert.PoolDwIdeal.main_arg2)
      ∧ r.2.mem ((c.tc : Thread Cert.PoolDwIdeal.nD Cert.PoolDwIdeal.τ).loc Cert.PoolDwIdeal.main_arg3) = m ((c.tc : Thread Cert.PoolDwIdeal.nD Cert.PoolDwIdeal.τ).loc Cert.PoolDwIdeal.main_arg3)
      ∧ r.2.mem ((c.tc : Thread Cert.PoolDwIdeal.nD Cert.PoolDwIdeal.τ).loc Cert.PoolDwIdeal.main_arg4) = m ((c.tc : Thread Cert.PoolDwIdeal.nD Cert.PoolDwIdeal.τ).loc Cert.PoolDwIdeal.main_arg4)
      ∧ r.2.mem ((c.tc : Thread Cert.PoolDwIdeal.nD Cert.PoolDwIdeal.τ).loc Cert.PoolDwIdeal.main_arg5) = m ((c.tc : Thread Cert.PoolDwIdeal.nD Cert.PoolDwIdeal.τ).loc Cert.PoolDwIdeal.main_arg5)
      ∧ r.2.mem ((c.tc : Thread Cert.PoolDwIdeal.nD Cert.PoolDwIdeal.τ).loc Cert.PoolDwIdeal.main_arg6) = m ((c.tc : Thread Cert.PoolDwIdeal.nD Cert.PoolDwIdeal.τ).loc Cert.PoolDwIdeal.main_arg6)
      ∧ r.2.mem ((c.tc : Thread Cert.PoolDwIdeal.nD Cert.PoolDwIdeal.τ).loc Cert.PoolDwIdeal.main_arg7) = m ((c.tc : Thread Cert.PoolDwIdeal.nD Cert.PoolDwIdeal.τ).loc Cert.PoolDwIdeal.main_arg7)
      ∧ r.2.mem ((c.tc : Thread Cert.PoolDwIdeal.nD Cert.PoolDwIdeal.τ).loc Cert.PoolDwIdeal.main_arg8) = m ((c.tc : Thread Cert.PoolDwIdeal.nD Cert.PoolDwIdeal.τ).loc Cert.PoolDwIdeal.main_arg8)
      ∧ r.2.mem ((c.tc : Thread Cert.PoolDwIdeal.nD Cert.PoolDwIdeal.τ).loc Cert.PoolDwIdeal.main_arg9) = m ((c.tc : Thread Cert.PoolDwIdeal.nD Cert.PoolDwIdeal.τ).loc Cert.PoolDwIdeal.main_arg9))
      ∧ r.2.sem = fun _ => 0)

def quiescent_PoolDwIdeal_pre_pool_dw_finite [hPoolDwIdeal : Cert.PoolDwIdeal.Facts] [hPre_pool_dw_finite : Cert.Pre_pool_dw_finite.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal_pool_dw_finite m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1)
      ∧ r.2.mem ((c.tc : Thread Cert.PoolDwIdeal.nD Cert.PoolDwIdeal.τ).loc Cert.PoolDwIdeal.main_arg2) = m ((c.tc : Thread Cert.PoolDwIdeal.nD Cert.PoolDwIdeal.τ).loc Cert.PoolDwIdeal.main_arg2)
      ∧ r.2.mem ((c.tc : Thread Cert.PoolDwIdeal.nD Cert.PoolDwIdeal.τ).loc Cert.PoolDwIdeal.main_arg3) = m ((c.tc : Thread Cert.PoolDwIdeal.nD Cert.PoolDwIdeal.τ).loc Cert.PoolDwIdeal.main_arg3)
      ∧ r.2.mem ((c.tc : Thread Cert.PoolDwIdeal.nD Cert.PoolDwIdeal.τ).loc Cert.PoolDwIdeal.main_arg4) = m ((c.tc : Thread Cert.PoolDwIdeal.nD Cert.PoolDwIdeal.τ).loc Cert.PoolDwIdeal.main_arg4)
      ∧ r.2.mem ((c.tc : Thread Cert.PoolDwIdeal.nD Cert.PoolDwIdeal.τ).loc Cert.PoolDwIdeal.main_arg5) = m ((c.tc : Thread Cert.PoolDwIdeal.nD Cert.PoolDwIdeal.τ).loc Cert.PoolDwIdeal.main_arg5)
      ∧ r.2.mem ((c.tc : Thread Cert.PoolDwIdeal.nD Cert.PoolDwIdeal.τ).loc Cert.PoolDwIdeal.main_arg6) = m ((c.tc : Thread Cert.PoolDwIdeal.nD Cert.PoolDwIdeal.τ).loc Cert.PoolDwIdeal.main_arg6)
      ∧ r.2.mem ((c.tc : Thread Cert.PoolDwIdeal.nD Cert.PoolDwIdeal.τ).loc Cert.PoolDwIdeal.main_arg7) = m ((c.tc : Thread Cert.PoolDwIdeal.nD Cert.PoolDwIdeal.τ).loc Cert.PoolDwIdeal.main_arg7)
      ∧ r.2.mem ((c.tc : Thread Cert.PoolDwIdeal.nD Cert.PoolDwIdeal.τ).loc Cert.PoolDwIdeal.main_arg8) = m ((c.tc : Thread Cert.PoolDwIdeal.nD Cert.PoolDwIdeal.τ).loc Cert.PoolDwIdeal.main_arg8)
      ∧ r.2.mem ((c.tc : Thread Cert.PoolDwIdeal.nD Cert.PoolDwIdeal.τ).loc Cert.PoolDwIdeal.main_arg9) = m ((c.tc : Thread Cert.PoolDwIdeal.nD Cert.PoolDwIdeal.τ).loc Cert.PoolDwIdeal.main_arg9))
      ∧ r.2.sem = fun _ => 0)

def quiescent_PoolDwRefIdeal [hPoolDwRefIdeal : Cert.PoolDwRefIdeal.Facts] : Prop :=
  ∀ (m : (ℓ : Loc Cert.PoolDwRefIdeal.nD Cert.PoolDwRefIdeal.τ Cert.PoolDwRefIdeal.sig) → Buf (Elt Ideal) ℓ) (g : Dev Cert.PoolDwRefIdeal.nD → PrngReg), Pre_PoolDwRefIdeal m →
    θ_run (Cert.PoolDwRefIdeal.defs (F := Ideal)) (onTc (τ := Cert.PoolDwRefIdeal.τ) (Cert.PoolDwRefIdeal.main (F := Ideal))) ⟨m, fun _ => 0, g⟩ (fun r => (∀ c : Dev Cert.PoolDwRefIdeal.nD,
      r.2.mem ((c.tc : Thread Cert.PoolDwRefIdeal.nD Cert.PoolDwRefIdeal.τ).loc Cert.PoolDwRefIdeal.main_arg0) = m ((c.tc : Thread Cert.PoolDwRefIdeal.nD Cert.PoolDwRefIdeal.τ).loc Cert.PoolDwRefIdeal.main_arg0)
      ∧ r.2.mem ((c.tc : Thread Cert.PoolDwRefIdeal.nD Cert.PoolDwRefIdeal.τ).loc Cert.PoolDwRefIdeal.main_arg1) = m ((c.tc : Thread Cert.PoolDwRefIdeal.nD Cert.PoolDwRefIdeal.τ).loc Cert.PoolDwRefIdeal.main_arg1)
      ∧ r.2.mem ((c.tc : Thread Cert.PoolDwRefIdeal.nD Cert.PoolDwRefIdeal.τ).loc Cert.PoolDwRefIdeal.main_arg2) = m ((c.tc : Thread Cert.PoolDwRefIdeal.nD Cert.PoolDwRefIdeal.τ).loc Cert.PoolDwRefIdeal.main_arg2)
      ∧ r.2.mem ((c.tc : Thread Cert.PoolDwRefIdeal.nD Cert.PoolDwRefIdeal.τ).loc Cert.PoolDwRefIdeal.main_arg3) = m ((c.tc : Thread Cert.PoolDwRefIdeal.nD Cert.PoolDwRefIdeal.τ).loc Cert.PoolDwRefIdeal.main_arg3)
      ∧ r.2.mem ((c.tc : Thread Cert.PoolDwRefIdeal.nD Cert.PoolDwRefIdeal.τ).loc Cert.PoolDwRefIdeal.main_arg4) = m ((c.tc : Thread Cert.PoolDwRefIdeal.nD Cert.PoolDwRefIdeal.τ).loc Cert.PoolDwRefIdeal.main_arg4)
      ∧ r.2.mem ((c.tc : Thread Cert.PoolDwRefIdeal.nD Cert.PoolDwRefIdeal.τ).loc Cert.PoolDwRefIdeal.main_arg5) = m ((c.tc : Thread Cert.PoolDwRefIdeal.nD Cert.PoolDwRefIdeal.τ).loc Cert.PoolDwRefIdeal.main_arg5)
      ∧ r.2.mem ((c.tc : Thread Cert.PoolDwRefIdeal.nD Cert.PoolDwRefIdeal.τ).loc Cert.PoolDwRefIdeal.main_arg6) = m ((c.tc : Thread Cert.PoolDwRefIdeal.nD Cert.PoolDwRefIdeal.τ).loc Cert.PoolDwRefIdeal.main_arg6)
      ∧ r.2.mem ((c.tc : Thread Cert.PoolDwRefIdeal.nD Cert.PoolDwRefIdeal.τ).loc Cert.PoolDwRefIdeal.main_arg7) = m ((c.tc : Thread Cert.PoolDwRefIdeal.nD Cert.PoolDwRefIdeal.τ).loc Cert.PoolDwRefIdeal.main_arg7)
      ∧ r.2.mem ((c.tc : Thread Cert.PoolDwRefIdeal.nD Cert.PoolDwRefIdeal.τ).loc Cert.PoolDwRefIdeal.main_arg8) = m ((c.tc : Thread Cert.PoolDwRefIdeal.nD Cert.PoolDwRefIdeal.τ).loc Cert.PoolDwRefIdeal.main_arg8)
      ∧ r.2.mem ((c.tc : Thread Cert.PoolDwRefIdeal.nD Cert.PoolDwRefIdeal.τ).loc Cert.PoolDwRefIdeal.main_arg9) = m ((c.tc : Thread Cert.PoolDwRefIdeal.nD Cert.PoolDwRefIdeal.τ).loc Cert.PoolDwRefIdeal.main_arg9))
      ∧ r.2.sem = fun _ => 0)

def quiescent_PoolDwRefIdeal_pre_pool_dw_finite [hPoolDwRefIdeal : Cert.PoolDwRefIdeal.Facts] [hPre_pool_dw_finite : Cert.Pre_pool_dw_finite.Facts] : Prop :=
  ∀ (m : (ℓ : Loc Cert.PoolDwRefIdeal.nD Cert.PoolDwRefIdeal.τ Cert.PoolDwRefIdeal.sig) → Buf (Elt Ideal) ℓ) (g : Dev Cert.PoolDwRefIdeal.nD → PrngReg), Pre_PoolDwRefIdeal_pool_dw_finite m →
    θ_run (Cert.PoolDwRefIdeal.defs (F := Ideal)) (onTc (τ := Cert.PoolDwRefIdeal.τ) (Cert.PoolDwRefIdeal.main (F := Ideal))) ⟨m, fun _ => 0, g⟩ (fun r => (∀ c : Dev Cert.PoolDwRefIdeal.nD,
      r.2.mem ((c.tc : Thread Cert.PoolDwRefIdeal.nD Cert.PoolDwRefIdeal.τ).loc Cert.PoolDwRefIdeal.main_arg0) = m ((c.tc : Thread Cert.PoolDwRefIdeal.nD Cert.PoolDwRefIdeal.τ).loc Cert.PoolDwRefIdeal.main_arg0)
      ∧ r.2.mem ((c.tc : Thread Cert.PoolDwRefIdeal.nD Cert.PoolDwRefIdeal.τ).loc Cert.PoolDwRefIdeal.main_arg1) = m ((c.tc : Thread Cert.PoolDwRefIdeal.nD Cert.PoolDwRefIdeal.τ).loc Cert.PoolDwRefIdeal.main_arg1)
      ∧ r.2.mem ((c.tc : Thread Cert.PoolDwRefIdeal.nD Cert.PoolDwRefIdeal.τ).loc Cert.PoolDwRefIdeal.main_arg2) = m ((c.tc : Thread Cert.PoolDwRefIdeal.nD Cert.PoolDwRefIdeal.τ).loc Cert.PoolDwRefIdeal.main_arg2)
      ∧ r.2.mem ((c.tc : Thread Cert.PoolDwRefIdeal.nD Cert.PoolDwRefIdeal.τ).loc Cert.PoolDwRefIdeal.main_arg3) = m ((c.tc : Thread Cert.PoolDwRefIdeal.nD Cert.PoolDwRefIdeal.τ).loc Cert.PoolDwRefIdeal.main_arg3)
      ∧ r.2.mem ((c.tc : Thread Cert.PoolDwRefIdeal.nD Cert.PoolDwRefIdeal.τ).loc Cert.PoolDwRefIdeal.main_arg4) = m ((c.tc : Thread Cert.PoolDwRefIdeal.nD Cert.PoolDwRefIdeal.τ).loc Cert.PoolDwRefIdeal.main_arg4)
      ∧ r.2.mem ((c.tc : Thread Cert.PoolDwRefIdeal.nD Cert.PoolDwRefIdeal.τ).loc Cert.PoolDwRefIdeal.main_arg5) = m ((c.tc : Thread Cert.PoolDwRefIdeal.nD Cert.PoolDwRefIdeal.τ).loc Cert.PoolDwRefIdeal.main_arg5)
      ∧ r.2.mem ((c.tc : Thread Cert.PoolDwRefIdeal.nD Cert.PoolDwRefIdeal.τ).loc Cert.PoolDwRefIdeal.main_arg6) = m ((c.tc : Thread Cert.PoolDwRefIdeal.nD Cert.PoolDwRefIdeal.τ).loc Cert.PoolDwRefIdeal.main_arg6)
      ∧ r.2.mem ((c.tc : Thread Cert.PoolDwRefIdeal.nD Cert.PoolDwRefIdeal.τ).loc Cert.PoolDwRefIdeal.main_arg7) = m ((c.tc : Thread Cert.PoolDwRefIdeal.nD Cert.PoolDwRefIdeal.τ).loc Cert.PoolDwRefIdeal.main_arg7)
      ∧ r.2.mem ((c.tc : Thread Cert.PoolDwRefIdeal.nD Cert.PoolDwRefIdeal.τ).loc Cert.PoolDwRefIdeal.main_arg8) = m ((c.tc : Thread Cert.PoolDwRefIdeal.nD Cert.PoolDwRefIdeal.τ).loc Cert.PoolDwRefIdeal.main_arg8)
      ∧ r.2.mem ((c.tc : Thread Cert.PoolDwRefIdeal.nD Cert.PoolDwRefIdeal.τ).loc Cert.PoolDwRefIdeal.main_arg9) = m ((c.tc : Thread Cert.PoolDwRefIdeal.nD Cert.PoolDwRefIdeal.τ).loc Cert.PoolDwRefIdeal.main_arg9))
      ∧ r.2.sem = fun _ => 0)

def quiescent_NormDx [hNormDx : Cert.NormDx.Facts] : Prop :=
  ∀ (m : (ℓ : Loc Cert.NormDx.nD Cert.NormDx.τ Cert.NormDx.sig) → Buf (Elt Bits) ℓ) (g : Dev Cert.NormDx.nD → PrngReg), Pre_NormDx m →
    θ_run (Cert.NormDx.defs (F := Bits)) (onTc (τ := Cert.NormDx.τ) (Cert.NormDx.main (F := Bits))) ⟨m, fun _ => 0, g⟩ (fun r => (∀ c : Dev Cert.NormDx.nD,
      r.2.mem ((c.tc : Thread Cert.NormDx.nD Cert.NormDx.τ).loc Cert.NormDx.main_arg0) = m ((c.tc : Thread Cert.NormDx.nD Cert.NormDx.τ).loc Cert.NormDx.main_arg0)
      ∧ r.2.mem ((c.tc : Thread Cert.NormDx.nD Cert.NormDx.τ).loc Cert.NormDx.main_arg1) = m ((c.tc : Thread Cert.NormDx.nD Cert.NormDx.τ).loc Cert.NormDx.main_arg1)
      ∧ r.2.mem ((c.tc : Thread Cert.NormDx.nD Cert.NormDx.τ).loc Cert.NormDx.main_arg2) = m ((c.tc : Thread Cert.NormDx.nD Cert.NormDx.τ).loc Cert.NormDx.main_arg2)
      ∧ r.2.mem ((c.tc : Thread Cert.NormDx.nD Cert.NormDx.τ).loc Cert.NormDx.main_arg3) = m ((c.tc : Thread Cert.NormDx.nD Cert.NormDx.τ).loc Cert.NormDx.main_arg3)
      ∧ r.2.mem ((c.tc : Thread Cert.NormDx.nD Cert.NormDx.τ).loc Cert.NormDx.main_arg4) = m ((c.tc : Thread Cert.NormDx.nD Cert.NormDx.τ).loc Cert.NormDx.main_arg4))
      ∧ r.2.sem = fun _ => 0)

def quiescent_NormDxIdeal [hNormDxIdeal : Cert.NormDxIdeal.Facts] : Prop :=
  ∀ (m : (ℓ : Loc Cert.NormDxIdeal.nD Cert.NormDxIdeal.τ Cert.NormDxIdeal.sig) → Buf (Elt Ideal) ℓ) (g : Dev Cert.NormDxIdeal.nD → PrngReg), Pre_NormDxIdeal m →
    θ_run (Cert.NormDxIdeal.defs (F := Ideal)) (onTc (τ := Cert.NormDxIdeal.τ) (Cert.NormDxIdeal.main (F := Ideal))) ⟨m, fun _ => 0, g⟩ (fun r => (∀ c : Dev Cert.NormDxIdeal.nD,
      r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
      ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
      ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
      ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3)
      ∧ r.2.mem ((c.tc : Thread Cert.NormDxIdeal.nD Cert.NormDxIdeal.τ).loc Cert.NormDxIdeal.main_arg4) = m ((c.tc : Thread Cert.NormDxIdeal.nD Cert.NormDxIdeal.τ).loc Cert.NormDxIdeal.main_arg4))
      ∧ r.2.sem = fun _ => 0)

def quiescent_NormDxRefIdeal [hNormDxRefIdeal : Cert.NormDxRefIdeal.Facts] : Prop :=
  ∀ (m : (ℓ : Loc Cert.NormDxRefIdeal.nD Cert.NormDxRefIdeal.τ Cert.NormDxRefIdeal.sig) → Buf (Elt Ideal) ℓ) (g : Dev Cert.NormDxRefIdeal.nD → PrngReg), Pre_NormDxRefIdeal m →
    θ_run (Cert.NormDxRefIdeal.defs (F := Ideal)) (onTc (τ := Cert.NormDxRefIdeal.τ) (Cert.NormDxRefIdeal.main (F := Ideal))) ⟨m, fun _ => 0, g⟩ (fun r => (∀ c : Dev Cert.NormDxRefIdeal.nD,
      r.2.mem ((c.tc : Thread Cert.NormDxRefIdeal.nD Cert.NormDxRefIdeal.τ).loc Cert.NormDxRefIdeal.main_arg0) = m ((c.tc : Thread Cert.NormDxRefIdeal.nD Cert.NormDxRefIdeal.τ).loc Cert.NormDxRefIdeal.main_arg0)
      ∧ r.2.mem ((c.tc : Thread Cert.NormDxRefIdeal.nD Cert.NormDxRefIdeal.τ).loc Cert.NormDxRefIdeal.main_arg1) = m ((c.tc : Thread Cert.NormDxRefIdeal.nD Cert.NormDxRefIdeal.τ).loc Cert.NormDxRefIdeal.main_arg1)
      ∧ r.2.mem ((c.tc : Thread Cert.NormDxRefIdeal.nD Cert.NormDxRefIdeal.τ).loc Cert.NormDxRefIdeal.main_arg2) = m ((c.tc : Thread Cert.NormDxRefIdeal.nD Cert.NormDxRefIdeal.τ).loc Cert.NormDxRefIdeal.main_arg2)
      ∧ r.2.mem ((c.tc : Thread Cert.NormDxRefIdeal.nD Cert.NormDxRefIdeal.τ).loc Cert.NormDxRefIdeal.main_arg3) = m ((c.tc : Thread Cert.NormDxRefIdeal.nD Cert.NormDxRefIdeal.τ).loc Cert.NormDxRefIdeal.main_arg3)
      ∧ r.2.mem ((c.tc : Thread Cert.NormDxRefIdeal.nD Cert.NormDxRefIdeal.τ).loc Cert.NormDxRefIdeal.main_arg4) = m ((c.tc : Thread Cert.NormDxRefIdeal.nD Cert.NormDxRefIdeal.τ).loc Cert.NormDxRefIdeal.main_arg4))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2)
      ∧ r.2.mem ((c.tc : Thread Cert.Pack.nD Cert.Pack.τ).loc Cert.Pack.main_arg3) = m ((c.tc : Thread Cert.Pack.nD Cert.Pack.τ).loc Cert.Pack.main_arg3))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3))
      ∧ r.2.sem = fun _ => 0)

def quiescent_PackIdeal_pre_pack_small_finite [hPackIdeal : Cert.PackIdeal.Facts] [hPre_pack_small_finite : Cert.Pre_pack_small_finite.Facts] : Prop :=
  ∀ (m : (ℓ : Loc Cert.PackIdeal.nD Cert.PackIdeal.τ Cert.PackIdeal.sig) → Buf (Elt Ideal) ℓ) (g : Dev Cert.PackIdeal.nD → PrngReg), Pre_PackIdeal_pack_small_finite m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3))
      ∧ r.2.sem = fun _ => 0)

def quiescent_PackRefIdeal_pre_pack_small_finite [hPackRefIdeal : Cert.PackRefIdeal.Facts] [hPre_pack_small_finite : Cert.Pre_pack_small_finite.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal_pack_small_finite m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_norm_inproj_finite [hInProjIdeal : Cert.InProjIdeal.Facts] [hPre_norm_inproj_finite : Cert.Pre_norm_inproj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_norm_inproj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_norm_inproj_finite [hInProjRefIdeal : Cert.InProjRefIdeal.Facts] [hPre_norm_inproj_finite : Cert.Pre_norm_inproj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_norm_inproj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def preserves_OutLoss_OutLossIdeal : Prop :=
  True

def algebraic_OutLossIdeal_OutLossRefIdeal_pre_out_loss_finite [hOutLossIdeal : Cert.OutLossIdeal.Facts] [hOutLossRefIdeal : Cert.OutLossRefIdeal.Facts] [hPre_out_loss_finite : Cert.Pre_out_loss_finite.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal_out_loss_finite m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)
      ∧ m' ((c.tc : Thread Cert.OutLossRefIdeal.nD Cert.OutLossRefIdeal.τ).loc Cert.OutLossRefIdeal.main_arg5) = m ((c.tc : Thread Cert.OutLossIdeal.nD Cert.OutLossIdeal.τ).loc Cert.OutLossIdeal.main_arg5)
      ∧ m' ((c.tc : Thread Cert.OutLossRefIdeal.nD Cert.OutLossRefIdeal.τ).loc Cert.OutLossRefIdeal.main_arg6) = m ((c.tc : Thread Cert.OutLossIdeal.nD Cert.OutLossIdeal.τ).loc Cert.OutLossIdeal.main_arg6)) →
    ∃ (v0 : (c : Dev Cert.OutLossIdeal.nD) → Buf (Elt Ideal) ((c.tc : Thread Cert.OutLossIdeal.nD Cert.OutLossIdeal.τ).loc Cert.OutLossIdeal.main_v5_0)) (v1 : (c : Dev Cert.OutLossIdeal.nD) → Buf (Elt Ideal) ((c.tc : Thread Cert.OutLossIdeal.nD Cert.OutLossIdeal.τ).loc Cert.OutLossIdeal.main_v5_1)) (v2 : (c : Dev Cert.OutLossIdeal.nD) → Buf (Elt Ideal) ((c.tc : Thread Cert.OutLossIdeal.nD Cert.OutLossIdeal.τ).loc Cert.OutLossIdeal.main_v5_2)) (v3 : (c : Dev Cert.OutLossIdeal.nD) → Buf (Elt Ideal) ((c.tc : Thread Cert.OutLossIdeal.nD Cert.OutLossIdeal.τ).loc Cert.OutLossIdeal.main_v5_3)) (v4 : (c : Dev Cert.OutLossIdeal.nD) → Buf (Elt Ideal) ((c.tc : Thread Cert.OutLossIdeal.nD Cert.OutLossIdeal.τ).loc Cert.OutLossIdeal.main_v5_4)) (v5 : (c : Dev Cert.OutLossIdeal.nD) → Buf (Elt Ideal) ((c.tc : Thread Cert.OutLossIdeal.nD Cert.OutLossIdeal.τ).loc Cert.OutLossIdeal.main_v5_5)) (v6 : (c : Dev Cert.OutLossIdeal.nD) → Buf (Elt Ideal) ((c.tc : Thread Cert.OutLossIdeal.nD Cert.OutLossIdeal.τ).loc Cert.OutLossIdeal.main_v5_6)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v5_0) = v0 c
          ∧ r.2.mem ((c.tc : Thread Cert.OutLossIdeal.nD Cert.OutLossIdeal.τ).loc Cert.OutLossIdeal.main_v5_1) = v1 c
          ∧ r.2.mem ((c.tc : Thread Cert.OutLossIdeal.nD Cert.OutLossIdeal.τ).loc Cert.OutLossIdeal.main_v5_2) = v2 c
          ∧ r.2.mem ((c.tc : Thread Cert.OutLossIdeal.nD Cert.OutLossIdeal.τ).loc Cert.OutLossIdeal.main_v5_3) = v3 c
          ∧ r.2.mem ((c.tc : Thread Cert.OutLossIdeal.nD Cert.OutLossIdeal.τ).loc Cert.OutLossIdeal.main_v5_4) = v4 c
          ∧ r.2.mem ((c.tc : Thread Cert.OutLossIdeal.nD Cert.OutLossIdeal.τ).loc Cert.OutLossIdeal.main_v5_5) = v5 c
          ∧ r.2.mem ((c.tc : Thread Cert.OutLossIdeal.nD Cert.OutLossIdeal.τ).loc Cert.OutLossIdeal.main_v5_6) = v6 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
          ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5)
          ∧ r.2.mem ((c.tc : Thread Cert.OutLossIdeal.nD Cert.OutLossIdeal.τ).loc Cert.OutLossIdeal.main_arg6) = m ((c.tc : Thread Cert.OutLossIdeal.nD Cert.OutLossIdeal.τ).loc Cert.OutLossIdeal.main_arg6))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v55) = v0 c
          ∧ r.2.mem ((c.tc : Thread Cert.OutLossRefIdeal.nD Cert.OutLossRefIdeal.τ).loc Cert.OutLossRefIdeal.main_v64) = v1 c
          ∧ r.2.mem ((c.tc : Thread Cert.OutLossRefIdeal.nD Cert.OutLossRefIdeal.τ).loc Cert.OutLossRefIdeal.main_v65) = v2 c
          ∧ r.2.mem ((c.tc : Thread Cert.OutLossRefIdeal.nD Cert.OutLossRefIdeal.τ).loc Cert.OutLossRefIdeal.main_v66) = v3 c
          ∧ r.2.mem ((c.tc : Thread Cert.OutLossRefIdeal.nD Cert.OutLossRefIdeal.τ).loc Cert.OutLossRefIdeal.main_v68) = v4 c
          ∧ r.2.mem ((c.tc : Thread Cert.OutLossRefIdeal.nD Cert.OutLossRefIdeal.τ).loc Cert.OutLossRefIdeal.main_v69) = v5 c
          ∧ r.2.mem ((c.tc : Thread Cert.OutLossRefIdeal.nD Cert.OutLossRefIdeal.τ).loc Cert.OutLossRefIdeal.main_v71) = v6 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4)
          ∧ r.2.mem ((c.tc : Thread Cert.OutLossRefIdeal.nD Cert.OutLossRefIdeal.τ).loc Cert.OutLossRefIdeal.main_arg5) = m' ((c.tc : Thread Cert.OutLossRefIdeal.nD Cert.OutLossRefIdeal.τ).loc Cert.OutLossRefIdeal.main_arg5)
          ∧ r.2.mem ((c.tc : Thread Cert.OutLossRefIdeal.nD Cert.OutLossRefIdeal.τ).loc Cert.OutLossRefIdeal.main_arg6) = m' ((c.tc : Thread Cert.OutLossRefIdeal.nD Cert.OutLossRefIdeal.τ).loc Cert.OutLossRefIdeal.main_arg6))

def preserves_PoolDw_PoolDwIdeal : Prop :=
  True

def algebraic_PoolDwIdeal_PoolDwRefIdeal_pre_pool_dw_finite [hPoolDwIdeal : Cert.PoolDwIdeal.Facts] [hPoolDwRefIdeal : Cert.PoolDwRefIdeal.Facts] [hPre_pool_dw_finite : Cert.Pre_pool_dw_finite.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwRefIdeal.nD Cert.PoolDwRefIdeal.τ Cert.PoolDwRefIdeal.sig) → Buf (Elt Ideal) ℓ) (g' : Dev Cert.PoolDwRefIdeal.nD → PrngReg), Pre_PoolDwIdeal_pool_dw_finite m →
    (∀ c : Dev Cert.PoolDwIdeal.nD,
      m' ((c.tc : Thread Cert.PoolDwRefIdeal.nD Cert.PoolDwRefIdeal.τ).loc Cert.PoolDwRefIdeal.main_arg0) = m ((c.tc : Thread Cert.PoolDwIdeal.nD Cert.PoolDwIdeal.τ).loc Cert.PoolDwIdeal.main_arg0)
      ∧ m' ((c.tc : Thread Cert.PoolDwRefIdeal.nD Cert.PoolDwRefIdeal.τ).loc Cert.PoolDwRefIdeal.main_arg1) = m ((c.tc : Thread Cert.PoolDwIdeal.nD Cert.PoolDwIdeal.τ).loc Cert.PoolDwIdeal.main_arg1)
      ∧ m' ((c.tc : Thread Cert.PoolDwRefIdeal.nD Cert.PoolDwRefIdeal.τ).loc Cert.PoolDwRefIdeal.main_arg2) = m ((c.tc : Thread Cert.PoolDwIdeal.nD Cert.PoolDwIdeal.τ).loc Cert.PoolDwIdeal.main_arg2)
      ∧ m' ((c.tc : Thread Cert.PoolDwRefIdeal.nD Cert.PoolDwRefIdeal.τ).loc Cert.PoolDwRefIdeal.main_arg3) = m ((c.tc : Thread Cert.PoolDwIdeal.nD Cert.PoolDwIdeal.τ).loc Cert.PoolDwIdeal.main_arg3)
      ∧ m' ((c.tc : Thread Cert.PoolDwRefIdeal.nD Cert.PoolDwRefIdeal.τ).loc Cert.PoolDwRefIdeal.main_arg4) = m ((c.tc : Thread Cert.PoolDwIdeal.nD Cert.PoolDwIdeal.τ).loc Cert.PoolDwIdeal.main_arg4)
      ∧ m' ((c.tc : Thread Cert.PoolDwRefIdeal.nD Cert.PoolDwRefIdeal.τ).loc Cert.PoolDwRefIdeal.main_arg5) = m ((c.tc : Thread Cert.PoolDwIdeal.nD Cert.PoolDwIdeal.τ).loc Cert.PoolDwIdeal.main_arg5)
      ∧ m' ((c.tc : Thread Cert.PoolDwRefIdeal.nD Cert.PoolDwRefIdeal.τ).loc Cert.PoolDwRefIdeal.main_arg6) = m ((c.tc : Thread Cert.PoolDwIdeal.nD Cert.PoolDwIdeal.τ).loc Cert.PoolDwIdeal.main_arg6)
      ∧ m' ((c.tc : Thread Cert.PoolDwRefIdeal.nD Cert.PoolDwRefIdeal.τ).loc Cert.PoolDwRefIdeal.main_arg7) = m ((c.tc : Thread Cert.PoolDwIdeal.nD Cert.PoolDwIdeal.τ).loc Cert.PoolDwIdeal.main_arg7)
      ∧ m' ((c.tc : Thread Cert.PoolDwRefIdeal.nD Cert.PoolDwRefIdeal.τ).loc Cert.PoolDwRefIdeal.main_arg8) = m ((c.tc : Thread Cert.PoolDwIdeal.nD Cert.PoolDwIdeal.τ).loc Cert.PoolDwIdeal.main_arg8)
      ∧ m' ((c.tc : Thread Cert.PoolDwRefIdeal.nD Cert.PoolDwRefIdeal.τ).loc Cert.PoolDwRefIdeal.main_arg9) = m ((c.tc : Thread Cert.PoolDwIdeal.nD Cert.PoolDwIdeal.τ).loc Cert.PoolDwIdeal.main_arg9)) →
    ∃ (v0 : (c : Dev Cert.PoolDwIdeal.nD) → Buf (Elt Ideal) ((c.tc : Thread Cert.PoolDwIdeal.nD Cert.PoolDwIdeal.τ).loc Cert.PoolDwIdeal.main_v22_0)) (v1 : (c : Dev Cert.PoolDwIdeal.nD) → Buf (Elt Ideal) ((c.tc : Thread Cert.PoolDwIdeal.nD Cert.PoolDwIdeal.τ).loc Cert.PoolDwIdeal.main_v22_1)) (v2 : (c : Dev Cert.PoolDwIdeal.nD) → Buf (Elt Ideal) ((c.tc : Thread Cert.PoolDwIdeal.nD Cert.PoolDwIdeal.τ).loc Cert.PoolDwIdeal.main_v22_2)) (v3 : (c : Dev Cert.PoolDwIdeal.nD) → Buf (Elt Ideal) ((c.tc : Thread Cert.PoolDwIdeal.nD Cert.PoolDwIdeal.τ).loc Cert.PoolDwIdeal.main_v22_3)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v22_0) = v0 c
          ∧ r.2.mem ((c.tc : Thread Cert.PoolDwIdeal.nD Cert.PoolDwIdeal.τ).loc Cert.PoolDwIdeal.main_v22_1) = v1 c
          ∧ r.2.mem ((c.tc : Thread Cert.PoolDwIdeal.nD Cert.PoolDwIdeal.τ).loc Cert.PoolDwIdeal.main_v22_2) = v2 c
          ∧ r.2.mem ((c.tc : Thread Cert.PoolDwIdeal.nD Cert.PoolDwIdeal.τ).loc Cert.PoolDwIdeal.main_v22_3) = v3 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1)
          ∧ r.2.mem ((c.tc : Thread Cert.PoolDwIdeal.nD Cert.PoolDwIdeal.τ).loc Cert.PoolDwIdeal.main_arg2) = m ((c.tc : Thread Cert.PoolDwIdeal.nD Cert.PoolDwIdeal.τ).loc Cert.PoolDwIdeal.main_arg2)
          ∧ r.2.mem ((c.tc : Thread Cert.PoolDwIdeal.nD Cert.PoolDwIdeal.τ).loc Cert.PoolDwIdeal.main_arg3) = m ((c.tc : Thread Cert.PoolDwIdeal.nD Cert.PoolDwIdeal.τ).loc Cert.PoolDwIdeal.main_arg3)
          ∧ r.2.mem ((c.tc : Thread Cert.PoolDwIdeal.nD Cert.PoolDwIdeal.τ).loc Cert.PoolDwIdeal.main_arg4) = m ((c.tc : Thread Cert.PoolDwIdeal.nD Cert.PoolDwIdeal.τ).loc Cert.PoolDwIdeal.main_arg4)
          ∧ r.2.mem ((c.tc : Thread Cert.PoolDwIdeal.nD Cert.PoolDwIdeal.τ).loc Cert.PoolDwIdeal.main_arg5) = m ((c.tc : Thread Cert.PoolDwIdeal.nD Cert.PoolDwIdeal.τ).loc Cert.PoolDwIdeal.main_arg5)
          ∧ r.2.mem ((c.tc : Thread Cert.PoolDwIdeal.nD Cert.PoolDwIdeal.τ).loc Cert.PoolDwIdeal.main_arg6) = m ((c.tc : Thread Cert.PoolDwIdeal.nD Cert.PoolDwIdeal.τ).loc Cert.PoolDwIdeal.main_arg6)
          ∧ r.2.mem ((c.tc : Thread Cert.PoolDwIdeal.nD Cert.PoolDwIdeal.τ).loc Cert.PoolDwIdeal.main_arg7) = m ((c.tc : Thread Cert.PoolDwIdeal.nD Cert.PoolDwIdeal.τ).loc Cert.PoolDwIdeal.main_arg7)
          ∧ r.2.mem ((c.tc : Thread Cert.PoolDwIdeal.nD Cert.PoolDwIdeal.τ).loc Cert.PoolDwIdeal.main_arg8) = m ((c.tc : Thread Cert.PoolDwIdeal.nD Cert.PoolDwIdeal.τ).loc Cert.PoolDwIdeal.main_arg8)
          ∧ r.2.mem ((c.tc : Thread Cert.PoolDwIdeal.nD Cert.PoolDwIdeal.τ).loc Cert.PoolDwIdeal.main_arg9) = m ((c.tc : Thread Cert.PoolDwIdeal.nD Cert.PoolDwIdeal.τ).loc Cert.PoolDwIdeal.main_arg9))
      ∧ θ_run (Cert.PoolDwRefIdeal.defs (F := Ideal)) (onTc (τ := Cert.PoolDwRefIdeal.τ) (Cert.PoolDwRefIdeal.main (F := Ideal))) ⟨m', fun _ => 0, g'⟩ (fun r => ∀ c : Dev Cert.PoolDwRefIdeal.nD,
          r.2.mem ((c.tc : Thread Cert.PoolDwRefIdeal.nD Cert.PoolDwRefIdeal.τ).loc Cert.PoolDwRefIdeal.main_v197) = v0 c
          ∧ r.2.mem ((c.tc : Thread Cert.PoolDwRefIdeal.nD Cert.PoolDwRefIdeal.τ).loc Cert.PoolDwRefIdeal.main_v199) = v1 c
          ∧ r.2.mem ((c.tc : Thread Cert.PoolDwRefIdeal.nD Cert.PoolDwRefIdeal.τ).loc Cert.PoolDwRefIdeal.main_v132) = v2 c
          ∧ r.2.mem ((c.tc : Thread Cert.PoolDwRefIdeal.nD Cert.PoolDwRefIdeal.τ).loc Cert.PoolDwRefIdeal.main_v200) = v3 c
          ∧ r.2.mem ((c.tc : Thread Cert.PoolDwRefIdeal.nD Cert.PoolDwRefIdeal.τ).loc Cert.PoolDwRefIdeal.main_arg0) = m' ((c.tc : Thread Cert.PoolDwRefIdeal.nD Cert.PoolDwRefIdeal.τ).loc Cert.PoolDwRefIdeal.main_arg0)
          ∧ r.2.mem ((c.tc : Thread Cert.PoolDwRefIdeal.nD Cert.PoolDwRefIdeal.τ).loc Cert.PoolDwRefIdeal.main_arg1) = m' ((c.tc : Thread Cert.PoolDwRefIdeal.nD Cert.PoolDwRefIdeal.τ).loc Cert.PoolDwRefIdeal.main_arg1)
          ∧ r.2.mem ((c.tc : Thread Cert.PoolDwRefIdeal.nD Cert.PoolDwRefIdeal.τ).loc Cert.PoolDwRefIdeal.main_arg2) = m' ((c.tc : Thread Cert.PoolDwRefIdeal.nD Cert.PoolDwRefIdeal.τ).loc Cert.PoolDwRefIdeal.main_arg2)
          ∧ r.2.mem ((c.tc : Thread Cert.PoolDwRefIdeal.nD Cert.PoolDwRefIdeal.τ).loc Cert.PoolDwRefIdeal.main_arg3) = m' ((c.tc : Thread Cert.PoolDwRefIdeal.nD Cert.PoolDwRefIdeal.τ).loc Cert.PoolDwRefIdeal.main_arg3)
          ∧ r.2.mem ((c.tc : Thread Cert.PoolDwRefIdeal.nD Cert.PoolDwRefIdeal.τ).loc Cert.PoolDwRefIdeal.main_arg4) = m' ((c.tc : Thread Cert.PoolDwRefIdeal.nD Cert.PoolDwRefIdeal.τ).loc Cert.PoolDwRefIdeal.main_arg4)
          ∧ r.2.mem ((c.tc : Thread Cert.PoolDwRefIdeal.nD Cert.PoolDwRefIdeal.τ).loc Cert.PoolDwRefIdeal.main_arg5) = m' ((c.tc : Thread Cert.PoolDwRefIdeal.nD Cert.PoolDwRefIdeal.τ).loc Cert.PoolDwRefIdeal.main_arg5)
          ∧ r.2.mem ((c.tc : Thread Cert.PoolDwRefIdeal.nD Cert.PoolDwRefIdeal.τ).loc Cert.PoolDwRefIdeal.main_arg6) = m' ((c.tc : Thread Cert.PoolDwRefIdeal.nD Cert.PoolDwRefIdeal.τ).loc Cert.PoolDwRefIdeal.main_arg6)
          ∧ r.2.mem ((c.tc : Thread Cert.PoolDwRefIdeal.nD Cert.PoolDwRefIdeal.τ).loc Cert.PoolDwRefIdeal.main_arg7) = m' ((c.tc : Thread Cert.PoolDwRefIdeal.nD Cert.PoolDwRefIdeal.τ).loc Cert.PoolDwRefIdeal.main_arg7)
          ∧ r.2.mem ((c.tc : Thread Cert.PoolDwRefIdeal.nD Cert.PoolDwRefIdeal.τ).loc Cert.PoolDwRefIdeal.main_arg8) = m' ((c.tc : Thread Cert.PoolDwRefIdeal.nD Cert.PoolDwRefIdeal.τ).loc Cert.PoolDwRefIdeal.main_arg8)
          ∧ r.2.mem ((c.tc : Thread Cert.PoolDwRefIdeal.nD Cert.PoolDwRefIdeal.τ).loc Cert.PoolDwRefIdeal.main_arg9) = m' ((c.tc : Thread Cert.PoolDwRefIdeal.nD Cert.PoolDwRefIdeal.τ).loc Cert.PoolDwRefIdeal.main_arg9))

def preserves_NormDx_NormDxIdeal : Prop :=
  True

def algebraic_NormDxIdeal_NormDxRefIdeal [hNormDxIdeal : Cert.NormDxIdeal.Facts] [hNormDxRefIdeal : Cert.NormDxRefIdeal.Facts] : Prop :=
  ∀ (m : (ℓ : Loc Cert.NormDxIdeal.nD Cert.NormDxIdeal.τ Cert.NormDxIdeal.sig) → Buf (Elt Ideal) ℓ) (g : Dev Cert.NormDxIdeal.nD → PrngReg)
    (m' : (ℓ : Loc Cert.NormDxRefIdeal.nD Cert.NormDxRefIdeal.τ Cert.NormDxRefIdeal.sig) → Buf (Elt Ideal) ℓ) (g' : Dev Cert.NormDxRefIdeal.nD → PrngReg), Pre_NormDxIdeal m →
    (∀ c : Dev Cert.NormDxIdeal.nD,
      m' ((c.tc : Thread Cert.NormDxRefIdeal.nD Cert.NormDxRefIdeal.τ).loc Cert.NormDxRefIdeal.main_arg0) = m ((c.tc : Thread Cert.NormDxIdeal.nD Cert.NormDxIdeal.τ).loc Cert.NormDxIdeal.main_arg0)
      ∧ m' ((c.tc : Thread Cert.NormDxRefIdeal.nD Cert.NormDxRefIdeal.τ).loc Cert.NormDxRefIdeal.main_arg1) = m ((c.tc : Thread Cert.NormDxIdeal.nD Cert.NormDxIdeal.τ).loc Cert.NormDxIdeal.main_arg1)
      ∧ m' ((c.tc : Thread Cert.NormDxRefIdeal.nD Cert.NormDxRefIdeal.τ).loc Cert.NormDxRefIdeal.main_arg2) = m ((c.tc : Thread Cert.NormDxIdeal.nD Cert.NormDxIdeal.τ).loc Cert.NormDxIdeal.main_arg2)
      ∧ m' ((c.tc : Thread Cert.NormDxRefIdeal.nD Cert.NormDxRefIdeal.τ).loc Cert.NormDxRefIdeal.main_arg3) = m ((c.tc : Thread Cert.NormDxIdeal.nD Cert.NormDxIdeal.τ).loc Cert.NormDxIdeal.main_arg3)
      ∧ m' ((c.tc : Thread Cert.NormDxRefIdeal.nD Cert.NormDxRefIdeal.τ).loc Cert.NormDxRefIdeal.main_arg4) = m ((c.tc : Thread Cert.NormDxIdeal.nD Cert.NormDxIdeal.τ).loc Cert.NormDxIdeal.main_arg4)) →
    ∃ (v0 : (c : Dev Cert.NormDxIdeal.nD) → Buf (Elt Ideal) ((c.tc : Thread Cert.NormDxIdeal.nD Cert.NormDxIdeal.τ).loc Cert.NormDxIdeal.main_v10_0)) (v1 : (c : Dev Cert.NormDxIdeal.nD) → Buf (Elt Ideal) ((c.tc : Thread Cert.NormDxIdeal.nD Cert.NormDxIdeal.τ).loc Cert.NormDxIdeal.main_v10_1)),
      θ_run (Cert.NormDxIdeal.defs (F := Ideal)) (onTc (τ := Cert.NormDxIdeal.τ) (Cert.NormDxIdeal.main (F := Ideal))) ⟨m, fun _ => 0, g⟩ (fun r => ∀ c : Dev Cert.NormDxIdeal.nD,
          r.2.mem ((c.tc : Thread Cert.NormDxIdeal.nD Cert.NormDxIdeal.τ).loc Cert.NormDxIdeal.main_v10_0) = v0 c
          ∧ r.2.mem ((c.tc : Thread Cert.NormDxIdeal.nD Cert.NormDxIdeal.τ).loc Cert.NormDxIdeal.main_v10_1) = v1 c
          ∧ r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
          ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
          ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
          ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3)
          ∧ r.2.mem ((c.tc : Thread Cert.NormDxIdeal.nD Cert.NormDxIdeal.τ).loc Cert.NormDxIdeal.main_arg4) = m ((c.tc : Thread Cert.NormDxIdeal.nD Cert.NormDxIdeal.τ).loc Cert.NormDxIdeal.main_arg4))
      ∧ θ_run (Cert.NormDxRefIdeal.defs (F := Ideal)) (onTc (τ := Cert.NormDxRefIdeal.τ) (Cert.NormDxRefIdeal.main (F := Ideal))) ⟨m', fun _ => 0, g'⟩ (fun r => ∀ c : Dev Cert.NormDxRefIdeal.nD,
          r.2.mem ((c.tc : Thread Cert.NormDxRefIdeal.nD Cert.NormDxRefIdeal.τ).loc Cert.NormDxRefIdeal.main_v38) = v0 c
          ∧ r.2.mem ((c.tc : Thread Cert.NormDxRefIdeal.nD Cert.NormDxRefIdeal.τ).loc Cert.NormDxRefIdeal.main_v39) = v1 c
          ∧ r.2.mem ((c.tc : Thread Cert.NormDxRefIdeal.nD Cert.NormDxRefIdeal.τ).loc Cert.NormDxRefIdeal.main_arg0) = m' ((c.tc : Thread Cert.NormDxRefIdeal.nD Cert.NormDxRefIdeal.τ).loc Cert.NormDxRefIdeal.main_arg0)
          ∧ r.2.mem ((c.tc : Thread Cert.NormDxRefIdeal.nD Cert.NormDxRefIdeal.τ).loc Cert.NormDxRefIdeal.main_arg1) = m' ((c.tc : Thread Cert.NormDxRefIdeal.nD Cert.NormDxRefIdeal.τ).loc Cert.NormDxRefIdeal.main_arg1)
          ∧ r.2.mem ((c.tc : Thread Cert.NormDxRefIdeal.nD Cert.NormDxRefIdeal.τ).loc Cert.NormDxRefIdeal.main_arg2) = m' ((c.tc : Thread Cert.NormDxRefIdeal.nD Cert.NormDxRefIdeal.τ).loc Cert.NormDxRefIdeal.main_arg2)
          ∧ r.2.mem ((c.tc : Thread Cert.NormDxRefIdeal.nD Cert.NormDxRefIdeal.τ).loc Cert.NormDxRefIdeal.main_arg3) = m' ((c.tc : Thread Cert.NormDxRefIdeal.nD Cert.NormDxRefIdeal.τ).loc Cert.NormDxRefIdeal.main_arg3)
          ∧ r.2.mem ((c.tc : Thread Cert.NormDxRefIdeal.nD Cert.NormDxRefIdeal.τ).loc Cert.NormDxRefIdeal.main_arg4) = m' ((c.tc : Thread Cert.NormDxRefIdeal.nD Cert.NormDxRefIdeal.τ).loc Cert.NormDxRefIdeal.main_arg4))

def preserves_Pack_PackIdeal : Prop :=
  True

def algebraic_PackIdeal_PackRefIdeal_pre_pack_small_finite [hPackIdeal : Cert.PackIdeal.Facts] [hPackRefIdeal : Cert.PackRefIdeal.Facts] [hPre_pack_small_finite : Cert.Pre_pack_small_finite.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal_pack_small_finite m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)
      ∧ m' ((c.tc : Thread Cert.PackRefIdeal.nD Cert.PackRefIdeal.τ).loc Cert.PackRefIdeal.main_arg3) = m ((c.tc : Thread Cert.PackIdeal.nD Cert.PackIdeal.τ).loc Cert.PackIdeal.main_arg3)) →
    ∃ (v0 : (c : Dev Cert.PackIdeal.nD) → Buf (Elt Ideal) ((c.tc : Thread Cert.PackIdeal.nD Cert.PackIdeal.τ).loc Cert.PackIdeal.main_v24)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v24) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m ((c.tc : Thread Cert.PackIdeal.nD Cert.PackIdeal.τ).loc Cert.PackIdeal.main_arg3))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v32) = v0 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3))

def preserves_AttnBwd_AttnBwdIdeal : Prop :=
  True

def preserves_InProj_InProjIdeal : Prop :=
  True

def algebraic_InProjIdeal_InProjRefIdeal_pre_norm_inproj_finite [hInProjIdeal : Cert.InProjIdeal.Facts] [hInProjRefIdeal : Cert.InProjRefIdeal.Facts] [hPre_norm_inproj_finite : Cert.Pre_norm_inproj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_norm_inproj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)) (v2 : (c : Dev Cert.InProjIdeal.nD) → Buf (Elt Ideal) ((c.tc : Thread Cert.InProjIdeal.nD Cert.InProjIdeal.τ).loc Cert.InProjIdeal.main_v5_2)) (v3 : (c : Dev Cert.InProjIdeal.nD) → Buf (Elt Ideal) ((c.tc : Thread Cert.InProjIdeal.nD Cert.InProjIdeal.τ).loc Cert.InProjIdeal.main_v5_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_v5_2) = v2 c
          ∧ r.2.mem ((c.tc : Thread Cert.InProjIdeal.nD Cert.InProjIdeal.τ).loc Cert.InProjIdeal.main_v5_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v113) = v0 c
          ∧ r.2.mem ((c.tc : Thread Cert.InProjRefIdeal.nD Cert.InProjRefIdeal.τ).loc Cert.InProjRefIdeal.main_v115) = v1 c
          ∧ r.2.mem ((c.tc : Thread Cert.InProjRefIdeal.nD Cert.InProjRefIdeal.τ).loc Cert.InProjRefIdeal.main_v116) = v2 c
          ∧ r.2.mem ((c.tc : Thread Cert.InProjRefIdeal.nD Cert.InProjRefIdeal.τ).loc Cert.InProjRefIdeal.main_v117) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_AttnFwd_AttnFwdIdeal : Prop :=
  True

def Claim : Prop :=
  ∃ (hOutLoss : Cert.OutLoss.Facts) (hOutLossIdeal : Cert.OutLossIdeal.Facts) (hOutLossRefIdeal : Cert.OutLossRefIdeal.Facts) (hPoolDw : Cert.PoolDw.Facts) (hPoolDwIdeal : Cert.PoolDwIdeal.Facts) (hPoolDwRefIdeal : Cert.PoolDwRefIdeal.Facts) (hNormDx : Cert.NormDx.Facts) (hNormDxIdeal : Cert.NormDxIdeal.Facts) (hNormDxRefIdeal : Cert.NormDxRefIdeal.Facts) (hPack : Cert.Pack.Facts) (hPackIdeal : Cert.PackIdeal.Facts) (hPackRefIdeal : Cert.PackRefIdeal.Facts) (hAttnBwd : Cert.AttnBwd.Facts) (hAttnBwdIdeal : Cert.AttnBwdIdeal.Facts) (hAttnBwdRefIdeal : Cert.AttnBwdRefIdeal.Facts) (hInProj : Cert.InProj.Facts) (hInProjIdeal : Cert.InProjIdeal.Facts) (hInProjRefIdeal : Cert.InProjRefIdeal.Facts) (hAttnFwd : Cert.AttnFwd.Facts) (hAttnFwdIdeal : Cert.AttnFwdIdeal.Facts) (hAttnFwdRefIdeal : Cert.AttnFwdRefIdeal.Facts) (hPre_out_loss_finite : Cert.Pre_out_loss_finite.Facts) (hPre_pool_dw_finite : Cert.Pre_pool_dw_finite.Facts) (hPre_pack_small_finite : Cert.Pre_pack_small_finite.Facts) (hPre_norm_inproj_finite : Cert.Pre_norm_inproj_finite.Facts),
    quiescent_OutLoss (hOutLoss := hOutLoss)
    ∧ quiescent_OutLossIdeal (hOutLossIdeal := hOutLossIdeal)
    ∧ quiescent_OutLossIdeal_pre_out_loss_finite (hOutLossIdeal := hOutLossIdeal) (hPre_out_loss_finite := hPre_out_loss_finite)
    ∧ quiescent_OutLossRefIdeal (hOutLossRefIdeal := hOutLossRefIdeal)
    ∧ quiescent_OutLossRefIdeal_pre_out_loss_finite (hOutLossRefIdeal := hOutLossRefIdeal) (hPre_out_loss_finite := hPre_out_loss_finite)
    ∧ quiescent_PoolDw (hPoolDw := hPoolDw)
    ∧ quiescent_PoolDwIdeal (hPoolDwIdeal := hPoolDwIdeal)
    ∧ quiescent_PoolDwIdeal_pre_pool_dw_finite (hPoolDwIdeal := hPoolDwIdeal) (hPre_pool_dw_finite := hPre_pool_dw_finite)
    ∧ quiescent_PoolDwRefIdeal (hPoolDwRefIdeal := hPoolDwRefIdeal)
    ∧ quiescent_PoolDwRefIdeal_pre_pool_dw_finite (hPoolDwRefIdeal := hPoolDwRefIdeal) (hPre_pool_dw_finite := hPre_pool_dw_finite)
    ∧ quiescent_NormDx (hNormDx := hNormDx)
    ∧ quiescent_NormDxIdeal (hNormDxIdeal := hNormDxIdeal)
    ∧ quiescent_NormDxRefIdeal (hNormDxRefIdeal := hNormDxRefIdeal)
    ∧ quiescent_Pack (hPack := hPack)
    ∧ quiescent_PackIdeal (hPackIdeal := hPackIdeal)
    ∧ quiescent_PackIdeal_pre_pack_small_finite (hPackIdeal := hPackIdeal) (hPre_pack_small_finite := hPre_pack_small_finite)
    ∧ quiescent_PackRefIdeal (hPackRefIdeal := hPackRefIdeal)
    ∧ quiescent_PackRefIdeal_pre_pack_small_finite (hPackRefIdeal := hPackRefIdeal) (hPre_pack_small_finite := hPre_pack_small_finite)
    ∧ quiescent_AttnBwd (hAttnBwd := hAttnBwd)
    ∧ quiescent_AttnBwdIdeal (hAttnBwdIdeal := hAttnBwdIdeal)
    ∧ quiescent_AttnBwdRefIdeal (hAttnBwdRefIdeal := hAttnBwdRefIdeal)
    ∧ quiescent_InProj (hInProj := hInProj)
    ∧ quiescent_InProjIdeal (hInProjIdeal := hInProjIdeal)
    ∧ quiescent_InProjIdeal_pre_norm_inproj_finite (hInProjIdeal := hInProjIdeal) (hPre_norm_inproj_finite := hPre_norm_inproj_finite)
    ∧ quiescent_InProjRefIdeal (hInProjRefIdeal := hInProjRefIdeal)
    ∧ quiescent_InProjRefIdeal_pre_norm_inproj_finite (hInProjRefIdeal := hInProjRefIdeal) (hPre_norm_inproj_finite := hPre_norm_inproj_finite)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ preserves_OutLoss_OutLossIdeal
    ∧ algebraic_OutLossIdeal_OutLossRefIdeal_pre_out_loss_finite (hOutLossIdeal := hOutLossIdeal) (hOutLossRefIdeal := hOutLossRefIdeal) (hPre_out_loss_finite := hPre_out_loss_finite)
    ∧ preserves_PoolDw_PoolDwIdeal
    ∧ algebraic_PoolDwIdeal_PoolDwRefIdeal_pre_pool_dw_finite (hPoolDwIdeal := hPoolDwIdeal) (hPoolDwRefIdeal := hPoolDwRefIdeal) (hPre_pool_dw_finite := hPre_pool_dw_finite)
    ∧ preserves_NormDx_NormDxIdeal
    ∧ algebraic_NormDxIdeal_NormDxRefIdeal (hNormDxIdeal := hNormDxIdeal) (hNormDxRefIdeal := hNormDxRefIdeal)
    ∧ preserves_Pack_PackIdeal
    ∧ algebraic_PackIdeal_PackRefIdeal_pre_pack_small_finite (hPackIdeal := hPackIdeal) (hPackRefIdeal := hPackRefIdeal) (hPre_pack_small_finite := hPre_pack_small_finite)
    ∧ preserves_AttnBwd_AttnBwdIdeal
    ∧ preserves_InProj_InProjIdeal
    ∧ algebraic_InProjIdeal_InProjRefIdeal_pre_norm_inproj_finite (hInProjIdeal := hInProjIdeal) (hInProjRefIdeal := hInProjRefIdeal) (hPre_norm_inproj_finite := hPre_norm_inproj_finite)
    ∧ preserves_AttnFwd_AttnFwdIdeal
-- ==== Pre_norm_inproj_finite.lean ====
abbrev S8192x1024 : Shape := ⟨2, ![8192, 1024]⟩
abbrev S1024 : Shape := ⟨1, ![1024]⟩
abbrev S1024x3072 : Shape := ⟨2, ![1024, 3072]⟩
abbrev S4x128x128 : Shape := ⟨3, ![4, 128, 128]⟩
abbrev S512 : Shape := ⟨1, ![512]⟩
abbrev S_ : Shape := ⟨0, ![]⟩
abbrev S1024x512 : Shape := ⟨2, ![1024, 512]⟩

class Facts : Prop where
  bcast_S_S1024 : S_.BroadcastsInDim S1024 (![] : Fin 0 → Fin S1024.rank)
  reducesTo_S1024_S_d0 : S1024.ReducesTo [0] S_
  h_S_ : 0 < S_.numel
  slices_S1024x3072_S1024x512_0_0 : S1024x3072.Slices ![0, 0] S1024x512
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S8192x1024 .f32) (main_arg1 : FVec F S1024 .f32) (main_arg2 : FVec F S1024x3072 .f32) (main_arg3 : FVec F S4x128x128 .f32) (main_arg4 : FVec F S512 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x512 .f32 := (extractStridedSlice S1024x512 ![0, 0] · slices_S1024x3072_S1024x512_0_0) main_arg2
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  let main_c_1 : IVec S_ 1 := constantI S_ 1 1#1
  let main_v8 : IVec S_ 1 := (fun x v => Host.reduce IntOp.andi x v reducesTo_S1024x512_S_d0_1 h_S_) main_v7 main_c_1
  let main_v9 : IVec S_ 1 := andi main_v3 main_v8
  main_v9
-- ==== Pre_out_loss_finite.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S8192x1024 .f32) (main_arg2 : FVec F S8192x512 .f32) (main_arg3 : FVec F S8192x512 .f32) (main_arg4 : FVec F S8192x512 .f32) (main_arg5 : FVec F S1024x1024 .f32) (main_arg6 : FVec F S1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg6
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_pack_small_finite.lean ====
abbrev S8x4x64x576 : Shape := ⟨4, ![8, 4, 64, 576]⟩
abbrev S1x1024 : Shape := ⟨2, ![1, 1024]⟩
abbrev S1x512 : Shape := ⟨2, ![1, 512]⟩
abbrev S8x128 : Shape := ⟨2, ![8, 128]⟩
abbrev S_ : Shape := ⟨0, ![]⟩

class Facts : Prop where
  bcast_S_S8x4x64x576 : S_.BroadcastsInDim S8x4x64x576 (![] : Fin 0 → Fin S8x4x64x576.rank)
  reducesTo_S8x4x64x576_S_d0_1_2_3 : S8x4x64x576.ReducesTo [0, 1, 2, 3] S_
  h_S_ : 0 < S_.numel

variable [Facts]

def fn {F : FTy → Type} [FloatOps F] (main_arg0 : FVec F S8x4x64x576 .f32) (main_arg1 : FVec F S1x1024 .f32) (main_arg2 : FVec F S1x512 .f32) (main_arg3 : FVec F S8x128 .f32) : IVec S_ 1 :=
  let main_v0 : FVec F S8x4x64x576 .f32 := Host.absf main_arg0
  let main_cst : FVec F S_ .f32 := constant S_ .f32 0x7F800000#32
  let main_v1 : FVec F S8x4x64x576 .f32 := broadcastInDim S8x4x64x576 ![] bcast_S_S8x4x64x576 main_cst
  let main_v2 : IVec S8x4x64x576 1 := cmpf .olt main_v0 main_v1
  let main_c : IVec S_ 1 := constantI S_ 1 1#1
  let main_v3 : IVec S_ 1 := (fun x v => Host.reduce IntOp.andi x v reducesTo_S8x4x64x576_S_d0_1_2_3 h_S_) main_v2 main_c
  main_v3
-- ==== Pre_pool_dw_finite.lean ====
abbrev S8192x1024 : Shape := ⟨2, ![8192, 1024]⟩
abbrev S1024 : Shape := ⟨1, ![1024]⟩
abbrev S1024x3072 : Shape := ⟨2, ![1024, 3072]⟩
abbrev S4x128x128 : Shape := ⟨3, ![4, 128, 128]⟩
abbrev S512 : Shape := ⟨1, ![512]⟩
abbrev S8192x512 : Shape := ⟨2, ![8192, 512]⟩
abbrev S_ : Shape := ⟨0, ![]⟩
abbrev S1024x1024 : Shape := ⟨2, ![1024, 1024]⟩

class Facts : Prop where
  bcast_S_S1024 : S_.BroadcastsInDim S1024 (![] : Fin 0 → Fin S1024.rank)
  reducesTo_S1024_S_d0 : S1024.ReducesTo [0] S_
  h_S_ : 0 < S_.numel
  slices_S1024x3072_S1024x1024_0_0 : S1024x3072.Slices ![0, 0] S1024x1024
  bcast_S_S1024x1024 : S_.BroadcastsInDim S1024x1024 (![] : Fin 0 → Fin S1024x1024.rank)
  reducesTo_S1024x1024_S_d0_1 : S1024x1024.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg5 : FVec F S8192x512 .f32) (main_v14 : IVec S_ 1) (main_v15 : FVec F S512 .f32) (main_v16 : FVec F S512 .f32) : IVec S_ 1 :=
  let main_v17 : IVec S512 1 := cmpf .olt main_v15 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v14 main_v18
  let main_v20 : FVec F S8192x512 .f32 := Host.absf main_arg5
  let main_cst_6 : FVec F S_ .f32 := constant S_ .f32 0x7F800000#32
  let main_v21 : FVec F S8192x512 .f32 := broadcastInDim S8192x512 ![] bcast_S_S8192x512 main_cst_6
  let main_v22 : IVec S8192x512 1 := cmpf .olt main_v20 main_v21
  let main_c_7 : IVec S_ 1 := constantI S_ 1 1#1
  let main_v23 : IVec S_ 1 := (fun x v => Host.reduce IntOp.andi x v reducesTo_S8192x512_S_d0_1 h_S_) main_v22 main_c_7
  let main_v24 : IVec S_ 1 := andi main_v19 main_v23
  main_v24

def fn {F : FTy → Type} [FloatOps F] (main_arg0 : FVec F S8192x1024 .f32) (main_arg1 : FVec F S1024 .f32) (main_arg2 : FVec F S1024x3072 .f32) (main_arg3 : FVec F S4x128x128 .f32) (main_arg4 : FVec F S512 .f32) (main_arg5 : FVec F S8192x512 .f32) (main_arg6 : FVec F S8192x512 .f32) (main_arg7 : FVec F S8192x512 .f32) (main_arg8 : FVec F S8192x512 .f32) (main_arg9 : FVec F S8192x512 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := (extractStridedSlice S1024x1024 ![0, 0] · slices_S1024x3072_S1024x1024_0_0) main_arg2
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S4x128x128 .f32 := Host.absf main_arg3
  let main_cst_2 : FVec F S_ .f32 := constant S_ .f32 0x7F800000#32
  let main_v11 : FVec F S4x128x128 .f32 := broadcastInDim S4x128x128 ![] bcast_S_S4x128x128 main_cst_2
  let main_v12 : IVec S4x128x128 1 := cmpf .olt main_v10 main_v11
  let main_c_3 : IVec S_ 1 := constantI S_ 1 1#1
  let main_v13 : IVec S_ 1 := (fun x v => Host.reduce IntOp.andi x v reducesTo_S4x128x128_S_d0_1_2 h_S_) main_v12 main_c_3
  let main_v14 : IVec S_ 1 := andi main_v9 main_v13
  let main_v15 : FVec F S512 .f32 := Host.absf main_arg4
  let main_cst_4 : FVec F S_ .f32 := constant S_ .f32 0x7F800000#32
  let main_v16 : FVec F S512 .f32 := broadcastInDim S512 ![] bcast_S_S512 main_cst_4
  fn_part1 (F := F) main_arg5 main_v14 main_v15 main_v16
-- ==== OutLoss.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S8x128x1024 : Shape := ⟨3, ![8, 128, 1024]⟩
abbrev S1x1024 : Shape := ⟨2, ![1, 1024]⟩
abbrev S8x128 : Shape := ⟨2, ![8, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 19
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S8x128x1024, .bf16⟩
  | .hbm, ⟨9, _⟩ => ⟨S8192x512, .bf16⟩
  | .hbm, ⟨10, _⟩ => ⟨S8192x512, .bf16⟩
  | .hbm, ⟨11, _⟩ => ⟨S1x1024, .f32⟩
  | .hbm, ⟨12, _⟩ => ⟨S8192x1024, .f32⟩
  | .hbm, ⟨13, _⟩ => ⟨S8192x512, .bf16⟩
  | .hbm, ⟨14, _⟩ => ⟨S8192x512, .bf16⟩
  | .hbm, ⟨15, _⟩ => ⟨S8192x512, .bf16⟩
  | .hbm, ⟨16, _⟩ => ⟨S8x128x1024, .bf16⟩
  | .hbm, ⟨17, _⟩ => ⟨S1x1024, .f32⟩
  | .hbm, ⟨18, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S8x128x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S8x128x1024, .bf16⟩
  | .local _ .vmem, ⟨21, _⟩ => ⟨S1x1024, .f32⟩
  | .local _ .vmem, ⟨22, _⟩ => ⟨S8x128, .f32⟩
  | .local _ .vmem, ⟨23, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v101 : BitVec 1 := Scalar.cmpi .eq arg0 c15_i32
  let v102 : BitVec 32 := Scalar.extui v101
  let c0_i32_52 : BitVec 32 := 0#32
  let v103 : BitVec 1 := Scalar.cmpi .ne v102 c0_i32_52
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutLossRefIdeal.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128x1024 : Shape := ⟨3, ![8, 128, 1024]⟩
abbrev S8x128 : Shape := ⟨2, ![8, 128]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x1024, .f32⟩
  | .hbm, ⟨6, _⟩ => ⟨S1024, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S1024x1024, .f32⟩
  | .hbm, ⟨93, _⟩ => ⟨S1024x1024, .f32⟩
  | .hbm, ⟨94, _⟩ => ⟨S8192x1024, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S8192x512, .f32⟩
  | .hbm, ⟨103, _⟩ => ⟨S8192x512, .bf16⟩
  | .hbm, ⟨104, _⟩ => ⟨S8192x512, .bf16⟩
  | .hbm, ⟨105, _⟩ => ⟨S8192x512, .bf16⟩
  | .hbm, ⟨106, _⟩ => ⟨S8x128x1024, .f32⟩
  | .hbm, ⟨107, _⟩ => ⟨S8x128x1024, .bf16⟩
  | .hbm, ⟨108, _⟩ => ⟨S1x1024, .f32⟩
  | .hbm, ⟨109, _⟩ => ⟨S_, .f32⟩
  | .hbm, ⟨110, _⟩ => ⟨S_, .f32⟩
  | .hbm, ⟨111, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_cst_8 : Ref sig .tc := ⟨.hbm, 58, rfl⟩
abbrev main_cst_9 : Ref sig .tc := ⟨.hbm, 59, rfl⟩
abbrev main_v30 : Ref sig .tc := ⟨.hbm, 60, rfl⟩
abbrev main_v31 : Ref sig .tc := ⟨.hbm, 61, rfl⟩
abbrev main_cst_10 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_11 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_12 : Ref sig .tc := ⟨.hbm, 73, rfl⟩
abbrev main_v41 : Ref sig .tc := ⟨.hbm, 74, rfl⟩
abbrev main_v42 : Ref sig .tc := ⟨.hbm, 75, rfl⟩
abbrev main_cst_13 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_14 : Ref sig .tc := ⟨.hbm, 82, rfl⟩
abbrev main_v48 : Ref sig .tc := ⟨.hbm, 83, rfl⟩
abbrev main_v49 : Ref sig .tc := ⟨.hbm, 84, rfl⟩
abbrev main_cst_15 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_16 : Ref sig .tc := ⟨.hbm, 109, rfl⟩
abbrev main_v70 : Ref sig .tc := ⟨.hbm, 110, rfl⟩
abbrev main_v71 : Ref sig .tc := ⟨.hbm, 111, rfl⟩

abbrev nD : Nat := 1
abbrev τ : Topo := Topo.v7x

variable {F : FTy → Type} [FloatOps F]
-- ==== PoolDw.lean ====
abbrev S8192x1024 : Shape := ⟨2, ![8192, 1024]⟩
abbrev S1024 : Shape := ⟨1, ![1024]⟩
abbrev S1024x3072 : Shape := ⟨2, ![1024, 3072]⟩
abbrev S4x128x128 : Shape := ⟨3, ![4, 128, 128]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩
abbrev S1x512 : Shape := ⟨2, ![1, 512]⟩
abbrev S8x1024x384 : Shape := ⟨3, ![8, 1024, 384]⟩
abbrev S512x1024 : Shape := ⟨2, ![512, 1024]⟩
abbrev S16x512 : Shape := ⟨2, ![16, 512]⟩
abbrev S512x512 : Shape := ⟨2, ![512, 512]⟩
abbrev S512x1 : Shape := ⟨2, ![512, 1]⟩
abbrev S1024x256 : Shape := ⟨2, ![1024, 256]⟩
abbrev S512x256 : Shape := ⟨2, ![512, 256]⟩
abbrev S1x128x128 : Shape := ⟨3, ![1, 128, 128]⟩
abbrev S128x128 : Shape := ⟨2, ![128, 128]⟩
abbrev S1x128 : Shape := ⟨2, ![1, 128]⟩
abbrev S512x128 : Shape := ⟨2, ![512, 128]⟩
abbrev S16x128 : Shape := ⟨2, ![16, 128]⟩
abbrev S528x128 : Shape := ⟨2, ![528, 128]⟩
abbrev S528x1 : Shape := ⟨2, ![528, 1]⟩
abbrev S128 : Shape := ⟨1, ![128]⟩
abbrev S1024x512 : Shape := ⟨2, ![1024, 512]⟩
abbrev S1024x384 : Shape := ⟨2, ![1024, 384]⟩
abbrev S1x1024x384 : Shape := ⟨3, ![1, 1024, 384]⟩

abbrev nBuf : Space → Nat
  | .hbm => 39
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S4x128x128, .f32⟩
  | .hbm, ⟨4, _⟩ => ⟨S512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1024, .f32⟩
  | .hbm, ⟨27, _⟩ => ⟨S8192x1024, .f32⟩
  | .hbm, ⟨28, _⟩ => ⟨S8192x512, .bf16⟩
  | .hbm, ⟨29, _⟩ => ⟨S8192x512, .bf16⟩
  | .hbm, ⟨30, _⟩ => ⟨S8192x512, .bf16⟩
  | .hbm, ⟨31, _⟩ => ⟨S8192x512, .bf16⟩
  | .hbm, ⟨32, _⟩ => ⟨S8192x512, .bf16⟩
  | .hbm, ⟨33, _⟩ => ⟨S1x1024, .f32⟩
  | .hbm, ⟨34, _⟩ => ⟨S1x512, .f32⟩
  | .hbm, ⟨35, _⟩ => ⟨S8x1024x384, .bf16⟩
  | .hbm, ⟨36, _⟩ => ⟨S8192x1024, .bf16⟩
  | .hbm, ⟨37, _⟩ => ⟨S4x128x128, .f32⟩
  | .hbm, ⟨38, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1x1024, .f32⟩
  | .local _ .vmem, ⟨21, _⟩ => ⟨S4x128x128, .f32⟩
  | .local _ .vmem, ⟨22, _⟩ => ⟨S1x512, .f32⟩
  | .local _ .vmem, ⟨23, _⟩ => ⟨S8x1024x384, .bf16⟩
  | .local _ .vmem, ⟨24, _⟩ => ⟨S512x1024, .bf16⟩
  | .local _ .vmem, ⟨25, _⟩ => ⟨S512x1024, .bf16⟩
  | .local _ .vmem, ⟨26, _⟩ => ⟨S4x128x128, .f32⟩
  | .local _ .vmem, ⟨27, _⟩ => ⟨S1x512, .f32⟩
  | .local _ .vmem, ⟨28, _⟩ => ⟨S1024x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_279 : BitVec 32 := 15#32
  let v595 : BitVec 1 := Scalar.cmpi .eq arg0 c15_i32_279
  let v596 : BitVec 32 := Scalar.extui v595
  let c0_i32_280 : BitVec 32 := 0#32
  let v597 : BitVec 1 := Scalar.cmpi .ne v596 c0_i32_280
  v597

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024x384 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== PoolDwRefIdeal.lean ====
abbrev S8192x1024 : Shape := ⟨2, ![8192, 1024]⟩
abbrev S1024 : Shape := ⟨1, ![1024]⟩
abbrev S1024x3072 : Shape := ⟨2, ![1024, 3072]⟩
abbrev S4x128x128 : Shape := ⟨3, ![4, 128, 128]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S1x8192x512 : Shape := ⟨3, ![1, 8192, 512]⟩
abbrev S1x1x512 : Shape := ⟨3, ![1, 1, 512]⟩
abbrev S1x8193x512 : Shape := ⟨3, ![1, 8193, 512]⟩
abbrev S1x8193x128 : Shape := ⟨3, ![1, 8193, 128]⟩
abbrev S1x8192x128 : Shape := ⟨3, ![1, 8192, 128]⟩
abbrev S1 : Shape := ⟨1, ![1]⟩
abbrev S1x1 : Shape := ⟨2, ![1, 1]⟩
abbrev S1x8192x1 : Shape := ⟨3, ![1, 8192, 1]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S8192x2048 : Shape := ⟨2, ![8192, 2048]⟩
abbrev S1x512 : Shape := ⟨2, ![1, 512]⟩
abbrev S4x1x8192x128 : Shape := ⟨4, ![4, 1, 8192, 128]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 366
  | .vmem => 0
  | .smem => 0
  | _ => 0

abbrev hbmTy0_0 (i : Nat) : BufTy := match i % 128 with
  | 0 => ⟨S8192x1024, .f32⟩
  | 1 => ⟨S1024, .f32⟩
  | 2 => ⟨S1024x3072, .f32⟩
  | 3 => ⟨S4x128x128, .f32⟩
  | 4 => ⟨S512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x3072, .f32⟩
  | 27 => ⟨S8192x512, .f32⟩
  | 28 => ⟨S1x8192x512, .f32⟩
  | 29 => ⟨S8192x512, .f32⟩
  | 30 => ⟨S1x8192x512, .f32⟩
  | 31 => ⟨S1x1x512, .f32⟩
  | 32 => ⟨S_, .f32⟩
  | 33 => ⟨S1x1x512, .f32⟩
  | 34 => ⟨S_, .f32⟩
  | 35 => ⟨S_, .f32⟩
  | 36 => ⟨S1x8192x512, .f32⟩
  | 37 => ⟨S1x8193x512, .f32⟩
  | 38 => ⟨S_, .f32⟩
  | 39 => ⟨S1x1x512, .f32⟩
  | 40 => ⟨S8192, .i32⟩
  | 41 => ⟨S1x8193x128, .f32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S1x8192x128, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S1, .i32⟩
  | 61 => ⟨S_, .i32⟩
  | 62 => ⟨S8192x1, .i32⟩
  | 63 => ⟨S8192x1, .i1⟩
  | 64 => ⟨S1x1, .i32⟩
  | 65 => ⟨S8192x1, .i32⟩
  | 66 => ⟨S8192x1, .i1⟩
  | 67 => ⟨S8192x1, .i1⟩
  | 68 => ⟨S_, .i1⟩
  | 69 => ⟨S8192, .i1⟩
  | 70 => ⟨S1x8192x128, .f32⟩
  | 71 => ⟨S1x8192x128, .i1⟩
  | 72 => ⟨S_, .f32⟩
  | 73 => ⟨S1x8192x128, .f32⟩
  | 74 => ⟨S1x8192x128, .f32⟩
  | 75 => ⟨S1x8192x128, .f32⟩
  | 76 => ⟨S_, .i32⟩
  | 77 => ⟨S8192, .i32⟩
  | 78 => ⟨S8192, .i32⟩
  | 79 => ⟨S8192, .i32⟩
  | 80 => ⟨S8192, .f32⟩
  | 81 => ⟨S1x8192x1, .f32⟩
  | 82 => ⟨S1x8192x128, .f32⟩
  | 83 => ⟨S1x8192x128, .f32⟩
  | 84 => ⟨S1x8192x128, .f32⟩
  | 85 => ⟨S1x8192x128, .f32⟩
  | 86 => ⟨S1x8193x128, .f32⟩
  | 87 => ⟨S_, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S1x8192x128, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S1, .i32⟩
  | 106 => ⟨S_, .i32⟩
  | 107 => ⟨S8192x1, .i32⟩
  | 108 => ⟨S8192x1, .i1⟩
  | 109 => ⟨S1x1, .i32⟩
  | 110 => ⟨S8192x1, .i32⟩
  | 111 => ⟨S8192x1, .i1⟩
  | 112 => ⟨S8192x1, .i1⟩
  | 113 => ⟨S_, .i1⟩
  | 114 => ⟨S8192, .i1⟩
  | 115 => ⟨S1x8192x128, .f32⟩
  | 116 => ⟨S1x8192x128, .i1⟩
  | 117 => ⟨S_, .f32⟩
  | 118 => ⟨S1x8192x128, .f32⟩
  | 119 => ⟨S1x8192x128, .f32⟩
  | 120 => ⟨S1x8192x128, .f32⟩
  | 121 => ⟨S_, .i32⟩
  | 122 => ⟨S8192, .i32⟩
  | 123 => ⟨S8192, .i32⟩
  | 124 => ⟨S8192, .i32⟩
  | 125 => ⟨S8192, .f32⟩
  | 126 => ⟨S1x8192x1, .f32⟩
  | 127 => ⟨S1x8192x128, .f32⟩
  | _ => ⟨S8192x1024, .f32⟩

abbrev hbmTy0_1 (i : Nat) : BufTy := match i % 128 with
  | 0 => ⟨S1x8192x128, .f32⟩
  | 1 => ⟨S1x8192x128, .f32⟩
  | 2 => ⟨S1x8192x128, .f32⟩
  | 3 => ⟨S1x8193x128, .f32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S_, .i32⟩
  | 11 => ⟨S8192, .i32⟩
  | 12 => ⟨S8192, .i32⟩
  | 13 => ⟨S1x8192x128, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S1, .i32⟩
  | 23 => ⟨S_, .i32⟩
  | 24 => ⟨S8192x1, .i32⟩
  | 25 => ⟨S8192x1, .i1⟩
  | 26 => ⟨S1x1, .i32⟩
  | 27 => ⟨S8192x1, .i32⟩
  | 28 => ⟨S8192x1, .i1⟩
  | 29 => ⟨S8192x1, .i1⟩
  | 30 => ⟨S_, .i1⟩
  | 31 => ⟨S8192, .i1⟩
  | 32 => ⟨S1x8192x128, .f32⟩
  | 33 => ⟨S1x8192x128, .i1⟩
  | 34 => ⟨S_, .f32⟩
  | 35 => ⟨S1x8192x128, .f32⟩
  | 36 => ⟨S1x8192x128, .f32⟩
  | 37 => ⟨S1x8192x128, .f32⟩
  | 38 => ⟨S_, .i32⟩
  | 39 => ⟨S8192, .i32⟩
  | 40 => ⟨S8192, .i32⟩
  | 41 => ⟨S8192, .i32⟩
  | 42 => ⟨S8192, .f32⟩
  | 43 => ⟨S1x8192x1, .f32⟩
  | 44 => ⟨S1x8192x128, .f32⟩
  | 45 => ⟨S1x8192x128, .f32⟩
  | 46 => ⟨S1x8192x128, .f32⟩
  | 47 => ⟨S1x8192x128, .f32⟩
  | 48 => ⟨S1x8193x128, .f32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S1x8192x128, .f32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S8192x1, .i32⟩
  | 67 => ⟨S1, .i32⟩
  | 68 => ⟨S_, .i32⟩
  | 69 => ⟨S8192x1, .i32⟩
  | 70 => ⟨S8192x1, .i1⟩
  | 71 => ⟨S1x1, .i32⟩
  | 72 => ⟨S8192x1, .i32⟩
  | 73 => ⟨S8192x1, .i1⟩
  | 74 => ⟨S8192x1, .i1⟩
  | 75 => ⟨S_, .i1⟩
  | 76 => ⟨S8192, .i1⟩
  | 77 => ⟨S1x8192x128, .f32⟩
  | 78 => ⟨S1x8192x128, .i1⟩
  | 79 => ⟨S_, .f32⟩
  | 80 => ⟨S1x8192x128, .f32⟩
  | 81 => ⟨S1x8192x128, .f32⟩
  | 82 => ⟨S1x8192x128, .f32⟩
  | 83 => ⟨S_, .i32⟩
  | 84 => ⟨S8192, .i32⟩
  | 85 => ⟨S8192, .i32⟩
  | 86 => ⟨S8192, .i32⟩
  | 87 => ⟨S8192, .f32⟩
  | 88 => ⟨S1x8192x1, .f32⟩
  | 89 => ⟨S1x8192x128, .f32⟩
  | 90 => ⟨S1x8192x128, .f32⟩
  | 91 => ⟨S1x8192x128, .f32⟩
  | 92 => ⟨S1x8192x128, .f32⟩
  | 93 => ⟨S1x8192x1x128, .f32⟩
  | 94 => ⟨S1x8192x1x128, .f32⟩
  | 95 => ⟨S1x8192x1x128, .f32⟩
  | 96 => ⟨S1x8192x1x128, .f32⟩
  | 97 => ⟨S1x8192x4x128, .f32⟩
  | 98 => ⟨S4x128x1x8192, .f32⟩
  | 99 => ⟨S1x8192x4x128, .f32⟩
  | 100 => ⟨S1x8192x512, .f32⟩
  | 101 => ⟨S1x1x512, .f32⟩
  | 102 => ⟨S1x8192x512, .f32⟩
  | 103 => ⟨S1x8192x512, .f32⟩
  | 104 => ⟨S1x8192x512, .f32⟩
  | 105 => ⟨S1x8192x512, .f32⟩
  | 106 => ⟨S_, .f32⟩
  | 107 => ⟨S1x8192x512, .f32⟩
  | 108 => ⟨S1x8192x512, .f32⟩
  | 109 => ⟨S_, .f32⟩
  | 110 => ⟨S1x8192x512, .f32⟩
  | 111 => ⟨S1x8192x512, .f32⟩
  | 112 => ⟨S_, .f32⟩
  | 113 => ⟨S1x8192x512, .f32⟩
  | 114 => ⟨S1x8192x512, .f32⟩
  | 115 => ⟨S1x8192x512, .f32⟩
  | 116 => ⟨S1x8192x512, .f32⟩
  | 117 => ⟨S1x8192x512, .f32⟩
  | 118 => ⟨S8192x512, .f32⟩
  | 119 => ⟨S8192x2048, .f32⟩
  | 120 => ⟨S8192x2048, .f32⟩
  | 121 => ⟨S_, .f32⟩
  | 122 => ⟨S8192x3072, .f32⟩
  | 123 => ⟨S1x8192x512, .f32⟩
  | 124 => ⟨S1x8192x512, .f32⟩
  | 125 => ⟨S1x8192x512, .f32⟩
  | 126 => ⟨S1x8192x512, .f32⟩
  | 127 => ⟨S1x8192x512, .f32⟩
  | _ => ⟨S8192x1024, .f32⟩

abbrev hbmTy0_2 (i : Nat) : BufTy := match i % 128 with
  | 0 => ⟨S1x8192x512, .f32⟩
  | 1 => ⟨S1x8192x512, .f32⟩
  | 2 => ⟨S1x8192x512, .f32⟩
  | 3 => ⟨S_, .f32⟩
  | 4 => ⟨S1x512, .f32⟩
  | 5 => ⟨S1x1x512, .f32⟩
  | 6 => ⟨S1x8192x512, .f32⟩
  | 7 => ⟨S1x8192x512, .f32⟩
  | 8 => ⟨S_, .f32⟩
  | 9 => ⟨S512, .f32⟩
  | 10 => ⟨S1x8192x4x128, .f32⟩
  | 11 => ⟨S4x128x1x8192, .f32⟩
  | 12 => ⟨S4x1x8192x128, .f32⟩
  | 13 => ⟨S1x8192x4x128, .f32⟩
  | 14 => ⟨S4x128x128, .f32⟩
  | 15 => ⟨S4x128x128, .f32⟩
  | 16 => ⟨S1x8192x1x128, .f32⟩
  | 17 => ⟨S1x8192x128, .f32⟩
  | 18 => ⟨S1x8192x1x128, .f32⟩
  | 19 => ⟨S1x8192x128, .f32⟩
  | 20 => ⟨S1x8192x1x128, .f32⟩
  | 21 => ⟨S1x8192x128, .f32⟩
  | 22 => ⟨S1x8192x1x128, .f32⟩
  | 23 => ⟨S1x8192x128, .f32⟩
  | 24 => ⟨S1x8192x128, .f32⟩
  | 25 => ⟨S_, .f32⟩
  | 26 => ⟨S1x8192x512, .f32⟩
  | 27 => ⟨S1x8192x128, .f32⟩
  | 28 => ⟨S1x8192x128, .f32⟩
  | 29 => ⟨S1x8192x128, .f32⟩
  | 30 => ⟨S_, .f32⟩
  | 31 => ⟨S1x8193x128, .f32⟩
  | 32 => ⟨S1x8193x128, .f32⟩
  | 33 => ⟨S_, .f32⟩
  | 34 => ⟨S1x8193x128, .f32⟩
  | 35 => ⟨S1x8193x128, .f32⟩
  | 36 => ⟨S_, .f32⟩
  | 37 => ⟨S1x8193x512, .f32⟩
  | 38 => ⟨S1x8192x128, .f32⟩
  | 39 => ⟨S_, .f32⟩
  | 40 => ⟨S1x8192x512, .f32⟩
  | 41 => ⟨S1x8192x512, .f32⟩
  | 42 => ⟨S1x8192x128, .f32⟩
  | 43 => ⟨S1x8192x128, .f32⟩
  | 44 => ⟨S1x8192x128, .f32⟩
  | 45 => ⟨S_, .f32⟩
  | 46 => ⟨S1x8193x128, .f32⟩
  | 47 => ⟨S1x8193x128, .f32⟩
  | 48 => ⟨S_, .f32⟩
  | 49 => ⟨S1x8193x128, .f32⟩
  | 50 => ⟨S1x8193x128, .f32⟩
  | 51 => ⟨S_, .f32⟩
  | 52 => ⟨S1x8193x512, .f32⟩
  | 53 => ⟨S1x8193x512, .f32⟩
  | 54 => ⟨S1x8192x128, .f32⟩
  | 55 => ⟨S_, .f32⟩
  | 56 => ⟨S1x8192x512, .f32⟩
  | 57 => ⟨S1x8192x512, .f32⟩
  | 58 => ⟨S1x8192x128, .f32⟩
  | 59 => ⟨S1x8192x128, .f32⟩
  | 60 => ⟨S1x8192x128, .f32⟩
  | 61 => ⟨S_, .f32⟩
  | 62 => ⟨S1x8193x128, .f32⟩
  | 63 => ⟨S1x8193x128, .f32⟩
  | 64 => ⟨S_, .f32⟩
  | 65 => ⟨S1x8193x128, .f32⟩
  | 66 => ⟨S1x8193x128, .f32⟩
  | 67 => ⟨S_, .f32⟩
  | 68 => ⟨S1x8193x512, .f32⟩
  | 69 => ⟨S1x8193x512, .f32⟩
  | 70 => ⟨S1x8192x128, .f32⟩
  | 71 => ⟨S_, .f32⟩
  | 72 => ⟨S1x8192x512, .f32⟩
  | 73 => ⟨S1x8192x512, .f32⟩
  | 74 => ⟨S1x8192x128, .f32⟩
  | 75 => ⟨S1x8192x128, .f32⟩
  | 76 => ⟨S1x8192x128, .f32⟩
  | 77 => ⟨S_, .f32⟩
  | 78 => ⟨S1x8193x128, .f32⟩
  | 79 => ⟨S1x8193x128, .f32⟩
  | 80 => ⟨S_, .f32⟩
  | 81 => ⟨S1x8193x128, .f32⟩
  | 82 => ⟨S1x8193x128, .f32⟩
  | 83 => ⟨S_, .f32⟩
  | 84 => ⟨S1x8193x512, .f32⟩
  | 85 => ⟨S1x8193x512, .f32⟩
  | 86 => ⟨S1x1x512, .f32⟩
  | 87 => ⟨S1x8192x512, .f32⟩
  | 88 => ⟨S_, .f32⟩
  | 89 => ⟨S_, .f32⟩
  | 90 => ⟨S1x8192x512, .f32⟩
  | 91 => ⟨S1x8192x512, .f32⟩
  | 92 => ⟨S_, .f32⟩
  | 93 => ⟨S8192x512, .f32⟩
  | 94 => ⟨S_, .f32⟩
  | 95 => ⟨S8192x3072, .f32⟩
  | 96 => ⟨S8192x3072, .f32⟩
  | 97 => ⟨S_, .f32⟩
  | 98 => ⟨S8192x512, .f32⟩
  | 99 => ⟨S_, .f32⟩
  | 100 => ⟨S8192x3072, .f32⟩
  | 101 => ⟨S8192x3072, .f32⟩
  | 102 => ⟨S3072x1024, .f32⟩
  | 103 => ⟨S1024x3072, .f32⟩
  | 104 => ⟨S1024x8x384, .f32⟩
  | 105 => ⟨S8x1024x384, .f32⟩
  | 106 => ⟨S8x1024x384, .bf16⟩
  | 107 => ⟨S8192x1024, .f32⟩
  | 108 => ⟨S8192x1024, .bf16⟩
  | 109 => ⟨S1x512, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_call0_call0_cst : Ref sig .tc := ⟨.hbm, 34, rfl⟩
abbrev main_call0_call0_v0 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v32_1 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v32_0 : Ref sig .tc := ⟨.hbm, 74, rfl⟩
abbrev main_v33 : Ref sig .tc := ⟨.hbm, 75, rfl⟩
abbrev main_c_6 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_c_7 : Ref sig .tc := ⟨.hbm, 87, rfl⟩
abbrev main_v44 : Ref sig .tc := ⟨.hbm, 88, rfl⟩
abbrev main_v45 : Ref sig .tc := ⟨.hbm, 89, rfl⟩
abbrev main_c_8 : Ref sig .tc := ⟨.hbm, 90, rfl⟩
abbrev main_v46 : Ref sig .tc := ⟨.hbm, 91, rfl⟩
abbrev main_v47 : Ref sig .tc := ⟨.hbm, 92, rfl⟩
abbrev main_c_9 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v51_1 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v51_0 : Ref sig .tc := ⟨.hbm, 119, rfl⟩
abbrev main_v52 : Ref sig .tc := ⟨.hbm, 120, rfl⟩
abbrev main_c_10 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_c_11 : Ref sig .tc := ⟨.hbm, 132, rfl⟩
abbrev main_v63 : Ref sig .tc := ⟨.hbm, 133, rfl⟩
abbrev main_v64 : Ref sig .tc := ⟨.hbm, 134, rfl⟩
abbrev main_c_12 : Ref sig .tc := ⟨.hbm, 135, rfl⟩
abbrev main_v65 : Ref sig .tc := ⟨.hbm, 136, rfl⟩
abbrev main_v66 : Ref sig .tc := ⟨.hbm, 137, rfl⟩
abbrev main_c_13 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_call3_c : Ref sig .tc := ⟨.hbm, 142, rfl⟩
abbrev main_call3_v0 : Ref sig .tc := ⟨.hbm, 143, rfl⟩
abbrev main_call3_v1 : Ref sig .tc := ⟨.hbm, 144, rfl⟩
abbrev main_call3_c_0 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_v70_1 : Ref sig .tc := ⟨.hbm, 149, rfl⟩
abbrev main_call3_c_1 : Ref sig .tc := ⟨.hbm, 150, rfl⟩
abbrev main_call3_c_2 : Ref sig .tc := ⟨.hbm, 151, rfl⟩
abbrev main_call3_v6 : Ref sig .tc := ⟨.hbm, 152, rfl⟩
abbrev main_call3_v7 : Ref sig .tc := ⟨.hbm, 153, rfl⟩
abbrev main_call3_v8 : Ref sig .tc := ⟨.hbm, 154, rfl⟩
abbrev main_call3_v9 : Ref sig .tc := ⟨.hbm, 155, rfl⟩
abbrev main_call3_v10 : Ref sig .tc := ⟨.hbm, 156, rfl⟩
abbrev main_call3_v11 : Ref sig .tc := ⟨.hbm, 157, rfl⟩
abbrev main_call3_c_3 : Ref sig .tc := ⟨.hbm, 158, rfl⟩
abbrev main_call3_v12 : Ref sig .tc := ⟨.hbm, 159, rfl⟩
abbrev main_call3_v13 : Ref sig .tc := ⟨.hbm, 160, rfl⟩
abbrev main_call3_v14 : Ref sig .tc := ⟨.hbm, 161, rfl⟩
abbrev main_call3_cst : Ref sig .tc := ⟨.hbm, 162, rfl⟩
abbrev main_call3_v15 : Ref sig .tc := ⟨.hbm, 163, rfl⟩
abbrev main_v70_0 : Ref sig .tc := ⟨.hbm, 164, rfl⟩
abbrev main_v71 : Ref sig .tc := ⟨.hbm, 165, rfl⟩
abbrev main_c_14 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_c_15 : Ref sig .tc := ⟨.hbm, 177, rfl⟩
abbrev main_v82 : Ref sig .tc := ⟨.hbm, 178, rfl⟩
abbrev main_v83 : Ref sig .tc := ⟨.hbm, 179, rfl⟩
abbrev main_c_16 : Ref sig .tc := ⟨.hbm, 180, rfl⟩
abbrev main_v84 : Ref sig .tc := ⟨.hbm, 181, rfl⟩
abbrev main_v85 : Ref sig .tc := ⟨.hbm, 182, rfl⟩
abbrev main_c_17 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_call4_c : Ref sig .tc := ⟨.hbm, 187, rfl⟩
abbrev main_call4_v0 : Ref sig .tc := ⟨.hbm, 188, rfl⟩
abbrev main_call4_v1 : Ref sig .tc := ⟨.hbm, 189, rfl⟩
abbrev main_call4_c_0 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_v89_1 : Ref sig .tc := ⟨.hbm, 194, rfl⟩
abbrev main_call4_c_1 : Ref sig .tc := ⟨.hbm, 195, rfl⟩
abbrev main_call4_c_2 : Ref sig .tc := ⟨.hbm, 196, rfl⟩
abbrev main_call4_v6 : Ref sig .tc := ⟨.hbm, 197, rfl⟩
abbrev main_call4_v7 : Ref sig .tc := ⟨.hbm, 198, rfl⟩
abbrev main_call4_v8 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_c_3 : Ref sig .tc := ⟨.hbm, 203, rfl⟩
abbrev main_call4_v12 : Ref sig .tc := ⟨.hbm, 204, rfl⟩
abbrev main_call4_v13 : Ref sig .tc := ⟨.hbm, 205, rfl⟩
abbrev main_call4_v14 : Ref sig .tc := ⟨.hbm, 206, rfl⟩
abbrev main_call4_cst : Ref sig .tc := ⟨.hbm, 207, rfl⟩
abbrev main_call4_v15 : Ref sig .tc := ⟨.hbm, 208, rfl⟩
abbrev main_v89_0 : Ref sig .tc := ⟨.hbm, 209, rfl⟩
abbrev main_v90 : Ref sig .tc := ⟨.hbm, 210, rfl⟩
abbrev main_c_18 : Ref sig .tc := ⟨.hbm, 211, rfl⟩
abbrev main_v91 : Ref sig .tc := ⟨.hbm, 212, rfl⟩
abbrev main_v92 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev main_v97 : Ref sig .tc := ⟨.hbm, 218, rfl⟩
abbrev main_v98 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_v106 : Ref sig .tc := ⟨.hbm, 227, rfl⟩
abbrev main_v107 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_call5_v0 : Ref sig .tc := ⟨.hbm, 232, rfl⟩
abbrev main_call5_v1 : Ref sig .tc := ⟨.hbm, 233, rfl⟩
abbrev main_call5_cst : Ref sig .tc := ⟨.hbm, 234, rfl⟩
abbrev main_call5_v2 : Ref sig .tc := ⟨.hbm, 235, rfl⟩
abbrev main_call5_v3 : Ref sig .tc := ⟨.hbm, 236, rfl⟩
abbrev main_call5_cst_0 : Ref sig .tc := ⟨.hbm, 237, rfl⟩
abbrev main_call5_v4 : Ref sig .tc := ⟨.hbm, 238, rfl⟩
abbrev main_v111_2 : Ref sig .tc := ⟨.hbm, 239, rfl⟩
abbrev main_call5_cst_1 : Ref sig .tc := ⟨.hbm, 240, rfl⟩
abbrev main_call5_v6 : Ref sig .tc := ⟨.hbm, 241, rfl⟩
abbrev main_call5_v7 : Ref sig .tc := ⟨.hbm, 242, rfl⟩
abbrev main_v111_1 : Ref sig .tc := ⟨.hbm, 243, rfl⟩
abbrev main_v111_0 : Ref sig .tc := ⟨.hbm, 244, rfl⟩
abbrev main_v112 : Ref sig .tc := ⟨.hbm, 245, rfl⟩
abbrev main_v113 : Ref sig .tc := ⟨.hbm, 246, rfl⟩
abbrev main_v114 : Ref sig .tc := ⟨.hbm, 247, rfl⟩
abbrev main_v115 : Ref sig .tc := ⟨.hbm, 248, rfl⟩
abbrev main_cst_19 : Ref sig .tc := ⟨.hbm, 249, rfl⟩
abbrev main_v116 : Ref sig .tc := ⟨.hbm, 250, rfl⟩
abbrev main_v117 : Ref sig .tc := ⟨.hbm, 251, rfl⟩
abbrev main_v118 : Ref sig .tc := ⟨.hbm, 252, rfl⟩
abbrev main_v119 : Ref sig .tc := ⟨.hbm, 253, rfl⟩
abbrev main_call6_v0 : Ref sig .tc := ⟨.hbm, 254, rfl⟩
abbrev main_call6_v1 : Ref sig .tc := ⟨.hbm, 255, rfl⟩
abbrev main_call6_v2 : Ref sig .tc := ⟨.hbm, 256, rfl⟩
abbrev main_v120 : Ref sig .tc := ⟨.hbm, 257, rfl⟩
abbrev main_v121 : Ref sig .tc := ⟨.hbm, 258, rfl⟩
abbrev main_cst_20 : Ref sig .tc := ⟨.hbm, 259, rfl⟩
abbrev main_v122 : Ref sig .tc := ⟨.hbm, 260, rfl⟩
abbrev main_v123 : Ref sig .tc := ⟨.hbm, 261, rfl⟩
abbrev main_v124 : Ref sig .tc := ⟨.hbm, 262, rfl⟩
abbrev main_v125 : Ref sig .tc := ⟨.hbm, 263, rfl⟩
abbrev main_cst_21 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩
abbrev main_v133 : Ref sig .tc := ⟨.hbm, 272, rfl⟩
abbrev main_v134 : Ref sig .tc := ⟨.hbm, 273, rfl⟩
abbrev main_v135 : Ref sig .tc := ⟨.hbm, 274, rfl⟩
abbrev main_v136 : Ref sig .tc := ⟨.hbm, 275, rfl⟩
abbrev main_v137 : Ref sig .tc := ⟨.hbm, 276, rfl⟩
abbrev main_v138 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_cst_22 : Ref sig .tc := ⟨.hbm, 281, rfl⟩
abbrev main_v142 : Ref sig .tc := ⟨.hbm, 282, rfl⟩
abbrev main_v143 : Ref sig .tc := ⟨.hbm, 283, rfl⟩
abbrev main_v144 : Ref sig .tc := ⟨.hbm, 284, rfl⟩
abbrev main_v145 : Ref sig .tc := ⟨.hbm, 285, rfl⟩
abbrev main_call7_cst : Ref sig .tc := ⟨.hbm, 286, rfl⟩
abbrev main_call7_v0 : Ref sig .tc := ⟨.hbm, 287, rfl⟩
abbrev main_v146 : Ref sig .tc := ⟨.hbm, 288, rfl⟩
abbrev main_cst_23 : Ref sig .tc := ⟨.hbm, 289, rfl⟩
abbrev main_v147 : Ref sig .tc := ⟨.hbm, 290, rfl⟩
abbrev main_v148 : Ref sig .tc := ⟨.hbm, 291, rfl⟩
abbrev main_cst_24 : Ref sig .tc := ⟨.hbm, 292, rfl⟩
abbrev main_v149 : Ref sig .tc := ⟨.hbm, 293, rfl⟩
abbrev main_v150 : Ref sig .tc := ⟨.hbm, 294, rfl⟩
abbrev main_cst_25 : Ref sig .tc := ⟨.hbm, 295, rfl⟩
abbrev main_v151 : Ref sig .tc := ⟨.hbm, 296, rfl⟩
abbrev main_v152 : Ref sig .tc := ⟨.hbm, 297, rfl⟩
abbrev main_v153 : Ref sig .tc := ⟨.hbm, 298, rfl⟩
abbrev main_v154 : Ref sig .tc := ⟨.hbm, 299, rfl⟩
abbrev main_v155 : Ref sig .tc := ⟨.hbm, 300, rfl⟩
abbrev main_call8_cst : Ref sig .tc := ⟨.hbm, 301, rfl⟩
abbrev main_call8_v0 : Ref sig .tc := ⟨.hbm, 302, rfl⟩
abbrev main_v156 : Ref sig .tc := ⟨.hbm, 303, rfl⟩
abbrev main_cst_26 : Ref sig .tc := ⟨.hbm, 304, rfl⟩
abbrev main_v157 : Ref sig .tc := ⟨.hbm, 305, rfl⟩
abbrev main_v158 : Ref sig .tc := ⟨.hbm, 306, rfl⟩
abbrev main_cst_27 : Ref sig .tc := ⟨.hbm, 307, rfl⟩
abbrev main_v159 : Ref sig .tc := ⟨.hbm, 308, rfl⟩
abbrev main_v160 : Ref sig .tc := ⟨.hbm, 309, rfl⟩
abbrev main_v161 : Ref sig .tc := ⟨.hbm, 310, rfl⟩
abbrev main_cst_28 : Ref sig .tc := ⟨.hbm, 311, rfl⟩
abbrev main_v162 : Ref sig .tc := ⟨.hbm, 312, rfl⟩
abbrev main_v163 : Ref sig .tc := ⟨.hbm, 313, rfl⟩
abbrev main_v164 : Ref sig .tc := ⟨.hbm, 314, rfl⟩
abbrev main_v165 : Ref sig .tc := ⟨.hbm, 315, rfl⟩
abbrev main_v166 : Ref sig .tc := ⟨.hbm, 316, rfl⟩
abbrev main_call9_cst : Ref sig .tc := ⟨.hbm, 317, rfl⟩
abbrev main_call9_v0 : Ref sig .tc := ⟨.hbm, 318, rfl⟩
abbrev main_v167 : Ref sig .tc := ⟨.hbm, 319, rfl⟩
abbrev main_cst_29 : Ref sig .tc := ⟨.hbm, 320, rfl⟩
abbrev main_v168 : Ref sig .tc := ⟨.hbm, 321, rfl⟩
abbrev main_v169 : Ref sig .tc := ⟨.hbm, 322, rfl⟩
abbrev main_cst_30 : Ref sig .tc := ⟨.hbm, 323, rfl⟩
abbrev main_v170 : Ref sig .tc := ⟨.hbm, 324, rfl⟩
abbrev main_v171 : Ref sig .tc := ⟨.hbm, 325, rfl⟩
abbrev main_v172 : Ref sig .tc := ⟨.hbm, 326, rfl⟩
abbrev main_cst_31 : Ref sig .tc := ⟨.hbm, 327, rfl⟩
abbrev main_v173 : Ref sig .tc := ⟨.hbm, 328, rfl⟩
abbrev main_v174 : Ref sig .tc := ⟨.hbm, 329, rfl⟩
abbrev main_v175 : Ref sig .tc := ⟨.hbm, 330, rfl⟩
abbrev main_v176 : Ref sig .tc := ⟨.hbm, 331, rfl⟩
abbrev main_v177 : Ref sig .tc := ⟨.hbm, 332, rfl⟩
abbrev main_call10_cst : Ref sig .tc := ⟨.hbm, 333, rfl⟩
abbrev main_call10_v0 : Ref sig .tc := ⟨.hbm, 334, rfl⟩
abbrev main_v178 : Ref sig .tc := ⟨.hbm, 335, rfl⟩
abbrev main_cst_32 : Ref sig .tc := ⟨.hbm, 336, rfl⟩
abbrev main_v179 : Ref sig .tc := ⟨.hbm, 337, rfl⟩
abbrev main_v180 : Ref sig .tc := ⟨.hbm, 338, rfl⟩
abbrev main_cst_33 : Ref sig .tc := ⟨.hbm, 339, rfl⟩
abbrev main_v181 : Ref sig .tc := ⟨.hbm, 340, rfl⟩
abbrev main_v182 : Ref sig .tc := ⟨.hbm, 341, rfl⟩
abbrev main_v183 : Ref sig .tc := ⟨.hbm, 342, rfl⟩
abbrev main_v184 : Ref sig .tc := ⟨.hbm, 343, rfl⟩
abbrev main_call11_call0_cst : Ref sig .tc := ⟨.hbm, 344, rfl⟩
abbrev main_call11_call0_v0 : Ref sig .tc := ⟨.hbm, 345, rfl⟩
abbrev main_v185 : Ref sig .tc := ⟨.hbm, 346, rfl⟩
abbrev main_v186 : Ref sig .tc := ⟨.hbm, 347, rfl⟩
abbrev main_cst_34 : Ref sig .tc := ⟨.hbm, 348, rfl⟩
abbrev main_v187 : Ref sig .tc := ⟨.hbm, 349, rfl⟩
abbrev main_cst_35 : Ref sig .tc := ⟨.hbm, 350, rfl⟩
abbrev main_v188 : Ref sig .tc := ⟨.hbm, 351, rfl⟩
abbrev main_v189 : Ref sig .tc := ⟨.hbm, 352, rfl⟩
abbrev main_cst_36 : Ref sig .tc := ⟨.hbm, 353, rfl⟩
abbrev main_v190 : Ref sig .tc := ⟨.hbm, 354, rfl⟩
abbrev main_cst_37 : Ref sig .tc := ⟨.hbm, 355, rfl⟩
abbrev main_v191 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_v195 : Ref sig .tc := ⟨.hbm, 360, rfl⟩
abbrev main_v196 : Ref sig .tc := ⟨.hbm, 361, rfl⟩
abbrev main_v197 : Ref sig .tc := ⟨.hbm, 362, rfl⟩
abbrev main_v198 : Ref sig .tc := ⟨.hbm, 363, rfl⟩
abbrev main_v199 : Ref sig .tc := ⟨.hbm, 364, rfl⟩
abbrev main_v200 : Ref sig .tc := ⟨.hbm, 365, rfl⟩

abbrev nD : Nat := 1
abbrev τ : Topo := Topo.v7x

variable {F : FTy → Type} [FloatOps F]
-- ==== NormDx.lean ====
abbrev S8192x1024 : Shape := ⟨2, ![8192, 1024]⟩
abbrev S8192x3072 : Shape := ⟨2, ![8192, 3072]⟩
abbrev S1024 : Shape := ⟨1, ![1024]⟩
abbrev S1024x3072 : Shape := ⟨2, ![1024, 3072]⟩
abbrev S1024x8x384 : Shape := ⟨3, ![1024, 8, 384]⟩
abbrev S8x1024x384 : Shape := ⟨3, ![8, 1024, 384]⟩
abbrev S8192x512 : Shape := ⟨2, ![8192, 512]⟩
abbrev S1x1024 : Shape := ⟨2, ![1, 1024]⟩
abbrev S512x1024 : Shape := ⟨2, ![512, 1024]⟩
abbrev S512x512 : Shape := ⟨2, ![512, 512]⟩
abbrev S8 : Shape := ⟨1, ![8]⟩
abbrev S3x512x1024 : Shape := ⟨3, ![3, 512, 1024]⟩
abbrev S2x3 : Shape := ⟨2, ![2, 3]⟩
abbrev S1x1 : Shape := ⟨2, ![1, 1]⟩
abbrev S_ : Shape := ⟨0, ![]⟩
abbrev S1x512x1024 : Shape := ⟨3, ![1, 512, 1024]⟩
abbrev S1 : Shape := ⟨1, ![1]⟩
abbrev S1024x384 : Shape := ⟨2, ![1024, 384]⟩
abbrev S1x1024x384 : Shape := ⟨3, ![1, 1024, 384]⟩
abbrev S512x3072 : Shape := ⟨2, ![512, 3072]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .f32⟩
  | .hbm, ⟨3, _⟩ => ⟨S1024, .f32⟩
  | .hbm, ⟨4, _⟩ => ⟨S1024x3072, .f32⟩
  | .hbm, ⟨5, _⟩ => ⟨S1024x3072, .bf16⟩
  | .hbm, ⟨6, _⟩ => ⟨S1024x8x384, .bf16⟩
  | .hbm, ⟨7, _⟩ => ⟨S8x1024x384, .bf16⟩
  | .hbm, ⟨8, _⟩ => ⟨S8192x3072, .bf16⟩
  | .hbm, ⟨9, _⟩ => ⟨S8192x1024, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S1x1024, .f32⟩
  | .hbm, ⟨15, _⟩ => ⟨S8192x1024, .f32⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1024x3072, .bf16⟩
  | .local _ .vmem, ⟨15, _⟩ => ⟨S3x512x1024, .f32⟩
  | .local _ .vmem, ⟨16, _⟩ => ⟨S3x512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_40 : BitVec 32 := 0#32
  c0_i32_40
def k0_mult2 : BitVec 32 :=
  let c512_i32_53 : BitVec 32 := 512#32
  c512_i32_53
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c512_i32_41 : BitVec 32 := 512#32
  let v74 : BitVec 32 := Scalar.muli v4 c512_i32_41
  v74
def k0_off1 (i : grid0.Coords) : Fin 2 → Nat :=
  let c0_i32_42 : BitVec 32 := 0#32
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c3_i32_40 : BitVec 32 := 3#32
  let v73 : BitVec 32 := Scalar.remsi v4 c3_i32_40
  ![0, v73.toNat]
def k0_off2 (i : grid0.Coords) : Fin 3 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c3_i32_40 : BitVec 32 := 3#32
  let v73 : BitVec 32 := Scalar.remsi v4 c3_i32_40
  let c0_i32_43 : BitVec 32 := 0#32
  let c0_i32_44 : BitVec 32 := 0#32
  ![v73.toNat, 0, 0]
def k0_off3 (i : grid0.Coords) : Fin 2 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c512_i32_41 : BitVec 32 := 512#32
  let v74 : BitVec 32 := Scalar.muli v4 c512_i32_41
  let v75 : BitVec 32 := v74
  let c0_i32_45 : BitVec 32 := 0#32
  ![v75.toNat, 0]
def k0_off4 (i : grid0.Coords) : Fin 2 → Nat :=
  let c1_i32_46 : BitVec 32 := 1#32
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c3_i32_40 : BitVec 32 := 3#32
  let v73 : BitVec 32 := Scalar.remsi v4 c3_i32_40
  ![1, v73.toNat]
def k0_mult4 (i : grid0.Coords) : BitVec 32 :=
  let arg0 : BitVec 32 := BitVec.ofNat 32 (i 0).val
  let c512_i32 : BitVec 32 := 512#32
  let v9 : BitVec 32 := Scalar.muli arg0 c512_i32
  v9
def k0_off5 (i : grid0.Coords) : Fin 2 → Nat :=
  let c0_i32_3 : BitVec 32 := 0#32
  let arg0 : BitVec 32 := BitVec.ofNat 32 (i 0).val
  let c3_i32_2 : BitVec 32 := 3#32
  let v8 : BitVec 32 := Scalar.remsi arg0 c3_i32_2
  ![0, v8.toNat]
def k0_off6 (i : grid0.Coords) : Fin 3 → Nat :=
  let arg0 : BitVec 32 := BitVec.ofNat 32 (i 0).val
  let c3_i32_2 : BitVec 32 := 3#32
  let v8 : BitVec 32 := Scalar.remsi arg0 c3_i32_2
  let c0_i32_4 : BitVec 32 := 0#32
  let c0_i32_5 : BitVec 32 := 0#32
  ![v8.toNat, 0, 0]
def k0_off7 (i : grid0.Coords) : Fin 2 → Nat :=
  let arg0 : BitVec 32 := BitVec.ofNat 32 (i 0).val
  let c512_i32 : BitVec 32 := 512#32
  let v9 : BitVec 32 := Scalar.muli arg0 c512_i32
  let v10 : BitVec 32 := v9
  let c0_i32_6 : BitVec 32 := 0#32
  ![v10.toNat, 0]
def k0_off8 (i : grid0.Coords) : Fin 2 → Nat :=
  let c1_i32_7 : BitVec 32 := 1#32
  let arg0 : BitVec 32 := BitVec.ofNat 32 (i 0).val
  let c3_i32_2 : BitVec 32 := 3#32
  let v8 : BitVec 32 := Scalar.remsi arg0 c3_i32_2
  ![1, v8.toNat]
def k0_off9 (i : grid0.Coords) : Fin 3 → Nat :=
  let arg0 : BitVec 32 := BitVec.ofNat 32 (i 0).val
  let c3_i32_2 : BitVec 32 := 3#32
  let v8 : BitVec 32 := Scalar.remsi arg0 c3_i32_2
  let v34 : Index := Scalar.indexCast v8
  let c0_22 : Index := 0#32
  let c0_23 : Index := 0#32
  ![v34.toNat, 0, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormDxRefIdeal.lean ====
abbrev S8192x1024 : Shape := ⟨2, ![8192, 1024]⟩
abbrev S8192x3072 : Shape := ⟨2, ![8192, 3072]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .f32⟩
  | .hbm, ⟨3, _⟩ => ⟨S1024, .f32⟩
  | .hbm, ⟨4, _⟩ => ⟨S1024x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Pack.lean ====
abbrev S8x4x64x576 : Shape := ⟨4, ![8, 4, 64, 576]⟩
abbrev S1x1024 : Shape := ⟨2, ![1, 1024]⟩
abbrev S1x512 : Shape := ⟨2, ![1, 512]⟩
abbrev S8x128 : Shape := ⟨2, ![8, 128]⟩
abbrev S8x1x64x576 : Shape := ⟨4, ![8, 1, 64, 576]⟩
abbrev S8x64x576 : Shape := ⟨3, ![8, 64, 576]⟩
abbrev S_ : Shape := ⟨0, ![]⟩
abbrev S8x64x768 : Shape := ⟨3, ![8, 64, 768]⟩
abbrev S8x256x768 : Shape := ⟨3, ![8, 256, 768]⟩
abbrev S8x64x256 : Shape := ⟨3, ![8, 64, 256]⟩
abbrev S8x1x64x256 : Shape := ⟨4, ![8, 1, 64, 256]⟩
abbrev S8x4x64x256 : Shape := ⟨4, ![8, 4, 64, 256]⟩
abbrev S8x256x6x128 : Shape := ⟨4, ![8, 256, 6, 128]⟩
abbrev S8x256x128 : Shape := ⟨3, ![8, 256, 128]⟩
abbrev S16x1024 : Shape := ⟨2, ![16, 1024]⟩
abbrev S1x128 : Shape := ⟨2, ![1, 128]⟩
abbrev S64x512 : Shape := ⟨2, ![64, 512]⟩
abbrev S1x1x64x256 : Shape := ⟨4, ![1, 1, 64, 256]⟩
abbrev S64x256 : Shape := ⟨2, ![64, 256]⟩
abbrev S512 : Shape := ⟨1, ![512]⟩
abbrev S1x256 : Shape := ⟨2, ![1, 256]⟩
abbrev S1x256x128 : Shape := ⟨3, ![1, 256, 128]⟩
abbrev S256x128 : Shape := ⟨2, ![256, 128]⟩
abbrev S128 : Shape := ⟨1, ![128]⟩
abbrev S1 : Shape := ⟨1, ![1]⟩
abbrev S1x1 : Shape := ⟨2, ![1, 1]⟩

abbrev nBuf : Space → Nat
  | .hbm => 38
  | .vmem => 6
  | .smem => 0
  | _ => 0

abbrev bufTy : (tb : Table) → Fin (tcTables nBuf tb) → BufTy
  | .hbm, ⟨0, _⟩ => ⟨S8x4x64x576, .f32⟩
  | .hbm, ⟨1, _⟩ => ⟨S1x1024, .f32⟩
  | .hbm, ⟨2, _⟩ => ⟨S1x512, .f32⟩
  | .hbm, ⟨3, _⟩ => ⟨S8x128, .f32⟩
  | .hbm, ⟨4, _⟩ => ⟨S8x1x64x576, .f32⟩
  | .hbm, ⟨5, _⟩ => ⟨S8x64x576, .f32⟩
  | .hbm, ⟨6, _⟩ => ⟨S_, .i32⟩
  | .hbm, ⟨7, _⟩ => ⟨S_, .f32⟩
  | .hbm, ⟨8, _⟩ => ⟨S8x64x768, .f32⟩
  | .hbm, ⟨9, _⟩ => ⟨S8x1x64x576, .f32⟩
  | .hbm, ⟨10, _⟩ => ⟨S8x64x576, .f32⟩
  | .hbm, ⟨11, _⟩ => ⟨S_, .i32⟩
  | .hbm, ⟨12, _⟩ => ⟨S_, .f32⟩
  | .hbm, ⟨13, _⟩ => ⟨S8x64x768, .f32⟩
  | .hbm, ⟨14, _⟩ => ⟨S8x1x64x576, .f32⟩
  | .hbm, ⟨15, _⟩ => ⟨S8x64x576, .f32⟩
  | .hbm, ⟨16, _⟩ => ⟨S_, .i32⟩
  | .hbm, ⟨17, _⟩ => ⟨S_, .f32⟩
  | .hbm, ⟨18, _⟩ => ⟨S8x64x768, .f32⟩
  | .hbm, ⟨19, _⟩ => ⟨S8x1x64x576, .f32⟩
  | .hbm, ⟨20, _⟩ => ⟨S8x64x576, .f32⟩
  | .hbm, ⟨21, _⟩ => ⟨S_, .i32⟩
  | .hbm, ⟨22, _⟩ => ⟨S_, .f32⟩
  | .hbm, ⟨23, _⟩ => ⟨S8x64x768, .f32⟩
  | .hbm, ⟨24, _⟩ => ⟨S8x256x768, .f32⟩
  | .hbm, ⟨25, _⟩ => ⟨S8x64x256, .f32⟩
  | .hbm, ⟨26, _⟩ => ⟨S8x64x256, .f32⟩
  | .hbm, ⟨27, _⟩ => ⟨S8x64x256, .f32⟩
  | .hbm, ⟨28, _⟩ => ⟨S8x64x256, .f32⟩
  | .hbm, ⟨29, _⟩ => ⟨S8x1x64x256, .f32⟩
  | .hbm, ⟨30, _⟩ => ⟨S8x1x64x256, .f32⟩
  | .hbm, ⟨31, _⟩ => ⟨S8x1x64x256, .f32⟩
  | .hbm, ⟨32, _⟩ => ⟨S8x1x64x256, .f32⟩
  | .hbm, ⟨33, _⟩ => ⟨S8x4x64x256, .f32⟩
  | .hbm, ⟨34, _⟩ => ⟨S8x256x6x128, .f32⟩
  | .hbm, ⟨35, _⟩ => ⟨S_, .f32⟩
  | .hbm, ⟨36, _⟩ => ⟨S8x256x128, .f32⟩
  | .hbm, ⟨37, _⟩ => ⟨S16x1024, .f32⟩
  | .local _ .vmem, ⟨0, _⟩ => ⟨S8x4x64x256, .f32⟩
  | .local _ .vmem, ⟨1, _⟩ => ⟨S8x256x128, .f32⟩
  | .local _ .vmem, ⟨2, _⟩ => ⟨S1x1024, .f32⟩
  | .local _ .vmem, ⟨3, _⟩ => ⟨S1x512, .f32⟩
  | .local _ .vmem, ⟨4, _⟩ => ⟨S8x128, .f32⟩
  | .local _ .vmem, ⟨5, _⟩ => ⟨S16x1024, .f32⟩
  | _, _ => ⟨S8x4x64x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call3_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x4x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== PackRefIdeal.lean ====
abbrev S8x4x64x576 : Shape := ⟨4, ![8, 4, 64, 576]⟩
abbrev S1x1024 : Shape := ⟨2, ![1, 1024]⟩
abbrev S1x512 : Shape := ⟨2, ![1, 512]⟩
abbrev S8x128 : Shape := ⟨2, ![8, 128]⟩
abbrev S_ : Shape := ⟨0, ![]⟩
abbrev S8x129 : Shape := ⟨2, ![8, 129]⟩
abbrev S64 : Shape := ⟨1, ![64]⟩
abbrev S576 : Shape := ⟨1, ![576]⟩
abbrev S1x576 : Shape := ⟨2, ![1, 576]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S8x1x64x576 : Shape := ⟨4, ![8, 1, 64, 576]⟩
abbrev S1x128 : Shape := ⟨2, ![1, 128]⟩
abbrev S8x1024 : Shape := ⟨2, ![8, 1024]⟩
abbrev S16x1024 : Shape := ⟨2, ![16, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x4x64x576, .f32⟩
  | .hbm, ⟨1, _⟩ => ⟨S1x1024, .f32⟩
  | .hbm, ⟨2, _⟩ => ⟨S1x512, .f32⟩
  | .hbm, ⟨3, _⟩ => ⟨S8x128, .f32⟩
  | .hbm, ⟨4, _⟩ => ⟨S_, .f32⟩
  | .hbm, ⟨5, _⟩ => ⟨S8x129, .f32⟩
  | .hbm, ⟨6, _⟩ => ⟨S64, .i32⟩
  | .hbm, ⟨7, _⟩ => ⟨S576, .i32⟩
  | .hbm, ⟨8, _⟩ => ⟨S1x576, .i32⟩
  | .hbm, ⟨9, _⟩ => ⟨S_, .i32⟩
  | .hbm, ⟨10, _⟩ => ⟨S1x576, .i32⟩
  | .hbm, ⟨11, _⟩ => ⟨S1x576, .i32⟩
  | .hbm, ⟨12, _⟩ => ⟨S64x1, .i32⟩
  | .hbm, ⟨13, _⟩ => ⟨S64x576, .i32⟩
  | .hbm, ⟨14, _⟩ => ⟨S64x576, .i32⟩
  | .hbm, ⟨15, _⟩ => ⟨S64x576, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S64x576, .i32⟩
  | .hbm, ⟨23, _⟩ => ⟨S64x576, .i32⟩
  | .hbm, ⟨24, _⟩ => ⟨S_, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S64x576, .i32⟩
  | .hbm, ⟨29, _⟩ => ⟨S64x576, .i1⟩
  | .hbm, ⟨30, _⟩ => ⟨S_, .i32⟩
  | .hbm, ⟨31, _⟩ => ⟨S64x576, .i32⟩
  | .hbm, ⟨32, _⟩ => ⟨S64x576, .i32⟩
  | .hbm, ⟨33, _⟩ => ⟨S64x576, .i32⟩
  | .hbm, ⟨34, _⟩ => ⟨S64x576x1, .i32⟩
  | .hbm, ⟨35, _⟩ => ⟨S8x64x576, .f32⟩
  | .hbm, ⟨36, _⟩ => ⟨S8x1x64x576, .f32⟩
  | .hbm, ⟨37, _⟩ => ⟨S8x4x64x576, .f32⟩
  | .hbm, ⟨38, _⟩ => ⟨S_, .f32⟩
  | .hbm, ⟨39, _⟩ => ⟨S8x64x576, .f32⟩
  | .hbm, ⟨40, _⟩ => ⟨S8x1x64x576, .f32⟩
  | .hbm, ⟨41, _⟩ => ⟨S_, .f32⟩
  | .hbm, ⟨42, _⟩ => ⟨S8x64x576, .f32⟩
  | .hbm, ⟨43, _⟩ => ⟨S_, .f32⟩
  | .hbm, ⟨44, _⟩ => ⟨S8x129, .f32⟩
  | .hbm, ⟨45, _⟩ => ⟨S8x129, .f32⟩
  | .hbm, ⟨46, _⟩ => ⟨S_, .f32⟩
  | .hbm, ⟨47, _⟩ => ⟨S1x1024, .f32⟩
  | .hbm, ⟨48, _⟩ => ⟨S_, .i32⟩
  | .hbm, ⟨49, _⟩ => ⟨S_, .f32⟩
  | .hbm, ⟨50, _⟩ => ⟨S1x1024, .f32⟩
  | .hbm, ⟨51, _⟩ => ⟨S1x128, .f32⟩
  | .hbm, ⟨52, _⟩ => ⟨S_, .i32⟩
  | .hbm, ⟨53, _⟩ => ⟨S_, .f32⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S8x1024, .f32⟩
  | .hbm, ⟨58, _⟩ => ⟨S16x1024, .f32⟩
  | _, _ => ⟨S8x4x64x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_c_9 : Ref sig .tc := ⟨.hbm, 48, rfl⟩
abbrev main_call1_v0 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_call2_v0 : Ref sig .tc := ⟨.hbm, 53, rfl⟩
abbrev main_v30 : Ref sig .tc := ⟨.hbm, 54, rfl⟩
abbrev main_c_11 : Ref sig .tc := ⟨.hbm, 55, rfl⟩
abbrev main_call3_v0 : Ref sig .tc := ⟨.hbm, 56, rfl⟩
abbrev main_v31 : Ref sig .tc := ⟨.hbm, 57, rfl⟩
abbrev main_v32 : Ref sig .tc := ⟨.hbm, 58, rfl⟩

abbrev nD : Nat := 1
abbrev τ : Topo := Topo.v7x

variable {F : FTy → Type} [FloatOps F]
-- ==== AttnBwd.lean ====
abbrev S8192x512 : Shape := ⟨2, ![8192, 512]⟩
abbrev S8x129 : Shape := ⟨2, ![8, 129]⟩
abbrev S8x1 : Shape := ⟨2, ![8, 1]⟩
abbrev S8x703 : Shape := ⟨2, ![8, 703]⟩
abbrev S8x192 : Shape := ⟨2, ![8, 192]⟩
abbrev S8x1024 : Shape := ⟨2, ![8, 1024]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S_ : Shape := ⟨0, ![]⟩
abbrev S256x768x1 : Shape := ⟨3, ![256, 768, 1]⟩
abbrev S1 : Shape := ⟨1, ![1]⟩
abbrev S1x1x1 : Shape := ⟨3, ![1, 1, 1]⟩
abbrev S8x256x768 : Shape := ⟨3, ![8, 256, 768]⟩
abbrev S8192x1536 : Shape := ⟨2, ![8192, 1536]⟩
abbrev S8x4x64x256 : Shape := ⟨4, ![8, 4, 64, 256]⟩
abbrev S8x256x128 : Shape := ⟨3, ![8, 256, 128]⟩
abbrev S8192x128 : Shape := ⟨2, ![8192, 128]⟩
abbrev S2x256x768 : Shape := ⟨3, ![2, 256, 768]⟩
abbrev S2x4x64x256 : Shape := ⟨4, ![2, 4, 64, 256]⟩
abbrev S2x256x128 : Shape := ⟨3, ![2, 256, 128]⟩
abbrev S256x128 : Shape := ⟨2, ![256, 128]⟩
abbrev S3x256x128 : Shape := ⟨3, ![3, 256, 128]⟩
abbrev S1x128 : Shape := ⟨2, ![1, 128]⟩
abbrev S256x256 : Shape := ⟨2, ![256, 256]⟩
abbrev S1x256x256 : Shape := ⟨3, ![1, 256, 256]⟩
abbrev S1x256x128 : Shape := ⟨3, ![1, 256, 128]⟩
abbrev S1x1x64x128 : Shape := ⟨4, ![1, 1, 64, 128]⟩
abbrev S64x128 : Shape := ⟨2, ![64, 128]⟩
abbrev S1x1x64x256 : Shape := ⟨4, ![1, 1, 64, 256]⟩
abbrev S64x256 : Shape := ⟨2, ![64, 256]⟩
abbrev S512x128 : Shape := ⟨2, ![512, 128]⟩
abbrev S256x512 : Shape := ⟨2, ![256, 512]⟩
abbrev S1x256x512 : Shape := ⟨3, ![1, 256, 512]⟩
abbrev S768x128 : Shape := ⟨2, ![768, 128]⟩
abbrev S1x256x768 : Shape := ⟨3, ![1, 256, 768]⟩
abbrev S1x64x640 : Shape := ⟨3, ![1, 64, 640]⟩
abbrev S64x640 : Shape := ⟨2, ![64, 640]⟩
abbrev S64 : Shape := ⟨1, ![64]⟩
abbrev S64x1 : Shape := ⟨2, ![64, 1]⟩
abbrev S1x64x128 : Shape := ⟨3, ![1, 64, 128]⟩

abbrev nBuf : Space → Nat
  | .hbm => 138
  | .vmem => 27
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8x129, .f32⟩
  | 4 => ⟨S8192x512, .f32⟩
  | 5 => ⟨S8x1, .f32⟩
  | 6 => ⟨S8x703, .f32⟩
  | 7 => ⟨S8x1, .f32⟩
  | 8 => ⟨S8x192, .f32⟩
  | 9 => ⟨S8x1024, .f32⟩
  | 10 => ⟨S256, .i32⟩
  | 11 => ⟨S256x1, .i32⟩
  | 12 => ⟨S768, .i32⟩
  | 13 => ⟨S1x768, .i32⟩
  | 14 => ⟨S256x768, .i32⟩
  | 15 => ⟨S256x768, .i32⟩
  | 16 => ⟨S256x768, .i32⟩
  | 17 => ⟨S_, .i32⟩
  | 18 => ⟨S256x768, .i32⟩
  | 19 => ⟨S256x768, .i32⟩
  | 20 => ⟨S_, .i32⟩
  | 21 => ⟨S256x768, .i32⟩
  | 22 => ⟨S256x768, .i1⟩
  | 23 => ⟨S_, .i32⟩
  | 24 => ⟨S256x768, .i32⟩
  | 25 => ⟨S256x768, .i32⟩
  | 26 => ⟨S256x768, .i32⟩
  | 27 => ⟨S256x768x1, .i32⟩
  | 28 => ⟨S1, .i32⟩
  | 29 => ⟨S_, .i32⟩
  | 30 => ⟨S256x768x1, .i32⟩
  | 31 => ⟨S256x768x1, .i1⟩
  | 32 => ⟨S1x1x1, .i32⟩
  | 33 => ⟨S256x768x1, .i32⟩
  | 34 => ⟨S256x768x1, .i1⟩
  | 35 => ⟨S256x768x1, .i1⟩
  | 36 => ⟨S_, .i1⟩
  | 37 => ⟨S256x768, .i1⟩
  | 38 => ⟨S8x256x768, .f32⟩
  | 39 => ⟨S8x256x768, .i1⟩
  | 40 => ⟨S_, .f32⟩
  | 41 => ⟨S8x256x768, .f32⟩
  | 42 => ⟨S8x256x768, .f32⟩
  | 43 => ⟨S_, .i32⟩
  | 44 => ⟨S_, .i32⟩
  | 45 => ⟨S1x768, .i32⟩
  | 46 => ⟨S1x768, .i32⟩
  | 47 => ⟨S1x768, .i32⟩
  | 48 => ⟨S_, .i32⟩
  | 49 => ⟨S1x768, .i32⟩
  | 50 => ⟨S1x768, .i1⟩
  | 51 => ⟨S1x768, .i32⟩
  | 52 => ⟨S1x768, .i32⟩
  | 53 => ⟨S_, .i32⟩
  | 54 => ⟨S1x768, .i32⟩
  | 55 => ⟨S1x768, .i1⟩
  | 56 => ⟨S1x768, .i1⟩
  | 57 => ⟨S_, .i32⟩
  | 58 => ⟨S1x768, .i32⟩
  | 59 => ⟨S1x768, .i32⟩
  | 60 => ⟨S1x768, .i32⟩
  | 61 => ⟨S_, .i32⟩
  | 62 => ⟨S_, .i32⟩
  | 63 => ⟨S256x1, .i32⟩
  | 64 => ⟨S256x1, .i32⟩
  | 65 => ⟨S256x1, .i32⟩
  | 66 => ⟨S_, .i32⟩
  | 67 => ⟨S256x1, .i32⟩
  | 68 => ⟨S256x1, .i1⟩
  | 69 => ⟨S256x1, .i32⟩
  | 70 => ⟨S256x1, .i32⟩
  | 71 => ⟨S_, .i32⟩
  | 72 => ⟨S256x1, .i32⟩
  | 73 => ⟨S256x1, .i1⟩
  | 74 => ⟨S256x1, .i1⟩
  | 75 => ⟨S_, .i32⟩
  | 76 => ⟨S256x1, .i32⟩
  | 77 => ⟨S256x1, .i32⟩
  | 78 => ⟨S256x1, .i32⟩
  | 79 => ⟨S256x768, .i32⟩
  | 80 => ⟨S256x768, .i32⟩
  | 81 => ⟨S256x768, .i1⟩
  | 82 => ⟨S_, .i32⟩
  | 83 => ⟨S_, .i32⟩
  | 84 => ⟨S1x768, .i32⟩
  | 85 => ⟨S1x768, .i32⟩
  | 86 => ⟨S1x768, .i32⟩
  | 87 => ⟨S_, .i32⟩
  | 88 => ⟨S1x768, .i32⟩
  | 89 => ⟨S1x768, .i1⟩
  | 90 => ⟨S1x768, .i32⟩
  | 91 => ⟨S1x768, .i32⟩
  | 92 => ⟨S_, .i32⟩
  | 93 => ⟨S1x768, .i32⟩
  | 94 => ⟨S1x768, .i1⟩
  | 95 => ⟨S1x768, .i1⟩
  | 96 => ⟨S_, .i32⟩
  | 97 => ⟨S1x768, .i32⟩
  | 98 => ⟨S1x768, .i32⟩
  | 99 => ⟨S1x768, .i32⟩
  | 100 => ⟨S_, .i32⟩
  | 101 => ⟨S_, .i32⟩
  | 102 => ⟨S256x1, .i32⟩
  | 103 => ⟨S256x1, .i32⟩
  | 104 => ⟨S256x1, .i32⟩
  | 105 => ⟨S_, .i32⟩
  | 106 => ⟨S256x1, .i32⟩
  | 107 => ⟨S256x1, .i1⟩
  | 108 => ⟨S256x1, .i32⟩
  | 109 => ⟨S256x1, .i32⟩
  | 110 => ⟨S_, .i32⟩
  | 111 => ⟨S256x1, .i32⟩
  | 112 => ⟨S256x1, .i1⟩
  | 113 => ⟨S256x1, .i1⟩
  | 114 => ⟨S_, .i32⟩
  | 115 => ⟨S256x1, .i32⟩
  | 116 => ⟨S256x1, .i32⟩
  | 117 => ⟨S256x1, .i32⟩
  | 118 => ⟨S_, .i32⟩
  | 119 => ⟨S256x1, .i32⟩
  | 120 => ⟨S256x1, .i32⟩
  | 121 => ⟨S256x768, .i32⟩
  | 122 => ⟨S256x768, .i32⟩
  | 123 => ⟨S256x768, .i1⟩
  | 124 => ⟨S256x768, .i1⟩
  | 125 => ⟨S_, .f32⟩
  | 126 => ⟨S_, .f32⟩
  | 127 => ⟨S8x256x768, .i1⟩
  | _ => ⟨S8192x512, .f32⟩

abbrev hbmTy0_1 (i : Nat) : BufTy := match i % 128 with
  | 0 => ⟨S8x256x768, .f32⟩
  | 1 => ⟨S8x256x768, .f32⟩
  | 2 => ⟨S8192x1536, .f32⟩
  | 3 => ⟨S8192x1536, .bf16⟩
  | 4 => ⟨S8192x512, .bf16⟩
  | 5 => ⟨S8192x512, .bf16⟩
  | 6 => ⟨S8192x512, .bf16⟩
  | 7 => ⟨S8192x512, .bf16⟩
  | 8 => ⟨S8x4x64x256, .f32⟩
  | 9 => ⟨S8x256x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S2x256x768, .f32⟩
  | .local _ .vmem, ⟨9, _⟩ => ⟨S2x256x768, .f32⟩
  | .local _ .vmem, ⟨10, _⟩ => ⟨S8192x128, .bf16⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S2x4x64x256, .f32⟩
  | .local _ .vmem, ⟨17, _⟩ => ⟨S2x4x64x256, .f32⟩
  | .local _ .vmem, ⟨18, _⟩ => ⟨S2x256x128, .f32⟩
  | .local _ .vmem, ⟨19, _⟩ => ⟨S2x256x128, .f32⟩
  | .local _ .vmem, ⟨20, _⟩ => ⟨S2x256x768, .f32⟩
  | .local _ .vmem, ⟨21, _⟩ => ⟨S2x256x768, .f32⟩
  | .local _ .vmem, ⟨22, _⟩ => ⟨S2x256x768, .bf16⟩
  | .local _ .vmem, ⟨23, _⟩ => ⟨S2x256x768, .bf16⟩
  | .local _ .vmem, ⟨24, _⟩ => ⟨S256x128, .f32⟩
  | .local _ .vmem, ⟨25, _⟩ => ⟨S3x256x128, .f32⟩
  | .local _ .vmem, ⟨26, _⟩ => ⟨S3x256x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v14 : Ref sig .tc := ⟨.hbm, 42, rfl⟩
abbrev main_c_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v15 : Ref sig .tc := ⟨.hbm, 60, rfl⟩
abbrev main_c_1 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_c_2 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_c : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_0 : Ref sig .tc := ⟨.hbm, 96, rfl⟩
abbrev main_call3_v12 : Ref sig .tc := ⟨.hbm, 97, rfl⟩
abbrev main_call3_v13 : Ref sig .tc := ⟨.hbm, 98, rfl⟩
abbrev main_v20 : Ref sig .tc := ⟨.hbm, 99, rfl⟩
abbrev main_c_3 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_c : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_0 : Ref sig .tc := ⟨.hbm, 114, rfl⟩
abbrev main_call4_v12 : Ref sig .tc := ⟨.hbm, 115, rfl⟩
abbrev main_call4_v13 : Ref sig .tc := ⟨.hbm, 116, rfl⟩
abbrev main_v21 : Ref sig .tc := ⟨.hbm, 117, rfl⟩
abbrev main_c_4 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_cst : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_v31 : Ref sig .tc := ⟨.hbm, 132, rfl⟩
abbrev main_v32_0 : Ref sig .tc := ⟨.hbm, 133, rfl⟩
abbrev main_v32_1 : Ref sig .tc := ⟨.hbm, 134, rfl⟩
abbrev main_v32_2 : Ref sig .tc := ⟨.hbm, 135, rfl⟩
abbrev main_v32_3 : Ref sig .tc := ⟨.hbm, 136, rfl⟩
abbrev main_v32_4 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

@[reducible] def k0_t1_loop : Scf.Loop 32 :=
  let c3_i32 : BitVec 32 := 3#32
  let c28_i32 : BitVec 32 := 28#32
  let v1282 : BitVec 32 := Scalar.addi c3_i32 c28_i32
  let c1_i32 : BitVec 32 := 1#32
  ⟨c3_i32, v1282, c1_i32⟩
def k0_mult1 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1477 : BitVec 32 := 1#32
  let v2081 : BitVec 32 := Scalar.addi arg18 c1_i32_1477
  let c3_i32_1478 : BitVec 32 := 3#32
  let v2082 : BitVec 32 := Scalar.subi v2081 c3_i32_1478
  let c256_i32 : BitVec 32 := 256#32
  let v2083 : BitVec 32 := Scalar.muli v2082 c256_i32
  v2083
def k0_mult2 (k0_t1 : Fin k0_t1_loop.trips) : BitVec 32 :=
  let c3_i32 : BitVec 32 := 3#32
  let c1_i32 : BitVec 32 := 1#32
  let arg18 : BitVec 32 := Scf.iv c3_i32 c1_i32 k0_t1
  let c256_i32_1480 : BitVec 32 := 256#32
  let v2088 : BitVec 32 := Scalar.muli arg18 c256_i32_1480
  v2088
def k0_off1 (k0_t1 : Fin k0_t1_loop.trips) : Fin 2 → Nat :=
  let c3_i32 : BitVec 32 := 3#32
  let c1_i32 : BitVec 32 := 1#32
  let arg18 : BitVec 32 := Scf.iv c3_i32 c1_i32 k0_t1
  let c256_i32_1480 : BitVec 32 := 256#32
  let v2088 : BitVec 32 := Scalar.muli arg18 c256_i32_1480
  let v2089 : BitVec 32 := v2088
  let v2090 : Index := Scalar.indexCast v2089
  let c0_1481 : Index := 0#32
  ![v2090.toNat, 0]
def k0_mult3 (k0_t1 : Fin k0_t1_loop.trips) : BitVec 32 :=
  let c3_i32 : BitVec 32 := 3#32
  let c1_i32 : BitVec 32 := 1#32
  let arg18 : BitVec 32 := Scf.iv c3_i32 c1_i32 k0_t1
  let c256_i32_1482 : BitVec 32 := 256#32
  let v2093 : BitVec 32 := Scalar.muli arg18 c256_i32_1482
  v2093
def k0_off2 (k0_t1 : Fin k0_t1_loop.trips) : Fin 2 → Nat :=
  let c3_i32 : BitVec 32 := 3#32
  let c1_i32 : BitVec 32 := 1#32
  let arg18 : BitVec 32 := Scf.iv c3_i32 c1_i32 k0_t1
  let c1_i32_1477 : BitVec 32 := 1#32
  let v2081 : BitVec 32 := Scalar.addi arg18 c1_i32_1477
  let c3_i32_1478 : BitVec 32 := 3#32
  let v2082 : BitVec 32 := Scalar.subi v2081 c3_i32_1478
  let c256_i32 : BitVec 32 := 256#32
  let v2083 : BitVec 32 := Scalar.muli v2082 c256_i32
  let v2084 : BitVec 32 := v2083
  let v2108 : Index := Scalar.indexCast v2084
  let c0_1487 : Index := 0#32
  ![v2108.toNat, 0]
def k0_mult4 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c1_i32_1666 : BitVec 32 := 1#32
  let v2379 : BitVec 32 := Scalar.addi v2378 c1_i32_1666
  let c3_i32_1667 : BitVec 32 := 3#32
  let v2380 : BitVec 32 := Scalar.subi v2379 c3_i32_1667
  let c256_i32_1668 : BitVec 32 := 256#32
  let v2381 : BitVec 32 := Scalar.muli v2380 c256_i32_1668
  v2381
def k0_mult5 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c256_i32_1670 : BitVec 32 := 256#32
  let v2386 : BitVec 32 := Scalar.muli v2378 c256_i32_1670
  v2386
def k0_off3 (k0_t1 : Fin k0_t1_loop.trips) : Fin 2 → Nat :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c256_i32_1670 : BitVec 32 := 256#32
  let v2386 : BitVec 32 := Scalar.muli v2378 c256_i32_1670
  let v2387 : BitVec 32 := v2386
  let v2388 : Index := Scalar.indexCast v2387
  let c0_1671 : Index := 0#32
  ![v2388.toNat, 0]
def k0_mult6 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c256_i32_1672 : BitVec 32 := 256#32
  let v2391 : BitVec 32 := Scalar.muli v2378 c256_i32_1672
  v2391
def k0_off4 (k0_t1 : Fin k0_t1_loop.trips) : Fin 2 → Nat :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c1_i32_1666 : BitVec 32 := 1#32
  let v2379 : BitVec 32 := Scalar.addi v2378 c1_i32_1666
  let c3_i32_1667 : BitVec 32 := 3#32
  let v2380 : BitVec 32 := Scalar.subi v2379 c3_i32_1667
  let c256_i32_1668 : BitVec 32 := 256#32
  let v2381 : BitVec 32 := Scalar.muli v2380 c256_i32_1668
  let v2382 : BitVec 32 := v2381
  let v2408 : Index := Scalar.indexCast v2382
  let c0_1680 : Index := 0#32
  ![v2408.toNat, 0]
def k0_off5 (k0_t1 : Fin k0_t1_loop.trips) (c0_i32 : BitVec 32) : Fin 3 → Nat :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c1_i32_1688 : BitVec 32 := 1#32
  let v2418 : BitVec 32 := Scalar.addi v2378 c1_i32_1688
  let c3_i32_1689 : BitVec 32 := 3#32
  let v2419 : BitVec 32 := Scalar.subi v2418 c3_i32_1689
  let v2420 : BitVec 32 := Scalar.addi v2419 c0_i32
  let c3_i32_1690 : BitVec 32 := 3#32
  let v2421 : BitVec 32 := Scalar.remsi v2420 c3_i32_1690
  let v2422 : Index := Scalar.indexCast v2421
  let c0_1691 : Index := 0#32
  let c0_1692 : Index := 0#32
  ![v2422.toNat, 0, 0]
def k0_mult7 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c256_i32_1725 : BitVec 32 := 256#32
  let v2492 : BitVec 32 := Scalar.muli v2378 c256_i32_1725
  v2492
def k0_off6 (k0_t1 : Fin k0_t1_loop.trips) : Fin 3 → Nat :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c2_i32_1727 : BitVec 32 := 2#32
  let v2496 : BitVec 32 := Scalar.subi v2378 c2_i32_1727
  let c3_i32_1728 : BitVec 32 := 3#32
  let v2497 : BitVec 32 := Scalar.remsi v2496 c3_i32_1728
  let v2498 : Index := Scalar.indexCast v2497
  let c0_1729 : Index := 0#32
  let c0_1730 : Index := 0#32
  ![v2498.toNat, 0, 0]
def k0_mult8 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c2_i32_1727 : BitVec 32 := 2#32
  let v2496 : BitVec 32 := Scalar.subi v2378 c2_i32_1727
  let c256_i32_1731 : BitVec 32 := 256#32
  let v2502 : BitVec 32 := Scalar.muli v2496 c256_i32_1731
  v2502
def k0_off7 (k0_t1 : Fin k0_t1_loop.trips) : Fin 2 → Nat :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c2_i32_1727 : BitVec 32 := 2#32
  let v2496 : BitVec 32 := Scalar.subi v2378 c2_i32_1727
  let c256_i32_1731 : BitVec 32 := 256#32
  let v2502 : BitVec 32 := Scalar.muli v2496 c256_i32_1731
  let v2503 : BitVec 32 := v2502
  let v2504 : Index := Scalar.indexCast v2503
  let c0_1732 : Index := 0#32
  ![v2504.toNat, 0]
def k0_mult9 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1665 : BitVec 32 := 1#32
  let v2378 : BitVec 32 := Scalar.subi arg18 c1_i32_1665
  let c2_i32_1727 : BitVec 32 := 2#32
  let v2496 : BitVec 32 := Scalar.subi v2378 c2_i32_1727
  let c256_i32_1736 : BitVec 32 := 256#32
  let v2511 : BitVec 32 := Scalar.muli v2496 c256_i32_1736
  v2511
def k0_mult10 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1738 : BitVec 32 := 1#32
  let v2515 : BitVec 32 := Scalar.addi arg18 c1_i32_1738
  let c1_i32_1739 : BitVec 32 := 1#32
  let v2516 : BitVec 32 := Scalar.addi v2515 c1_i32_1739
  let c3_i32_1740 : BitVec 32 := 3#32
  let v2517 : BitVec 32 := Scalar.subi v2516 c3_i32_1740
  let c256_i32_1741 : BitVec 32 := 256#32
  let v2518 : BitVec 32 := Scalar.muli v2517 c256_i32_1741
  v2518
def k0_mult11 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1738 : BitVec 32 := 1#32
  let v2515 : BitVec 32 := Scalar.addi arg18 c1_i32_1738
  let c256_i32_1743 : BitVec 32 := 256#32
  let v2523 : BitVec 32 := Scalar.muli v2515 c256_i32_1743
  v2523
def k0_off8 (k0_t1 : Fin k0_t1_loop.trips) : Fin 2 → Nat :=
  let c3_i32 : BitVec 32 := 3#32
  let c1_i32 : BitVec 32 := 1#32
  let arg18 : BitVec 32 := Scf.iv c3_i32 c1_i32 k0_t1
  let c1_i32_1738 : BitVec 32 := 1#32
  let v2515 : BitVec 32 := Scalar.addi arg18 c1_i32_1738
  let c256_i32_1743 : BitVec 32 := 256#32
  let v2523 : BitVec 32 := Scalar.muli v2515 c256_i32_1743
  let v2524 : BitVec 32 := v2523
  let v2525 : Index := Scalar.indexCast v2524
  let c0_1744 : Index := 0#32
  ![v2525.toNat, 0]
def k0_mult12 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1738 : BitVec 32 := 1#32
  let v2515 : BitVec 32 := Scalar.addi arg18 c1_i32_1738
  let c256_i32_1745 : BitVec 32 := 256#32
  let v2528 : BitVec 32 := Scalar.muli v2515 c256_i32_1745
  v2528
def k0_off9 (k0_t1 : Fin k0_t1_loop.trips) : Fin 2 → Nat :=
  let c3_i32 : BitVec 32 := 3#32
  let c1_i32 : BitVec 32 := 1#32
  let arg18 : BitVec 32 := Scf.iv c3_i32 c1_i32 k0_t1
  let c1_i32_1738 : BitVec 32 := 1#32
  let v2515 : BitVec 32 := Scalar.addi arg18 c1_i32_1738
  let c1_i32_1739 : BitVec 32 := 1#32
  let v2516 : BitVec 32 := Scalar.addi v2515 c1_i32_1739
  let c3_i32_1740 : BitVec 32 := 3#32
  let v2517 : BitVec 32 := Scalar.subi v2516 c3_i32_1740
  let c256_i32_1741 : BitVec 32 := 256#32
  let v2518 : BitVec 32 := Scalar.muli v2517 c256_i32_1741
  let v2519 : BitVec 32 := v2518
  let v2543 : Index := Scalar.indexCast v2519
  let c0_1750 : Index := 0#32
  ![v2543.toNat, 0]
def k0_mult13 (k0_t1 : Fin k0_t1_loop.trips) : BitVec 32 :=
  let c3_i32 : BitVec 32 := 3#32
  let c1_i32 : BitVec 32 := 1#32
  let arg18 : BitVec 32 := Scf.iv c3_i32 c1_i32 k0_t1
  let c1_i32_1928 : BitVec 32 := 1#32
  let v2813 : BitVec 32 := Scalar.addi arg18 c1_i32_1928
  let c3_i32_1929 : BitVec 32 := 3#32
  let v2814 : BitVec 32 := Scalar.subi v2813 c3_i32_1929
  let c256_i32_1930 : BitVec 32 := 256#32
  let v2815 : BitVec 32 := Scalar.muli v2814 c256_i32_1930
  v2815
def k0_mult14 (k0_t1 : Fin k0_t1_loop.trips) : BitVec 32 :=
  let c3_i32 : BitVec 32 := 3#32
  let c1_i32 : BitVec 32 := 1#32
  let arg18 : BitVec 32 := Scf.iv c3_i32 c1_i32 k0_t1
  let c256_i32_1932 : BitVec 32 := 256#32
  let v2820 : BitVec 32 := Scalar.muli arg18 c256_i32_1932
  v2820
def k0_mult15 (k0_t1 : Fin k0_t1_loop.trips) : BitVec 32 :=
  let c3_i32 : BitVec 32 := 3#32
  let c1_i32 : BitVec 32 := 1#32
  let arg18 : BitVec 32 := Scf.iv c3_i32 c1_i32 k0_t1
  let c256_i32_1934 : BitVec 32 := 256#32
  let v2825 : BitVec 32 := Scalar.muli arg18 c256_i32_1934
  v2825
def k0_off10 (k0_t1 : Fin k0_t1_loop.trips) (c0_i32_1952 : BitVec 32) : Fin 3 → Nat :=
  let c3_i32 : BitVec 32 := 3#32
  let c1_i32 : BitVec 32 := 1#32
  let arg18 : BitVec 32 := Scf.iv c3_i32 c1_i32 k0_t1
  let c1_i32_1950 : BitVec 32 := 1#32
  let v2852 : BitVec 32 := Scalar.addi arg18 c1_i32_1950
  let c3_i32_1951 : BitVec 32 := 3#32
  let v2853 : BitVec 32 := Scalar.subi v2852 c3_i32_1951
  let v2854 : BitVec 32 := Scalar.addi v2853 c0_i32_1952
  let c3_i32_1953 : BitVec 32 := 3#32
  let v2855 : BitVec 32 := Scalar.remsi v2854 c3_i32_1953
  let v2856 : Index := Scalar.indexCast v2855
  let c0_1954 : Index := 0#32
  let c0_1955 : Index := 0#32
  ![v2856.toNat, 0, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnBwdRefIdeal.lean ====
abbrev S8192x512 : Shape := ⟨2, ![8192, 512]⟩
abbrev S8x129 : Shape := ⟨2, ![8, 129]⟩
abbrev S1x8192x8x64 : Shape := ⟨4, ![1, 8192, 8, 64]⟩
abbrev S_ : Shape := ⟨0, ![]⟩
abbrev S1x512x8x64 : Shape := ⟨4, ![1, 512, 8, 64]⟩
abbrev S1x8704x8x64 : Shape := ⟨4, ![1, 8704, 8, 64]⟩
abbrev S1x128x64x8x64 : Shape := ⟨5, ![1, 128, 64, 8, 64]⟩
abbrev S128x1x64x8x64 : Shape := ⟨5, ![128, 1, 64, 8, 64]⟩
abbrev S64 : Shape := ⟨1, ![64]⟩
abbrev S576 : Shape := ⟨1, ![576]⟩
abbrev S1x576 : Shape := ⟨2, ![1, 576]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S1x128x576x8x64 : Shape := ⟨5, ![1, 128, 576, 8, 64]⟩
abbrev S128x1x576x8x64 : Shape := ⟨5, ![128, 1, 576, 8, 64]⟩
abbrev S128 : Shape := ⟨1, ![128]⟩
abbrev S128x1x8x64x576 : Shape := ⟨5, ![128, 1, 8, 64, 576]⟩
abbrev S1x8x64x576 : Shape := ⟨4, ![1, 8, 64, 576]⟩
abbrev S1x1x8x64x576 : Shape := ⟨5, ![1, 1, 8, 64, 576]⟩
abbrev S128x1 : Shape := ⟨2, ![128, 1]⟩
abbrev S128x576 : Shape := ⟨2, ![128, 576]⟩
abbrev S128x1x8x64 : Shape := ⟨4, ![128, 1, 8, 64]⟩
abbrev S128x1x8x64x1 : Shape := ⟨5, ![128, 1, 8, 64, 1]⟩
abbrev S128x1x8x64x64 : Shape := ⟨5, ![128, 1, 8, 64, 64]⟩
abbrev S1x8192x512 : Shape := ⟨3, ![1, 8192, 512]⟩
abbrev S128x8x64 : Shape := ⟨3, ![128, 8, 64]⟩
abbrev S128x1x8x576x64 : Shape := ⟨5, ![128, 1, 8, 576, 64]⟩

abbrev nBuf : Space → Nat
  | .hbm => 295
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8x129, .f32⟩
  | 4 => ⟨S8192x512, .f32⟩
  | 5 => ⟨S1x8192x8x64, .f32⟩
  | 6 => ⟨S1x8192x8x64, .f32⟩
  | 7 => ⟨S1x8192x8x64, .f32⟩
  | 8 => ⟨S_, .f32⟩
  | 9 => ⟨S1x512x8x64, .f32⟩
  | 10 => ⟨S1x8704x8x64, .f32⟩
  | 11 => ⟨S_, .f32⟩
  | 12 => ⟨S1x512x8x64, .f32⟩
  | 13 => ⟨S1x8704x8x64, .f32⟩
  | 14 => ⟨S_, .f32⟩
  | 15 => ⟨S1x512x8x64, .f32⟩
  | 16 => ⟨S1x128x64x8x64, .f32⟩
  | 17 => ⟨S128x1x64x8x64, .f32⟩
  | 18 => ⟨S64, .i32⟩
  | 19 => ⟨S576, .i32⟩
  | 20 => ⟨S1x576, .i32⟩
  | 21 => ⟨S_, .i32⟩
  | 22 => ⟨S1x576, .i32⟩
  | 23 => ⟨S1x576, .i32⟩
  | 24 => ⟨S64x1, .i32⟩
  | 25 => ⟨S64x576, .i32⟩
  | 26 => ⟨S64x576, .i32⟩
  | 27 => ⟨S64x576, .i32⟩
  | 28 => ⟨S_, .i32⟩
  | 29 => ⟨S_, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i32⟩
  | 36 => ⟨S_, .i32⟩
  | 37 => ⟨S64x576, .i32⟩
  | 38 => ⟨S64x576, .i32⟩
  | 39 => ⟨S_, .i32⟩
  | 40 => ⟨S64x576, .i32⟩
  | 41 => ⟨S64x576, .i1⟩
  | 42 => ⟨S_, .i32⟩
  | 43 => ⟨S64x576, .i32⟩
  | 44 => ⟨S64x576, .i32⟩
  | 45 => ⟨S64x576, .i32⟩
  | 46 => ⟨S64x576x1, .i32⟩
  | 47 => ⟨S8x64x576, .f32⟩
  | 48 => ⟨S1x8192x8x64, .f32⟩
  | 49 => ⟨S1x128x64x8x64, .f32⟩
  | 50 => ⟨S1x8192x8x64, .f32⟩
  | 51 => ⟨S1x128x64x8x64, .f32⟩
  | 52 => ⟨S1x8192x8x64, .f32⟩
  | 53 => ⟨S1x128x64x8x64, .f32⟩
  | 54 => ⟨S1x8192x8x64, .f32⟩
  | 55 => ⟨S1x128x64x8x64, .f32⟩
  | 56 => ⟨S1x8192x8x64, .f32⟩
  | 57 => ⟨S1x128x64x8x64, .f32⟩
  | 58 => ⟨S1x8192x8x64, .f32⟩
  | 59 => ⟨S1x128x64x8x64, .f32⟩
  | 60 => ⟨S1x8192x8x64, .f32⟩
  | 61 => ⟨S1x128x64x8x64, .f32⟩
  | 62 => ⟨S1x8192x8x64, .f32⟩
  | 63 => ⟨S1x128x64x8x64, .f32⟩
  | 64 => ⟨S1x8192x8x64, .f32⟩
  | 65 => ⟨S1x128x64x8x64, .f32⟩
  | 66 => ⟨S1x128x576x8x64, .f32⟩
  | 67 => ⟨S128x1x576x8x64, .f32⟩
  | 68 => ⟨S1x8192x8x64, .f32⟩
  | 69 => ⟨S1x128x64x8x64, .f32⟩
  | 70 => ⟨S1x8192x8x64, .f32⟩
  | 71 => ⟨S1x128x64x8x64, .f32⟩
  | 72 => ⟨S1x8192x8x64, .f32⟩
  | 73 => ⟨S1x128x64x8x64, .f32⟩
  | 74 => ⟨S1x8192x8x64, .f32⟩
  | 75 => ⟨S1x128x64x8x64, .f32⟩
  | 76 => ⟨S1x8192x8x64, .f32⟩
  | 77 => ⟨S1x128x64x8x64, .f32⟩
  | 78 => ⟨S1x8192x8x64, .f32⟩
  | 79 => ⟨S1x128x64x8x64, .f32⟩
  | 80 => ⟨S1x8192x8x64, .f32⟩
  | 81 => ⟨S1x128x64x8x64, .f32⟩
  | 82 => ⟨S1x8192x8x64, .f32⟩
  | 83 => ⟨S1x128x64x8x64, .f32⟩
  | 84 => ⟨S1x8192x8x64, .f32⟩
  | 85 => ⟨S1x128x64x8x64, .f32⟩
  | 86 => ⟨S1x128x576x8x64, .f32⟩
  | 87 => ⟨S128x1x576x8x64, .f32⟩
  | 88 => ⟨S128, .i32⟩
  | 89 => ⟨S_, .i32⟩
  | 90 => ⟨S128, .i32⟩
  | 91 => ⟨S128, .i32⟩
  | 92 => ⟨S128x1x8x64x576, .f32⟩
  | 93 => ⟨S_, .f32⟩
  | 94 => ⟨S128x1x8x64x576, .f32⟩
  | 95 => ⟨S128x1x8x64x576, .f32⟩
  | 96 => ⟨S1x8x64x576, .f32⟩
  | 97 => ⟨S1x1x8x64x576, .f32⟩
  | 98 => ⟨S128x1x8x64x576, .f32⟩
  | 99 => ⟨S128x1x8x64x576, .f32⟩
  | 100 => ⟨S1x576, .i32⟩
  | 101 => ⟨S128x1, .i32⟩
  | 102 => ⟨S128x576, .i32⟩
  | 103 => ⟨S128x576, .i32⟩
  | 104 => ⟨S128x576, .i32⟩
  | 105 => ⟨S_, .i32⟩
  | 106 => ⟨S128x576, .i32⟩
  | 107 => ⟨S128x576, .i32⟩
  | 108 => ⟨S_, .i32⟩
  | 109 => ⟨S128x576, .i32⟩
  | 110 => ⟨S128x576, .i1⟩
  | 111 => ⟨S128x1x8x64x576, .i1⟩
  | 112 => ⟨S_, .f32⟩
  | 113 => ⟨S1x8x64x576, .f32⟩
  | 114 => ⟨S128x1x8x64x576, .f32⟩
  | 115 => ⟨S128x1x8x64x576, .f32⟩
  | 116 => ⟨S_, .f32⟩
  | 117 => ⟨S128x1x8x64x576, .f32⟩
  | 118 => ⟨S_, .f32⟩
  | 119 => ⟨S128x1x8x64, .f32⟩
  | 120 => ⟨S128x1x8x64x1, .f32⟩
  | 121 => ⟨S128x1x8x64x576, .f32⟩
  | 122 => ⟨S128x1x8x64x576, .i1⟩
  | 123 => ⟨S128x1x8x64x576, .f32⟩
  | 124 => ⟨S_, .f32⟩
  | 125 => ⟨S128x1x8x64, .f32⟩
  | 126 => ⟨S_, .f32⟩
  | 127 => ⟨S128x1x8x64, .f32⟩
  | _ => ⟨S8192x512, .f32⟩

abbrev hbmTy0_1 (i : Nat) : BufTy := match i % 128 with
  | 0 => ⟨S128x1x8x64, .f32⟩
  | 1 => ⟨S_, .f32⟩
  | 2 => ⟨S128x1x8x64, .f32⟩
  | 3 => ⟨S128x1x8x64, .i1⟩
  | 4 => ⟨S_, .f32⟩
  | 5 => ⟨S128x1x8x64, .f32⟩
  | 6 => ⟨S128x1x8x64, .i1⟩
  | 7 => ⟨S_, .f32⟩
  | 8 => ⟨S128x1x8x64, .f32⟩
  | 9 => ⟨S_, .f32⟩
  | 10 => ⟨S128x1x8x64, .f32⟩
  | 11 => ⟨S_, .f32⟩
  | 12 => ⟨S128x1x8x64, .f32⟩
  | 13 => ⟨S128x1x8x64, .f32⟩
  | 14 => ⟨S128x1x8x64, .f32⟩
  | 15 => ⟨S128x1x8x64x1, .f32⟩
  | 16 => ⟨S128x1x8x64x576, .f32⟩
  | 17 => ⟨S128x1x8x64x576, .f32⟩
  | 18 => ⟨S128x1x8x64x576, .f32⟩
  | 19 => ⟨S_, .f32⟩
  | 20 => ⟨S128x1x8x64, .f32⟩
  | 21 => ⟨S128x1x8x64x1, .f32⟩
  | 22 => ⟨S128x1x8x64x576, .f32⟩
  | 23 => ⟨S128x1x8x64x576, .f32⟩
  | 24 => ⟨S128x1x8x64x1, .f32⟩
  | 25 => ⟨S_, .f32⟩
  | 26 => ⟨S128x1x8x64x1, .f32⟩
  | 27 => ⟨S128x1x8x64x1, .f32⟩
  | 28 => ⟨S128x1x8x64x64, .f32⟩
  | 29 => ⟨S128x1x64x8x64, .f32⟩
  | 30 => ⟨S1x128x64x8x64, .f32⟩
  | 31 => ⟨S1x8192x512, .f32⟩
  | 32 => ⟨S8192x512, .f32⟩
  | 33 => ⟨S1x8192x512, .f32⟩
  | 34 => ⟨S1x128x64x8x64, .f32⟩
  | 35 => ⟨S128x1x64x8x64, .f32⟩
  | 36 => ⟨S128x1x8x64x64, .f32⟩
  | 37 => ⟨S128x1x8x64x576, .f32⟩
  | 38 => ⟨S128x1x8x64x576, .f32⟩
  | 39 => ⟨S128x1x576x8x64, .f32⟩
  | 40 => ⟨S128x1x8x64x576, .f32⟩
  | 41 => ⟨S128x1x8x64x576, .f32⟩
  | 42 => ⟨S128x1x8x64x576, .f32⟩
  | 43 => ⟨S_, .f32⟩
  | 44 => ⟨S128x1x8x64, .f32⟩
  | 45 => ⟨S128x1x8x64x1, .f32⟩
  | 46 => ⟨S128x1x8x64x1, .f32⟩
  | 47 => ⟨S128x1x8x64x576, .f32⟩
  | 48 => ⟨S128x1x8x64x576, .f32⟩
  | 49 => ⟨S_, .f32⟩
  | 50 => ⟨S128x8x64, .f32⟩
  | 51 => ⟨S128x1x8x64, .f32⟩
  | 52 => ⟨S128x1x8x64x576, .f32⟩
  | 53 => ⟨S128x1x8x64x576, .f32⟩
  | 54 => ⟨S128x1x8x64x576, .f32⟩
  | 55 => ⟨S_, .f32⟩
  | 56 => ⟨S128x1x8x64x576, .f32⟩
  | 57 => ⟨S128x1x8x64x576, .f32⟩
  | 58 => ⟨S_, .f32⟩
  | 59 => ⟨S128x1x8x64x576, .f32⟩
  | 60 => ⟨S128x1x8x64x576, .f32⟩
  | 61 => ⟨S128x1x8x576x64, .f32⟩
  | 62 => ⟨S128x1x576x8x64, .f32⟩
  | 63 => ⟨S128x1x8x64x64, .f32⟩
  | 64 => ⟨S128x1x64x8x64, .f32⟩
  | 65 => ⟨S1x128x576x8x64, .f32⟩
  | 66 => ⟨S1x128x64x8x64, .f32⟩
  | 67 => ⟨S1x128x64x8x64, .f32⟩
  | 68 => ⟨S1x128x64x8x64, .f32⟩
  | 69 => ⟨S1x128x64x8x64, .f32⟩
  | 70 => ⟨S1x128x64x8x64, .f32⟩
  | 71 => ⟨S1x128x64x8x64, .f32⟩
  | 72 => ⟨S1x128x64x8x64, .f32⟩
  | 73 => ⟨S1x128x64x8x64, .f32⟩
  | 74 => ⟨S1x128x64x8x64, .f32⟩
  | 75 => ⟨S1x8192x8x64, .f32⟩
  | 76 => ⟨S_, .f32⟩
  | 77 => ⟨S1x8704x8x64, .f32⟩
  | 78 => ⟨S1x8192x8x64, .f32⟩
  | 79 => ⟨S_, .f32⟩
  | 80 => ⟨S1x8704x8x64, .f32⟩
  | 81 => ⟨S1x8704x8x64, .f32⟩
  | 82 => ⟨S1x8192x8x64, .f32⟩
  | 83 => ⟨S_, .f32⟩
  | 84 => ⟨S1x8704x8x64, .f32⟩
  | 85 => ⟨S1x8704x8x64, .f32⟩
  | 86 => ⟨S1x8192x8x64, .f32⟩
  | 87 => ⟨S_, .f32⟩
  | 88 => ⟨S1x8704x8x64, .f32⟩
  | 89 => ⟨S1x8704x8x64, .f32⟩
  | 90 => ⟨S1x8192x8x64, .f32⟩
  | 91 => ⟨S_, .f32⟩
  | 92 => ⟨S1x8704x8x64, .f32⟩
  | 93 => ⟨S1x8704x8x64, .f32⟩
  | 94 => ⟨S1x8192x8x64, .f32⟩
  | 95 => ⟨S_, .f32⟩
  | 96 => ⟨S1x8704x8x64, .f32⟩
  | 97 => ⟨S1x8704x8x64, .f32⟩
  | 98 => ⟨S1x8192x8x64, .f32⟩
  | 99 => ⟨S_, .f32⟩
  | 100 => ⟨S1x8704x8x64, .f32⟩
  | 101 => ⟨S1x8704x8x64, .f32⟩
  | 102 => ⟨S1x8192x8x64, .f32⟩
  | 103 => ⟨S_, .f32⟩
  | 104 => ⟨S1x8704x8x64, .f32⟩
  | 105 => ⟨S1x8704x8x64, .f32⟩
  | 106 => ⟨S1x8192x8x64, .f32⟩
  | 107 => ⟨S_, .f32⟩
  | 108 => ⟨S1x8704x8x64, .f32⟩
  | 109 => ⟨S1x8704x8x64, .f32⟩
  | 110 => ⟨S1x128x576x8x64, .f32⟩
  | 111 => ⟨S1x128x64x8x64, .f32⟩
  | 112 => ⟨S1x128x64x8x64, .f32⟩
  | 113 => ⟨S1x128x64x8x64, .f32⟩
  | 114 => ⟨S1x128x64x8x64, .f32⟩
  | 115 => ⟨S1x128x64x8x64, .f32⟩
  | 116 => ⟨S1x128x64x8x64, .f32⟩
  | 117 => ⟨S1x128x64x8x64, .f32⟩
  | 118 => ⟨S1x128x64x8x64, .f32⟩
  | 119 => ⟨S1x128x64x8x64, .f32⟩
  | 120 => ⟨S1x8192x8x64, .f32⟩
  | 121 => ⟨S_, .f32⟩
  | 122 => ⟨S1x8704x8x64, .f32⟩
  | 123 => ⟨S1x8192x8x64, .f32⟩
  | 124 => ⟨S_, .f32⟩
  | 125 => ⟨S1x8704x8x64, .f32⟩
  | 126 => ⟨S1x8704x8x64, .f32⟩
  | 127 => ⟨S1x8192x8x64, .f32⟩
  | _ => ⟨S8192x512, .f32⟩

abbrev hbmTy0_2 (i : Nat) : BufTy := match i % 128 with
  | 0 => ⟨S_, .f32⟩
  | 1 => ⟨S1x8704x8x64, .f32⟩
  | 2 => ⟨S1x8704x8x64, .f32⟩
  | 3 => ⟨S1x8192x8x64, .f32⟩
  | 4 => ⟨S_, .f32⟩
  | 5 => ⟨S1x8704x8x64, .f32⟩
  | 6 => ⟨S1x8704x8x64, .f32⟩
  | 7 => ⟨S1x8192x8x64, .f32⟩
  | 8 => ⟨S_, .f32⟩
  | 9 => ⟨S1x8704x8x64, .f32⟩
  | 10 => ⟨S1x8704x8x64, .f32⟩
  | 11 => ⟨S1x8192x8x64, .f32⟩
  | 12 => ⟨S_, .f32⟩
  | 13 => ⟨S1x8704x8x64, .f32⟩
  | 14 => ⟨S1x8704x8x64, .f32⟩
  | 15 => ⟨S1x8192x8x64, .f32⟩
  | 16 => ⟨S_, .f32⟩
  | 17 => ⟨S1x8704x8x64, .f32⟩
  | 18 => ⟨S1x8704x8x64, .f32⟩
  | 19 => ⟨S1x8192x8x64, .f32⟩
  | 20 => ⟨S_, .f32⟩
  | 21 => ⟨S1x8704x8x64, .f32⟩
  | 22 => ⟨S1x8704x8x64, .f32⟩
  | 23 => ⟨S1x8192x8x64, .f32⟩
  | 24 => ⟨S_, .f32⟩
  | 25 => ⟨S1x8704x8x64, .f32⟩
  | 26 => ⟨S1x8704x8x64, .f32⟩
  | 27 => ⟨S1x128x64x8x64, .f32⟩
  | 28 => ⟨S1x8192x8x64, .f32⟩
  | 29 => ⟨S1x512x8x64, .f32⟩
  | 30 => ⟨S1x8192x8x64, .f32⟩
  | 31 => ⟨S1x512x8x64, .f32⟩
  | 32 => ⟨S1x8192x8x64, .f32⟩
  | 33 => ⟨S8192x512, .f32⟩
  | 34 => ⟨S8192x512, .f32⟩
  | 35 => ⟨S8192x512, .f32⟩
  | 36 => ⟨S8192x512, .bf16⟩
  | 37 => ⟨S8192x512, .bf16⟩
  | 38 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_7 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_8 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_9 : Ref sig .tc := ⟨.hbm, 105, rfl⟩
abbrev main_v84 : Ref sig .tc := ⟨.hbm, 106, rfl⟩
abbrev main_v85 : Ref sig .tc := ⟨.hbm, 107, rfl⟩
abbrev main_c_10 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_11 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_12 : Ref sig .tc := ⟨.hbm, 116, rfl⟩
abbrev main_v92 : Ref sig .tc := ⟨.hbm, 117, rfl⟩
abbrev main_cst_13 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_14 : Ref sig .tc := ⟨.hbm, 124, rfl⟩
abbrev main_v98 : Ref sig .tc := ⟨.hbm, 125, rfl⟩
abbrev main_cst_15 : Ref sig .tc := ⟨.hbm, 126, rfl⟩
abbrev main_v99 : Ref sig .tc := ⟨.hbm, 127, rfl⟩
abbrev main_v100 : Ref sig .tc := ⟨.hbm, 128, rfl⟩
abbrev main_cst_16 : Ref sig .tc := ⟨.hbm, 129, rfl⟩
abbrev main_v101 : Ref sig .tc := ⟨.hbm, 130, rfl⟩
abbrev main_v102 : Ref sig .tc := ⟨.hbm, 131, rfl⟩
abbrev main_cst_17 : Ref sig .tc := ⟨.hbm, 132, rfl⟩
abbrev main_v103 : Ref sig .tc := ⟨.hbm, 133, rfl⟩
abbrev main_v104 : Ref sig .tc := ⟨.hbm, 134, rfl⟩
abbrev main_cst_18 : Ref sig .tc := ⟨.hbm, 135, rfl⟩
abbrev main_v105 : Ref sig .tc := ⟨.hbm, 136, rfl⟩
abbrev main_cst_19 : Ref sig .tc := ⟨.hbm, 137, rfl⟩
abbrev main_v106 : Ref sig .tc := ⟨.hbm, 138, rfl⟩
abbrev main_cst_20 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_21 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_22 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_23 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_24 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_cst_25 : Ref sig .tc := ⟨.hbm, 183, rfl⟩
abbrev main_v146 : Ref sig .tc := ⟨.hbm, 184, rfl⟩
abbrev main_v147 : Ref sig .tc := ⟨.hbm, 185, rfl⟩
abbrev main_cst_26 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_27 : Ref sig .tc := ⟨.hbm, 204, rfl⟩
abbrev main_v165 : Ref sig .tc := ⟨.hbm, 205, rfl⟩
abbrev main_v166 : Ref sig .tc := ⟨.hbm, 206, rfl⟩
abbrev main_cst_28 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_29 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_cst_30 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_cst_31 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_32 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_33 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_cst_34 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_cst_35 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_cst_36 : Ref sig .tc := ⟨.hbm, 249, rfl⟩
abbrev main_v201 : Ref sig .tc := ⟨.hbm, 250, rfl⟩
abbrev main_v202 : Ref sig .tc := ⟨.hbm, 251, rfl⟩
abbrev main_cst_37 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_cst_38 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_cst_39 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_cst_40 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_cst_41 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_cst_42 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_cst_43 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_cst_44 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S1024x3072 : Shape := ⟨2, ![1024, 3072]⟩
abbrev S4x128x128 : Shape := ⟨3, ![4, 128, 128]⟩
abbrev S512 : Shape := ⟨1, ![512]⟩
abbrev S1024x8x384 : Shape := ⟨3, ![1024, 8, 384]⟩
abbrev S8x1024x384 : Shape := ⟨3, ![8, 1024, 384]⟩
abbrev S1x1024 : Shape := ⟨2, ![1, 1024]⟩
abbrev S1x512 : Shape := ⟨2, ![1, 512]⟩
abbrev S8192x1536 : Shape := ⟨2, ![8192, 1536]⟩
abbrev S8192x512 : Shape := ⟨2, ![8192, 512]⟩
abbrev S512x1024 : Shape := ⟨2, ![512, 1024]⟩
abbrev S512x1536 : Shape := ⟨2, ![512, 1536]⟩
abbrev S512x512 : Shape := ⟨2, ![512, 512]⟩
abbrev S16x512 : Shape := ⟨2, ![16, 512]⟩
abbrev S8 : Shape := ⟨1, ![8]⟩
abbrev S1 : Shape := ⟨1, ![1]⟩
abbrev S_ : Shape := ⟨0, ![]⟩
abbrev S1024x384 : Shape := ⟨2, ![1024, 384]⟩
abbrev S1x1024x384 : Shape := ⟨3, ![1, 1024, 384]⟩
abbrev S512x1 : Shape := ⟨2, ![512, 1]⟩
abbrev S1024x512 : Shape := ⟨2, ![1024, 512]⟩
abbrev S512x128 : Shape := ⟨2, ![512, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S4x128x128, .f32⟩
  | .hbm, ⟨4, _⟩ => ⟨S512, .f32⟩
  | .hbm, ⟨5, _⟩ => ⟨S1024x3072, .bf16⟩
  | .hbm, ⟨6, _⟩ => ⟨S1024x8x384, .bf16⟩
  | .hbm, ⟨7, _⟩ => ⟨S8x1024x384, .bf16⟩
  | .hbm, ⟨8, _⟩ => ⟨S1x1024, .f32⟩
  | .hbm, ⟨9, _⟩ => ⟨S1x512, .f32⟩
  | .hbm, ⟨10, _⟩ => ⟨S8192x1024, .f32⟩
  | .hbm, ⟨11, _⟩ => ⟨S8192x1536, .bf16⟩
  | .hbm, ⟨12, _⟩ => ⟨S8192x512, .f32⟩
  | .hbm, ⟨13, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x128x128, .f32⟩
  | .local _ .vmem, ⟨4, _⟩ => ⟨S1x512, .f32⟩
  | .local _ .vmem, ⟨5, _⟩ => ⟨S512x1024, .f32⟩
  | .local _ .vmem, ⟨6, _⟩ => ⟨S512x1024, .f32⟩
  | .local _ .vmem, ⟨7, _⟩ => ⟨S512x1536, .bf16⟩
  | .local _ .vmem, ⟨8, _⟩ => ⟨S512x1536, .bf16⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S1024x3072, .bf16⟩
  | .local _ .vmem, ⟨14, _⟩ => ⟨S16x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjRefIdeal.lean ====
abbrev S8192x1024 : Shape := ⟨2, ![8192, 1024]⟩
abbrev S1024 : Shape := ⟨1, ![1024]⟩
abbrev S1024x3072 : Shape := ⟨2, ![1024, 3072]⟩
abbrev S4x128x128 : Shape := ⟨3, ![4, 128, 128]⟩
abbrev S512 : Shape := ⟨1, ![512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S8192x512 : Shape := ⟨2, ![8192, 512]⟩
abbrev S1x8192x512 : Shape := ⟨3, ![1, 8192, 512]⟩
abbrev S1x1x512 : Shape := ⟨3, ![1, 1, 512]⟩
abbrev S1x8193x512 : Shape := ⟨3, ![1, 8193, 512]⟩
abbrev S1x8193x128 : Shape := ⟨3, ![1, 8193, 128]⟩
abbrev S1x8192x128 : Shape := ⟨3, ![1, 8192, 128]⟩
abbrev S1 : Shape := ⟨1, ![1]⟩
abbrev S1x1 : Shape := ⟨2, ![1, 1]⟩
abbrev S1x8192x1 : Shape := ⟨3, ![1, 8192, 1]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S8192x1536 : Shape := ⟨2, ![8192, 1536]⟩

abbrev nBuf : Space → Nat
  | .hbm => 241
  | .vmem => 0
  | .smem => 0
  | _ => 0

abbrev hbmTy0_0 (i : Nat) : BufTy := match i % 128 with
  | 0 => ⟨S8192x1024, .f32⟩
  | 1 => ⟨S1024, .f32⟩
  | 2 => ⟨S1024x3072, .f32⟩
  | 3 => ⟨S4x128x128, .f32⟩
  | 4 => ⟨S512, .f32⟩
  | 5 => ⟨S8192x1024, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x1024, .f32⟩
  | 17 => ⟨S8192x1024, .f32⟩
  | 18 => ⟨S1x1024, .f32⟩
  | 19 => ⟨S8192x1024, .f32⟩
  | 20 => ⟨S8192x1024, .f32⟩
  | 21 => ⟨S8192x3072, .f32⟩
  | 22 => ⟨S8192x512, .f32⟩
  | 23 => ⟨S1x8192x512, .f32⟩
  | 24 => ⟨S8192x512, .f32⟩
  | 25 => ⟨S1x8192x512, .f32⟩
  | 26 => ⟨S1x1x512, .f32⟩
  | 27 => ⟨S_, .f32⟩
  | 28 => ⟨S1x1x512, .f32⟩
  | 29 => ⟨S_, .f32⟩
  | 30 => ⟨S_, .f32⟩
  | 31 => ⟨S1x8192x512, .f32⟩
  | 32 => ⟨S1x8193x512, .f32⟩
  | 33 => ⟨S8192, .i32⟩
  | 34 => ⟨S1x8193x128, .f32⟩
  | 35 => ⟨S_, .i32⟩
  | 36 => ⟨S8192, .i32⟩
  | 37 => ⟨S8192, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S1x8192x128, .f32⟩
  | 45 => ⟨S_, .i32⟩
  | 46 => ⟨S8192, .i32⟩
  | 47 => ⟨S8192, .i1⟩
  | 48 => ⟨S_, .i32⟩
  | 49 => ⟨S8192, .i32⟩
  | 50 => ⟨S8192, .i32⟩
  | 51 => ⟨S8192, .i32⟩
  | 52 => ⟨S8192x1, .i32⟩
  | 53 => ⟨S1, .i32⟩
  | 54 => ⟨S_, .i32⟩
  | 55 => ⟨S8192x1, .i32⟩
  | 56 => ⟨S8192x1, .i1⟩
  | 57 => ⟨S1x1, .i32⟩
  | 58 => ⟨S8192x1, .i32⟩
  | 59 => ⟨S8192x1, .i1⟩
  | 60 => ⟨S8192x1, .i1⟩
  | 61 => ⟨S_, .i1⟩
  | 62 => ⟨S8192, .i1⟩
  | 63 => ⟨S1x8192x128, .f32⟩
  | 64 => ⟨S1x8192x128, .i1⟩
  | 65 => ⟨S_, .f32⟩
  | 66 => ⟨S1x8192x128, .f32⟩
  | 67 => ⟨S1x8192x128, .f32⟩
  | 68 => ⟨S1x8192x128, .f32⟩
  | 69 => ⟨S_, .i32⟩
  | 70 => ⟨S8192, .i32⟩
  | 71 => ⟨S8192, .i32⟩
  | 72 => ⟨S8192, .i32⟩
  | 73 => ⟨S8192, .f32⟩
  | 74 => ⟨S1x8192x1, .f32⟩
  | 75 => ⟨S1x8192x128, .f32⟩
  | 76 => ⟨S1x8192x128, .f32⟩
  | 77 => ⟨S1x8192x128, .f32⟩
  | 78 => ⟨S1x8192x128, .f32⟩
  | 79 => ⟨S1x8193x128, .f32⟩
  | 80 => ⟨S_, .i32⟩
  | 81 => ⟨S8192, .i32⟩
  | 82 => ⟨S8192, .i32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S1x8192x128, .f32⟩
  | 90 => ⟨S_, .i32⟩
  | 91 => ⟨S8192, .i32⟩
  | 92 => ⟨S8192, .i1⟩
  | 93 => ⟨S_, .i32⟩
  | 94 => ⟨S8192, .i32⟩
  | 95 => ⟨S8192, .i32⟩
  | 96 => ⟨S8192, .i32⟩
  | 97 => ⟨S8192x1, .i32⟩
  | 98 => ⟨S1, .i32⟩
  | 99 => ⟨S_, .i32⟩
  | 100 => ⟨S8192x1, .i32⟩
  | 101 => ⟨S8192x1, .i1⟩
  | 102 => ⟨S1x1, .i32⟩
  | 103 => ⟨S8192x1, .i32⟩
  | 104 => ⟨S8192x1, .i1⟩
  | 105 => ⟨S8192x1, .i1⟩
  | 106 => ⟨S_, .i1⟩
  | 107 => ⟨S8192, .i1⟩
  | 108 => ⟨S1x8192x128, .f32⟩
  | 109 => ⟨S1x8192x128, .i1⟩
  | 110 => ⟨S_, .f32⟩
  | 111 => ⟨S1x8192x128, .f32⟩
  | 112 => ⟨S1x8192x128, .f32⟩
  | 113 => ⟨S1x8192x128, .f32⟩
  | 114 => ⟨S_, .i32⟩
  | 115 => ⟨S8192, .i32⟩
  | 116 => ⟨S8192, .i32⟩
  | 117 => ⟨S8192, .i32⟩
  | 118 => ⟨S8192, .f32⟩
  | 119 => ⟨S1x8192x1, .f32⟩
  | 120 => ⟨S1x8192x128, .f32⟩
  | 121 => ⟨S1x8192x128, .f32⟩
  | 122 => ⟨S1x8192x128, .f32⟩
  | 123 => ⟨S1x8192x128, .f32⟩
  | 124 => ⟨S1x8193x128, .f32⟩
  | 125 => ⟨S_, .i32⟩
  | 126 => ⟨S8192, .i32⟩
  | 127 => ⟨S8192, .i32⟩
  | _ => ⟨S8192x1024, .f32⟩

abbrev hbmTy0_1 (i : Nat) : BufTy := match i % 128 with
  | 0 => ⟨S_, .i32⟩
  | 1 => ⟨S8192, .i32⟩
  | 2 => ⟨S8192, .i32⟩
  | 3 => ⟨S_, .i32⟩
  | 4 => ⟨S8192, .i32⟩
  | 5 => ⟨S8192, .i32⟩
  | 6 => ⟨S1x8192x128, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S1, .i32⟩
  | 16 => ⟨S_, .i32⟩
  | 17 => ⟨S8192x1, .i32⟩
  | 18 => ⟨S8192x1, .i1⟩
  | 19 => ⟨S1x1, .i32⟩
  | 20 => ⟨S8192x1, .i32⟩
  | 21 => ⟨S8192x1, .i1⟩
  | 22 => ⟨S8192x1, .i1⟩
  | 23 => ⟨S_, .i1⟩
  | 24 => ⟨S8192, .i1⟩
  | 25 => ⟨S1x8192x128, .f32⟩
  | 26 => ⟨S1x8192x128, .i1⟩
  | 27 => ⟨S_, .f32⟩
  | 28 => ⟨S1x8192x128, .f32⟩
  | 29 => ⟨S1x8192x128, .f32⟩
  | 30 => ⟨S1x8192x128, .f32⟩
  | 31 => ⟨S_, .i32⟩
  | 32 => ⟨S8192, .i32⟩
  | 33 => ⟨S8192, .i32⟩
  | 34 => ⟨S8192, .i32⟩
  | 35 => ⟨S8192, .f32⟩
  | 36 => ⟨S1x8192x1, .f32⟩
  | 37 => ⟨S1x8192x128, .f32⟩
  | 38 => ⟨S1x8192x128, .f32⟩
  | 39 => ⟨S1x8192x128, .f32⟩
  | 40 => ⟨S1x8192x128, .f32⟩
  | 41 => ⟨S1x8193x128, .f32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S1x8192x128, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S1, .i32⟩
  | 61 => ⟨S_, .i32⟩
  | 62 => ⟨S8192x1, .i32⟩
  | 63 => ⟨S8192x1, .i1⟩
  | 64 => ⟨S1x1, .i32⟩
  | 65 => ⟨S8192x1, .i32⟩
  | 66 => ⟨S8192x1, .i1⟩
  | 67 => ⟨S8192x1, .i1⟩
  | 68 => ⟨S_, .i1⟩
  | 69 => ⟨S8192, .i1⟩
  | 70 => ⟨S1x8192x128, .f32⟩
  | 71 => ⟨S1x8192x128, .i1⟩
  | 72 => ⟨S_, .f32⟩
  | 73 => ⟨S1x8192x128, .f32⟩
  | 74 => ⟨S1x8192x128, .f32⟩
  | 75 => ⟨S1x8192x128, .f32⟩
  | 76 => ⟨S_, .i32⟩
  | 77 => ⟨S8192, .i32⟩
  | 78 => ⟨S8192, .i32⟩
  | 79 => ⟨S8192, .i32⟩
  | 80 => ⟨S8192, .f32⟩
  | 81 => ⟨S1x8192x1, .f32⟩
  | 82 => ⟨S1x8192x128, .f32⟩
  | 83 => ⟨S1x8192x128, .f32⟩
  | 84 => ⟨S1x8192x128, .f32⟩
  | 85 => ⟨S1x8192x128, .f32⟩
  | 86 => ⟨S1x8192x1x128, .f32⟩
  | 87 => ⟨S1x8192x1x128, .f32⟩
  | 88 => ⟨S1x8192x1x128, .f32⟩
  | 89 => ⟨S1x8192x1x128, .f32⟩
  | 90 => ⟨S1x8192x4x128, .f32⟩
  | 91 => ⟨S4x128x1x8192, .f32⟩
  | 92 => ⟨S1x8192x4x128, .f32⟩
  | 93 => ⟨S1x8192x512, .f32⟩
  | 94 => ⟨S1x1x512, .f32⟩
  | 95 => ⟨S1x8192x512, .f32⟩
  | 96 => ⟨S1x8192x512, .f32⟩
  | 97 => ⟨S1x8192x512, .f32⟩
  | 98 => ⟨S1x8192x512, .f32⟩
  | 99 => ⟨S_, .f32⟩
  | 100 => ⟨S1x8192x512, .f32⟩
  | 101 => ⟨S1x8192x512, .f32⟩
  | 102 => ⟨S_, .f32⟩
  | 103 => ⟨S1x8192x512, .f32⟩
  | 104 => ⟨S1x8192x512, .f32⟩
  | 105 => ⟨S1x8192x512, .f32⟩
  | 106 => ⟨S1x8192x512, .f32⟩
  | 107 => ⟨S8192x512, .f32⟩
  | 108 => ⟨S8192x1024, .f32⟩
  | 109 => ⟨S8192x1536, .f32⟩
  | 110 => ⟨S8192x1536, .bf16⟩
  | 111 => ⟨S8192x512, .f32⟩
  | 112 => ⟨S8192x512, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_call0_call0_cst : Ref sig .tc := ⟨.hbm, 29, rfl⟩
abbrev main_call0_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v31 : Ref sig .tc := ⟨.hbm, 67, rfl⟩
abbrev main_v32 : Ref sig .tc := ⟨.hbm, 68, rfl⟩
abbrev main_c_5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c_6 : Ref sig .tc := ⟨.hbm, 80, rfl⟩
abbrev main_v43 : Ref sig .tc := ⟨.hbm, 81, rfl⟩
abbrev main_v44 : Ref sig .tc := ⟨.hbm, 82, rfl⟩
abbrev main_c_7 : Ref sig .tc := ⟨.hbm, 83, rfl⟩
abbrev main_v45 : Ref sig .tc := ⟨.hbm, 84, rfl⟩
abbrev main_v46 : Ref sig .tc := ⟨.hbm, 85, rfl⟩
abbrev main_c_8 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v50 : Ref sig .tc := ⟨.hbm, 112, rfl⟩
abbrev main_v51 : Ref sig .tc := ⟨.hbm, 113, rfl⟩
abbrev main_c_9 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_c_10 : Ref sig .tc := ⟨.hbm, 125, rfl⟩
abbrev main_v62 : Ref sig .tc := ⟨.hbm, 126, rfl⟩
abbrev main_v63 : Ref sig .tc := ⟨.hbm, 127, rfl⟩
abbrev main_c_11 : Ref sig .tc := ⟨.hbm, 128, rfl⟩
abbrev main_v64 : Ref sig .tc := ⟨.hbm, 129, rfl⟩
abbrev main_v65 : Ref sig .tc := ⟨.hbm, 130, rfl⟩
abbrev main_c_12 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_call3_c : Ref sig .tc := ⟨.hbm, 135, rfl⟩
abbrev main_call3_v0 : Ref sig .tc := ⟨.hbm, 136, rfl⟩
abbrev main_call3_v1 : Ref sig .tc := ⟨.hbm, 137, rfl⟩
abbrev main_call3_c_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c_1 : Ref sig .tc := ⟨.hbm, 143, rfl⟩
abbrev main_call3_c_2 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_3 : Ref sig .tc := ⟨.hbm, 151, rfl⟩
abbrev main_call3_v12 : Ref sig .tc := ⟨.hbm, 152, rfl⟩
abbrev main_call3_v13 : Ref sig .tc := ⟨.hbm, 153, rfl⟩
abbrev main_call3_v14 : Ref sig .tc := ⟨.hbm, 154, rfl⟩
abbrev main_call3_cst : Ref sig .tc := ⟨.hbm, 155, rfl⟩
abbrev main_call3_v15 : Ref sig .tc := ⟨.hbm, 156, rfl⟩
abbrev main_v69 : Ref sig .tc := ⟨.hbm, 157, rfl⟩
abbrev main_v70 : Ref sig .tc := ⟨.hbm, 158, rfl⟩
abbrev main_c_13 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_c_14 : Ref sig .tc := ⟨.hbm, 170, rfl⟩
abbrev main_v81 : Ref sig .tc := ⟨.hbm, 171, rfl⟩
abbrev main_v82 : Ref sig .tc := ⟨.hbm, 172, rfl⟩
abbrev main_c_15 : Ref sig .tc := ⟨.hbm, 173, rfl⟩
abbrev main_v83 : Ref sig .tc := ⟨.hbm, 174, rfl⟩
abbrev main_v84 : Ref sig .tc := ⟨.hbm, 175, rfl⟩
abbrev main_c_16 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_call4_c : Ref sig .tc := ⟨.hbm, 180, rfl⟩
abbrev main_call4_v0 : Ref sig .tc := ⟨.hbm, 181, rfl⟩
abbrev main_call4_v1 : Ref sig .tc := ⟨.hbm, 182, rfl⟩
abbrev main_call4_c_0 : Ref sig .tc := ⟨.hbm, 183, rfl⟩
abbrev main_call4_v2 : Ref sig .tc := ⟨.hbm, 184, rfl⟩
abbrev main_call4_v3 : Ref sig .tc := ⟨.hbm, 185, rfl⟩
abbrev main_call4_v4 : Ref sig .tc := ⟨.hbm, 186, rfl⟩
abbrev main_call4_v5 : Ref sig .tc := ⟨.hbm, 187, rfl⟩
abbrev main_call4_c_1 : Ref sig .tc := ⟨.hbm, 188, rfl⟩
abbrev main_call4_c_2 : Ref sig .tc := ⟨.hbm, 189, rfl⟩
abbrev main_call4_v6 : Ref sig .tc := ⟨.hbm, 190, rfl⟩
abbrev main_call4_v7 : Ref sig .tc := ⟨.hbm, 191, rfl⟩
abbrev main_call4_v8 : Ref sig .tc := ⟨.hbm, 192, rfl⟩
abbrev main_call4_v9 : Ref sig .tc := ⟨.hbm, 193, rfl⟩
abbrev main_call4_v10 : Ref sig .tc := ⟨.hbm, 194, rfl⟩
abbrev main_call4_v11 : Ref sig .tc := ⟨.hbm, 195, rfl⟩
abbrev main_call4_c_3 : Ref sig .tc := ⟨.hbm, 196, rfl⟩
abbrev main_call4_v12 : Ref sig .tc := ⟨.hbm, 197, rfl⟩
abbrev main_call4_v13 : Ref sig .tc := ⟨.hbm, 198, rfl⟩
abbrev main_call4_v14 : Ref sig .tc := ⟨.hbm, 199, rfl⟩
abbrev main_call4_cst : Ref sig .tc := ⟨.hbm, 200, rfl⟩
abbrev main_call4_v15 : Ref sig .tc := ⟨.hbm, 201, rfl⟩
abbrev main_v88 : Ref sig .tc := ⟨.hbm, 202, rfl⟩
abbrev main_v89 : Ref sig .tc := ⟨.hbm, 203, rfl⟩
abbrev main_c_17 : Ref sig .tc := ⟨.hbm, 204, rfl⟩
abbrev main_v90 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_call5_v0 : Ref sig .tc := ⟨.hbm, 225, rfl⟩
abbrev main_call5_v1 : Ref sig .tc := ⟨.hbm, 226, rfl⟩
abbrev main_call5_cst : Ref sig .tc := ⟨.hbm, 227, rfl⟩
abbrev main_call5_v2 : Ref sig .tc := ⟨.hbm, 228, rfl⟩
abbrev main_call5_v3 : Ref sig .tc := ⟨.hbm, 229, rfl⟩
abbrev main_call5_cst_0 : Ref sig .tc := ⟨.hbm, 230, rfl⟩
abbrev main_call5_v4 : Ref sig .tc := ⟨.hbm, 231, rfl⟩
abbrev main_call5_v5 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩

abbrev nD : Nat := 1
abbrev τ : Topo := Topo.v7x

variable {F : FTy → Type} [FloatOps F]
-- ==== AttnFwd.lean ====
abbrev S8192x512 : Shape := ⟨2, ![8192, 512]⟩
abbrev S8x129 : Shape := ⟨2, ![8, 129]⟩
abbrev S8192x1536 : Shape := ⟨2, ![8192, 1536]⟩
abbrev S8x1 : Shape := ⟨2, ![8, 1]⟩
abbrev S8x703 : Shape := ⟨2, ![8, 703]⟩
abbrev S8x192 : Shape := ⟨2, ![8, 192]⟩
abbrev S8x1024 : Shape := ⟨2, ![8, 1024]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S_ : Shape := ⟨0, ![]⟩
abbrev S256x768x1 : Shape := ⟨3, ![256, 768, 1]⟩
abbrev S1 : Shape := ⟨1, ![1]⟩
abbrev S1x1x1 : Shape := ⟨3, ![1, 1, 1]⟩
abbrev S8x256x768 : Shape := ⟨3, ![8, 256, 768]⟩
abbrev S8192x128 : Shape := ⟨2, ![8192, 128]⟩
abbrev S2x256x768 : Shape := ⟨3, ![2, 256, 768]⟩
abbrev S2x2x256x768 : Shape := ⟨4, ![2, 2, 256, 768]⟩
abbrev S256x128 : Shape := ⟨2, ![256, 128]⟩
abbrev S1x128 : Shape := ⟨2, ![1, 128]⟩
abbrev S256x256 : Shape := ⟨2, ![256, 256]⟩
abbrev S1x1x256x256 : Shape := ⟨4, ![1, 1, 256, 256]⟩
abbrev S512x128 : Shape := ⟨2, ![512, 128]⟩
abbrev S256x512 : Shape := ⟨2, ![256, 512]⟩
abbrev S1x1x256x512 : Shape := ⟨4, ![1, 1, 256, 512]⟩
abbrev S1x256x256 : Shape := ⟨3, ![1, 256, 256]⟩
abbrev S768x128 : Shape := ⟨2, ![768, 128]⟩
abbrev S1x1x256x768 : Shape := ⟨4, ![1, 1, 256, 768]⟩
abbrev S1x256x512 : Shape := ⟨3, ![1, 256, 512]⟩
abbrev S1x1x64x640 : Shape := ⟨4, ![1, 1, 64, 640]⟩
abbrev S64x640 : Shape := ⟨2, ![64, 640]⟩
abbrev S1x64x640 : Shape := ⟨3, ![1, 64, 640]⟩
abbrev S64 : Shape := ⟨1, ![64]⟩
abbrev S64x1 : Shape := ⟨2, ![64, 1]⟩
abbrev S64x128 : Shape := ⟨2, ![64, 128]⟩
abbrev S1x1x64x128 : Shape := ⟨4, ![1, 1, 64, 128]⟩

abbrev nBuf : Space → Nat
  | .hbm => 132
  | .vmem => 12
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8x129, .f32⟩
  | 4 => ⟨S8192x1536, .f32⟩
  | 5 => ⟨S8192x1536, .bf16⟩
  | 6 => ⟨S8x1, .f32⟩
  | 7 => ⟨S8x703, .f32⟩
  | 8 => ⟨S8x1, .f32⟩
  | 9 => ⟨S8x192, .f32⟩
  | 10 => ⟨S8x1024, .f32⟩
  | 11 => ⟨S256, .i32⟩
  | 12 => ⟨S256x1, .i32⟩
  | 13 => ⟨S768, .i32⟩
  | 14 => ⟨S1x768, .i32⟩
  | 15 => ⟨S256x768, .i32⟩
  | 16 => ⟨S256x768, .i32⟩
  | 17 => ⟨S256x768, .i32⟩
  | 18 => ⟨S_, .i32⟩
  | 19 => ⟨S256x768, .i32⟩
  | 20 => ⟨S256x768, .i32⟩
  | 21 => ⟨S_, .i32⟩
  | 22 => ⟨S256x768, .i32⟩
  | 23 => ⟨S256x768, .i1⟩
  | 24 => ⟨S_, .i32⟩
  | 25 => ⟨S256x768, .i32⟩
  | 26 => ⟨S256x768, .i32⟩
  | 27 => ⟨S256x768, .i32⟩
  | 28 => ⟨S256x768x1, .i32⟩
  | 29 => ⟨S1, .i32⟩
  | 30 => ⟨S_, .i32⟩
  | 31 => ⟨S256x768x1, .i32⟩
  | 32 => ⟨S256x768x1, .i1⟩
  | 33 => ⟨S1x1x1, .i32⟩
  | 34 => ⟨S256x768x1, .i32⟩
  | 35 => ⟨S256x768x1, .i1⟩
  | 36 => ⟨S256x768x1, .i1⟩
  | 37 => ⟨S_, .i1⟩
  | 38 => ⟨S256x768, .i1⟩
  | 39 => ⟨S8x256x768, .f32⟩
  | 40 => ⟨S8x256x768, .i1⟩
  | 41 => ⟨S_, .f32⟩
  | 42 => ⟨S8x256x768, .f32⟩
  | 43 => ⟨S8x256x768, .f32⟩
  | 44 => ⟨S_, .i32⟩
  | 45 => ⟨S_, .i32⟩
  | 46 => ⟨S1x768, .i32⟩
  | 47 => ⟨S1x768, .i32⟩
  | 48 => ⟨S1x768, .i32⟩
  | 49 => ⟨S_, .i32⟩
  | 50 => ⟨S1x768, .i32⟩
  | 51 => ⟨S1x768, .i1⟩
  | 52 => ⟨S1x768, .i32⟩
  | 53 => ⟨S1x768, .i32⟩
  | 54 => ⟨S_, .i32⟩
  | 55 => ⟨S1x768, .i32⟩
  | 56 => ⟨S1x768, .i1⟩
  | 57 => ⟨S1x768, .i1⟩
  | 58 => ⟨S_, .i32⟩
  | 59 => ⟨S1x768, .i32⟩
  | 60 => ⟨S1x768, .i32⟩
  | 61 => ⟨S1x768, .i32⟩
  | 62 => ⟨S_, .i32⟩
  | 63 => ⟨S_, .i32⟩
  | 64 => ⟨S256x1, .i32⟩
  | 65 => ⟨S256x1, .i32⟩
  | 66 => ⟨S256x1, .i32⟩
  | 67 => ⟨S_, .i32⟩
  | 68 => ⟨S256x1, .i32⟩
  | 69 => ⟨S256x1, .i1⟩
  | 70 => ⟨S256x1, .i32⟩
  | 71 => ⟨S256x1, .i32⟩
  | 72 => ⟨S_, .i32⟩
  | 73 => ⟨S256x1, .i32⟩
  | 74 => ⟨S256x1, .i1⟩
  | 75 => ⟨S256x1, .i1⟩
  | 76 => ⟨S_, .i32⟩
  | 77 => ⟨S256x1, .i32⟩
  | 78 => ⟨S256x1, .i32⟩
  | 79 => ⟨S256x1, .i32⟩
  | 80 => ⟨S256x768, .i32⟩
  | 81 => ⟨S256x768, .i32⟩
  | 82 => ⟨S256x768, .i1⟩
  | 83 => ⟨S_, .i32⟩
  | 84 => ⟨S_, .i32⟩
  | 85 => ⟨S1x768, .i32⟩
  | 86 => ⟨S1x768, .i32⟩
  | 87 => ⟨S1x768, .i32⟩
  | 88 => ⟨S_, .i32⟩
  | 89 => ⟨S1x768, .i32⟩
  | 90 => ⟨S1x768, .i1⟩
  | 91 => ⟨S1x768, .i32⟩
  | 92 => ⟨S1x768, .i32⟩
  | 93 => ⟨S_, .i32⟩
  | 94 => ⟨S1x768, .i32⟩
  | 95 => ⟨S1x768, .i1⟩
  | 96 => ⟨S1x768, .i1⟩
  | 97 => ⟨S_, .i32⟩
  | 98 => ⟨S1x768, .i32⟩
  | 99 => ⟨S1x768, .i32⟩
  | 100 => ⟨S1x768, .i32⟩
  | 101 => ⟨S_, .i32⟩
  | 102 => ⟨S_, .i32⟩
  | 103 => ⟨S256x1, .i32⟩
  | 104 => ⟨S256x1, .i32⟩
  | 105 => ⟨S256x1, .i32⟩
  | 106 => ⟨S_, .i32⟩
  | 107 => ⟨S256x1, .i32⟩
  | 108 => ⟨S256x1, .i1⟩
  | 109 => ⟨S256x1, .i32⟩
  | 110 => ⟨S256x1, .i32⟩
  | 111 => ⟨S_, .i32⟩
  | 112 => ⟨S256x1, .i32⟩
  | 113 => ⟨S256x1, .i1⟩
  | 114 => ⟨S256x1, .i1⟩
  | 115 => ⟨S_, .i32⟩
  | 116 => ⟨S256x1, .i32⟩
  | 117 => ⟨S256x1, .i32⟩
  | 118 => ⟨S256x1, .i32⟩
  | 119 => ⟨S_, .i32⟩
  | 120 => ⟨S256x1, .i32⟩
  | 121 => ⟨S256x1, .i32⟩
  | 122 => ⟨S256x768, .i32⟩
  | 123 => ⟨S256x768, .i32⟩
  | 124 => ⟨S256x768, .i1⟩
  | 125 => ⟨S256x768, .i1⟩
  | 126 => ⟨S_, .f32⟩
  | 127 => ⟨S_, .f32⟩
  | _ => ⟨S8192x512, .f32⟩

abbrev hbmTy0_1 (i : Nat) : BufTy := match i % 128 with
  | 0 => ⟨S8x256x768, .i1⟩
  | 1 => ⟨S8x256x768, .f32⟩
  | 2 => ⟨S8x256x768, .f32⟩
  | 3 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2x256x768, .f32⟩
  | .local _ .vmem, ⟨7, _⟩ => ⟨S2x256x768, .f32⟩
  | .local _ .vmem, ⟨8, _⟩ => ⟨S8192x128, .bf16⟩
  | .local _ .vmem, ⟨9, _⟩ => ⟨S8192x128, .bf16⟩
  | .local _ .vmem, ⟨10, _⟩ => ⟨S2x2x256x768, .f32⟩
  | .local _ .vmem, ⟨11, _⟩ => ⟨S2x2x256x768, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v16 : Ref sig .tc := ⟨.hbm, 43, rfl⟩
abbrev main_c_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v17 : Ref sig .tc := ⟨.hbm, 61, rfl⟩
abbrev main_c_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_c_2 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_c : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_0 : Ref sig .tc := ⟨.hbm, 97, rfl⟩
abbrev main_call3_v12 : Ref sig .tc := ⟨.hbm, 98, rfl⟩
abbrev main_call3_v13 : Ref sig .tc := ⟨.hbm, 99, rfl⟩
abbrev main_v22 : Ref sig .tc := ⟨.hbm, 100, rfl⟩
abbrev main_c_3 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_c : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_0 : Ref sig .tc := ⟨.hbm, 115, rfl⟩
abbrev main_call4_v12 : Ref sig .tc := ⟨.hbm, 116, rfl⟩
abbrev main_call4_v13 : Ref sig .tc := ⟨.hbm, 117, rfl⟩
abbrev main_v23 : Ref sig .tc := ⟨.hbm, 118, rfl⟩
abbrev main_c_4 : Ref sig .tc := ⟨.hbm, 119, rfl⟩
abbrev main_v24 : Ref sig .tc := ⟨.hbm, 120, rfl⟩
abbrev main_v25 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_v29 : Ref sig .tc := ⟨.hbm, 125, rfl⟩
abbrev main_cst : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v30 : Ref sig .tc := ⟨.hbm, 130, rfl⟩
abbrev main_v31 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c14_i32 : BitVec 32 := 14#32
  let v400 : BitVec 32 := Scalar.addi c0_i32 c14_i32
  let c1_i32 : BitVec 32 := 1#32
  ⟨c0_i32, v400, c1_i32⟩
def k0_mult1 (k0_t1 : Fin k0_t1_loop.trips) : BitVec 32 :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c1_i32_474 : BitVec 32 := 1#32
  let v627 : BitVec 32 := Scalar.addi v626 c1_i32_474
  let c256_i32 : BitVec 32 := 256#32
  let v628 : BitVec 32 := Scalar.muli v627 c256_i32
  v628
def k0_off1 (k0_t1 : Fin k0_t1_loop.trips) (c1_i32_474 : BitVec 32) : Fin 2 → Nat :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let v627 : BitVec 32 := Scalar.addi v626 c1_i32_474
  let c256_i32 : BitVec 32 := 256#32
  let v628 : BitVec 32 := Scalar.muli v627 c256_i32
  let v629 : BitVec 32 := v628
  let v630 : Index := Scalar.indexCast v629
  let c0_475 : Index := 0#32
  ![v630.toNat, 0]
def k0_mult2 (k0_t1 : Fin k0_t1_loop.trips) : BitVec 32 :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c1_i32_474 : BitVec 32 := 1#32
  let v627 : BitVec 32 := Scalar.addi v626 c1_i32_474
  let c1_i32_476 : BitVec 32 := 1#32
  let v633 : BitVec 32 := Scalar.addi v627 c1_i32_476
  let c3_i32_477 : BitVec 32 := 3#32
  let v634 : BitVec 32 := Scalar.subi v633 c3_i32_477
  let c256_i32_478 : BitVec 32 := 256#32
  let v635 : BitVec 32 := Scalar.muli v634 c256_i32_478
  v635
def k0_off2 (k0_t1 : Fin k0_t1_loop.trips) (c1_i32_474 : BitVec 32) : Fin 2 → Nat :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let v627 : BitVec 32 := Scalar.addi v626 c1_i32_474
  let c1_i32_476 : BitVec 32 := 1#32
  let v633 : BitVec 32 := Scalar.addi v627 c1_i32_476
  let c3_i32_477 : BitVec 32 := 3#32
  let v634 : BitVec 32 := Scalar.subi v633 c3_i32_477
  let c256_i32_478 : BitVec 32 := 256#32
  let v635 : BitVec 32 := Scalar.muli v634 c256_i32_478
  let v636 : BitVec 32 := v635
  let v637 : Index := Scalar.indexCast v636
  let c0_479 : Index := 0#32
  ![v637.toNat, 0]
def k0_mult3 (k0_t1 : Fin k0_t1_loop.trips) : BitVec 32 :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c1_i32_632 : BitVec 32 := 1#32
  let v810 : BitVec 32 := Scalar.subi v626 c1_i32_632
  let c1_i32_633 : BitVec 32 := 1#32
  let v811 : BitVec 32 := Scalar.addi v810 c1_i32_633
  let c3_i32_634 : BitVec 32 := 3#32
  let v812 : BitVec 32 := Scalar.subi v811 c3_i32_634
  let c256_i32_635 : BitVec 32 := 256#32
  let v813 : BitVec 32 := Scalar.muli v812 c256_i32_635
  v813
def k0_off3 (k0_t1 : Fin k0_t1_loop.trips) : Fin 2 → Nat :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c1_i32_632 : BitVec 32 := 1#32
  let v810 : BitVec 32 := Scalar.subi v626 c1_i32_632
  let c1_i32_633 : BitVec 32 := 1#32
  let v811 : BitVec 32 := Scalar.addi v810 c1_i32_633
  let c3_i32_634 : BitVec 32 := 3#32
  let v812 : BitVec 32 := Scalar.subi v811 c3_i32_634
  let c256_i32_635 : BitVec 32 := 256#32
  let v813 : BitVec 32 := Scalar.muli v812 c256_i32_635
  let v814 : BitVec 32 := v813
  let v815 : Index := Scalar.indexCast v814
  let c0_636 : Index := 0#32
  ![v815.toNat, 0]
def k0_mult4 (k0_t1 : Fin k0_t1_loop.trips) : BitVec 32 :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c1_i32_632 : BitVec 32 := 1#32
  let v810 : BitVec 32 := Scalar.subi v626 c1_i32_632
  let c256_i32_655 : BitVec 32 := 256#32
  let v855 : BitVec 32 := Scalar.muli v810 c256_i32_655
  v855
def k0_off4 (k0_t1 : Fin k0_t1_loop.trips) : Fin 2 → Nat :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c1_i32_632 : BitVec 32 := 1#32
  let v810 : BitVec 32 := Scalar.subi v626 c1_i32_632
  let c256_i32_655 : BitVec 32 := 256#32
  let v855 : BitVec 32 := Scalar.muli v810 c256_i32_655
  let v856 : BitVec 32 := v855
  let v857 : Index := Scalar.indexCast v856
  let c0_656 : Index := 0#32
  ![v857.toNat, 0]
def k0_mult5 (k0_t1 : Fin k0_t1_loop.trips) : BitVec 32 :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c2_i32_657 : BitVec 32 := 2#32
  let v859 : BitVec 32 := Scalar.addi v626 c2_i32_657
  let c256_i32_658 : BitVec 32 := 256#32
  let v860 : BitVec 32 := Scalar.muli v859 c256_i32_658
  v860
def k0_mult6 (k0_t1 : Fin k0_t1_loop.trips) : BitVec 32 :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c2_i32_657 : BitVec 32 := 2#32
  let v859 : BitVec 32 := Scalar.addi v626 c2_i32_657
  let c1_i32_660 : BitVec 32 := 1#32
  let v865 : BitVec 32 := Scalar.addi v859 c1_i32_660
  let c3_i32_661 : BitVec 32 := 3#32
  let v866 : BitVec 32 := Scalar.subi v865 c3_i32_661
  let c256_i32_662 : BitVec 32 := 256#32
  let v867 : BitVec 32 := Scalar.muli v866 c256_i32_662
  v867
def k0_mult7 (k0_t1 : Fin k0_t1_loop.trips) : BitVec 32 :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c1_i32_816 : BitVec 32 := 1#32
  let v1042 : BitVec 32 := Scalar.addi v626 c1_i32_816
  let c3_i32_817 : BitVec 32 := 3#32
  let v1043 : BitVec 32 := Scalar.subi v1042 c3_i32_817
  let c256_i32_818 : BitVec 32 := 256#32
  let v1044 : BitVec 32 := Scalar.muli v1043 c256_i32_818
  v1044
def k0_off5 (k0_t1 : Fin k0_t1_loop.trips) : Fin 2 → Nat :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c1_i32_816 : BitVec 32 := 1#32
  let v1042 : BitVec 32 := Scalar.addi v626 c1_i32_816
  let c3_i32_817 : BitVec 32 := 3#32
  let v1043 : BitVec 32 := Scalar.subi v1042 c3_i32_817
  let c256_i32_818 : BitVec 32 := 256#32
  let v1044 : BitVec 32 := Scalar.muli v1043 c256_i32_818
  let v1045 : BitVec 32 := v1044
  let v1046 : Index := Scalar.indexCast v1045
  let c0_819 : Index := 0#32
  ![v1046.toNat, 0]
def k0_mult8 (k0_t1 : Fin k0_t1_loop.trips) : BitVec 32 :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c256_i32_838 : BitVec 32 := 256#32
  let v1086 : BitVec 32 := Scalar.muli v626 c256_i32_838
  v1086
def k0_off6 (k0_t1 : Fin k0_t1_loop.trips) : Fin 2 → Nat :=
  let c3_i32 : BitVec 32 := 3#32
  let c2_i32 : BitVec 32 := 2#32
  let c0_i32 : BitVec 32 := 0#32
  let c1_i32 : BitVec 32 := 1#32
  let arg8 : BitVec 32 := Scf.iv c0_i32 c1_i32 k0_t1
  let v625 : BitVec 32 := Scalar.muli c2_i32 arg8
  let v626 : BitVec 32 := Scalar.addi c3_i32 v625
  let c256_i32_838 : BitVec 32 := 256#32
  let v1086 : BitVec 32 := Scalar.muli v626 c256_i32_838
  let v1087 : BitVec 32 := v1086
  let v1088 : Index := Scalar.indexCast v1087
  let c0_839 : Index := 0#32
  ![v1088.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdRefIdeal.lean ====
abbrev S8192x512 : Shape := ⟨2, ![8192, 512]⟩
abbrev S8x129 : Shape := ⟨2, ![8, 129]⟩
abbrev S1x8192x8x64 : Shape := ⟨4, ![1, 8192, 8, 64]⟩
abbrev S_ : Shape := ⟨0, ![]⟩
abbrev S1x512x8x64 : Shape := ⟨4, ![1, 512, 8, 64]⟩
abbrev S1x8704x8x64 : Shape := ⟨4, ![1, 8704, 8, 64]⟩
abbrev S1x128x64x8x64 : Shape := ⟨5, ![1, 128, 64, 8, 64]⟩
abbrev S128x1x64x8x64 : Shape := ⟨5, ![128, 1, 64, 8, 64]⟩
abbrev S64 : Shape := ⟨1, ![64]⟩
abbrev S576 : Shape := ⟨1, ![576]⟩
abbrev S1x576 : Shape := ⟨2, ![1, 576]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S1x128x576x8x64 : Shape := ⟨5, ![1, 128, 576, 8, 64]⟩
abbrev S128x1x576x8x64 : Shape := ⟨5, ![128, 1, 576, 8, 64]⟩
abbrev S128 : Shape := ⟨1, ![128]⟩
abbrev S128x1x8x64x576 : Shape := ⟨5, ![128, 1, 8, 64, 576]⟩
abbrev S1x8x64x576 : Shape := ⟨4, ![1, 8, 64, 576]⟩
abbrev S1x1x8x64x576 : Shape := ⟨5, ![1, 1, 8, 64, 576]⟩
abbrev S128x1 : Shape := ⟨2, ![128, 1]⟩
abbrev S128x576 : Shape := ⟨2, ![128, 576]⟩
abbrev S128x1x8x64 : Shape := ⟨4, ![128, 1, 8, 64]⟩
abbrev S128x1x8x64x1 : Shape := ⟨5, ![128, 1, 8, 64, 1]⟩
abbrev S128x1x8x64x64 : Shape := ⟨5, ![128, 1, 8, 64, 64]⟩
abbrev S1x8192x512 : Shape := ⟨3, ![1, 8192, 512]⟩

abbrev nBuf : Space → Nat
  | .hbm => 131
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8x129, .f32⟩
  | 4 => ⟨S1x8192x8x64, .f32⟩
  | 5 => ⟨S1x8192x8x64, .f32⟩
  | 6 => ⟨S1x8192x8x64, .f32⟩
  | 7 => ⟨S_, .f32⟩
  | 8 => ⟨S1x512x8x64, .f32⟩
  | 9 => ⟨S1x8704x8x64, .f32⟩
  | 10 => ⟨S1x8704x8x64, .f32⟩
  | 11 => ⟨S1x128x64x8x64, .f32⟩
  | 12 => ⟨S128x1x64x8x64, .f32⟩
  | 13 => ⟨S64, .i32⟩
  | 14 => ⟨S576, .i32⟩
  | 15 => ⟨S1x576, .i32⟩
  | 16 => ⟨S_, .i32⟩
  | 17 => ⟨S1x576, .i32⟩
  | 18 => ⟨S1x576, .i32⟩
  | 19 => ⟨S64x1, .i32⟩
  | 20 => ⟨S64x576, .i32⟩
  | 21 => ⟨S64x576, .i32⟩
  | 22 => ⟨S64x576, .i32⟩
  | 23 => ⟨S_, .i32⟩
  | 24 => ⟨S_, .i32⟩
  | 25 => ⟨S_, .i32⟩
  | 26 => ⟨S64x576, .i32⟩
  | 27 => ⟨S64x576, .i32⟩
  | 28 => ⟨S_, .i32⟩
  | 29 => ⟨S64x576, .i32⟩
  | 30 => ⟨S64x576, .i32⟩
  | 31 => ⟨S_, .i32⟩
  | 32 => ⟨S64x576, .i32⟩
  | 33 => ⟨S64x576, .i32⟩
  | 34 => ⟨S_, .i32⟩
  | 35 => ⟨S64x576, .i32⟩
  | 36 => ⟨S64x576, .i1⟩
  | 37 => ⟨S_, .i32⟩
  | 38 => ⟨S64x576, .i32⟩
  | 39 => ⟨S64x576, .i32⟩
  | 40 => ⟨S64x576, .i32⟩
  | 41 => ⟨S64x576x1, .i32⟩
  | 42 => ⟨S8x64x576, .f32⟩
  | 43 => ⟨S1x8192x8x64, .f32⟩
  | 44 => ⟨S1x128x64x8x64, .f32⟩
  | 45 => ⟨S1x8192x8x64, .f32⟩
  | 46 => ⟨S1x128x64x8x64, .f32⟩
  | 47 => ⟨S1x8192x8x64, .f32⟩
  | 48 => ⟨S1x128x64x8x64, .f32⟩
  | 49 => ⟨S1x8192x8x64, .f32⟩
  | 50 => ⟨S1x128x64x8x64, .f32⟩
  | 51 => ⟨S1x8192x8x64, .f32⟩
  | 52 => ⟨S1x128x64x8x64, .f32⟩
  | 53 => ⟨S1x8192x8x64, .f32⟩
  | 54 => ⟨S1x128x64x8x64, .f32⟩
  | 55 => ⟨S1x8192x8x64, .f32⟩
  | 56 => ⟨S1x128x64x8x64, .f32⟩
  | 57 => ⟨S1x8192x8x64, .f32⟩
  | 58 => ⟨S1x128x64x8x64, .f32⟩
  | 59 => ⟨S1x8192x8x64, .f32⟩
  | 60 => ⟨S1x128x64x8x64, .f32⟩
  | 61 => ⟨S1x128x576x8x64, .f32⟩
  | 62 => ⟨S128x1x576x8x64, .f32⟩
  | 63 => ⟨S1x8192x8x64, .f32⟩
  | 64 => ⟨S1x128x64x8x64, .f32⟩
  | 65 => ⟨S1x8192x8x64, .f32⟩
  | 66 => ⟨S1x128x64x8x64, .f32⟩
  | 67 => ⟨S1x8192x8x64, .f32⟩
  | 68 => ⟨S1x128x64x8x64, .f32⟩
  | 69 => ⟨S1x8192x8x64, .f32⟩
  | 70 => ⟨S1x128x64x8x64, .f32⟩
  | 71 => ⟨S1x8192x8x64, .f32⟩
  | 72 => ⟨S1x128x64x8x64, .f32⟩
  | 73 => ⟨S1x8192x8x64, .f32⟩
  | 74 => ⟨S1x128x64x8x64, .f32⟩
  | 75 => ⟨S1x8192x8x64, .f32⟩
  | 76 => ⟨S1x128x64x8x64, .f32⟩
  | 77 => ⟨S1x8192x8x64, .f32⟩
  | 78 => ⟨S1x128x64x8x64, .f32⟩
  | 79 => ⟨S1x8192x8x64, .f32⟩
  | 80 => ⟨S1x128x64x8x64, .f32⟩
  | 81 => ⟨S1x128x576x8x64, .f32⟩
  | 82 => ⟨S128x1x576x8x64, .f32⟩
  | 83 => ⟨S128, .i32⟩
  | 84 => ⟨S_, .i32⟩
  | 85 => ⟨S128, .i32⟩
  | 86 => ⟨S128, .i32⟩
  | 87 => ⟨S128x1x8x64x576, .f32⟩
  | 88 => ⟨S_, .f32⟩
  | 89 => ⟨S128x1x8x64x576, .f32⟩
  | 90 => ⟨S128x1x8x64x576, .f32⟩
  | 91 => ⟨S1x8x64x576, .f32⟩
  | 92 => ⟨S1x1x8x64x576, .f32⟩
  | 93 => ⟨S128x1x8x64x576, .f32⟩
  | 94 => ⟨S128x1x8x64x576, .f32⟩
  | 95 => ⟨S1x576, .i32⟩
  | 96 => ⟨S128x1, .i32⟩
  | 97 => ⟨S128x576, .i32⟩
  | 98 => ⟨S128x576, .i32⟩
  | 99 => ⟨S128x576, .i32⟩
  | 100 => ⟨S_, .i32⟩
  | 101 => ⟨S128x576, .i32⟩
  | 102 => ⟨S128x576, .i32⟩
  | 103 => ⟨S_, .i32⟩
  | 104 => ⟨S128x576, .i32⟩
  | 105 => ⟨S128x576, .i1⟩
  | 106 => ⟨S128x1x8x64x576, .i1⟩
  | 107 => ⟨S_, .f32⟩
  | 108 => ⟨S1x8x64x576, .f32⟩
  | 109 => ⟨S128x1x8x64x576, .f32⟩
  | 110 => ⟨S128x1x8x64x576, .f32⟩
  | 111 => ⟨S_, .f32⟩
  | 112 => ⟨S128x1x8x64, .f32⟩
  | 113 => ⟨S_, .f32⟩
  | 114 => ⟨S128x1x8x64, .f32⟩
  | 115 => ⟨S128x1x8x64, .f32⟩
  | 116 => ⟨S128x1x8x64x1, .f32⟩
  | 117 => ⟨S128x1x8x64x576, .f32⟩
  | 118 => ⟨S128x1x8x64x576, .f32⟩
  | 119 => ⟨S128x1x8x64x576, .f32⟩
  | 120 => ⟨S_, .f32⟩
  | 121 => ⟨S128x1x8x64, .f32⟩
  | 122 => ⟨S128x1x8x64x1, .f32⟩
  | 123 => ⟨S128x1x8x64x576, .f32⟩
  | 124 => ⟨S128x1x8x64x576, .f32⟩
  | 125 => ⟨S128x1x8x64x64, .f32⟩
  | 126 => ⟨S128x1x64x8x64, .f32⟩
  | 127 => ⟨S1x128x64x8x64, .f32⟩
  | _ => ⟨S8192x512, .f32⟩

abbrev hbmTy0_1 (i : Nat) : BufTy := match i % 128 with
  | 0 => ⟨S1x8192x512, .f32⟩
  | 1 => ⟨S8192x512, .f32⟩
  | 2 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_5 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_6 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_c_7 : Ref sig .tc := ⟨.hbm, 100, rfl⟩
abbrev main_v82 : Ref sig .tc := ⟨.hbm, 101, rfl⟩
abbrev main_v83 : Ref sig .tc := ⟨.hbm, 102, rfl⟩
abbrev main_c_8 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_9 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_10 : Ref sig .tc := ⟨.hbm, 111, rfl⟩
abbrev main_v90 : Ref sig .tc := ⟨.hbm, 112, rfl⟩
abbrev main_cst_11 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_12 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩

abbrev nD : Nat := 1
abbrev τ : Topo := Topo.v7x

variable {F : FTy → Type} [FloatOps F]
-- ==== Proof.RealOps.lean ====
/-
  The ideal float operations at finite entries: each is the operation of the real numbers.
-/
module

public import Idealize.ShloMosaic.Lib.Pointwise

@[expose] public section

noncomputable section

open Idealize.ShloMosaic

namespace RealOps

/-- A finite sum of real numbers is the real number that is their sum. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The quotient of two real numbers, the second not zero. -/
theorem coe_div (a b : ℝ) (h : b ≠ 0) : Ideal.div (a : EReal) (b : EReal) = ((a / b : ℝ) : EReal) := by
  rw [Ideal.div_coe h, ← EReal.coe_mul]
  congr 1
  ring

/-- The reciprocal square root of a positive real number. -/
theorem coe_rsqrt (a : ℝ) (h : 0 < a) : Ideal.rsqrt (a : EReal) = (((Real.sqrt a)⁻¹ : ℝ) : EReal) := by
  rw [Ideal.rsqrt_coe, if_neg (not_lt.mpr h.le), if_neg h.ne']

theorem ofBits_1024 : Ideal.ofBits .f32 0x44800000#32 = ((1024 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_eps : Ideal.ofBits .f32 0x358637BD#32 = ((8796093 / 2 ^ 43 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- A number whose magnitude compares below infinity is real. -/
theorem real_of_abs_lt (x : EReal) (h : Ideal.cmp .olt (max x (-x)) (Ideal.ofBits .f32 0x7F800000#32) = 1#1) :
    x = (x.toReal : EReal) := by
  induction x with
  | coe x => rfl
  | top => exact absurd h (by simp [Ideal.cmp, Ideal.ofBits, Ideal.ieee])
  | bot => exact absurd h (by simp [Ideal.cmp, Ideal.ofBits, Ideal.ieee])

/-- A conjunction of two bits is one where both are. -/
theorem and_one (a b : BitVec 1) : a &&& b = 1#1 ↔ a = 1#1 ∧ b = 1#1 := by
  revert a b
  decide

/-- A sum over the rows before tile `n`, and the sum over that tile, is the sum over the rows before the next one. -/
theorem sum_tile (T : ℕ) (h : ℕ → EReal) (n : ℕ) :
    ∑ r ∈ Finset.range (T * n), h r + ∑ r : Fin T, h (T * n + r.val) = ∑ r ∈ Finset.range (T * (n + 1)), h r := by
  rw [Nat.mul_succ, Finset.sum_range_add, Fin.sum_univ_eq_sum_range (fun r => h (T * n + r)) T]

/-- The sum over tile `0`, onto zero. -/
theorem sum_tile_zero (T : ℕ) (h : ℕ → EReal) :
    0 + ∑ r : Fin T, h (T * 0 + r.val) = ∑ r ∈ Finset.range (T * (0 + 1)), h r := by
  rw [← sum_tile, Nat.mul_zero, Finset.range_zero, Finset.sum_empty]

theorem sum_range_fin (N : ℕ) (h : ℕ → EReal) : ∑ r ∈ Finset.range N, h r = ∑ r : Fin N, h r.val :=
  (Fin.sum_univ_eq_sum_range h N).symm

end RealOps

end
-- ==== Proof.RealRow.lean ====
/-
  The out-projection, the final norm, the loss and their gradients for one row of the batch: what both programs of the
  `OutLoss` pair compute once the loss target and the norm's gain are finite. The residual input, the mixer's halves,
  the gate and the weight may hold infinities: a row that reaches the norm with an infinite entry has reciprocal root
  mean square zero, so from the norm on every value is a real number.
-/
module

public import proofs.«01_k».proof.Proof.RealOps

@[expose] public section

noncomputable section

open Idealize.ShloMosaic RealOps

namespace OutLossReal

/-- One row of the batch: the residual input, the loss target, the pooled half, the attention half and its gate. -/
structure Row where
  x : Fin 1024 → EReal
  target : Fin 1024 → ℝ
  pool : Fin 512 → EReal
  o : Fin 512 → EReal
  a : Fin 512 → EReal

/-- The norm's small constant, `9.99999997E-7` as a binary fraction. -/
def eps : ℝ := 8796093 / 2 ^ 43

/-- The logistic function. -/
def sig (a : EReal) : EReal := Ideal.logistic a

/-- The mixed row: the pooled half, then the attention half times the gate's SiLU. -/
def mix (R : Row) (j : Fin 1024) : EReal :=
  if h : j.val < 512 then R.pool ⟨j.val, h⟩
  else R.o ⟨j.val - 512, by omega⟩ * (R.a ⟨j.val - 512, by omega⟩ * sig (R.a ⟨j.val - 512, by omega⟩))

variable (W : Fin 1024 → Fin 1024 → EReal) (g : Fin 1024 → ℝ) (R : Row)

/-- The row after the residual connection. -/
def res (k : Fin 1024) : EReal := R.x k + ∑ j, mix R j * W j k

/-- Its mean square plus the norm's constant. -/
def ms : EReal := Ideal.div (∑ k, res W R k * res W R k) ((1024 : ℝ) : EReal) + (eps : EReal)

/-- The reciprocal root mean square. -/
def rinv : ℝ := (Ideal.rsqrt (ms W R)).toReal

/-- The normalised row, before the gain. -/
def nrm (k : Fin 1024) : ℝ := (res W R k * (rinv W R : EReal)).toReal

/-- The row's difference to the target. -/
def diff (k : Fin 1024) : ℝ := nrm W R k * g k - R.target k

/-- The row's share of twice the loss. -/
def tok : ℝ := (∑ k, diff W g R k * diff W g R k) / 1024

/-- The gradient at the norm's output. -/
def dout (k : Fin 1024) : ℝ := diff W g R k / 1024

/-- The gradient at the norm's input. -/
def dres (k : Fin 1024) : ℝ :=
  rinv W R * (dout W g R k * g k - nrm W R k * ((∑ l, dout W g R l * g l * nrm W R l) / 1024))

/-- The gradient at the mixed row. -/
def dmix (j : Fin 1024) : EReal := ∑ k, (dres W g R k : EReal) * W j k

/-- The attention half's column of the mixed row. -/
def hi (j : Fin 512) : Fin 1024 := ⟨512 + j.val, by omega⟩

/-- The shard of the weight's rows that holds row `j`. -/
abbrev shard (j : Fin 1024) : Fin 8 := ⟨j.val / 128, by omega⟩

/-- The place of row `j` in its shard. -/
abbrev within (j : Fin 1024) : Fin 128 := ⟨j.val % 128, by omega⟩

/-- The row of the weight at place `q` of shard `b`. -/
abbrev joined (b : Fin 8) (q : Fin 128) : Fin 1024 := ⟨b.val * 128 + q.val, by omega⟩

/-- The pooled half's column of the mixed row. -/
def lo (j : Fin 512) : Fin 1024 := ⟨j.val, by omega⟩

/-- The gradient at the pooled half. -/
def dpool (j : Fin 512) : EReal := dmix W g R (lo j)

/-- The gradient at the attention half. -/
def dattn (j : Fin 512) : EReal := dmix W g R (hi j) * (R.a j * sig (R.a j))

/-- The gradient at the gate. -/
def dgate (j : Fin 512) : EReal :=
  dmix W g R (hi j) * R.o j * (sig (R.a j) * (1 + R.a j * (1 - sig (R.a j))))

theorem eps_pos : 0 < eps := by unfold eps; positivity

theorem square_nonneg (y : EReal) : 0 ≤ y * y := by
  rcases le_total 0 y with h | h
  · exact mul_nonneg h h
  · have := mul_nonneg (EReal.neg_nonneg.mpr h) (EReal.neg_nonneg.mpr h)
    rwa [neg_mul_neg] at this

/-- A row's mean square is infinite, or the row is a row of real numbers. -/
theorem ms_cases : ms W R = ⊤ ∨ ∃ z : Fin 1024 → ℝ, (∀ k, res W R k = (z k : EReal))
    ∧ ms W R = (((∑ k, z k * z k) / 1024 + eps : ℝ) : EReal) := by
  by_cases h : ∀ k, res W R k = ((res W R k).toReal : EReal)
  · right
    refine ⟨fun k => (res W R k).toReal, h, ?_⟩
    unfold ms
    rw [Finset.sum_congr rfl (fun k _ => congrArg₂ (· * ·) (h k) (h k))]
    simp only [← EReal.coe_mul, coe_sum]
    rw [coe_div _ _ (by norm_num), ← EReal.coe_add]
  · left
    obtain ⟨k, hk⟩ := not_forall.mp h
    have ht : res W R k * res W R k = ⊤ := by
      generalize res W R k = y at hk ⊢
      induction y with
      | bot => rfl
      | top => rfl
      | coe y => exact absurd rfl hk
    have hs : ∑ k, res W R k * res W R k = ⊤ := by
      refine top_le_iff.mp (ht ▸ Finset.single_le_sum (f := fun k => res W R k * res W R k) (fun l _ => ?_) (Finset.mem_univ k))
      exact square_nonneg _
    unfold ms
    rw [hs, Ideal.div_coe (by norm_num), EReal.top_mul_coe_of_pos (by norm_num), EReal.top_add_coe]

theorem ms_real_pos (z : Fin 1024 → ℝ) : 0 < (∑ k, z k * z k) / 1024 + eps := by
  have : 0 ≤ ∑ k, z k * z k := Finset.sum_nonneg fun k _ => mul_self_nonneg _
  have := eps_pos
  positivity

/-- The reciprocal root mean square is a real number. -/
theorem coe_rinv : Ideal.rsqrt (ms W R) = (rinv W R : EReal) := by
  unfold rinv
  rcases ms_cases W R with h | ⟨z, -, h⟩
  · rw [h]; rfl
  · rw [h, coe_rsqrt _ (ms_real_pos z), EReal.toReal_coe]

/-- Where the mean square is infinite the reciprocal root is zero. -/
theorem rinv_top (h : ms W R = ⊤) : rinv W R = 0 := by
  unfold rinv
  rw [h]
  rfl

/-- The normalised row is a row of real numbers. -/
theorem coe_nrm (k : Fin 1024) : res W R k * (rinv W R : EReal) = (nrm W R k : EReal) := by
  unfold nrm
  rcases ms_cases W R with h | ⟨z, hz, -⟩
  · rw [rinv_top W R h]
    simp
  · rw [hz, ← EReal.coe_mul, EReal.toReal_coe]

/-- The gradient at the norm's input is zero where the mean square is infinite. -/
theorem dres_top (h : ms W R = ⊤) (k : Fin 1024) : dres W g R k = 0 := by
  unfold dres
  rw [rinv_top W R h, zero_mul]

/-- The gradient at the mixed row is zero where the mean square is infinite. -/
theorem dmix_top (h : ms W R = ⊤) (j : Fin 1024) : dmix W g R j = 0 := by
  unfold dmix
  exact Finset.sum_eq_zero fun k _ => by rw [dres_top W g R h, EReal.coe_zero, zero_mul]

/-- The norm's gradient as the reverse pass over its forward lines writes it. -/
theorem dres_eq (k : Fin 1024) :
    ((dout W g R k * g k * rinv W R : ℝ) : EReal)
        + res W R k * Ideal.div ((∑ l, res W R l * ((dout W g R l * g l : ℝ) : EReal))
            * (((-(1 / 2) : ℝ) : EReal) * Ideal.div (rinv W R) (ms W R))) ((1024 : ℝ) : EReal)
        + Ideal.div ((∑ l, res W R l * ((dout W g R l * g l : ℝ) : EReal))
            * (((-(1 / 2) : ℝ) : EReal) * Ideal.div (rinv W R) (ms W R))) ((1024 : ℝ) : EReal) * res W R k
      = (dres W g R k : EReal) := by
  rcases ms_cases W R with h | ⟨z, hz, h⟩
  · rw [dres_top W g R h, rinv_top W R h, h]
    simp [Ideal.div]
  · have hp := ms_real_pos z
    have hr : rinv W R = (Real.sqrt ((∑ k, z k * z k) / 1024 + eps))⁻¹ := by
      unfold rinv
      rw [h, coe_rsqrt _ hp, EReal.toReal_coe]
    have hn : ∀ k, nrm W R k = z k * rinv W R := fun k => by
      unfold nrm
      rw [hz, ← EReal.coe_mul, EReal.toReal_coe]
    have hs : ∑ l, dout W g R l * g l * nrm W R l = rinv W R * ∑ l, z l * (dout W g R l * g l) := by
      rw [Finset.mul_sum]
      exact Finset.sum_congr rfl fun l _ => by rw [hn]; ring
    have hq : rinv W R * rinv W R = ((∑ k, z k * z k) / 1024 + eps)⁻¹ := by
      rw [hr, ← mul_inv, Real.mul_self_sqrt hp.le]
    simp only [hz, h, ← EReal.coe_mul, coe_sum, coe_div _ _ hp.ne', coe_div _ _ (show (1024 : ℝ) ≠ 0 by norm_num), ← EReal.coe_add]
    congr 1
    unfold dres
    rw [hs, hn, div_eq_mul_inv (rinv W R), ← hq]
    ring

/-- A sum of extended reals that is a real number has real summands. -/
theorem real_of_sum {ι : Type} (s : Finset ι) (f : ι → EReal) (y : ℝ) (h : ∑ i ∈ s, f i = (y : EReal)) (i : ι) (hi : i ∈ s) :
    ∃ z : ℝ, f i = (z : EReal) := by
  classical
  rw [← Finset.add_sum_erase s f hi] at h
  generalize f i = u at h ⊢
  generalize ∑ j ∈ s.erase i, f j = v at h
  induction u with
  | coe u => exact ⟨u, rfl⟩
  | bot => rw [EReal.bot_add] at h; exact absurd h.symm (EReal.coe_ne_bot y)
  | top =>
    induction v with
    | bot => rw [EReal.add_bot] at h; exact absurd h.symm (EReal.coe_ne_bot y)
    | top => exact absurd h.symm (EReal.coe_ne_top y)
    | coe v => rw [EReal.top_add_coe] at h; exact absurd h.symm (EReal.coe_ne_top y)

/-- Where the residual row is real, each product of the mixed row with the weight is. -/
theorem real_product (z : Fin 1024 → ℝ) (hz : ∀ k, res W R k = (z k : EReal)) (j k : Fin 1024) :
    ∃ y : ℝ, mix R j * W j k = (y : EReal) := by
  have h := hz k
  unfold res at h
  have hs : ∃ y : ℝ, ∑ j, mix R j * W j k = (y : EReal) := by
    generalize R.x k = u at h
    generalize ∑ j, mix R j * W j k = v at h ⊢
    refine real_of_sum Finset.univ ![u, v] (z k) ?_ 1 (Finset.mem_univ _)
    rw [Fin.sum_univ_two]
    exact h
  obtain ⟨y, hy⟩ := hs
  exact real_of_sum Finset.univ (fun j => mix R j * W j k) y hy j (Finset.mem_univ j)

theorem real_of_mul {p : ℝ} (hp : p ≠ 0) {y : EReal} {q : ℝ} (h : (p : EReal) * y = (q : EReal)) : ∃ v : ℝ, y = (v : EReal) := by
  induction y with
  | coe v => exact ⟨v, rfl⟩
  | bot =>
    rcases lt_or_gt_of_ne hp with hp | hp
    · rw [EReal.coe_mul_bot_of_neg hp] at h; exact absurd h.symm (EReal.coe_ne_top q)
    · rw [EReal.coe_mul_bot_of_pos hp] at h; exact absurd h.symm (EReal.coe_ne_bot q)
  | top =>
    rcases lt_or_gt_of_ne hp with hp | hp
    · rw [EReal.coe_mul_top_of_neg hp] at h; exact absurd h.symm (EReal.coe_ne_bot q)
    · rw [EReal.coe_mul_top_of_pos hp] at h; exact absurd h.symm (EReal.coe_ne_top q)

/-- An infinity's product is real only at zero. -/
theorem zero_of_mul {y v : EReal} (hy : y = ⊤ ∨ y = ⊥) {q : ℝ} (h : y * v = (q : EReal)) : v = 0 := by
  rcases lt_trichotomy v 0 with hv | hv | hv
  · rcases hy with rfl | rfl
    · rw [EReal.top_mul_of_neg hv] at h; exact absurd h.symm (EReal.coe_ne_bot q)
    · rw [EReal.bot_mul_of_neg hv] at h; exact absurd h.symm (EReal.coe_ne_top q)
  · exact hv
  · rcases hy with rfl | rfl
    · rw [EReal.top_mul_of_pos hv] at h; exact absurd h.symm (EReal.coe_ne_top q)
    · rw [EReal.bot_mul_of_pos hv] at h; exact absurd h.symm (EReal.coe_ne_bot q)

/-- The attention half of the mixed row. -/
theorem mix_hi (j : Fin 512) : mix R (hi j) = R.o j * (R.a j * sig (R.a j)) := by
  have h : ¬(hi j).val < 512 := by unfold hi; dsimp only; omega
  have e : (⟨(hi j).val - 512, by have := (hi j).isLt; omega⟩ : Fin 512) = j := Fin.ext (by unfold hi; dsimp only; omega)
  unfold mix
  rw [dif_neg h, e]

/-- The SiLU's gradient as the reverse pass writes it: a sum of two products with the incoming gradient. -/
theorem dgate_eq (j : Fin 512) :
    R.o j * dmix W g R (hi j) * sig (R.a j)
        + R.a j * (R.o j * dmix W g R (hi j)) * (sig (R.a j) * (1 - sig (R.a j)))
      = dgate W g R j := by
  unfold dgate
  rcases ms_cases W R with h | ⟨z, hz, -⟩
  · rw [dmix_top W g R h]
    simp
  · have hm := fun k => real_product W R z hz (hi j) k
    rw [mix_hi] at hm
    rw [mul_comm (R.o j)]
    have hd : dmix W g R (hi j) = ∑ k, (dres W g R k : EReal) * W (hi j) k := rfl
    generalize dmix W g R (hi j) = d at hd ⊢
    generalize R.o j = o at hm ⊢
    generalize R.a j = a at hm ⊢
    have key : ∀ (e : EReal) (a : ℝ), (0 ≤ a ∨ ∃ y : ℝ, e = (y : EReal)) →
        e * sig a + a * e * (sig a * (1 - sig a)) = e * (sig a * (1 + a * (1 - sig a))) := by
      intro e a he
      have hs : sig a = (((1 + Real.exp (-a))⁻¹ : ℝ) : EReal) := Ideal.logistic_coe a
      rw [hs]
      have h0 : 0 < (1 + Real.exp (-a))⁻¹ := by positivity
      have h1 : (1 + Real.exp (-a))⁻¹ ≤ 1 := inv_le_one_of_one_le₀ (by have := Real.exp_pos (-a); linarith)
      generalize (1 + Real.exp (-a))⁻¹ = s at h0 h1
      rw [← EReal.coe_one, ← EReal.coe_sub, ← EReal.coe_mul, ← EReal.coe_mul, ← EReal.coe_add, ← EReal.coe_mul,
        mul_comm (a : EReal) e, mul_assoc, ← EReal.coe_mul]
      rcases he with ha | ⟨y, rfl⟩
      · rw [show s * (1 + a * (1 - s)) = s + a * (s * (1 - s)) by ring, EReal.coe_add,
          EReal.left_distrib_of_nonneg (by exact_mod_cast h0.le)
            (by exact_mod_cast mul_nonneg ha (mul_nonneg h0.le (by linarith)))]
      · simp only [← EReal.coe_mul, ← EReal.coe_add]
        congr 1
        ring
    induction a with
    | top =>
      have hs : sig ⊤ = 1 := Ideal.logistic_top
      have h0 : (1 : EReal) - 1 = 0 := by rw [← EReal.coe_one, ← EReal.coe_sub, sub_self, EReal.coe_zero]
      rw [hs, h0]
      simp
    | bot =>
      have hs : sig ⊥ = 0 := Ideal.logistic_bot
      rw [hs]
      simp
    | coe a =>
      refine key _ a ?_
      by_cases ha : 0 ≤ a
      · exact Or.inl ha
      · right
        have hs : sig a = (((1 + Real.exp (-a))⁻¹ : ℝ) : EReal) := Ideal.logistic_coe a
        rw [hs, ← EReal.coe_mul] at hm
        have hne : a * (1 + Real.exp (-a))⁻¹ ≠ 0 := mul_ne_zero (by linarith) (by positivity)
        generalize a * (1 + Real.exp (-a))⁻¹ = p at hm hne
        by_cases ho : o = 0
        · exact ⟨0, by rw [ho, mul_zero, EReal.coe_zero]⟩
        · have zero : ∀ y : EReal, y = ⊤ ∨ y = ⊥ → (∀ k, ∃ q : ℝ, y * W (hi j) k = (q : EReal)) → d = 0 := fun y hy h => by
            rw [hd]
            refine Finset.sum_eq_zero fun k _ => ?_
            rw [zero_of_mul hy (h k).choose_spec, mul_zero]
          have gone : d = 0 → ∃ y : ℝ, d * o = (y : EReal) := fun h => ⟨0, by rw [h, zero_mul, EReal.coe_zero]⟩
          induction o with
          | coe q =>
            rw [← EReal.coe_mul] at hm
            have hq : q ≠ 0 := fun h => ho (by rw [h, EReal.coe_zero])
            choose v hv using fun k => real_of_mul (mul_ne_zero hq hne) (hm k).choose_spec
            refine ⟨(∑ k, dres W g R k * v k) * q, ?_⟩
            rw [hd]
            simp only [hv, ← EReal.coe_mul, coe_sum]
          | top =>
            refine gone (zero (⊤ * (p : EReal)) ?_ hm)
            rcases lt_or_gt_of_ne hne with hp | hp
            · exact Or.inr (EReal.top_mul_coe_of_neg hp)
            · exact Or.inl (EReal.top_mul_coe_of_pos hp)
          | bot =>
            refine gone (zero (⊥ * (p : EReal)) ?_ hm)
            rcases lt_or_gt_of_ne hne with hp | hp
            · exact Or.inl (EReal.bot_mul_coe_of_neg hp)
            · exact Or.inr (EReal.bot_mul_coe_of_pos hp)

end OutLossReal

end
-- ==== Proof.LossTile.lean ====
/-
  One tile of the out-projection kernel at an index: each value it computes from 512 rows is the one that
  `RealRow` names.
-/
module

public import proofs.«01_k».proof.Proof.RealOps
public import proofs.«01_k».proof.Proof.RealRow
public import proofs.«01_k».proof.Proof.Gen.OutLossIdeal.Skeleton
public import Idealize.ShloMosaic.Lib.Pointwise

@[expose] public section

set_option maxRecDepth 16384

noncomputable section

open Idealize.ShloMosaic Idealize.ShloMosaic.TcCoe Idealize.SL.Sem

namespace OutLossTile

open Cert.OutLossIdeal Cert.OutLossIdeal.Gen OutLossReal RealOps

variable (R : Fin 512 → Row) (W : Fin 1024 → Fin 1024 → EReal) (g : Fin 1024 → ℝ)
variable (x t : FVec Ideal S512x1024 .f32) (p o : FVec Ideal S512x512 .bf16) (a : FVec Ideal S512x512 .f32)
  (w : FVec Ideal S8x128x1024 .bf16) (gain : FVec Ideal S1x1024 .f32)
variable (hx : ∀ r k, x (ix2 r k) = (R r).x k) (ht : ∀ r k, t (ix2 r k) = ((R r).target k : EReal))
  (hp : ∀ r k, p (ix2 r k) = (R r).pool k) (ho : ∀ r k, o (ix2 r k) = (R r).o k)
  (ha : ∀ r k, a (ix2 r k) = (R r).a k)
  (hw : ∀ (j : Fin 1024) k, w (ix3 (shard j) (within j) k) = W j k)
  (hg : ∀ k, gain (ix2 0 k) = (g k : EReal))

include hw in
theorem weight (j k : Fin 1024) : k0_pay12 (F := Ideal) w (ix2 j k) = W j k := by
  pointwise [k0_pay12]
  exact hw j k

include ha in
theorem sigmoid (r : Fin 512) (k : Fin 512) : k0_pay13 (F := Ideal) a (ix2 r k) = sig ((R r).a k) := by
  pointwise [k0_pay13, ha]
  rw [zero_sub]
  rfl

include hp ho ha in
theorem mixed (r : Fin 512) (j : Fin 1024) : k0_pay16 (F := Ideal) a o p (ix2 r j) = mix (R r) j := by
  pointwise [k0_pay16, k0_pay14, k0_pay15]
  unfold mix
  split
  · exact hp _ _
  · rw [ho, ha, sigmoid R a ha]

include hx hp ho ha hw in
theorem residual (r : Fin 512) (k : Fin 1024) : k0_pay17 (F := Ideal) w a o p x (ix2 r k) = res W (R r) k := by
  pointwise [k0_pay17]
  simp only [hx, mixed R p o a hp ho ha, weight W w hw]
  rfl

include hx hp ho ha hw in
theorem rinv_at (r : Fin 512) : k0_pay18 (F := Ideal) w a o p x (ix2 r 0) = (rinv W (R r) : EReal) := by
  pointwise [k0_pay18]
  simp only [residual R W x p o a w hx hp ho ha hw, ofBits_1024, ofBits_eps]
  exact coe_rinv W (R r)

include hx hp ho ha hw in
theorem normed (r : Fin 512) (k : Fin 1024) : k0_pay19 (F := Ideal) w a o p x (ix2 r k) = (nrm W (R r) k : EReal) := by
  pointwise [k0_pay19]
  rw [residual R W x p o a w hx hp ho ha hw, rinv_at R W x p o a w hx hp ho ha hw, coe_nrm]

variable (n : FVec Ideal S512x1024 .f32) (hn : ∀ r k, n (ix2 r k) = (nrm W (R r) k : EReal))
  (q : FVec Ideal S512x1 .f32) (hq : ∀ r, q (ix2 r 0) = (rinv W (R r) : EReal))

include hn ht hg in
theorem diff_at (r : Fin 512) (k : Fin 1024) : k0_pay21 (F := Ideal) n gain t (ix2 r k) = (diff W g (R r) k : EReal) := by
  pointwise [k0_pay21, k0_pay20]
  rw [hn, hg, ht, ← EReal.coe_mul, ← EReal.coe_sub]
  rfl

include hn ht hg in
theorem loss_at (acc : FVec Ideal S8x128 .f32) (i : Fin 8) (j : Fin 128) :
    k0_pay22 (F := Ideal) n gain t acc (ix2 i j) = acc (ix2 i j) + ∑ r, (tok W g (R r) : EReal) := by
  pointwise [k0_pay22]
  simp only [diff_at R W g t gain ht hg n hn, ofBits_inv_1024, ← EReal.coe_mul, coe_sum]
  refine congrArg (acc _ + ·) ?_
  congr 1
  exact Finset.sum_congr rfl fun r _ => by unfold tok; ring

include hn ht hg in
theorem dout_at (r : Fin 512) (k : Fin 1024) : k0_pay23 (F := Ideal) n gain t (ix2 r k) = (dout W g (R r) k : EReal) := by
  pointwise [k0_pay23]
  rw [diff_at R W g t gain ht hg n hn, ofBits_inv_1024, ← EReal.coe_mul]
  congr 1
  unfold dout; ring

include hn ht hg in
theorem dgain_at (acc : FVec Ideal S1x1024 .f32) (k : Fin 1024) :
    k0_pay24 (F := Ideal) n gain t acc (ix2 0 k)
      = acc (ix2 0 k) + ∑ r, ((dout W g (R r) k * nrm W (R r) k : ℝ) : EReal) := by
  pointwise [k0_pay24]
  simp only [dout_at R W g t gain ht hg n hn, hn, ← EReal.coe_mul]

include hn ht hg hq in
theorem dres_at (r : Fin 512) (k : Fin 1024) : k0_pay25 (F := Ideal) q n gain t (ix2 r k) = (dres W g (R r) k : EReal) := by
  pointwise [k0_pay25, k0_pay20]
  simp only [dout_at R W g t gain ht hg n hn, hn, hg, hq, ofBits_1024, ← EReal.coe_mul, coe_sum]
  rw [coe_div _ _ (by norm_num), ← EReal.coe_mul, ← EReal.coe_sub, ← EReal.coe_mul]
  rfl

variable (v : FVec Ideal S1024x1024 .bf16) (hv : ∀ j k, v (ix2 j k) = W j k)
  (d : FVec Ideal S512x1024 .f32) (hd : ∀ r k, d (ix2 r k) = (dres W g (R r) k : EReal))

include hv hd in
theorem dmix_at (r : Fin 512) (j : Fin 1024) : k0_pay2 (F := Ideal) v d (ix2 r j) = dmix W g (R r) j := by
  pointwise [k0_pay2, k0_pay1]
  simp only [hv, hd]
  rfl

include hv hd in
theorem dpool_at (r : Fin 512) (j : Fin 512) : k0_pay3 (F := Ideal) v d (ix2 r j) = dpool W g (R r) j := by
  pointwise [k0_pay3]
  exact dmix_at R W g v hv d hd r (lo j)

include hv hd ha in
theorem dattn_at (r : Fin 512) (j : Fin 512) :
    k0_pay5 (F := Ideal) v (k0_pay14 a) d (ix2 r j) = dattn W g (R r) j := by
  pointwise [k0_pay5, k0_pay4, k0_pay14]
  rw [sigmoid R a ha, ha]
  exact congrArg (· * _) (dmix_at R W g v hv d hd r (hi j))

include hv hd ha ho in
theorem dgate_at (r : Fin 512) (j : Fin 512) :
    k0_pay6 (F := Ideal) v a (k0_pay13 a) (k0_pay15 o) d (ix2 r j) = dgate W g (R r) j := by
  pointwise [k0_pay6, k0_pay4, k0_pay15]
  rw [sigmoid R a ha, ha, ho]
  exact congrArg (fun z => z * _ * _) (dmix_at R W g v hv d hd r (hi j))

variable (y : FVec Ideal S512x1024 .bf16) (hy : ∀ r j, y (ix2 r j) = mix (R r) j)

include hd hy in
theorem dweight_at (acc : FVec Ideal S1024x1024 .f32) (j k : Fin 1024) :
    k0_pay7 (F := Ideal) y d acc (ix2 j k) = acc (ix2 j k) + ∑ r, mix (R r) j * (dres W g (R r) k : EReal) := by
  pointwise [k0_pay7, k0_pay1]
  simp only [hy, hd]

theorem dweight_out (acc : FVec Ideal S1024x1024 .f32) (b : Fin 8) (j : Fin 128) (k : Fin 1024) :
    k0_pay8 (F := Ideal) acc (ix3 b j k) = acc (ix2 ⟨b.val * 128 + j.val, by omega⟩ k) := by
  pointwise [k0_pay8]

theorem zero_weight (j k : Fin 1024) : k0_pay9 (F := Ideal) (ix2 j k) = 0 := by pointwise [k0_pay9]

theorem zero_gain (k : Fin 1024) : k0_pay10 (F := Ideal) (ix2 0 k) = 0 := by pointwise [k0_pay10]

theorem zero_loss (i : Fin 8) (j : Fin 128) : k0_pay11 (F := Ideal) (ix2 i j) = 0 := by pointwise [k0_pay11]

end OutLossTile

end
-- ==== Proof.LossFold.lean ====
/-
  The out-projection kernel over its sixteen tiles: what each result array holds at an index after the run, for a
  loss target and a gain with finite entries.
-/
module

public import proofs.«01_k».proof.Proof.LossTile
public import proofs.«01_k».proof.Proof.Gen.OutLossIdeal.Value
public import Idealize.ShloMosaic.Lib.Pipeline.ValueKit

@[expose] public section

set_option maxRecDepth 16384

noncomputable section

open Idealize.ShloMosaic Idealize.ShloMosaic.TcCoe Idealize.SL.Sem

namespace OutLossFold

open Cert.OutLossIdeal Cert.OutLossIdeal.Gen OutLossReal RealOps OutLossTile

variable (m : (ℓ : Loc nD τ sig) → Buf (Elt Ideal) ℓ) (c : Dev nD)

/-- Row `n` of the batch (counted modulo the batch). -/
def row (X T : FVec Ideal S8192x1024 .f32) (P O A : FVec Ideal S8192x512 .f32) (n : ℕ) : Row where
  x k := X (ix2 ⟨n % 8192, Nat.mod_lt _ (by decide)⟩ k)
  target k := (T (ix2 ⟨n % 8192, Nat.mod_lt _ (by decide)⟩ k) : EReal).toReal
  pool k := P (ix2 ⟨n % 8192, Nat.mod_lt _ (by decide)⟩ k)
  o k := O (ix2 ⟨n % 8192, Nat.mod_lt _ (by decide)⟩ k)
  a k := A (ix2 ⟨n % 8192, Nat.mod_lt _ (by decide)⟩ k)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0] :=
  (by decide +kernel : ∀ t : Fin grid0.N, _)

theorem blk_x (t : Fin cfg0.N) (r : Fin 512) (k : Fin 1024) (h : 512 * t.val + r.val < 8192) :
    iblk m c 0 t (ix2 r k) = m ((c : Thread nD τ).loc main_arg0) (ix2 ⟨512 * t.val + r.val, h⟩ k) := by
  blk_ext [iblk, V, idx t]

theorem blk_t (t : Fin cfg0.N) (r : Fin 512) (k : Fin 1024) (h : 512 * t.val + r.val < 8192) :
    iblk m c 1 t (ix2 r k) = m ((c : Thread nD τ).loc main_arg1) (ix2 ⟨512 * t.val + r.val, h⟩ k) := by
  blk_ext [iblk, V, idx t]

theorem blk_p (t : Fin cfg0.N) (r : Fin 512) (k : Fin 512) (h : 512 * t.val + r.val < 8192) :
    iblk m c 2 t (ix2 r k) = m ((c : Thread nD τ).loc main_arg2) (ix2 ⟨512 * t.val + r.val, h⟩ k) := by
  blk_point [iblk, V, idx t]

theorem blk_o (t : Fin cfg0.N) (r : Fin 512) (k : Fin 512) (h : 512 * t.val + r.val < 8192) :
    iblk m c 3 t (ix2 r k) = m ((c : Thread nD τ).loc main_arg3) (ix2 ⟨512 * t.val + r.val, h⟩ k) := by
  blk_point [iblk, V, idx t]

theorem blk_a (t : Fin cfg0.N) (r : Fin 512) (k : Fin 512) (h : 512 * t.val + r.val < 8192) :
    iblk m c 4 t (ix2 r k) = m ((c : Thread nD τ).loc main_arg4) (ix2 ⟨512 * t.val + r.val, h⟩ k) := by
  blk_point [iblk, V, idx t]

theorem blk_w (t : Fin cfg0.N) (j : Fin 1024) (k : Fin 1024) :
    iblk m c 5 t (ix3 (shard j) (within j) k) = m ((c : Thread nD τ).loc main_arg5) (ix2 j k) := by
  blk_point [iblk, V, idx t]

theorem blk_g (t : Fin cfg0.N) (k : Fin 1024) :
    iblk m c 6 t (ix2 0 k) = m ((c : Thread nD τ).loc main_arg6) (ix1 k) := by
  blk_point [iblk, V, idx t]

/-- The entries of the loss target and of the gain are real numbers. -/
structure Finite : Prop where
  target : ∀ i : S8192x1024.Idx, (m ((c : Thread nD τ).loc main_arg1) i : EReal) = ((m ((c : Thread nD τ).loc main_arg1) i : EReal).toReal : EReal)
  g : ∀ i : S1024.Idx, (m ((c : Thread nD τ).loc main_arg6) i : EReal) = ((m ((c : Thread nD τ).loc main_arg6) i : EReal).toReal : EReal)

/-- Row `n` of the kernel's arguments. -/
abbrev rowAt (n : ℕ) : Row :=
  row (m ((c : Thread nD τ).loc main_arg0)) (m ((c : Thread nD τ).loc main_arg1)) (m ((c : Thread nD τ).loc main_arg2))
    (m ((c : Thread nD τ).loc main_arg3)) (m ((c : Thread nD τ).loc main_arg4)) n

/-- The kernel's weight. -/
def wAt (j k : Fin 1024) : EReal := m ((c : Thread nD τ).loc main_arg5) (ix2 j k)

/-- The kernel's gain as real numbers. -/
def gAt (k : Fin 1024) : ℝ := (m ((c : Thread nD τ).loc main_arg6) (ix1 k) : EReal).toReal

theorem row_mod (n : ℕ) (h : n < 8192) : (⟨n % 8192, Nat.mod_lt _ (by decide)⟩ : Fin 8192) = ⟨n, h⟩ :=
  Fin.ext (Nat.mod_eq_of_lt h)

variable (f : Finite m c)

/-- The rows of tile `t`. -/
abbrev rows (t : Fin cfg0.N) (r : Fin 512) : Row := rowAt m c (512 * t.val + r.val)

theorem tile_lt (t : Fin cfg0.N) (r : Fin 512) : 512 * t.val + r.val < 8192 := by
  have := lt_of_lt_of_eq t.isLt (show cfg0.N = 16 from N_0)
  omega

include f

theorem in_x (t : Fin cfg0.N) (r : Fin 512) (k : Fin 1024) : iblk m c 0 t (ix2 r k) = (rows m c t r).x k := by
  rw [blk_x m c t r k (tile_lt t r), ← row_mod _ (tile_lt t r)]; rfl

theorem in_target (t : Fin cfg0.N) (r : Fin 512) (k : Fin 1024) : iblk m c 1 t (ix2 r k) = ((rows m c t r).target k : EReal) := by
  rw [blk_t m c t r k (tile_lt t r), f.target, ← row_mod _ (tile_lt t r)]; rfl

theorem in_pool (t : Fin cfg0.N) (r : Fin 512) (k : Fin 512) : iblk m c 2 t (ix2 r k) = (rows m c t r).pool k := by
  rw [blk_p m c t r k (tile_lt t r), ← row_mod _ (tile_lt t r)]; rfl

theorem in_o (t : Fin cfg0.N) (r : Fin 512) (k : Fin 512) : iblk m c 3 t (ix2 r k) = (rows m c t r).o k := by
  rw [blk_o m c t r k (tile_lt t r), ← row_mod _ (tile_lt t r)]; rfl

theorem in_a (t : Fin cfg0.N) (r : Fin 512) (k : Fin 512) : iblk m c 4 t (ix2 r k) = (rows m c t r).a k := by
  rw [blk_a m c t r k (tile_lt t r), ← row_mod _ (tile_lt t r)]; rfl

theorem in_w (t : Fin cfg0.N) (j k : Fin 1024) :
    iblk m c 5 t (ix3 (shard j) (within j) k) = wAt m c j k := by
  rw [blk_w]; rfl

theorem in_g (t : Fin cfg0.N) (k : Fin 1024) : iblk m c 6 t (ix2 0 k) = (gAt m c k : EReal) := by
  rw [blk_g, f.g]; rfl

theorem nrm_t (t : Fin cfg0.N) (r : Fin 512) (k : Fin 1024) :
    k0_pay19 (F := Ideal) (iblk m c 5 t) (iblk m c 4 t) (iblk m c 3 t) (iblk m c 2 t) (iblk m c 0 t) (ix2 r k)
      = (nrm (wAt m c) (rows m c t r) k : EReal) :=
  normed (rows m c t) (wAt m c) _ _ _ _ _ (in_x m c f t) (in_pool m c f t) (in_o m c f t) (in_a m c f t) (in_w m c f t) r k

theorem dres_t (t : Fin cfg0.N) (r : Fin 512) (k : Fin 1024) :
    k0_pay25 (F := Ideal) (k0_pay18 (iblk m c 5 t) (iblk m c 4 t) (iblk m c 3 t) (iblk m c 2 t) (iblk m c 0 t))
      (k0_pay19 (iblk m c 5 t) (iblk m c 4 t) (iblk m c 3 t) (iblk m c 2 t) (iblk m c 0 t)) (iblk m c 6 t) (iblk m c 1 t) (ix2 r k)
      = (dres (wAt m c) (gAt m c) (rows m c t r) k : EReal) :=
  dres_at (rows m c t) (wAt m c) (gAt m c) _ _ (in_target m c f t) (in_g m c f t) _ (nrm_t m c f t) _
    (fun r => rinv_at (rows m c t) (wAt m c) _ _ _ _ _ (in_x m c f t) (in_pool m c f t) (in_o m c f t) (in_a m c f t) (in_w m c f t) r) r k

theorem weight_t (t : Fin cfg0.N) (j k : Fin 1024) : k0_pay12 (F := Ideal) (iblk m c 5 t) (ix2 j k) = wAt m c j k :=
  weight (wAt m c) _ (in_w m c f t) j k

/-- What point `t` leaves in the four outputs that each point writes whole. -/
theorem written (t : Fin cfg0.N) (r : Fin 512) (k : Fin 1024) (j : Fin 512) :
    (outsAt0 m c t.val t.isLt).1 (ix2 r k) = (dres (wAt m c) (gAt m c) (rows m c t r) k : EReal)
    ∧ (outsAt0 m c t.val t.isLt).2.1 (ix2 r j) = dpool (wAt m c) (gAt m c) (rows m c t r) j
    ∧ (outsAt0 m c t.val t.isLt).2.2.1 (ix2 r j) = dattn (wAt m c) (gAt m c) (rows m c t r) j
    ∧ (outsAt0 m c t.val t.isLt).2.2.2.1 (ix2 r j) = dgate (wAt m c) (gAt m c) (rows m c t r) j := by
  have key := And.intro (dres_t m c f t r k) (And.intro
    (dpool_at (rows m c t) (wAt m c) (gAt m c) _ (weight_t m c f t) _ (dres_t m c f t) r j) (And.intro
    (dattn_at (rows m c t) (wAt m c) (gAt m c) _ (in_a m c f t) _ (weight_t m c f t) _ (dres_t m c f t) r j)
    (dgate_at (rows m c t) (wAt m c) (gAt m c) _ _ (in_o m c f t) (in_a m c f t) _ (weight_t m c f t) _ (dres_t m c f t) r j)))
  by_cases h0 : t.val % 16 = 0
  · rw [outsAt0_A m c t h0 (by omega)]; frame_out; exact key
  · by_cases h1 : t.val % 16 = 15
    · rw [outsAt0_C m c t h0 h1]; frame_out; exact key
    · rw [outsAt0_B m c t h0 h1]; frame_out; exact key

/-- What the three running sums hold after point `t`, from what they hold before it. -/
theorem step (t : Fin cfg0.N) (i : Fin 8) (l : Fin 128) (j k : Fin 1024) (G L S : EReal)
    (hp : ¬t.val % 16 = 0 → (outsAt0 m c (t.val - 1) (Nat.lt_of_le_of_lt (Nat.sub_le _ _) t.isLt)).2.2.2.2.2.1 (ix2 0 k) = G
      ∧ (outsAt0 m c (t.val - 1) (Nat.lt_of_le_of_lt (Nat.sub_le _ _) t.isLt)).2.2.2.2.2.2.1 (ix2 i l) = L
      ∧ (outsAt0 m c (t.val - 1) (Nat.lt_of_le_of_lt (Nat.sub_le _ _) t.isLt)).2.2.2.2.2.2.2 (ix2 j k) = S)
    (hz : t.val % 16 = 0 → G = 0 ∧ L = 0 ∧ S = 0) :
    (outsAt0 m c t.val t.isLt).2.2.2.2.2.1 (ix2 0 k)
        = G + ∑ r, ((dout (wAt m c) (gAt m c) (rows m c t r) k * nrm (wAt m c) (rows m c t r) k : ℝ) : EReal)
    ∧ (outsAt0 m c t.val t.isLt).2.2.2.2.2.2.1 (ix2 i l) = L + ∑ r, (tok (wAt m c) (gAt m c) (rows m c t r) : EReal)
    ∧ (outsAt0 m c t.val t.isLt).2.2.2.2.2.2.2 (ix2 j k)
        = S + ∑ r, mix (rows m c t r) j * (dres (wAt m c) (gAt m c) (rows m c t r) k : EReal)
    ∧ (t.val % 16 = 15 → ∀ (b : Fin 8) (q : Fin 128), j.val = b.val * 128 + q.val →
        (outsAt0 m c t.val t.isLt).2.2.2.2.1 (ix3 b q k)
          = S + ∑ r, mix (rows m c t r) j * (dres (wAt m c) (gAt m c) (rows m c t r) k : EReal)) := by
  have hG := fun acc => dgain_at (rows m c t) (wAt m c) (gAt m c) _ _ (in_target m c f t) (in_g m c f t) _ (nrm_t m c f t) acc k
  have hL := fun acc => loss_at (rows m c t) (wAt m c) (gAt m c) _ _ (in_target m c f t) (in_g m c f t) _ (nrm_t m c f t) acc i l
  have hS := fun acc j => dweight_at (rows m c t) (wAt m c) (gAt m c) _ (dres_t m c f t) _
    (mixed (rows m c t) _ _ _ (in_pool m c f t) (in_o m c f t) (in_a m c f t)) acc j k
  by_cases h0 : t.val % 16 = 0
  · obtain ⟨rfl, rfl, rfl⟩ := hz h0
    rw [outsAt0_A m c t h0 (by omega)]
    frame_out
    rw [hG, hL, hS, zero_gain, zero_loss, zero_weight]
    exact ⟨rfl, rfl, rfl, fun h => absurd h (by omega)⟩
  · obtain ⟨rfl, rfl, rfl⟩ := hp h0
    by_cases h1 : t.val % 16 = 15
    · rw [outsAt0_C m c t h0 h1]
      frame_out
      refine ⟨hG _, hL _, (hS _ j).trans (congrArg (· + _) (congrFun (Memref.IsWhole.read_unread _ _) _)), fun _ b q hj => ?_⟩
      refine (dweight_out _ b q k).trans ?_
      rw [show (⟨b.val * 128 + q.val, _⟩ : Fin 1024) = j from Fin.ext hj.symm]
      exact (hS _ _).trans (congrArg (· + _) (congrFun (Memref.IsWhole.read_unread _ _) _))
    · rw [outsAt0_B m c t h0 h1]
      frame_out
      exact ⟨hG _, hL _, (hS _ j).trans (congrArg (· + _) (congrFun (Memref.IsWhole.read_unread _ _) _)), fun h => absurd h h1⟩

/-- What the running sums hold after point `n`: the sums over the rows of tiles `0` to `n`; at the last point the weight's
    gradient is written out too. -/
theorem sums (i : Fin 8) (l : Fin 128) (j k : Fin 1024) : ∀ (n : ℕ) (hn : n < cfg0.N),
    (outsAt0 m c n hn).2.2.2.2.2.1 (ix2 0 k)
        = ∑ r ∈ Finset.range (512 * (n + 1)), ((dout (wAt m c) (gAt m c) (rowAt m c r) k * nrm (wAt m c) (rowAt m c r) k : ℝ) : EReal)
    ∧ (outsAt0 m c n hn).2.2.2.2.2.2.1 (ix2 i l)
        = ∑ r ∈ Finset.range (512 * (n + 1)), (tok (wAt m c) (gAt m c) (rowAt m c r) : EReal)
    ∧ (outsAt0 m c n hn).2.2.2.2.2.2.2 (ix2 j k)
        = ∑ r ∈ Finset.range (512 * (n + 1)), mix (rowAt m c r) j * (dres (wAt m c) (gAt m c) (rowAt m c r) k : EReal)
    ∧ (n = 15 → ∀ (b : Fin 8) (q : Fin 128), j.val = b.val * 128 + q.val → (outsAt0 m c n hn).2.2.2.2.1 (ix3 b q k)
        = ∑ r ∈ Finset.range (512 * (n + 1)), mix (rowAt m c r) j * (dres (wAt m c) (gAt m c) (rowAt m c r) k : EReal)) := by
  intro n
  induction n with
  | zero =>
    intro hn
    obtain ⟨h1, h2, h3, -⟩ := step m c f ⟨0, hn⟩ i l j k _ _ _ (fun h => absurd rfl h) (fun _ => ⟨rfl, rfl, rfl⟩)
    refine ⟨h1.trans ?_, h2.trans ?_, h3.trans ?_, fun h => absurd h (by decide)⟩ <;>
      (refine Eq.trans ?_ (sum_tile_zero 512 _); exact congrArg _ (Finset.sum_congr rfl fun r _ => rfl))
  | succ n ih =>
    intro hn
    have hN : n + 1 < 16 := lt_of_lt_of_eq hn N_0
    obtain ⟨p1, p2, p3, -⟩ := ih (Nat.lt_of_succ_lt hn)
    obtain ⟨h1, h2, h3, h4⟩ := step m c f ⟨n + 1, hn⟩ i l j k _ _ _ (fun _ => ⟨p1, p2, p3⟩)
      (fun h => absurd h (by dsimp only; omega))
    refine ⟨h1.trans (sum_tile 512 _ (n + 1)), h2.trans (sum_tile 512 _ (n + 1)), h3.trans (sum_tile 512 _ (n + 1)), fun h b q hj => ?_⟩
    exact (h4 (by dsimp only; omega) b q hj).trans (sum_tile 512 _ (n + 1))

omit f in
/-- The tile that holds row `n` is one of the grid's points. -/
theorem point_lt (n : Fin 8192) : n.val / 512 < cfg0.N := lt_of_lt_of_eq (by omega : n.val / 512 < 16) N_0.symm

/-- The place of row `n` in its tile. -/
abbrev place (n : Fin 8192) : Fin 512 := ⟨n.val % 512, Nat.mod_lt _ (by decide)⟩

omit f in
theorem row_of (n : Fin 8192) : rows m c ⟨n.val / 512, point_lt n⟩ (place n) = rowAt m c n.val := by
  show rowAt m c (512 * (n.val / 512) + n.val % 512) = _
  rw [Nat.div_add_mod]

/-- The first output at a row of the batch. -/
theorem value_dx (n : Fin 8192) (k : Fin 1024) :
    Value.G7 m c (ix2 n k) = (dres (wAt m c) (gAt m c) (rowAt m c n.val) k : EReal) := by
  have hp := point_lt n
  have hw := (written m c f ⟨n.val / 512, hp⟩ (place n) k 0).1
  rw [Value.outsAt0_sweep, row_of] at hw
  unfold Value.G7
  have e : Value.pt7Of (ix2 n k) = n.val / 512 := by
    show 1 * (n.val / 512 - 0) + 1 * (k.val / 1024 - 0) = _
    omega
  have l : Value.loc7Of (ix2 n k) = ix2 (place n) k := by
    funext b; apply Fin.ext
    match b with
    | ⟨0, _⟩ => rfl
    | ⟨1, _⟩ => exact Nat.mod_eq_of_lt k.isLt
  rw [dif_pos (by rw [e]; exact hp), l, Value.fold0_congr m c _ _ (n.val / 512) (by omega) e]
  exact hw

/-- The second output at a row of the batch. -/
theorem value_dpool (n : Fin 8192) (k : Fin 512) :
    Value.G8 m c (ix2 n k) = dpool (wAt m c) (gAt m c) (rowAt m c n.val) k := by
  have hp := point_lt n
  have hw := (written m c f ⟨n.val / 512, hp⟩ (place n) 0 k).2.1
  rw [Value.outsAt0_sweep, row_of] at hw
  unfold Value.G8
  have e : Value.pt8Of (ix2 n k) = n.val / 512 := by
    show 1 * (n.val / 512 - 0) + 1 * (k.val / 512 - 0) = _
    omega
  have l : Value.loc8Of (ix2 n k) = ix2 (place n) k := by
    funext b; apply Fin.ext
    match b with
    | ⟨0, _⟩ => rfl
    | ⟨1, _⟩ => exact Nat.mod_eq_of_lt k.isLt
  rw [dif_pos (by rw [e]; exact hp), l, Value.fold0_congr m c _ _ (n.val / 512) (by omega) e]
  exact hw

/-- The third output at a row of the batch. -/
theorem value_dattn (n : Fin 8192) (k : Fin 512) :
    Value.G9 m c (ix2 n k) = dattn (wAt m c) (gAt m c) (rowAt m c n.val) k := by
  have hp := point_lt n
  have hw := (written m c f ⟨n.val / 512, hp⟩ (place n) 0 k).2.2.1
  rw [Value.outsAt0_sweep, row_of] at hw
  unfold Value.G9
  have e : Value.pt9Of (ix2 n k) = n.val / 512 := by
    show 1 * (n.val / 512 - 0) + 1 * (k.val / 512 - 0) = _
    omega
  have l : Value.loc9Of (ix2 n k) = ix2 (place n) k := by
    funext b; apply Fin.ext
    match b with
    | ⟨0, _⟩ => rfl
    | ⟨1, _⟩ => exact Nat.mod_eq_of_lt k.isLt
  rw [dif_pos (by rw [e]; exact hp), l, Value.fold0_congr m c _ _ (n.val / 512) (by omega) e]
  exact hw

/-- The fourth output at a row of the batch. -/
theorem value_dgate (n : Fin 8192) (k : Fin 512) :
    Value.G10 m c (ix2 n k) = dgate (wAt m c) (gAt m c) (rowAt m c n.val) k := by
  have hp := point_lt n
  have hw := (written m c f ⟨n.val / 512, hp⟩ (place n) 0 k).2.2.2
  rw [Value.outsAt0_sweep, row_of] at hw
  unfold Value.G10
  have e : Value.pt10Of (ix2 n k) = n.val / 512 := by
    show 1 * (n.val / 512 - 0) + 1 * (k.val / 512 - 0) = _
    omega
  have l : Value.loc10Of (ix2 n k) = ix2 (place n) k := by
    funext b; apply Fin.ext
    match b with
    | ⟨0, _⟩ => rfl
    | ⟨1, _⟩ => exact Nat.mod_eq_of_lt k.isLt
  rw [dif_pos (by rw [e]; exact hp), l, Value.fold0_congr m c _ _ (n.val / 512) (by omega) e]
  exact hw

theorem value_dgain (k : Fin 1024) :
    Value.G12 m c (ix2 0 k)
      = ∑ r : Fin 8192, ((dout (wAt m c) (gAt m c) (rowAt m c r.val) k * nrm (wAt m c) (rowAt m c r.val) k : ℝ) : EReal) := by
  rw [Value.G12_last, ← Value.outsAt0_sweep m c 15 (lt_of_lt_of_eq (by decide) N_0.symm), (sums m c f 0 0 0 k 15 _).1, sum_range_fin (512 * (15 + 1))]

theorem value_loss (i : Fin 8) (l : Fin 128) :
    Value.G13 m c (ix2 i l) = ∑ r : Fin 8192, (tok (wAt m c) (gAt m c) (rowAt m c r.val) : EReal) := by
  rw [Value.G13_last, ← Value.outsAt0_sweep m c 15 (lt_of_lt_of_eq (by decide) N_0.symm), (sums m c f i l 0 0 15 _).2.1, sum_range_fin (512 * (15 + 1))]

theorem value_dweight (b : Fin 8) (q : Fin 128) (k : Fin 1024) :
    Value.G11 m c (ix3 b q k)
      = ∑ r : Fin 8192, mix (rowAt m c r.val) (joined b q) * (dres (wAt m c) (gAt m c) (rowAt m c r.val) k : EReal) := by
  rw [Value.G11_last, ← Value.outsAt0_sweep m c 15 (lt_of_lt_of_eq (by decide) N_0.symm),
    (sums m c f 0 0 (joined b q) k 15 _).2.2.2 rfl b q rfl, sum_range_fin (512 * (15 + 1))]

end OutLossFold

end
-- ==== Proof.LossRef.lean ====
/-
  The reference's results at an index, for a loss target and a gain with finite entries: the same expressions as the
  kernel's.
-/
module

public import proofs.«01_k».proof.Proof.RealOps
public import proofs.«01_k».proof.Proof.RealRow
public import proofs.«01_k».proof.Proof.Gen.OutLossRefIdeal.Read
public import Idealize.ShloMosaic.Lib.Pointwise

@[expose] public section

set_option maxRecDepth 16384

noncomputable section

open Idealize.ShloMosaic Idealize.ShloMosaic.TcCoe Idealize.SL.Sem

namespace OutLossRef

open Cert.OutLossRefIdeal Cert.OutLossRefIdeal.Gen Cert.OutLossRefIdeal.Read OutLossReal RealOps

variable (X T : FVec Ideal S8192x1024 .f32) (P O A : FVec Ideal S8192x512 .f32) (W : FVec Ideal S1024x1024 .f32)
  (G : FVec Ideal S1024 .f32) (R : Fin 8192 → Row) (w : Fin 1024 → Fin 1024 → EReal) (g : Fin 1024 → ℝ)

/-- The arguments' entries are those of the rows, the weight and the gain. -/
structure Reads : Prop where
  x : ∀ n k, X (ix2 n k) = (R n).x k
  target : ∀ n k, T (ix2 n k) = ((R n).target k : EReal)
  pool : ∀ n k, P (ix2 n k) = (R n).pool k
  o : ∀ n k, O (ix2 n k) = (R n).o k
  a : ∀ n k, A (ix2 n k) = (R n).a k
  w : ∀ j k, W (ix2 j k) = w j k
  g : ∀ k, G (ix1 k) = (g k : EReal)

variable (f : Reads X T P O A W G R w g)

include f

theorem sigmoid (n : Fin 8192) (k : Fin 512) : val_main_v0_2 (F := Ideal) A (ix2 n k) = sig ((R n).a k) := by
  pointwise [val_main_v0_2, val_main_call0_v4, val_main_call0_v3, val_main_call0_v2, val_main_call0_v1, val_main_call0_v0,
    val_main_call0_cst, val_main_call0_cst_0]
  rw [f.a]
  rfl

theorem silu (n : Fin 8192) (k : Fin 512) :
    val_main_v0_0 (F := Ideal) A (ix2 n k) = (R n).a k * sig ((R n).a k) := by
  pointwise [val_main_v0_0]
  rw [f.a, sigmoid X T P O A W G R w g f]

theorem mixed (n : Fin 8192) (j : Fin 1024) : val_main_v2 (F := Ideal) P O A (ix2 n j) = mix (R n) j := by
  pointwise [val_main_v2, val_main_v1]
  unfold mix
  split
  · rw [f.pool]
  · rw [f.o, silu X T P O A W G R w g f]

theorem residual (n : Fin 8192) (k : Fin 1024) : val_main_v4 (F := Ideal) X P O A W (ix2 n k) = res w (R n) k := by
  pointwise [val_main_v4, val_main_v3]
  simp only [mixed X T P O A W G R w g f, f.x, f.w]
  rfl

theorem square_mean (n : Fin 8192) : val_main_v11 (F := Ideal) X P O A W (ix2 n 0) = ms w (R n) := by
  pointwise [val_main_v11, val_main_v10, val_main_v9, val_main_v8, val_main_v7, val_main_v6, val_main_v5, val_main_cst_1,
    val_main_cst_0, val_main_cst]
  simp only [residual X T P O A W G R w g f, ofBits_1024, ofBits_eps]
  rfl

theorem root (n : Fin 8192) : val_main_v12 (F := Ideal) X P O A W (ix2 n 0) = (rinv w (R n) : EReal) := by
  pointwise [val_main_v12]
  rw [square_mean X T P O A W G R w g f, coe_rinv]

theorem normed (n : Fin 8192) (k : Fin 1024) : val_main_v17 (F := Ideal) X P O A W (ix2 n k) = (nrm w (R n) k : EReal) := by
  pointwise [val_main_v17, val_main_v16]
  rw [residual X T P O A W G R w g f, root X T P O A W G R w g f, coe_nrm]

theorem diff_at (n : Fin 8192) (k : Fin 1024) :
    val_main_v21 (F := Ideal) X T P O A W G (ix2 n k) = (diff w g (R n) k : EReal) := by
  pointwise [val_main_v21, val_main_v20, val_main_v19, val_main_v18]
  rw [normed X T P O A W G R w g f, f.g, f.target, ← EReal.coe_mul, ← EReal.coe_sub]
  rfl

theorem dout_at (n : Fin 8192) (k : Fin 1024) :
    val_main_v35 (F := Ideal) X T P O A W G (ix2 n k) = (dout w g (R n) k : EReal) := by
  pointwise [val_main_v35, val_main_v34, val_main_v33, val_main_v32, val_main_v31, val_main_v30, val_main_v24, val_main_v23,
    val_main_cst_8, val_main_cst_9, val_main_cst_10, val_main_cst_3]
  rw [diff_at X T P O A W G R w g f, ofBits_half, ofBits_1024, ofBits_two, coe_div _ _ (by norm_num), ← EReal.coe_mul, ← EReal.coe_mul]
  congr 1
  unfold dout
  ring

theorem dgain_at (k : Fin 1024) :
    val_main_v69 (F := Ideal) X T P O A W G (ix2 0 k) = ∑ n, ((dout w g (R n) k * nrm w (R n) k : ℝ) : EReal) := by
  pointwise [val_main_v69, val_main_v41, val_main_v38, val_main_v37, val_main_v36, val_main_cst_11, val_main_cst_12]
  simp only [normed X T P O A W G R w g f, dout_at X T P O A W G R w g f, ← EReal.coe_mul, Finset.univ_unique, Finset.sum_singleton]
  exact Finset.sum_congr rfl fun n _ => congrArg _ (mul_comm _ _)

theorem loss_at (i : Fin 8) (l : Fin 128) :
    val_main_v71 (F := Ideal) X T P O A W G (ix2 i l) = ∑ n, (tok w g (R n) : EReal) := by
  pointwise [val_main_v71, val_main_v70, val_main_v29, val_main_v28, val_main_v27, val_main_v26, val_main_v25, val_main_v22, val_main_cst_16,
    val_main_cst_7, val_main_cst_6, val_main_cst_5, val_main_cst_4]
  simp only [diff_at X T P O A W G R w g f, ofBits_two, ofBits_half, ofBits_1024, ← EReal.coe_mul, coe_sum, coe_div _ _ (show (1024 : ℝ) ≠ 0 by norm_num)]
  congr 1
  rw [← mul_assoc]
  norm_num
  rfl

theorem dres_at (n : Fin 8192) (k : Fin 1024) :
    val_main_v55 (F := Ideal) X T P O A W G (ix2 n k) = (dres w g (R n) k : EReal) := by
  pointwise [val_main_v55, val_main_v54, val_main_v53, val_main_v52, val_main_v51, val_main_v50, val_main_v49, val_main_v48, val_main_v47, val_main_v46,
    val_main_v45, val_main_v44, val_main_v43, val_main_v42, val_main_v40, val_main_v39, val_main_v18, val_main_v15, val_main_v14, val_main_v13,
    val_main_cst_2, val_main_cst_13, val_main_cst_14, val_main_cst_15]
  simp only [Finset.univ_unique, Fin.default_eq_zero, Finset.sum_singleton, residual X T P O A W G R w g f, root X T P O A W G R w g f,
    square_mean X T P O A W G R w g f, dout_at X T P O A W G R w g f, f.g, ofBits_neg_half, ofBits_1024, ← EReal.coe_mul]
  exact dres_eq w g (R n) k

theorem dmix_at (n : Fin 8192) (j : Fin 1024) :
    val_main_v58 (F := Ideal) X T P O A W G (ix2 n j) = dmix w g (R n) j := by
  pointwise [val_main_v58]
  simp only [dres_at X T P O A W G R w g f, f.w]
  rfl

theorem dpool_at (n : Fin 8192) (k : Fin 512) :
    val_main_v64 (F := Ideal) X T P O A W G (ix2 n k) = dpool w g (R n) k := by
  pointwise [val_main_v64, val_main_v59]
  rw [dmix_at X T P O A W G R w g f]
  rfl

theorem dattn_at (n : Fin 8192) (k : Fin 512) :
    val_main_v65 (F := Ideal) X T P O A W G (ix2 n k) = dattn w g (R n) k := by
  pointwise [val_main_v65, val_main_v62, val_main_v60]
  rw [dmix_at X T P O A W G R w g f, silu X T P O A W G R w g f]
  rfl

theorem dgate_at (n : Fin 8192) (k : Fin 512) :
    val_main_v66 (F := Ideal) X T P O A W G (ix2 n k) = dgate w g (R n) k := by
  pointwise [val_main_v66, val_main_v63, val_main_call1_v2, val_main_call1_v1, val_main_call1_v0, val_main_v61, val_main_v60, val_main_v0_1,
    val_main_call0_v7, val_main_call0_v6, val_main_call0_cst_1]
  simp only [dmix_at X T P O A W G R w g f, sigmoid X T P O A W G R w g f, f.o, f.a]
  exact dgate_eq w g (R n) k

theorem dweight_at (b : Fin 8) (q : Fin 128) (k : Fin 1024) :
    val_main_v68 (F := Ideal) X T P O A W G (ix3 b q k)
      = ∑ n, mix (R n) (joined b q) * (dres w g (R n) k : EReal) := by
  pointwise [val_main_v68, val_main_v67, val_main_v57, val_main_v56]
  simp only [dres_at X T P O A W G R w g f, mixed X T P O A W G R w g f]
  exact Finset.sum_congr rfl fun n _ => mul_comm _ _

end OutLossRef

end
-- ==== Proof.LossClaim.lean ====
/-
  The seven results of the out-projection kernel are the reference's, for a loss target and a gain that meet the stated
  precondition.
-/
module

public import proofs.«01_k».proof.Proof.LossFold
public import proofs.«01_k».proof.Proof.LossRef
public import proofs.«01_k».proof.Proof.Gen.Pre_out_loss_finite
public import Idealize.ShloMosaic.Lib.ReduceAll

@[expose] public section

set_option maxRecDepth 16384

noncomputable section

open Idealize.ShloMosaic Idealize.ShloMosaic.TcCoe Idealize.SL.Sem

namespace OutLossClaim

open Cert.OutLossIdeal Cert.OutLossIdeal.Gen OutLossReal RealOps OutLossFold Cert.OutLossRefIdeal.Read

variable (m : (ℓ : Loc nD τ sig) → Buf (Elt Ideal) ℓ) (c : Dev nD)

/-- The precondition, read: the loss target and the gain hold real numbers. -/
theorem finite_of_pre
    (h : Cert.Pre_out_loss_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Finite m c := by
  unfold Cert.Pre_out_loss_finite.fn at h
  have h0 := congrFun h ix0
  obtain ⟨h1, h2⟩ := (and_one _ _).mp h0
  exact ⟨fun i => real_of_abs_lt _ (Host.reduce_andi_all _ _ _ _ _ h1 i), fun i => real_of_abs_lt _ (Host.reduce_andi_all _ _ _ _ _ h2 i)⟩

variable (f : Finite m c)

include f

theorem reads : OutLossRef.Reads (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (fun n => rowAt m c n.val) (wAt m c) (gAt m c) where
  x n k := congrArg (fun i => m ((c : Thread nD τ).loc main_arg0) (ix2 i k)) (row_mod n.val n.isLt).symm
  target n k := (f.target _).trans (congrArg (fun i => ((m ((c : Thread nD τ).loc main_arg1) (ix2 i k) : EReal).toReal : EReal)) (row_mod n.val n.isLt).symm)
  pool n k := congrArg (fun i => m ((c : Thread nD τ).loc main_arg2) (ix2 i k)) (row_mod n.val n.isLt).symm
  o n k := congrArg (fun i => m ((c : Thread nD τ).loc main_arg3) (ix2 i k)) (row_mod n.val n.isLt).symm
  a n k := congrArg (fun i => m ((c : Thread nD τ).loc main_arg4) (ix2 i k)) (row_mod n.val n.isLt).symm
  w j k := rfl
  g k := f.g (ix1 k)

theorem dx_eq : Value.G7 m c = val_main_v55 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  funext i
  idx_vars i
  exact (value_dx m c f _ _).trans (OutLossRef.dres_at _ _ _ _ _ _ _ _ _ _ (reads m c f) _ _).symm

theorem dpool_eq : Value.G8 m c = val_main_v64 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  funext i
  idx_vars i
  exact (value_dpool m c f _ _).trans (OutLossRef.dpool_at _ _ _ _ _ _ _ _ _ _ (reads m c f) _ _).symm

theorem dattn_eq : Value.G9 m c = val_main_v65 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  funext i
  idx_vars i
  exact (value_dattn m c f _ _).trans (OutLossRef.dattn_at _ _ _ _ _ _ _ _ _ _ (reads m c f) _ _).symm

theorem dgate_eq : Value.G10 m c = val_main_v66 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  funext i
  idx_vars i
  exact (value_dgate m c f _ _).trans (OutLossRef.dgate_at _ _ _ _ _ _ _ _ _ _ (reads m c f) _ _).symm

theorem dweight_eq : Value.G11 m c = val_main_v68 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  funext i
  idx_vars i
  exact (value_dweight m c f _ _ _).trans (OutLossRef.dweight_at _ _ _ _ _ _ _ _ _ _ (reads m c f) _ _ _).symm

theorem dgain_eq : Value.G12 m c = val_main_v69 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  funext i
  idx_vars i
  obtain rfl : i0 = 0 := Subsingleton.elim _ _
  exact (value_dgain m c f _).trans (OutLossRef.dgain_at _ _ _ _ _ _ _ _ _ _ (reads m c f) _).symm

theorem loss_eq : Value.G13 m c = val_main_v71 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  funext i
  idx_vars i
  exact (value_loss m c f _ _).trans (OutLossRef.loss_at _ _ _ _ _ _ _ _ _ _ (reads m c f) _ _).symm

end OutLossClaim

end
-- ==== Proof.PoolReal.lean ====
/-
  One group of the pooling, its gate and their gradients over the real numbers: what both programs of the `PoolDw` pair
  compute on 128 columns once the gain, the pooled columns of the weight, the group's weight and scale and the gradient
  at the pooled half are finite.
-/
module

public import proofs.«01_k».proof.Proof.RealRow

@[expose] public section

noncomputable section

open Idealize.ShloMosaic RealOps

namespace PoolReal

/-- One group: its value columns, its gate's columns, the gradient at its output, its weight, its scale, its window. -/
structure Grp where
  v : ℕ → Fin 128 → ℝ
  g : ℕ → Fin 128 → ℝ
  dy : ℕ → Fin 128 → ℝ
  P : Fin 128 → Fin 128 → ℝ
  s : Fin 128 → ℝ
  w : ℕ

/-- How many rows the window that ends at row `n` has. -/
def cnt (w n : ℕ) : ℝ := ((min (n + 1) w : ℕ) : ℝ)

/-- The sum over the `w` rows that end at row `n`. -/
def back (w : ℕ) (f : ℕ → ℝ) (n : ℕ) : ℝ := ∑ j ∈ Finset.range w, if j ≤ n then f (n - j) else 0

/-- The sum over the `w` rows that start at row `n`, as far as the batch goes. -/
def fwd (w : ℕ) (f : ℕ → ℝ) (n : ℕ) : ℝ := ∑ j ∈ Finset.range w, if n + j < 8192 then f (n + j) else 0

/-- The logistic function. -/
def sg (a : ℝ) : ℝ := 1 / (1 + Real.exp (-a))

variable (G : Grp)

/-- The window's mean, less the row. -/
def d (n : ℕ) (k : Fin 128) : ℝ := back G.w (fun n => G.v n k) n * (1 / cnt G.w n) - G.v n k

/-- The difference times the group's weight. -/
def z (n : ℕ) (k : Fin 128) : ℝ := ∑ j, d G n j * G.P j k

/-- The gate's SiLU. -/
def gate (n : ℕ) (k : Fin 128) : ℝ := G.g n k * sg (G.g n k)

/-- The gradient at the scaled product. -/
def dz (n : ℕ) (k : Fin 128) : ℝ := G.dy n k * gate G n k * G.s k

/-- The gradient at the difference. -/
def dd (n : ℕ) (k : Fin 128) : ℝ := ∑ j, dz G n j * G.P k j

/-- The gradient at the window's sum. -/
def e (n : ℕ) (k : Fin 128) : ℝ := dd G n k * (1 / cnt G.w n)

/-- The gradient at the value columns. -/
def dpv (n : ℕ) (k : Fin 128) : ℝ := fwd G.w (fun n => e G n k) n - dd G n k

/-- The gradient at the gate's columns. -/
def dpg (n : ℕ) (k : Fin 128) : ℝ :=
  G.dy n k * (z G n k * G.s k) * (sg (G.g n k) * (1 + G.g n k * (1 - sg (G.g n k))))

/-- A row's share of the scale's gradient. -/
def dps (n : ℕ) (k : Fin 128) : ℝ := G.dy n k * gate G n k * z G n k

theorem cnt_pos (w n : ℕ) (h : 0 < w) : 0 < cnt w n := by
  unfold cnt
  exact_mod_cast lt_min (Nat.succ_pos n) h

/-- A window of twice the length is two windows. -/
theorem double (f : ℕ → EReal) (a n : ℕ) :
    ∑ j ∈ Finset.range a, f (n + j) + ∑ j ∈ Finset.range a, f (n + a + j) = ∑ j ∈ Finset.range (a + a), f (n + j) := by
  rw [Finset.sum_range_add]
  simp only [add_assoc]

/-- Rows that cancel in a running sum, from the end of the batch: what is left is the window that starts at row `n`. -/
theorem telescope (w n : ℕ) (hn : n < 8192) (f : ℕ → ℝ) :
    ∑ j ∈ Finset.range (8192 - n), (f (n + j) - if n + j + w < 8192 then f (n + j + w) else 0) = fwd w f n := by
  have h : ∀ j ∈ Finset.range (8192 - n), f (n + j) = if n + j < 8192 then f (n + j) else 0 := fun j hj => by
    rw [if_pos (by have := Finset.mem_range.mp hj; omega)]
  rw [Finset.sum_sub_distrib, Finset.sum_congr rfl h]
  unfold fwd
  have a := Finset.sum_range_add (fun j => if n + j < 8192 then f (n + j) else 0) w (8192 - n)
  have b := Finset.sum_range_add (fun j => if n + j < 8192 then f (n + j) else 0) (8192 - n) w
  rw [Nat.add_comm w] at a
  have z : ∑ j ∈ Finset.range w, (if n + (8192 - n + j) < 8192 then f (n + (8192 - n + j)) else 0) = 0 :=
    Finset.sum_eq_zero fun j _ => if_neg (by omega)
  have c : ∀ j, n + (w + j) = n + j + w := fun j => by omega
  rw [z, add_zero] at b
  simp only [c] at a
  linarith

/-- The difference of two running sums is the window's sum. -/
theorem running (w n : ℕ) (f : ℕ → ℝ) :
    ∑ r ∈ Finset.range (n + 1), f r - ∑ r ∈ Finset.range (n + 1 - w), f r = back w f n := by
  unfold back
  induction w with
  | zero => simp
  | succ w ih =>
    rw [Finset.sum_range_succ (fun j => if j ≤ n then f (n - j) else 0) w, ← ih]
    by_cases h : w ≤ n
    · rw [if_pos h, show n + 1 - w = (n - w) + 1 by omega, Finset.sum_range_succ f (n - w), show n + 1 - (w + 1) = n - w by omega]
      ring
    · rw [if_neg h, show n + 1 - w = 0 by omega, show n + 1 - (w + 1) = 0 by omega, add_zero]

end PoolReal

end
-- ==== Proof.PoolArgs.lean ====
/-
  The four results of the pooling's gradient as functions of the arguments' entries: the normalised rows, their
  projection, the four groups and the sums over the batch that both programs of the `PoolDw` pair compute.
-/
module

public import proofs.«01_k».proof.Proof.PoolReal

@[expose] public section

noncomputable section

open Idealize.ShloMosaic RealOps OutLossReal

namespace PoolArgs

/-- The arguments' entries: the rows, the gain, the pooled columns of the weight, each group's weight, the scale, the
    gradient at the pooled half and the gradients at the other columns of the projection. -/
structure Args where
  x : ℕ → Fin 1024 → EReal
  gain : Fin 1024 → ℝ
  w : Fin 1024 → Fin 1024 → ℝ
  P : Fin 4 → Fin 128 → Fin 128 → ℝ
  s : Fin 512 → ℝ
  dy : ℕ → Fin 512 → ℝ
  dq : ℕ → Fin 512 → EReal
  dk : ℕ → Fin 512 → EReal
  dv : ℕ → Fin 512 → EReal
  dag : ℕ → Fin 512 → EReal

variable (A : Args)

/-- A row with nothing added to it. -/
def plain (x : Fin 1024 → EReal) : Row where
  x := x
  target _ := 0
  pool _ := 0
  o _ := 0
  a _ := 0

theorem res_plain (x : Fin 1024 → EReal) (k : Fin 1024) : res (fun _ _ => 0) (plain x) k = x k := by
  unfold res
  simp only [mul_zero, Finset.sum_const_zero, add_zero]
  rfl

/-- The normalised row times the gain. -/
def h (n : ℕ) (k : Fin 1024) : ℝ := nrm (fun _ _ => 0) (plain (A.x n)) k * A.gain k

/-- The normalised row is real, whatever the row. -/
theorem h_eq (x : Fin 1024 → EReal) (g : ℝ) (k : Fin 1024) :
    x k * Ideal.rsqrt (Ideal.div (∑ j, x j * x j) (Ideal.ofBits .f32 0x44800000#32) + Ideal.ofBits .f32 0x358637BD#32) * (g : EReal)
      = ((nrm (fun _ _ => 0) (plain x) k * g : ℝ) : EReal) := by
  have e : Ideal.div (∑ j, x j * x j) (Ideal.ofBits .f32 0x44800000#32) + Ideal.ofBits .f32 0x358637BD#32
      = ms (fun _ _ => 0) (plain x) := by
    unfold ms eps
    rw [ofBits_1024, ofBits_eps]
    simp only [res_plain]
  rw [e, coe_rinv, ← res_plain x k, coe_nrm, ← EReal.coe_mul]

/-- The projection's pooled columns. -/
def proj (n : ℕ) (k : Fin 1024) : ℝ := ∑ j, h A n j * A.w j k

/-- Column `k` of group `q`, among the value columns. -/
abbrev col (q : Fin 4) (k : Fin 128) : Fin 512 := ⟨128 * q.val + k.val, by omega⟩

abbrev vcol (q : Fin 4) (k : Fin 128) : Fin 1024 := ⟨128 * q.val + k.val, by omega⟩

/-- Column `k` of group `q`, among the gate's columns. -/
abbrev gcol (q : Fin 4) (k : Fin 128) : Fin 1024 := ⟨512 + 128 * q.val + k.val, by omega⟩

/-- Group `q`. -/
def grp (q : Fin 4) : PoolReal.Grp where
  v n k := proj A n (vcol q k)
  g n k := proj A n (gcol q k)
  dy n k := A.dy n (col q k)
  P := A.P q
  s k := A.s (col q k)
  w := 2 ^ (q.val + 1)

/-- The group of a column, and the column's place in it. -/
abbrev grpOf (k : Fin 1024) : Fin 4 := ⟨k.val % 512 / 128, by omega⟩

abbrev inGrp (k : Fin 1024) : Fin 128 := ⟨k.val % 128, by omega⟩

/-- The gradient at the pooled columns of the projection. -/
def dpool (n : ℕ) (k : Fin 1024) : ℝ :=
  if k.val < 512 then PoolReal.dpv (grp A (grpOf k)) n (inGrp k) else PoolReal.dpg (grp A (grpOf k)) n (inGrp k)

/-- The gradient at the projection. -/
def dproj (n : ℕ) (k : Fin 3072) : EReal :=
  if h : k.val < 1024 then (dpool A n ⟨k.val, h⟩ : EReal)
  else if k.val < 1536 then A.dq n ⟨k.val % 512, by omega⟩
  else if k.val < 2048 then A.dk n ⟨k.val % 512, by omega⟩
  else if k.val < 2560 then A.dv n ⟨k.val % 512, by omega⟩
  else A.dag n ⟨k.val % 512, by omega⟩

/-- The gradient at the projection's weight. -/
def dw (N : ℕ) (j : Fin 1024) (k : Fin 3072) : EReal := ∑ n ∈ Finset.range N, (h A n j : EReal) * dproj A n k

/-- The gradient at a group's weight. -/
def dpw (N : ℕ) (q : Fin 4) (j k : Fin 128) : EReal :=
  ∑ n ∈ Finset.range N, ((PoolReal.d (grp A q) n j * PoolReal.dz (grp A q) n k : ℝ) : EReal)

/-- The gradient at the scale. -/
def dps (N : ℕ) (q : Fin 4) (k : Fin 128) : EReal := ∑ n ∈ Finset.range N, (PoolReal.dps (grp A q) n k : EReal)

end PoolArgs

end
-- ==== Proof.PoolTile.lean ====
/-
  One tile of the pooling's gradient kernel, for one group of 128 columns: the values it computes from 512 rows and the
  16 rows on each side, as one list of expressions that each of the four groups' printed values is an instance of.
-/
module

public import proofs.«01_k».proof.Proof.Gen.PoolDwIdeal.Skeleton
public import Idealize.ShloMosaic.Lib.Pointwise

@[expose] public section

set_option maxRecDepth 16384

noncomputable section

open Idealize.ShloMosaic Idealize.ShloMosaic.TcCoe Idealize.SL.Sem

namespace PoolTile

open Cert.PoolDwIdeal Cert.PoolDwIdeal.Gen

/-- What a group loads at a tile: its value columns and the rows before them, its gate's columns and the rows after
    them, the gradient at its output and the rows after it, its weight and its scale. -/
structure Loads where
  x : FVec Ideal S512x128 .f32
  p : FVec Ideal S16x128 .f32
  g : FVec Ideal S512x128 .f32
  gn : FVec Ideal S16x128 .f32
  dy : FVec Ideal S512x128 .bf16
  dyn : FVec Ideal S16x128 .bf16
  P : FVec Ideal S1x128x128 .f32
  s : FVec Ideal S1x128 .f32

variable (L : Loads) (i w : BitVec 32)

/-- The value columns under the 16 rows before them, which are zero at the first tile. -/
def prior : FVec Ideal S528x128 .f32 :=
  concatenate S528x128 0 [⟨S16x128, Scalar.select (Scalar.cmpi .sgt i 0#32) (shapeCast S16x128 L.p shapeCasts_S16x128_S16x128)
      (broadcast S16x128 (Scalar.ofBits .f32 0x00000000#32))⟩, ⟨S512x128, shapeCast S512x128 L.x shapeCasts_S512x128_S512x128⟩]
    concatenates_S16x128_S512x128_S528x128_d0

/-- The rows plus the rows `a` places on. -/
def rot (a : BitVec 32) (y : FVec Ideal S528x128 .f32) : FVec Ideal S528x128 .f32 :=
  addf y (dynamicRotate 0 a none y rotates_S528x128_d0)

/-- The window's mean less the row, from the rows `x` and the windows' sums `S`. -/
def less (x : FVec Ideal S512x128 .f32) (S : FVec Ideal S528x128 .f32) : FVec Ideal S512x128 .bf16 :=
  truncf .bf16 (subf (mulf (extractStridedSlice S512x128 ![16, 0] S slices_S528x128_o16_0_S512x128)
    (broadcastTo S512x128 (divf (broadcast S512x1 (Scalar.ofBits .f32 0x3F800000#32))
      (sitofp .f32 (minsi (addi (addi (broadcast S512x1 (Scalar.muli i 512#32)) (iota .tc S512x1 32 [0] iota_S512x1_d0_w32))
        (broadcast S512x1 1#32)) (broadcast S512x1 w)))) broadcasts_S512x1_S512x128)) x) bitsLt_bf16_f32

/-- The same of the group's value columns. -/
def diff (S : FVec Ideal S528x128 .f32) : FVec Ideal S512x128 .bf16 :=
  less i w (shapeCast S512x128 L.x shapeCasts_S512x128_S512x128) S

/-- The group's weight. -/
def wgt : FVec Ideal S128x128 .bf16 := truncf .bf16 (shapeCast S128x128 L.P shapeCasts_S1x128x128_S128x128) bitsLt_bf16_f32

/-- The difference `D` times the group's weight. -/
def prod (D : FVec Ideal S512x128 .bf16) : FVec Ideal S512x128 .f32 :=
  matmul dot_S512x128_S128x128_S512x128_1_0_0_1_n_n none D (wgt L) (constant S512x128 .f32 0x00000000#32)

/-- The gate's columns over the 16 rows after them. -/
def gext : FVec Ideal S528x128 .f32 :=
  concatenate S528x128 0 [⟨S512x128, shapeCast S512x128 L.g shapeCasts_S512x128_S512x128⟩,
    ⟨S16x128, shapeCast S16x128 L.gn shapeCasts_S16x128_S16x128⟩] concatenates_S512x128_S16x128_S528x128_d0

/-- The gradient at the output over the 16 rows after it. -/
def dyext : FVec Ideal S528x128 .f32 :=
  extf .f32 (concatenate S528x128 0 [⟨S512x128, shapeCast S512x128 L.dy shapeCasts_S512x128_S512x128⟩,
    ⟨S16x128, shapeCast S16x128 L.dyn shapeCasts_S16x128_S16x128⟩] concatenates_S512x128_S16x128_S528x128_d0) bitsLt_bf16_f32

/-- The gate's logistic. -/
def sig : FVec Ideal S528x128 .f32 :=
  divf (broadcast S528x128 (Scalar.ofBits .f32 0x3F800000#32)) (addf (broadcast S528x128 (Scalar.ofBits .f32 0x3F800000#32))
    (exp (subf (broadcast S528x128 (Scalar.ofBits .f32 0x00000000#32)) (gext L))))

/-- The gate's SiLU. -/
def silu : FVec Ideal S528x128 .f32 := mulf (gext L) (sig L)

/-- The gradient at the scaled product. -/
def dprod : FVec Ideal S528x128 .bf16 :=
  truncf .bf16 (mulf (mulf (dyext L) (silu L)) (broadcastTo S528x128 (shapeCast S1x128 L.s shapeCasts_S1x128_S1x128)
    broadcasts_S1x128_S528x128)) bitsLt_bf16_f32

/-- The gradient at the difference. -/
def ddiff : FVec Ideal S528x128 .f32 :=
  matmul dot_S528x128_S128x128_S528x128_1_1_0_0_n_n none (dprod L) (wgt L) (constant S528x128 .f32 0x00000000#32)

/-- The gradient at the windows' sums, zero after the last tile. -/
def dsum : FVec Ideal S528x128 .f32 :=
  select (broadcastTo S528x128 (shapeCast S528x1 (ori (cmpi .slt (iota .tc S528x1 32 [0] iota_S528x1_d0_w32) (broadcast S528x1 512#32))
      (broadcast S528x1 (Scalar.cmpi .slt i 15#32))) shapeCasts_S528x1_S528x1) broadcasts_S528x1_S528x128)
    (mulf (ddiff L) (broadcastTo S528x128 (divf (broadcast S528x1 (Scalar.ofBits .f32 0x3F800000#32))
      (sitofp .f32 (minsi (addi (addi (broadcast S528x1 (Scalar.muli i 512#32)) (iota .tc S528x1 32 [0] iota_S528x1_d0_w32))
        (broadcast S528x1 1#32)) (broadcast S528x1 w)))) broadcasts_S528x1_S528x128))
    (broadcast S528x128 (Scalar.ofBits .f32 0x00000000#32))

/-- The gradient at the value columns, from the sums `S` of the windows that start at a row. -/
def dval (S : FVec Ideal S528x128 .f32) : FVec Ideal S512x128 .bf16 :=
  truncf .bf16 (subf (extractStridedSlice S512x128 ![0, 0] S slices_S528x128_o0_0_S512x128)
    (extractStridedSlice S512x128 ![0, 0] (ddiff L) slices_S528x128_o0_0_S512x128)) bitsLt_bf16_f32

/-- The gradient at the gate's columns, from the product `Z`. -/
def dgate (Z : FVec Ideal S512x128 .f32) : FVec Ideal S512x128 .bf16 :=
  truncf .bf16 (mulf (mulf (extractStridedSlice S512x128 ![0, 0] (dyext L) slices_S528x128_o0_0_S512x128)
      (mulf Z (broadcastTo S512x128 (shapeCast S1x128 L.s shapeCasts_S1x128_S1x128) broadcasts_S1x128_S512x128)))
    (mulf (extractStridedSlice S512x128 ![0, 0] (sig L) slices_S528x128_o0_0_S512x128)
      (addf (broadcast S512x128 (Scalar.ofBits .f32 0x3F800000#32)) (mulf (extractStridedSlice S512x128 ![0, 0] (gext L) slices_S528x128_o0_0_S512x128)
        (subf (broadcast S512x128 (Scalar.ofBits .f32 0x3F800000#32)) (extractStridedSlice S512x128 ![0, 0] (sig L) slices_S528x128_o0_0_S512x128))))))
    bitsLt_bf16_f32

/-- The tile's share of the scale's gradient, onto `A`. -/
def dscale (Z : FVec Ideal S512x128 .f32) (A : FVec Ideal S1x128 .f32) : FVec Ideal S1x128 .f32 :=
  addf (shapeCast S1x128 A shapeCasts_S1x128_S1x128) (shapeCast S1x128 (multiReduction .add [0] S128
    (mulf (mulf (extractStridedSlice S512x128 ![0, 0] (dyext L) slices_S528x128_o0_0_S512x128)
      (extractStridedSlice S512x128 ![0, 0] (silu L) slices_S528x128_o0_0_S512x128)) Z)
    0x00000000#32 reduces_S512x128_S128 (.inl rfl) rfl) shapeCasts_S128_S1x128)

/-- The tile's share of the weight's gradient, onto `A`. -/
def dweight (D : FVec Ideal S512x128 .bf16) (A : FVec Ideal S1x128x128 .f32) : FVec Ideal S1x128x128 .f32 :=
  shapeCast S1x128x128 (addf (shapeCast S128x128 A shapeCasts_S1x128x128_S128x128)
    (matmul dot_S512x128_S512x128_S128x128_0_0_1_1_n_n none D (extractStridedSlice S512x128 ![0, 0] (dprod L) slices_S528x128_o0_0_S512x128)
      (constant S128x128 .f32 0x00000000#32))) shapeCasts_S128x128_S1x128x128

/-- The sums of the windows that end at a row of `y`, of length 2, 4, 8 and 16. -/
def sums (y : FVec Ideal S528x128 .f32) : ℕ → FVec Ideal S528x128 .f32
  | 0 => rot 1#32 y
  | 1 => rot 2#32 (rot 1#32 y)
  | 2 => rot 4#32 (rot 2#32 (rot 1#32 y))
  | _ => rot 8#32 (rot 4#32 (rot 2#32 (rot 1#32 y)))

/-- The same of the value columns. -/
def ends : ℕ → FVec Ideal S528x128 .f32 := sums (prior L i)

/-- The sums of the windows that start at a row. -/
def starts (y : FVec Ideal S528x128 .f32) : ℕ → FVec Ideal S528x128 .f32
  | 0 => rot 527#32 y
  | 1 => rot 526#32 (rot 527#32 y)
  | 2 => rot 524#32 (rot 526#32 (rot 527#32 y))
  | _ => rot 520#32 (rot 524#32 (rot 526#32 (rot 527#32 y)))

/-- Group `q`'s window. -/
abbrev win : ℕ → BitVec 32
  | 0 => 2#32
  | 1 => 4#32
  | 2 => 8#32
  | _ => 16#32

variable (q : ℕ)

/-- Group `q`'s difference. -/
def diffs : FVec Ideal S512x128 .bf16 := diff L i (win q) (ends L i q)

/-- Group `q`'s product. -/
def prods : FVec Ideal S512x128 .f32 := prod L (diffs L i q)

/-- Group `q`'s gradient at its value columns. -/
def dvals : FVec Ideal S512x128 .bf16 := dval L (starts (dsum L i (win q)) q)

/-- Group `q`'s gradient at its gate's columns. -/
def dgates : FVec Ideal S512x128 .bf16 := dgate L (prods L i q)

end PoolTile

end
-- ==== Proof.PoolTileVal.lean ====
/-
  The values of one group's tile at an index: each is the real number that `PoolReal` names, for the tile's rows.
-/
module

public import proofs.«01_k».proof.Proof.PoolReal
public import proofs.«01_k».proof.Proof.PoolTile

@[expose] public section

set_option maxRecDepth 16384

noncomputable section

open Idealize.ShloMosaic Idealize.ShloMosaic.TcCoe Idealize.SL.Sem

namespace PoolTile

open Cert.PoolDwIdeal Cert.PoolDwIdeal.Gen PoolReal RealOps

/-- The number of a row's window, as the words count it. -/
theorem count (a W : ℕ) (ha : a < 2 ^ 30) (hW : W < 2 ^ 30) (x : BitVec 32) (hx : x = BitVec.ofNat 32 a) :
    (FloatOps.sitofp .f32 (IntOp.minsi (IntOp.addi x 1#32) (BitVec.ofNat 32 W)) : Ideal .f32) = (cnt W a : EReal) := by
  have hs : ∀ b : ℕ, b < 2 ^ 31 → (BitVec.ofNat 32 b).toInt = b := fun b hb => by
    rw [BitVec.toInt_eq_toNat_of_lt (by rw [BitVec.toNat_ofNat]; omega), BitVec.toNat_ofNat, Nat.mod_eq_of_lt (by omega)]
  have h : IntOp.minsi (IntOp.addi x 1#32) (BitVec.ofNat 32 W) = BitVec.ofNat 32 (min (a + 1) W) := by
    have e : IntOp.addi x 1#32 = BitVec.ofNat 32 (a + 1) := by
      rw [hx]
      show BitVec.ofNat 32 a + 1#32 = _
      rw [BitVec.ofNat_add]
    rw [e]
    unfold IntOp.minsi BitVec.slt
    rw [hs _ (by omega), hs _ (by omega)]
    by_cases hc : a + 1 < W
    · rw [min_eq_left hc.le]
      simp only [Nat.cast_lt, hc, decide_true, ite_true]
    · rw [min_eq_right (by omega)]
      simp only [Nat.cast_lt, hc, decide_false, Bool.false_eq_true, ite_false]
  rw [h]
  show ((((BitVec.ofNat 32 (min (a + 1) W)).toInt : ℤ) : ℝ) : EReal) = _
  rw [hs _ (by omega)]
  unfold cnt
  rw [Int.cast_natCast]

/-- The word of a row's number. -/
theorem word (t r : ℕ) :
    IntOp.addi (Scalar.muli (BitVec.ofNat 32 t) 512#32) (BitVec.ofNat 32 r) = BitVec.ofNat 32 (512 * t + r) := by
  show BitVec.ofNat 32 t * 512#32 + BitVec.ofNat 32 r = _
  rw [BitVec.ofNat_add, BitVec.ofNat_mul, BitVec.mul_comm]

theorem lt_word (a b : ℕ) (ha : a < 2 ^ 31) (hb : b < 2 ^ 31) :
    IntOp.cmpi .slt (BitVec.ofNat 32 a) (BitVec.ofNat 32 b) = BitVec.ofBool (decide (a < b)) := by
  have hs : ∀ b : ℕ, b < 2 ^ 31 → (BitVec.ofNat 32 b).toInt = b := fun b hb => by
    rw [BitVec.toInt_eq_toNat_of_lt (by rw [BitVec.toNat_ofNat]; omega), BitVec.toNat_ofNat, Nat.mod_eq_of_lt (by omega)]
  show BitVec.ofBool (BitVec.slt _ _) = _
  unfold BitVec.slt
  rw [hs _ ha, hs _ hb]
  simp

/-- A row of the 16 after tile `t`: the next tile's, or the last of the batch. -/
def after (t r : ℕ) : ℕ := if t < 15 then 512 * t + 512 + r else 8176 + r

/-- A row of a tile or of the 16 after it. -/
def ext (t r : ℕ) : ℕ := if r < 512 then 512 * t + r else after t (r - 512)

variable (L : Loads) (t : ℕ) (G : Grp)

/-- The loads are the rows of tile `t`. -/
structure Reads : Prop where
  t_lt : t < 16
  x : ∀ r k, L.x (ix2 r k) = (G.v (512 * t + r.val) k : EReal)
  p : 0 < t → ∀ r k, L.p (ix2 r k) = (G.v (512 * t - 16 + r.val) k : EReal)
  g : ∀ r k, L.g (ix2 r k) = (G.g (512 * t + r.val) k : EReal)
  gn : ∀ r k, L.gn (ix2 r k) = (G.g (after t r.val) k : EReal)
  dy : ∀ r k, L.dy (ix2 r k) = (G.dy (512 * t + r.val) k : EReal)
  dyn : ∀ r k, L.dyn (ix2 r k) = (G.dy (after t r.val) k : EReal)
  P : ∀ j k, L.P (ix3 0 j k) = (G.P j k : EReal)
  s : ∀ k, L.s (ix2 0 k) = (G.s k : EReal)

variable (f : Reads L t G)

/-- A row of the batch that 16 zero rows stand before. -/
def shifted (v : ℕ → ℝ) (n : ℕ) : EReal := if 16 ≤ n then (v (n - 16) : EReal) else 0

include f

theorem prior_at (r : Fin 528) (k : Fin 128) :
    prior L (BitVec.ofNat 32 t) (ix2 r k) = shifted (fun n => G.v n k) (512 * t + r.val) := by
  have ht := f.t_lt
  pointwise [prior]
  unfold shifted
  split
  · have hb : Scalar.cmpi CmpIPredicate.sgt (BitVec.ofNat 32 t) 0#32 = BitVec.ofBool (decide (0 < t)) :=
      lt_word 0 t (by norm_num) (by omega)
    rw [hb]
    by_cases h0 : 0 < t
    · rw [if_pos (by omega), f.p h0]
      simp only [h0, decide_true]
      rw [show 512 * t - 16 + r.val = 512 * t + r.val - 16 by omega]
      rfl
    · rw [if_neg (by omega)]
      simp only [h0, decide_false]
      rfl
  · refine (f.x _ k).trans ?_
    show ((G.v (512 * t + (r.val - 16)) k : ℝ) : EReal)
      = if 16 ≤ 512 * t + r.val then ((G.v (512 * t + r.val - 16) k : ℝ) : EReal) else 0
    rw [if_pos (by omega), show 512 * t + r.val - 16 = 512 * t + (r.val - 16) by omega]

omit f in
theorem rot_at (a b : ℕ) (hb : b < 528) (y : FVec Ideal S528x128 .f32) (r : Fin 528) (k : Fin 128)
    (h : (r.val + 528 - b) % 528 = a) (ha : a < 528) :
    rot (BitVec.ofNat 32 b) y (ix2 r k) = y (ix2 r k) + y (ix2 ⟨a, ha⟩ k) := by
  have e : (BitVec.ofNat 32 b).toNat % 528 = b := by rw [BitVec.toNat_ofNat]; omega
  pointwise [rot]
  congr 4
  rw [e, h]

omit f in
/-- Rows that hold the sum of the window that ends at a row, plus the rows `a` before. -/
theorem rot_back (F : ℕ → EReal) (a : ℕ) (h0 : 0 < a) (h : a ≤ 16) (y : FVec Ideal S528x128 .f32) (k : Fin 128)
    (hy : ∀ r : Fin 528, a ≤ r.val + 1 → y (ix2 r k) = ∑ j ∈ Finset.range a, F (r.val - j)) (r : Fin 528) (hr : a + a ≤ r.val + 1) :
    rot (BitVec.ofNat 32 a) y (ix2 r k) = ∑ j ∈ Finset.range (a + a), F (r.val - j) := by
  have := r.isLt
  rw [rot_at (r.val - a) a (by omega) y r k (by omega) (by omega), hy r (by omega), hy _ (by show a ≤ r.val - a + 1; omega),
    Finset.sum_range_add]
  congr 1
  exact Finset.sum_congr rfl fun j hj => by show F (r.val - a - j) = F (r.val - (a + j)); rw [Nat.sub_sub]

omit f in
/-- Rows that hold the sum of the window that starts at a row, plus the rows `a` after. -/
theorem rot_fwd (F : ℕ → EReal) (a b : ℕ) (hb : b + a = 528) (h0 : 0 < a) (h : a ≤ 16) (y : FVec Ideal S528x128 .f32) (k : Fin 128)
    (hy : ∀ r : Fin 528, r.val + a ≤ 528 → y (ix2 r k) = ∑ j ∈ Finset.range a, F (r.val + j)) (r : Fin 528)
    (hr : r.val + (a + a) ≤ 528) :
    rot (BitVec.ofNat 32 b) y (ix2 r k) = ∑ j ∈ Finset.range (a + a), F (r.val + j) := by
  rw [rot_at (r.val + a) b (by omega) y r k (by omega) (by omega), hy r (by omega), hy _ (by show r.val + a + a ≤ 528; omega)]
  exact double F a r.val

omit f in
theorem sums_at (y : FVec Ideal S528x128 .f32) (F : ℕ → EReal) (k : Fin 128) (hy : ∀ r : Fin 528, y (ix2 r k) = F r.val) (q : ℕ)
    (hq : q < 4) (r : Fin 528) (hr : 2 ^ (q + 1) ≤ r.val + 1) :
    sums y q (ix2 r k) = ∑ j ∈ Finset.range (2 ^ (q + 1)), F (r.val - j) := by
  have h1 := rot_back F 1 (by omega) (by omega) y k fun r _ => by rw [hy, Finset.sum_range_one]; rfl
  have h2 := rot_back F 2 (by omega) (by omega) _ k h1
  have h3 := rot_back F 4 (by omega) (by omega) _ k h2
  have h4 := rot_back F 8 (by omega) (by omega) _ k h3
  match q, hq with
  | 0, _ => exact h1 r hr
  | 1, _ => exact h2 r hr
  | 2, _ => exact h3 r hr
  | 3, _ => exact h4 r hr

omit f in
theorem starts_at (y : FVec Ideal S528x128 .f32) (F : ℕ → EReal) (k : Fin 128) (hy : ∀ r : Fin 528, y (ix2 r k) = F r.val)
    (q : ℕ) (hq : q < 4) (r : Fin 528) (hr : r.val + 2 ^ (q + 1) ≤ 528) :
    starts y q (ix2 r k) = ∑ j ∈ Finset.range (2 ^ (q + 1)), F (r.val + j) := by
  have h1 := rot_fwd F 1 527 (by omega) (by omega) (by omega) y k fun r _ => by rw [hy, Finset.sum_range_one]; rfl
  have h2 := rot_fwd F 2 526 (by omega) (by omega) (by omega) _ k h1
  have h3 := rot_fwd F 4 524 (by omega) (by omega) (by omega) _ k h2
  have h4 := rot_fwd F 8 520 (by omega) (by omega) (by omega) _ k h3
  match q, hq with
  | 0, _ => exact h1 r hr
  | 1, _ => exact h2 r hr
  | 2, _ => exact h3 r hr
  | 3, _ => exact h4 r hr

omit f in
theorem win_eq (q : ℕ) (hq : q < 4) : win q = BitVec.ofNat 32 (2 ^ (q + 1)) := by
  match q, hq with
  | 0, _ => rfl
  | 1, _ => rfl
  | 2, _ => rfl
  | 3, _ => rfl

variable (q : ℕ) (hq : q < 4) (hw : G.w = 2 ^ (q + 1))
include hq hw

omit f in
theorem inv_count (a : ℕ) (ha : a < 2 ^ 30) (x : BitVec 32) (hx : x = BitVec.ofNat 32 a) :
    Ideal.div 1 (FloatOps.sitofp .f32 (IntOp.minsi (IntOp.addi x 1#32) (win q)) : Ideal .f32)
      = ((1 / cnt G.w a : ℝ) : EReal) := by
  have h16 : 2 ^ (q + 1) ≤ 2 ^ 4 := Nat.pow_le_pow_right (by omega) (by omega)
  rw [win_eq q hq, count a (2 ^ (q + 1)) ha (by omega) x hx, hw, ← EReal.coe_one,
    coe_div _ _ (cnt_pos _ _ (Nat.pos_of_ne_zero (by positivity))).ne']

omit f in
/-- The window's mean less the row, of rows `x` that stand in `y` under the 16 rows before them. -/
theorem less_at (ht : t < 16) (x : FVec Ideal S512x128 .f32) (y : FVec Ideal S528x128 .f32) (k : Fin 128)
    (hx : ∀ r : Fin 512, x (ix2 r k) = (G.v (512 * t + r.val) k : EReal))
    (hy : ∀ r : Fin 528, y (ix2 r k) = shifted (fun n => G.v n k) (512 * t + r.val)) (r : Fin 512) :
    less (BitVec.ofNat 32 t) (win q) x (sums y q) (ix2 r k) = (d G (512 * t + r.val) k : EReal) := by
  have h16 : 2 ^ (q + 1) ≤ 2 ^ 4 := Nat.pow_le_pow_right (by omega) (by omega)
  have hS := sums_at y (fun m => shifted (fun n => G.v n k) (512 * t + m)) k hy q hq
    ⟨16 + r.val, by omega⟩ (by show 2 ^ (q + 1) ≤ 16 + r.val + 1; omega)
  have hb : ∑ j ∈ Finset.range (2 ^ (q + 1)), shifted (fun n => G.v n k) (512 * t + (16 + r.val - j))
      = (back G.w (fun n => G.v n k) (512 * t + r.val) : EReal) := by
    unfold back
    rw [← coe_sum, hw]
    refine Finset.sum_congr rfl fun j hj => ?_
    have := Finset.mem_range.mp hj
    unfold shifted
    by_cases h : j ≤ 512 * t + r.val
    · rw [if_pos (by omega), if_pos h, show 512 * t + (16 + r.val - j) - 16 = 512 * t + r.val - j by omega]
    · rw [if_neg (by omega), if_neg h, EReal.coe_zero]
  pointwise [less]
  rw [inv_count G q hq hw (512 * t + r.val) (by omega) _ (word t r.val), hx]
  rw [hS, hb, ← EReal.coe_mul, ← EReal.coe_sub]
  rfl

theorem diffs_at (r : Fin 512) (k : Fin 128) : diffs L (BitVec.ofNat 32 t) q (ix2 r k) = (d G (512 * t + r.val) k : EReal) :=
  less_at t G q hq hw f.t_lt _ _ k (fun r => by pointwise; exact f.x r k) (fun r => prior_at L t G f r k) r

theorem prods_at (r : Fin 512) (k : Fin 128) : prods L (BitVec.ofNat 32 t) q (ix2 r k) = (z G (512 * t + r.val) k : EReal) := by
  pointwise [prods, prod, wgt]
  simp only [diffs_at L t G f q hq hw, f.P, ← EReal.coe_mul, coe_sum]
  rfl

omit hq hw

theorem gext_at (r : Fin 528) (k : Fin 128) : gext L (ix2 r k) = (G.g (ext t r.val) k : EReal) := by
  pointwise [gext]
  unfold ext
  split
  · exact f.g _ k
  · exact f.gn _ k

theorem dyext_at (r : Fin 528) (k : Fin 128) : dyext L (ix2 r k) = (G.dy (ext t r.val) k : EReal) := by
  pointwise [dyext]
  unfold ext
  split
  · exact f.dy _ k
  · exact f.dyn _ k

theorem sig_at (r : Fin 528) (k : Fin 128) : sig L (ix2 r k) = (sg (G.g (ext t r.val) k) : EReal) := by
  pointwise [sig]
  rw [gext_at L t G f, zero_sub, ← EReal.coe_neg, Ideal.exp_coe, ← EReal.coe_one, ← EReal.coe_add, coe_div _ _ (by positivity)]
  rfl

theorem silu_at (r : Fin 528) (k : Fin 128) : silu L (ix2 r k) = (gate G (ext t r.val) k : EReal) := by
  pointwise [silu]
  rw [gext_at L t G f, sig_at L t G f, ← EReal.coe_mul]
  rfl

theorem dprod_at (r : Fin 528) (k : Fin 128) : dprod L (ix2 r k) = (dz G (ext t r.val) k : EReal) := by
  pointwise [dprod]
  rw [dyext_at L t G f, silu_at L t G f, f.s, ← EReal.coe_mul, ← EReal.coe_mul]
  rfl

theorem ddiff_at (r : Fin 528) (k : Fin 128) : ddiff L (ix2 r k) = (dd G (ext t r.val) k : EReal) := by
  pointwise [ddiff, wgt]
  simp only [dprod_at L t G f, f.P, ← EReal.coe_mul, coe_sum]
  rfl

omit f in
theorem ext_of_lt (r : ℕ) (h : r < 512) : ext t r = 512 * t + r := if_pos h

include hq hw

theorem dsum_at (r : Fin 528) (k : Fin 128) :
    dsum L (BitVec.ofNat 32 t) (win q) (ix2 r k) = ((if 512 * t + r.val < 8192 then e G (512 * t + r.val) k else 0 : ℝ) : EReal) := by
  have ht := f.t_lt
  have := r.isLt
  pointwise [dsum]
  rw [inv_count G q hq hw (512 * t + r.val) (by omega) _ (word t r.val), ddiff_at L t G f, ← EReal.coe_mul,
    lt_word r.val 512 (by omega) (by omega)]
  rw [show Scalar.cmpi CmpIPredicate.slt (BitVec.ofNat 32 t) 15#32 = BitVec.ofBool (decide (t < 15)) from
    lt_word t 15 (by omega) (by omega)]
  by_cases h : 512 * t + r.val < 8192
  · have hx : ext t r.val = 512 * t + r.val := by
      unfold ext after
      split
      · rfl
      · rw [if_pos (by omega)]
        omega
    rw [if_pos h, hx]
    by_cases h5 : r.val < 512
    · simp only [h5, decide_true]
      by_cases h6 : t < 15
      · simp only [h6, decide_true]
        rfl
      · simp only [h6, decide_false]
        rfl
    · have h6 : t < 15 := by omega
      simp only [h5, h6, decide_true, decide_false]
      rfl
  · have h5 : ¬ r.val < 512 := by omega
    have h6 : ¬ t < 15 := by omega
    rw [if_neg h]
    simp only [h5, h6, decide_false]
    rfl

theorem dvals_at (r : Fin 512) (k : Fin 128) : dvals L (BitVec.ofNat 32 t) q (ix2 r k) = (dpv G (512 * t + r.val) k : EReal) := by
  have h16 : 2 ^ (q + 1) ≤ 2 ^ 4 := Nat.pow_le_pow_right (by omega) (by omega)
  have := r.isLt
  have hS := starts_at (dsum L (BitVec.ofNat 32 t) (win q))
    (fun m => ((if 512 * t + m < 8192 then e G (512 * t + m) k else 0 : ℝ) : EReal)) k (fun r => dsum_at L t G f q hq hw r k) q hq
    ⟨r.val, by omega⟩ (by show r.val + 2 ^ (q + 1) ≤ 528; omega)
  pointwise [dvals, dval]
  rw [ddiff_at L t G f, hS, coe_sum, ← EReal.coe_sub]
  show ((_ - dd G (ext t r.val) k : ℝ) : EReal) = _
  rw [ext_of_lt t r.val (by omega)]
  unfold dpv fwd
  rw [hw]
  simp only [Nat.add_assoc]

theorem dgates_at (r : Fin 512) (k : Fin 128) : dgates L (BitVec.ofNat 32 t) q (ix2 r k) = (dpg G (512 * t + r.val) k : EReal) := by
  have := r.isLt
  pointwise [dgates, dgate]
  rw [dyext_at L t G f, sig_at L t G f, gext_at L t G f, prods_at L t G f q hq hw, f.s]
  show (G.dy (ext t r.val) k : EReal) * _ * ((sg (G.g (ext t r.val) k) : EReal) * (1 + (G.g (ext t r.val) k : EReal) * (1 - (sg (G.g (ext t r.val) k) : EReal)))) = _
  rw [ext_of_lt t r.val (by omega)]
  simp only [← EReal.coe_one, ← EReal.coe_mul, ← EReal.coe_sub, ← EReal.coe_add]
  rfl

theorem dscale_at (A : FVec Ideal S1x128 .f32) (k : Fin 128) :
    dscale L (prods L (BitVec.ofNat 32 t) q) A (ix2 0 k) = A (ix2 0 k) + ∑ r : Fin 512, (dps G (512 * t + r.val) k : EReal) := by
  pointwise [dscale]
  congr 1
  refine Finset.sum_congr rfl fun r _ => ?_
  rw [dyext_at L t G f, silu_at L t G f, prods_at L t G f q hq hw]
  show (G.dy (ext t r.val) k : EReal) * (gate G (ext t r.val) k : EReal) * _ = _
  rw [ext_of_lt t r.val r.isLt, ← EReal.coe_mul, ← EReal.coe_mul]
  rfl

theorem dweight_at (A : FVec Ideal S1x128x128 .f32) (j k : Fin 128) :
    dweight L (diffs L (BitVec.ofNat 32 t) q) A (ix3 0 j k)
      = A (ix3 0 j k) + ∑ r : Fin 512, ((d G (512 * t + r.val) j * dz G (512 * t + r.val) k : ℝ) : EReal) := by
  pointwise [dweight]
  congr 1
  refine Finset.sum_congr rfl fun r _ => ?_
  rw [dprod_at L t G f, diffs_at L t G f q hq hw]
  show (d G (512 * t + r.val) j : EReal) * (dz G (ext t r.val) k : EReal) = _
  rw [ext_of_lt t r.val r.isLt, ← EReal.coe_mul]

end PoolTile

end
-- ==== Proof.PoolFold.lean ====
/-
  The pooling's gradient kernel over its sixteen tiles: what its windows hold of the arguments, and what each result
  holds at an index after each tile.
-/
module

public import proofs.«01_k».proof.Proof.PoolArgs
public import proofs.«01_k».proof.Proof.PoolTileVal
public import proofs.«01_k».proof.Proof.Gen.PoolDwIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace PoolFold

open Cert.PoolDwIdeal Cert.PoolDwIdeal.Gen RealOps

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val * 32 - 1, 0]
    ∧ win0_3.index t = ![min ((t.val + 1) * 32) 511, 1] ∧ win0_4.index t = ![t.val, 0] ∧ win0_5.index t = ![min ((t.val + 1) * 32) 511, 0]
    ∧ win0_6.index t = ![t.val, 0] ∧ win0_7.index t = ![t.val, 0] ∧ win0_8.index t = ![t.val, 0] ∧ win0_9.index t = ![t.val, 0]
    ∧ win0_10.index t = ![0, 0] ∧ win0_11.index t = ![0, 0, 0] ∧ win0_12.index t = ![0, 0]
    ∧ win0_13.index t = ![0, 0, 0] ∧ win0_14.index t = ![t.val, 0] ∧ win0_15.index t = ![0, 0, 0] ∧ win0_16.index t = ![0, 0] :=
  (by decide +kernel : ∀ t : Fin grid0.N, _)

theorem blk_x (t : Fin cfg0.N) (r : Fin 512) (k : Fin 1024) (h : 512 * t.val + r.val < 8192) :
    iblk m c 0 t (ix2 r k) = m ((c : Thread nD τ).loc main_arg0) (ix2 ⟨512 * t.val + r.val, h⟩ k) := by
  blk_ext [iblk, V, idx t]

theorem blk_gain (t : Fin cfg0.N) (k : Fin 1024) :
    iblk m c 10 t (ix2 0 k) = m ((c : Thread nD τ).loc main_arg1) (ix1 k) := by
  blk_point [iblk, V, idx t]

theorem blk_q (t : Fin cfg0.N) (r : Fin 512) (k : Fin 512) (h : 512 * t.val + r.val < 8192) :
    iblk m c 6 t (ix2 r k) = m ((c : Thread nD τ).loc main_arg6) (ix2 ⟨512 * t.val + r.val, h⟩ k) := by
  blk_point [iblk, V, idx t]

theorem blk_k (t : Fin cfg0.N) (r : Fin 512) (k : Fin 512) (h : 512 * t.val + r.val < 8192) :
    iblk m c 7 t (ix2 r k) = m ((c : Thread nD τ).loc main_arg7) (ix2 ⟨512 * t.val + r.val, h⟩ k) := by
  blk_point [iblk, V, idx t]

theorem blk_v (t : Fin cfg0.N) (r : Fin 512) (k : Fin 512) (h : 512 * t.val + r.val < 8192) :
    iblk m c 8 t (ix2 r k) = m ((c : Thread nD τ).loc main_arg8) (ix2 ⟨512 * t.val + r.val, h⟩ k) := by
  blk_point [iblk, V, idx t]

theorem blk_ag (t : Fin cfg0.N) (r : Fin 512) (k : Fin 512) (h : 512 * t.val + r.val < 8192) :
    iblk m c 9 t (ix2 r k) = m ((c : Thread nD τ).loc main_arg9) (ix2 ⟨512 * t.val + r.val, h⟩ k) := by
  blk_point [iblk, V, idx t]

theorem blk_dy (t : Fin cfg0.N) (r : Fin 512) (k : Fin 512) (h : 512 * t.val + r.val < 8192) :
    iblk m c 4 t (ix2 r k) = m ((c : Thread nD τ).loc main_arg5) (ix2 ⟨512 * t.val + r.val, h⟩ k) := by
  blk_point [iblk, V, idx t]

theorem blk_P (t : Fin cfg0.N) (q : Fin 4) (j k : Fin 128) :
    iblk m c 11 t (ix3 q j k) = m ((c : Thread nD τ).loc main_arg3) (ix3 q j k) := by
  blk_ext [iblk, V, idx t]

theorem blk_s (t : Fin cfg0.N) (k : Fin 512) :
    iblk m c 12 t (ix2 0 k) = m ((c : Thread nD τ).loc main_arg4) (ix1 k) := by
  blk_point [iblk, V, idx t]

theorem after_lt (t : Fin cfg0.N) (r : Fin 16) : PoolTile.after t.val r.val < 8192 := by
  have := lt_of_lt_of_eq t.isLt (show cfg0.N = 16 from N_0)
  unfold PoolTile.after
  split <;> omega

theorem after_eq (t : Fin cfg0.N) (r : Fin 16) : min ((t.val + 1) * 32) 511 * 16 + r.val = PoolTile.after t.val r.val := by
  have := lt_of_lt_of_eq t.isLt (show cfg0.N = 16 from N_0)
  unfold PoolTile.after
  split <;> omega

theorem blk_dyn (t : Fin cfg0.N) (r : Fin 16) (k : Fin 512) :
    iblk m c 5 t (ix2 r k) = m ((c : Thread nD τ).loc main_arg5) (ix2 ⟨PoolTile.after t.val r.val, after_lt t r⟩ k) := by
  blk_point [iblk, V, idx t]
  exact after_eq t r

/-- An entry of the projection, as the host lines before the kernel compute it. -/
def entry (x g w : Fin 1024 → EReal) : EReal :=
  ∑ j, x j * Ideal.rsqrt (Ideal.div (∑ i, x i * x i) (Ideal.ofBits .f32 0x44800000#32) + Ideal.ofBits .f32 0x358637BD#32) * g j * w j

theorem entry_real (x g w : Fin 1024 → EReal) (g' w' : Fin 1024 → ℝ) (hg : ∀ j, g j = (g' j : EReal)) (hw : ∀ j, w j = (w' j : EReal)) :
    entry x g w = ((∑ j, OutLossReal.nrm (fun _ _ => 0) (PoolArgs.plain x) j * g' j * w' j : ℝ) : EReal) := by
  unfold entry
  rw [← coe_sum]
  refine Finset.sum_congr rfl fun j _ => ?_
  rw [hg, hw, PoolArgs.h_eq, ← EReal.coe_mul]

theorem host (n : Fin 8192) (k : Fin 1024) :
    V m c main_v14 (ix2 n k) = entry (fun j => m ((c : Thread nD τ).loc main_arg0) (ix2 n j))
      (fun j => m ((c : Thread nD τ).loc main_arg1) (ix1 j))
      (fun j => m ((c : Thread nD τ).loc main_arg2) (ix2 j ⟨k.val, by omega⟩)) := by
  unfold entry
  blk_point [V]

theorem blk_pvg (t : Fin cfg0.N) (r : Fin 512) (k : Fin 1024) (h : 512 * t.val + r.val < 8192) :
    iblk m c 1 t (ix2 r k) = V m c main_v14 (ix2 ⟨512 * t.val + r.val, h⟩ k) := by
  blk_ext [iblk, idx t]

theorem blk_prev (t : Fin cfg0.N) (r : Fin 16) (k : Fin 512) (h0 : 0 < t.val) (h : 512 * t.val - 16 + r.val < 8192) :
    iblk m c 2 t (ix2 r k) = V m c main_v14 (ix2 ⟨512 * t.val - 16 + r.val, h⟩ ⟨k.val, by omega⟩) := by
  blk_ext [iblk, idx t]

theorem blk_next (t : Fin cfg0.N) (r : Fin 16) (k : Fin 512) :
    iblk m c 3 t (ix2 r k) = V m c main_v14 (ix2 ⟨PoolTile.after t.val r.val, after_lt t r⟩ ⟨512 + k.val, by omega⟩) := by
  have := after_eq t r
  blk_ext [iblk, idx t]

/-- The gain, the pooled columns of the weight, the groups' weights, the scale and the gradient at the pooled half are
    real numbers. -/
structure Finite : Prop where
  gain : ∀ i : S1024.Idx, (m ((c : Thread nD τ).loc main_arg1) i : EReal) = ((m ((c : Thread nD τ).loc main_arg1) i : EReal).toReal : EReal)
  w : ∀ (j k : Fin 1024), (m ((c : Thread nD τ).loc main_arg2) (ix2 j ⟨k.val, by omega⟩) : EReal)
    = ((m ((c : Thread nD τ).loc main_arg2) (ix2 j ⟨k.val, by omega⟩) : EReal).toReal : EReal)
  P : ∀ i : S4x128x128.Idx, (m ((c : Thread nD τ).loc main_arg3) i : EReal) = ((m ((c : Thread nD τ).loc main_arg3) i : EReal).toReal : EReal)
  s : ∀ i : S512.Idx, (m ((c : Thread nD τ).loc main_arg4) i : EReal) = ((m ((c : Thread nD τ).loc main_arg4) i : EReal).toReal : EReal)
  dy : ∀ i : S8192x512.Idx, (m ((c : Thread nD τ).loc main_arg5) i : EReal) = ((m ((c : Thread nD τ).loc main_arg5) i : EReal).toReal : EReal)

/-- Row `n` of the batch (counted modulo the batch). -/
abbrev at_ (n : ℕ) : Fin 8192 := ⟨n % 8192, Nat.mod_lt _ (by decide)⟩

theorem at_of_lt (n : ℕ) (h : n < 8192) : at_ n = ⟨n, h⟩ := Fin.ext (Nat.mod_eq_of_lt h)

/-- The arguments' entries. -/
def args : PoolArgs.Args where
  x n k := m ((c : Thread nD τ).loc main_arg0) (ix2 (at_ n) k)
  gain k := (m ((c : Thread nD τ).loc main_arg1) (ix1 k) : EReal).toReal
  w j k := (m ((c : Thread nD τ).loc main_arg2) (ix2 j ⟨k.val, by omega⟩) : EReal).toReal
  P q j k := (m ((c : Thread nD τ).loc main_arg3) (ix3 q j k) : EReal).toReal
  s k := (m ((c : Thread nD τ).loc main_arg4) (ix1 k) : EReal).toReal
  dy n k := (m ((c : Thread nD τ).loc main_arg5) (ix2 (at_ n) k) : EReal).toReal
  dq n k := m ((c : Thread nD τ).loc main_arg6) (ix2 (at_ n) k)
  dk n k := m ((c : Thread nD τ).loc main_arg7) (ix2 (at_ n) k)
  dv n k := m ((c : Thread nD τ).loc main_arg8) (ix2 (at_ n) k)
  dag n k := m ((c : Thread nD τ).loc main_arg9) (ix2 (at_ n) k)

theorem in_V (f : Finite m c) (n : ℕ) (hn : n < 8192) (k : Fin 1024) :
    V m c main_v14 (ix2 ⟨n, hn⟩ k) = (PoolArgs.proj (args m c) n k : EReal) := by
  refine (host m c _ _).trans ?_
  rw [← at_of_lt n hn]
  exact entry_real _ _ _ _ _ (fun j => f.gain (ix1 j)) (fun j => f.w j k)

theorem ld2 {a b a' b' p q : ℕ} {e : EltTy} (X : (⟨2, ![a, b]⟩ : Shape).Idx → Elt Ideal e)
    (inb : ∀ x, (![p, q] : Fin 2 → ℕ) x + (⟨2, ![a', b']⟩ : Shape).size x ≤ (⟨2, ![a, b]⟩ : Shape).size x)
    (r : Fin a') (k : Fin b') (h : p + r.val < a) (h' : q + k.val < b) :
    View.ld X (Rect.unit (s := (⟨2, ![a, b]⟩ : Shape)) ![p, q] (⟨2, ![a', b']⟩ : Shape).size inb) (ix2 r k)
      = X (ix2 ⟨p + r.val, h⟩ ⟨q + k.val, h'⟩) := by
  show X _ = X _
  congr 1
  funext x
  apply Fin.ext
  match x with
  | ⟨0, _⟩ => exact congrArg (p + ·) (Nat.one_mul _)
  | ⟨1, _⟩ => exact congrArg (q + ·) (Nat.one_mul _)

theorem fits {a b n k : ℕ} (q : ℕ) (h : n ≤ a) (h' : q + k ≤ b) : ∀ x : Fin 2, (![0, q] : Fin 2 → ℕ) x + (![n, k] : Fin 2 → ℕ) x ≤ (![a, b] : Fin 2 → ℕ) x := by
  intro x
  match x with
  | ⟨0, _⟩ => show 0 + n ≤ a; omega
  | ⟨1, _⟩ => exact h'

theorem fits3 (q : Fin 4) : ∀ x : Fin 3, (![q.val, 0, 0] : Fin 3 → ℕ) x + (![1, 128, 128] : Fin 3 → ℕ) x ≤ (![4, 128, 128] : Fin 3 → ℕ) x := by
  intro x
  match x with
  | ⟨0, _⟩ => show q.val + 1 ≤ 4; omega
  | ⟨1, _⟩ => show 0 + 128 ≤ 128; omega
  | ⟨2, _⟩ => show 0 + 128 ≤ 128; omega

/-- What group `q` loads at point `t`. -/
def loads (t : Fin cfg0.N) (q : Fin 4) : PoolTile.Loads where
  x := View.ld (iblk m c 1 t) (Rect.unit ![0, 128 * q.val] ![512, 128] (fits _ le_rfl (by omega)))
  p := View.ld (iblk m c 2 t) (Rect.unit ![0, 128 * q.val] ![16, 128] (fits _ le_rfl (by omega)))
  g := View.ld (iblk m c 1 t) (Rect.unit ![0, 512 + 128 * q.val] ![512, 128] (fits _ le_rfl (by omega)))
  gn := View.ld (iblk m c 3 t) (Rect.unit ![0, 128 * q.val] ![16, 128] (fits _ le_rfl (by omega)))
  dy := View.ld (iblk m c 4 t) (Rect.unit ![0, 128 * q.val] ![512, 128] (fits _ le_rfl (by omega)))
  dyn := View.ld (iblk m c 5 t) (Rect.unit ![0, 128 * q.val] ![16, 128] (fits _ le_rfl (by omega)))
  P := View.ld (iblk m c 11 t) (Rect.unit ![q.val, 0, 0] ![1, 128, 128] (fits3 q))
  s := View.ld (iblk m c 12 t) (Rect.unit ![0, 128 * q.val] ![1, 128] (fits _ le_rfl (by omega)))

theorem reads (f : Finite m c) (t : Fin cfg0.N) (q : Fin 4) : PoolTile.Reads (loads m c t q) t.val (PoolArgs.grp (args m c) q) := by
  have ht := lt_of_lt_of_eq t.isLt (show cfg0.N = 16 from N_0)
  constructor
  · exact ht
  · intro r k
    refine (ld2 (a := 512) (b := 1024) (p := 0) (q := 128 * q.val) (e := .f32) (iblk m c 1 t) (fits _ le_rfl (by omega)) r k (by omega) (by omega)).trans ?_
    rw [blk_pvg m c t _ _ (by dsimp only; omega), in_V m c f]
    simp only [Nat.zero_add]
    rfl
  · intro h0 r k
    refine (ld2 (a := 16) (b := 512) (p := 0) (q := 128 * q.val) (e := .f32) (iblk m c 2 t) (fits _ le_rfl (by omega)) r k (by omega) (by omega)).trans ?_
    rw [blk_prev m c t _ _ h0 (by dsimp only; omega), in_V m c f]
    simp only [Nat.zero_add]
    rfl
  · intro r k
    refine (ld2 (a := 512) (b := 1024) (p := 0) (q := 512 + 128 * q.val) (e := .f32) (iblk m c 1 t) (fits _ le_rfl (by omega)) r k (by omega) (by omega)).trans ?_
    rw [blk_pvg m c t _ _ (by dsimp only; omega), in_V m c f]
    simp only [Nat.zero_add]
    rfl
  · intro r k
    refine (ld2 (a := 16) (b := 512) (p := 0) (q := 128 * q.val) (e := .f32) (iblk m c 3 t) (fits _ le_rfl (by omega)) r k (by omega) (by omega)).trans ?_
    rw [blk_next m c t _ _, in_V m c f]
    simp only [Nat.zero_add, ← Nat.add_assoc]
    rfl
  · intro r k
    refine (ld2 (a := 512) (b := 512) (p := 0) (q := 128 * q.val) (e := .bf16) (iblk m c 4 t) (fits _ le_rfl (by omega)) r k (by omega) (by omega)).trans ?_
    rw [blk_dy m c t _ _ (by dsimp only; omega), f.dy, ← at_of_lt]
    simp only [Nat.zero_add]
    rfl
  · intro r k
    refine (ld2 (a := 16) (b := 512) (p := 0) (q := 128 * q.val) (e := .bf16) (iblk m c 5 t) (fits _ le_rfl (by omega)) r k (by omega) (by omega)).trans ?_
    rw [blk_dyn m c t _ _, f.dy, ← at_of_lt]
    simp only [Nat.zero_add]
    rfl
  · intro j k
    refine Eq.trans ?_ ((blk_P m c t q j k).trans (f.P _))
    show iblk m c 11 t _ = iblk m c 11 t _
    congr 1
    funext x
    apply Fin.ext
    match x with
    | ⟨0, _⟩ => rfl
    | ⟨1, _⟩ => exact (Nat.zero_add _).trans (Nat.one_mul _)
    | ⟨2, _⟩ => exact (Nat.zero_add _).trans (Nat.one_mul _)
  · intro k
    refine (ld2 (a := 1) (a' := 1) (b := 512) (p := 0) (q := 128 * q.val) (e := .f32) (iblk m c 12 t) (fits _ le_rfl (by omega)) 0 k Nat.one_pos (by omega)).trans ?_
    exact (blk_s m c t _).trans (f.s _)

end PoolFold

end
-- ==== Proof.PoolPieces.lean ====
/-
  The pooling's gradient kernel writes its blocks in pieces; each list of pieces read as one function of the block's
  index.
-/
module

public import proofs.«01_k».proof.Proof.PoolFold

@[expose] public section

set_option maxRecDepth 16384

noncomputable section

open Idealize.ShloMosaic Idealize.ShloMosaic.TcCoe Idealize.SL.Sem

namespace PoolFold

open Cert.PoolDwIdeal Cert.PoolDwIdeal.Gen RealOps PoolTile

variable (m : (ℓ : Loc nD τ sig) → Buf (Elt Ideal) ℓ) (c : Dev nD)

/-- The word of a point's number. -/
abbrev wd (t : Fin cfg0.N) : BitVec 32 := BitVec.ofNat 32 (grid0.coords t 0).val

theorem wd_eq (t : Fin cfg0.N) : wd t = BitVec.ofNat 32 t.val :=
  congrArg (BitVec.ofNat 32) ((by decide +kernel : ∀ t : Fin grid0.N, (grid0.coords t 0).val = t.val) t)

theorem point (t : Fin cfg0.N) : t.val < 16 := lt_of_lt_of_eq t.isLt N_0

theorem dpool_v (A : PoolArgs.Args) (n : ℕ) (q : Fin 4) (k : Fin 128) (j : Fin 1024) (h : j.val = 128 * q.val + k.val) :
    PoolArgs.dpool A n j = PoolReal.dpv (PoolArgs.grp A q) n k := by
  unfold PoolArgs.dpool
  rw [if_pos (by omega), show PoolArgs.grpOf j = q from Fin.ext (by show j.val % 512 / 128 = q.val; omega),
    show PoolArgs.inGrp j = k from Fin.ext (by show j.val % 128 = k.val; omega)]

theorem dpool_g (A : PoolArgs.Args) (n : ℕ) (q : Fin 4) (k : Fin 128) (j : Fin 1024) (h : j.val = 512 + 128 * q.val + k.val) :
    PoolArgs.dpool A n j = PoolReal.dpg (PoolArgs.grp A q) n k := by
  unfold PoolArgs.dpool
  rw [if_neg (by omega), show PoolArgs.grpOf j = q from Fin.ext (by show j.val % 512 / 128 = q.val; omega),
    show PoolArgs.inGrp j = k from Fin.ext (by show j.val % 128 = k.val; omega)]

variable (f : Finite m c) (t : Fin cfg0.N)

/-- The gradient at the pooled columns over a tile. -/
def tileOut (y : S512x1024.Idx) : EReal := (PoolArgs.dpool (args m c) (512 * t.val + (y 0).val) (y 1) : EReal)

/-- The pieces of the tile. -/
abbrev tiles : List (View.Piece (Elt Ideal) S512x1024 .bf16) :=
  [⟨Rect.unit ![0, 896] ![512, 128] inb_S512x1024_S512x128_0_896, dgates (loads m c t 3) (wd t) 3⟩,
   ⟨Rect.unit ![0, 384] ![512, 128] inb_S512x1024_S512x128_0_384, dvals (loads m c t 3) (wd t) 3⟩,
   ⟨Rect.unit ![0, 768] ![512, 128] inb_S512x1024_S512x128_0_768, dgates (loads m c t 2) (wd t) 2⟩,
   ⟨Rect.unit ![0, 256] ![512, 128] inb_S512x1024_S512x128_0_256, dvals (loads m c t 2) (wd t) 2⟩,
   ⟨Rect.unit ![0, 640] ![512, 128] inb_S512x1024_S512x128_0_640, dgates (loads m c t 1) (wd t) 1⟩,
   ⟨Rect.unit ![0, 128] ![512, 128] inb_S512x1024_S512x128_0_128, dvals (loads m c t 1) (wd t) 1⟩,
   ⟨Rect.unit ![0, 512] ![512, 128] inb_S512x1024_S512x128_0_512, dgates (loads m c t 0) (wd t) 0⟩,
   ⟨Rect.unit ![0, 0] ![512, 128] inb_S512x1024_S512x128_0_0, dvals (loads m c t 0) (wd t) 0⟩]

theorem emb0 {a b n k o : ℕ} (inb : ∀ x, (![0, o] : Fin 2 → ℕ) x + (![n, k] : Fin 2 → ℕ) x ≤ (⟨2, ![a, b]⟩ : Shape).size x)
    (x : (⟨2, ![n, k]⟩ : Shape).Idx) : ((Rect.unit (s := (⟨2, ![a, b]⟩ : Shape)) ![0, o] ![n, k] inb).emb x 0).val = (x 0).val := by
  show 0 + 1 * (x 0).val = _
  omega

theorem emb1 {a b n k o : ℕ} (inb : ∀ x, (![0, o] : Fin 2 → ℕ) x + (![n, k] : Fin 2 → ℕ) x ≤ (⟨2, ![a, b]⟩ : Shape).size x)
    (x : (⟨2, ![n, k]⟩ : Shape).Idx) : ((Rect.unit (s := (⟨2, ![a, b]⟩ : Shape)) ![0, o] ![n, k] inb).emb x 1).val = o + (x 1).val := by
  show o + 1 * (x 1).val = _
  omega

/-- Where an index of a group's columns lies in the tile. -/
abbrev place {o : ℕ} (inb : ∀ x, (![0, o] : Fin 2 → ℕ) x + (![512, 128] : Fin 2 → ℕ) x ≤ S512x1024.size x) (x : S512x128.Idx) : S512x1024.Idx :=
  let x' : (Rect.unit (s := S512x1024) ![0, o] ![512, 128] inb).shape.Idx := x
  (Rect.unit (s := S512x1024) ![0, o] ![512, 128] inb).emb x'

theorem tileOut_v (q : Fin 4) (k : Fin 128) (y : S512x1024.Idx) (h : (y 1).val = 128 * q.val + k.val) :
    tileOut m c t y = (PoolReal.dpv (PoolArgs.grp (args m c) q) (512 * t.val + (y 0).val) k : EReal) :=
  congrArg (fun a : ℝ => (a : EReal)) (dpool_v _ _ q k _ h)

theorem tileOut_g (q : Fin 4) (k : Fin 128) (y : S512x1024.Idx) (h : (y 1).val = 512 + 128 * q.val + k.val) :
    tileOut m c t y = (PoolReal.dpg (PoolArgs.grp (args m c) q) (512 * t.val + (y 0).val) k : EReal) :=
  congrArg (fun a : ℝ => (a : EReal)) (dpool_g _ _ q k _ h)

include f

theorem piece_v (q : Fin 4) (o : ℕ) (ho : o = 128 * q.val) (inb : ∀ x, (![0, o] : Fin 2 → ℕ) x + (![512, 128] : Fin 2 → ℕ) x ≤ S512x1024.size x)
    (x : S512x128.Idx) : dvals (loads m c t q) (wd t) q.val x = tileOut m c t (place inb x) := by
  have e := tileOut_v m c t q (x 1) (place inb x) (by rw [← ho]; exact emb1 inb x)
  rw [e, wd_eq]
  exact (congrArg (dvals (loads m c t q) (BitVec.ofNat 32 t.val) q.val) (eq_ix2 x)).trans
    ((dvals_at _ _ _ (reads m c f t q) q.val q.isLt rfl (x 0) (x 1)).trans
      (congrArg (fun n => (PoolReal.dpv (PoolArgs.grp (args m c) q) (512 * t.val + n) (x 1) : EReal)) (emb0 inb x).symm))

theorem piece_g (q : Fin 4) (o : ℕ) (ho : o = 512 + 128 * q.val)
    (inb : ∀ x, (![0, o] : Fin 2 → ℕ) x + (![512, 128] : Fin 2 → ℕ) x ≤ S512x1024.size x)
    (x : S512x128.Idx) : dgates (loads m c t q) (wd t) q.val x = tileOut m c t (place inb x) := by
  have e := tileOut_g m c t q (x 1) (place inb x) (by rw [← ho]; exact emb1 inb x)
  rw [e, wd_eq]
  exact (congrArg (dgates (loads m c t q) (BitVec.ofNat 32 t.val) q.val) (eq_ix2 x)).trans
    ((dgates_at _ _ _ (reads m c f t q) q.val q.isLt rfl (x 0) (x 1)).trans
      (congrArg (fun n => (PoolReal.dpg (PoolArgs.grp (args m c) q) (512 * t.val + n) (x 1) : EReal)) (emb0 inb x).symm))

theorem tiles_of : View.PiecesOf (tileOut m c t) (tiles m c t) :=
  ⟨piece_g m c f t 3 896 rfl inb_S512x1024_S512x128_0_896, piece_v m c f t 3 384 rfl inb_S512x1024_S512x128_0_384, piece_g m c f t 2 768 rfl inb_S512x1024_S512x128_0_768, piece_v m c f t 2 256 rfl inb_S512x1024_S512x128_0_256,
   piece_g m c f t 1 640 rfl inb_S512x1024_S512x128_0_640, piece_v m c f t 1 128 rfl inb_S512x1024_S512x128_0_128, piece_g m c f t 0 512 rfl inb_S512x1024_S512x128_0_512, piece_v m c f t 0 0 rfl inb_S512x1024_S512x128_0_0, trivial⟩

omit f in
theorem col_mem {a b n k o : ℕ} (inb : ∀ x, (![0, o] : Fin 2 → ℕ) x + (![n, k] : Fin 2 → ℕ) x ≤ (⟨2, ![a, b]⟩ : Shape).size x)
    (y : (⟨2, ![a, b]⟩ : Shape).Idx) (hn : a = n) (h : o ≤ (y 1).val ∧ (y 1).val < o + k) :
    y ∈ (Rect.unit (s := (⟨2, ![a, b]⟩ : Shape)) ![0, o] ![n, k] inb).set := by
  refine Rect.mem_set_unit.mpr fun x => ?_
  match x with
  | ⟨0, _⟩ => exact ⟨Nat.zero_le _, by have := (y 0).isLt; show (y 0).val < 0 + n; have : (y 0).val < a := this; omega⟩
  | ⟨1, _⟩ => exact h

/-- What a tile's block holds. -/
theorem tile_eq (y : S512x1024.Idx) : View.canon (tiles m c t) y = tileOut m c t y := by
  refine View.canon_append_of_piecesOf (tileOut m c t) [] (tiles m c t) (tiles_of m c f t) y ?_
  have : (y 1).val < 1024 := (y 1).isLt
  rcases (by omega : (y 1).val / 128 = 0 ∨ (y 1).val / 128 = 1 ∨ (y 1).val / 128 = 2 ∨ (y 1).val / 128 = 3 ∨ (y 1).val / 128 = 4
    ∨ (y 1).val / 128 = 5 ∨ (y 1).val / 128 = 6 ∨ (y 1).val / 128 = 7) with h | h | h | h | h | h | h | h
  · exact ⟨_, List.mem_of_getElem? (i := 7) rfl, col_mem inb_S512x1024_S512x128_0_0 y rfl (by omega)⟩
  · exact ⟨_, List.mem_of_getElem? (i := 5) rfl, col_mem inb_S512x1024_S512x128_0_128 y rfl (by omega)⟩
  · exact ⟨_, List.mem_of_getElem? (i := 3) rfl, col_mem inb_S512x1024_S512x128_0_256 y rfl (by omega)⟩
  · exact ⟨_, List.mem_of_getElem? (i := 1) rfl, col_mem inb_S512x1024_S512x128_0_384 y rfl (by omega)⟩
  · exact ⟨_, List.mem_of_getElem? (i := 6) rfl, col_mem inb_S512x1024_S512x128_0_512 y rfl (by omega)⟩
  · exact ⟨_, List.mem_of_getElem? (i := 4) rfl, col_mem inb_S512x1024_S512x128_0_640 y rfl (by omega)⟩
  · exact ⟨_, List.mem_of_getElem? (i := 2) rfl, col_mem inb_S512x1024_S512x128_0_768 y rfl (by omega)⟩
  · exact ⟨_, List.mem_of_getElem? (i := 0) rfl, col_mem inb_S512x1024_S512x128_0_896 y rfl (by omega)⟩

end PoolFold

end
-- ==== Proof.PoolAcc.lean ====
/-
  What each tile adds to the three sums of the pooling's gradient kernel: the pieces each block is written in, read as
  one function of the block's index.
-/
module

public import proofs.«01_k».proof.Proof.PoolPieces
public import Idealize.ShloMosaic.Lib.Pointwise

@[expose] public section

set_option maxRecDepth 16384

noncomputable section

open Idealize.ShloMosaic Idealize.ShloMosaic.TcCoe Idealize.SL.Sem

namespace PoolFold

open Cert.PoolDwIdeal Cert.PoolDwIdeal.Gen RealOps PoolTile

variable (m : (ℓ : Loc nD τ sig) → Buf (Elt Ideal) ℓ) (c : Dev nD)

/-- The normalised rows of the tile, from the rows and the gain. -/
theorem rows_at (X : Vec Ideal S512x1024 .f32) (g : Vec Ideal S1x1024 .f32) (x : Fin 512 → Fin 1024 → EReal) (g' : Fin 1024 → ℝ)
    (hX : ∀ r k, X (ix2 r k) = x r k) (hg : ∀ k, g (ix2 0 k) = (g' k : EReal)) (r : Fin 512) (k : Fin 1024) :
    k0_pay16 X g (ix2 r k) = ((OutLossReal.nrm (fun _ _ => 0) (PoolArgs.plain (x r)) k * g' k : ℝ) : EReal) := by
  refine Eq.trans ?_ (PoolArgs.h_eq (x r) (g' k) k)
  pointwise [k0_pay16, hX, hg]

theorem grow256 (H : Vec Ideal S512x1024 .bf16) (A : Vec Ideal S1024x256 .f32) (B : Vec Ideal S512x256 .bf16) (j : Fin 1024) (k : Fin 256) :
    k0_pay31 H A B (ix2 j k) = A (ix2 j k) + ∑ r : Fin 512, H (ix2 r j) * B (ix2 r k) := by
  pointwise [k0_pay31]

theorem grow512 (H : Vec Ideal S512x1024 .bf16) (A : Vec Ideal S1024x512 .f32) (B : Vec Ideal S512x512 .bf16) (j : Fin 1024) (k : Fin 512) :
    k0_pay2 H A B (ix2 j k) = A (ix2 j k) + ∑ r : Fin 512, H (ix2 r j) * B (ix2 r k) := by
  pointwise [k0_pay2]

/-- The two halves of the tile's columns. -/
abbrev boxL : Rect S512x1024 := Rect.unit ![0, 0] ![512, 512] inb_S512x1024_S512x512_0_0

abbrev boxR : Rect S512x1024 := Rect.unit ![0, 512] ![512, 512] inb_S512x1024_S512x512_0_512

abbrev leftV (t : Fin cfg0.N) : Vec Ideal S512x512 .bf16 := (ms0_14 t).view.readCov (tiles m c t).tail boxL.toLoadRect

abbrev rightV (t : Fin cfg0.N) : Vec Ideal S512x512 .bf16 := (ms0_14 t).view.readCov (tiles m c t) boxR.toLoadRect

variable (f : Finite m c) (t : Fin cfg0.N)

include f

theorem hrow (r : Fin 512) (k : Fin 1024) :
    k0_pay16 (iblk m c 0 t) (iblk m c 10 t) (ix2 r k) = (PoolArgs.h (args m c) (512 * t.val + r.val) k : EReal) := by
  have ht := point t
  refine rows_at _ _ (fun r k => (args m c).x (512 * t.val + r.val) k) (args m c).gain (fun r k => ?_) (fun k => ?_) r k
  · refine (blk_x m c t r k (by omega)).trans ?_
    rw [← at_of_lt]
    rfl
  · exact (blk_gain m c t k).trans (f.gain _)

omit f in
theorem dproj_pool (A : PoolArgs.Args) (n : ℕ) (k : Fin 3072) (h : k.val < 1024) :
    (PoolArgs.dpool A n ⟨k.val, h⟩ : EReal) = PoolArgs.dproj A n k := by
  unfold PoolArgs.dproj
  rw [dif_pos h]

theorem tile_left (r k : Fin 512) :
    leftV m c t (ix2 r k) = PoolArgs.dproj (args m c) (512 * t.val + r.val) ⟨0 + k.val, by omega⟩ := by
  let x' : boxL.shape.Idx := ix2 r k
  have e0 : (boxL.emb x' 0).val = r.val := emb0 inb_S512x1024_S512x512_0_0 (ix2 r k)
  have e1 : (boxL.emb x' 1).val = 0 + k.val := emb1 inb_S512x1024_S512x512_0_0 (ix2 r k)
  refine (congrFun (View.readCov_eq_canon' _ _ _) _).trans ?_
  refine (View.canon_append_of_piecesOf (tileOut m c t) [] (tiles m c t).tail (tiles_of m c f t).2 (boxL.emb x') ?_).trans ?_
  · rcases (by omega : k.val / 128 = 0 ∨ k.val / 128 = 1 ∨ k.val / 128 = 2 ∨ k.val / 128 = 3) with h | h | h | h
    · exact ⟨_, List.mem_of_getElem? (i := 6) rfl, col_mem inb_S512x1024_S512x128_0_0 _ rfl (by omega)⟩
    · exact ⟨_, List.mem_of_getElem? (i := 4) rfl, col_mem inb_S512x1024_S512x128_0_128 _ rfl (by omega)⟩
    · exact ⟨_, List.mem_of_getElem? (i := 2) rfl, col_mem inb_S512x1024_S512x128_0_256 _ rfl (by omega)⟩
    · exact ⟨_, List.mem_of_getElem? (i := 0) rfl, col_mem inb_S512x1024_S512x128_0_384 _ rfl (by omega)⟩
  · refine Eq.trans ?_ (dproj_pool (args m c) _ ⟨0 + k.val, by omega⟩ (by show 0 + k.val < 1024; omega))
    unfold tileOut
    rw [e0, show boxL.emb x' 1 = ⟨0 + k.val, by omega⟩ from Fin.ext e1]
    rfl

theorem tile_right (r k : Fin 512) :
    rightV m c t (ix2 r k) = PoolArgs.dproj (args m c) (512 * t.val + r.val) ⟨512 + k.val, by omega⟩ := by
  let x' : boxR.shape.Idx := ix2 r k
  have e0 : (boxR.emb x' 0).val = r.val := emb0 inb_S512x1024_S512x512_0_512 (ix2 r k)
  have e1 : (boxR.emb x' 1).val = 512 + k.val := emb1 inb_S512x1024_S512x512_0_512 (ix2 r k)
  refine (congrFun (View.readCov_eq_canon' _ _ _) _).trans ((tile_eq m c f t (boxR.emb x')).trans ?_)
  refine Eq.trans ?_ (dproj_pool (args m c) _ ⟨512 + k.val, by omega⟩ (by show 512 + k.val < 1024; omega))
  unfold tileOut
  rw [e0, show boxR.emb x' 1 = ⟨512 + k.val, by omega⟩ from Fin.ext e1]
  rfl

omit f
/-- What the block of the sums at the weight holds after the tile, if it held `prev` before. -/
def accOut (prev : S1024x3072.Idx → EReal) (y : S1024x3072.Idx) : EReal :=
  prev y + ∑ r : Fin 512, (PoolArgs.h (args m c) (512 * t.val + r.val) (y 0) : EReal) * PoolArgs.dproj (args m c) (512 * t.val + r.val) (y 1)

/-- The pieces of that block. -/
abbrev accs (prev : Vec Ideal S1024x3072 .f32) : List (View.Piece (Elt Ideal) S1024x3072 .f32) :=
  [⟨Rect.unit ![0, 512] ![1024, 512] inb_S1024x3072_S1024x512_0_512,
      k0_pay2 (k0_pay16 (iblk m c 0 t) (iblk m c 10 t)) (View.ld prev (Rect.unit ![0, 512] ![1024, 512] inb_S1024x3072_S1024x512_0_512))
        (rightV m c t)⟩,
   ⟨Rect.unit ![0, 0] ![1024, 512] inb_S1024x3072_S1024x512_0_0,
      k0_pay2 (k0_pay16 (iblk m c 0 t) (iblk m c 10 t)) (View.ld prev (Rect.unit ![0, 0] ![1024, 512] inb_S1024x3072_S1024x512_0_0))
        (leftV m c t)⟩,
   ⟨Rect.unit ![0, 2816] ![1024, 256] inb_S1024x3072_S1024x256_0_2816,
      k0_pay31 (k0_pay16 (iblk m c 0 t) (iblk m c 10 t)) (View.ld prev (Rect.unit ![0, 2816] ![1024, 256] inb_S1024x3072_S1024x256_0_2816))
        (View.ld (iblk m c 9 t) (Rect.unit ![0, 256] ![512, 256] inb_S512x512_S512x256_0_256))⟩,
   ⟨Rect.unit ![0, 2560] ![1024, 256] inb_S1024x3072_S1024x256_0_2560,
      k0_pay31 (k0_pay16 (iblk m c 0 t) (iblk m c 10 t)) (View.ld prev (Rect.unit ![0, 2560] ![1024, 256] inb_S1024x3072_S1024x256_0_2560))
        (View.ld (iblk m c 9 t) (Rect.unit ![0, 0] ![512, 256] inb_S512x512_S512x256_0_0))⟩,
   ⟨Rect.unit ![0, 2304] ![1024, 256] inb_S1024x3072_S1024x256_0_2304,
      k0_pay31 (k0_pay16 (iblk m c 0 t) (iblk m c 10 t)) (View.ld prev (Rect.unit ![0, 2304] ![1024, 256] inb_S1024x3072_S1024x256_0_2304))
        (View.ld (iblk m c 8 t) (Rect.unit ![0, 256] ![512, 256] inb_S512x512_S512x256_0_256))⟩,
   ⟨Rect.unit ![0, 2048] ![1024, 256] inb_S1024x3072_S1024x256_0_2048,
      k0_pay31 (k0_pay16 (iblk m c 0 t) (iblk m c 10 t)) (View.ld prev (Rect.unit ![0, 2048] ![1024, 256] inb_S1024x3072_S1024x256_0_2048))
        (View.ld (iblk m c 8 t) (Rect.unit ![0, 0] ![512, 256] inb_S512x512_S512x256_0_0))⟩,
   ⟨Rect.unit ![0, 1792] ![1024, 256] inb_S1024x3072_S1024x256_0_1792,
      k0_pay31 (k0_pay16 (iblk m c 0 t) (iblk m c 10 t)) (View.ld prev (Rect.unit ![0, 1792] ![1024, 256] inb_S1024x3072_S1024x256_0_1792))
        (View.ld (iblk m c 7 t) (Rect.unit ![0, 256] ![512, 256] inb_S512x512_S512x256_0_256))⟩,
   ⟨Rect.unit ![0, 1536] ![1024, 256] inb_S1024x3072_S1024x256_0_1536,
      k0_pay31 (k0_pay16 (iblk m c 0 t) (iblk m c 10 t)) (View.ld prev (Rect.unit ![0, 1536] ![1024, 256] inb_S1024x3072_S1024x256_0_1536))
        (View.ld (iblk m c 7 t) (Rect.unit ![0, 0] ![512, 256] inb_S512x512_S512x256_0_0))⟩,
   ⟨Rect.unit ![0, 1280] ![1024, 256] inb_S1024x3072_S1024x256_0_1280,
      k0_pay31 (k0_pay16 (iblk m c 0 t) (iblk m c 10 t)) (View.ld prev (Rect.unit ![0, 1280] ![1024, 256] inb_S1024x3072_S1024x256_0_1280))
        (View.ld (iblk m c 6 t) (Rect.unit ![0, 256] ![512, 256] inb_S512x512_S512x256_0_256))⟩,
   ⟨Rect.unit ![0, 1024] ![1024, 256] inb_S1024x3072_S1024x256_0_1024,
      k0_pay31 (k0_pay16 (iblk m c 0 t) (iblk m c 10 t)) (View.ld prev (Rect.unit ![0, 1024] ![1024, 256] inb_S1024x3072_S1024x256_0_1024))
        (View.ld (iblk m c 6 t) (Rect.unit ![0, 0] ![512, 256] inb_S512x512_S512x256_0_0))⟩]

/-- A piece's index in the block. -/
abbrev inAcc {o n : ℕ} (inb : ∀ x, (![0, o] : Fin 2 → ℕ) x + (![1024, n] : Fin 2 → ℕ) x ≤ S1024x3072.size x)
    (x : (⟨2, ![1024, n]⟩ : Shape).Idx) : S1024x3072.Idx :=
  let x' : (Rect.unit (s := S1024x3072) ![0, o] ![1024, n] inb).shape.Idx := x
  (Rect.unit (s := S1024x3072) ![0, o] ![1024, n] inb).emb x'

include f

theorem piece_sum {n : ℕ} (prev : Vec Ideal S1024x3072 .f32) (W : Fin 512 → EReal) (o : ℕ)
    (inb : ∀ x, (![0, o] : Fin 2 → ℕ) x + (![1024, n] : Fin 2 → ℕ) x ≤ S1024x3072.size x) (x : (⟨2, ![1024, n]⟩ : Shape).Idx)
    (h : o + (x 1).val < 3072) (hW : ∀ r : Fin 512, W r = PoolArgs.dproj (args m c) (512 * t.val + r.val) ⟨o + (x 1).val, h⟩) :
    prev (inAcc inb x) + ∑ r : Fin 512, k0_pay16 (iblk m c 0 t) (iblk m c 10 t) (ix2 r (x 0)) * W r = accOut m c t prev (inAcc inb x) := by
  unfold accOut
  congr 1
  refine Finset.sum_congr rfl fun r _ => ?_
  have e0 : x 0 = inAcc inb x 0 := Fin.ext (emb0 inb x).symm
  have e1 : (⟨o + (x 1).val, h⟩ : Fin 3072) = inAcc inb x 1 := Fin.ext (emb1 inb x).symm
  rw [hW, e1]
  exact congrArg (· * _) ((hrow m c f t r (x 0)).trans (congrArg (fun k => (PoolArgs.h (args m c) (512 * t.val + r.val) k : EReal)) e0))

theorem piece_256 (prev : Vec Ideal S1024x3072 .f32) (W : Vec Ideal S512x512 .bf16) (b o' o : ℕ) (ho : o = b + o') (hb : b + 512 ≤ 3072) (ho' : o' + 256 ≤ 512)
    (hW : ∀ r k : Fin 512, W (ix2 r k) = PoolArgs.dproj (args m c) (512 * t.val + r.val) ⟨b + k.val, by omega⟩)
    (inb : ∀ x, (![0, o] : Fin 2 → ℕ) x + (![1024, 256] : Fin 2 → ℕ) x ≤ S1024x3072.size x)
    (inb' : ∀ x, (![0, o'] : Fin 2 → ℕ) x + (![512, 256] : Fin 2 → ℕ) x ≤ S512x512.size x) (x : S1024x256.Idx) :
    k0_pay31 (k0_pay16 (iblk m c 0 t) (iblk m c 10 t)) (View.ld prev (Rect.unit ![0, o] ![1024, 256] inb))
      (View.ld W (Rect.unit ![0, o'] ![512, 256] inb')) x = accOut m c t prev (inAcc inb x) := by
  have hx : (x 1).val < 256 := (x 1).isLt
  refine (congrArg _ (eq_ix2 x)).trans ((grow256 _ _ _ (x 0) (x 1)).trans ?_)
  refine Eq.trans ?_ (piece_sum m c f t prev (fun r => W (ix2 r ⟨o' + (x 1).val, by omega⟩)) o inb x (by omega) (fun r => (hW r _).trans ?_))
  · congr 1
    · exact congrArg (View.ld prev (Rect.unit ![0, o] ![1024, 256] inb)) (eq_ix2 x).symm
    · refine Finset.sum_congr rfl fun r _ => congrArg _ ?_
      refine (ld2 (a := 512) (b := 512) (a' := 512) (b' := 256) (p := 0) (q := o') (e := .bf16) W inb' r (x 1) (by omega) (by omega)).trans ?_
      simp only [Nat.zero_add]
  · exact congrArg _ (Fin.ext (by show b + (o' + _) = o + _; omega))

theorem piece_512 (prev : Vec Ideal S1024x3072 .f32) (W : Vec Ideal S512x512 .bf16) (b : ℕ) (hb : b + 512 ≤ 3072)
    (hW : ∀ r k : Fin 512, W (ix2 r k) = PoolArgs.dproj (args m c) (512 * t.val + r.val) ⟨b + k.val, by omega⟩)
    (inb : ∀ x, (![0, b] : Fin 2 → ℕ) x + (![1024, 512] : Fin 2 → ℕ) x ≤ S1024x3072.size x) (x : S1024x512.Idx) :
    k0_pay2 (k0_pay16 (iblk m c 0 t) (iblk m c 10 t)) (View.ld prev (Rect.unit ![0, b] ![1024, 512] inb)) W x
      = accOut m c t prev (inAcc inb x) := by
  have hx : (x 1).val < 512 := (x 1).isLt
  refine (congrArg _ (eq_ix2 x)).trans ((grow512 _ _ _ (x 0) (x 1)).trans ?_)
  refine Eq.trans ?_ (piece_sum m c f t prev (fun r => W (ix2 r (x 1))) b inb x (by omega) (fun r => hW r (x 1)))
  exact congrArg (· + _) (congrArg (View.ld prev (Rect.unit ![0, b] ![1024, 512] inb)) (eq_ix2 x).symm)

theorem win_q (r k : Fin 512) : iblk m c 6 t (ix2 r k) = PoolArgs.dproj (args m c) (512 * t.val + r.val) ⟨1024 + k.val, by omega⟩ := by
  have ht := point t
  refine (blk_q m c t r k (by omega)).trans ?_
  unfold PoolArgs.dproj
  rw [← at_of_lt, dif_neg (by dsimp only; omega), if_pos (by dsimp only; omega)]
  exact congrArg ((args m c).dq _) (Fin.ext (by dsimp only; omega))

theorem win_k (r k : Fin 512) : iblk m c 7 t (ix2 r k) = PoolArgs.dproj (args m c) (512 * t.val + r.val) ⟨1536 + k.val, by omega⟩ := by
  have ht := point t
  refine (blk_k m c t r k (by omega)).trans ?_
  unfold PoolArgs.dproj
  rw [← at_of_lt, dif_neg (by dsimp only; omega), if_neg (by dsimp only; omega), if_pos (by dsimp only; omega)]
  exact congrArg ((args m c).dk _) (Fin.ext (by dsimp only; omega))

theorem win_v (r k : Fin 512) : iblk m c 8 t (ix2 r k) = PoolArgs.dproj (args m c) (512 * t.val + r.val) ⟨2048 + k.val, by omega⟩ := by
  have ht := point t
  refine (blk_v m c t r k (by omega)).trans ?_
  unfold PoolArgs.dproj
  rw [← at_of_lt, dif_neg (by dsimp only; omega), if_neg (by dsimp only; omega), if_neg (by dsimp only; omega), if_pos (by dsimp only; omega)]
  exact congrArg ((args m c).dv _) (Fin.ext (by dsimp only; omega))

theorem win_ag (r k : Fin 512) : iblk m c 9 t (ix2 r k) = PoolArgs.dproj (args m c) (512 * t.val + r.val) ⟨2560 + k.val, by omega⟩ := by
  have ht := point t
  refine (blk_ag m c t r k (by omega)).trans ?_
  unfold PoolArgs.dproj
  rw [← at_of_lt, dif_neg (by dsimp only; omega), if_neg (by dsimp only; omega), if_neg (by dsimp only; omega), if_neg (by dsimp only; omega)]
  exact congrArg ((args m c).dag _) (Fin.ext (by dsimp only; omega))

theorem accs_of (prev : Vec Ideal S1024x3072 .f32) : View.PiecesOf (accOut m c t prev) (accs m c t prev) :=
  ⟨piece_512 m c f t prev _ 512 (by decide) (tile_right m c f t) inb_S1024x3072_S1024x512_0_512,
   piece_512 m c f t prev _ 0 (by decide) (tile_left m c f t) inb_S1024x3072_S1024x512_0_0,
   piece_256 m c f t prev _ 2560 256 2816 rfl (by decide) (by decide) (win_ag m c f t) inb_S1024x3072_S1024x256_0_2816 inb_S512x512_S512x256_0_256,
   piece_256 m c f t prev _ 2560 0 2560 rfl (by decide) (by decide) (win_ag m c f t) inb_S1024x3072_S1024x256_0_2560 inb_S512x512_S512x256_0_0,
   piece_256 m c f t prev _ 2048 256 2304 rfl (by decide) (by decide) (win_v m c f t) inb_S1024x3072_S1024x256_0_2304 inb_S512x512_S512x256_0_256,
   piece_256 m c f t prev _ 2048 0 2048 rfl (by decide) (by decide) (win_v m c f t) inb_S1024x3072_S1024x256_0_2048 inb_S512x512_S512x256_0_0,
   piece_256 m c f t prev _ 1536 256 1792 rfl (by decide) (by decide) (win_k m c f t) inb_S1024x3072_S1024x256_0_1792 inb_S512x512_S512x256_0_256,
   piece_256 m c f t prev _ 1536 0 1536 rfl (by decide) (by decide) (win_k m c f t) inb_S1024x3072_S1024x256_0_1536 inb_S512x512_S512x256_0_0,
   piece_256 m c f t prev _ 1024 256 1280 rfl (by decide) (by decide) (win_q m c f t) inb_S1024x3072_S1024x256_0_1280 inb_S512x512_S512x256_0_256,
   piece_256 m c f t prev _ 1024 0 1024 rfl (by decide) (by decide) (win_q m c f t) inb_S1024x3072_S1024x256_0_1024 inb_S512x512_S512x256_0_0, trivial⟩

/-- What the block of the sums at the weight holds. -/
theorem acc_eq (prev : Vec Ideal S1024x3072 .f32) (L' : List (View.Piece (Elt Ideal) S1024x3072 .f32)) (y : S1024x3072.Idx) :
    View.canon (accs m c t prev ++ L') y = accOut m c t prev y := by
  refine View.canon_append_of_piecesOf (accOut m c t prev) L' (accs m c t prev) (accs_of m c f t prev) y ?_
  have : (y 1).val < 3072 := (y 1).isLt
  rcases (by omega : (y 1).val / 512 = 0 ∨ (y 1).val / 512 = 1 ∨ (y 1).val / 256 = 4 ∨ (y 1).val / 256 = 5 ∨ (y 1).val / 256 = 6
    ∨ (y 1).val / 256 = 7 ∨ (y 1).val / 256 = 8 ∨ (y 1).val / 256 = 9 ∨ (y 1).val / 256 = 10 ∨ (y 1).val / 256 = 11)
    with h | h | h | h | h | h | h | h | h | h
  · exact ⟨_, List.mem_of_getElem? (i := 1) rfl, col_mem inb_S1024x3072_S1024x512_0_0 y rfl (by omega)⟩
  · exact ⟨_, List.mem_of_getElem? (i := 0) rfl, col_mem inb_S1024x3072_S1024x512_0_512 y rfl (by omega)⟩
  · exact ⟨_, List.mem_of_getElem? (i := 9) rfl, col_mem inb_S1024x3072_S1024x256_0_1024 y rfl (by omega)⟩
  · exact ⟨_, List.mem_of_getElem? (i := 8) rfl, col_mem inb_S1024x3072_S1024x256_0_1280 y rfl (by omega)⟩
  · exact ⟨_, List.mem_of_getElem? (i := 7) rfl, col_mem inb_S1024x3072_S1024x256_0_1536 y rfl (by omega)⟩
  · exact ⟨_, List.mem_of_getElem? (i := 6) rfl, col_mem inb_S1024x3072_S1024x256_0_1792 y rfl (by omega)⟩
  · exact ⟨_, List.mem_of_getElem? (i := 5) rfl, col_mem inb_S1024x3072_S1024x256_0_2048 y rfl (by omega)⟩
  · exact ⟨_, List.mem_of_getElem? (i := 4) rfl, col_mem inb_S1024x3072_S1024x256_0_2304 y rfl (by omega)⟩
  · exact ⟨_, List.mem_of_getElem? (i := 3) rfl, col_mem inb_S1024x3072_S1024x256_0_2560 y rfl (by omega)⟩
  · exact ⟨_, List.mem_of_getElem? (i := 2) rfl, col_mem inb_S1024x3072_S1024x256_0_2816 y rfl (by omega)⟩

omit f
/-- What the block of the sums at the groups' weights holds after the tile, if it held `prev` before. -/
def pwOut (prev : S4x128x128.Idx → EReal) (y : S4x128x128.Idx) : EReal :=
  prev y + ∑ r : Fin 512, ((PoolReal.d (PoolArgs.grp (args m c) (y 0)) (512 * t.val + r.val) (y 1)
    * PoolReal.dz (PoolArgs.grp (args m c) (y 0)) (512 * t.val + r.val) (y 2) : ℝ) : EReal)

/-- The pieces of that block. -/
abbrev pws (prev : Vec Ideal S4x128x128 .f32) : List (View.Piece (Elt Ideal) S4x128x128 .f32) :=
  [⟨Rect.unit ![3, 0, 0] ![1, 128, 128] inb_S4x128x128_S1x128x128_3_0_0, dweight (loads m c t 3) (diffs (loads m c t 3) (wd t) 3)
      (View.ld prev (Rect.unit ![3, 0, 0] ![1, 128, 128] inb_S4x128x128_S1x128x128_3_0_0))⟩,
   ⟨Rect.unit ![2, 0, 0] ![1, 128, 128] inb_S4x128x128_S1x128x128_2_0_0, dweight (loads m c t 2) (diffs (loads m c t 2) (wd t) 2)
      (View.ld prev (Rect.unit ![2, 0, 0] ![1, 128, 128] inb_S4x128x128_S1x128x128_2_0_0))⟩,
   ⟨Rect.unit ![1, 0, 0] ![1, 128, 128] inb_S4x128x128_S1x128x128_1_0_0, dweight (loads m c t 1) (diffs (loads m c t 1) (wd t) 1)
      (View.ld prev (Rect.unit ![1, 0, 0] ![1, 128, 128] inb_S4x128x128_S1x128x128_1_0_0))⟩,
   ⟨Rect.unit ![0, 0, 0] ![1, 128, 128] inb_S4x128x128_S1x128x128_0_0_0, dweight (loads m c t 0) (diffs (loads m c t 0) (wd t) 0)
      (View.ld prev (Rect.unit ![0, 0, 0] ![1, 128, 128] inb_S4x128x128_S1x128x128_0_0_0))⟩]

/-- What the block of the sums at the scale holds after the tile, if it held `prev` before. -/
def psOut (prev : S1x512.Idx → EReal) (y : S1x512.Idx) : EReal :=
  prev y + ∑ r : Fin 512, (PoolReal.dps (PoolArgs.grp (args m c) ⟨(y 1).val / 128, by have : (y 1).val < 512 := (y 1).isLt; omega⟩)
    (512 * t.val + r.val) ⟨(y 1).val % 128, by omega⟩ : EReal)

/-- The pieces of that block. -/
abbrev pss (prev : Vec Ideal S1x512 .f32) : List (View.Piece (Elt Ideal) S1x512 .f32) :=
  [⟨Rect.unit ![0, 384] ![1, 128] inb_S1x512_S1x128_0_384, dscale (loads m c t 3) (prods (loads m c t 3) (wd t) 3)
      (View.ld prev (Rect.unit ![0, 384] ![1, 128] inb_S1x512_S1x128_0_384))⟩,
   ⟨Rect.unit ![0, 256] ![1, 128] inb_S1x512_S1x128_0_256, dscale (loads m c t 2) (prods (loads m c t 2) (wd t) 2)
      (View.ld prev (Rect.unit ![0, 256] ![1, 128] inb_S1x512_S1x128_0_256))⟩,
   ⟨Rect.unit ![0, 128] ![1, 128] inb_S1x512_S1x128_0_128, dscale (loads m c t 1) (prods (loads m c t 1) (wd t) 1)
      (View.ld prev (Rect.unit ![0, 128] ![1, 128] inb_S1x512_S1x128_0_128))⟩,
   ⟨Rect.unit ![0, 0] ![1, 128] inb_S1x512_S1x128_0_0, dscale (loads m c t 0) (prods (loads m c t 0) (wd t) 0)
      (View.ld prev (Rect.unit ![0, 0] ![1, 128] inb_S1x512_S1x128_0_0))⟩]

/-- A piece's index in its block. -/
abbrev inPw {o : ℕ} (inb : ∀ x, (![o, 0, 0] : Fin 3 → ℕ) x + (![1, 128, 128] : Fin 3 → ℕ) x ≤ S4x128x128.size x)
    (x : S1x128x128.Idx) : S4x128x128.Idx :=
  let x' : (Rect.unit (s := S4x128x128) ![o, 0, 0] ![1, 128, 128] inb).shape.Idx := x
  (Rect.unit (s := S4x128x128) ![o, 0, 0] ![1, 128, 128] inb).emb x'

abbrev inPs {o : ℕ} (inb : ∀ x, (![0, o] : Fin 2 → ℕ) x + (![1, 128] : Fin 2 → ℕ) x ≤ S1x512.size x)
    (x : S1x128.Idx) : S1x512.Idx :=
  let x' : (Rect.unit (s := S1x512) ![0, o] ![1, 128] inb).shape.Idx := x
  (Rect.unit (s := S1x512) ![0, o] ![1, 128] inb).emb x'

include f

theorem piece_pw (prev : Vec Ideal S4x128x128 .f32) (q : Fin 4)
    (inb : ∀ x, (![q.val, 0, 0] : Fin 3 → ℕ) x + (![1, 128, 128] : Fin 3 → ℕ) x ≤ S4x128x128.size x) (x : S1x128x128.Idx) :
    dweight (loads m c t q) (diffs (loads m c t q) (wd t) q.val) (View.ld prev (Rect.unit ![q.val, 0, 0] ![1, 128, 128] inb)) x
      = pwOut m c t prev (inPw inb x) := by
  have ex : x = ix3 0 (x 1) (x 2) := by
    funext a
    match a with
    | ⟨0, _⟩ => exact Fin.ext (by have : (x 0).val < 1 := (x 0).isLt; show (x 0).val = 0; omega)
    | ⟨1, _⟩ => rfl
    | ⟨2, _⟩ => rfl
  have h0 : (x 0).val < 1 := (x 0).isLt
  have e0 : inPw inb x 0 = q := Fin.ext (by show q.val + 1 * (x 0).val = q.val; omega)
  have e1 : inPw inb x 1 = x 1 := Fin.ext (by show 0 + 1 * (x 1).val = (x 1).val; omega)
  have e2 : inPw inb x 2 = x 2 := Fin.ext (by show 0 + 1 * (x 2).val = (x 2).val; omega)
  unfold pwOut
  rw [e0, e1, e2, wd_eq]
  refine (congrArg _ ex).trans ((dweight_at _ _ _ (reads m c f t q) q.val q.isLt rfl _ (x 1) (x 2)).trans ?_)
  exact congrArg (· + _) (congrArg (View.ld prev (Rect.unit ![q.val, 0, 0] ![1, 128, 128] inb)) ex.symm)

theorem pws_of (prev : Vec Ideal S4x128x128 .f32) : View.PiecesOf (pwOut m c t prev) (pws m c t prev) :=
  ⟨piece_pw m c f t prev 3 inb_S4x128x128_S1x128x128_3_0_0, piece_pw m c f t prev 2 inb_S4x128x128_S1x128x128_2_0_0,
   piece_pw m c f t prev 1 inb_S4x128x128_S1x128x128_1_0_0, piece_pw m c f t prev 0 inb_S4x128x128_S1x128x128_0_0_0, trivial⟩

omit f in
theorem row_mem {o : ℕ} (inb : ∀ x, (![o, 0, 0] : Fin 3 → ℕ) x + (![1, 128, 128] : Fin 3 → ℕ) x ≤ S4x128x128.size x)
    (y : S4x128x128.Idx) (h : (y 0).val = o) : y ∈ (Rect.unit (s := S4x128x128) ![o, 0, 0] ![1, 128, 128] inb).set := by
  refine Rect.mem_set_unit.mpr fun x => ?_
  match x with
  | ⟨0, _⟩ => exact ⟨h.ge, by show (y 0).val < o + 1; omega⟩
  | ⟨1, _⟩ => exact ⟨Nat.zero_le _, by have : (y 1).val < 128 := (y 1).isLt; show (y 1).val < 0 + 128; omega⟩
  | ⟨2, _⟩ => exact ⟨Nat.zero_le _, by have : (y 2).val < 128 := (y 2).isLt; show (y 2).val < 0 + 128; omega⟩

/-- What the block of the sums at the groups' weights holds. -/
theorem pw_eq (prev : Vec Ideal S4x128x128 .f32) (L' : List (View.Piece (Elt Ideal) S4x128x128 .f32)) (y : S4x128x128.Idx) :
    View.canon (pws m c t prev ++ L') y = pwOut m c t prev y := by
  refine View.canon_append_of_piecesOf (pwOut m c t prev) L' (pws m c t prev) (pws_of m c f t prev) y ?_
  have : (y 0).val < 4 := (y 0).isLt
  rcases (by omega : (y 0).val = 0 ∨ (y 0).val = 1 ∨ (y 0).val = 2 ∨ (y 0).val = 3) with h | h | h | h
  · exact ⟨_, List.mem_of_getElem? (i := 3) rfl, row_mem inb_S4x128x128_S1x128x128_0_0_0 y h⟩
  · exact ⟨_, List.mem_of_getElem? (i := 2) rfl, row_mem inb_S4x128x128_S1x128x128_1_0_0 y h⟩
  · exact ⟨_, List.mem_of_getElem? (i := 1) rfl, row_mem inb_S4x128x128_S1x128x128_2_0_0 y h⟩
  · exact ⟨_, List.mem_of_getElem? (i := 0) rfl, row_mem inb_S4x128x128_S1x128x128_3_0_0 y h⟩

theorem piece_ps (prev : Vec Ideal S1x512 .f32) (q : Fin 4) (o : ℕ) (ho : o = 128 * q.val)
    (inb : ∀ x, (![0, o] : Fin 2 → ℕ) x + (![1, 128] : Fin 2 → ℕ) x ≤ S1x512.size x) (x : S1x128.Idx) :
    dscale (loads m c t q) (prods (loads m c t q) (wd t) q.val) (View.ld prev (Rect.unit ![0, o] ![1, 128] inb)) x
      = psOut m c t prev (inPs inb x) := by
  have ex : x = ix2 0 (x 1) := by
    funext a
    match a with
    | ⟨0, _⟩ => exact Fin.ext (by have : (x 0).val < 1 := (x 0).isLt; show (x 0).val = 0; omega)
    | ⟨1, _⟩ => rfl
  have h1 : (x 1).val < 128 := (x 1).isLt
  have v1 : (inPs inb x 1).val = o + (x 1).val := emb1 inb x
  have e0 : (⟨(inPs inb x 1).val / 128, by rw [v1]; omega⟩ : Fin 4) = q := Fin.ext (by dsimp only; omega)
  have e1 : (⟨(inPs inb x 1).val % 128, by omega⟩ : Fin 128) = x 1 := Fin.ext (by dsimp only; omega)
  unfold psOut
  rw [e0, e1, wd_eq]
  refine (congrArg _ ex).trans ((dscale_at _ _ _ (reads m c f t q) q.val q.isLt rfl _ (x 1)).trans ?_)
  exact congrArg (· + _) (congrArg (View.ld prev (Rect.unit ![0, o] ![1, 128] inb)) ex.symm)

theorem pss_of (prev : Vec Ideal S1x512 .f32) : View.PiecesOf (psOut m c t prev) (pss m c t prev) :=
  ⟨piece_ps m c f t prev 3 384 rfl inb_S1x512_S1x128_0_384, piece_ps m c f t prev 2 256 rfl inb_S1x512_S1x128_0_256,
   piece_ps m c f t prev 1 128 rfl inb_S1x512_S1x128_0_128, piece_ps m c f t prev 0 0 rfl inb_S1x512_S1x128_0_0, trivial⟩

/-- What the block of the sums at the scale holds. -/
theorem ps_eq (prev : Vec Ideal S1x512 .f32) (L' : List (View.Piece (Elt Ideal) S1x512 .f32)) (y : S1x512.Idx) :
    View.canon (pss m c t prev ++ L') y = psOut m c t prev y := by
  refine View.canon_append_of_piecesOf (psOut m c t prev) L' (pss m c t prev) (pss_of m c f t prev) y ?_
  have : (y 1).val < 512 := (y 1).isLt
  rcases (by omega : (y 1).val / 128 = 0 ∨ (y 1).val / 128 = 1 ∨ (y 1).val / 128 = 2 ∨ (y 1).val / 128 = 3) with h | h | h | h
  · exact ⟨_, List.mem_of_getElem? (i := 3) rfl, col_mem inb_S1x512_S1x128_0_0 y rfl (by omega)⟩
  · exact ⟨_, List.mem_of_getElem? (i := 2) rfl, col_mem inb_S1x512_S1x128_0_128 y rfl (by omega)⟩
  · exact ⟨_, List.mem_of_getElem? (i := 1) rfl, col_mem inb_S1x512_S1x128_0_256 y rfl (by omega)⟩
  · exact ⟨_, List.mem_of_getElem? (i := 0) rfl, col_mem inb_S1x512_S1x128_0_384 y rfl (by omega)⟩

end PoolFold

end
-- ==== Proof.PoolOut.lean ====
/-
  The pooling's gradient kernel at its last tile: the result at the weight, read from the sums.
-/
module

public import proofs.«01_k».proof.Proof.PoolAcc

@[expose] public section

set_option maxRecDepth 16384

noncomputable section

open Idealize.ShloMosaic Idealize.ShloMosaic.TcCoe Idealize.SL.Sem

namespace PoolFold

open Cert.PoolDwIdeal Cert.PoolDwIdeal.Gen RealOps PoolTile

variable (m : (ℓ : Loc nD τ sig) → Buf (Elt Ideal) ℓ) (c : Dev nD)

variable (f : Finite m c) (t : Fin cfg0.N)

/-- The result at the weight, from the sums: eight blocks of columns one after another. -/
def dwOut (prev : S1024x3072.Idx → EReal) (y : S8x1024x384.Idx) : EReal :=
  accOut m c t prev (ix2 (y 1) ⟨384 * (y 0).val + (y 2).val, by
    have : (y 0).val < 8 := (y 0).isLt
    have : (y 2).val < 384 := (y 2).isLt
    omega⟩)

theorem narrow (V : Vec Ideal S1024x384 .f32) (j : Fin 1024) (k : Fin 384) : k0_pay7 V (ix3 0 j k) = V (ix2 j k) := by
  pointwise [k0_pay7]

/-- The columns of block `d` of the result, read from the sums. -/
abbrev cut (L : List (View.Piece (Elt Ideal) S1024x3072 .f32)) (o : ℕ)
    (inb : ∀ x, (![0, o] : Fin 2 → ℕ) x + (![1024, 384] : Fin 2 → ℕ) x ≤ S1024x3072.size x) : Vec Ideal S1024x384 .f32 :=
  let B : Rect S1024x3072 := Rect.unit ![0, o] ![1024, 384] inb
  (View.whole cc0_scratch0).readCov L B.toLoadRect

abbrev inDw {d : ℕ} (inb : ∀ x, (![d, 0, 0] : Fin 3 → ℕ) x + (![1, 1024, 384] : Fin 3 → ℕ) x ≤ S8x1024x384.size x)
    (x : S1x1024x384.Idx) : S8x1024x384.Idx :=
  let x' : (Rect.unit (s := S8x1024x384) ![d, 0, 0] ![1, 1024, 384] inb).shape.Idx := x
  (Rect.unit (s := S8x1024x384) ![d, 0, 0] ![1, 1024, 384] inb).emb x'

theorem piece_dw (prev : Vec Ideal S1024x3072 .f32) (L : List (View.Piece (Elt Ideal) S1024x3072 .f32)) (hL : View.PiecesOf (accOut m c t prev) L)
    (d o : ℕ) (ho : o = 384 * d) (hc : ∀ y : S1024x3072.Idx, o ≤ (y 1).val → (y 1).val < o + 384 → ∃ p ∈ L, y ∈ p.1.set)
    (inb : ∀ x, (![0, o] : Fin 2 → ℕ) x + (![1024, 384] : Fin 2 → ℕ) x ≤ S1024x3072.size x)
    (inb' : ∀ x, (![d, 0, 0] : Fin 3 → ℕ) x + (![1, 1024, 384] : Fin 3 → ℕ) x ≤ S8x1024x384.size x) (x : S1x1024x384.Idx) :
    k0_pay7 (cut L o inb) x = dwOut m c t prev (inDw inb' x) := by
  have ex : x = ix3 0 (x 1) (x 2) := by
    funext a
    match a with
    | ⟨0, _⟩ => exact Fin.ext (by have : (x 0).val < 1 := (x 0).isLt; show (x 0).val = 0; omega)
    | ⟨1, _⟩ => rfl
    | ⟨2, _⟩ => rfl
  have h0 : (x 0).val < 1 := (x 0).isLt
  have h2 : (x 2).val < 384 := (x 2).isLt
  let B : Rect S1024x3072 := Rect.unit ![0, o] ![1024, 384] inb
  let z : B.shape.Idx := (ix2 (x 1) (x 2) : S1024x384.Idx)
  have e1 : (B.emb z 1).val = o + (x 2).val := emb1 inb (ix2 (x 1) (x 2))
  refine (congrArg _ ex).trans ((narrow _ (x 1) (x 2)).trans ((congrFun (View.readCov_eq_canon' _ _ _) _).trans ?_))
  have e := View.canon_append_of_piecesOf (accOut m c t prev) [] L hL (B.emb z) (hc _ (by omega) (by omega))
  rw [List.append_nil] at e
  refine e.trans ?_
  unfold dwOut
  refine congrArg (accOut m c t prev) ?_
  funext a
  match a with
  | ⟨0, _⟩ => exact Fin.ext (by show 0 + 1 * (x 1).val = 0 + 1 * (x 1).val; rfl)
  | ⟨1, _⟩ => exact Fin.ext (by show o + 1 * (x 2).val = 384 * (d + 1 * (x 0).val) + (0 + 1 * (x 2).val); omega)

/-- The pieces of the result at the weight. -/
abbrev dws (prev : Vec Ideal S1024x3072 .f32) : List (View.Piece (Elt Ideal) S8x1024x384 .bf16) :=
  [⟨Rect.unit ![7, 0, 0] ![1, 1024, 384] inb_S8x1024x384_S1x1024x384_7_0_0, k0_pay7 (cut ((accs m c t prev).drop 2) 2688 inb_S1024x3072_S1024x384_0_2688)⟩,
   ⟨Rect.unit ![6, 0, 0] ![1, 1024, 384] inb_S8x1024x384_S1x1024x384_6_0_0, k0_pay7 (cut ((accs m c t prev).drop 3) 2304 inb_S1024x3072_S1024x384_0_2304)⟩,
   ⟨Rect.unit ![5, 0, 0] ![1, 1024, 384] inb_S8x1024x384_S1x1024x384_5_0_0, k0_pay7 (cut ((accs m c t prev).drop 5) 1920 inb_S1024x3072_S1024x384_0_1920)⟩,
   ⟨Rect.unit ![4, 0, 0] ![1, 1024, 384] inb_S8x1024x384_S1x1024x384_4_0_0, k0_pay7 (cut ((accs m c t prev).drop 6) 1536 inb_S1024x3072_S1024x384_0_1536)⟩,
   ⟨Rect.unit ![3, 0, 0] ![1, 1024, 384] inb_S8x1024x384_S1x1024x384_3_0_0, k0_pay7 (cut ((accs m c t prev).drop 8) 1152 inb_S1024x3072_S1024x384_0_1152)⟩,
   ⟨Rect.unit ![2, 0, 0] ![1, 1024, 384] inb_S8x1024x384_S1x1024x384_2_0_0, k0_pay7 (cut (accs m c t prev) 768 inb_S1024x3072_S1024x384_0_768)⟩,
   ⟨Rect.unit ![1, 0, 0] ![1, 1024, 384] inb_S8x1024x384_S1x1024x384_1_0_0, k0_pay7 (cut (accs m c t prev) 384 inb_S1024x3072_S1024x384_0_384)⟩,
   ⟨Rect.unit ![0, 0, 0] ![1, 1024, 384] inb_S8x1024x384_S1x1024x384_0_0_0, k0_pay7 (cut ((accs m c t prev).drop 1) 0 inb_S1024x3072_S1024x384_0_0)⟩]

include f

omit f in
theorem cover_0 (prev : Vec Ideal S1024x3072 .f32) (y : S1024x3072.Idx) (h : 0 ≤ (y 1).val) (h' : (y 1).val < 0 + 384) :
    ∃ p ∈ ((accs m c t prev).drop 1), y ∈ p.1.set := by
  have h : (0 ≤ (y 1).val ∧ (y 1).val < 0 + 512) := by omega
  · exact ⟨_, List.mem_of_getElem? (i := 0) rfl, col_mem inb_S1024x3072_S1024x512_0_0 y rfl h⟩

omit f in
theorem cover_1 (prev : Vec Ideal S1024x3072 .f32) (y : S1024x3072.Idx) (h : 384 ≤ (y 1).val) (h' : (y 1).val < 384 + 384) :
    ∃ p ∈ (accs m c t prev), y ∈ p.1.set := by
  rcases (by omega : (0 ≤ (y 1).val ∧ (y 1).val < 0 + 512) ∨ (512 ≤ (y 1).val ∧ (y 1).val < 512 + 512)) with h | h
  · exact ⟨_, List.mem_of_getElem? (i := 1) rfl, col_mem inb_S1024x3072_S1024x512_0_0 y rfl h⟩
  · exact ⟨_, List.mem_of_getElem? (i := 0) rfl, col_mem inb_S1024x3072_S1024x512_0_512 y rfl h⟩

omit f in
theorem cover_2 (prev : Vec Ideal S1024x3072 .f32) (y : S1024x3072.Idx) (h : 768 ≤ (y 1).val) (h' : (y 1).val < 768 + 384) :
    ∃ p ∈ (accs m c t prev), y ∈ p.1.set := by
  rcases (by omega : (512 ≤ (y 1).val ∧ (y 1).val < 512 + 512) ∨ (1024 ≤ (y 1).val ∧ (y 1).val < 1024 + 256)) with h | h
  · exact ⟨_, List.mem_of_getElem? (i := 0) rfl, col_mem inb_S1024x3072_S1024x512_0_512 y rfl h⟩
  · exact ⟨_, List.mem_of_getElem? (i := 9) rfl, col_mem inb_S1024x3072_S1024x256_0_1024 y rfl h⟩

omit f in
theorem cover_3 (prev : Vec Ideal S1024x3072 .f32) (y : S1024x3072.Idx) (h : 1152 ≤ (y 1).val) (h' : (y 1).val < 1152 + 384) :
    ∃ p ∈ ((accs m c t prev).drop 8), y ∈ p.1.set := by
  rcases (by omega : (1024 ≤ (y 1).val ∧ (y 1).val < 1024 + 256) ∨ (1280 ≤ (y 1).val ∧ (y 1).val < 1280 + 256)) with h | h
  · exact ⟨_, List.mem_of_getElem? (i := 1) rfl, col_mem inb_S1024x3072_S1024x256_0_1024 y rfl h⟩
  · exact ⟨_, List.mem_of_getElem? (i := 0) rfl, col_mem inb_S1024x3072_S1024x256_0_1280 y rfl h⟩

omit f in
theorem cover_4 (prev : Vec Ideal S1024x3072 .f32) (y : S1024x3072.Idx) (h : 1536 ≤ (y 1).val) (h' : (y 1).val < 1536 + 384) :
    ∃ p ∈ ((accs m c t prev).drop 6), y ∈ p.1.set := by
  rcases (by omega : (1536 ≤ (y 1).val ∧ (y 1).val < 1536 + 256) ∨ (1792 ≤ (y 1).val ∧ (y 1).val < 1792 + 256)) with h | h
  · exact ⟨_, List.mem_of_getElem? (i := 1) rfl, col_mem inb_S1024x3072_S1024x256_0_1536 y rfl h⟩
  · exact ⟨_, List.mem_of_getElem? (i := 0) rfl, col_mem inb_S1024x3072_S1024x256_0_1792 y rfl h⟩

omit f in
theorem cover_5 (prev : Vec Ideal S1024x3072 .f32) (y : S1024x3072.Idx) (h : 1920 ≤ (y 1).val) (h' : (y 1).val < 1920 + 384) :
    ∃ p ∈ ((accs m c t prev).drop 5), y ∈ p.1.set := by
  rcases (by omega : (1792 ≤ (y 1).val ∧ (y 1).val < 1792 + 256) ∨ (2048 ≤ (y 1).val ∧ (y 1).val < 2048 + 256)) with h | h
  · exact ⟨_, List.mem_of_getElem? (i := 1) rfl, col_mem inb_S1024x3072_S1024x256_0_1792 y rfl h⟩
  · exact ⟨_, List.mem_of_getElem? (i := 0) rfl, col_mem inb_S1024x3072_S1024x256_0_2048 y rfl h⟩

omit f in
theorem cover_6 (prev : Vec Ideal S1024x3072 .f32) (y : S1024x3072.Idx) (h : 2304 ≤ (y 1).val) (h' : (y 1).val < 2304 + 384) :
    ∃ p ∈ ((accs m c t prev).drop 3), y ∈ p.1.set := by
  rcases (by omega : (2304 ≤ (y 1).val ∧ (y 1).val < 2304 + 256) ∨ (2560 ≤ (y 1).val ∧ (y 1).val < 2560 + 256)) with h | h
  · exact ⟨_, List.mem_of_getElem? (i := 1) rfl, col_mem inb_S1024x3072_S1024x256_0_2304 y rfl h⟩
  · exact ⟨_, List.mem_of_getElem? (i := 0) rfl, col_mem inb_S1024x3072_S1024x256_0_2560 y rfl h⟩

omit f in
theorem cover_7 (prev : Vec Ideal S1024x3072 .f32) (y : S1024x3072.Idx) (h : 2688 ≤ (y 1).val) (h' : (y 1).val < 2688 + 384) :
    ∃ p ∈ ((accs m c t prev).drop 2), y ∈ p.1.set := by
  rcases (by omega : (2560 ≤ (y 1).val ∧ (y 1).val < 2560 + 256) ∨ (2816 ≤ (y 1).val ∧ (y 1).val < 2816 + 256)) with h | h
  · exact ⟨_, List.mem_of_getElem? (i := 1) rfl, col_mem inb_S1024x3072_S1024x256_0_2560 y rfl h⟩
  · exact ⟨_, List.mem_of_getElem? (i := 0) rfl, col_mem inb_S1024x3072_S1024x256_0_2816 y rfl h⟩

theorem dws_of (prev : Vec Ideal S1024x3072 .f32) : View.PiecesOf (dwOut m c t prev) (dws m c t prev) :=
  have a := accs_of m c f t prev
  ⟨piece_dw m c t prev _ a.2.2 7 2688 rfl (cover_7 m c t prev) _ inb_S8x1024x384_S1x1024x384_7_0_0,
   piece_dw m c t prev _ a.2.2.2 6 2304 rfl (cover_6 m c t prev) _ inb_S8x1024x384_S1x1024x384_6_0_0,
   piece_dw m c t prev _ a.2.2.2.2.2 5 1920 rfl (cover_5 m c t prev) _ inb_S8x1024x384_S1x1024x384_5_0_0,
   piece_dw m c t prev _ a.2.2.2.2.2.2 4 1536 rfl (cover_4 m c t prev) _ inb_S8x1024x384_S1x1024x384_4_0_0,
   piece_dw m c t prev _ a.2.2.2.2.2.2.2.2 3 1152 rfl (cover_3 m c t prev) _ inb_S8x1024x384_S1x1024x384_3_0_0,
   piece_dw m c t prev _ a 2 768 rfl (cover_2 m c t prev) _ inb_S8x1024x384_S1x1024x384_2_0_0,
   piece_dw m c t prev _ a 1 384 rfl (cover_1 m c t prev) _ inb_S8x1024x384_S1x1024x384_1_0_0,
   piece_dw m c t prev _ a.2 0 0 rfl (cover_0 m c t prev) _ inb_S8x1024x384_S1x1024x384_0_0_0, trivial⟩

omit f in
theorem blk_mem {o : ℕ} (inb : ∀ x, (![o, 0, 0] : Fin 3 → ℕ) x + (![1, 1024, 384] : Fin 3 → ℕ) x ≤ S8x1024x384.size x)
    (y : S8x1024x384.Idx) (h : (y 0).val = o) : y ∈ (Rect.unit (s := S8x1024x384) ![o, 0, 0] ![1, 1024, 384] inb).set := by
  refine Rect.mem_set_unit.mpr fun x => ?_
  match x with
  | ⟨0, _⟩ => exact ⟨h.ge, by show (y 0).val < o + 1; omega⟩
  | ⟨1, _⟩ => exact ⟨Nat.zero_le _, by have : (y 1).val < 1024 := (y 1).isLt; show (y 1).val < 0 + 1024; omega⟩
  | ⟨2, _⟩ => exact ⟨Nat.zero_le _, by have : (y 2).val < 384 := (y 2).isLt; show (y 2).val < 0 + 384; omega⟩

/-- What the result at the weight holds. -/
theorem dw_eq (prev : Vec Ideal S1024x3072 .f32) (y : S8x1024x384.Idx) : View.canon (dws m c t prev) y = dwOut m c t prev y := by
  refine View.canon_append_of_piecesOf (dwOut m c t prev) [] (dws m c t prev) (dws_of m c f t prev) y ?_
  have : (y 0).val < 8 := (y 0).isLt
  rcases (by omega : (y 0).val = 0 ∨ (y 0).val = 1 ∨ (y 0).val = 2 ∨ (y 0).val = 3 ∨ (y 0).val = 4 ∨ (y 0).val = 5 ∨ (y 0).val = 6
    ∨ (y 0).val = 7) with h | h | h | h | h | h | h | h
  · exact ⟨_, List.mem_of_getElem? (i := 7) rfl, blk_mem inb_S8x1024x384_S1x1024x384_0_0_0 y h⟩
  · exact ⟨_, List.mem_of_getElem? (i := 6) rfl, blk_mem inb_S8x1024x384_S1x1024x384_1_0_0 y h⟩
  · exact ⟨_, List.mem_of_getElem? (i := 5) rfl, blk_mem inb_S8x1024x384_S1x1024x384_2_0_0 y h⟩
  · exact ⟨_, List.mem_of_getElem? (i := 4) rfl, blk_mem inb_S8x1024x384_S1x1024x384_3_0_0 y h⟩
  · exact ⟨_, List.mem_of_getElem? (i := 3) rfl, blk_mem inb_S8x1024x384_S1x1024x384_4_0_0 y h⟩
  · exact ⟨_, List.mem_of_getElem? (i := 2) rfl, blk_mem inb_S8x1024x384_S1x1024x384_5_0_0 y h⟩
  · exact ⟨_, List.mem_of_getElem? (i := 1) rfl, blk_mem inb_S8x1024x384_S1x1024x384_6_0_0 y h⟩
  · exact ⟨_, List.mem_of_getElem? (i := 0) rfl, blk_mem inb_S8x1024x384_S1x1024x384_7_0_0 y h⟩

omit f
/-- What the blocks hold after tile `t`, if the sums held `acc`, `pw` and `ps` before it. -/
structure Holds (o : Vec Ideal S8x1024x384 .bf16 × Vec Ideal S512x1024 .bf16 × Vec Ideal S4x128x128 .f32 × Vec Ideal S1x512 .f32 × Vec Ideal S1024x3072 .f32)
    (pw : Vec Ideal S4x128x128 .f32) (ps : Vec Ideal S1x512 .f32) (acc : Vec Ideal S1024x3072 .f32) : Prop where
  tile : ∀ y, o.2.1 y = tileOut m c t y
  pw : ∀ y, o.2.2.1 y = pwOut m c t pw y
  ps : ∀ y, o.2.2.2.1 y = psOut m c t ps y
  acc : ∀ y, o.2.2.2.2 y = accOut m c t acc y

/-- The blocks after the tile before `t`. -/
abbrev before (h0 : ¬ t.val % 16 = 0) := outsAt0 m c (t.val - 1) (by omega)

end PoolFold

end
-- ==== Proof.PoolFirst.lean ====
/-
  What the blocks of the pooling's gradient kernel hold at its first tile.
-/
module

public import proofs.«01_k».proof.Proof.PoolOut

@[expose] public section

set_option maxRecDepth 16384

noncomputable section

open Idealize.ShloMosaic Idealize.ShloMosaic.TcCoe Idealize.SL.Sem

namespace PoolFold

open Cert.PoolDwIdeal Cert.PoolDwIdeal.Gen RealOps PoolTile

variable (m : (ℓ : Loc nD τ sig) → Buf (Elt Ideal) ℓ) (c : Dev nD)

variable (f : Finite m c) (t : Fin cfg0.N)

include f

set_option maxHeartbeats 16000000 in
theorem step_first (h0 : t.val % 16 = 0) (h1 : ¬ t.val % 16 = 15) :
    Holds m c t (outsAt0 m c t.val t.isLt) (k0_pay14 (F := Ideal)) (k0_pay15 (F := Ideal)) (k0_pay13 (F := Ideal)) := by
  constructor <;> intro y <;> rw [outsAt0_A m c t h0 h1] <;> frame_open <;>
    simp (disch := decide) only [↓ View.readCov_skip, ↓ View.readCov_cons_toLoadRect, ↓ View.readCov_fill] <;> frame_out
  · exact tile_eq m c f t y
  · refine Eq.trans ?_ (pw_eq m c f t (k0_pay14 (F := Ideal)) [⟨Rect.unit ![0, 0, 0] ![4, 128, 128] inb_S4x128x128_S4x128x128_0_0_0, k0_pay14 (F := Ideal)⟩] y)
    exact congrArg (fun L => View.canon L y) rfl
  · refine Eq.trans ?_ (ps_eq m c f t (k0_pay15 (F := Ideal)) [⟨Rect.unit ![0, 0] ![1, 512] inb_S1x512_S1x512_0_0, k0_pay15 (F := Ideal)⟩] y)
    exact congrArg (fun L => View.canon L y) rfl
  · refine Eq.trans ?_ (acc_eq m c f t (k0_pay13 (F := Ideal)) [⟨Rect.unit ![0, 0] ![1024, 3072] inb_S1024x3072_S1024x3072_0_0, k0_pay13 (F := Ideal)⟩] y)
    exact congrArg (fun L => View.canon L y) rfl

end PoolFold

end
-- ==== Proof.PoolMid.lean ====
/-
  What the blocks of the pooling's gradient kernel hold at a tile between the first and the last.
-/
module

public import proofs.«01_k».proof.Proof.PoolOut

@[expose] public section

set_option maxRecDepth 16384

noncomputable section

open Idealize.ShloMosaic Idealize.ShloMosaic.TcCoe Idealize.SL.Sem

namespace PoolFold

open Cert.PoolDwIdeal Cert.PoolDwIdeal.Gen RealOps PoolTile

variable (m : (ℓ : Loc nD τ sig) → Buf (Elt Ideal) ℓ) (c : Dev nD)

variable (f : Finite m c) (t : Fin cfg0.N)

include f

set_option maxHeartbeats 16000000 in
theorem step_mid (h0 : ¬ t.val % 16 = 0) (h1 : ¬ t.val % 16 = 15) :
    Holds m c t (outsAt0 m c t.val t.isLt) (before m c t h0).2.2.1 (before m c t h0).2.2.2.1 (before m c t h0).2.2.2.2 := by
  constructor <;> intro y <;> rw [outsAt0_B m c t h0 h1] <;> frame_open <;>
    simp (disch := decide) only [↓ View.readCov_skip, ↓ View.readCov_cons_toLoadRect, ↓ View.readCov_fill] <;> frame_out
  · exact tile_eq m c f t y
  · exact pw_eq m c f t _ [] y
  · exact ps_eq m c f t _ [] y
  · rw [read_unread_whole]
    exact acc_eq m c f t _ [] y

end PoolFold

end
-- ==== Proof.PoolLast.lean ====
/-
  What the blocks of the pooling's gradient kernel hold at its last tile.
-/
module

public import proofs.«01_k».proof.Proof.PoolOut

@[expose] public section

set_option maxRecDepth 16384

noncomputable section

open Idealize.ShloMosaic Idealize.ShloMosaic.TcCoe Idealize.SL.Sem

namespace PoolFold

open Cert.PoolDwIdeal Cert.PoolDwIdeal.Gen RealOps PoolTile

variable (m : (ℓ : Loc nD τ sig) → Buf (Elt Ideal) ℓ) (c : Dev nD)

variable (f : Finite m c) (t : Fin cfg0.N)

include f

set_option maxHeartbeats 16000000 in
theorem step_last (h0 : ¬ t.val % 16 = 0) (h1 : t.val % 16 = 15) :
    Holds m c t (outsAt0 m c t.val t.isLt) (before m c t h0).2.2.1 (before m c t h0).2.2.2.1 (before m c t h0).2.2.2.2 := by
  constructor <;> intro y <;> rw [outsAt0_C m c t h0 h1] <;> frame_open <;>
    simp (disch := decide) only [↓ View.readCov_skip, ↓ View.readCov_cons_toLoadRect, ↓ View.readCov_fill] <;> frame_out
  · exact tile_eq m c f t y
  · exact pw_eq m c f t _ [] y
  · exact ps_eq m c f t _ [] y
  · rw [read_unread_whole]
    exact acc_eq m c f t _ [] y

set_option maxHeartbeats 16000000 in
theorem last_dw (h0 : ¬ t.val % 16 = 0) (h1 : t.val % 16 = 15) (y : S8x1024x384.Idx) :
    (outsAt0 m c t.val t.isLt).1 y = dwOut m c t (before m c t h0).2.2.2.2 y := by
  rw [outsAt0_C m c t h0 h1]
  frame_open
  simp (disch := decide) only [↓ View.readCov_skip, ↓ View.readCov_cons_toLoadRect, ↓ View.readCov_fill]
  frame_out
  rw [read_unread_whole]
  exact dw_eq m c f t _ y

end PoolFold

end
-- ==== Proof.PoolSums.lean ====
/-
  The pooling's gradient kernel over its grid: after tile `n` the three accumulators hold the sums over the rows read so
  far, the tile's block holds the gradient at its rows, and after the last tile the result holds the whole sum.
-/
module

public import proofs.«01_k».proof.Proof.PoolFirst
public import proofs.«01_k».proof.Proof.PoolMid
public import proofs.«01_k».proof.Proof.PoolLast

@[expose] public section

set_option maxRecDepth 16384

noncomputable section

open Idealize.ShloMosaic Idealize.ShloMosaic.TcCoe Idealize.SL.Sem

namespace PoolFold

open Cert.PoolDwIdeal Cert.PoolDwIdeal.Gen RealOps PoolTile

variable (m : (ℓ : Loc nD τ sig) → Buf (Elt Ideal) ℓ) (c : Dev nD)

theorem zero_acc (y : S1024x3072.Idx) : k0_pay13 (F := Ideal) y = (0 : EReal) := by
  refine (congrArg (k0_pay13 (F := Ideal)) (eq_ix2 y)).trans ?_
  generalize y 0 = a
  generalize y 1 = b
  pointwise [k0_pay13]

theorem zero_pw (y : S4x128x128.Idx) : k0_pay14 (F := Ideal) y = (0 : EReal) := by
  refine (congrArg (k0_pay14 (F := Ideal)) (eq_ix3 y)).trans ?_
  generalize y 0 = a
  generalize y 1 = b
  generalize y 2 = d
  pointwise [k0_pay14]

theorem zero_ps (y : S1x512.Idx) : k0_pay15 (F := Ideal) y = (0 : EReal) := by
  refine (congrArg (k0_pay15 (F := Ideal)) (eq_ix2 y)).trans ?_
  generalize y 0 = a
  generalize y 1 = b
  pointwise [k0_pay15]

/-- The group of a column of the scale. -/
abbrev sgrp (y : S1x512.Idx) : Fin 4 := ⟨(y 1).val / 128, by have : (y 1).val < 512 := (y 1).isLt; omega⟩

/-- What the accumulators hold after tile `n`. -/
structure Sums (n : ℕ) (hn : n < cfg0.N) : Prop where
  acc : ∀ y, (outsAt0 m c n hn).2.2.2.2 y = PoolArgs.dw (args m c) (512 * (n + 1)) (y 0) (y 1)
  pw : ∀ y, (outsAt0 m c n hn).2.2.1 y = PoolArgs.dpw (args m c) (512 * (n + 1)) (y 0) (y 1) (y 2)
  ps : ∀ y, (outsAt0 m c n hn).2.2.2.1 y = PoolArgs.dps (args m c) (512 * (n + 1)) (sgrp y) ⟨(y 1).val % 128, by omega⟩

variable (f : Finite m c)

include f

theorem sums : ∀ (n : ℕ) (hn : n < cfg0.N), Sums m c n hn := by
  intro n
  induction n with
  | zero =>
    intro hn
    have H := step_first m c f ⟨0, hn⟩ rfl (by show ¬ 0 % 16 = 15; decide)
    refine ⟨fun y => (H.acc y).trans ?_, fun y => (H.pw y).trans ?_, fun y => (H.ps y).trans ?_⟩
    · unfold accOut
      rw [zero_acc]
      exact sum_tile_zero 512 fun r => (PoolArgs.h (args m c) r (y 0) : EReal) * PoolArgs.dproj (args m c) r (y 1)
    · unfold pwOut
      rw [zero_pw]
      exact sum_tile_zero 512 fun r => ((PoolReal.d (PoolArgs.grp (args m c) (y 0)) r (y 1) * PoolReal.dz (PoolArgs.grp (args m c) (y 0)) r (y 2) : ℝ) : EReal)
    · unfold psOut
      rw [zero_ps]
      exact sum_tile_zero 512 fun r => (PoolReal.dps (PoolArgs.grp (args m c) (sgrp y)) r ⟨(y 1).val % 128, by omega⟩ : EReal)
  | succ n ih =>
    intro hn
    have hN : n + 1 < 16 := lt_of_lt_of_eq hn N_0
    have I := ih (Nat.lt_of_succ_lt hn)
    have h0 : ¬ (⟨n + 1, hn⟩ : Fin cfg0.N).val % 16 = 0 := by dsimp only; omega
    have H : Holds m c ⟨n + 1, hn⟩ (outsAt0 m c (n + 1) hn) (outsAt0 m c n (Nat.lt_of_succ_lt hn)).2.2.1
        (outsAt0 m c n (Nat.lt_of_succ_lt hn)).2.2.2.1 (outsAt0 m c n (Nat.lt_of_succ_lt hn)).2.2.2.2 := by
      by_cases h1 : (⟨n + 1, hn⟩ : Fin cfg0.N).val % 16 = 15
      · exact step_last m c f ⟨n + 1, hn⟩ h0 h1
      · exact step_mid m c f ⟨n + 1, hn⟩ h0 h1
    refine ⟨fun y => (H.acc y).trans ?_, fun y => (H.pw y).trans ?_, fun y => (H.ps y).trans ?_⟩
    · unfold accOut
      rw [I.acc y]
      exact sum_tile 512 (fun r => (PoolArgs.h (args m c) r (y 0) : EReal) * PoolArgs.dproj (args m c) r (y 1)) (n + 1)
    · unfold pwOut
      rw [I.pw y]
      exact sum_tile 512 (fun r => ((PoolReal.d (PoolArgs.grp (args m c) (y 0)) r (y 1) * PoolReal.dz (PoolArgs.grp (args m c) (y 0)) r (y 2) : ℝ) : EReal)) (n + 1)
    · unfold psOut
      rw [I.ps y]
      exact sum_tile 512 (fun r => (PoolReal.dps (PoolArgs.grp (args m c) (sgrp y)) r ⟨(y 1).val % 128, by omega⟩ : EReal)) (n + 1)

/-- The block of the tile's rows. -/
theorem tile_at (t : Fin cfg0.N) (y : S512x1024.Idx) : (outsAt0 m c t.val t.isLt).2.1 y = tileOut m c t y := by
  have ht := point t
  by_cases h0 : t.val % 16 = 0
  · exact (step_first m c f t h0 (by omega)).tile y
  · by_cases h1 : t.val % 16 = 15
    · exact (step_last m c f t h0 h1).tile y
    · exact (step_mid m c f t h0 h1).tile y

omit f in
/-- One more tile of rows, in the last tile's words. -/
theorem last_tile (A : PoolArgs.Args) (j : Fin 1024) (k : Fin 3072) :
    PoolArgs.dw A (512 * 15) j k + ∑ r : Fin 512, (PoolArgs.h A (512 * 15 + r.val) j : EReal) * PoolArgs.dproj A (512 * 15 + r.val) k
      = PoolArgs.dw A 8192 j k :=
  sum_tile 512 (fun r => (PoolArgs.h A r j : EReal) * PoolArgs.dproj A r k) 15

/-- The result's block after the last tile. -/
theorem dw_at (t : Fin cfg0.N) (h1 : t.val % 16 = 15) (y : S8x1024x384.Idx) :
    (outsAt0 m c t.val t.isLt).1 y = PoolArgs.dw (args m c) 8192 (y 1) ⟨384 * (y 0).val + (y 2).val, by
      have : (y 0).val < 8 := (y 0).isLt
      have : (y 2).val < 384 := (y 2).isLt
      omega⟩ := by
  have ht := point t
  have e : t.val = 15 := by omega
  have h0 : ¬ t.val % 16 = 0 := by omega
  refine (last_dw m c f t h0 h1 y).trans ?_
  refine Eq.trans ?_ (last_tile (args m c) _ _)
  have S := sums m c f (t.val - 1) (by omega)
  unfold dwOut accOut
  refine congrArg₂ (fun a b : EReal => a + b) ((S.acc _).trans ?_) (Finset.sum_congr rfl fun r _ => ?_)
  · rw [show 512 * (t.val - 1 + 1) = 512 * 15 by omega]
    rfl
  · rw [e]
    rfl

end PoolFold

end
-- ==== Proof.PoolRun.lean ====
/-
  The pooling's gradient kernel run whole: its four results after the last tile, its arguments as they were.
-/
module

public import proofs.«01_k».proof.Proof.PoolSums

@[expose] public section

set_option maxRecDepth 16384

noncomputable section

open Idealize.ShloMosaic Idealize.ShloMosaic.TcCoe Idealize.SL.Sem

namespace PoolFold

open Cert.PoolDwIdeal Cert.PoolDwIdeal.Gen RealOps PoolTile

variable (m : (ℓ : Loc nD τ sig) → Buf (Elt Ideal) ℓ) (c : Dev nD)

/-- The gradient at the projection's weight, in eight blocks of columns. -/
def resDw (A : PoolArgs.Args) (y : S8x1024x384.Idx) : EReal := PoolArgs.dw A 8192 (y 1) ⟨384 * (y 0).val + (y 2).val, by
  have : (y 0).val < 8 := (y 0).isLt
  have : (y 2).val < 384 := (y 2).isLt
  omega⟩

/-- The gradient at the pooled columns of the projection. -/
def resPool (A : PoolArgs.Args) (y : S8192x1024.Idx) : EReal := (PoolArgs.dpool A (y 0).val (y 1) : EReal)

/-- The gradient at the groups' weights. -/
def resPw (A : PoolArgs.Args) (y : S4x128x128.Idx) : EReal := PoolArgs.dpw A 8192 (y 0) (y 1) (y 2)

/-- The gradient at the scale. -/
def resPs (A : PoolArgs.Args) (y : S1x512.Idx) : EReal := PoolArgs.dps A 8192 (sgrp y) ⟨(y 1).val % 128, by omega⟩

variable (f : Finite m c)

include f

theorem last_pw (t : Fin cfg0.N) (h1 : t.val % 16 = 15) (y : S4x128x128.Idx) : (outsAt0 m c t.val t.isLt).2.2.1 y = resPw (args m c) y := by
  have ht := point t
  refine ((sums m c f t.val t.isLt).pw y).trans ?_
  rw [show 512 * (t.val + 1) = 8192 by omega]
  rfl

theorem last_ps (t : Fin cfg0.N) (h1 : t.val % 16 = 15) (y : S1x512.Idx) : (outsAt0 m c t.val t.isLt).2.2.2.1 y = resPs (args m c) y := by
  have ht := point t
  refine ((sums m c f t.val t.isLt).ps y).trans ?_
  rw [show 512 * (t.val + 1) = 8192 by omega]
  rfl

theorem final_dw : (dats m 0 c).arrAt 13 cfg0.N = resDw (args m c) := by
  refine (dats m 0 c).arrAt_eq_of_covers 13 _ (by decide +kernel) fun t hf y => ?_
  have h1 := (flush0_13 t).mp hf
  blk_simp
  rw [after0_13]
  refine (dw_at m c f t h1 _).trans (congrArg (resDw (args m c)) (funext fun b => Fin.ext ?_))
  blk_simp [idx t]
  match b with
  | ⟨0, _⟩ => simp
  | ⟨1, _⟩ => simp
  | ⟨2, _⟩ => simp

theorem final_pool : (dats m 0 c).arrAt 14 cfg0.N = resPool (args m c) := by
  refine (dats m 0 c).arrAt_eq_of_covers 14 _ (by decide +kernel) fun t hf y => ?_
  blk_simp
  rw [after0_14]
  refine (tile_at m c f t _).trans ?_
  refine congrArg₂ (fun n k => (PoolArgs.dpool (args m c) n k : EReal)) ?_ (Fin.ext ?_)
  · blk_simp [idx t]
    simp
    omega
  · blk_simp [idx t]

theorem final_pw : (dats m 0 c).arrAt 15 cfg0.N = resPw (args m c) := by
  refine (dats m 0 c).arrAt_eq_of_covers 15 _ (by decide +kernel) fun t hf y => ?_
  have h1 := (flush0_15 t).mp hf
  blk_simp
  rw [after0_15]
  refine (last_pw m c f t h1 _).trans (congrArg (resPw (args m c)) (funext fun b => Fin.ext ?_))
  blk_simp [idx t]
  match b with
  | ⟨0, _⟩ => simp
  | ⟨1, _⟩ => simp
  | ⟨2, _⟩ => simp

theorem final_ps : (dats m 0 c).arrAt 16 cfg0.N = resPs (args m c) := by
  refine (dats m 0 c).arrAt_eq_of_covers 16 _ (by decide +kernel) fun t hf y => ?_
  have h1 := (flush0_16 t).mp hf
  blk_simp
  rw [after0_16]
  refine (last_ps m c f t h1 _).trans (congrArg (resPs (args m c)) (funext fun b => Fin.ext ?_))
  blk_simp [idx t]
  match b with
  | ⟨0, _⟩ => simp
  | ⟨1, _⟩ => simp

omit f in
/-- The four results where the arguments are finite, and the arguments kept. -/
theorem run_all (ρ : Dev nD → PrngReg) (fin : ∀ c, Finite m c) :
    θ_run defs (onTc (τ := τ) (main (F := Ideal))) ⟨m, fun _ => 0, ρ⟩ (fun r => ∀ c : Dev nD,
      r.2.mem ((c : Thread nD τ).loc main_v22_0) = resDw (args m c)
      ∧ r.2.mem ((c : Thread nD τ).loc main_v22_1) = resPool (args m c)
      ∧ r.2.mem ((c : Thread nD τ).loc main_v22_2) = resPw (args m c)
      ∧ r.2.mem ((c : Thread nD τ).loc main_v22_3) = resPs (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono
    (fun r h c => ⟨((h.2 c).1 13).trans (final_dw m c (fin c)), ((h.2 c).1 14).trans (final_pool m c (fin c)),
      ((h.2 c).1 15).trans (final_pw m c (fin c)), ((h.2 c).1 16).trans (final_ps m c (fin c)), h.1 c⟩)
    (θ_run_and (unchanged m ρ) (run_main m ρ))

end PoolFold

end
-- ==== Proof.PoolScan.lean ====
/-
  A running sum as the host states it, a sum over the windows of the padded operand, read at a row.
-/
module

public import proofs.«01_k».proof.Proof.RealOps

@[expose] public section

noncomputable section

open Idealize.ShloMosaic RealOps

namespace PoolScan

/-- Adding one number after another is the sum. -/
theorem foldl_sum {n : ℕ} (g : Fin n → EReal) (v : EReal) : (List.finRange n).foldl (fun r i => r + g i) v = v + ∑ i, g i := by
  have e : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [e, ← List.ofFn_eq_map, List.sum_ofFn]

/-- The indices of a window of `N` rows and one column. -/
def rowsEquiv (N : ℕ) : (⟨3, ![1, N, 1]⟩ : Shape).Idx ≃ Fin N where
  toFun i := i 1
  invFun i := ix3 0 i 0
  left_inv i := by
    funext a
    match a with
    | ⟨0, _⟩ => exact Subsingleton.elim (α := Fin 1) _ _
    | ⟨1, _⟩ => rfl
    | ⟨2, _⟩ => exact Subsingleton.elim (α := Fin 1) _ _
  right_inv i := rfl

/-- A sum over windows of the whole height, at a row: the operand's rows that the window reaches. -/
theorem window_at {N C : ℕ} (lo hi : ℕ) (x : FVec Ideal (⟨3, ![1, N, C]⟩ : Shape) .f32) (init : FVec Ideal (⟨0, ![]⟩ : Shape) .f32)
    (h : (⟨3, ![1, N, C]⟩ : Shape).ReduceWindows ![1, N, 1] ![1, 1, 1] ![0, lo, 0] ![0, hi, 0] (⟨3, ![1, N, C]⟩ : Shape))
    (hu : 0 < (⟨0, ![]⟩ : Shape).numel) (hv : init (Shape.Idx.first hu) = (0 : EReal)) (n : Fin N) (k : Fin C) :
    Host.reduceWindowAdd ![1, N, 1] ![1, 1, 1] ![0, lo, 0] ![0, hi, 0] x init h hu (ix3 0 n k)
      = ∑ i : Fin N, if q : lo ≤ n.val + i.val ∧ n.val + i.val - lo < N then (x (ix3 0 ⟨n.val + i.val - lo, q.2⟩ k) : EReal) else 0 := by
  let W : Shape := ⟨3, ![1, N, 1]⟩
  let p : W.Idx → Fin 3 → ℕ := fun w a => ((ix3 (0 : Fin 1) n k : (⟨3, ![1, N, C]⟩ : Shape).Idx) (a.cast h.1.symm)).val * (![1, 1, 1] : Fin 3 → ℕ) a + (w a).val
  let g : W.Idx → EReal := fun w =>
    if q : ∀ a, (![0, lo, 0] : Fin 3 → ℕ) a ≤ p w a ∧ p w a - (![0, lo, 0] : Fin 3 → ℕ) a < (⟨3, ![1, N, C]⟩ : Shape).size a
      then x (fun a => ⟨p w a - (![0, lo, 0] : Fin 3 → ℕ) a, (q a).2⟩) else init (Shape.Idx.first hu)
  show Host.reduceWindow (fun a b : EReal => a + b) ![1, N, 1] ![1, 1, 1] ![0, lo, 0] ![0, hi, 0] x (fun _ : (⟨0, ![]⟩ : Shape).Idx => init (Shape.Idx.first hu)) h hu (ix3 0 n k) = _
  unfold Host.reduceWindow
  refine Eq.trans (congrArg (fun F => List.foldl F (init (Shape.Idx.first hu)) (List.finRange W.numel)) ?_)
    ((foldl_sum (fun i => g (W.rowMajor.symm i)) _).trans ?_)
  · funext r i
    exact congrArg (r + ·) (dite_congr rfl (fun _ => rfl) (fun _ => rfl))
  rw [hv, zero_add, Equiv.sum_comp W.rowMajor.symm g]
  refine (Equiv.sum_comp (rowsEquiv N).symm g).symm.trans (Finset.sum_congr rfl fun i _ => ?_)
  have e : ∀ q : lo ≤ n.val + i.val ∧ n.val + i.val - lo < N,
      ∀ a, (![0, lo, 0] : Fin 3 → ℕ) a ≤ p (ix3 0 i 0) a ∧ p (ix3 0 i 0) a - (![0, lo, 0] : Fin 3 → ℕ) a < (⟨3, ![1, N, C]⟩ : Shape).size a := by
    intro q a
    match a with
    | ⟨0, _⟩ => exact ⟨Nat.zero_le _, by show 0 * 1 + 0 - 0 < 1; omega⟩
    | ⟨1, _⟩ =>
      have : p (ix3 0 i 0) ⟨1, by decide⟩ = n.val + i.val := by show n.val * 1 + i.val = _; omega
      exact ⟨this ▸ q.1, this ▸ q.2⟩
    | ⟨2, _⟩ =>
      have : p (ix3 0 i 0) ⟨2, by decide⟩ = k.val := by show k.val * 1 + 0 = _; omega
      exact ⟨Nat.zero_le _, this ▸ k.isLt⟩
  by_cases q : lo ≤ n.val + i.val ∧ n.val + i.val - lo < N
  · rw [dif_pos q]
    refine (dif_pos (e q)).trans (congrArg x ?_)
    funext a
    apply Fin.ext
    match a with
    | ⟨0, _⟩ => rfl
    | ⟨1, _⟩ => show n.val * 1 + i.val - lo = n.val + i.val - lo; rw [Nat.mul_one]
    | ⟨2, _⟩ => show k.val * 1 + 0 - 0 = k.val; omega
  · rw [dif_neg q]
    refine (dif_neg fun q' => q ?_).trans hv
    have e1 : p ((rowsEquiv N).symm i) 1 = n.val + i.val := by show n.val * 1 + i.val = _; omega
    have := q' 1
    rw [e1] at this
    exact this

/-- The running sum from the first row. -/
theorem forward_at {N C lo : ℕ} (hlo : lo + 1 = N) (hi : ℕ) (x : FVec Ideal (⟨3, ![1, N, C]⟩ : Shape) .f32) (init : FVec Ideal (⟨0, ![]⟩ : Shape) .f32)
    (h : (⟨3, ![1, N, C]⟩ : Shape).ReduceWindows ![1, N, 1] ![1, 1, 1] ![0, lo, 0] ![0, hi, 0] (⟨3, ![1, N, C]⟩ : Shape))
    (hu : 0 < (⟨0, ![]⟩ : Shape).numel) (hv : init (Shape.Idx.first hu) = (0 : EReal)) (k : Fin C) (f : ℕ → EReal)
    (hf : ∀ i : Fin N, x (ix3 0 i k) = f i.val) (n : Fin N) :
    Host.reduceWindowAdd ![1, N, 1] ![1, 1, 1] ![0, lo, 0] ![0, hi, 0] x init h hu (ix3 0 n k) = ∑ i ∈ Finset.range (n.val + 1), f i := by
  rw [window_at _ _ _ _ _ _ hv]
  have e : ∀ i : Fin N, (if q : lo ≤ n.val + i.val ∧ n.val + i.val - lo < N then (x (ix3 0 ⟨n.val + i.val - lo, q.2⟩ k) : EReal) else 0)
      = (fun i : ℕ => if lo ≤ n.val + i then f (n.val + i - lo) else 0) i.val := by
    intro i
    dsimp only
    by_cases q : lo ≤ n.val + i.val
    · rw [dif_pos ⟨q, by omega⟩, if_pos q, hf]
    · rw [dif_neg fun q' => q q'.1, if_neg q]
  rw [Finset.sum_congr rfl fun i _ => e i, Fin.sum_univ_eq_sum_range (fun i : ℕ => if lo ≤ n.val + i then f (n.val + i - lo) else 0) N]
  have hn := n.isLt
  obtain ⟨r, hr⟩ : ∃ r, r = n.val := ⟨_, rfl⟩
  rw [← hr] at hn ⊢
  rw [show N = (lo - r) + (r + 1) by omega, Finset.sum_range_add, Finset.sum_eq_zero, zero_add]
  · refine Finset.sum_congr rfl fun i _ => ?_
    rw [if_pos (by omega)]
    congr 1
    omega
  · intro i hi
    have := Finset.mem_range.1 hi
    exact if_neg (by omega)

/-- The running sum from the last row. -/
theorem backward_at {N C : ℕ} (hi : ℕ) (x : FVec Ideal (⟨3, ![1, N, C]⟩ : Shape) .f32) (init : FVec Ideal (⟨0, ![]⟩ : Shape) .f32)
    (h : (⟨3, ![1, N, C]⟩ : Shape).ReduceWindows ![1, N, 1] ![1, 1, 1] ![0, 0, 0] ![0, hi, 0] (⟨3, ![1, N, C]⟩ : Shape))
    (hu : 0 < (⟨0, ![]⟩ : Shape).numel) (hv : init (Shape.Idx.first hu) = (0 : EReal)) (k : Fin C) (f : ℕ → EReal)
    (hf : ∀ i : Fin N, x (ix3 0 i k) = f i.val) (n : Fin N) :
    Host.reduceWindowAdd ![1, N, 1] ![1, 1, 1] ![0, 0, 0] ![0, hi, 0] x init h hu (ix3 0 n k) = ∑ i ∈ Finset.range (N - n.val), f (n.val + i) := by
  rw [window_at _ _ _ _ _ _ hv]
  have e : ∀ i : Fin N, (if q : 0 ≤ n.val + i.val ∧ n.val + i.val - 0 < N then (x (ix3 0 ⟨n.val + i.val - 0, q.2⟩ k) : EReal) else 0)
      = (fun i : ℕ => if n.val + i < N then f (n.val + i) else 0) i.val := by
    intro i
    dsimp only
    by_cases q : n.val + i.val < N
    · rw [dif_pos ⟨Nat.zero_le _, q⟩, if_pos q, hf]
      rfl
    · rw [dif_neg fun q' => q q'.2, if_neg q]
  rw [Finset.sum_congr rfl fun i _ => e i, Fin.sum_univ_eq_sum_range (fun i : ℕ => if n.val + i < N then f (n.val + i) else 0) N]
  have hn := n.isLt
  rw [← Finset.sum_subset (Finset.range_mono (Nat.sub_le N n.val))]
  · refine Finset.sum_congr rfl fun i hi => ?_
    have := Finset.mem_range.1 hi
    exact if_pos (by omega)
  · intro i _ hi
    have : ¬ i < N - n.val := fun h => hi (Finset.mem_range.2 h)
    exact if_neg (by omega)

end PoolScan

end
-- ==== Proof.PoolHost.lean ====
module

public import Idealize.ShloMosaic.Lib.Pointwise
public import Idealize.ShloMosaic.Lib.Routing.OpsPair
public import Idealize.ShloMosaic.Lib.ReduceAll
public import proofs.«01_k».proof.Proof.RealOps

@[expose] public section
set_option maxRecDepth 16384

/-! Rows taken from, and added into, a one-slab table by a column of row numbers. -/

noncomputable section

open Idealize.ShloMosaic Idealize.ShloMosaic.Routing

namespace PoolHost

/-- A row number below `2 ^ 31` read as a signed word is itself. -/
theorem toInt_small (a : Nat) (h : a < 2 ^ 31) : (BitVec.ofNat 32 a).toInt = (a : Int) :=
  StableHlo.Predicate.toInt_ofNat_small _ h

/-- Rows taken by number: row `n` of the result is the row whose number the column holds at `n`. -/
theorem gather_at {α : Type} {M N B : Nat} (wf : _)
    (x : (shape3 1 M B).Idx → α) (idx : IVec (shape2 N 1) 32) (n : Fin N) (k : Fin B) (r : Fin M)
    (hr : idx (ix2 n (0 : Fin 1)) = BitVec.ofNat 32 r.val) (hM : M < 2 ^ 31) :
    Host.gather (⟨[0, 2], [1], [], [], [1], 1, ![1, 1, B], wf⟩ : GatherDims (shape3 1 M B) (shape2 N 1) (shape3 1 N B)) x idx (ix3 (0 : Fin 1) n k)
      = x (ix3 (0 : Fin 1) r k) := by
  unfold Host.gather
  refine congrArg x (funext fun a => Fin.ext ?_)
  generalize hd : (⟨[0, 2], [1], [], [], [1], 1, ![1, 1, B], wf⟩ : GatherDims (shape3 1 M B) (shape2 N 1) (shape3 1 N B)) = d
  have hrl := r.isLt
  match a with
  | ⟨0, _⟩ => subst hd; rfl
  | ⟨1, _⟩ =>
    show d.start (ix3 0 n k) idx 1 + d.batchCoord (ix3 0 n k) 1 + d.offCoord (ix3 0 n k) 1 = r.val
    have h1 : d.batchCoord (ix3 0 n k) 1 = 0 := by subst hd; rfl
    have h2 : d.offCoord (ix3 0 n k) 1 = 0 := by subst hd; rfl
    have h3 : d.start (ix3 0 n k) idx 1 = min (idx (ix2 n (0 : Fin 1))).toInt.toNat (M - 1) := by
      subst hd
      unfold GatherDims.start
      rw [dif_pos (List.mem_singleton.2 rfl)]
      refine congrArg (fun q => min (idx q).toInt.toNat (M - 1)) (funext fun b => ?_)
      match b with
      | ⟨0, _⟩ => rfl
      | ⟨1, _⟩ => rfl
    rw [h1, h2, h3, hr, toInt_small _ (by omega)]
    omega
  | ⟨2, _⟩ =>
    show d.start (ix3 0 n k) idx 2 + d.batchCoord (ix3 0 n k) 2 + d.offCoord (ix3 0 n k) 2 = k.val
    have h1 : d.batchCoord (ix3 0 n k) 2 = 0 := by subst hd; rfl
    have h2 : d.offCoord (ix3 0 n k) 2 = k.val := by subst hd; rfl
    have h3 : d.start (ix3 0 n k) idx 2 = 0 := by subst hd; rfl
    rw [h1, h2, h3]
    omega

/-- Where an update row lands: at the row whose number the column holds, in its own column. -/
theorem lands {M N B : Nat} (wf : _) (idx : IVec (shape2 N 1) 32) (n : Fin N) (k k' : Fin B) (r : Fin M) (a : Nat)
    (ha : idx (ix2 n (0 : Fin 1)) = BitVec.ofNat 32 a) (h31 : a < 2 ^ 31) :
    (⟨[0, 2], [1], [1], 1, wf⟩ : ScatterDims (shape3 1 M B) (shape2 N 1) (shape3 1 N B)).resultIdx? (ix3 (0 : Fin 1) n k') idx
      = some (ix3 (0 : Fin 1) r k) ↔ a = r.val ∧ k' = k := by
  rw [resultIdx?_eq_some]
  generalize hd : (⟨[0, 2], [1], [1], 1, wf⟩ : ScatterDims (shape3 1 M B) (shape2 N 1) (shape3 1 N B)) = d
  have h0 : d.start (ix3 0 n k') idx 0 = 0 := by subst hd; rfl
  have h0' : d.window (ix3 0 n k') 0 = 0 := by subst hd; rfl
  have h1' : d.window (ix3 0 n k') 1 = 0 := by subst hd; rfl
  have h1 : d.start (ix3 0 n k') idx 1 = (a : Int) := by
    subst hd
    unfold ScatterDims.start
    rw [dif_pos (List.mem_singleton.2 rfl)]
    refine (congrArg (fun q => (idx q).toInt) (funext fun b => ?_ : _ = ix2 n (0 : Fin 1))).trans (by rw [ha, toInt_small _ h31])
    match b with
    | ⟨0, _⟩ => rfl
    | ⟨1, _⟩ => rfl
  have h2 : d.start (ix3 0 n k') idx 2 = 0 := by subst hd; rfl
  have h2' : d.window (ix3 0 n k') 2 = k'.val := by subst hd; rfl
  constructor
  · intro h
    have e1 := h 1
    have e2 := h 2
    rw [h1, h1'] at e1
    rw [h2, h2'] at e2
    have e1' : ((a : Int) + ((0 : Nat) : Int)) = (r.val : Int) := e1
    have e2' : ((0 : Int) + (k'.val : Int)) = (k.val : Int) := e2
    exact ⟨by omega, Fin.ext (by omega)⟩
  · rintro ⟨e, rfl⟩ x
    match x with
    | ⟨0, _⟩ =>
      show d.start (ix3 0 n k') idx 0 + (d.window (ix3 0 n k') 0 : Int) = ((0 : Nat) : Int)
      rw [h0, h0']; rfl
    | ⟨1, _⟩ =>
      show d.start (ix3 0 n k') idx 1 + (d.window (ix3 0 n k') 1 : Int) = (r.val : Int)
      rw [h1, h1']; omega
    | ⟨2, _⟩ =>
      show d.start (ix3 0 n k') idx 2 + (d.window (ix3 0 n k') 2 : Int) = (k'.val : Int)
      rw [h2, h2']; omega

/-- Rows added into a table by number: row `r` gains every update row whose number is `r`. -/
theorem scatter_at {M N B : Nat} (wf : _) (x : (shape3 1 M B).Idx → EReal) (idx : IVec (shape2 N 1) 32) (upd : (shape3 1 N B).Idx → EReal)
    (lo : Nat → Nat) (hlo : ∀ n : Fin N, idx (ix2 n (0 : Fin 1)) = BitVec.ofNat 32 (lo n.val)) (h31 : ∀ n : Fin N, lo n.val < 2 ^ 31)
    (r : Fin M) (k : Fin B) :
    Ideal.hostScatterAdd (⟨[0, 2], [1], [1], 1, wf⟩ : ScatterDims (shape3 1 M B) (shape2 N 1) (shape3 1 N B)) x idx upd (ix3 (0 : Fin 1) r k)
      = x (ix3 (0 : Fin 1) r k) + ∑ n : Fin N, if lo n.val = r.val then upd (ix3 (0 : Fin 1) n k) else 0 := by
  unfold Ideal.hostScatterAdd
  refine congrArg (fun q => x (ix3 (0 : Fin 1) r k) + q) ?_
  rw [← Finset.sum_filter]
  refine (Finset.sum_bij (fun (n : Fin N) _ => (ix3 (0 : Fin 1) n k : (shape3 1 N B).Idx)) ?_ ?_ ?_ ?_).symm
  · intro n hn
    rw [Finset.mem_filter] at hn ⊢
    exact ⟨Finset.mem_univ _, (lands wf idx n k k r (lo n.val) (hlo n) (h31 n)).2 ⟨hn.2, rfl⟩⟩
  · intro n _ n' _ e
    exact congrFun e 1
  · intro j hj
    rw [Finset.mem_filter] at hj
    have ej : j = ix3 (0 : Fin 1) (j 1) (j 2) := by
      funext b
      match b with
      | ⟨0, _⟩ => exact Subsingleton.elim (α := Fin 1) _ _
      | ⟨1, _⟩ => rfl
      | ⟨2, _⟩ => rfl
    have hj2 := hj.2
    rw [ej] at hj2
    have q := (lands wf idx (j 1) k (j 2) r (lo (j 1).val) (hlo _) (h31 _)).1 hj2
    refine ⟨j 1, Finset.mem_filter.2 ⟨Finset.mem_univ _, q.1⟩, ?_⟩
    exact (congrArg (fun c : Fin B => (ix3 (0 : Fin 1) (j 1) c : (shape3 1 N B).Idx)) q.2.symm).trans ej.symm
  · intro n _
    rfl

end PoolHost
-- ==== Proof.PoolTake.lean ====
/-
  One group of the reference's pooling: the rows taken from the running sum, the window's mean less the row, and the
  rows added back by the gradient.
-/
module

public import proofs.«01_k».proof.Proof.PoolHost
public import proofs.«01_k».proof.Proof.PoolReal
public import proofs.«01_k».proof.Proof.Gen.PoolDwRefIdeal.Read

@[expose] public section

set_option maxRecDepth 16384

noncomputable section

open Idealize.ShloMosaic Idealize.ShloMosaic.TcCoe Idealize.SL.Sem

namespace PoolTake

open Cert.PoolDwRefIdeal Cert.PoolDwRefIdeal.Gen RealOps

/-- A word on every row. -/
def word (w : BitVec 32) : IVec S8192 32 := broadcastInDim S8192 ![] bcast_S_S8192 (constantI S_ 32 w)

/-- The number of the row before each row's window. -/
def start (w : BitVec 32) : IVec S8192 32 := maxsi (subi (addi (iotaInDim S8192 32 0) (word 1#32)) (word w)) (word 0#32)

/-- Row numbers counted from the end where they are negative. -/
def wrapped (s : IVec S8192 32) : IVec S8192x1 32 :=
  broadcastInDim S8192x1 ![0] bcast_S8192_S8192x1_0 (select (cmpi .slt s (word 0#32)) (addi s (word 8193#32)) s)

/-- Which row numbers are those of a row. -/
def inside (s : IVec S8192x1 32) : IVec S8192 1 :=
  Host.reduce IntOp.andi
    (andi (cmpi .sge s (broadcastInDim S8192x1 ![] bcast_S_S8192x1 (constantI S_ 32 0#32)))
      (cmpi .sle s (broadcastInDim S8192x1 ![0, 1] bcast_S1x1_S8192x1_0_1 (broadcastInDim S1x1 ![1] bcast_S1_S1x1_1 (constantI S1 32 8192#32)))))
    (constantI S_ 1 1#1) reducesTo_S8192x1_S8192_d1 h_S_

/-- The rows of `T` whose numbers are given. -/
def taken (T : FVec Ideal S1x8193x128 .f32) (s : IVec S8192 32) : FVec Ideal S1x8192x128 .f32 :=
  select (broadcastInDim S1x8192x128 ![1] bcast_S8192_S1x8192x128_1 (inside (wrapped s)))
    (Host.gather gather_S1x8193x128_S8192x1_S1x8192x128_02_1_n_n_1_1_11128 T (wrapped s))
    (broadcastInDim S1x8192x128 ![] bcast_S_S1x8192x128 (constant S_ .f32 0x7FC00000#32))

/-- How many rows each row's window has, on every column. -/
def count (w : BitVec 32) : FVec Ideal S1x8192x128 .f32 :=
  broadcastInDim S1x8192x128 ![0, 1, 2] bcast_S1x8192x1_S1x8192x128_0_1_2
    (broadcastInDim S1x8192x1 ![1] bcast_S8192_S1x8192x1_1 (sitofp .f32 (subi (addi (iotaInDim S8192 32 0) (word 1#32)) (start w))))

/-- The window's mean less the row, from the running sum and the rows. -/
def less (w : BitVec 32) (T : FVec Ideal S1x8193x128 .f32) (U : FVec Ideal S1x8192x128 .f32) : FVec Ideal S1x8192x128 .f32 :=
  subf (Host.divf (subf (extractStridedSlice S1x8192x128 ![0, 1, 0] T slices_S1x8193x128_S1x8192x128_0_1_0) (taken T (start w))) (count w)) U

/-- The gradient at the running sum from the gradient at the windows' means. -/
def spread (w : BitVec 32) (D : FVec Ideal S1x8192x128 .f32) : FVec Ideal S1x8193x128 .f32 :=
  addf (Host.scatterAdd scatter_S1x8193x128_S8192x1_S1x8192x128_02_1_1_1
      (broadcastInDim S1x8193x128 ![] bcast_S_S1x8193x128 (constant S_ .f32 0x00000000#32)) (wrapped (start w)) (Host.negf (Host.divf D (count w))))
    (pad S1x8193x128 ![0, 1, 0] ![0, 0, 0] ![0, 0, 0] (Host.divf D (count w)) (constant S_ .f32 0x00000000#32)
      pads_S1x8192x128_S1x8193x128_000_100_000 h_S_)

variable (X : FVec Ideal S8192x1024 .f32) (G : FVec Ideal S1024 .f32) (W : FVec Ideal S1024x3072 .f32) (P : FVec Ideal S4x128x128 .f32)
  (S : FVec Ideal S512 .f32) (DY : FVec Ideal S8192x512 .f32)

theorem less_0 : Read.val_main_v42 (F := Ideal) X G W = less 2#32 (Read.val_main_v24 (F := Ideal) X G W) (Read.val_main_v41 (F := Ideal) X G W) := rfl
theorem less_1 : Read.val_main_v61 (F := Ideal) X G W = less 4#32 (Read.val_main_v43 (F := Ideal) X G W) (Read.val_main_v60 (F := Ideal) X G W) := rfl
theorem less_2 : Read.val_main_v80 (F := Ideal) X G W = less 8#32 (Read.val_main_v62 (F := Ideal) X G W) (Read.val_main_v79 (F := Ideal) X G W) := rfl
theorem less_3 : Read.val_main_v99 (F := Ideal) X G W = less 16#32 (Read.val_main_v81 (F := Ideal) X G W) (Read.val_main_v98 (F := Ideal) X G W) := rfl
theorem spread_0 : Read.val_main_v180 (F := Ideal) X G W P S DY = spread 2#32 (Read.val_main_v134 (F := Ideal) X G W P S DY) := rfl
theorem spread_1 : Read.val_main_v169 (F := Ideal) X G W P S DY = spread 4#32 (Read.val_main_v136 (F := Ideal) X G W P S DY) := rfl
theorem spread_2 : Read.val_main_v158 (F := Ideal) X G W P S DY = spread 8#32 (Read.val_main_v138 (F := Ideal) X G W P S DY) := rfl
theorem spread_3 : Read.val_main_v148 (F := Ideal) X G W P S DY = spread 16#32 (Read.val_main_v140 (F := Ideal) X G W P S DY) := rfl

/-- A number less another, or zero, as a word. -/
theorem sub_word (n w : ℕ) (hn : n < 8192) (hw : w ≤ 16) :
    IntOp.maxsi (IntOp.subi (IntOp.addi (BitVec.ofNat 32 n) 1#32) (BitVec.ofNat 32 w)) 0#32 = BitVec.ofNat 32 (n + 1 - w) := by
  have e : IntOp.addi (BitVec.ofNat 32 n) 1#32 = BitVec.ofNat 32 (n + 1) := by
    unfold IntOp.addi
    rw [← BitVec.ofNat_add]
  rw [e]
  unfold IntOp.maxsi IntOp.subi
  by_cases h : w ≤ n + 1
  · have q : BitVec.ofNat 32 (n + 1) - BitVec.ofNat 32 w = BitVec.ofNat 32 (n + 1 - w) := by
      apply BitVec.eq_of_toNat_eq
      simp only [BitVec.toNat_sub, BitVec.toNat_ofNat]
      omega
    rw [q]
    by_cases z : n + 1 - w = 0
    · rw [z]; rfl
    · rw [if_pos]
      unfold BitVec.slt
      rw [WordCmp.toInt_ofNat_of_lt (a := n + 1 - w) (by omega)]
      exact decide_eq_true (by rw [show (0#32).toInt = 0 from rfl]; omega)
  · rw [if_neg, show n + 1 - w = 0 by omega]
    unfold BitVec.slt
    intro q
    have q' := of_decide_eq_true q
    have p : (BitVec.ofNat 32 (n + 1) - BitVec.ofNat 32 w).toNat < 2 ^ 31 :=
      (WordCmp.toInt_nonneg_iff_lt_half _).mp (by rw [show (0#32).toInt = 0 from rfl] at q'; omega)
    simp only [BitVec.toNat_sub, BitVec.toNat_ofNat] at p
    omega

theorem start_at (w : ℕ) (hw : w ≤ 16) (n : Fin 8192) : start (BitVec.ofNat 32 w) (ix1 n) = BitVec.ofNat 32 (n.val + 1 - w) := by
  pointwise [start, word]
  exact sub_word n.val w n.isLt hw

theorem wrapped_at (w : ℕ) (hw : w ≤ 16) (n : Fin 8192) :
    wrapped (start (BitVec.ofNat 32 w)) (ix2 n 0) = BitVec.ofNat 32 (n.val + 1 - w) := by
  pointwise [wrapped, word]
  rw [start_at w hw n]
  exact Routing.wrap_of_lt _ _ (by rw [BitVec.toNat_ofNat]; omega)

/-- A row number is one of a row's. -/
theorem inside_word (a : ℕ) (ha : a < 8193) : IntOp.andi (IntOp.cmpi .sge (BitVec.ofNat 32 a) 0#32) (IntOp.cmpi .sle (BitVec.ofNat 32 a) 8192#32) = 1#1 := by
  rw [WordCmp.cmpi_sge_eq, WordCmp.cmpi_sle_eq, WordCmp.toInt_ofNat_of_lt (a := a) (by omega), show (0#32).toInt = 0 from rfl, show (8192#32).toInt = 8192 from rfl,
    decide_eq_true (by omega : (0 : Int) ≤ (a : Int)), decide_eq_true (by omega : (a : Int) ≤ 8192)]
  rfl

theorem inside_at (w : ℕ) (hw : w ≤ 16) (i : S8192.Idx) : inside (wrapped (start (BitVec.ofNat 32 w))) i = 1#1 := by
  unfold inside
  refine Host.reduce_andi_one _ _ _ _ _ rfl fun j => ?_
  have ej : j = ix2 (j 0) 0 := by
    funext b
    match b with
    | ⟨0, _⟩ => rfl
    | ⟨1, _⟩ => exact Subsingleton.elim (α := Fin 1) _ _
  have hw' := (congrArg (wrapped (start (BitVec.ofNat 32 w))) ej).trans (wrapped_at w hw (j 0))
  show IntOp.andi (IntOp.cmpi .sge (wrapped (start (BitVec.ofNat 32 w)) j) 0#32) (IntOp.cmpi .sle (wrapped (start (BitVec.ofNat 32 w)) j) 8192#32) = 1#1
  rw [hw']
  exact inside_word _ (by have : (j 0).val < 8192 := (j 0).isLt; omega)

theorem taken_at (w : ℕ) (hw : w ≤ 16) (T : FVec Ideal S1x8193x128 .f32) (n : Fin 8192) (k : Fin 128) :
    taken T (start (BitVec.ofNat 32 w)) (ix3 0 n k) = T (ix3 0 ⟨n.val + 1 - w, by omega⟩ k) := by
  unfold taken
  refine Eq.trans (b := Host.gather gather_S1x8193x128_S8192x1_S1x8192x128_02_1_n_n_1_1_11128 T (wrapped (start (BitVec.ofNat 32 w))) (ix3 0 n k)) ?_ ?_
  · show Scalar.select (inside (wrapped (start (BitVec.ofNat 32 w))) _) _ _ = _
    rw [inside_at w hw]
    rfl
  · exact PoolHost.gather_at _ T _ n k ⟨n.val + 1 - w, by omega⟩ (wrapped_at w hw n) (by decide)

/-- The number of rows of a window as a real number. -/
theorem count_word (n w : ℕ) (hn : n < 8192) (hw : w ≤ 16) :
    (IntOp.subi (IntOp.addi (BitVec.ofNat 32 n) 1#32) (BitVec.ofNat 32 (n + 1 - w))).toInt = ((min (n + 1) w : ℕ) : Int) := by
  have e : IntOp.subi (IntOp.addi (BitVec.ofNat 32 n) 1#32) (BitVec.ofNat 32 (n + 1 - w)) = BitVec.ofNat 32 (min (n + 1) w) := by
    unfold IntOp.addi IntOp.subi
    apply BitVec.eq_of_toNat_eq
    simp only [BitVec.toNat_sub, BitVec.toNat_add, BitVec.toNat_ofNat]
    omega
  rw [e, WordCmp.toInt_ofNat_of_lt (by omega)]

theorem count_at (w : ℕ) (hw : w ≤ 16) (n : Fin 8192) (k : Fin 128) :
    count (BitVec.ofNat 32 w) (ix3 0 n k) = (PoolReal.cnt w n.val : EReal) := by
  pointwise [count, word]
  rw [start_at w hw n]
  refine Eq.trans (b := (((IntOp.subi (IntOp.addi (BitVec.ofNat 32 n.val) 1#32) (BitVec.ofNat 32 (n.val + 1 - w))).toInt : ℝ) : EReal)) rfl ?_
  rw [count_word n.val w n.isLt hw]
  norm_num [PoolReal.cnt]

/-- The window's mean less the row, for a running sum of real rows. -/
theorem less_at (w : ℕ) (h0 : 0 < w) (hw : w ≤ 16) (T : FVec Ideal S1x8193x128 .f32) (U : FVec Ideal S1x8192x128 .f32) (k : Fin 128) (v : ℕ → ℝ)
    (hT : ∀ r : Fin 8193, T (ix3 0 r k) = ((∑ i ∈ Finset.range r.val, v i : ℝ) : EReal)) (hU : ∀ n : Fin 8192, U (ix3 0 n k) = (v n.val : EReal)) (n : Fin 8192) :
    less (BitVec.ofNat 32 w) T U (ix3 0 n k) = ((PoolReal.back w v n.val * (1 / PoolReal.cnt w n.val) - v n.val : ℝ) : EReal) := by
  have e : extractStridedSlice S1x8192x128 ![0, 1, 0] T slices_S1x8193x128_S1x8192x128_0_1_0 (ix3 0 n k) = T (ix3 0 ⟨n.val + 1, by omega⟩ k) := by
    pointwise []
    exact congrArg (fun q => T (ix3 0 q k)) (Fin.ext (Nat.add_comm _ _))
  unfold less
  show Ideal.div (extractStridedSlice S1x8192x128 ![0, 1, 0] T slices_S1x8193x128_S1x8192x128_0_1_0 (ix3 0 n k)
    - taken T (start (BitVec.ofNat 32 w)) (ix3 0 n k)) (count (BitVec.ofNat 32 w) (ix3 0 n k)) - U (ix3 0 n k) = _
  rw [e, taken_at w hw, count_at w hw, hT, hT, hU, ← EReal.coe_sub, coe_div _ _ (PoolReal.cnt_pos w n.val h0).ne', ← EReal.coe_sub,
    PoolReal.running w n.val v, mul_one_div]

/-- The gradient at a row of the running sum, less what the rows after it take off. -/
theorem spread_at (w : ℕ) (h0 : 0 < w) (hw : w ≤ 16) (D : FVec Ideal S1x8192x128 .f32) (k : Fin 128) (g : ℕ → ℝ)
    (hD : ∀ n : Fin 8192, D (ix3 0 n k) = (g n.val : EReal)) (n : Fin 8192) :
    spread (BitVec.ofNat 32 w) D (ix3 0 ⟨n.val + 1, by omega⟩ k)
      = ((g n.val * (1 / PoolReal.cnt w n.val) - if n.val + w < 8192 then g (n.val + w) * (1 / PoolReal.cnt w (n.val + w)) else 0 : ℝ) : EReal) := by
  have hq : ∀ n : Fin 8192, Host.divf D (count (BitVec.ofNat 32 w)) (ix3 0 n k) = ((g n.val * (1 / PoolReal.cnt w n.val) : ℝ) : EReal) := fun n => by
    show Ideal.div (D (ix3 0 n k)) (count (BitVec.ofNat 32 w) (ix3 0 n k)) = _
    rw [hD, count_at w hw, coe_div _ _ (PoolReal.cnt_pos w n.val h0).ne', mul_one_div]
  have hp : pad S1x8193x128 ![0, 1, 0] ![0, 0, 0] ![0, 0, 0] (Host.divf D (count (BitVec.ofNat 32 w))) (constant (F := Ideal) S_ .f32 0x00000000#32)
      pads_S1x8192x128_S1x8193x128_000_100_000 h_S_ (ix3 0 ⟨n.val + 1, by omega⟩ k) = Host.divf D (count (BitVec.ofNat 32 w)) (ix3 0 n k) := by
    pointwise []
    exact dif_pos (by omega)
  have hz : (broadcastInDim S1x8193x128 ![] bcast_S_S1x8193x128 (constant (F := Ideal) S_ .f32 0x00000000#32)) (ix3 0 ⟨n.val + 1, by omega⟩ k) = (0 : EReal) := by
    pointwise []
  unfold spread
  refine (congrArg₂ (fun a b : EReal => a + b)
    (PoolHost.scatter_at _ _ _ _ (fun n => n + 1 - w) (wrapped_at w hw) (fun n => by omega) ⟨n.val + 1, by omega⟩ k) (hp.trans (hq n))).trans ?_
  rw [hz, zero_add]
  have hs : ∀ n' : Fin 8192, (if n'.val + 1 - w = n.val + 1 then
      (Host.negf (Host.divf D (count (BitVec.ofNat 32 w))) (ix3 0 n' k) : EReal) else 0)
      = ((if n'.val = n.val + w then -(g n'.val * (1 / PoolReal.cnt w n'.val)) else 0 : ℝ) : EReal) := fun n' => by
    by_cases e : n'.val = n.val + w
    · rw [if_pos (by omega), if_pos e, EReal.coe_neg, ← hq n']
      rfl
    · rw [if_neg (by omega), if_neg e]
      rfl
  rw [Finset.sum_congr rfl fun n' _ => hs n', coe_sum, ← EReal.coe_add]
  congr 1
  rw [Fin.sum_univ_eq_sum_range (fun n' => if n' = n.val + w then -(g n' * (1 / PoolReal.cnt w n')) else 0) 8192, Finset.sum_ite_eq' ]
  simp only [Finset.mem_range]
  split <;> ring

end PoolTake

end
-- ==== Proof.PoolFwd.lean ====
/-
  The reference's forward values at an index that need only the gain and the value columns of the weight to be real: the
  normalised rows, the value columns of the projection, the running sum and the four groups' windows' means less the rows.
-/
module

public import proofs.«01_k».proof.Proof.PoolScan
public import proofs.«01_k».proof.Proof.PoolTake
public import proofs.«01_k».proof.Proof.PoolArgs

@[expose] public section

set_option maxRecDepth 16384

noncomputable section

open Idealize.ShloMosaic Idealize.ShloMosaic.TcCoe Idealize.SL.Sem

namespace PoolFwd

open Cert.PoolDwRefIdeal Cert.PoolDwRefIdeal.Gen Cert.PoolDwRefIdeal.Read RealOps

/-- The rows, the gain and the value columns of the weight are these. -/
structure Reads (X : FVec Ideal S8192x1024 .f32) (G : FVec Ideal S1024 .f32) (W : FVec Ideal S1024x3072 .f32) (A : PoolArgs.Args) : Prop where
  x : ∀ (n : Fin 8192) k, X (ix2 n k) = A.x n.val k
  gain : ∀ k, G (ix1 k) = (A.gain k : EReal)
  w : ∀ j (k : Fin 512), W (ix2 j ⟨k.val, by omega⟩) = (A.w j ⟨k.val, by omega⟩ : EReal)

variable {X : FVec Ideal S8192x1024 .f32} {G : FVec Ideal S1024 .f32} {W : FVec Ideal S1024x3072 .f32} {A : PoolArgs.Args} (f : Reads X G W A)

include f

theorem normed (n : Fin 8192) (k : Fin 1024) : val_main_v12 (F := Ideal) X G (ix2 n k) = (PoolArgs.h A n.val k : EReal) := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  simp only [f.x, f.gain]
  exact PoolArgs.h_eq (A.x n.val) (A.gain k) k

/-- The rows at a value column. -/
theorem rows_at (n : Fin 8192) (k : Fin 512) :
    val_main_v15 (F := Ideal) X G W (ix3 0 n k) = (PoolArgs.proj A n.val ⟨k.val, by omega⟩ : EReal) := by
  pointwise [val_main_v15, val_main_v14]
  pointwise [val_main_v13]
  simp only [normed f, f.w, ← EReal.coe_mul, coe_sum]
  rfl

/-- The running sum, of the rows before a row. -/
theorem running_at (r : Fin 8193) (k : Fin 512) : val_main_v21 (F := Ideal) X G W (ix3 0 r k)
    = ((∑ i ∈ Finset.range r.val, PoolArgs.proj A i ⟨k.val, by omega⟩ : ℝ) : EReal) := by
  have e : ∀ n : Fin 8192, val_main_v20 (F := Ideal) X G W (ix3 0 n k)
      = ((∑ i ∈ Finset.range (n.val + 1), PoolArgs.proj A i ⟨k.val, by omega⟩ : ℝ) : EReal) := fun n => by
    refine (PoolScan.forward_at rfl 0 (val_main_v15 (F := Ideal) X G W) _ _ _ (by pointwise [val_main_call0_call0_v0, val_main_call0_call0_cst]) k
      (fun i => (PoolArgs.proj A i ⟨k.val, by omega⟩ : EReal)) (fun i => rows_at f i k) n).trans ?_
    exact coe_sum _ _
  pointwise [val_main_v21, val_main_v19, val_main_cst_2]
  split
  · next h =>
    rw [show r.val = 0 by omega]
    rfl
  · next h =>
    refine (e ⟨r.val - 1, by omega⟩).trans ?_
    rw [show (⟨r.val - 1, by omega⟩ : Fin 8192).val + 1 = r.val by dsimp only; omega]

/-- The window's mean less the row, for one group. -/
theorem diff_of (q : Fin 4) (k : Fin 128) (T : FVec Ideal S1x8193x128 .f32) (U : FVec Ideal S1x8192x128 .f32)
    (hT : ∀ r : Fin 8193, T (ix3 0 r k) = val_main_v21 (F := Ideal) X G W (ix3 0 r (PoolArgs.col q k)))
    (hU : ∀ n : Fin 8192, U (ix3 0 n k) = val_main_v15 (F := Ideal) X G W (ix3 0 n (PoolArgs.col q k))) (n : Fin 8192) :
    PoolTake.less (BitVec.ofNat 32 (2 ^ (q.val + 1))) T U (ix3 0 n k) = (PoolReal.d (PoolArgs.grp A q) n.val k : EReal) :=
  PoolTake.less_at (2 ^ (q.val + 1)) (by positivity) (by have := q.isLt; calc 2 ^ (q.val + 1) ≤ 2 ^ 4 := Nat.pow_le_pow_right (by decide) (by omega)
                                                                             _ = 16 := rfl) T U k
    (fun i => PoolArgs.proj A i (PoolArgs.vcol q k)) (fun r => (hT r).trans (running_at f r _)) (fun n => (hU n).trans (rows_at f n _)) n

omit f in
theorem col_zero {N : ℕ} (r : Fin N) (k : Fin 128) : (ix3 (0 : Fin 1) r ⟨k.val, by omega⟩ : (⟨3, ![1, N, 512]⟩ : Shape).Idx) = ix3 0 r (PoolArgs.col 0 k) :=
  congrArg (ix3 (0 : Fin 1) r) (Fin.ext (by show k.val = 128 * 0 + k.val; omega))

/-- The first group's difference, and the others' below. -/
theorem diff_0 (n : Fin 8192) (k : Fin 128) : val_main_v42 (F := Ideal) X G W (ix3 0 n k) = (PoolReal.d (PoolArgs.grp A 0) n.val k : EReal) :=
  (congrFun (PoolTake.less_0 X G W) _).trans
    (diff_of f 0 k _ _ (fun r => by pointwise [val_main_v24]; exact congrArg _ (col_zero r k)) (fun n => by pointwise [val_main_v41]; exact congrArg _ (col_zero n k)) n)

theorem diff_1 (n : Fin 8192) (k : Fin 128) : val_main_v61 (F := Ideal) X G W (ix3 0 n k) = (PoolReal.d (PoolArgs.grp A 1) n.val k : EReal) :=
  (congrFun (PoolTake.less_1 X G W) _).trans
    (diff_of f 1 k _ _ (fun r => by pointwise [val_main_v43]; rfl) (fun n => by pointwise [val_main_v60]; rfl) n)

theorem diff_2 (n : Fin 8192) (k : Fin 128) : val_main_v80 (F := Ideal) X G W (ix3 0 n k) = (PoolReal.d (PoolArgs.grp A 2) n.val k : EReal) :=
  (congrFun (PoolTake.less_2 X G W) _).trans
    (diff_of f 2 k _ _ (fun r => by pointwise [val_main_v62]; rfl) (fun n => by pointwise [val_main_v79]; rfl) n)

theorem diff_3 (n : Fin 8192) (k : Fin 128) : val_main_v99 (F := Ideal) X G W (ix3 0 n k) = (PoolReal.d (PoolArgs.grp A 3) n.val k : EReal) :=
  (congrFun (PoolTake.less_3 X G W) _).trans
    (diff_of f 3 k _ _ (fun r => by pointwise [val_main_v81]; rfl) (fun n => by pointwise [val_main_v98]; rfl) n)

/-- The four groups' differences side by side. -/
theorem diffs_at (n : Fin 8192) (q : Fin 4) (k : Fin 128) :
    val_main_v104 (F := Ideal) X G W (ix4 0 n q k) = (PoolReal.d (PoolArgs.grp A q) n.val k : EReal) := by
  pointwise [val_main_v104, val_main_v100, val_main_v101, val_main_v102, val_main_v103]
  match q with
  | 0 => exact diff_0 f n k
  | 1 => exact diff_1 f n k
  | 2 => exact diff_2 f n k
  | 3 => exact diff_3 f n k

end PoolFwd

end
-- ==== Proof.PoolRef.lean ====
/-
  The reference's values at an index: the projection, the four groups' differences and products, the gate and the
  gradients at them.
-/
module

public import proofs.«01_k».proof.Proof.PoolFwd

@[expose] public section

set_option maxRecDepth 16384

noncomputable section

open Idealize.ShloMosaic Idealize.ShloMosaic.TcCoe Idealize.SL.Sem

namespace PoolRef

open Cert.PoolDwRefIdeal Cert.PoolDwRefIdeal.Gen Cert.PoolDwRefIdeal.Read RealOps

/-- The reference's arguments. -/
structure Ins where
  X : FVec Ideal S8192x1024 .f32
  G : FVec Ideal S1024 .f32
  W : FVec Ideal S1024x3072 .f32
  P : FVec Ideal S4x128x128 .f32
  S : FVec Ideal S512 .f32
  DY : FVec Ideal S8192x512 .f32
  DQ : FVec Ideal S8192x512 .f32
  DK : FVec Ideal S8192x512 .f32
  DV : FVec Ideal S8192x512 .f32
  DA : FVec Ideal S8192x512 .f32

/-- The arguments' entries are these. -/
structure Reads (I : Ins) (A : PoolArgs.Args) : Prop where
  x : ∀ (n : Fin 8192) k, I.X (ix2 n k) = A.x n.val k
  gain : ∀ k, I.G (ix1 k) = (A.gain k : EReal)
  w : ∀ j (k : Fin 1024), I.W (ix2 j ⟨k.val, by omega⟩) = (A.w j k : EReal)
  P : ∀ q j k, I.P (ix3 q j k) = (A.P q j k : EReal)
  s : ∀ k, I.S (ix1 k) = (A.s k : EReal)
  dy : ∀ (n : Fin 8192) k, I.DY (ix2 n k) = (A.dy n.val k : EReal)
  dq : ∀ (n : Fin 8192) k, I.DQ (ix2 n k) = A.dq n.val k
  dk : ∀ (n : Fin 8192) k, I.DK (ix2 n k) = A.dk n.val k
  dv : ∀ (n : Fin 8192) k, I.DV (ix2 n k) = A.dv n.val k
  dag : ∀ (n : Fin 8192) k, I.DA (ix2 n k) = A.dag n.val k

variable {I : Ins} {A : PoolArgs.Args} (f : Reads I A)

include f

/-- What the forward values need. -/
theorem forward : PoolFwd.Reads I.X I.G I.W A := ⟨f.x, f.gain, fun j k => f.w j ⟨k.val, by omega⟩⟩

theorem normed (n : Fin 8192) (k : Fin 1024) : val_main_v12 (F := Ideal) I.X I.G (ix2 n k) = (PoolArgs.h A n.val k : EReal) :=
  PoolFwd.normed (forward f) n k

theorem projected (n : Fin 8192) (k : Fin 1024) :
    val_main_v13 (F := Ideal) I.X I.G I.W (ix2 n ⟨k.val, by omega⟩) = (PoolArgs.proj A n.val k : EReal) := by
  pointwise [val_main_v13]
  simp only [normed f, f.w, ← EReal.coe_mul, coe_sum]
  rfl

/-- The rows at a gate's column. -/
theorem gate_at (n : Fin 8192) (k : Fin 512) :
    val_main_v17 (F := Ideal) I.X I.G I.W (ix3 0 n k) = (PoolArgs.proj A n.val ⟨512 + k.val, by omega⟩ : EReal) := by
  pointwise [val_main_v17, val_main_v16]
  exact projected f n ⟨512 + k.val, by omega⟩

/-- The four groups' differences side by side. -/
theorem diffs_at (n : Fin 8192) (q : Fin 4) (k : Fin 128) :
    val_main_v104 (F := Ideal) I.X I.G I.W (ix4 0 n q k) = (PoolReal.d (PoolArgs.grp A q) n.val k : EReal) :=
  PoolFwd.diffs_at (forward f) n q k

omit f in
/-- A column's group and its place in the group. -/
theorem group_of (q : Fin 4) (k : Fin 128) (h1 : (128 * q.val + k.val) / 128 < 4) (h2 : (128 * q.val + k.val) % 128 < 128) :
    (⟨(128 * q.val + k.val) / 128, h1⟩ : Fin 4) = q ∧ (⟨(128 * q.val + k.val) % 128, h2⟩ : Fin 128) = k :=
  ⟨Fin.ext (by dsimp only; omega), Fin.ext (by dsimp only; omega)⟩

/-- The four groups' products, side by side. -/
theorem prods_at (n : Fin 8192) (q : Fin 4) (k : Fin 128) :
    val_main_v107 (F := Ideal) I.X I.G I.W I.P (ix3 0 n (PoolArgs.col q k)) = (PoolReal.z (PoolArgs.grp A q) n.val k : EReal) := by
  pointwise [val_main_v107, val_main_v106, val_main_v105]
  rw [(group_of q k (by omega) (by omega)).1, (group_of q k (by omega) (by omega)).2]
  simp only [diffs_at f, f.P, ← EReal.coe_mul, coe_sum]
  exact congrArg _ (Finset.sum_congr rfl fun j _ => mul_comm _ _)

/-- The gate of a group. -/
theorem gate_of (n : Fin 8192) (q : Fin 4) (k : Fin 128) :
    val_main_v17 (F := Ideal) I.X I.G I.W (ix3 0 n (PoolArgs.col q k)) = ((PoolArgs.grp A q).g n.val k : EReal) :=
  (gate_at f n (PoolArgs.col q k)).trans
    (congrArg (fun j => (PoolArgs.proj A n.val j : EReal)) (Fin.ext (by dsimp only; omega)))

/-- The logistic of the gate. -/
theorem logistic_at (n : Fin 8192) (q : Fin 4) (k : Fin 128) :
    val_main_v111_2 (F := Ideal) I.X I.G I.W (ix3 0 n (PoolArgs.col q k)) = (PoolReal.sg ((PoolArgs.grp A q).g n.val k) : EReal) := by
  have e := gate_of f n q k
  pointwise [val_main_v111_2, val_main_call5_v4, val_main_call5_cst_0, val_main_call5_v3, val_main_call5_v2, val_main_call5_cst, val_main_call5_v1,
    val_main_call5_v0]
  rw [e]
  rw [← EReal.coe_neg, Ideal.exp_coe, ← EReal.coe_one, ← EReal.coe_add, coe_div _ _ (by positivity)]
  rfl

/-- The scaled product. -/
theorem scaled_at (n : Fin 8192) (q : Fin 4) (k : Fin 128) :
    val_main_v110 (F := Ideal) I.X I.G I.W I.P I.S (ix3 0 n (PoolArgs.col q k))
      = ((PoolReal.z (PoolArgs.grp A q) n.val k * (PoolArgs.grp A q).s k : ℝ) : EReal) := by
  have e := prods_at f n q k
  pointwise [val_main_v110, val_main_v109, val_main_v108]
  rw [e, f.s, ← EReal.coe_mul]
  rfl

/-- The gradient at the product, scaled. -/
theorem dz_at (n : Fin 8192) (q : Fin 4) (k : Fin 128) :
    val_main_v125 (F := Ideal) I.X I.G I.W I.S I.DY (ix3 0 n (PoolArgs.col q k)) = (PoolReal.dz (PoolArgs.grp A q) n.val k : EReal) := by
  have e := gate_of f n q k
  have l := logistic_at f n q k
  pointwise [val_main_v125, val_main_v119, val_main_v124, val_main_v117, val_main_v111_0, val_main_v108]
  rw [e, l, f.s, f.dy, ← EReal.coe_mul, ← EReal.coe_mul, ← EReal.coe_mul]
  rfl

/-- The gradient at the differences. -/
theorem dd_at (n : Fin 8192) (q : Fin 4) (k : Fin 128) :
    val_main_v130 (F := Ideal) I.X I.G I.W I.P I.S I.DY (ix4 0 n q k) = (PoolReal.dd (PoolArgs.grp A q) n.val k : EReal) := by
  pointwise [val_main_v130, val_main_v129, val_main_v128, val_main_v127]
  have e : ∀ x : Fin 128, (⟨q.val * 128 + x.val, by omega⟩ : Fin 512) = PoolArgs.col q x := fun x => Fin.ext (by dsimp only; omega)
  simp only [e, dz_at f, f.P, ← EReal.coe_mul, coe_sum]
  rfl

/-- A row's share of the scale's gradient. -/
theorem share_at (n : Fin 8192) (q : Fin 4) (k : Fin 128) :
    val_main_v121 (F := Ideal) I.X I.G I.W I.P I.DY (ix3 0 n (PoolArgs.col q k)) = (PoolReal.dps (PoolArgs.grp A q) n.val k : EReal) := by
  have e := gate_of f n q k
  have l := logistic_at f n q k
  have p := prods_at f n q k
  pointwise [val_main_v121, val_main_v119, val_main_v117, val_main_v111_0]
  rw [e, l, p, f.dy, ← EReal.coe_mul, ← EReal.coe_mul, ← EReal.coe_mul]
  exact congrArg _ (mul_comm _ _)

/-- The gradient at the gate. -/
theorem dgate_at (n : Fin 8192) (q : Fin 4) (k : Fin 128) :
    val_main_v120 (F := Ideal) I.X I.G I.W I.P I.S I.DY (ix3 0 n (PoolArgs.col q k)) = (PoolReal.dpg (PoolArgs.grp A q) n.val k : EReal) := by
  have e := gate_of f n q k
  have l := logistic_at f n q k
  have p := scaled_at f n q k
  pointwise [val_main_v120, val_main_call6_v0, val_main_call6_v1, val_main_call6_v2, val_main_v118, val_main_v117, val_main_v111_1, val_main_call5_v7,
    val_main_call5_v6, val_main_call5_cst_1]
  rw [e, l, p, f.dy]
  rw [← EReal.coe_one, ← EReal.coe_sub]
  simp only [← EReal.coe_mul, ← EReal.coe_add]
  congr 1
  show _ = A.dy n.val (PoolArgs.col q k) * (PoolReal.z (PoolArgs.grp A q) n.val k * (PoolArgs.grp A q).s k)
    * (PoolReal.sg ((PoolArgs.grp A q).g n.val k) * (1 + (PoolArgs.grp A q).g n.val k * (1 - PoolReal.sg ((PoolArgs.grp A q).g n.val k))))
  ring

end PoolRef

end
-- ==== Proof.PoolRefBack.lean ====
/-
  The reference's gradients at an index: the value columns, the gate's columns, the projection's gradient and the four
  results.
-/
module

public import proofs.«01_k».proof.Proof.PoolRef

@[expose] public section

set_option maxRecDepth 16384

noncomputable section

open Idealize.ShloMosaic Idealize.ShloMosaic.TcCoe Idealize.SL.Sem

namespace PoolRef

open Cert.PoolDwRefIdeal Cert.PoolDwRefIdeal.Gen Cert.PoolDwRefIdeal.Read RealOps

/-- What a row of the running sum gains, less what the rows a window later take off. -/
def gain (G : PoolReal.Grp) (n : ℕ) (k : Fin 128) : ℝ := PoolReal.e G n k - if n + G.w < 8192 then PoolReal.e G (n + G.w) k else 0

variable {I : Ins} {A : PoolArgs.Args} (f : Reads I A)

include f

omit f in
/-- The reading at a column is that at an equal one. -/
theorem at_col (N : ℕ) {C : ℕ} {α : Type} (v : (⟨3, ![1, N, C]⟩ : Shape).Idx → α) (r : Fin N) (i j : Fin C) (h : i.val = j.val) :
    v (ix3 0 r i) = v (ix3 0 r j) := by
  rw [Fin.ext h]

/-- The rows added back, for one group. -/
theorem spread_of (q : Fin 4) (k : Fin 128) (D : FVec Ideal S1x8192x128 .f32)
    (hD : ∀ n : Fin 8192, D (ix3 0 n k) = val_main_v130 (F := Ideal) I.X I.G I.W I.P I.S I.DY (ix4 0 n q k)) (n : Fin 8192) :
    PoolTake.spread (BitVec.ofNat 32 (2 ^ (q.val + 1))) D (ix3 0 ⟨n.val + 1, by omega⟩ k) = (gain (PoolArgs.grp A q) n.val k : EReal) :=
  PoolTake.spread_at (2 ^ (q.val + 1)) (by positivity) (by have := q.isLt; calc 2 ^ (q.val + 1) ≤ 2 ^ 4 := Nat.pow_le_pow_right (by decide) (by omega)
                                                                               _ = 16 := rfl) D k
    (fun i => PoolReal.dd (PoolArgs.grp A q) i k) (fun n => (hD n).trans (dd_at f n q k)) n

/-- The gradient at the first group's running sum, and at the others' below. -/
theorem gain_0 (n : Fin 8192) (k : Fin 128) :
    val_main_v180 (F := Ideal) I.X I.G I.W I.P I.S I.DY (ix3 0 ⟨n.val + 1, by omega⟩ k) = (gain (PoolArgs.grp A 0) n.val k : EReal) :=
  (congrFun (PoolTake.spread_0 I.X I.G I.W I.P I.S I.DY) _).trans (spread_of f 0 k _ (fun n => by pointwise [val_main_v134, val_main_v133]) n)

theorem gain_1 (n : Fin 8192) (k : Fin 128) :
    val_main_v169 (F := Ideal) I.X I.G I.W I.P I.S I.DY (ix3 0 ⟨n.val + 1, by omega⟩ k) = (gain (PoolArgs.grp A 1) n.val k : EReal) :=
  (congrFun (PoolTake.spread_1 I.X I.G I.W I.P I.S I.DY) _).trans (spread_of f 1 k _ (fun n => by pointwise [val_main_v136, val_main_v135]) n)

theorem gain_2 (n : Fin 8192) (k : Fin 128) :
    val_main_v158 (F := Ideal) I.X I.G I.W I.P I.S I.DY (ix3 0 ⟨n.val + 1, by omega⟩ k) = (gain (PoolArgs.grp A 2) n.val k : EReal) :=
  (congrFun (PoolTake.spread_2 I.X I.G I.W I.P I.S I.DY) _).trans (spread_of f 2 k _ (fun n => by pointwise [val_main_v138, val_main_v137]) n)

theorem gain_3 (n : Fin 8192) (k : Fin 128) :
    val_main_v148 (F := Ideal) I.X I.G I.W I.P I.S I.DY (ix3 0 ⟨n.val + 1, by omega⟩ k) = (gain (PoolArgs.grp A 3) n.val k : EReal) :=
  (congrFun (PoolTake.spread_3 I.X I.G I.W I.P I.S I.DY) _).trans (spread_of f 3 k _ (fun n => by pointwise [val_main_v140, val_main_v139]) n)

/-- The gradients at the four running sums side by side. -/
theorem gains_at (n : Fin 8192) (q : Fin 4) (k : Fin 128) :
    val_main_v182 (F := Ideal) I.X I.G I.W I.P I.S I.DY (ix3 0 ⟨n.val + 1, by omega⟩ (PoolArgs.col q k)) = (gain (PoolArgs.grp A q) n.val k : EReal) := by
  pointwise [val_main_v182, val_main_v181, val_main_v171, val_main_v170, val_main_v160, val_main_v159, val_main_v149, val_main_cst_24, val_main_cst_27,
    val_main_cst_30, val_main_cst_33]
  match q with
  | 0 =>
    rw [dif_neg (by show ¬(_ ∧ 384 ≤ 128 * 0 + k.val ∧ _); omega), dif_neg (by show ¬(_ ∧ 256 ≤ 128 * 0 + k.val ∧ _); omega),
      dif_neg (by show ¬(_ ∧ 128 ≤ 128 * 0 + k.val ∧ _); omega), dif_pos (by show _ ∧ 128 * 0 + k.val < 128; omega), zero_add, zero_add, zero_add]
    exact (at_col 8193 _ _ _ _ (by show 128 * 0 + k.val = k.val; omega)).trans (gain_0 f n k)
  | 1 =>
    rw [dif_neg (by show ¬(_ ∧ 384 ≤ 128 * 1 + k.val ∧ _); omega), dif_neg (by show ¬(_ ∧ 256 ≤ 128 * 1 + k.val ∧ _); omega),
      dif_pos (by show _ ∧ 128 ≤ 128 * 1 + k.val ∧ 128 * 1 + k.val - 128 < 128; omega), dif_neg (by show ¬(_ ∧ 128 * 1 + k.val < 128); omega),
      zero_add, zero_add, add_zero]
    exact (at_col 8193 _ _ _ _ (by show 128 * 1 + k.val - 128 = k.val; omega)).trans (gain_1 f n k)
  | 2 =>
    rw [dif_neg (by show ¬(_ ∧ 384 ≤ 128 * 2 + k.val ∧ _); omega),
      dif_pos (by show _ ∧ 256 ≤ 128 * 2 + k.val ∧ 128 * 2 + k.val - 256 < 128; omega),
      dif_neg (by show ¬(_ ∧ 128 ≤ 128 * 2 + k.val ∧ 128 * 2 + k.val - 128 < 128); omega), dif_neg (by show ¬(_ ∧ 128 * 2 + k.val < 128); omega),
      zero_add, add_zero, add_zero]
    exact (at_col 8193 _ _ _ _ (by show 128 * 2 + k.val - 256 = k.val; omega)).trans (gain_2 f n k)
  | 3 =>
    rw [dif_pos (by show _ ∧ 384 ≤ 128 * 3 + k.val ∧ 128 * 3 + k.val - 384 < 128; omega),
      dif_neg (by show ¬(_ ∧ 256 ≤ 128 * 3 + k.val ∧ 128 * 3 + k.val - 256 < 128); omega),
      dif_neg (by show ¬(_ ∧ 128 ≤ 128 * 3 + k.val ∧ 128 * 3 + k.val - 128 < 128); omega), dif_neg (by show ¬(_ ∧ 128 * 3 + k.val < 128); omega),
      add_zero, add_zero, add_zero]
    exact (at_col 8193 _ _ _ _ (by show 128 * 3 + k.val - 384 = k.val; omega)).trans (gain_3 f n k)

/-- The differences' gradients, taken off. -/
theorem off_at (n : Fin 8192) (q : Fin 4) (k : Fin 128) :
    val_main_v174 (F := Ideal) I.X I.G I.W I.P I.S I.DY (ix3 0 n (PoolArgs.col q k)) = ((-PoolReal.dd (PoolArgs.grp A q) n.val k : ℝ) : EReal) := by
  pointwise [val_main_v174, val_main_v173, val_main_v172, val_main_v163, val_main_v162, val_main_v161, val_main_v152, val_main_v151, val_main_v150,
    val_main_v142, val_main_v141, val_main_v133, val_main_v134, val_main_v135, val_main_v136, val_main_v137, val_main_v138, val_main_v139,
    val_main_v140, val_main_cst_22, val_main_cst_25, val_main_cst_28, val_main_cst_31]
  have e := fun (r : Fin 4) {i : Fin 128} (h : i = k) => congrArg (fun z : EReal => -z) ((congrArg (fun j => val_main_v130 (F := Ideal) I.X I.G I.W I.P I.S I.DY (ix4 0 n r j)) h).trans (dd_at f n r k))
  match q with
  | 0 =>
    rw [dif_neg (by show ¬(384 ≤ 128 * 0 + k.val ∧ _); omega), dif_neg (by show ¬(256 ≤ 128 * 0 + k.val ∧ _); omega),
      dif_neg (by show ¬(128 ≤ 128 * 0 + k.val ∧ _); omega), dif_pos (by show 128 * 0 + k.val < 128; omega), zero_add, zero_add, zero_add]
    exact e 0 (Fin.ext (by show 128 * 0 + k.val = k.val; omega))
  | 1 =>
    rw [dif_neg (by show ¬(384 ≤ 128 * 1 + k.val ∧ _); omega), dif_neg (by show ¬(256 ≤ 128 * 1 + k.val ∧ _); omega),
      dif_pos (by show 128 ≤ 128 * 1 + k.val ∧ 128 * 1 + k.val - 128 < 128; omega), dif_neg (by show ¬(128 * 1 + k.val < 128); omega),
      zero_add, zero_add, add_zero]
    exact e 1 (Fin.ext (by show 128 * 1 + k.val - 128 = k.val; omega))
  | 2 =>
    rw [dif_neg (by show ¬(384 ≤ 128 * 2 + k.val ∧ _); omega),
      dif_pos (by show 256 ≤ 128 * 2 + k.val ∧ 128 * 2 + k.val - 256 < 128; omega),
      dif_neg (by show ¬(128 ≤ 128 * 2 + k.val ∧ 128 * 2 + k.val - 128 < 128); omega), dif_neg (by show ¬(128 * 2 + k.val < 128); omega),
      zero_add, add_zero, add_zero]
    exact e 2 (Fin.ext (by show 128 * 2 + k.val - 256 = k.val; omega))
  | 3 =>
    rw [dif_pos (by show 384 ≤ 128 * 3 + k.val ∧ 128 * 3 + k.val - 384 < 128; omega),
      dif_neg (by show ¬(256 ≤ 128 * 3 + k.val ∧ 128 * 3 + k.val - 256 < 128); omega),
      dif_neg (by show ¬(128 ≤ 128 * 3 + k.val ∧ 128 * 3 + k.val - 128 < 128); omega), dif_neg (by show ¬(128 * 3 + k.val < 128); omega),
      add_zero, add_zero, add_zero]
    exact e 3 (Fin.ext (by show 128 * 3 + k.val - 384 = k.val; omega))

/-- The gradient at the value columns. -/
theorem dval_at (n : Fin 8192) (q : Fin 4) (k : Fin 128) :
    val_main_v186 (F := Ideal) I.X I.G I.W I.P I.S I.DY (ix3 0 n (PoolArgs.col q k)) = (PoolReal.dpv (PoolArgs.grp A q) n.val k : EReal) := by
  have e := off_at f n q k
  have b : val_main_v185 (F := Ideal) I.X I.G I.W I.P I.S I.DY (ix3 0 n (PoolArgs.col q k))
      = ((PoolReal.fwd (PoolArgs.grp A q).w (fun i => PoolReal.e (PoolArgs.grp A q) i k) n.val : ℝ) : EReal) := by
    refine (PoolScan.backward_at 8191 (val_main_v184 (F := Ideal) I.X I.G I.W I.P I.S I.DY) _ _ _
      (by pointwise [val_main_call11_call0_v0, val_main_call11_call0_cst]) (PoolArgs.col q k)
      (fun i => (gain (PoolArgs.grp A q) i k : EReal)) (fun i => ?_) n).trans ?_
    · have g := gains_at f i q k
      pointwise [val_main_v184]
      refine Eq.trans ?_ g
      exact congrArg (fun r => val_main_v182 (F := Ideal) I.X I.G I.W I.P I.S I.DY (ix3 0 r (PoolArgs.col q k))) (Fin.ext (Nat.add_comm _ _))
    · rw [coe_sum, ← PoolReal.telescope _ _ n.isLt]
      rfl
  pointwise [val_main_v186]
  rw [e, b, ← EReal.coe_add]
  exact congrArg Real.toEReal (by unfold PoolReal.dpv; ring)

/-- The value columns' gradient and the gate's, at a column of the pooled half. -/
theorem dval_col (n : Fin 8192) (k : Fin 1024) (h : k.val < 512) :
    val_main_v186 (F := Ideal) I.X I.G I.W I.P I.S I.DY (ix3 0 n ⟨k.val, h⟩) = (PoolArgs.dpool A n.val k : EReal) := by
  unfold PoolArgs.dpool
  rw [if_pos h, ← dval_at f n (PoolArgs.grpOf k) (PoolArgs.inGrp k)]
  exact at_col _ _ _ _ _ (by show k.val = 128 * (k.val % 512 / 128) + k.val % 128; omega)

theorem dgate_col (n : Fin 8192) (k : Fin 1024) (h : 512 ≤ k.val) :
    val_main_v120 (F := Ideal) I.X I.G I.W I.P I.S I.DY (ix3 0 n ⟨k.val - 512, by omega⟩) = (PoolArgs.dpool A n.val k : EReal) := by
  unfold PoolArgs.dpool
  rw [if_neg (by omega), ← dgate_at f n (PoolArgs.grpOf k) (PoolArgs.inGrp k)]
  exact at_col _ _ _ _ _ (by show k.val - 512 = 128 * (k.val % 512 / 128) + k.val % 128; omega)

/-- A column of the pooled half as a group's. -/
theorem dproj_at (n : Fin 8192) (k : Fin 3072) :
    val_main_v192 (F := Ideal) I.X I.G I.W I.P I.S I.DY I.DQ I.DK I.DV I.DA (ix2 n k) = PoolArgs.dproj A n.val k := by
  pointwise [val_main_v192, val_main_v191, val_main_v190, val_main_v189, val_main_v188, val_main_v187, val_main_v116, val_main_v115, val_main_cst_19,
    val_main_cst_34, val_main_cst_35, val_main_cst_36, val_main_cst_37]
  unfold PoolArgs.dproj
  by_cases h0 : k.val < 1024
  · rw [dif_neg (by omega), zero_add, dif_pos h0]
    by_cases h1 : k.val < 512
    · rw [dif_neg (by omega), zero_add, dif_pos h1, Fintype.sum_unique]
      exact dval_col f n ⟨k.val, h0⟩ h1
    · rw [dif_pos (by omega), dif_neg h1, add_zero, Fintype.sum_unique]
      exact dgate_col f n ⟨k.val, h0⟩ (by show 512 ≤ k.val; omega)
  · rw [dif_pos (by omega), dif_neg (show ¬(512 ≤ k.val ∧ k.val - 512 < 512) by omega), dif_neg (show ¬k.val < 512 by omega), add_zero, add_zero,
      dif_neg h0]
    by_cases h1 : k.val < 1536
    · rw [dif_pos (by omega), if_pos h1, f.dq]
      exact congrArg _ (Fin.ext (by dsimp only; omega))
    by_cases h2 : k.val < 2048
    · rw [dif_neg (by omega), dif_pos (by omega), if_neg h1, if_pos h2, f.dk]
      exact congrArg _ (Fin.ext (by dsimp only; omega))
    by_cases h3 : k.val < 2560
    · rw [dif_neg (by omega), dif_neg (by omega), dif_pos (by omega), if_neg h1, if_neg h2, if_pos h3, f.dv]
      exact congrArg _ (Fin.ext (by dsimp only; omega))
    · rw [dif_neg (by omega), dif_neg (by omega), dif_neg (by omega), if_neg h1, if_neg h2, if_neg h3, f.dag]
      exact congrArg _ (Fin.ext (by dsimp only; omega))

theorem result_dw (b : Fin 8) (j : Fin 1024) (k : Fin 384) :
    val_main_v197 (F := Ideal) I.X I.G I.W I.P I.S I.DY I.DQ I.DK I.DV I.DA (ix3 b j k)
      = PoolArgs.dw A 8192 j ⟨384 * b.val + k.val, by omega⟩ := by
  pointwise [val_main_v197, val_main_v196, val_main_v195, val_main_v194, val_main_v193]
  unfold PoolArgs.dw
  rw [sum_range_fin 8192 (fun n => (PoolArgs.h A n j : EReal) * PoolArgs.dproj A n ⟨384 * b.val + k.val, by omega⟩)]
  refine Finset.sum_congr rfl fun n _ => ?_
  rw [dproj_at f, normed f, mul_comm]
  exact congrArg (fun r => (PoolArgs.h A n.val j : EReal) * PoolArgs.dproj A n.val r) (Fin.ext (by dsimp only; omega))

theorem result_pool (n : Fin 8192) (k : Fin 1024) :
    val_main_v199 (F := Ideal) I.X I.G I.W I.P I.S I.DY I.DQ I.DK I.DV I.DA (ix2 n k) = (PoolArgs.dpool A n.val k : EReal) := by
  pointwise [val_main_v199, val_main_v198]
  refine (dproj_at f n _).trans ?_
  unfold PoolArgs.dproj
  rw [dif_pos (by exact k.isLt)]

theorem result_pw (q : Fin 4) (j k : Fin 128) :
    val_main_v132 (F := Ideal) I.X I.G I.W I.S I.DY (ix3 q j k) = PoolArgs.dpw A 8192 q j k := by
  pointwise [val_main_v132, val_main_v131, val_main_v128, val_main_v127]
  rw [Fintype.sum_unique]
  unfold PoolArgs.dpw
  rw [sum_range_fin 8192 (fun n => ((PoolReal.d (PoolArgs.grp A q) n j * PoolReal.dz (PoolArgs.grp A q) n k : ℝ) : EReal))]
  refine Finset.sum_congr rfl fun n _ => ?_
  rw [EReal.coe_mul, ← dz_at f n q k, ← diffs_at f n q j, mul_comm]
  exact congrArg (fun z => val_main_v104 (F := Ideal) I.X I.G I.W (ix4 0 n q j) * z) (at_col _ _ _ _ _ (by dsimp only; omega))

omit f in
/-- A sum over two unit axes. -/
theorem units (h : S1x1x512.ReducesTo [0, 1] S512) (x : S1x1x512.Idx → EReal) (z : EReal) (k : Fin 512) :
    Ideal.hostReduceAdd h x z (ix1 k) = z + x (ix3 0 0 k) := by
  unfold Ideal.hostReduceAdd
  congr 1
  have e : ∀ i : S1x1x512.Idx, (h.drop i 0).val = (i 2).val := fun i => h.drop_apply_val_of_eq i 0 2 (by decide +kernel)
  refine Finset.sum_eq_single_of_mem (ix3 0 0 k) (Finset.mem_filter.2 ⟨Finset.mem_univ _, ?_⟩) fun i hi hn => (hn ?_).elim
  · rw [eq_ix1 (h.drop _)]
    exact congrArg ix1 (Fin.ext (e _))
  · have g := (Finset.mem_filter.1 hi).2
    rw [eq_ix3 i]
    have a : i 2 = k := Fin.ext ((e i).symm.trans (congrArg (fun t : S512.Idx => (t 0).val) g))
    exact congr (congr (congrArg ix3 (Subsingleton.elim (α := Fin 1) _ _)) (Subsingleton.elim (α := Fin 1) _ _)) a

theorem result_ps (k : Fin 512) :
    val_main_v200 (F := Ideal) I.X I.G I.W I.P I.DY (ix2 0 k) = PoolArgs.dps A 8192 ⟨k.val / 128, by omega⟩ ⟨k.val % 128, by omega⟩ := by
  have a : val_main_v122 (F := Ideal) I.X I.G I.W I.P I.DY (ix2 0 k) = PoolArgs.dps A 8192 ⟨k.val / 128, by omega⟩ ⟨k.val % 128, by omega⟩ := by
    pointwise [val_main_v122, val_main_cst_20]
    unfold PoolArgs.dps
    rw [sum_range_fin 8192 (fun n => (PoolReal.dps (PoolArgs.grp A ⟨k.val / 128, by omega⟩) n ⟨k.val % 128, by omega⟩ : EReal))]
    refine Finset.sum_congr rfl fun n _ => ?_
    rw [← share_at f]
    exact at_col _ _ _ _ _ (by show k.val = 128 * (k.val / 128) + k.val % 128; omega)
  have b : val_main_v126 (F := Ideal) I.X I.G I.W I.P I.DY (ix1 k) = val_main_v123 (F := Ideal) I.X I.G I.W I.P I.DY (ix3 0 0 k) := by
    refine (units _ _ _ k).trans ?_
    rw [show val_main_cst_21 (F := Ideal) _ = (0 : EReal) by pointwise [val_main_cst_21], zero_add]
  refine Eq.trans ?_ a
  pointwise [val_main_v200]
  rw [b]
  pointwise [val_main_v123]

end PoolRef

end
-- ==== Proof.PoolClaim.lean ====
/-
  The four results of the pooling's gradient kernel are the reference's, for arguments that meet the stated precondition.
-/
module

public import proofs.«01_k».proof.Proof.PoolRun
public import proofs.«01_k».proof.Proof.PoolRefBack
public import proofs.«01_k».proof.Proof.Gen.Pre_pool_dw_finite
public import Idealize.ShloMosaic.Lib.ReduceAll

@[expose] public section

set_option maxRecDepth 16384

noncomputable section

open Idealize.ShloMosaic Idealize.ShloMosaic.TcCoe Idealize.SL.Sem

namespace PoolClaim

open Cert.PoolDwIdeal Cert.PoolDwIdeal.Gen RealOps PoolFold Cert.PoolDwRefIdeal.Read

variable (m : (ℓ : Loc nD τ sig) → Buf (Elt Ideal) ℓ) (c : Dev nD)

/-- The precondition, read: the gain, the pooled columns of the weight, the groups' weights, the scale and the pooled
    half's gradient hold real numbers. -/
theorem finite_of_pre
    (h : Cert.Pre_pool_dw_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) = fun _ => 1#1) : Finite m c := by
  unfold Cert.Pre_pool_dw_finite.fn Cert.Pre_pool_dw_finite.fn_part1 at h
  have h0 := congrFun h ix0
  obtain ⟨h1, h2⟩ := (and_one _ _).mp h0
  obtain ⟨h3, h4⟩ := (and_one _ _).mp h1
  obtain ⟨h5, h6⟩ := (and_one _ _).mp h3
  obtain ⟨h7, h8⟩ := (and_one _ _).mp h5
  refine ⟨fun i => real_of_abs_lt _ (Host.reduce_andi_all _ _ _ _ _ h7 i), fun j k => ?_,
    fun i => real_of_abs_lt _ (Host.reduce_andi_all _ _ _ _ _ h6 i), fun i => real_of_abs_lt _ (Host.reduce_andi_all _ _ _ _ _ h4 i),
    fun i => real_of_abs_lt _ (Host.reduce_andi_all _ _ _ _ _ h2 i)⟩
  have e := real_of_abs_lt _ (Host.reduce_andi_all _ _ _ _ _ h8 (ix2 j k))
  pointwise at e
  exact e

/-- The reference's arguments. -/
abbrev ins : PoolRef.Ins :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9)⟩

variable (f : Finite m c)

include f

theorem reads : PoolRef.Reads (ins m c) (args m c) where
  x n k := congrArg (fun i => m ((c : Thread nD τ).loc main_arg0) (ix2 i k)) (at_of_lt n.val n.isLt).symm
  gain k := f.gain (ix1 k)
  w j k := f.w j k
  P q j k := f.P (ix3 q j k)
  s k := f.s (ix1 k)
  dy n k := (f.dy _).trans (congrArg (fun i => ((m ((c : Thread nD τ).loc main_arg5) (ix2 i k) : EReal).toReal : EReal)) (at_of_lt n.val n.isLt).symm)
  dq n k := congrArg (fun i => m ((c : Thread nD τ).loc main_arg6) (ix2 i k)) (at_of_lt n.val n.isLt).symm
  dk n k := congrArg (fun i => m ((c : Thread nD τ).loc main_arg7) (ix2 i k)) (at_of_lt n.val n.isLt).symm
  dv n k := congrArg (fun i => m ((c : Thread nD τ).loc main_arg8) (ix2 i k)) (at_of_lt n.val n.isLt).symm
  dag n k := congrArg (fun i => m ((c : Thread nD τ).loc main_arg9) (ix2 i k)) (at_of_lt n.val n.isLt).symm

theorem dw_eq : resDw (args m c) = val_main_v197 (F := Ideal) (ins m c).X (ins m c).G (ins m c).W (ins m c).P (ins m c).S (ins m c).DY
    (ins m c).DQ (ins m c).DK (ins m c).DV (ins m c).DA := by
  funext i
  idx_vars i
  exact (PoolRef.result_dw (reads m c f) _ _ _).symm

theorem pool_eq : resPool (args m c) = val_main_v199 (F := Ideal) (ins m c).X (ins m c).G (ins m c).W (ins m c).P (ins m c).S (ins m c).DY
    (ins m c).DQ (ins m c).DK (ins m c).DV (ins m c).DA := by
  funext i
  idx_vars i
  exact (PoolRef.result_pool (reads m c f) _ _).symm

theorem pw_eq : resPw (args m c) = val_main_v132 (F := Ideal) (ins m c).X (ins m c).G (ins m c).W (ins m c).S (ins m c).DY := by
  funext i
  idx_vars i
  exact (PoolRef.result_pw (reads m c f) _ _ _).symm

theorem ps_eq : resPs (args m c) = val_main_v200 (F := Ideal) (ins m c).X (ins m c).G (ins m c).W (ins m c).P (ins m c).DY := by
  funext i
  idx_vars i
  obtain rfl : i0 = 0 := Subsingleton.elim _ _
  exact (PoolRef.result_ps (reads m c f) _).symm

end PoolClaim

end
-- ==== Proof.NormRing.lean ====
/- The two streams of the kernel that finishes the backward of the normalised projection. `x` and the cotangent stay in
   memory; block `b` of each (512 rows) is brought into slot `b mod 3` of a three-slot buffer, two blocks ahead of the
   point that uses it. One description serves both: it is stated over the buffer, the array and the row of semaphores. -/
module

public import proofs.«01_k».proof.Proof.Gen.NormDxIdeal.Frame
public import proofs.«01_k».proof.Proof.Gen.NormDxIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace NormDx

open Cert.NormDxIdeal Cert.NormDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UD sig nD τ) ℕ

/-! ## The points -/

instance points_pos : NeZero grid0.N := ⟨by rw [N_0]; decide⟩

/-- The first point: it starts the first two blocks of each stream and brings the weight in. -/
abbrev first (t : Fin grid0.N) : Prop := k0_cond1 (grid0.coords t) = 1#1
/-- The points that start a block two ahead. -/
abbrev ahead (t : Fin grid0.N) : Prop := k0_cond2 (grid0.coords t) = 1#1

theorem first_iff : ∀ t : Fin grid0.N, first t ↔ t.val = 0 := by decide +kernel
theorem ahead_iff : ∀ t : Fin grid0.N, ahead t ↔ t.val < 14 := by decide +kernel
theorem points (t : Fin grid0.N) : t.val < 16 := Nat.lt_of_lt_of_eq t.isLt N_0

/-! ## Slots, blocks and semaphores -/

section Stream

variable (S : Memref sig .tc .vmem S3x512x1024 .f32) (H : Memref sig .tc .hbm S8192x1024 .f32) (r : Fin 2)

theorem slot_in (s : Fin 3) : ∀ a, (![s.val, 0, 0] : Fin 3 → Nat) a + S1x512x1024.size a ≤ S3x512x1024.size a := by
  intro a; have := s.isLt; fin_cases a <;> simp <;> omega
theorem block_in (b : Fin 16) : ∀ a, (![512 * b.val, 0] : Fin 2 → Nat) a + S512x1024.size a ≤ S8192x1024.size a := by
  intro a; have := b.isLt; fin_cases a <;> simp <;> omega
theorem sem_in (r : Fin 2) (s : Fin 3) : ∀ a, (![r.val, s.val] : Fin 2 → Nat) a + S1x1.size a ≤ S2x3.size a := by
  intro a; have := s.isLt; have := r.isLt; fin_cases a <;> simp <;> omega

/-- Slot `s` of the buffer. -/
def slot (s : Fin 3) : Memref sig .tc .vmem S512x1024 .f32 :=
  (S.slice (Rect.unit (s := S3x512x1024) ![s.val, 0, 0] S1x512x1024.size (slot_in s)) (fun _ => rfl)).squeeze S512x1024 squeezes_S1x512x1024_S512x1024
/-- Block `b` of the array: rows `512 b` and after. -/
def block (b : Fin 16) : Memref sig .tc .hbm S512x1024 .f32 :=
  H.slice (Rect.unit (s := S8192x1024) ![512 * b.val, 0] S512x1024.size (block_in b)) (fun _ => rfl)
/-- The semaphore of slot `s`, in row `r`. -/
def sem (s : Fin 3) : DmaSems sig S_ :=
  (cc0_scratch4.slice (Rect.unit (s := S2x3) ![r.val, s.val] S1x1.size (sem_in r s))).squeeze S_ squeezes_S1x1_S_

/-- Each slot borrows from the array by a share of its own. -/
abbrev part (s : Fin 3) : PosShare TreeShare :=
  if s.val = 0 then fullShare.left else if s.val = 1 then fullShare.right.left else fullShare.right.right

variable (c : Dev nD) (W : Buf (Elt F) (H.view.loc (c : Thread nD τ)))

abbrev slotAt (s : Fin 3) (f : Buf (Elt F) ((slot S s).view.loc (c : Thread nD τ))) : sProp 𝕄 :=
  (slot S s).view.loc (c : Thread nD τ) ↦[(slot S s).view.set]{fullShare} f
abbrev semAt (s : Fin 3) : sProp 𝕄 := semVal ((c : Thread nD τ), SemLoc.dma (sem r s).sem) 0
abbrev lent (s : Fin 3) (b : Fin 16) : sProp 𝕄 :=
  (block H b).view.loc (c : Thread nD τ) ↦[(block H b).view.set]{part s} W
/-- What slot `s`'s share of the array keeps while block `b` is lent. -/
def kept (s : Fin 3) (b : Fin 16) : sProp 𝕄 :=
  H.view.loc (c : Thread nD τ) ↦[Finset.univ \ (block H b).view.set]{part s} W
/-- Slot `s`'s share of the array. -/
def shared (s : Fin 3) : sProp 𝕄 := H.view.loc (c : Thread nD τ) ↦[Finset.univ]{part s} W

theorem shared_split (s : Fin 3) (b : Fin 16) : shared (F := F) H c W s ⊣⊢ iprop(lent H c W s b ∗ kept H c W s b) := by
  unfold shared kept; exact pointsTo_split_subset (Finset.subset_univ _)

/-- The array is its three shares. -/
theorem shared_all : (H.view.loc (c : Thread nD τ) ↦{fullShare} W : sProp 𝕄)
    ⊣⊢ iprop(shared H c W 0 ∗ shared H c W 1 ∗ shared H c W 2) := by
  unfold shared
  constructor
  · iintro A
    ihave B := (pointsTo_share (PosShare.mem_left_op_right fullShare)).1 $$ A
    icases B with ⟨A, B⟩
    ihave C := (pointsTo_share (PosShare.mem_left_op_right fullShare.right)).1 $$ B
    icases C with ⟨B, C⟩
    isplitl [A]; · iexact A
    isplitl [B]; · iexact B
    iexact C
  · iintro ⟨A, B, C⟩
    iapply (pointsTo_share (PosShare.mem_left_op_right fullShare)).2
    isplitl [A]; · iexact A
    iapply (pointsTo_share (PosShare.mem_left_op_right fullShare.right)).2
    isplitl [B]; · iexact B
    iexact C

/-- Block `b` on its way into slot `s`, over what the slot held. -/
abbrev flying (s : Fin 3) (b : Fin 16) (f : Buf (Elt F) ((slot S s).view.loc (c : Thread nD τ))) : sProp 𝕄 :=
  Transfers.Flight countersEmb (c : Thread nD τ) (SemLoc.dma (sem r s).sem) default ((slot S s).view.amount (SemLoc.dma (sem r s).sem))
    iprop(slotAt S c s ((slot S s).view.writes (Elt F) f [⟨Rect.whole S512x1024, ReadAs.same.apply ((block H b).view.read (Elt F) W)⟩]) ∗ lent H c W s b)

/-- Slot `s` idle: its semaphore at zero, the slot at anything, its share of the array whole. -/
def idle (s : Fin 3) : sProp 𝕄 := iprop(semAt r c s ∗ (∃ f, slotAt S c s f) ∗ shared H c W s)
/-- Slot `s` awaiting block `b`. -/
def awaits (s : Fin 3) (b : Fin 16) : sProp 𝕄 := iprop((∃ f, flying S H r c W s b f) ∗ kept H c W s b)

/-- What the slot of block `k + j` does before point `k`: from point 1 on, blocks `k` and `k + 1` are on their way. -/
def role (k j : ℕ) : sProp 𝕄 :=
  if j < 2 ∧ k + j < 16 ∧ 1 ≤ k then awaits S H r c W (sl 3 (k + j)) (bk 16 (k + j)) else idle S H r c W (sl 3 (k + j))
/-- The stream before point `k`. -/
def stream (k : ℕ) : sProp 𝕄 := iprop(role S H r c W k 0 ∗ role S H r c W k 1 ∗ role S H r c W k 2)

theorem role_on {k j : ℕ} (h : j < 2 ∧ k + j < 16 ∧ 1 ≤ k) :
    role (F := F) S H r c W k j = awaits S H r c W (sl 3 (k + j)) (bk 16 (k + j)) := if_pos h
theorem role_off {k j : ℕ} (h : ¬(j < 2 ∧ k + j < 16 ∧ 1 ≤ k)) :
    role (F := F) S H r c W k j = idle S H r c W (sl 3 (k + j)) := if_neg h

theorem stream_first {k : ℕ} (h : k = 0) : stream (F := F) S H r c W k
    = iprop(idle S H r c W (sl 3 k) ∗ idle S H r c W (sl 3 (k + 1)) ∗ idle S H r c W (sl 3 (k + 2))) := by
  unfold stream; rw [role_off _ _ _ _ _ (by omega), role_off _ _ _ _ _ (by omega), role_off _ _ _ _ _ (by omega)]; rfl
theorem stream_here {k : ℕ} (h : 1 ≤ k) (h' : k + 2 < 16) : stream (F := F) S H r c W k
    = iprop(awaits S H r c W (sl 3 k) (bk 16 k) ∗ awaits S H r c W (sl 3 (k + 1)) (bk 16 (k + 1)) ∗ idle S H r c W (sl 3 (k + 2))) := by
  unfold stream; rw [role_on _ _ _ _ _ (by omega), role_on _ _ _ _ _ (by omega), role_off _ _ _ _ _ (by omega)]; rfl
theorem stream_next {k : ℕ} (h' : k + 2 < 16) : stream (F := F) S H r c W (k + 1)
    = iprop(awaits S H r c W (sl 3 (k + 1)) (bk 16 (k + 1)) ∗ awaits S H r c W (sl 3 (k + 2)) (bk 16 (k + 2)) ∗ idle S H r c W (sl 3 k)) := by
  unfold stream; rw [role_on _ _ _ _ _ (by omega), role_on _ _ _ _ _ (by omega), role_off _ _ _ _ _ (by omega),
    show k + 1 + 2 = k + 3 from rfl, Ring.sl_add]
theorem stream_end {k : ℕ} (h : 1 ≤ k) (h' : k < 16) : stream (F := F) S H r c W k
    = iprop(awaits S H r c W (sl 3 k) (bk 16 k) ∗ role S H r c W k 1 ∗ idle S H r c W (sl 3 (k + 2))) := by
  unfold stream; rw [role_on _ _ _ _ _ (by omega), role_off (j := 2) _ _ _ _ _ (by omega)]; rfl
theorem stream_end_next {k : ℕ} (h : 1 ≤ k) (h' : 16 ≤ k + 2) : stream (F := F) S H r c W (k + 1)
    = iprop(role S H r c W k 1 ∗ idle S H r c W (sl 3 (k + 2)) ∗ idle S H r c W (sl 3 k)) := by
  have e : role (F := F) S H r c W (k + 1) 0 = role S H r c W k 1 := by
    unfold role
    by_cases h1 : k + 1 < 16
    · rw [if_pos (by omega), if_pos (by omega)]
    · rw [if_neg (by omega), if_neg (by omega)]
  unfold stream; rw [e, role_off (k := k + 1) (j := 1) _ _ _ _ _ (by omega), role_off (k := k + 1) (j := 2) _ _ _ _ _ (by omega),
    show k + 1 + 2 = k + 3 from rfl, Ring.sl_add]

theorem stream_zero : stream (F := F) S H r c W 0 = iprop(idle S H r c W 0 ∗ idle S H r c W 1 ∗ idle S H r c W 2) :=
  stream_first S H r c W rfl
theorem stream_last : stream (F := F) S H r c W 16 = iprop(idle S H r c W 1 ∗ idle S H r c W 2 ∗ idle S H r c W 0) := by
  unfold stream; rw [role_off _ _ _ _ _ (by omega), role_off _ _ _ _ _ (by omega), role_off _ _ _ _ _ (by omega)]; rfl

/-- The slots are the whole buffer. -/
theorem slots_apart (s s' : Fin 3) (h : s ≠ s') : Disjoint
    (Rect.unit (s := S3x512x1024) ![s.val, 0, 0] S1x512x1024.size (slot_in s)).set (Rect.unit (s := S3x512x1024) ![s'.val, 0, 0] S1x512x1024.size (slot_in s')).set :=
  Ring.lead_disjoint (s := S3x512x1024) (0 : Fin 3) 1 (fun s : Fin 3 => (![s.val, 0, 0] : Fin 3 → Nat)) S1x512x1024.size slot_in (fun s => by simp) rfl s s' h
theorem slots_all : Finset.univ.biUnion (fun s : Fin 3 => (Rect.unit (s := S3x512x1024) ![s.val, 0, 0] S1x512x1024.size (slot_in s)).set) = Finset.univ :=
  Ring.lead_cover (s := S3x512x1024) (0 : Fin 3) 1 (fun s : Fin 3 => (![s.val, 0, 0] : Fin 3 → Nat)) S1x512x1024.size slot_in (fun s => by simp)
    (fun s a ha => by fin_cases a <;> first | exact absurd rfl ha | rfl) rfl (fun a ha => by fin_cases a <;> first | exact absurd rfl ha | rfl) rfl

/-! ## The kernel's spellings of slots, blocks and semaphores -/

set_option synthInstance.maxSize 4096

theorem at_slot2 : ∀ t : Fin grid0.N, k0_off2 (grid0.coords t) = ![(sl 3 (t.val + 2)).val, 0, 0] := by decide +kernel
theorem at_slot0 : ∀ t : Fin grid0.N, k0_off6 (grid0.coords t) = ![(sl 3 t.val).val, 0, 0] := by decide +kernel
theorem at_load : ∀ t : Fin grid0.N, k0_off9 (grid0.coords t) = ![(sl 3 t.val).val, 0, 0] := by decide +kernel
theorem at_block2 : ∀ t : Fin grid0.N, ahead t → k0_off3 (grid0.coords t) = ![512 * (bk 16 (t.val + 2)).val, 0] := by decide +kernel
theorem at_sem20 : ∀ t : Fin grid0.N, k0_off1 (grid0.coords t) = ![(0 : Fin 2).val, (sl 3 (t.val + 2)).val] := by decide +kernel
theorem at_sem21 : ∀ t : Fin grid0.N, k0_off4 (grid0.coords t) = ![(1 : Fin 2).val, (sl 3 (t.val + 2)).val] := by decide +kernel
theorem at_sem00 : ∀ t : Fin grid0.N, k0_off5 (grid0.coords t) = ![(0 : Fin 2).val, (sl 3 t.val).val] := by decide +kernel
theorem at_sem01 : ∀ t : Fin grid0.N, k0_off8 (grid0.coords t) = ![(1 : Fin 2).val, (sl 3 t.val).val] := by decide +kernel

theorem slot_of {o : Fin 3 → Nat} {s : Fin 3} (h : o = ![s.val, 0, 0]) (ho) :
    (S.slice (Rect.unit (s := S3x512x1024) o S1x512x1024.size ho) (fun _ => rfl)).squeeze S512x1024 squeezes_S1x512x1024_S512x1024 = slot S s := by
  subst h; rfl
theorem block_of {o : Fin 2 → Nat} {b : Fin 16} (h : o = ![512 * b.val, 0]) (ho) :
    H.slice (Rect.unit (s := S8192x1024) o S512x1024.size ho) (fun _ => rfl) = block H b := by
  subst h; rfl
theorem sem_of {o : Fin 2 → Nat} {r : Fin 2} {s : Fin 3} (h : o = ![r.val, s.val]) (ho) :
    (cc0_scratch4.slice (Rect.unit (s := S2x3) o S1x1.size ho)).squeeze S_ squeezes_S1x1_S_ = sem r s := by
  subst h; rfl

@[sl_canon] theorem slot_two (t : Fin grid0.N) (h : ahead t) :
    (S.slice (Rect.unit (s := S3x512x1024) (k0_off2 (grid0.coords t)) S1x512x1024.size (k0_off2_inb (grid0.coords t) h)) (fun _ => rfl)).squeeze S512x1024 squeezes_S1x512x1024_S512x1024 = slot S (sl 3 (t.val + 2)) :=
  slot_of S (at_slot2 t) _
@[sl_canon] theorem slot_now (t : Fin grid0.N) :
    (S.slice (Rect.unit (s := S3x512x1024) (k0_off6 (grid0.coords t)) S1x512x1024.size (k0_off6_inb (grid0.coords t))) (fun _ => rfl)).squeeze S512x1024 squeezes_S1x512x1024_S512x1024 = slot S (sl 3 t.val) :=
  slot_of S (at_slot0 t) _
@[sl_canon] theorem block_two (t : Fin grid0.N) (h : ahead t) :
    H.slice (Rect.unit (s := S8192x1024) (k0_off3 (grid0.coords t)) S512x1024.size (k0_off3_inb (grid0.coords t) h)) (fun _ => rfl) = block H (bk 16 (t.val + 2)) :=
  block_of H (at_block2 t h) _
@[sl_canon] theorem sem_two0 (t : Fin grid0.N) (h : ahead t) :
    (cc0_scratch4.slice (Rect.unit (s := S2x3) (k0_off1 (grid0.coords t)) S1x1.size (k0_off1_inb (grid0.coords t) h))).squeeze S_ squeezes_S1x1_S_ = sem 0 (sl 3 (t.val + 2)) :=
  sem_of (at_sem20 t) _
@[sl_canon] theorem sem_two1 (t : Fin grid0.N) (h : ahead t) :
    (cc0_scratch4.slice (Rect.unit (s := S2x3) (k0_off4 (grid0.coords t)) S1x1.size (k0_off4_inb (grid0.coords t) h))).squeeze S_ squeezes_S1x1_S_ = sem 1 (sl 3 (t.val + 2)) :=
  sem_of (at_sem21 t) _
@[sl_canon] theorem sem_now0 (t : Fin grid0.N) :
    (cc0_scratch4.slice (Rect.unit (s := S2x3) (k0_off5 (grid0.coords t)) S1x1.size (k0_off5_inb (grid0.coords t)))).squeeze S_ squeezes_S1x1_S_ = sem 0 (sl 3 t.val) :=
  sem_of (at_sem00 t) _
@[sl_canon] theorem sem_now1 (t : Fin grid0.N) :
    (cc0_scratch4.slice (Rect.unit (s := S2x3) (k0_off8 (grid0.coords t)) S1x1.size (k0_off8_inb (grid0.coords t)))).squeeze S_ squeezes_S1x1_S_ = sem 1 (sl 3 t.val) :=
  sem_of (at_sem01 t) _
instance (priority := high) load_now (t : Fin grid0.N) : ClosedOff (k0_off9 (grid0.coords t)) := ⟨![(sl 3 t.val).val, 0, 0], at_load t⟩

end Stream

/-! ## What the launch hands over -/

abbrev wAll : Memref sig .tc .vmem S1024x3072 .bf16 := Memref.whole cc0_scratch0
abbrev xBuf : Memref sig .tc .vmem S3x512x1024 .f32 := Memref.whole cc0_scratch2
abbrev dBuf : Memref sig .tc .vmem S3x512x1024 .f32 := Memref.whole cc0_scratch3
abbrev xArr : Memref sig .tc .hbm S8192x1024 .f32 := Memref.whole main_arg0
abbrev dArr : Memref sig .tc .hbm S8192x1024 .f32 := Memref.whole main_arg1
abbrev wArr : Memref sig .tc .hbm S8x1024x384 .bf16 := Memref.whole main_v2

abbrev sems : Fin 14 → SemLoc sig := fun j => (![SemLoc.dma 14, SemLoc.dma 15, SemLoc.dma 16, SemLoc.dma 17, SemLoc.dma 18, SemLoc.dma 19,
  SemLoc.dma 20, SemLoc.dma 21, SemLoc.dma 22, SemLoc.dma 23, SemLoc.dma 24, SemLoc.dma 25, SemLoc.dma 26, SemLoc.dma 27] : Fin 14 → SemLoc sig) j
theorem sems_own : Pipeline.OwnSemFacts spec0 sems := by decide

/-- The arrays the kernel reads in place. -/
def arrays : Finset (Ref sig .tc) := {main_arg0, main_arg1, main_v2}
theorem arrays_rest : arrays ⊆ Pipeline.restRefs sig spec0 := by decide

/-- The eight semaphores of the weight. -/
def wSems (c : Dev nD) : sProp 𝕄 :=
  iprop(semVal ((c : Thread nD τ), SemLoc.dma 14) 0 ∗ semVal ((c : Thread nD τ), SemLoc.dma 15) 0 ∗ semVal ((c : Thread nD τ), SemLoc.dma 16) 0
    ∗ semVal ((c : Thread nD τ), SemLoc.dma 17) 0 ∗ semVal ((c : Thread nD τ), SemLoc.dma 18) 0 ∗ semVal ((c : Thread nD τ), SemLoc.dma 19) 0
    ∗ semVal ((c : Thread nD τ), SemLoc.dma 20) 0 ∗ semVal ((c : Thread nD τ), SemLoc.dma 21) 0)

/-- An array in place, whole. -/
abbrev inPlace (c : Dev nD) {sp : Space} {s : Shape} {e : EltTy} (M : Memref sig .tc sp s e) (f : Buf (Elt F) (M.view.loc (c : Thread nD τ))) : sProp 𝕄 :=
  M.view.loc (c : Thread nD τ) ↦{fullShare} f
/-- A buffer with pieces written over what it held. -/
abbrev written (c : Dev nD) {sp : Space} {s : Shape} {e : EltTy} (M : Memref sig .tc sp s e) (L : List (View.Piece (Elt F) s e)) : sProp 𝕄 :=
  iprop(∃ f, M.view.loc (c : Thread nD τ) ↦[M.view.set]{fullShare} M.view.writes (Elt F) f L)

section Launch

variable (m : (ℓ : Loc nD τ sig) → Buf (Elt F) ℓ) (c : Dev nD)

theorem sem_at (r : Fin 2) (s : Fin 3) (n : Nat) (hn) (h : (SemLoc.dma (sem r s).sem : SemLoc sig) = SemLoc.dma ⟨n, hn⟩) :
    semAt (F := F) r c s = semVal ((c : Thread nD τ), SemLoc.dma ⟨n, hn⟩) 0 :=
  congrArg (fun x => (semVal ((c : Thread nD τ), x) 0 : sProp 𝕄)) h

end Launch

/-- The six staged operands at their contents. -/
abbrev staged (c : Dev nD) (a3 : Memref sig .tc .vmem S512x1024 .bf16) (a4 a5 a6 a7 : Memref sig .tc .vmem S512x512 .bf16) (a8 : Memref sig .tc .vmem S1x1024 .f32)
    (x0 : Vec F S512x1024 .bf16) (x1 x2 x3 x4 : Vec F S512x512 .bf16) (x5 : Vec F S1x1024 .f32) : sProp 𝕄 :=
  iprop(owns (c : Thread nD τ) a3 fullShare x0 ∗ owns (c : Thread nD τ) a4 fullShare x1 ∗ owns (c : Thread nD τ) a5 fullShare x2
    ∗ owns (c : Thread nD τ) a6 fullShare x3 ∗ owns (c : Thread nD τ) a7 fullShare x4 ∗ owns (c : Thread nD τ) a8 fullShare x5)

end NormDx

end
-- ==== Proof.NormMid.lean ====
/- A point that starts a block two ahead of its own and has had the weight brought in. -/
module

public import proofs.«01_k».proof.Proof.NormRing

@[expose] public section

set_option maxRecDepth 16384

noncomputable section

namespace NormDx

open Cert.NormDxIdeal Cert.NormDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UD sig nD τ) ℕ

set_option maxHeartbeats 1000000 in
/-- What a middle point leaves in the two results' blocks. -/
def midRun (c : Dev nD) (t : Fin grid0.N) (a3 : Memref sig .tc .vmem S512x1024 .bf16) (h3 : a3.IsWhole) (a4 : Memref sig .tc .vmem S512x512 .bf16) (h4 : a4.IsWhole) (a5 : Memref sig .tc .vmem S512x512 .bf16) (h5 : a5.IsWhole) (a6 : Memref sig .tc .vmem S512x512 .bf16) (h6 : a6.IsWhole) (a7 : Memref sig .tc .vmem S512x512 .bf16) (h7 : a7.IsWhole) (a8 : Memref sig .tc .vmem S1x1024 .f32) (h8 : a8.IsWhole) (a10 : Memref sig .tc .vmem S512x1024 .f32) (h10 : a10.IsWhole) (a11 : Memref sig .tc .vmem S1x1024 .f32) (h11 : a11.IsWhole) (hf : ¬first t) (ha : ahead t)
    (x0 : Vec F S512x1024 .bf16) (x1 x2 x3 x4 : Vec F S512x512 .bf16) (x5 : Vec F S1x1024 .f32) (w : Vec F S1024x3072 .bf16) (g : Vec F S1x1024 .f32)
    (X : Buf (Elt F) (xArr.view.loc (c : Thread nD τ))) (D : Buf (Elt F) (dArr.view.loc (c : Thread nD τ))) :
    Σ' (L6 : List (View.Piece (Elt F) S512x1024 .f32)), { L7 : List (View.Piece (Elt F) S1x1024 .f32) //
      ∀ (Q : Waits sig Unit) (K : PUnit → sProp 𝕄),
        iprop(staged c a3 a4 a5 a6 a7 a8 x0 x1 x2 x3 x4 x5 ∗ (∃ d, owns (c : Thread nD τ) a10 fullShare d) ∗ owns (c : Thread nD τ) a11 fullShare g
          ∗ owns (c : Thread nD τ) wAll fullShare w
          ∗ (awaits xBuf xArr 0 c X (sl 3 t.val) (bk 16 t.val) ∗ awaits xBuf xArr 0 c X (sl 3 (t.val + 1)) (bk 16 (t.val + 1)) ∗ idle xBuf xArr 0 c X (sl 3 (t.val + 2)))
          ∗ (awaits dBuf dArr 1 c D (sl 3 t.val) (bk 16 t.val) ∗ awaits dBuf dArr 1 c D (sl 3 (t.val + 1)) (bk 16 (t.val + 1)) ∗ idle dBuf dArr 1 c D (sl 3 (t.val + 2)))
          ∗ owes (c : Thread nD τ) 0 Q
          ∗ (iprop(staged c a3 a4 a5 a6 a7 a8 x0 x1 x2 x3 x4 x5
              ∗ (∃ f, a10.view.loc (c : Thread nD τ) ↦[a10.view.set]{fullShare} a10.view.writes (Elt F) f L6)
              ∗ (∃ f, a11.view.loc (c : Thread nD τ) ↦[a11.view.set]{fullShare} a11.view.writes (Elt F) f L7)
              ∗ owns (c : Thread nD τ) wAll fullShare w
              ∗ (awaits xBuf xArr 0 c X (sl 3 (t.val + 1)) (bk 16 (t.val + 1)) ∗ awaits xBuf xArr 0 c X (sl 3 (t.val + 2)) (bk 16 (t.val + 2)) ∗ idle xBuf xArr 0 c X (sl 3 t.val))
              ∗ (awaits dBuf dArr 1 c D (sl 3 (t.val + 1)) (bk 16 (t.val + 1)) ∗ awaits dBuf dArr 1 c D (sl 3 (t.val + 2)) (bk 16 (t.val + 2)) ∗ idle dBuf dArr 1 c D (sl 3 t.val))
              ∗ (∃ Q', owes (c : Thread nD τ) 0 Q')) -∗ K ⟨⟩))
          ⊢ wp frame (wpE (defs₀ (F := F)) Variants.none c none) Set.univ
              (cc0_inproj_bwd_dx (grid0.coords t) xArr (Memref.isWhole_whole _) dArr (Memref.isWhole_whole _) a3 h3 a4 h4 a5 h5 a6 h6 a7 h7 a8 h8 wArr (Memref.isWhole_whole _) a10 h10 a11 h11 wAll (Memref.isWhole_whole _) cc0_scratch1 xBuf (Memref.isWhole_whole _) dBuf (Memref.isWhole_whole _) cc0_scratch4) K } := by
  refine ⟨?_, ?_, fun Q K => ?run⟩
  case run =>
    haveI : Fact (¬first t) := ⟨hf⟩
    haveI : Fact (ahead t) := ⟨ha⟩
    simp only [cc0_inproj_bwd_dx_eq_skeleton]; unfold cc0_inproj_bwd_dx_skel
    simp only [k0_part1_eq_skeleton, k0_part2_eq_skeleton, k0_part3_eq_skeleton, k0_part4_eq_skeleton, k0_part5_eq_skeleton, k0_part6_eq_skeleton]
    unfold staged owns awaits idle
    iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%d6, %f6, -, H6⟩, ⟨%f7, %e7, H7⟩, ⟨%fw, %ew, HA⟩, ⟨⟨⟨%x0f, X0⟩, XK0⟩, ⟨⟨%x1f, X1⟩, XK1⟩, ⟨XC2, ⟨%x2f, X2⟩, XS2⟩⟩, ⟨⟨⟨%d0f, D0⟩, DK0⟩, ⟨⟨%d1f, D1⟩, DK1⟩, ⟨DC2, ⟨%d2f, D2⟩, DS2⟩⟩, HQ, Hk⟩
    ihave XP := (shared_split xArr c X (sl 3 (t.val + 2)) (bk 16 (t.val + 2))).1 $$ XS2
    icases XP with ⟨XL2, XK2⟩
    ihave DP := (shared_split dArr c D (sl 3 (t.val + 2)) (bk 16 (t.val + 2))).1 $$ DS2
    icases DP with ⟨DL2, DK2⟩
    obtain rfl := h3.eq_unread e0; obtain rfl := h4.eq_unread e1; obtain rfl := h5.eq_unread e2; obtain rfl := h6.eq_unread e3; obtain rfl := h7.eq_unread e4; obtain rfl := h8.eq_unread e5; obtain rfl := h11.eq_unread e7
    obtain rfl := (Memref.isWhole_whole cc0_scratch0).eq_unread ew
    sl_exec (disch := first | sl_exact hf | sl_exact ha)
    sl_step
    iapply Hk
    isplitl [H0 H1 H2 H3 H4 H5]
    · isplitl [H0]
      · iexists _; isplitr; · ipureintro; exact h3.read_unread _
        iexact H0
      isplitl [H1]
      · iexists _; isplitr; · ipureintro; exact h4.read_unread _
        iexact H1
      isplitl [H2]
      · iexists _; isplitr; · ipureintro; exact h5.read_unread _
        iexact H2
      isplitl [H3]
      · iexists _; isplitr; · ipureintro; exact h6.read_unread _
        iexact H3
      isplitl [H4]
      · iexists _; isplitr; · ipureintro; exact h7.read_unread _
        iexact H4
      iexists _; isplitr; · ipureintro; exact h8.read_unread _
      iexact H5
    isplitl [H6]; · iexists _; iexact H6
    isplitl [H7]; · iexists _; iexact H7
    isplitl [HA]
    · iexists _; isplitr; · ipureintro; exact (Memref.isWhole_whole cc0_scratch0).read_unread _
      iexact HA
    isplitl [X0 X0_dst X0_src XK0 X1 XK1 XC2 XK2]
    · isplitl [X1 XK1]
      · isplitl [X1]; · iexists _; iexact X1
        iexact XK1
      isplitl [XC2 XK2]
      · isplitl [XC2]; · iexists _; iexact XC2
        iexact XK2
      isplitl [X0]; · iexact X0
      isplitl [X0_dst]; · iexists _; iexact X0_dst
      iapply (shared_split xArr c X (sl 3 t.val) (bk 16 t.val)).2
      isplitl [X0_src]; · iexact X0_src
      iexact XK0
    isplitl [D0 D0_dst D0_src DK0 D1 DK1 DC2 DK2]
    · isplitl [D1 DK1]
      · isplitl [D1]; · iexists _; iexact D1
        iexact DK1
      isplitl [DC2 DK2]
      · isplitl [DC2]; · iexists _; iexact DC2
        iexact DK2
      isplitl [D0]; · iexact D0
      isplitl [D0_dst]; · iexists _; iexact D0_dst
      iapply (shared_split dArr c D (sl 3 t.val) (bk 16 t.val)).2
      isplitl [D0_src]; · iexact D0_src
      iexact DK0
    iexists _; iexact HQ

end NormDx

end
-- ==== Proof.NormLast.lean ====
/- One of the last two points: nothing more is started. -/
module

public import proofs.«01_k».proof.Proof.NormMid

@[expose] public section

set_option maxRecDepth 16384

noncomputable section

namespace NormDx

open Cert.NormDxIdeal Cert.NormDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UD sig nD τ) ℕ

set_option maxHeartbeats 1000000 in
/-- What one of the last points leaves in the two results' blocks. -/
def lastRun (c : Dev nD) (t : Fin grid0.N) (a3 : Memref sig .tc .vmem S512x1024 .bf16) (h3 : a3.IsWhole) (a4 : Memref sig .tc .vmem S512x512 .bf16) (h4 : a4.IsWhole) (a5 : Memref sig .tc .vmem S512x512 .bf16) (h5 : a5.IsWhole) (a6 : Memref sig .tc .vmem S512x512 .bf16) (h6 : a6.IsWhole) (a7 : Memref sig .tc .vmem S512x512 .bf16) (h7 : a7.IsWhole) (a8 : Memref sig .tc .vmem S1x1024 .f32) (h8 : a8.IsWhole) (a10 : Memref sig .tc .vmem S512x1024 .f32) (h10 : a10.IsWhole) (a11 : Memref sig .tc .vmem S1x1024 .f32) (h11 : a11.IsWhole) (hf : ¬first t) (ha : ¬ahead t)
    (x0 : Vec F S512x1024 .bf16) (x1 x2 x3 x4 : Vec F S512x512 .bf16) (x5 : Vec F S1x1024 .f32) (w : Vec F S1024x3072 .bf16) (g : Vec F S1x1024 .f32)
    (X : Buf (Elt F) (xArr.view.loc (c : Thread nD τ))) (D : Buf (Elt F) (dArr.view.loc (c : Thread nD τ))) :
    Σ' (L6 : List (View.Piece (Elt F) S512x1024 .f32)), { L7 : List (View.Piece (Elt F) S1x1024 .f32) //
      ∀ (Q : Waits sig Unit) (K : PUnit → sProp 𝕄),
        iprop(staged c a3 a4 a5 a6 a7 a8 x0 x1 x2 x3 x4 x5 ∗ (∃ d, owns (c : Thread nD τ) a10 fullShare d) ∗ owns (c : Thread nD τ) a11 fullShare g
          ∗ owns (c : Thread nD τ) wAll fullShare w
          ∗ (awaits xBuf xArr 0 c X (sl 3 t.val) (bk 16 t.val) ∗ role xBuf xArr 0 c X t.val 1 ∗ idle xBuf xArr 0 c X (sl 3 (t.val + 2)))
          ∗ (awaits dBuf dArr 1 c D (sl 3 t.val) (bk 16 t.val) ∗ role dBuf dArr 1 c D t.val 1 ∗ idle dBuf dArr 1 c D (sl 3 (t.val + 2)))
          ∗ owes (c : Thread nD τ) 0 Q
          ∗ (iprop(staged c a3 a4 a5 a6 a7 a8 x0 x1 x2 x3 x4 x5
              ∗ (∃ f, a10.view.loc (c : Thread nD τ) ↦[a10.view.set]{fullShare} a10.view.writes (Elt F) f L6)
              ∗ (∃ f, a11.view.loc (c : Thread nD τ) ↦[a11.view.set]{fullShare} a11.view.writes (Elt F) f L7)
              ∗ owns (c : Thread nD τ) wAll fullShare w
              ∗ (role xBuf xArr 0 c X t.val 1 ∗ idle xBuf xArr 0 c X (sl 3 (t.val + 2)) ∗ idle xBuf xArr 0 c X (sl 3 t.val))
              ∗ (role dBuf dArr 1 c D t.val 1 ∗ idle dBuf dArr 1 c D (sl 3 (t.val + 2)) ∗ idle dBuf dArr 1 c D (sl 3 t.val))
              ∗ (∃ Q', owes (c : Thread nD τ) 0 Q')) -∗ K ⟨⟩))
          ⊢ wp frame (wpE (defs₀ (F := F)) Variants.none c none) Set.univ
              (cc0_inproj_bwd_dx (grid0.coords t) xArr (Memref.isWhole_whole _) dArr (Memref.isWhole_whole _) a3 h3 a4 h4 a5 h5 a6 h6 a7 h7 a8 h8 wArr (Memref.isWhole_whole _) a10 h10 a11 h11 wAll (Memref.isWhole_whole _) cc0_scratch1 xBuf (Memref.isWhole_whole _) dBuf (Memref.isWhole_whole _) cc0_scratch4) K } := by
  refine ⟨?_, ?_, fun Q K => ?run⟩
  case run =>
    haveI : Fact (¬first t) := ⟨hf⟩
    haveI : Fact (¬ahead t) := ⟨ha⟩
    simp only [cc0_inproj_bwd_dx_eq_skeleton]; unfold cc0_inproj_bwd_dx_skel
    simp only [k0_part1_eq_skeleton, k0_part2_eq_skeleton, k0_part3_eq_skeleton, k0_part4_eq_skeleton, k0_part5_eq_skeleton, k0_part6_eq_skeleton]
    unfold staged owns awaits idle
    iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%d6, %f6, -, H6⟩, ⟨%f7, %e7, H7⟩, ⟨%fw, %ew, HA⟩, ⟨⟨⟨%x0f, X0⟩, XK0⟩, X1, ⟨XC2, X2, XS2⟩⟩, ⟨⟨⟨%d0f, D0⟩, DK0⟩, D1, ⟨DC2, D2, DS2⟩⟩, HQ, Hk⟩
    obtain rfl := h3.eq_unread e0; obtain rfl := h4.eq_unread e1; obtain rfl := h5.eq_unread e2; obtain rfl := h6.eq_unread e3; obtain rfl := h7.eq_unread e4; obtain rfl := h8.eq_unread e5; obtain rfl := h11.eq_unread e7
    obtain rfl := (Memref.isWhole_whole cc0_scratch0).eq_unread ew
    sl_exec (disch := first | sl_exact hf | sl_exact ha)
    sl_step
    iapply Hk
    isplitl [H0 H1 H2 H3 H4 H5]
    · isplitl [H0]
      · iexists _; isplitr; · ipureintro; exact h3.read_unread _
        iexact H0
      isplitl [H1]
      · iexists _; isplitr; · ipureintro; exact h4.read_unread _
        iexact H1
      isplitl [H2]
      · iexists _; isplitr; · ipureintro; exact h5.read_unread _
        iexact H2
      isplitl [H3]
      · iexists _; isplitr; · ipureintro; exact h6.read_unread _
        iexact H3
      isplitl [H4]
      · iexists _; isplitr; · ipureintro; exact h7.read_unread _
        iexact H4
      iexists _; isplitr; · ipureintro; exact h8.read_unread _
      iexact H5
    isplitl [H6]; · iexists _; iexact H6
    isplitl [H7]; · iexists _; iexact H7
    isplitl [HA]
    · iexists _; isplitr; · ipureintro; exact (Memref.isWhole_whole cc0_scratch0).read_unread _
      iexact HA
    isplitl [X0 X0_dst X0_src XK0 X1 XC2 X2 XS2]
    · isplitl [X1]; · iexact X1
      isplitl [XC2 X2 XS2]
      · isplitl [XC2]; · iexact XC2
        isplitl [X2]; · iexact X2
        iexact XS2
      isplitl [X0]; · iexact X0
      isplitl [X0_dst]; · iexists _; iexact X0_dst
      iapply (shared_split xArr c X (sl 3 t.val) (bk 16 t.val)).2
      isplitl [X0_src]; · iexact X0_src
      iexact XK0
    isplitl [D0 D0_dst D0_src DK0 D1 DC2 D2 DS2]
    · isplitl [D1]; · iexact D1
      isplitl [DC2 D2 DS2]
      · isplitl [DC2]; · iexact DC2
        isplitl [D2]; · iexact D2
        iexact DS2
      isplitl [D0]; · iexact D0
      isplitl [D0_dst]; · iexists _; iexact D0_dst
      iapply (shared_split dArr c D (sl 3 t.val) (bk 16 t.val)).2
      isplitl [D0_src]; · iexact D0_src
      iexact DK0
    iexists _; iexact HQ

end NormDx

end
-- ==== Proof.NormWeight.lean ====
/- The weight arrives in eight groups of columns, one transfer each: the buffer and the array by groups, and what the buffer holds once all have landed. -/
module

public import proofs.«01_k».proof.Proof.NormRing
public import Idealize.ShloMosaic.Lib.Pointwise

@[expose] public section

set_option maxRecDepth 16384

noncomputable section

namespace NormDx

open Cert.NormDxIdeal Cert.NormDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

open Idealize.ShloMosaic.Pointwise

variable {F : FTy → Type} [FloatOps F]

local notation "𝕄" => MT nD τ sig Unit (Elt F) ℕ (Pipeline.UD sig nD τ) ℕ

theorem to_in (s : Fin 8) : ∀ a, (![0, 384 * s.val] : Fin 2 → Nat) a + S1024x384.size a ≤ S1024x3072.size a := by
  intro a; have := s.isLt; fin_cases a <;> simp <;> omega
theorem from_in (s : Fin 8) : ∀ a, (![s.val, 0, 0] : Fin 3 → Nat) a + S1x1024x384.size a ≤ S8x1024x384.size a := by
  intro a; have := s.isLt; fin_cases a <;> simp <;> omega

/-- Columns `384 s` and after of the buffer. -/
def wTo (s : Fin 8) : Memref sig .tc .vmem S1024x384 .bf16 :=
  wAll.slice (Rect.unit (s := S1024x3072) ![0, 384 * s.val] S1024x384.size (to_in s)) (fun _ => rfl)
/-- Group `s` of the array. -/
def wFrom (s : Fin 8) : Memref sig .tc .hbm S1024x384 .bf16 :=
  (wArr.slice (Rect.unit (s := S8x1024x384) ![s.val, 0, 0] S1x1024x384.size (from_in s)) (fun _ => rfl)).squeeze S1024x384 squeezes_S1x1024x384_S1024x384

theorem wTo_of {o : Fin 2 → Nat} {s : Fin 8} (h : o = ![0, 384 * s.val]) (ho) :
    wAll.slice (Rect.unit (s := S1024x3072) o S1024x384.size ho) (fun _ => rfl) = wTo s := by
  subst h; rfl
theorem wFrom_of {o : Fin 3 → Nat} {s : Fin 8} (h : o = ![s.val, 0, 0]) (ho) :
    (wArr.slice (Rect.unit (s := S8x1024x384) o S1x1024x384.size ho) (fun _ => rfl)).squeeze S1024x384 squeezes_S1x1024x384_S1024x384 = wFrom s := by
  subst h; rfl

/-- The groups side by side. -/
def groups (x : Vec F S8x1024x384 .bf16) : Vec F S1024x3072 .bf16 := fun y =>
  x (ix3 ⟨(y 1).val / 384, by have : (y 1).val < 3072 := (y 1).isLt; omega⟩ (y 0) ⟨(y 1).val % 384, Nat.mod_lt _ (by decide)⟩)

section Groups

variable (c : Dev nD) (G : Buf (Elt F) (wArr.view.loc (c : Thread nD τ)))

abbrev toAt (s : Fin 8) (f : Buf (Elt F) (wAll.view.loc (c : Thread nD τ))) : sProp 𝕄 :=
  (wTo s).view.loc (c : Thread nD τ) ↦[(wTo s).view.set]{fullShare} f
abbrev fromAt (s : Fin 8) : sProp 𝕄 :=
  (wFrom s).view.loc (c : Thread nD τ) ↦[(wFrom s).view.set]{fullShare} G

abbrev toSet (s : Fin 8) : Finset S1024x3072.Idx := (Rect.unit (s := S1024x3072) ![0, 384 * s.val] S1024x384.size (to_in s)).set
abbrev fromSet (s : Fin 8) : Finset S8x1024x384.Idx := (Rect.unit (s := S8x1024x384) ![s.val, 0, 0] S1x1024x384.size (from_in s)).set
theorem toSet_eq (s : Fin 8) : (wTo s).view.set = toSet s := by
  unfold wTo; exact View.set_slice_whole _ _
theorem fromSet_eq (s : Fin 8) : (wFrom s).view.set = fromSet s := by
  simp only [wFrom, Memref.view_squeeze, View.set_reshape]; exact View.set_slice_whole _ _
theorem to_apart (s s' : Fin 8) (h : s ≠ s') : Disjoint (toSet s) (toSet s') :=
  Ring.lead_disjoint (s := S1024x3072) (1 : Fin 2) 384 (fun s : Fin 8 => (![0, 384 * s.val] : Fin 2 → Nat)) S1024x384.size to_in (fun s => by simp) rfl s s' h
theorem to_all : Finset.univ.biUnion toSet = Finset.univ :=
  Ring.lead_cover (s := S1024x3072) (1 : Fin 2) 384 (fun s : Fin 8 => (![0, 384 * s.val] : Fin 2 → Nat)) S1024x384.size to_in (fun s => by simp)
    (fun s a ha => by fin_cases a <;> first | exact absurd rfl ha | rfl) rfl (fun a ha => by fin_cases a <;> first | exact absurd rfl ha | rfl) rfl
theorem from_apart (s s' : Fin 8) (h : s ≠ s') : Disjoint (fromSet s) (fromSet s') :=
  Ring.lead_disjoint (s := S8x1024x384) (0 : Fin 3) 1 (fun s : Fin 8 => (![s.val, 0, 0] : Fin 3 → Nat)) S1x1024x384.size from_in (fun s => by simp) rfl s s' h
theorem from_all : Finset.univ.biUnion fromSet = Finset.univ :=
  Ring.lead_cover (s := S8x1024x384) (0 : Fin 3) 1 (fun s : Fin 8 => (![s.val, 0, 0] : Fin 3 → Nat)) S1x1024x384.size from_in (fun s => by simp)
    (fun s a ha => by fin_cases a <;> first | exact absurd rfl ha | rfl) rfl (fun a ha => by fin_cases a <;> first | exact absurd rfl ha | rfl) rfl

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The array is its groups. -/
theorem from_split : inPlace c wArr G = bigSep Finset.univ (fun s => fromAt c G s) := by
  unfold inPlace
  refine (Ring.pointsTo_blocks (U := Pipeline.UD sig nD τ) (Ix := Unit) (Name := ℕ) (Lvl := ℕ) (ℓ := (c : Thread nD τ).loc main_v2) (q := fullShare) fromSet from_apart from_all G).trans ?_
  congr 1; funext s
  unfold fromAt; rw [fromSet_eq]; rfl
/-- The buffer is its groups of columns. -/
theorem to_split (f : Buf (Elt F) (wAll.view.loc (c : Thread nD τ))) : (wAll.view.loc (c : Thread nD τ) ↦[wAll.view.set]{fullShare} f : sProp 𝕄) = bigSep Finset.univ (fun s => toAt c s f) := by
  have e : wAll.view.set = Finset.univ := View.set_whole _
  rw [e]
  refine (Ring.pointsTo_blocks (U := Pipeline.UD sig nD τ) (Ix := Unit) (Name := ℕ) (Lvl := ℕ) (ℓ := (c : Thread nD τ).loc cc0_scratch0) (q := fullShare) toSet to_apart to_all f).trans ?_
  congr 1; funext s
  unfold toAt; rw [toSet_eq]; rfl

/-- Where an element of group `s` lies in the array. -/
theorem from_at (s : Fin 8) (x : S1024x384.Idx) :
    (wFrom s).view.read (Elt F) G x = wArr.view.read (Elt F) G (ix3 (s : Fin 8) (x 0) (x 1)) := by
  show wArr.view.read (Elt F) G ((Rect.unit (s := S8x1024x384) ![s.val, 0, 0] S1x1024x384.size (from_in s)).idx (Shape.reshapeEquiv _ x)) = _
  refine congrArg (wArr.view.read (Elt F) G) ?_
  have q : Shape.reshapeEquiv (s := S1x1024x384) (s' := S1024x384) squeezes_S1x1024x384_S1024x384.numel_eq x = Fin.cons ⟨0, Nat.one_pos⟩ x := Shape.reshapeEquiv_cons_one _ x
  rw [q]
  funext a
  refine Fin.ext ?_
  fin_cases a
  · show s.val + 1 * 0 = s.val; omega
  · show 0 + 1 * (x 0).val = (x 0).val; omega
  · show 0 + 1 * (x 1).val = (x 1).val; omega

/-- The buffer of all the groups, at an element of group `s`. -/
theorem to_at (s : Fin 8) (x : S1024x384.Idx) (g : Vec F S8x1024x384 .bf16) :
    groups g ((Rect.unit (s := S1024x3072) ![0, 384 * s.val] S1024x384.size (to_in s)).idx x) = g (ix3 (s : Fin 8) (x 0) (x 1)) := by
  have b1 : (x 1).val < 384 := (x 1).isLt
  have r0 : ((Rect.unit (s := S1024x3072) ![0, 384 * s.val] S1024x384.size (to_in s)).idx x 0).val = (x 0).val := by
    show 0 + 1 * (x 0).val = (x 0).val; omega
  have r1 : ((Rect.unit (s := S1024x3072) ![0, 384 * s.val] S1024x384.size (to_in s)).idx x 1).val = 384 * s.val + (x 1).val := by
    show 384 * s.val + 1 * (x 1).val = _; omega
  unfold groups
  refine congrArg g ?_
  funext a
  refine Fin.ext ?_
  fin_cases a
  · show ((Rect.unit (s := S1024x3072) ![0, 384 * s.val] S1024x384.size (to_in s)).idx x 1).val / 384 = s.val; rw [r1]; omega
  · exact r0
  · show ((Rect.unit (s := S1024x3072) ![0, 384 * s.val] S1024x384.size (to_in s)).idx x 1).val % 384 = (x 1).val; rw [r1]; omega

/-- What `wAll` holds once all the groups have landed. -/
def full (G : Buf (Elt F) (wArr.view.loc (c : Thread nD τ))) : Buf (Elt F) (wAll.view.loc (c : Thread nD τ)) :=
  (Memref.isWhole_whole cc0_scratch0).unread (groups (wArr.view.read (Elt F) G))
theorem full_read : wAll.view.read (Elt F) (full c G) = groups (wArr.view.read (Elt F) G) :=
  (Memref.isWhole_whole cc0_scratch0).read_unread _

theorem full_at (s : Fin 8) (x : S1024x384.Idx) :
    (wTo s).view.read (Elt F) (full c G) x = (wFrom s).view.read (Elt F) G x := by
  refine Eq.trans ?_ ((to_at s x (wArr.view.read (Elt F) G)).trans (from_at c G s x).symm)
  exact congrFun (full_read c G) _

/-- Two buffers a view reads alike are alike on its elements. -/
theorem same_of_read {sg : RefSig} {r : Space} {κ : Kind} {sh : Shape} {e : EltTy} (v : View sg κ r sh e) (f g : v.ty.Contents (Elt F)) (h : v.read (Elt F) f = v.read (Elt F) g) : ∀ i ∈ v.set, f i = g i := by
  intro i hi
  obtain ⟨x, -, rfl⟩ := Finset.mem_map.mp hi
  have e := congrFun h x
  rw [View.read_apply, View.read_apply] at e
  exact (cast_inj _).mp e

/-- Group `s` of the buffer with its transfer landed. -/
def arrived (s : Fin 8) (f : Buf (Elt F) (wAll.view.loc (c : Thread nD τ))) : sProp 𝕄 :=
  toAt c s ((wTo s).view.writes (Elt F) f [⟨Rect.whole S1024x384, ReadAs.same.apply ((wFrom s).view.read (Elt F) G)⟩])

/-- Group `s`, landed: the buffer of all the groups on its columns. -/
theorem landed (s : Fin 8) (f : Buf (Elt F) (wAll.view.loc (c : Thread nD τ))) :
    arrived c G s f
      = toAt c s (full c G) :=
  pointsTo_congr (same_of_read (wTo s).view _ _ ((View.read_writes_whole (Val := Elt F) (wTo s).view f (ReadAs.same.apply ((wFrom s).view.read (Elt F) G))).trans
    (funext fun x => (full_at c G s x).symm)))

theorem to_parts (f : Buf (Elt F) (wAll.view.loc (c : Thread nD τ))) :
    (wAll.view.loc (c : Thread nD τ) ↦[wAll.view.set]{fullShare} f : sProp 𝕄) ⊢ iprop(toAt c 0 f ∗ toAt c 1 f ∗ toAt c 2 f ∗ toAt c 3 f ∗ toAt c 4 f ∗ toAt c 5 f ∗ toAt c 6 f ∗ toAt c 7 f) := by
  rw [to_split, eight]
theorem from_parts : (inPlace c wArr G : sProp 𝕄) ⊣⊢ iprop(fromAt c G 0 ∗ fromAt c G 1 ∗ fromAt c G 2 ∗ fromAt c G 3 ∗ fromAt c G 4 ∗ fromAt c G 5 ∗ fromAt c G 6 ∗ fromAt c G 7) := by
  rw [from_split, eight]
theorem to_whole (f : Buf (Elt F) (wAll.view.loc (c : Thread nD τ))) :
    iprop(arrived c G 0 f ∗ arrived c G 1 f ∗ arrived c G 2 f ∗ arrived c G 3 f ∗ arrived c G 4 f ∗ arrived c G 5 f ∗ arrived c G 6 f ∗ arrived c G 7 f) ⊢ (owns (c : Thread nD τ) wAll fullShare (groups (wArr.view.read (Elt F) G)) : sProp 𝕄) := by
  rw [landed, landed, landed, landed, landed, landed, landed, landed, ← eight (fun s => toAt c s (full c G)), ← to_split]
  unfold owns
  iintro H
  iexists full c G
  isplitr
  · ipureintro; exact full_read c G
  · iexact H

end Groups

end NormDx

end
-- ==== Proof.NormFirst.lean ====
/- The first point: it starts two blocks of each stream besides the third, and brings the weight in. -/
module

public import proofs.«01_k».proof.Proof.NormMid
public import proofs.«01_k».proof.Proof.NormWeight

@[expose] public section

set_option maxRecDepth 16384

noncomputable section

namespace NormDx

open Cert.NormDxIdeal Cert.NormDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UD sig nD τ) ℕ

set_option maxHeartbeats 1000000 in
/-- What the first point leaves in the two results' blocks and in the buffer of the weight. -/
def firstRun (c : Dev nD) (t : Fin grid0.N) (a3 : Memref sig .tc .vmem S512x1024 .bf16) (h3 : a3.IsWhole) (a4 : Memref sig .tc .vmem S512x512 .bf16) (h4 : a4.IsWhole) (a5 : Memref sig .tc .vmem S512x512 .bf16) (h5 : a5.IsWhole) (a6 : Memref sig .tc .vmem S512x512 .bf16) (h6 : a6.IsWhole) (a7 : Memref sig .tc .vmem S512x512 .bf16) (h7 : a7.IsWhole) (a8 : Memref sig .tc .vmem S1x1024 .f32) (h8 : a8.IsWhole) (a10 : Memref sig .tc .vmem S512x1024 .f32) (h10 : a10.IsWhole) (a11 : Memref sig .tc .vmem S1x1024 .f32) (h11 : a11.IsWhole) (hf : first t) (ha : ahead t)
    (x0 : Vec F S512x1024 .bf16) (x1 x2 x3 x4 : Vec F S512x512 .bf16) (x5 : Vec F S1x1024 .f32)
    (X : Buf (Elt F) (xArr.view.loc (c : Thread nD τ))) (D : Buf (Elt F) (dArr.view.loc (c : Thread nD τ)))
    (G : Buf (Elt F) (wArr.view.loc (c : Thread nD τ))) :
    Σ' (L6 : List (View.Piece (Elt F) S512x1024 .f32)), { L7 : List (View.Piece (Elt F) S1x1024 .f32) //
      ∀ (Q : Waits sig Unit) (K : PUnit → sProp 𝕄),
        iprop(staged c a3 a4 a5 a6 a7 a8 x0 x1 x2 x3 x4 x5 ∗ (∃ d, owns (c : Thread nD τ) a10 fullShare d) ∗ (∃ d, owns (c : Thread nD τ) a11 fullShare d)
          ∗ (∃ d, owns (c : Thread nD τ) wAll fullShare d) ∗ inPlace c wArr G ∗ wSems c
          ∗ (idle xBuf xArr 0 c X (sl 3 t.val) ∗ idle xBuf xArr 0 c X (sl 3 (t.val + 1)) ∗ idle xBuf xArr 0 c X (sl 3 (t.val + 2)))
          ∗ (idle dBuf dArr 1 c D (sl 3 t.val) ∗ idle dBuf dArr 1 c D (sl 3 (t.val + 1)) ∗ idle dBuf dArr 1 c D (sl 3 (t.val + 2)))
          ∗ owes (c : Thread nD τ) 0 Q
          ∗ (iprop(staged c a3 a4 a5 a6 a7 a8 x0 x1 x2 x3 x4 x5
              ∗ (∃ f, a10.view.loc (c : Thread nD τ) ↦[a10.view.set]{fullShare} a10.view.writes (Elt F) f L6)
              ∗ (∃ f, a11.view.loc (c : Thread nD τ) ↦[a11.view.set]{fullShare} a11.view.writes (Elt F) f L7)
              ∗ owns (c : Thread nD τ) wAll fullShare (groups (wArr.view.read (Elt F) G)) ∗ inPlace c wArr G ∗ wSems c
              ∗ (awaits xBuf xArr 0 c X (sl 3 (t.val + 1)) (bk 16 (t.val + 1)) ∗ awaits xBuf xArr 0 c X (sl 3 (t.val + 2)) (bk 16 (t.val + 2)) ∗ idle xBuf xArr 0 c X (sl 3 t.val))
              ∗ (awaits dBuf dArr 1 c D (sl 3 (t.val + 1)) (bk 16 (t.val + 1)) ∗ awaits dBuf dArr 1 c D (sl 3 (t.val + 2)) (bk 16 (t.val + 2)) ∗ idle dBuf dArr 1 c D (sl 3 t.val))
              ∗ (∃ Q', owes (c : Thread nD τ) 0 Q')) -∗ K ⟨⟩))
          ⊢ wp frame (wpE (defs₀ (F := F)) Variants.none c none) Set.univ
              (cc0_inproj_bwd_dx (grid0.coords t) xArr (Memref.isWhole_whole _) dArr (Memref.isWhole_whole _) a3 h3 a4 h4 a5 h5 a6 h6 a7 h7 a8 h8 wArr (Memref.isWhole_whole _) a10 h10 a11 h11 wAll (Memref.isWhole_whole _) cc0_scratch1 xBuf (Memref.isWhole_whole _) dBuf (Memref.isWhole_whole _) cc0_scratch4) K } := by
  refine ⟨?_, ?_, fun Q K => ?run⟩
  case run =>
    haveI : Fact (first t) := ⟨hf⟩
    haveI : Fact (ahead t) := ⟨ha⟩
    simp only [cc0_inproj_bwd_dx_eq_skeleton]; unfold cc0_inproj_bwd_dx_skel
    simp only [k0_part1_eq_skeleton, k0_part2_eq_skeleton, k0_part3_eq_skeleton, k0_part4_eq_skeleton, k0_part5_eq_skeleton, k0_part6_eq_skeleton]
    have z : t.val = 0 := (first_iff t).mp hf
    have hcanonxBuf0 := slot_of xBuf (o := ![0, 0, 0]) (s := sl 3 t.val) (by rw [z]; rfl) inb_S3x512x1024_S1x512x1024_0_0_0
    have hcanonxBuf1 := slot_of xBuf (o := ![1, 0, 0]) (s := sl 3 (t.val + 1)) (by rw [z]; rfl) inb_S3x512x1024_S1x512x1024_1_0_0
    have hcanondBuf0 := slot_of dBuf (o := ![0, 0, 0]) (s := sl 3 t.val) (by rw [z]; rfl) inb_S3x512x1024_S1x512x1024_0_0_0
    have hcanondBuf1 := slot_of dBuf (o := ![1, 0, 0]) (s := sl 3 (t.val + 1)) (by rw [z]; rfl) inb_S3x512x1024_S1x512x1024_1_0_0
    have hcanonxArr0 := block_of xArr (o := ![0, 0]) (b := bk 16 t.val) (by rw [z]; rfl) inb_S8192x1024_S512x1024_0_0
    have hcanonxArr1 := block_of xArr (o := ![512, 0]) (b := bk 16 (t.val + 1)) (by rw [z]; rfl) inb_S8192x1024_S512x1024_512_0
    have hcanondArr0 := block_of dArr (o := ![0, 0]) (b := bk 16 t.val) (by rw [z]; rfl) inb_S8192x1024_S512x1024_0_0
    have hcanondArr1 := block_of dArr (o := ![512, 0]) (b := bk 16 (t.val + 1)) (by rw [z]; rfl) inb_S8192x1024_S512x1024_512_0
    have hcanon00 := sem_of (o := ![0, 0]) (r := 0) (s := sl 3 t.val) (by rw [z]; rfl) inb_S2x3_S1x1_0_0
    have hcanon01 := sem_of (o := ![0, 1]) (r := 0) (s := sl 3 (t.val + 1)) (by rw [z]; rfl) inb_S2x3_S1x1_0_1
    have hcanon10 := sem_of (o := ![1, 0]) (r := 1) (s := sl 3 t.val) (by rw [z]; rfl) inb_S2x3_S1x1_1_0
    have hcanon11 := sem_of (o := ![1, 1]) (r := 1) (s := sl 3 (t.val + 1)) (by rw [z]; rfl) inb_S2x3_S1x1_1_1
    have hcanonT0 := wTo_of (o := ![0, 0]) (s := 0) rfl inb_S1024x3072_S1024x384_0_0
    have hcanonF0 := wFrom_of (o := ![0, 0, 0]) (s := 0) rfl inb_S8x1024x384_S1x1024x384_0_0_0
    have hcanonT1 := wTo_of (o := ![0, 384]) (s := 1) rfl inb_S1024x3072_S1024x384_0_384
    have hcanonF1 := wFrom_of (o := ![1, 0, 0]) (s := 1) rfl inb_S8x1024x384_S1x1024x384_1_0_0
    have hcanonT2 := wTo_of (o := ![0, 768]) (s := 2) rfl inb_S1024x3072_S1024x384_0_768
    have hcanonF2 := wFrom_of (o := ![2, 0, 0]) (s := 2) rfl inb_S8x1024x384_S1x1024x384_2_0_0
    have hcanonT3 := wTo_of (o := ![0, 1152]) (s := 3) rfl inb_S1024x3072_S1024x384_0_1152
    have hcanonF3 := wFrom_of (o := ![3, 0, 0]) (s := 3) rfl inb_S8x1024x384_S1x1024x384_3_0_0
    have hcanonT4 := wTo_of (o := ![0, 1536]) (s := 4) rfl inb_S1024x3072_S1024x384_0_1536
    have hcanonF4 := wFrom_of (o := ![4, 0, 0]) (s := 4) rfl inb_S8x1024x384_S1x1024x384_4_0_0
    have hcanonT5 := wTo_of (o := ![0, 1920]) (s := 5) rfl inb_S1024x3072_S1024x384_0_1920
    have hcanonF5 := wFrom_of (o := ![5, 0, 0]) (s := 5) rfl inb_S8x1024x384_S1x1024x384_5_0_0
    have hcanonT6 := wTo_of (o := ![0, 2304]) (s := 6) rfl inb_S1024x3072_S1024x384_0_2304
    have hcanonF6 := wFrom_of (o := ![6, 0, 0]) (s := 6) rfl inb_S8x1024x384_S1x1024x384_6_0_0
    have hcanonT7 := wTo_of (o := ![0, 2688]) (s := 7) rfl inb_S1024x3072_S1024x384_0_2688
    have hcanonF7 := wFrom_of (o := ![7, 0, 0]) (s := 7) rfl inb_S8x1024x384_S1x1024x384_7_0_0
    unfold staged wSems owns awaits idle
    iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%d6, %f6, -, H6⟩, ⟨%d7, %f7, -, H7⟩, ⟨%dw, %fw, -, HA⟩, HG, ⟨S0, S1, S2, S3, S4, S5, S6, S7⟩, ⟨⟨XC0, ⟨%x0f, X0⟩, XS0⟩, ⟨XC1, ⟨%x1f, X1⟩, XS1⟩, ⟨XC2, ⟨%x2f, X2⟩, XS2⟩⟩, ⟨⟨DC0, ⟨%d0f, D0⟩, DS0⟩, ⟨DC1, ⟨%d1f, D1⟩, DS1⟩, ⟨DC2, ⟨%d2f, D2⟩, DS2⟩⟩, HQ, Hk⟩
    ihave XP := (shared_split xArr c X (sl 3 t.val) (bk 16 t.val)).1 $$ XS0
    icases XP with ⟨XL0, XK0⟩
    ihave XP := (shared_split xArr c X (sl 3 (t.val + 1)) (bk 16 (t.val + 1))).1 $$ XS1
    icases XP with ⟨XL1, XK1⟩
    ihave XP := (shared_split xArr c X (sl 3 (t.val + 2)) (bk 16 (t.val + 2))).1 $$ XS2
    icases XP with ⟨XL2, XK2⟩
    ihave DP := (shared_split dArr c D (sl 3 t.val) (bk 16 t.val)).1 $$ DS0
    icases DP with ⟨DL0, DK0⟩
    ihave DP := (shared_split dArr c D (sl 3 (t.val + 1)) (bk 16 (t.val + 1))).1 $$ DS1
    icases DP with ⟨DL1, DK1⟩
    ihave DP := (shared_split dArr c D (sl 3 (t.val + 2)) (bk 16 (t.val + 2))).1 $$ DS2
    icases DP with ⟨DL2, DK2⟩
    obtain rfl := h3.eq_unread e0; obtain rfl := h4.eq_unread e1; obtain rfl := h5.eq_unread e2; obtain rfl := h6.eq_unread e3; obtain rfl := h7.eq_unread e4; obtain rfl := h8.eq_unread e5
    ihave WT := to_parts c fw $$ HA
    icases WT with ⟨T0, T1, T2, T3, T4, T5, T6, T7⟩
    ihave WF := (from_parts c G).1 $$ HG
    icases WF with ⟨G0, G1, G2, G3, G4, G5, G6, G7⟩
    sl_exec (disch := first | sl_exact hf | sl_exact ha)
    ihave HA := to_whole c G fw $$ [T0 T1 T2 T3 T4 T5 T6 T7]
    · unfold arrived
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    unfold owns
    icases HA with ⟨%fa, %ea, HA⟩
    obtain rfl := (Memref.isWhole_whole cc0_scratch0).eq_unread ea
    sl_exec (disch := first | sl_exact hf | sl_exact ha)
    sl_step
    iapply Hk
    isplitl [H0 H1 H2 H3 H4 H5]
    · isplitl [H0]
      · iexists _; isplitr; · ipureintro; exact h3.read_unread _
        iexact H0
      isplitl [H1]
      · iexists _; isplitr; · ipureintro; exact h4.read_unread _
        iexact H1
      isplitl [H2]
      · iexists _; isplitr; · ipureintro; exact h5.read_unread _
        iexact H2
      isplitl [H3]
      · iexists _; isplitr; · ipureintro; exact h6.read_unread _
        iexact H3
      isplitl [H4]
      · iexists _; isplitr; · ipureintro; exact h7.read_unread _
        iexact H4
      iexists _; isplitr; · ipureintro; exact h8.read_unread _
      iexact H5
    isplitl [H6]; · iexists _; iexact H6
    isplitl [H7]; · iexists _; iexact H7
    isplitl [HA]; · iexists _; isplitr; · ipureintro; exact (Memref.isWhole_whole cc0_scratch0).read_unread _
                    iexact HA
    isplitl [G0 G1 G2 G3 G4 G5 G6 G7]
    · iapply (from_parts c G).2
      isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [X0 XL0 XC0 XK0 XC1 XK1 XC2 XK2]
    · isplitl [XC1 XK1]
      · isplitl [XC1]; · iexists _; iexact XC1
        iexact XK1
      isplitl [XC2 XK2]
      · isplitl [XC2]; · iexists _; iexact XC2
        iexact XK2
      isplitl [XC0]; · iexact XC0
      isplitl [X0]; · iexists _; iexact X0
      iapply (shared_split xArr c X (sl 3 t.val) (bk 16 t.val)).2
      isplitl [XL0]; · iexact XL0
      iexact XK0
    isplitl [D0 DL0 DC0 DK0 DC1 DK1 DC2 DK2]
    · isplitl [DC1 DK1]
      · isplitl [DC1]; · iexists _; iexact DC1
        iexact DK1
      isplitl [DC2 DK2]
      · isplitl [DC2]; · iexists _; iexact DC2
        iexact DK2
      isplitl [DC0]; · iexact DC0
      isplitl [D0]; · iexists _; iexact D0
      iapply (shared_split dArr c D (sl 3 t.val) (bk 16 t.val)).2
      isplitl [DL0]; · iexact DL0
      iexact DK0
    iexists _; iexact HQ

end NormDx

end
-- ==== Proof.NormRun.lean ====
/- The kernel's run, for any float values: what each point leaves, the launch, and both results. -/
module

public import proofs.«01_k».proof.Proof.NormLast
public import proofs.«01_k».proof.Proof.NormFirst

@[expose] public section

set_option maxRecDepth 16384

noncomputable section

namespace NormDx

open Cert.NormDxIdeal Cert.NormDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)
open Idealize.ShloMosaic.Pipeline (Dat Cfg Window BodyObligation cellOf)

variable {F : FTy → Type} [FloatOps F]

local notation "𝕄" => MT nD τ sig Unit (Elt F) ℕ (Pipeline.UD sig nD τ) ℕ

section Values

variable (m : (ℓ : Loc nD τ sig) → Buf (Elt F) ℓ) (ρ : Dev nD → PrngReg)

/-- The first point's run, at the blocks of the launch. -/
def firstAt (c : Dev nD) (t : Fin cfg0.N) (hf : first t) (ha : ahead t) :=
  firstRun c t ((win0_0).stage (cfg0.slots t 0)) (hstage0_0 ((cfg0.slots t 0).cast nbuf0_0)) ((win0_1).stage (cfg0.slots t 1)) (hstage0_1 ((cfg0.slots t 1).cast nbuf0_1)) ((win0_2).stage (cfg0.slots t 2)) (hstage0_2 ((cfg0.slots t 2).cast nbuf0_2)) ((win0_3).stage (cfg0.slots t 3)) (hstage0_3 ((cfg0.slots t 3).cast nbuf0_3)) ((win0_4).stage (cfg0.slots t 4)) (hstage0_4 ((cfg0.slots t 4).cast nbuf0_4)) ((win0_5).stage (cfg0.slots t 5)) (hstage0_5 ((cfg0.slots t 5).cast nbuf0_5)) ((win0_6).stage (cfg0.slots t 6)) (hstage0_6 ((cfg0.slots t 6).cast nbuf0_6)) ((win0_7).stage (cfg0.slots t 7)) (hstage0_7 ((cfg0.slots t 7).cast nbuf0_7)) hf ha (iblk m c 0 t) (iblk m c 1 t) (iblk m c 2 t) (iblk m c 3 t) (iblk m c 4 t) (iblk m c 5 t) (V m c main_arg0) (V m c main_arg1) (V m c main_v2)
/-- A point between, over the weight and the gain's sum so far. -/
def midAt (c : Dev nD) (t : Fin cfg0.N) (hf : ¬first t) (ha : ahead t) (g : Vec F S1x1024 .f32) :=
  midRun c t ((win0_0).stage (cfg0.slots t 0)) (hstage0_0 ((cfg0.slots t 0).cast nbuf0_0)) ((win0_1).stage (cfg0.slots t 1)) (hstage0_1 ((cfg0.slots t 1).cast nbuf0_1)) ((win0_2).stage (cfg0.slots t 2)) (hstage0_2 ((cfg0.slots t 2).cast nbuf0_2)) ((win0_3).stage (cfg0.slots t 3)) (hstage0_3 ((cfg0.slots t 3).cast nbuf0_3)) ((win0_4).stage (cfg0.slots t 4)) (hstage0_4 ((cfg0.slots t 4).cast nbuf0_4)) ((win0_5).stage (cfg0.slots t 5)) (hstage0_5 ((cfg0.slots t 5).cast nbuf0_5)) ((win0_6).stage (cfg0.slots t 6)) (hstage0_6 ((cfg0.slots t 6).cast nbuf0_6)) ((win0_7).stage (cfg0.slots t 7)) (hstage0_7 ((cfg0.slots t 7).cast nbuf0_7)) hf ha (iblk m c 0 t) (iblk m c 1 t) (iblk m c 2 t) (iblk m c 3 t) (iblk m c 4 t) (iblk m c 5 t) (groups (wArr.view.read (Elt F) (V m c main_v2))) g (V m c main_arg0) (V m c main_arg1)
/-- One of the last two points. -/
def lastAt (c : Dev nD) (t : Fin cfg0.N) (hf : ¬first t) (ha : ¬ahead t) (g : Vec F S1x1024 .f32) :=
  lastRun c t ((win0_0).stage (cfg0.slots t 0)) (hstage0_0 ((cfg0.slots t 0).cast nbuf0_0)) ((win0_1).stage (cfg0.slots t 1)) (hstage0_1 ((cfg0.slots t 1).cast nbuf0_1)) ((win0_2).stage (cfg0.slots t 2)) (hstage0_2 ((cfg0.slots t 2).cast nbuf0_2)) ((win0_3).stage (cfg0.slots t 3)) (hstage0_3 ((cfg0.slots t 3).cast nbuf0_3)) ((win0_4).stage (cfg0.slots t 4)) (hstage0_4 ((cfg0.slots t 4).cast nbuf0_4)) ((win0_5).stage (cfg0.slots t 5)) (hstage0_5 ((cfg0.slots t 5).cast nbuf0_5)) ((win0_6).stage (cfg0.slots t 6)) (hstage0_6 ((cfg0.slots t 6).cast nbuf0_6)) ((win0_7).stage (cfg0.slots t 7)) (hstage0_7 ((cfg0.slots t 7).cast nbuf0_7)) hf ha (iblk m c 0 t) (iblk m c 1 t) (iblk m c 2 t) (iblk m c 3 t) (iblk m c 4 t) (iblk m c 5 t) (groups (wArr.view.read (Elt F) (V m c main_v2))) g (V m c main_arg0) (V m c main_arg1)

/-- A list of stores read back. -/
def back6 (L : List (View.Piece (Elt F) S512x1024 .f32)) : Vec F S512x1024 .f32 :=
  (Memref.whole cc0_stg6_0 : Memref sig .tc .vmem S512x1024 .f32).view.read (Elt F) ((Memref.whole cc0_stg6_0 : Memref sig .tc .vmem S512x1024 .f32).view.writes (Elt F) (View.junk _) L)
def back7 (L : List (View.Piece (Elt F) S1x1024 .f32)) : Vec F S1x1024 .f32 :=
  (Memref.whole cc0_stg7_0 : Memref sig .tc .vmem S1x1024 .f32).view.read (Elt F) ((Memref.whole cc0_stg7_0 : Memref sig .tc .vmem S1x1024 .f32).view.writes (Elt F) (View.junk _) L)

theorem back6_of (v : View sig .tc .vmem S512x1024 .f32) (f) (L : List (View.Piece (Elt F) S512x1024 .f32)) (h : ∀ y, ∃ p ∈ L, y ∈ p.1.set) :
    v.read (Elt F) (v.writes (Elt F) f L) = back6 L := View.read_writes_of_cover _ _ _ _ _ h
theorem back7_of (v : View sig .tc .vmem S1x1024 .f32) (f) (L : List (View.Piece (Elt F) S1x1024 .f32)) (h : ∀ y, ∃ p ∈ L, y ∈ p.1.set) :
    v.read (Elt F) (v.writes (Elt F) f L) = back7 L := View.read_writes_of_cover _ _ _ _ _ h

theorem first_zero {n : ℕ} (hn : n < cfg0.N) (h : n = 0) : first ⟨n, hn⟩ := (first_iff _).mpr h
theorem first_succ {n : ℕ} (hn : n + 1 < cfg0.N) : ¬first ⟨n + 1, hn⟩ := fun h => by have := (first_iff _).mp h; simp at this
theorem ahead_of {n : ℕ} (hn : n < cfg0.N) (h : n < 14) : ahead ⟨n, hn⟩ := (ahead_iff _).mpr h
theorem ahead_not {n : ℕ} (hn : n < cfg0.N) (h : ¬n < 14) : ¬ahead ⟨n, hn⟩ := fun h' => h ((ahead_iff _).mp h')

/-- What the body leaves in the two results' blocks at point `n`. -/
def outs (c : Dev nD) : (n : ℕ) → n < cfg0.N → Vec F S512x1024 .f32 × Vec F S1x1024 .f32
  | 0, hn => (back6 (firstAt m c ⟨0, hn⟩ (first_zero hn rfl) (ahead_of hn (by decide))).1, back7 (firstAt m c ⟨0, hn⟩ (first_zero hn rfl) (ahead_of hn (by decide))).2.1)
  | n + 1, hn =>
    if h : n + 1 < 14 then
      (back6 (midAt m c ⟨n + 1, hn⟩ (first_succ hn) (ahead_of hn h) (outs c n (Nat.lt_of_succ_lt hn)).2).1, back7 (midAt m c ⟨n + 1, hn⟩ (first_succ hn) (ahead_of hn h) (outs c n (Nat.lt_of_succ_lt hn)).2).2.1)
    else
      (back6 (lastAt m c ⟨n + 1, hn⟩ (first_succ hn) (ahead_not hn h) (outs c n (Nat.lt_of_succ_lt hn)).2).1, back7 (lastAt m c ⟨n + 1, hn⟩ (first_succ hn) (ahead_not hn h) (outs c n (Nat.lt_of_succ_lt hn)).2).2.1)

theorem prev_lt (t : Fin cfg0.N) : t.val - 1 < cfg0.N := Nat.lt_of_le_of_lt (Nat.sub_le _ _) t.isLt

theorem outs_first (c : Dev nD) (t : Fin cfg0.N) (hf : first t) (ha : ahead t) :
    outs m c t.val t.isLt = (back6 (firstAt m c t hf ha).1, back7 (firstAt m c t hf ha).2.1) := by
  obtain ⟨n, hn⟩ := t
  cases n with
  | zero => exact rfl
  | succ n => exact absurd hf (first_succ hn)
theorem outs_mid (c : Dev nD) (t : Fin cfg0.N) (hf : ¬first t) (ha : ahead t) :
    outs m c t.val t.isLt = (back6 (midAt m c t hf ha (outs m c (t.val - 1) (prev_lt t)).2).1, back7 (midAt m c t hf ha (outs m c (t.val - 1) (prev_lt t)).2).2.1) := by
  obtain ⟨n, hn⟩ := t
  cases n with
  | zero => exact absurd (first_zero hn rfl) hf
  | succ n => exact (dif_pos ((ahead_iff _).mp ha)).trans rfl
theorem outs_last (c : Dev nD) (t : Fin cfg0.N) (hf : ¬first t) (ha : ¬ahead t) :
    outs m c t.val t.isLt = (back6 (lastAt m c t hf ha (outs m c (t.val - 1) (prev_lt t)).2).1, back7 (lastAt m c t hf ha (outs m c (t.val - 1) (prev_lt t)).2).2.1) := by
  obtain ⟨n, hn⟩ := t
  cases n with
  | zero => exact absurd (first_zero hn rfl) hf
  | succ n => exact (dif_neg (fun h => ha ((ahead_iff _).mpr h))).trans rfl

/-- The weight's buffer before point `k`: anything, then the groups. -/
def weight (c : Dev nD) (k : ℕ) : sProp 𝕄 :=
  if k = 0 then iprop(∃ d, owns (c : Thread nD τ) wAll fullShare d) else owns (c : Thread nD τ) wAll fullShare (groups (wArr.view.read (Elt F) (V m c main_v2)))
/-- What holds before point `k`. -/
def before (c : Dev nD) (k : ℕ) : sProp 𝕄 :=
  iprop((∃ r, prngReg c r) ∗ stream xBuf xArr 0 c (V m c main_arg0) k ∗ stream dBuf dArr 1 c (V m c main_arg1) k ∗ weight m c k ∗ inPlace c wArr (V m c main_v2) ∗ wSems c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).1
    | ⟨7, _⟩ => (outs m c t.val t.isLt).2
  Φ t := before m c t.val
  q _ := fullShare
  owed _ := 0

theorem A_eq (c : Dev nD) (w : Fin cfg0.W) : (dats m 0 c).A w = V m c (Pipeline.arrRef spec0 w) := by dsimp only [dats]
theorem Phi_cast (c : Dev nD) (t : Fin cfg0.N) : (dats m 0 c).Φ t.castSucc = before m c t.val := by dsimp only [dats, Fin.val_castSucc]
theorem Phi_succ (c : Dev nD) (t : Fin cfg0.N) : (dats m 0 c).Φ t.succ = before m c (t.val + 1) := by dsimp only [dats, Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outs m c t.val t.isLt).1 := by dsimp only [dats]
theorem after_7 (c : Dev nD) (t : Fin cfg0.N) : (dats m 0 c).after 7 t = (outs m c t.val t.isLt).2 := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- After the first point the gain's block holds the sum so far. -/
theorem before_7 (c : Dev nD) (t : Fin cfg0.N) (hf : ¬first t) (d) : (dats m 0 c).before 7 t d = (outs m c (t.val - 1) (prev_lt t)).2 := by
  have hN := points t
  have h0 : t.val ≠ 0 := fun h => hf ((first_iff t).mpr h)
  rw [Dat.before_out_kept _ 7 rfl t (by omega) (Bool.eq_false_iff.mpr fun h => by have := (flush0_7 _).mp h; dsimp only at this; omega)
    (fun _ => rfl) (fun _ _ => rfl)]
  dsimp only [dats]

/-! ## One point -/

def bodyPre (c : Dev nD) (t : Fin cfg0.N) : sProp 𝕄 :=
  iprop((dats m 0 c).Φ t.castSucc ∗ (dats m 0 c).owesAt () t.castSucc
    ∗ (∃ d, owns (c : Thread nD τ) ((win0_0).stage (cfg0.slots t 0)) fullShare ((dats m 0 c).before 0 t d))
    ∗ (∃ d, owns (c : Thread nD τ) ((win0_1).stage (cfg0.slots t 1)) fullShare ((dats m 0 c).before 1 t d))
    ∗ (∃ d, owns (c : Thread nD τ) ((win0_2).stage (cfg0.slots t 2)) fullShare ((dats m 0 c).before 2 t d))
    ∗ (∃ d, owns (c : Thread nD τ) ((win0_3).stage (cfg0.slots t 3)) fullShare ((dats m 0 c).before 3 t d))
    ∗ (∃ d, owns (c : Thread nD τ) ((win0_4).stage (cfg0.slots t 4)) fullShare ((dats m 0 c).before 4 t d))
    ∗ (∃ d, owns (c : Thread nD τ) ((win0_5).stage (cfg0.slots t 5)) fullShare ((dats m 0 c).before 5 t d))
    ∗ (∃ d, owns (c : Thread nD τ) ((win0_6).stage (cfg0.slots t 6)) fullShare ((dats m 0 c).before 6 t d))
    ∗ (∃ d, owns (c : Thread nD τ) ((win0_7).stage (cfg0.slots t 7)) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) ((win0_0).stage (cfg0.slots t 0)) fullShare ((dats m 0 c).after 0 t)
    ∗ owns (c : Thread nD τ) ((win0_1).stage (cfg0.slots t 1)) fullShare ((dats m 0 c).after 1 t)
    ∗ owns (c : Thread nD τ) ((win0_2).stage (cfg0.slots t 2)) fullShare ((dats m 0 c).after 2 t)
    ∗ owns (c : Thread nD τ) ((win0_3).stage (cfg0.slots t 3)) fullShare ((dats m 0 c).after 3 t)
    ∗ owns (c : Thread nD τ) ((win0_4).stage (cfg0.slots t 4)) fullShare ((dats m 0 c).after 4 t)
    ∗ owns (c : Thread nD τ) ((win0_5).stage (cfg0.slots t 5)) fullShare ((dats m 0 c).after 5 t)
    ∗ owns (c : Thread nD τ) ((win0_6).stage (cfg0.slots t 6)) fullShare ((dats m 0 c).after 6 t)
    ∗ owns (c : Thread nD τ) ((win0_7).stage (cfg0.slots t 7)) fullShare ((dats m 0 c).after 7 t))

theorem cover6_first (c : Dev nD) (t : Fin cfg0.N) (hf : first t) (ha : ahead t) (y : S512x1024.Idx) : ∃ p ∈ (firstAt m c t hf ha).1, y ∈ p.1.set :=
  View.cover_of_tiledL (firstAt m c t hf ha).1 S512x1024.size (by sl_kernel_rfl) y
theorem cover7_first (c : Dev nD) (t : Fin cfg0.N) (hf : first t) (ha : ahead t) (y : S1x1024.Idx) : ∃ p ∈ (firstAt m c t hf ha).2.1, y ∈ p.1.set :=
  View.cover_of_tiledL (firstAt m c t hf ha).2.1 S1x1024.size (by sl_kernel_rfl) y
theorem cover6_mid (c : Dev nD) (t : Fin cfg0.N) (hf : ¬first t) (ha : ahead t) (g) (y : S512x1024.Idx) : ∃ p ∈ (midAt m c t hf ha g).1, y ∈ p.1.set :=
  View.cover_of_tiledL (midAt m c t hf ha g).1 S512x1024.size (by sl_kernel_rfl) y
theorem cover7_mid (c : Dev nD) (t : Fin cfg0.N) (hf : ¬first t) (ha : ahead t) (g) (y : S1x1024.Idx) : ∃ p ∈ (midAt m c t hf ha g).2.1, y ∈ p.1.set :=
  View.cover_of_tiledL (midAt m c t hf ha g).2.1 S1x1024.size (by sl_kernel_rfl) y
theorem cover6_last (c : Dev nD) (t : Fin cfg0.N) (hf : ¬first t) (ha : ¬ahead t) (g) (y : S512x1024.Idx) : ∃ p ∈ (lastAt m c t hf ha g).1, y ∈ p.1.set :=
  View.cover_of_tiledL (lastAt m c t hf ha g).1 S512x1024.size (by sl_kernel_rfl) y
theorem cover7_last (c : Dev nD) (t : Fin cfg0.N) (hf : ¬first t) (ha : ¬ahead t) (g) (y : S1x1024.Idx) : ∃ p ∈ (lastAt m c t hf ha g).2.1, y ∈ p.1.set :=
  View.cover_of_tiledL (lastAt m c t hf ha g).2.1 S1x1024.size (by sl_kernel_rfl) y

set_option maxHeartbeats 2400000 in
theorem point_first (c : Dev nD) (t : Fin cfg0.N) (hf : first t) (ha : ahead t) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [after_0, after_1, after_2, after_3, after_4, after_5, after_6, after_7]
  rw [Phi_cast m c t, Phi_succ m c t]
  unfold Dat.owesAt Pipeline.owesWithin
  rw [show (dats m 0 c).owed t.castSucc = 0 from rfl, show (dats m 0 c).owed t.succ = 0 from rfl]
  have z : t.val = 0 := (first_iff t).mp hf
  have e6 : (outs m c t.val t.isLt).1 = back6 (firstAt m c t hf ha).1 := by rw [outs_first m c t hf ha]
  have e7 : (outs m c t.val t.isLt).2 = back7 (firstAt m c t hf ha).2.1 := by rw [outs_first m c t hf ha]
  rw [e6, e7]
  unfold before weight
  rw [if_pos z, if_neg (by omega), stream_first _ _ _ _ _ z, stream_first _ _ _ _ _ z, stream_next _ _ _ _ _ (by omega), stream_next _ _ _ _ _ (by omega)]
  iintro ⟨⟨Hg, HX, HD, HA, HG, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((firstAt m c t hf ha).2.2 W _)
  isplitl [H0 H1 H2 H3 H4 H5]
  · unfold staged
    isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexists _; iexact H7
  isplitl [HA]; · iexact HA
  isplitl [HG]; · iexact HG
  isplitl [HS]; · iexact HS
  isplitl [HX]; · iexact HX
  isplitl [HD]; · iexact HD
  isplitl [HW]; · iexact HW
  iintro ⟨HT, ⟨%f6, H6⟩, ⟨%f7, H7⟩, HA, HG, HS, HX, HD, ⟨%W', HW'⟩⟩
  isplitl [Hg HX HD HA HG HS]
  · isplitl [Hg]; · iexact Hg
    isplitl [HX]; · iexact HX
    isplitl [HD]; · iexact HD
    isplitl [HA]; · iexact HA
    isplitl [HG]; · iexact HG
    iexact HS
  isplitl [HW']
  · iexists W'; isplitr; · ipureintro; exact fun _ _ => Or.inl trivial
    iexact HW'
  unfold staged
  icases HT with ⟨H0, H1, H2, H3, H4, H5⟩
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact back6_of _ _ _ (cover6_first m c t hf ha)
  unfold owns; iexists _; isplitr
  swap; · iexact H7
  ipureintro; exact back7_of _ _ _ (cover7_first m c t hf ha)

set_option maxHeartbeats 2400000 in
theorem point_mid (c : Dev nD) (t : Fin cfg0.N) (hf : ¬first t) (ha : ahead t) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_7 m c t hf]
  rw [after_0, after_1, after_2, after_3, after_4, after_5, after_6, after_7]
  rw [Phi_cast m c t, Phi_succ m c t]
  unfold Dat.owesAt Pipeline.owesWithin
  rw [show (dats m 0 c).owed t.castSucc = 0 from rfl, show (dats m 0 c).owed t.succ = 0 from rfl]
  have z : t.val ≠ 0 := fun h => hf ((first_iff t).mpr h)
  have hN := points t
  have hA : t.val < 14 := (ahead_iff t).mp ha
  have e6 : (outs m c t.val t.isLt).1 = back6 (midAt m c t hf ha (outs m c (t.val - 1) (prev_lt t)).2).1 := by rw [outs_mid m c t hf ha]
  have e7 : (outs m c t.val t.isLt).2 = back7 (midAt m c t hf ha (outs m c (t.val - 1) (prev_lt t)).2).2.1 := by rw [outs_mid m c t hf ha]
  rw [e6, e7]
  unfold before weight
  rw [if_neg z, if_neg (by omega), stream_here _ _ _ _ _ (by omega) (by omega), stream_here _ _ _ _ _ (by omega) (by omega), stream_next _ _ _ _ _ (by omega), stream_next _ _ _ _ _ (by omega)]
  iintro ⟨⟨Hg, HX, HD, HA, HG, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((midAt m c t hf ha (outs m c (t.val - 1) (prev_lt t)).2).2.2 W _)
  isplitl [H0 H1 H2 H3 H4 H5]
  · unfold staged
    isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexact H7
  isplitl [HA]; · iexact HA
  isplitl [HX]; · iexact HX
  isplitl [HD]; · iexact HD
  isplitl [HW]; · iexact HW
  iintro ⟨HT, ⟨%f6, H6⟩, ⟨%f7, H7⟩, HA, HX, HD, ⟨%W', HW'⟩⟩
  isplitl [Hg HX HD HA HG HS]
  · isplitl [Hg]; · iexact Hg
    isplitl [HX]; · iexact HX
    isplitl [HD]; · iexact HD
    isplitl [HA]; · iexact HA
    isplitl [HG]; · iexact HG
    iexact HS
  isplitl [HW']
  · iexists W'; isplitr; · ipureintro; exact fun _ _ => Or.inl trivial
    iexact HW'
  unfold staged
  icases HT with ⟨H0, H1, H2, H3, H4, H5⟩
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact back6_of _ _ _ (cover6_mid m c t hf ha _)
  unfold owns; iexists _; isplitr
  swap; · iexact H7
  ipureintro; exact back7_of _ _ _ (cover7_mid m c t hf ha _)

set_option maxHeartbeats 2400000 in
theorem point_last (c : Dev nD) (t : Fin cfg0.N) (hf : ¬first t) (ha : ¬ahead t) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_7 m c t hf]
  rw [after_0, after_1, after_2, after_3, after_4, after_5, after_6, after_7]
  rw [Phi_cast m c t, Phi_succ m c t]
  unfold Dat.owesAt Pipeline.owesWithin
  rw [show (dats m 0 c).owed t.castSucc = 0 from rfl, show (dats m 0 c).owed t.succ = 0 from rfl]
  have z : t.val ≠ 0 := fun h => hf ((first_iff t).mpr h)
  have hN := points t
  have hA : ¬t.val < 14 := fun h => ha ((ahead_iff t).mpr h)
  have e6 : (outs m c t.val t.isLt).1 = back6 (lastAt m c t hf ha (outs m c (t.val - 1) (prev_lt t)).2).1 := by rw [outs_last m c t hf ha]
  have e7 : (outs m c t.val t.isLt).2 = back7 (lastAt m c t hf ha (outs m c (t.val - 1) (prev_lt t)).2).2.1 := by rw [outs_last m c t hf ha]
  rw [e6, e7]
  unfold before weight
  rw [if_neg z, if_neg (by omega), stream_end _ _ _ _ _ (by omega) hN, stream_end _ _ _ _ _ (by omega) hN, stream_end_next _ _ _ _ _ (by omega) (by omega), stream_end_next _ _ _ _ _ (by omega) (by omega)]
  iintro ⟨⟨Hg, HX, HD, HA, HG, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((lastAt m c t hf ha (outs m c (t.val - 1) (prev_lt t)).2).2.2 W _)
  isplitl [H0 H1 H2 H3 H4 H5]
  · unfold staged
    isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexact H7
  isplitl [HA]; · iexact HA
  isplitl [HX]; · iexact HX
  isplitl [HD]; · iexact HD
  isplitl [HW]; · iexact HW
  iintro ⟨HT, ⟨%f6, H6⟩, ⟨%f7, H7⟩, HA, HX, HD, ⟨%W', HW'⟩⟩
  isplitl [Hg HX HD HA HG HS]
  · isplitl [Hg]; · iexact Hg
    isplitl [HX]; · iexact HX
    isplitl [HD]; · iexact HD
    isplitl [HA]; · iexact HA
    isplitl [HG]; · iexact HG
    iexact HS
  isplitl [HW']
  · iexists W'; isplitr; · ipureintro; exact fun _ _ => Or.inl trivial
    iexact HW'
  unfold staged
  icases HT with ⟨H0, H1, H2, H3, H4, H5⟩
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact back6_of _ _ _ (cover6_last m c t hf ha _)
  unfold owns; iexists _; isplitr
  swap; · iexact H7
  ipureintro; exact back7_of _ _ _ (cover7_last m c t hf ha _)

theorem point (c : Dev nD) (t : Fin cfg0.N) :
    bodyPre m c t ⊢ wp frame (wpE (defs₀ (F := F)) Variants.none c none) Set.univ (bodyAt0 t) (fun _ => bodyPost m c t) := by
  by_cases hf : first t
  · exact point_first m c t hf ((ahead_iff t).mpr (by rw [(first_iff t).mp hf]; decide))
  · by_cases ha : ahead t
    · exact point_mid m c t hf ha
    · exact point_last m c t hf ha

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

/-! ## The launch -/

theorem region_eq (c : Dev nD) :
    (Pipeline.ΦD sems spec0 arrays (V m) c : sProp 𝕄)
      = iprop(((∃ f, (c : Thread nD τ).loc cc0_scratch0 ↦{fullShare} f) ∗ (∃ f, (c : Thread nD τ).loc cc0_scratch2 ↦{fullShare} f) ∗ (∃ f, (c : Thread nD τ).loc cc0_scratch3 ↦{fullShare} f))
        ∗ (∃ r, prngReg c r)
        ∗ (semVal ((c : Thread nD τ), SemLoc.dma 14) 0 ∗ semVal ((c : Thread nD τ), SemLoc.dma 15) 0 ∗ semVal ((c : Thread nD τ), SemLoc.dma 16) 0
          ∗ semVal ((c : Thread nD τ), SemLoc.dma 17) 0 ∗ semVal ((c : Thread nD τ), SemLoc.dma 18) 0 ∗ semVal ((c : Thread nD τ), SemLoc.dma 19) 0
          ∗ semVal ((c : Thread nD τ), SemLoc.dma 20) 0 ∗ semVal ((c : Thread nD τ), SemLoc.dma 21) 0
          ∗ semVal ((c : Thread nD τ), SemLoc.dma 22) 0 ∗ semVal ((c : Thread nD τ), SemLoc.dma 23) 0 ∗ semVal ((c : Thread nD τ), SemLoc.dma 24) 0
          ∗ semVal ((c : Thread nD τ), SemLoc.dma 25) 0 ∗ semVal ((c : Thread nD τ), SemLoc.dma 26) 0 ∗ semVal ((c : Thread nD τ), SemLoc.dma 27) 0)
        ∗ (((c : Thread nD τ).loc main_arg0 ↦{fullShare} V m c main_arg0) ∗ ((c : Thread nD τ).loc main_arg1 ↦{fullShare} V m c main_arg1) ∗ ((c : Thread nD τ).loc main_v2 ↦{fullShare} V m c main_v2))) := by
  rw [Pipeline.ΦD_eq, scopedRest0_eq, Pipeline.ownSems0_eq_of_list c sems [0, 1, 2, 3, 4, 5, 6, 7, 8, 9, 10, 11, 12, 13] (by decide) (by decide),
    BI.bigSep_eq_bigSepL_of_eq [main_arg0, main_arg1, main_v2] (by decide) (by decide)]
  rfl

abbrev slotCells (s : Fin 3) : Finset S3x512x1024.Idx := (Rect.unit (s := S3x512x1024) ![s.val, 0, 0] S1x512x1024.size (slot_in s)).set
theorem xBuf_set (s : Fin 3) : (slot xBuf s).view.set = slotCells s := by
  simp only [slot, Memref.view_squeeze, View.set_reshape]; exact View.set_slice_whole _ _
theorem dBuf_set (s : Fin 3) : (slot dBuf s).view.set = slotCells s := by
  simp only [slot, Memref.view_squeeze, View.set_reshape]; exact View.set_slice_whole _ _
theorem xBuf_at (c : Dev nD) (s : Fin 3) (f) : (slotAt xBuf c s f : sProp 𝕄) = ((c : Thread nD τ).loc cc0_scratch2 ↦[slotCells s]{fullShare} f) := by
  unfold slotAt; rw [xBuf_set]; rfl
theorem dBuf_at (c : Dev nD) (s : Fin 3) (f) : (slotAt dBuf c s f : sProp 𝕄) = ((c : Thread nD τ).loc cc0_scratch3 ↦[slotCells s]{fullShare} f) := by
  unfold slotAt; rw [dBuf_set]; rfl

theorem xBuf_in (c : Dev nD) : iprop(∃ f, (c : Thread nD τ).loc cc0_scratch2 ↦{fullShare} f) ⊢ (iprop((∃ f, slotAt xBuf c 0 f) ∗ (∃ f, slotAt xBuf c 1 f) ∗ ∃ f, slotAt xBuf c 2 f) : sProp 𝕄) :=
  Ring.slots3_split (U := Pipeline.UD sig nD τ) (ℓ := (c : Thread nD τ).loc cc0_scratch2) (q := fullShare) slotCells slots_apart slots_all
    (slotAt xBuf c 0) (slotAt xBuf c 1) (slotAt xBuf c 2) (xBuf_at c 0) (xBuf_at c 1) (xBuf_at c 2)
theorem xBuf_out (c : Dev nD) : (iprop((∃ f, slotAt xBuf c 0 f) ∗ (∃ f, slotAt xBuf c 1 f) ∗ ∃ f, slotAt xBuf c 2 f) : sProp 𝕄) ⊢ iprop(∃ f, (c : Thread nD τ).loc cc0_scratch2 ↦{fullShare} f) :=
  Ring.slots3_join (U := Pipeline.UD sig nD τ) (ℓ := (c : Thread nD τ).loc cc0_scratch2) (q := fullShare) slotCells slots_apart slots_all
    (slotAt xBuf c 0) (slotAt xBuf c 1) (slotAt xBuf c 2) (xBuf_at c 0) (xBuf_at c 1) (xBuf_at c 2)
theorem dBuf_in (c : Dev nD) : iprop(∃ f, (c : Thread nD τ).loc cc0_scratch3 ↦{fullShare} f) ⊢ (iprop((∃ f, slotAt dBuf c 0 f) ∗ (∃ f, slotAt dBuf c 1 f) ∗ ∃ f, slotAt dBuf c 2 f) : sProp 𝕄) :=
  Ring.slots3_split (U := Pipeline.UD sig nD τ) (ℓ := (c : Thread nD τ).loc cc0_scratch3) (q := fullShare) slotCells slots_apart slots_all
    (slotAt dBuf c 0) (slotAt dBuf c 1) (slotAt dBuf c 2) (dBuf_at c 0) (dBuf_at c 1) (dBuf_at c 2)
theorem dBuf_out (c : Dev nD) : (iprop((∃ f, slotAt dBuf c 0 f) ∗ (∃ f, slotAt dBuf c 1 f) ∗ ∃ f, slotAt dBuf c 2 f) : sProp 𝕄) ⊢ iprop(∃ f, (c : Thread nD τ).loc cc0_scratch3 ↦{fullShare} f) :=
  Ring.slots3_join (U := Pipeline.UD sig nD τ) (ℓ := (c : Thread nD τ).loc cc0_scratch3) (q := fullShare) slotCells slots_apart slots_all
    (slotAt dBuf c 0) (slotAt dBuf c 1) (slotAt dBuf c 2) (dBuf_at c 0) (dBuf_at c 1) (dBuf_at c 2)

/-- A stream before its first point. -/
theorem stream_in (S : Memref sig .tc .vmem S3x512x1024 .f32) (H : Memref sig .tc .hbm S8192x1024 .f32) (r : Fin 2) (c : Dev nD) (W : Buf (Elt F) (H.view.loc (c : Thread nD τ))) :
    iprop(((∃ f, slotAt S c 0 f) ∗ (∃ f, slotAt S c 1 f) ∗ ∃ f, slotAt S c 2 f) ∗ (semAt r c 0 ∗ semAt r c 1 ∗ semAt r c 2) ∗ (H.view.loc (c : Thread nD τ) ↦{fullShare} W))
      ⊢ (stream S H r c W 0 : sProp 𝕄) := by
  rw [stream_zero]; unfold idle
  iintro ⟨⟨F0, F1, F2⟩, ⟨C0, C1, C2⟩, HH⟩
  ihave HP := (shared_all H c W).1 $$ HH
  icases HP with ⟨P0, P1, P2⟩
  isplitl [F0 C0 P0]
  · isplitl [C0]; · iexact C0
    isplitl [F0]; · iexact F0
    iexact P0
  isplitl [F1 C1 P1]
  · isplitl [C1]; · iexact C1
    isplitl [F1]; · iexact F1
    iexact P1
  isplitl [C2]; · iexact C2
  isplitl [F2]; · iexact F2
  iexact P2
/-- A stream after its last point. -/
theorem stream_out (S : Memref sig .tc .vmem S3x512x1024 .f32) (H : Memref sig .tc .hbm S8192x1024 .f32) (r : Fin 2) (c : Dev nD) (W : Buf (Elt F) (H.view.loc (c : Thread nD τ))) :
    (stream S H r c W 16 : sProp 𝕄)
      ⊢ iprop(((∃ f, slotAt S c 0 f) ∗ (∃ f, slotAt S c 1 f) ∗ ∃ f, slotAt S c 2 f) ∗ (semAt r c 0 ∗ semAt r c 1 ∗ semAt r c 2) ∗ (H.view.loc (c : Thread nD τ) ↦{fullShare} W)) := by
  rw [stream_last]; unfold idle
  iintro ⟨⟨C1, F1, P1⟩, ⟨C2, F2, P2⟩, ⟨C0, F0, P0⟩⟩
  isplitl [F0 F1 F2]
  · isplitl [F0]; · iexact F0
    isplitl [F1]; · iexact F1
    iexact F2
  isplitl [C0 C1 C2]
  · isplitl [C0]; · iexact C0
    isplitl [C1]; · iexact C1
    iexact C2
  iapply (shared_all H c W).2
  isplitl [P0]; · iexact P0
  isplitl [P1]; · iexact P1
  iexact P2

theorem cell_00 (c : Dev nD) : (semAt 0 c 0 : sProp 𝕄) = semVal ((c : Thread nD τ), SemLoc.dma 22) 0 := sem_at c 0 0 22 _ (by decide)
theorem cell_01 (c : Dev nD) : (semAt 0 c 1 : sProp 𝕄) = semVal ((c : Thread nD τ), SemLoc.dma 23) 0 := sem_at c 0 1 23 _ (by decide)
theorem cell_02 (c : Dev nD) : (semAt 0 c 2 : sProp 𝕄) = semVal ((c : Thread nD τ), SemLoc.dma 24) 0 := sem_at c 0 2 24 _ (by decide)
theorem cell_10 (c : Dev nD) : (semAt 1 c 0 : sProp 𝕄) = semVal ((c : Thread nD τ), SemLoc.dma 25) 0 := sem_at c 1 0 25 _ (by decide)
theorem cell_11 (c : Dev nD) : (semAt 1 c 1 : sProp 𝕄) = semVal ((c : Thread nD τ), SemLoc.dma 26) 0 := sem_at c 1 1 26 _ (by decide)
theorem cell_12 (c : Dev nD) : (semAt 1 c 2 : sProp 𝕄) = semVal ((c : Thread nD τ), SemLoc.dma 27) 0 := sem_at c 1 2 27 _ (by decide)

theorem wAll_whole (c : Dev nD) (d : Vec F S1024x3072 .bf16) : (owns (c : Thread nD τ) wAll fullShare d : sProp 𝕄) = ((c : Thread nD τ).loc cc0_scratch0 ↦{fullShare} d) := by
  simp only [wAll, owns_whole]

theorem wAll_out (c : Dev nD) (d : Vec F S1024x3072 .bf16) : (owns (c : Thread nD τ) wAll fullShare d : sProp 𝕄) ⊢ iprop(∃ f, (c : Thread nD τ).loc cc0_scratch0 ↦{fullShare} f) := by
  rw [wAll_whole]; iintro H; iexists d; iexact H
theorem cell_out (r : Fin 2) (s : Fin 3) (c : Dev nD) (P : sProp 𝕄) (h : semAt r c s = P) : semAt r c s ⊢ P := by rw [h]

theorem launch_in (c : Dev nD) : Pipeline.ΦD sems spec0 arrays (V m) c ⊢ (dats m 0 c).Φ 0 := by
  rw [region_eq, show (dats m 0 c).Φ 0 = before m c 0 from rfl]
  unfold before weight wSems inPlace
  rw [if_pos rfl]
  iintro ⟨⟨HA, HB, HC⟩, Hg, ⟨C14, C15, C16, C17, C18, C19, C20, C21, C22, C23, C24, C25, C26, C27⟩, ⟨Hx, Hd, Hw⟩⟩
  isplitl [Hg]; · iexact Hg
  isplitl [HB C22 C23 C24 Hx]
  · iapply stream_in
    isplitl [HB]; · iapply (xBuf_in c); iexact HB
    isplitr [Hx]
    · irw [cell_00, cell_01, cell_02]
      isplitl [C22]; · iexact C22
      isplitl [C23]; · iexact C23
      iexact C24
    iexact Hx
  isplitl [HC C25 C26 C27 Hd]
  · iapply stream_in
    isplitl [HC]; · iapply (dBuf_in c); iexact HC
    isplitr [Hd]
    · irw [cell_10, cell_11, cell_12]
      isplitl [C25]; · iexact C25
      isplitl [C26]; · iexact C26
      iexact C27
    iexact Hd
  isplitl [HA]
  · icases HA with ⟨%f, HA⟩
    iexists f
    iapply (wAll_whole c f ▸ .rfl : ((c : Thread nD τ).loc cc0_scratch0 ↦{fullShare} f) ⊢ (owns (c : Thread nD τ) wAll fullShare f : sProp 𝕄)); iexact HA
  isplitl [Hw]; · iexact Hw
  isplitl [C14]; · iexact C14
  isplitl [C15]; · iexact C15
  isplitl [C16]; · iexact C16
  isplitl [C17]; · iexact C17
  isplitl [C18]; · iexact C18
  isplitl [C19]; · iexact C19
  isplitl [C20]; · iexact C20
  iexact C21

theorem launch_out (c : Dev nD) : (dats m 0 c).Φ (Fin.last cfg0.N) ⊢ Pipeline.ΦD sems spec0 arrays (V m) c := by
  rw [region_eq, show (dats m 0 c).Φ (Fin.last cfg0.N) = before m c grid0.N from rfl]
  unfold before weight wSems inPlace
  rw [show grid0.N = 16 by rw [N_0], if_neg (by decide)]
  iintro ⟨Hg, HX, HD, HA, Hw, ⟨C14, C15, C16, C17, C18, C19, C20, C21⟩⟩
  ihave HXX := (stream_out xBuf xArr 0 c (V m c main_arg0)) $$ HX
  icases HXX with ⟨HB, C, Hx⟩
  ihave HDD := (stream_out dBuf dArr 1 c (V m c main_arg1)) $$ HD
  icases HDD with ⟨HC, C', Hd⟩
  isplitl [HA HB HC]
  · isplitl [HA]
    · iapply (wAll_out c _); iexact HA
    isplitl [HB]; · iapply (xBuf_out c); iexact HB
    iapply (dBuf_out c); iexact HC
  isplitl [Hg]; · iexact Hg
  isplitr [Hx Hd Hw]
  · isplitl [C14]; · iexact C14
    isplitl [C15]; · iexact C15
    isplitl [C16]; · iexact C16
    isplitl [C17]; · iexact C17
    isplitl [C18]; · iexact C18
    isplitl [C19]; · iexact C19
    isplitl [C20]; · iexact C20
    isplitl [C21]; · iexact C21
    icases C with ⟨C22, C23, C24⟩
    icases C' with ⟨C25, C26, C27⟩
    isplitl [C22]; · iapply (cell_out 0 0 c _ (cell_00 c)); iexact C22
    isplitl [C23]; · iapply (cell_out 0 1 c _ (cell_01 c)); iexact C23
    isplitl [C24]; · iapply (cell_out 0 2 c _ (cell_02 c)); iexact C24
    isplitl [C25]; · iapply (cell_out 1 0 c _ (cell_10 c)); iexact C25
    isplitl [C26]; · iapply (cell_out 1 1 c _ (cell_11 c)); iexact C26
    iapply (cell_out 1 2 c _ (cell_12 c)); iexact C27
  isplitl [Hx]; · iexact Hx
  isplitl [Hd]; · iexact Hd
  iexact Hw

set_option maxHeartbeats 800000 in
theorem main_up (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none sems_own arrays arrays_rest m ρ main
    (hbody := fun c => (obligation m c).loose) (hshare := fun c => (dats m 0 c).share_full fun _ => rfl)
    (howed := fun _ _ => rfl) (V := V m) (hmain := main_up m Variants.none) (hA := A_eq m)
    (hin := launch_in m) (hout := launch_out m)

/-- The arguments end unchanged and the semaphores at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_all m ρ)

end Values

end NormDx

end
-- ==== Proof.NormReal.lean ====
/-
  One row of the in-projection's gradient at its input: what both programs compute, over the extended real numbers. A
  row with an infinite entry has reciprocal root mean square zero, and any other row a positive one, so that the
  products with it distribute over sums that hold infinities.
-/
module

public import proofs.«01_k».proof.Proof.PoolArgs

@[expose] public section

noncomputable section

open Idealize.ShloMosaic RealOps OutLossReal

namespace NormReal

/-- One row of the batch: the input of the norm, the gradient that reaches it past the layer, and the gradient at the
    projection. -/
structure Line where
  x : Fin 1024 → EReal
  y : Fin 1024 → EReal
  d : Fin 3072 → EReal

variable (W : Fin 1024 → Fin 3072 → EReal) (g : Fin 1024 → EReal) (R : Line)

/-- The mean square plus the norm's constant. -/
def msq : EReal := Ideal.div (∑ k, R.x k * R.x k) ((1024 : ℝ) : EReal) + (eps : EReal)

/-- The reciprocal root mean square. -/
def rt : EReal := Ideal.rsqrt (msq R)

/-- The normalised row. -/
def xh (k : Fin 1024) : EReal := R.x k * rt R

/-- The gradient at the norm's output. -/
def dh (k : Fin 1024) : EReal := ∑ j, R.d j * W k j

/-- The gradient at the normalised row. -/
def du (k : Fin 1024) : EReal := dh W R k * g k

/-- The gradient at the input. -/
def gx (k : Fin 1024) : EReal :=
  R.y k + rt R * (du W g R k - xh R k * Ideal.div (∑ l, du W g R l * xh R l) ((1024 : ℝ) : EReal))

/-- The row's share of the gain's gradient. -/
def dg (k : Fin 1024) : EReal := dh W R k * xh R k

/-- The row's derivative of the mean square, as the reverse pass over the norm's forward lines writes it. -/
def back : EReal :=
  Ideal.div ((∑ l, R.x l * du W g R l) * (((-(1 / 2) : ℝ) : EReal) * Ideal.div (rt R) (msq R))) ((1024 : ℝ) : EReal)

theorem msq_eq : msq R = ms (fun _ _ => 0) (PoolArgs.plain R.x) := by
  unfold msq ms
  simp only [PoolArgs.res_plain]

/-- A number not negative and finite distributes over a finite sum. -/
theorem mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s h ih =>
    rw [Finset.sum_insert h, Finset.sum_insert h, EReal.left_distrib_of_nonneg_of_ne_top (by exact_mod_cast hr) (EReal.coe_ne_top r), ih]

/-- Two equal products of a number with finite factors of one sign add up. -/
theorem twice (a : EReal) (p : ℝ) : a * (p : EReal) + a * (p : EReal) = a * ((2 * p : ℝ) : EReal) := by
  induction a with
  | coe a => simp only [← EReal.coe_mul, ← EReal.coe_add]; exact congrArg Real.toEReal (by ring)
  | top =>
    rcases lt_trichotomy p 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy p 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The reverse pass over the norm's forward lines gives the gradient at the input. -/
theorem gx_eq (k : Fin 1024) :
    R.y k + du W g R k * rt R + R.x k * back W g R + back W g R * R.x k = gx W g R k := by
  unfold gx back
  rcases ms_cases (fun _ _ => 0) (PoolArgs.plain R.x) with h | ⟨z, hz, h⟩
  · have h0 : rt R = 0 := by unfold rt; rw [msq_eq, h]; rfl
    rw [h0, msq_eq, h]
    simp [Ideal.div]
  · have hp := ms_real_pos z
    have hx : ∀ l, R.x l = (z l : EReal) := fun l => by rw [← hz l, PoolArgs.res_plain]
    generalize hs : (∑ k, z k * z k) / 1024 + eps = s at h hp
    have hr : rt R = (((Real.sqrt s)⁻¹ : ℝ) : EReal) := by unfold rt; rw [msq_eq, h, coe_rsqrt _ hp]
    have hq : (Real.sqrt s)⁻¹ * (Real.sqrt s)⁻¹ = s⁻¹ := by rw [← mul_inv, Real.mul_self_sqrt hp.le]
    have hr0 : 0 < (Real.sqrt s)⁻¹ := inv_pos.mpr (Real.sqrt_pos.mpr hp)
    rw [msq_eq, h]
    simp only [xh, hr, hx]
    generalize (Real.sqrt s)⁻¹ = r at hq hr0
    have hS : ∑ l, du W g R l * ((z l : EReal) * (r : EReal)) = (r : EReal) * ∑ l, (z l : EReal) * du W g R l := by
      rw [mul_sum _ _ _ hr0.le]
      exact Finset.sum_congr rfl fun l _ => by rw [mul_comm (du W g R l), mul_comm (z l : EReal), mul_assoc]
    rw [hS]
    generalize ∑ l, (z l : EReal) * du W g R l = S
    rw [coe_div _ _ hp.ne', Ideal.div_coe (show (1024 : ℝ) ≠ 0 by norm_num), Ideal.div_coe (show (1024 : ℝ) ≠ 0 by norm_num),
      ← EReal.coe_mul, mul_assoc S, ← EReal.coe_mul, mul_comm (S * _) (z k : EReal), add_assoc (R.y k + _),
      show (z k : EReal) * (S * ((-(1 / 2) * (r / s) * (1 / 1024) : ℝ) : EReal)) = S * ((z k * (-(1 / 2) * (r / s) * (1 / 1024)) : ℝ) : EReal) by
        rw [EReal.coe_mul (z k), mul_left_comm],
      twice, add_assoc, sub_eq_add_neg, EReal.left_distrib_of_nonneg_of_ne_top (by exact_mod_cast hr0.le) (EReal.coe_ne_top r),
      mul_comm (du W g R k)]
    congr 2
    rw [← EReal.coe_mul (z k), mul_comm (r : EReal) S, mul_assoc S, ← EReal.coe_mul r, mul_left_comm ((z k * r : ℝ) : EReal) S, ← EReal.coe_mul,
      ← mul_neg, ← EReal.coe_neg, mul_left_comm (r : EReal) S, ← EReal.coe_mul]
    refine congrArg (fun v : ℝ => S * (v : EReal)) ?_
    rw [div_eq_mul_inv r, ← hq]
    ring

end NormReal

end
-- ==== Proof.NormTile.lean ====
/-
  One tile of the in-projection's gradient at its input: what each stored value of the kernel's body is at an index.
-/
module

public import proofs.«01_k».proof.Proof.NormReal
public import proofs.«01_k».proof.Proof.Gen.NormDxIdeal.Skeleton
public import Idealize.ShloMosaic.Lib.Pointwise

@[expose] public section

set_option maxRecDepth 16384

noncomputable section

open Idealize.ShloMosaic Idealize.ShloMosaic.TcCoe Idealize.SL.Sem

namespace NormTile

open Cert.NormDxIdeal Cert.NormDxIdeal.Gen NormReal RealOps OutLossReal

variable (R : Fin 512 → Line) (W : Fin 1024 → Fin 3072 → EReal) (g : Fin 1024 → EReal)
variable (p : FVec Ideal S512x1024 .bf16) (q k v a : FVec Ideal S512x512 .bf16) (w : FVec Ideal S1024x3072 .bf16)
  (gain : FVec Ideal S1x1024 .f32) (x y : FVec Ideal S1x512x1024 .f32)

/-- The tile's loads hold the entries of its rows, the weight and the gain. -/
structure Reads : Prop where
  p : ∀ r (j : Fin 1024), p (ix2 r j) = (R r).d ⟨j.val, by omega⟩
  q : ∀ r (j : Fin 512), q (ix2 r j) = (R r).d ⟨1024 + j.val, by omega⟩
  k : ∀ r (j : Fin 512), k (ix2 r j) = (R r).d ⟨1536 + j.val, by omega⟩
  v : ∀ r (j : Fin 512), v (ix2 r j) = (R r).d ⟨2048 + j.val, by omega⟩
  a : ∀ r (j : Fin 512), a (ix2 r j) = (R r).d ⟨2560 + j.val, by omega⟩
  w : ∀ i j, w (ix2 i j) = W i j
  gain : ∀ i, gain (ix2 0 i) = g i
  x : ∀ r i, x (ix3 0 r i) = (R r).x i
  y : ∀ r i, y (ix3 0 r i) = (R r).y i

variable (f : Reads R W g p q k v a w gain x y)

include f

theorem columns (r : Fin 512) (j : Fin 3072) :
    concatenate S512x3072 1 [⟨S512x1024, k0_pay3 p⟩, ⟨S512x512, k0_pay4 q⟩, ⟨S512x512, k0_pay5 k⟩, ⟨S512x512, k0_pay6 v⟩,
      ⟨S512x512, shapeCast S512x512 a shapeCasts_S512x512_S512x512⟩]
      concatenates_S512x1024_S512x512_S512x512_S512x512_S512x512_S512x3072_d1 (ix2 r j) = (R r).d j := by
  pointwise [k0_pay3, k0_pay4, k0_pay5, k0_pay6]
  split
  · exact f.p _ _
  · split
    · rw [f.q]; exact congrArg (R r).d (Fin.ext (by dsimp only; omega))
    · split
      · rw [f.k]; exact congrArg (R r).d (Fin.ext (by dsimp only; omega))
      · split
        · rw [f.v]; exact congrArg (R r).d (Fin.ext (by dsimp only; omega))
        · rw [f.a]; exact congrArg (R r).d (Fin.ext (by dsimp only; omega))

theorem dh_at (r : Fin 512) (i : Fin 1024) :
    k0_pay7 (F := Ideal) (k0_pay3 p) (k0_pay4 q) (k0_pay5 k) (k0_pay6 v) a w (ix2 r i) = dh W (R r) i := by
  have h := columns R W g p q k v a w gain x y f r
  unfold k0_pay7
  generalize concatenate S512x3072 1 _ _ = C at h ⊢
  pointwise
  simp only [h, f.w]
  rfl

theorem rt_at (r : Fin 512) : k0_pay9 (F := Ideal) x (ix2 r 0) = rt (R r) := by
  pointwise [k0_pay9, k0_pay8]
  simp only [f.x, ofBits_1024, ofBits_eps]
  rfl

theorem xh_at (r : Fin 512) (i : Fin 1024) : k0_pay10 (F := Ideal) x (ix2 r i) = xh (R r) i := by
  pointwise [k0_pay10, k0_pay8]
  rw [f.x, rt_at R W g p q k v a w gain x y f]
  rfl

theorem dg_at (acc : FVec Ideal S1x1024 .f32) (i : Fin 1024) :
    k0_pay11 (F := Ideal) (k0_pay3 p) (k0_pay4 q) (k0_pay5 k) (k0_pay6 v) a w x acc (ix2 0 i) = acc (ix2 0 i) + ∑ r, dg W (R r) i := by
  pointwise [k0_pay11]
  simp only [dh_at R W g p q k v a w gain x y f, xh_at R W g p q k v a w gain x y f]
  rfl

theorem gx_at (r : Fin 512) (i : Fin 1024) :
    k0_pay1 (F := Ideal) (k0_pay9 x) (k0_pay12 y) (k0_pay13 (k0_pay3 p) (k0_pay4 q) (k0_pay5 k) (k0_pay6 v) a w x gain) (ix2 r i)
      = gx W g (R r) i := by
  pointwise [k0_pay1, k0_pay12, k0_pay13]
  simp only [dh_at R W g p q k v a w gain x y f, xh_at R W g p q k v a w gain x y f, rt_at R W g p q k v a w gain x y f, f.gain, f.y, ofBits_1024]
  rfl

omit f in
theorem zero_at (i : Fin 1024) : k0_pay2 (F := Ideal) (ix2 0 i) = 0 := by pointwise [k0_pay2]

end NormTile

end
-- ==== Proof.NormFold.lean ====
/-
  The kernel of the in-projection's gradient at its input, over its sixteen tiles: what each point leaves in the two
  results' blocks.
-/
module

public import proofs.«01_k».proof.Proof.NormRun
public import proofs.«01_k».proof.Proof.NormTile
public import Idealize.ShloMosaic.Lib.Pipeline.ValueKit
public import Idealize.ShloMosaic.Lib.WholeRead

@[expose] public section

set_option maxRecDepth 16384

noncomputable section

open Idealize.ShloMosaic Idealize.ShloMosaic.TcCoe Idealize.ShloMosaic.Tactic Idealize.SL.Sem
open Idealize.ShloMosaic.Ring (sl bk)

namespace NormFold

open Cert.NormDxIdeal Cert.NormDxIdeal.Gen NormReal RealOps NormDx

section Loads

variable {F : FTy → Type} [FloatOps F]

theorem cast_at (L : Vec F S1x512x1024 .f32) (v : Vec F S512x1024 .f32) (k : shapeCast S512x1024 L shapeCasts_S1x512x1024_S512x1024 = v)
    (r : Fin 512) (i : Fin 1024) : L (ix3 0 r i) = v (ix2 r i) := by
  rw [← k]
  pointwise

/-- What a slot reads, as a load of its place in the buffer. -/
theorem slot_read (S : Memref sig .tc .vmem S3x512x1024 .f32) (s : Fin 3) (f : S.view.ty.Contents (Elt F)) :
    (slot S s).view.read (Elt F) f
      = shapeCast S512x1024 (S.view.readAt (Elt F) (Rect.unit (s := S3x512x1024) ![s.val, 0, 0] S1x512x1024.size (slot_in s)).toLoadRect f) shapeCasts_S1x512x1024_S512x1024 := by
  unfold slot
  exact Memref.read_squeeze_slice S _ _ squeezes_S1x512x1024_S512x1024 shapeCasts_S1x512x1024_S512x1024 f

/-- A load of the slot that a block has landed in reads the block. -/
theorem landed_at (S : Memref sig .tc .vmem S3x512x1024 .f32) (s : Fin 3) (o : Fin 3 → Nat) (h : ∀ a, o a + S1x512x1024.size a ≤ S3x512x1024.size a)
    (e : o = ![s.val, 0, 0]) (f : S.view.ty.Contents (Elt F)) (v : Vec F S512x1024 .f32)
    (k : (slot S s).view.read (Elt F) f = v) (r : Fin 512) (i : Fin 1024) :
    View.readAt (Elt F) S.view (Rect.unit (s := S3x512x1024) o S1x512x1024.size h).toLoadRect f (ix3 0 r i) = v (ix2 r i) := by
  subst e
  have e := (slot_read S s f).symm.trans k
  generalize View.readAt (Elt F) S.view (Rect.unit (s := S3x512x1024) ![s.val, 0, 0] S1x512x1024.size (slot_in s)).toLoadRect f = L at e ⊢
  exact cast_at L v e r i

/-- Block `b` of an array. -/
theorem block_at (H : Memref sig .tc .hbm S8192x1024 .f32) (n : Fin 16) (X : H.view.ty.Contents (Elt F)) (r : Fin 512) (i : Fin 1024) :
    (block H n).view.read (Elt F) X (ix2 r i) = H.view.read (Elt F) X (ix2 ⟨512 * n.val + r.val, by omega⟩ i) := by
  show H.view.read (Elt F) X _ = _
  refine congrArg (H.view.read (Elt F) X) (funext fun a => Fin.ext ?_)
  match a with
  | ⟨0, _⟩ => simp [Rect.emb, Rect.unit]
  | ⟨1, _⟩ => simp [Rect.emb, Rect.unit]

end Loads

variable (m : (ℓ : Loc nD τ sig) → Buf (Elt Ideal) ℓ) (c : Dev nD)

/-- Row `n` of the batch (counted modulo the batch). -/
def lineAt (n : ℕ) : Line where
  x i := m ((c : Thread nD τ).loc main_arg0) (ix2 ⟨n % 8192, Nat.mod_lt _ (by decide)⟩ i)
  y i := m ((c : Thread nD τ).loc main_arg1) (ix2 ⟨n % 8192, Nat.mod_lt _ (by decide)⟩ i)
  d j := m ((c : Thread nD τ).loc main_arg2) (ix2 ⟨n % 8192, Nat.mod_lt _ (by decide)⟩ j)

/-- The kernel's weight. -/
def wAt (i : Fin 1024) (j : Fin 3072) : EReal := m ((c : Thread nD τ).loc main_arg4) (ix2 i j)

/-- The kernel's gain. -/
def gAt (i : Fin 1024) : EReal := m ((c : Thread nD τ).loc main_arg3) (ix1 i)

theorem row_mod (n : ℕ) (h : n < 8192) : (⟨n % 8192, Nat.mod_lt _ (by decide)⟩ : Fin 8192) = ⟨n, h⟩ :=
  Fin.ext (Nat.mod_eq_of_lt h)

theorem tile_lt (t : Fin cfg0.N) (r : Fin 512) : 512 * t.val + r.val < 8192 := by
  have := lt_of_lt_of_eq t.isLt (show cfg0.N = 16 from N_0)
  omega

theorem bk_val (t : Fin cfg0.N) : (bk 16 t.val).val = t.val :=
  (by decide +kernel : ∀ t : Fin grid0.N, (bk 16 t.val).val = t.val) t

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0] ∧ win0_7.index t = ![0, 0] :=
  (by decide +kernel : ∀ t : Fin grid0.N, _)

theorem blk_p (t : Fin cfg0.N) (r : Fin 512) (j : Fin 1024) (h : 512 * t.val + r.val < 8192) :
    iblk m c 0 t (ix2 r j) = m ((c : Thread nD τ).loc main_arg2) (ix2 ⟨512 * t.val + r.val, h⟩ ⟨j.val, by omega⟩) := by
  blk_point [iblk, V, idx t]
theorem blk_q (t : Fin cfg0.N) (r : Fin 512) (j : Fin 512) (h : 512 * t.val + r.val < 8192) :
    iblk m c 1 t (ix2 r j) = m ((c : Thread nD τ).loc main_arg2) (ix2 ⟨512 * t.val + r.val, h⟩ ⟨1024 + j.val, by omega⟩) := by
  blk_point [iblk, V, idx t]
theorem blk_k (t : Fin cfg0.N) (r : Fin 512) (j : Fin 512) (h : 512 * t.val + r.val < 8192) :
    iblk m c 2 t (ix2 r j) = m ((c : Thread nD τ).loc main_arg2) (ix2 ⟨512 * t.val + r.val, h⟩ ⟨1536 + j.val, by omega⟩) := by
  blk_point [iblk, V, idx t]
theorem blk_v (t : Fin cfg0.N) (r : Fin 512) (j : Fin 512) (h : 512 * t.val + r.val < 8192) :
    iblk m c 3 t (ix2 r j) = m ((c : Thread nD τ).loc main_arg2) (ix2 ⟨512 * t.val + r.val, h⟩ ⟨2048 + j.val, by omega⟩) := by
  blk_point [iblk, V, idx t]
theorem blk_a (t : Fin cfg0.N) (r : Fin 512) (j : Fin 512) (h : 512 * t.val + r.val < 8192) :
    iblk m c 4 t (ix2 r j) = m ((c : Thread nD τ).loc main_arg2) (ix2 ⟨512 * t.val + r.val, h⟩ ⟨2560 + j.val, by omega⟩) := by
  blk_point [iblk, V, idx t]
theorem blk_g (t : Fin cfg0.N) (i : Fin 1024) : iblk m c 5 t (ix2 0 i) = gAt m c i := by
  unfold gAt
  blk_point [iblk, V, idx t]

/-- The weight in its groups of columns, side by side, is the weight. -/
theorem blk_w (i : Fin 1024) (j : Fin 3072) : groups (wArr.view.read (Elt Ideal) (V m c main_v2)) (ix2 i j) = wAt m c i j := by
  unfold groups wAt
  show V m c main_v2 _ = _
  blk_point [V]

end NormFold

end
-- ==== Proof.NormTake.lean ====
/-
  What the body's loads hold at each point, and what it leaves in the two results' blocks, over the extended real
  numbers.
-/
module

public import proofs.«01_k».proof.Proof.NormFold

@[expose] public section

set_option maxRecDepth 16384

noncomputable section

open Idealize.ShloMosaic Idealize.ShloMosaic.TcCoe Idealize.ShloMosaic.Tactic Idealize.SL.Sem
open Idealize.ShloMosaic.Ring (sl bk)

namespace NormFold

open Cert.NormDxIdeal Cert.NormDxIdeal.Gen NormReal RealOps NormDx NormTile

section Loads

variable {F : FTy → Type} [FloatOps F]

/-- A load of a whole buffer reads what the buffer holds. -/
theorem load_whole {sp : Space} {s : Shape} {e : EltTy} (M : Memref sig .tc sp s e) (h : M.IsWhole) (X : s.Idx → Elt F e)
    (o : Fin s.rank → ℕ) (ho : ∀ a, o a = 0) (inb : ∀ a, o a + s.size a ≤ s.size a) (x : s.Idx) :
    M.view.readAt (Elt F) (Rect.unit (s := s) o s.size inb).toLoadRect (h.unread X) x = X x := by
  refine (h.readAt_unread X (Rect.unit (s := s) o s.size inb).toLoadRect x).trans (congrArg X (funext fun a => Fin.ext ?_))
  simp [Rect.toLoadRect, Rect.unit, Rect.emb, ho a]

/-- A store of the whole block, read back. -/
theorem back6_one (inb) (P : Vec F S512x1024 .f32) (L) (r : Fin 512) (i : Fin 1024) :
    back6 (⟨Rect.unit (s := S512x1024) ![0, 0] S512x1024.size inb, P⟩ :: L) (ix2 r i) = P (ix2 r i) := by
  have h := View.read_writes_cons_emb (Val := Elt F) (Memref.whole cc0_stg6_0 : Memref sig .tc .vmem S512x1024 .f32).view (View.junk _) (Rect.unit (s := S512x1024) ![0, 0] S512x1024.size inb) P L (ix2 r i)
  have e : (Rect.unit (s := S512x1024) ![0, 0] S512x1024.size inb).emb (ix2 r i) = ix2 r i := by
    funext a; refine Fin.ext ?_
    match a with
    | ⟨0, _⟩ => simp [Rect.emb, Rect.unit]
    | ⟨1, _⟩ => simp [Rect.emb, Rect.unit]
  rw [e] at h
  exact h

theorem back7_one (inb) (P : Vec F S1x1024 .f32) (L) (i : Fin 1024) :
    back7 (⟨Rect.unit (s := S1x1024) ![0, 0] S1x1024.size inb, P⟩ :: L) (ix2 0 i) = P (ix2 0 i) := by
  have h := View.read_writes_cons_emb (Val := Elt F) (Memref.whole cc0_stg7_0 : Memref sig .tc .vmem S1x1024 .f32).view (View.junk _) (Rect.unit (s := S1x1024) ![0, 0] S1x1024.size inb) P L (ix2 0 i)
  have e : (Rect.unit (s := S1x1024) ![0, 0] S1x1024.size inb).emb (ix2 0 i) = ix2 0 i := by
    funext a; refine Fin.ext ?_
    match a with
    | ⟨0, _⟩ => simp [Rect.emb, Rect.unit]
    | ⟨1, _⟩ => simp [Rect.emb, Rect.unit]
  rw [e] at h
  exact h

end Loads

variable (m : (ℓ : Loc nD τ sig) → Buf (Elt Ideal) ℓ) (c : Dev nD)

/-- The rows of tile `t`. -/
abbrev lines (t : Fin cfg0.N) (r : Fin 512) : Line := lineAt m c (512 * t.val + r.val)

theorem x_mid (t : Fin cfg0.N) (r : Fin 512) (i : Fin 1024) : midRun.sl.v35 c t (V m c main_arg0) (ix3 0 r i) = (lines m c t r).x i := by
  unfold midRun.sl.v35
  refine (landed_at xBuf (sl 3 t.val) _ _ (at_load t) _ _ (View.read_writes_whole (slot xBuf (sl 3 t.val)).view _ _) r i).trans ?_
  refine (block_at xArr (bk 16 t.val) _ r i).trans ?_
  show V m c main_arg0 _ = m ((c : Thread nD τ).loc main_arg0) _
  rw [V_main_arg0, row_mod _ (tile_lt t r)]
  simp only [bk_val t]
  rfl

theorem y_mid (t : Fin cfg0.N) (r : Fin 512) (i : Fin 1024) : midRun.sl.v59 c t (V m c main_arg1) (ix3 0 r i) = (lines m c t r).y i := by
  unfold midRun.sl.v59
  refine (landed_at dBuf (sl 3 t.val) _ _ (at_load t) _ _ (View.read_writes_whole (slot dBuf (sl 3 t.val)).view _ _) r i).trans ?_
  refine (block_at dArr (bk 16 t.val) _ r i).trans ?_
  show V m c main_arg1 _ = m ((c : Thread nD τ).loc main_arg1) _
  rw [V_main_arg1, row_mod _ (tile_lt t r)]
  simp only [bk_val t]
  rfl

theorem x_first (t : Fin cfg0.N) : firstRun.sl.v35 (F := Ideal) c t (V m c main_arg0) = midRun.sl.v35 c t (V m c main_arg0) := by
  unfold firstRun.sl.v35 firstRun.sl.dma0 midRun.sl.v35
  rfl

theorem x_last (t : Fin cfg0.N) : lastRun.sl.v35 (F := Ideal) c t (V m c main_arg0) = midRun.sl.v35 c t (V m c main_arg0) := rfl
theorem y_first (t : Fin cfg0.N) : firstRun.sl.v59 (F := Ideal) c t (V m c main_arg1) = midRun.sl.v59 c t (V m c main_arg1) := by
  unfold firstRun.sl.v59 firstRun.sl.dma0_1 midRun.sl.v59
  rfl
theorem y_last (t : Fin cfg0.N) : lastRun.sl.v59 (F := Ideal) c t (V m c main_arg1) = midRun.sl.v59 c t (V m c main_arg1) := rfl

/-- What a point leaves in the two results' blocks over the gain's gradient so far, the sum `g`. -/
structure Leaves (t : Fin cfg0.N) (o : Vec Ideal S512x1024 .f32 × Vec Ideal S1x1024 .f32) (g : Fin 1024 → EReal) : Prop where
  x : ∀ r i, o.1 (ix2 r i) = gx (wAt m c) (gAt m c) (lines m c t r) i
  g : ∀ i, o.2 (ix2 0 i) = g i + ∑ r, dg (wAt m c) (lines m c t r) i

theorem zeros (a : Fin 2) : (![0, 0] : Fin 2 → ℕ) a = 0 := by fin_cases a <;> rfl

/-- The loads of tile `t` through any whole staging buffers. -/
theorem reads (t : Fin cfg0.N) (a3 : Memref sig .tc .vmem S512x1024 .bf16) (h3 : a3.IsWhole) (a4 a5 a6 a7 : Memref sig .tc .vmem S512x512 .bf16)
    (h4 : a4.IsWhole) (h5 : a5.IsWhole) (h6 : a6.IsWhole) (h7 : a7.IsWhole) (a8 : Memref sig .tc .vmem S1x1024 .f32) (h8 : a8.IsWhole) (hw : wAll.IsWhole) (i3 i4 i8 iw) :
    Reads (lines m c t) (wAt m c) (gAt m c)
      (a3.view.readAt (Elt Ideal) (Rect.unit (s := S512x1024) ![0, 0] S512x1024.size i3).toLoadRect (h3.unread (iblk m c 0 t)))
      (a4.view.readAt (Elt Ideal) (Rect.unit (s := S512x512) ![0, 0] S512x512.size i4).toLoadRect (h4.unread (iblk m c 1 t)))
      (a5.view.readAt (Elt Ideal) (Rect.unit (s := S512x512) ![0, 0] S512x512.size i4).toLoadRect (h5.unread (iblk m c 2 t)))
      (a6.view.readAt (Elt Ideal) (Rect.unit (s := S512x512) ![0, 0] S512x512.size i4).toLoadRect (h6.unread (iblk m c 3 t)))
      (a7.view.readAt (Elt Ideal) (Rect.unit (s := S512x512) ![0, 0] S512x512.size i4).toLoadRect (h7.unread (iblk m c 4 t)))
      (wAll.view.readAt (Elt Ideal) (Rect.unit (s := S1024x3072) ![0, 0] S1024x3072.size iw).toLoadRect (hw.unread (groups (wArr.view.read (Elt Ideal) (V m c main_v2)))))
      (a8.view.readAt (Elt Ideal) (Rect.unit (s := S1x1024) ![0, 0] S1x1024.size i8).toLoadRect (h8.unread (iblk m c 5 t)))
      (midRun.sl.v35 c t (V m c main_arg0)) (midRun.sl.v59 c t (V m c main_arg1)) where
  p r j := by
    refine (load_whole a3 h3 _ _ zeros _ _).trans ((blk_p m c t r j (tile_lt t r)).trans ?_)
    rw [← row_mod _ (tile_lt t r)]; rfl
  q r j := by
    refine (load_whole a4 h4 _ _ zeros _ _).trans ((blk_q m c t r j (tile_lt t r)).trans ?_)
    rw [← row_mod _ (tile_lt t r)]; rfl
  k r j := by
    refine (load_whole a5 h5 _ _ zeros _ _).trans ((blk_k m c t r j (tile_lt t r)).trans ?_)
    rw [← row_mod _ (tile_lt t r)]; rfl
  v r j := by
    refine (load_whole a6 h6 _ _ zeros _ _).trans ((blk_v m c t r j (tile_lt t r)).trans ?_)
    rw [← row_mod _ (tile_lt t r)]; rfl
  a r j := by
    refine (load_whole a7 h7 _ _ zeros _ _).trans ((blk_a m c t r j (tile_lt t r)).trans ?_)
    rw [← row_mod _ (tile_lt t r)]; rfl
  w i j := (load_whole wAll hw _ _ zeros _ _).trans (blk_w m c i j)
  gain i := (load_whole a8 h8 _ _ zeros _ _).trans (blk_g m c t i)
  x r i := x_mid m c t r i
  y r i := y_mid m c t r i

theorem leaves_mid (t : Fin cfg0.N) (hf : ¬first t) (ha : ahead t) :
    Leaves m c t (outs m c t.val t.isLt) (fun i => (outs m c (t.val - 1) (prev_lt t)).2 (ix2 0 i)) := by
  rw [outs_mid m c t hf ha]
  generalize (outs m c (t.val - 1) (prev_lt t)).2 = g
  unfold midAt midRun
  constructor
  · intro r i
    dsimp only
    refine (back6_one _ _ _ r i).trans ?_
    exact gx_at (lines m c t) (wAt m c) (gAt m c) _ _ _ _ _ _ _ _ _ (reads m c t _ _ _ _ _ _ _ _ _ _ _ _ _ _ _ _ _) r i
  · intro i
    dsimp only
    refine (back7_one _ _ _ i).trans ?_
    refine (dg_at (lines m c t) (wAt m c) (gAt m c) _ _ _ _ _ _ _ _ _
      (reads m c t _ _ _ _ _ _ _ _ _ _ (Memref.whole cc0_stg5_0) (Memref.isWhole_whole _) _ _ _ inb_S1x1024_S1x1024_0_0 _) _ i).trans ?_
    exact congrArg (· + _) (load_whole _ _ _ _ zeros _ _)

theorem leaves_last (t : Fin cfg0.N) (hf : ¬first t) (ha : ¬ahead t) :
    Leaves m c t (outs m c t.val t.isLt) (fun i => (outs m c (t.val - 1) (prev_lt t)).2 (ix2 0 i)) := by
  rw [outs_last m c t hf ha]
  generalize (outs m c (t.val - 1) (prev_lt t)).2 = g
  unfold lastAt lastRun
  constructor
  · intro r i
    dsimp only
    refine (back6_one _ _ _ r i).trans ?_
    exact gx_at (lines m c t) (wAt m c) (gAt m c) _ _ _ _ _ _ _ _ _ (reads m c t _ _ _ _ _ _ _ _ _ _ _ _ _ _ _ _ _) r i
  · intro i
    dsimp only
    refine (back7_one _ _ _ i).trans ?_
    refine (dg_at (lines m c t) (wAt m c) (gAt m c) _ _ _ _ _ _ _ _ _
      (reads m c t _ _ _ _ _ _ _ _ _ _ (Memref.whole cc0_stg5_0) (Memref.isWhole_whole _) _ _ _ inb_S1x1024_S1x1024_0_0 _) _ i).trans ?_
    exact congrArg (· + _) (load_whole _ _ _ _ zeros _ _)

theorem leaves_first (t : Fin cfg0.N) (hf : first t) (ha : ahead t) :
    Leaves m c t (outs m c t.val t.isLt) (fun i => 0) := by
  rw [outs_first m c t hf ha]
  unfold firstAt firstRun
  constructor
  · intro r i
    dsimp only
    refine (back6_one _ _ _ r i).trans ?_
    exact gx_at (lines m c t) (wAt m c) (gAt m c) _ _ _ _ _ _ _ _ _ (reads m c t _ _ _ _ _ _ _ _ _ _ _ _ _ _ _ _ _) r i
  · intro i
    dsimp only
    refine (back7_one _ _ _ i).trans ?_
    refine (dg_at (lines m c t) (wAt m c) (gAt m c) _ _ _ _ _ _ _ _ _
      (reads m c t _ _ _ _ _ _ _ _ _ _ (Memref.whole cc0_stg5_0) (Memref.isWhole_whole _) _ _ _ inb_S1x1024_S1x1024_0_0 _) _ i).trans ?_
    refine congrArg (· + _) ?_
    unfold firstRun.sl.v47
    simp (disch := decide) only [↓ View.readCov_cons_toLoadRect]
    exact zero_at i

end NormFold

end
-- ==== Proof.NormRef.lean ====
/-
  The reference's results of the in-projection's gradient at its input, at an index: the same expressions as the
  kernel's.
-/
module

public import proofs.«01_k».proof.Proof.NormReal
public import proofs.«01_k».proof.Proof.Gen.NormDxRefIdeal.Read
public import Idealize.ShloMosaic.Lib.Pointwise

@[expose] public section

set_option maxRecDepth 16384

noncomputable section

open Idealize.ShloMosaic Idealize.ShloMosaic.TcCoe Idealize.SL.Sem

namespace NormRef

open Cert.NormDxRefIdeal Cert.NormDxRefIdeal.Gen Cert.NormDxRefIdeal.Read NormReal RealOps OutLossReal

variable (X Y : FVec Ideal S8192x1024 .f32) (D : FVec Ideal S8192x3072 .f32) (G : FVec Ideal S1024 .f32) (W : FVec Ideal S1024x3072 .f32)

/-- Row `n` of the arguments. -/
def line (n : Fin 8192) : Line where
  x i := X (ix2 n i)
  y i := Y (ix2 n i)
  d j := D (ix2 n j)

/-- The weight's entries. -/
def wgt (i : Fin 1024) (j : Fin 3072) : EReal := W (ix2 i j)

/-- The gain's entries. -/
def gn (i : Fin 1024) : EReal := G (ix1 i)

theorem msq_at (n : Fin 8192) : val_main_v6 (F := Ideal) X (ix2 n 0) = msq (line X Y D n) := by
  pointwise [val_main_v6, val_main_v5, val_main_v4, val_main_v3, val_main_v2, val_main_v1, val_main_v0, val_main_cst, val_main_cst_0, val_main_cst_1]
  simp only [ofBits_1024, ofBits_eps]
  rfl

theorem rt_at (n : Fin 8192) : val_main_v7 (F := Ideal) X (ix2 n 0) = rt (line X Y D n) := by
  pointwise [val_main_v7]
  rw [msq_at X Y D]
  rfl

theorem dh_at (n : Fin 8192) (i : Fin 1024) : val_main_v17 (F := Ideal) D W (ix2 n i) = dh (wgt W) (line X Y D n) i := by
  pointwise [val_main_v17]
  rfl

theorem du_at (n : Fin 8192) (i : Fin 1024) : val_main_v22 (F := Ideal) D G W (ix2 n i) = du (wgt W) (gn G) (line X Y D n) i := by
  pointwise [val_main_v22, val_main_v21, val_main_v13]
  rw [dh_at X Y D W]
  rfl

theorem back_at (n : Fin 8192) : val_main_v33 (F := Ideal) X D G W (ix1 n) = back (wgt W) (gn G) (line X Y D n) := by
  pointwise [val_main_v33, val_main_v32, val_main_v31, val_main_v30, val_main_v26, val_main_v25, val_main_v24, val_main_v10, val_main_v9, val_main_v8,
    val_main_cst_2, val_main_cst_5, val_main_cst_6, val_main_cst_7]
  simp only [Finset.univ_unique, Fin.default_eq_zero, Finset.sum_singleton, du_at X Y D G W, rt_at X Y D, msq_at X Y D, ofBits_neg_half, ofBits_1024]
  rfl

theorem gx_at (n : Fin 8192) (i : Fin 1024) :
    val_main_v38 (F := Ideal) X Y D G W (ix2 n i) = gx (wgt W) (gn G) (line X Y D n) i := by
  rw [← gx_eq]
  pointwise [val_main_v38, val_main_v37, val_main_v36, val_main_v35, val_main_v34, val_main_v29, val_main_v28, val_main_v27]
  rw [back_at X Y D G W, du_at X Y D G W, rt_at X Y D]
  rfl

theorem dg_at (i : Fin 1024) : val_main_v39 (F := Ideal) X D W (ix2 0 i) = ∑ n, dg (wgt W) (line X Y D n) i := by
  pointwise [val_main_v39, val_main_v23, val_main_v20, val_main_v19, val_main_v18, val_main_v12, val_main_v11, val_main_cst_3, val_main_cst_4]
  simp only [Finset.univ_unique, Finset.sum_singleton, dh_at X Y D W, rt_at X Y D]
  exact Finset.sum_congr rfl fun n _ => mul_comm _ _

end NormRef

end
-- ==== Proof.NormClaim.lean ====
/-
  The normalisation's gradient kernel run whole: its two results after the last tile, its arguments as they were, and
  the two results equal to the reference's.
-/
module

public import proofs.«01_k».proof.Proof.NormTake
public import proofs.«01_k».proof.Proof.NormRef

@[expose] public section

set_option maxRecDepth 16384

noncomputable section

open Idealize.ShloMosaic Idealize.ShloMosaic.TcCoe Idealize.SL.Sem

namespace NormFold

open Cert.NormDxIdeal Cert.NormDxIdeal.Gen NormReal RealOps NormDx

variable (m : (ℓ : Loc nD τ sig) → Buf (Elt Ideal) ℓ) (c : Dev nD)

/-- The gradient at the stream, row by row. -/
def resGx (y : S8192x1024.Idx) : EReal := gx (wAt m c) (gAt m c) (lineAt m c (y 0).val) (y 1)

/-- The gradient at the gain, summed over the rows. -/
def resDg (y : S1x1024.Idx) : EReal := ∑ r ∈ Finset.range 8192, dg (wAt m c) (lineAt m c r) (y 1)

theorem rows (t : Fin cfg0.N) (r : Fin 512) (i : Fin 1024) :
    (outs m c t.val t.isLt).1 (ix2 r i) = gx (wAt m c) (gAt m c) (lines m c t r) i := by
  by_cases hf : first t
  · exact (leaves_first m c t hf ((ahead_iff t).mpr (by have := (first_iff t).mp hf; omega))).x r i
  · by_cases ha : ahead t
    · exact (leaves_mid m c t hf ha).x r i
    · exact (leaves_last m c t hf ha).x r i

theorem sums (i : Fin 1024) : ∀ (n : ℕ) (hn : n < cfg0.N),
    (outs m c n hn).2 (ix2 0 i) = ∑ r ∈ Finset.range (512 * (n + 1)), dg (wAt m c) (lineAt m c r) i
  | 0, hn => ((leaves_first m c ⟨0, hn⟩ (first_zero hn rfl) (ahead_of hn (by decide))).g i).trans
      (sum_tile_zero 512 fun r => dg (wAt m c) (lineAt m c r) i)
  | n + 1, hn => by
    have ih := sums i n (Nat.lt_of_succ_lt hn)
    have step : (outs m c (n + 1) hn).2 (ix2 0 i)
        = (outs m c n (Nat.lt_of_succ_lt hn)).2 (ix2 0 i) + ∑ r, dg (wAt m c) (lines m c ⟨n + 1, hn⟩ r) i := by
      by_cases h : n + 1 < 14
      · exact (leaves_mid m c ⟨n + 1, hn⟩ (first_succ hn) (ahead_of hn h)).g i
      · exact (leaves_last m c ⟨n + 1, hn⟩ (first_succ hn) (ahead_not hn h)).g i
    rw [step, ih]
    exact sum_tile 512 (fun r => dg (wAt m c) (lineAt m c r) i) (n + 1)

theorem final_gx : (dats m 0 c).arrAt 6 cfg0.N = resGx m c := by
  refine (dats m 0 c).arrAt_eq_of_covers 6 _ (by decide +kernel) fun t hf y => ?_
  blk_simp
  rw [after_6, eq_ix2 y]
  refine (rows m c t _ _).trans ?_
  refine congrArg₂ (fun n k => gx (wAt m c) (gAt m c) (lineAt m c n) k) ?_ (Fin.ext ?_)
  · blk_simp [idx t]
    simp
    omega
  · blk_simp [idx t]

theorem final_dg : (dats m 0 c).arrAt 7 cfg0.N = resDg m c := by
  refine (dats m 0 c).arrAt_eq_of_covers 7 _ (by decide +kernel) fun t hf y => ?_
  have h1 := (flush0_7 t).mp hf
  have ht := lt_of_lt_of_eq t.isLt (show cfg0.N = 16 from N_0)
  blk_simp
  rw [after_7, eq_ix2 y, Fin.eq_zero (y 0)]
  refine (sums m c _ t.val t.isLt).trans ?_
  rw [show 512 * (t.val + 1) = 8192 by omega]
  refine congrArg (fun k => ∑ r ∈ Finset.range 8192, dg (wAt m c) (lineAt m c r) k) (Fin.ext ?_)
  blk_simp [idx t]

/-- The two results and the arguments kept. -/
theorem run_main (ρ : Dev nD → PrngReg) :
    θ_run defs (onTc (τ := τ) (main (F := Ideal))) ⟨m, fun _ => 0, ρ⟩ (fun r => ∀ c : Dev nD,
      r.2.mem ((c.tc : Thread nD τ).loc main_v10_0) = resGx m c
      ∧ r.2.mem ((c.tc : Thread nD τ).loc main_v10_1) = resDg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨((h.1.1 c).1 6).trans (final_gx m c), ((h.1.1 c).1 7).trans (final_dg m c), h.2.1 c⟩)
    (θ_run_and (run_all m ρ) (quiet m ρ))

theorem line_eq (n : Fin 8192) : NormRef.line (m ((c : Thread nD τ).loc main_arg0)) (m ((c : Thread nD τ).loc main_arg1)) (m ((c : Thread nD τ).loc main_arg2)) n
    = lineAt m c n.val := by
  unfold lineAt
  simp only [row_mod n.val n.isLt]
  rfl

theorem gx_ref : Cert.NormDxRefIdeal.Read.val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = resGx m c := by
  funext y
  rw [eq_ix2 y]
  refine (NormRef.gx_at _ _ _ _ _ (y 0) (y 1)).trans ?_
  exact congrArg (fun R => gx (wAt m c) (gAt m c) R (y 1)) (line_eq m c (y 0))

theorem dg_ref : Cert.NormDxRefIdeal.Read.val_main_v39 (F := Ideal) (m ((c : Thread nD τ).loc main_arg0))
    (m ((c : Thread nD τ).loc main_arg2)) (m ((c : Thread nD τ).loc main_arg4)) = resDg m c := by
  funext y
  rw [eq_ix2 y, Fin.eq_zero (y 0)]
  refine (NormRef.dg_at _ (m ((c : Thread nD τ).loc main_arg1)) _ _ (y 1)).trans ?_
  refine (Finset.sum_congr rfl fun n _ => congrArg (fun R => dg (wAt m c) R (y 1)) (line_eq m c n)).trans ?_
  exact (sum_range_fin 8192 fun r => dg (wAt m c) (lineAt m c r) (y 1)).symm

end NormFold

end
-- ==== Proof.PackTile.lean ====
/-
  One head's row of the packing kernel: four bands of columns laid over one another, every row turned by its own number,
  the rows added, and the first entry what is left of the head's total.
-/
module

public import proofs.«01_k».proof.Proof.Gen.PackIdeal.Frame
public import proofs.«01_k».proof.Proof.RealOps
public import Idealize.ShloMosaic.Lib.KernelVsHost

@[expose] public section

set_option maxRecDepth 16384

noncomputable section

open Idealize.ShloMosaic Idealize.ShloMosaic.TcCoe Idealize.SL.Sem

namespace PackTile

open Cert.PackIdeal Cert.PackIdeal.Gen RealOps

/-- A band with as many zero columns after it. -/
def wide (b : Vec Ideal S1x1x64x256 .f32) : FVec Ideal S64x512 .f32 :=
  concatenate S64x512 1 [⟨S64x256, shapeCast S64x256 b shapeCasts_S1x1x64x256_S64x256⟩,
    ⟨S64x256, broadcast S64x256 (Scalar.ofBits .f32 0x00000000#32)⟩] concatenates_S64x256_S64x256_S64x512_d1

/-- Every row turned by `n` columns. -/
def turn (n : BitVec 32) (x : FVec Ideal S64x512 .f32) : FVec Ideal S64x512 .f32 :=
  dynamicRotate 1 n none x rotates_S64x512_d1

/-- The four bands with their columns over one another. -/
def bands (b0 b1 b2 b3 : Vec Ideal S1x1x64x256 .f32) : FVec Ideal S64x512 .f32 :=
  addf (addf (addf (addf (broadcast S64x512 (Scalar.ofBits .f32 0x00000000#32)) (turn 448#32 (wide b0))) (wide b1))
    (turn 448#32 (wide b2))) (turn 384#32 (wide b3))

/-- The rows whose number has the bit `b` turned by `n` columns. -/
def step (b n : BitVec 32) (x : FVec Ideal S64x512 .f32) : FVec Ideal S64x512 .f32 :=
  select (cmpi .eq (andi (shrsi (iota .tc S64x512 32 [0] iota_S64x512_d0_w32) (broadcast S64x512 b)) (broadcast S64x512 1#32))
    (broadcast S64x512 1#32)) (turn n x) x

/-- Every row turned by its own number. -/
def skew (x : FVec Ideal S64x512 .f32) : FVec Ideal S64x512 .f32 :=
  step 5#32 480#32 (step 4#32 496#32 (step 3#32 504#32 (step 2#32 508#32 (step 1#32 510#32 (step 0#32 511#32 x)))))

/-- The rows added, at the columns 1 up to 127. -/
def near (x : FVec Ideal S64x512 .f32) : FVec Ideal S1x256 .f32 :=
  select (andi (cmpi .sge (iota .tc S1x256 32 [1] iota_S1x256_d1_w32) (broadcast S1x256 1#32))
      (cmpi .slt (iota .tc S1x256 32 [1] iota_S1x256_d1_w32) (broadcast S1x256 128#32)))
    (extractStridedSlice S1x256 ![0, 0] (shapeCast S1x512 (multiReduction .add [0] S512 x 0x00000000#32 reduces_S64x512_S512 (.inl rfl) rfl)
      shapeCasts_S512_S1x512) slices_S1x512_o0_0_S1x256)
    (broadcast S1x256 (Scalar.ofBits .f32 0x00000000#32))

/-- A head's total. -/
def everything (T : Vec Ideal S1x256x128 .f32) : FVec Ideal S1x1 .f32 :=
  shapeCast S1x1 (multiReduction .add [1] S1 (shapeCast S1x128 (multiReduction .add [0] S128
    (shapeCast S256x128 T shapeCasts_S1x256x128_S256x128) 0x00000000#32 reduces_S256x128_S128 (.inl rfl) rfl) shapeCasts_S128_S1x128)
    0x00000000#32 reduces_S1x128_S1 (.inl rfl) rfl) shapeCasts_S1_S1x1

/-- A head's row from its near part and its total. -/
def row (N : FVec Ideal S1x256 .f32) (E : FVec Ideal S1x1 .f32) : FVec Ideal S1x256 .f32 :=
  select (cmpi .eq (iota .tc S1x256 32 [1] iota_S1x256_d1_w32) (broadcast S1x256 0#32))
    (broadcastTo S1x256 (shapeCast S1x1 (subf E (shapeCast S1x1 (multiReduction .add [1] S1 N 0x00000000#32 reduces_S1x256_S1 (.inl rfl) rfl)
      shapeCasts_S1_S1x1)) shapeCasts_S1x1_S1x1) broadcasts_S1x1_S1x256) N

/-- A head's row. -/
def head (b0 b1 b2 b3 : Vec Ideal S1x1x64x256 .f32) (T : Vec Ideal S1x256x128 .f32) : FVec Ideal S1x256 .f32 :=
  row (near (skew (bands b0 b1 b2 b3))) (everything T)

theorem wide_at (b : Vec Ideal S1x1x64x256 .f32) (i : Fin 64) (k : Fin 512) :
    wide b (ix2 i k) = if h : k.val < 256 then b (ix4 0 0 i ⟨k.val, h⟩) else 0 := by
  pointwise [wide]

theorem turn_at (n : BitVec 32) (x : FVec Ideal S64x512 .f32) (i : Fin 64) (k l : Fin 512)
    (h : l.val = (k.val + 512 - n.toNat % 512) % 512) : turn n x (ix2 i k) = x (ix2 i l) := by
  refine Idealize.ShloMosaic.dynamicRotate_apply 1 n x rotates_S64x512_d1 (ix2 i k) (ix2 i l) fun b => ?_
  match b with
  | ⟨0, _⟩ => rfl
  | ⟨1, _⟩ => exact h

theorem bands_at (b0 b1 b2 b3 : Vec Ideal S1x1x64x256 .f32) (i : Fin 64) (s : Fin 512) (h : s.val < 192) :
    bands b0 b1 b2 b3 (ix2 i s)
      = b0 (ix4 0 0 i ⟨s.val + 64, by omega⟩) + b1 (ix4 0 0 i ⟨s.val, by omega⟩) + b2 (ix4 0 0 i ⟨s.val + 64, by omega⟩)
        + (if h : s.val < 128 then b3 (ix4 0 0 i ⟨s.val + 128, by omega⟩) else 0) := by
  have e0 := turn_at 448#32 (wide b0) i s ⟨s.val + 64, by omega⟩ (by simp; omega)
  have e2 := turn_at 448#32 (wide b2) i s ⟨s.val + 64, by omega⟩ (by simp; omega)
  have e3 := turn_at 384#32 (wide b3) i s ⟨s.val + 128, by omega⟩ (by simp; omega)
  rw [wide_at] at e0 e2 e3
  show Scalar.ofBits .f32 0x00000000#32 + turn 448#32 (wide b0) (ix2 i s) + wide b1 (ix2 i s) + turn 448#32 (wide b2) (ix2 i s)
    + turn 384#32 (wide b3) (ix2 i s) = _
  rw [e0, e2, e3, wide_at, dif_pos (by show s.val + 64 < 256; omega), dif_pos (by show s.val < 256; omega), dif_pos (by show s.val + 64 < 256; omega)]
  rw [show (Scalar.ofBits .f32 0x00000000#32 : Ideal .f32) = 0 from Ideal.ofBits_zero_f32, zero_add]
  have e : (if h : s.val + 128 < 256 then b3 (ix4 0 0 i ⟨s.val + 128, h⟩) else 0)
      = if h : s.val < 128 then b3 (ix4 0 0 i ⟨s.val + 128, by omega⟩) else 0 := by
    by_cases h1 : s.val < 128
    · rw [dif_pos h1, dif_pos (by omega)]
    · rw [dif_neg h1, dif_neg (by omega)]
  exact congrArg _ e

/-- Whether row `i`'s number has the bit `b`. -/
def bit (b : BitVec 32) (i : Fin 64) : BitVec 1 :=
  cmpi .eq (andi (shrsi (iota .tc S64x512 32 [0] iota_S64x512_d0_w32) (broadcast S64x512 b)) (broadcast S64x512 1#32))
    (broadcast S64x512 1#32) (ix2 i 0)

theorem step_at (b n : BitVec 32) (p : Nat) (x : FVec Ideal S64x512 .f32) (i : Fin 64) (k l : Fin 512)
    (hn : n.toNat = 512 - p) (hp : 0 < p) (hp5 : p < 512)
    (h : l.val = k.val + if bit b i = 1#1 then p else 0) : step b n x (ix2 i k) = x (ix2 i l) := by
  have hl := l.isLt
  show (if bit b i = 1#1 then turn n x (ix2 i k) else x (ix2 i k)) = _
  by_cases hb : bit b i = 1#1
  · rw [if_pos hb] at h ⊢
    exact turn_at n x i k l (by rw [hn]; omega)
  · rw [if_neg hb] at h ⊢
    exact congrArg (fun q => x (ix2 i q)) (Fin.ext h.symm)

theorem bits : ∀ i : Fin 64, (if bit 5#32 i = 1#1 then 32 else 0) + (if bit 4#32 i = 1#1 then 16 else 0)
    + (if bit 3#32 i = 1#1 then 8 else 0) + (if bit 2#32 i = 1#1 then 4 else 0) + (if bit 1#32 i = 1#1 then 2 else 0)
    + (if bit 0#32 i = 1#1 then 1 else 0) = i.val := by
  decide +kernel

theorem skew_at (x : FVec Ideal S64x512 .f32) (i : Fin 64) (k : Fin 512) (hk : k.val < 448) :
    skew x (ix2 i k) = x (ix2 i ⟨k.val + i.val, by omega⟩) := by
  have hb := bits i
  have hi := i.isLt
  have go (b n : BitVec 32) (p : Nat) (x : FVec Ideal S64x512 .f32) (q : Nat) (hq : q < 512) (hn : n.toNat = 512 - p) (hp : 0 < p)
      (hp5 : p < 512) (h : q + (if bit b i = 1#1 then p else 0) < 512) :
      step b n x (ix2 i ⟨q, hq⟩) = x (ix2 i ⟨q + if bit b i = 1#1 then p else 0, h⟩) :=
    step_at b n p x i _ _ hn hp hp5 rfl
  obtain ⟨k, hk'⟩ := k
  have hk : k < 448 := hk
  unfold skew
  rw [go 5#32 480#32 32 _ _ _ (by decide) (by decide) (by decide) (by omega), go 4#32 496#32 16 _ _ _ (by decide) (by decide) (by decide) (by omega),
    go 3#32 504#32 8 _ _ _ (by decide) (by decide) (by decide) (by omega), go 2#32 508#32 4 _ _ _ (by decide) (by decide) (by decide) (by omega),
    go 1#32 510#32 2 _ _ _ (by decide) (by decide) (by decide) (by omega), go 0#32 511#32 1 _ _ _ (by decide) (by decide) (by decide) (by omega)]
  exact congrArg (fun q => x (ix2 i q)) (Fin.ext (by dsimp only; omega))

theorem within : ∀ r : Fin 256, IntOp.andi (IntOp.cmpi .sge (BitVec.ofNat 32 r.val) 1#32) (IntOp.cmpi .slt (BitVec.ofNat 32 r.val) 128#32)
    = if 1 ≤ r.val ∧ r.val < 128 then 1#1 else 0#1 := by
  decide +kernel

theorem origin : ∀ r : Fin 256, IntOp.cmpi .eq (BitVec.ofNat 32 r.val) 0#32 = if r.val = 0 then 1#1 else 0#1 := by
  decide +kernel

theorem near_at (x : FVec Ideal S64x512 .f32) (r : Fin 256) :
    near x (ix2 0 r) = if 1 ≤ r.val ∧ r.val < 128 then ∑ i : Fin 64, x (ix2 i ⟨r.val, by omega⟩) else 0 := by
  pointwise [near]
  rw [within r]
  by_cases h : 1 ≤ r.val ∧ r.val < 128
  · rw [if_pos h, if_pos h]
    rfl
  · rw [if_neg h, if_neg h]
    rfl

theorem everything_at (T : Vec Ideal S1x256x128 .f32) :
    everything T (ix2 0 0) = ∑ l : Fin 128, ∑ r : Fin 256, T (ix3 0 r l) := by
  pointwise [everything]

theorem row_at (N : FVec Ideal S1x256 .f32) (E : FVec Ideal S1x1 .f32) (r : Fin 256) :
    row N E (ix2 0 r) = if r.val = 0 then E (ix2 0 0) - ∑ k : Fin 256, N (ix2 0 k) else N (ix2 0 r) := by
  pointwise [row]
  rw [origin r]
  by_cases h : r.val = 0
  · rw [if_pos h, if_pos h]
    rfl
  · rw [if_neg h, if_neg h]
    rfl

/-- The near part of a head's row, from what the four bands hold together: `g i s` at row `i` and column `s`. -/
theorem near_bands (b0 b1 b2 b3 : Vec Ideal S1x1x64x256 .f32) (g : ℕ → ℕ → EReal)
    (hg : ∀ (i : Fin 64) (s : ℕ) (h : s < 192), b0 (ix4 0 0 i ⟨s + 64, by omega⟩) + b1 (ix4 0 0 i ⟨s, by omega⟩) + b2 (ix4 0 0 i ⟨s + 64, by omega⟩)
        + (if h : s < 128 then b3 (ix4 0 0 i ⟨s + 128, by omega⟩) else 0) = g i.val s) (r : Fin 256) :
    near (skew (bands b0 b1 b2 b3)) (ix2 0 r) = if 1 ≤ r.val ∧ r.val < 128 then ∑ i : Fin 64, g i.val (r.val + i.val) else 0 := by
  rw [near_at]
  by_cases h : 1 ≤ r.val ∧ r.val < 128
  · rw [if_pos h, if_pos h]
    refine Finset.sum_congr rfl fun i _ => ?_
    have hi := i.isLt
    rw [skew_at _ _ _ (by dsimp only; omega), bands_at _ _ _ _ _ _ (by dsimp only; omega)]
    exact hg i (r.val + i.val) (by omega)
  · rw [if_neg h, if_neg h]

/-- A table summed whole is its part up to the column `448` in row `0`, one column further on in every further row, and
    the columns after that, diagonal by diagonal. -/
theorem diagonals (g : ℕ → ℕ → EReal) (hz : ∀ i j, 576 ≤ j → g i j = 0) :
    ∑ i ∈ Finset.range 64, ∑ j ∈ Finset.range 576, g i j
      = ∑ i ∈ Finset.range 64, ∑ j ∈ Finset.range (449 + i), g i j + ∑ r ∈ Finset.range 127, ∑ i ∈ Finset.range 64, g i (449 + i + r) := by
  rw [Finset.sum_comm (s := Finset.range 127), ← Finset.sum_add_distrib]
  refine Finset.sum_congr rfl fun i _ => ?_
  rw [← Finset.sum_range_add (fun j => g i j) (449 + i) 127, show 449 + i + 127 = 576 + i by omega, Finset.sum_range_add]
  exact ((congrArg _ (Finset.sum_eq_zero fun j _ => hz i (576 + j) (Nat.le_add_right _ _))).trans (add_zero _)).symm

theorem near_sum (f : ℕ → EReal) : ∑ k : Fin 256, (if 1 ≤ k.val ∧ k.val < 128 then f k.val else 0) = ∑ r ∈ Finset.range 127, f (r + 1) := by
  rw [← sum_range_fin 256 fun k => if 1 ≤ k ∧ k < 128 then f k else 0, show 256 = 128 + 128 from rfl, Finset.sum_range_add]
  refine ((congrArg _ (Finset.sum_eq_zero fun j _ => if_neg (by omega))).trans (add_zero _)).trans ?_
  rw [Finset.sum_range_succ', if_neg (by omega), add_zero]
  exact Finset.sum_congr rfl fun r hr => if_pos (by have := Finset.mem_range.mp hr; omega)

end PackTile
-- ==== Proof.PackHost.lean ====
/-
  What the packing kernel is handed: the cotangent's four chunks one under another, each a chunk's width further right,
  the bands cut out of them and the sums over six groups of columns.
-/
module

public import proofs.«01_k».proof.Proof.PackTile
public import proofs.«01_k».proof.Proof.Gen.PackIdeal.Value
public import Idealize.ShloMosaic.Lib.Pipeline.ValueKit

@[expose] public section

set_option maxRecDepth 16384

noncomputable section

open Idealize.ShloMosaic Idealize.ShloMosaic.TcCoe Idealize.SL.Sem

namespace PackHost

open Cert.PackIdeal Cert.PackIdeal.Gen RealOps

/-- What the columns outside a chunk hold. -/
def fill : FVec Ideal S_ .f32 := sitofp .f32 (constantI S_ 32 0#32)

/-- The four chunks one under another, each 64 columns further right than the one before. -/
def tile (X : FVec Ideal S8x4x64x576 .f32) : FVec Ideal S8x256x768 .f32 :=
  concatenate S8x256x768 1 [
    ⟨S8x64x768, pad S8x64x768 ![0, 0, 0] ![0, 0, 192] ![0, 0, 0] (shapeCast S8x64x576 (extractStridedSlice S8x1x64x576 ![0, 0, 0, 0] X
      slices_S8x4x64x576_S8x1x64x576_0_0_0_0) shapeCasts_S8x1x64x576_S8x64x576) fill pads_S8x64x576_S8x64x768_000_000_01920 h_S_⟩,
    ⟨S8x64x768, pad S8x64x768 ![0, 0, 64] ![0, 0, 128] ![0, 0, 0] (shapeCast S8x64x576 (extractStridedSlice S8x1x64x576 ![0, 1, 0, 0] X
      slices_S8x4x64x576_S8x1x64x576_0_1_0_0) shapeCasts_S8x1x64x576_S8x64x576) fill pads_S8x64x576_S8x64x768_000_000_641280 h_S_⟩,
    ⟨S8x64x768, pad S8x64x768 ![0, 0, 128] ![0, 0, 64] ![0, 0, 0] (shapeCast S8x64x576 (extractStridedSlice S8x1x64x576 ![0, 2, 0, 0] X
      slices_S8x4x64x576_S8x1x64x576_0_2_0_0) shapeCasts_S8x1x64x576_S8x64x576) fill pads_S8x64x576_S8x64x768_000_000_128640 h_S_⟩,
    ⟨S8x64x768, pad S8x64x768 ![0, 0, 192] ![0, 0, 0] ![0, 0, 0] (shapeCast S8x64x576 (extractStridedSlice S8x1x64x576 ![0, 3, 0, 0] X
      slices_S8x4x64x576_S8x1x64x576_0_3_0_0) shapeCasts_S8x1x64x576_S8x64x576) fill pads_S8x64x576_S8x64x768_000_000_19200 h_S_⟩]
    concatenates_S8x64x768_S8x64x768_S8x64x768_S8x64x768_S8x256x768_d1

/-- The four bands cut out of the tile. -/
def band (T : FVec Ideal S8x256x768 .f32) : FVec Ideal S8x4x64x256 .f32 :=
  concatenate S8x4x64x256 1 [
    ⟨S8x1x64x256, broadcastInDim S8x1x64x256 ![0, 2, 3] bcast_S8x64x256_S8x1x64x256_0_2_3
      (extractStridedSlice S8x64x256 ![0, 0, 384] T slices_S8x256x768_S8x64x256_0_0_384)⟩,
    ⟨S8x1x64x256, broadcastInDim S8x1x64x256 ![0, 2, 3] bcast_S8x64x256_S8x1x64x256_0_2_3
      (extractStridedSlice S8x64x256 ![0, 64, 512] T slices_S8x256x768_S8x64x256_0_64_512)⟩,
    ⟨S8x1x64x256, broadcastInDim S8x1x64x256 ![0, 2, 3] bcast_S8x64x256_S8x1x64x256_0_2_3
      (extractStridedSlice S8x64x256 ![0, 128, 512] T slices_S8x256x768_S8x64x256_0_128_512)⟩,
    ⟨S8x1x64x256, broadcastInDim S8x1x64x256 ![0, 2, 3] bcast_S8x64x256_S8x1x64x256_0_2_3
      (extractStridedSlice S8x64x256 ![0, 192, 512] T slices_S8x256x768_S8x64x256_0_192_512)⟩]
    concatenates_S8x1x64x256_S8x1x64x256_S8x1x64x256_S8x1x64x256_S8x4x64x256_d1

/-- The tile's sums over its six groups of columns. -/
def total (T : FVec Ideal S8x256x768 .f32) : FVec Ideal S8x256x128 .f32 :=
  Host.reduceAdd (shapeCast S8x256x6x128 T shapeCasts_S8x256x768_S8x256x6x128) (constant S_ .f32 0x00000000#32)
    reducesTo_S8x256x6x128_S8x256x128_d2 h_S_

/-- The cotangent at a head, a chunk, a row and a column; nothing beyond the last column. -/
def ct (X : FVec Ideal S8x4x64x576 .f32) (h : Fin 8) (q : Fin 4) (i j : ℕ) : EReal :=
  if hj : j < 576 then X (ix4 h q ⟨i % 64, Nat.mod_lt _ (by decide)⟩ ⟨j, hj⟩) else 0

theorem fill_at (j : S_.Idx) : fill j = 0 := by
  show ((((0#32 : BitVec 32).toInt : ℤ) : ℝ) : EReal) = 0
  simp

theorem ct_at (X : FVec Ideal S8x4x64x576 .f32) (h : Fin 8) (q : Fin 4) (i : Fin 64) (j : Fin 576) :
    ct X h q i.val j.val = X (ix4 h q i j) := by
  unfold ct
  rw [dif_pos j.isLt]
  exact congrArg (fun r => X (ix4 h q r j)) (Fin.ext (Nat.mod_eq_of_lt i.isLt))

theorem ct_beyond (X : FVec Ideal S8x4x64x576 .f32) (h : Fin 8) (q : Fin 4) (i j : ℕ) (hj : 576 ≤ j) : ct X h q i j = 0 :=
  dif_neg (by omega)

theorem tile_at (X : FVec Ideal S8x4x64x576 .f32) (h : Fin 8) (q : Fin 4) (i : Fin 64) (k : Fin 768) :
    tile X (ix3 h ⟨64 * q.val + i.val, by omega⟩ k) = if 64 * q.val ≤ k.val then ct X h q i.val (k.val - 64 * q.val) else 0 := by
  have hi := i.isLt
  have hk := k.isLt
  match q with
  | ⟨0, _⟩ =>
    pointwise [tile]
    simp only [fill_at]
    by_cases h2 : k.val < 576
    · exact (dif_pos h2).trans (ct_at X h 0 i ⟨k.val, h2⟩).symm
    · exact (dif_neg h2).trans (ct_beyond X h 0 i.val k.val (by omega)).symm
  | ⟨1, _⟩ =>
    pointwise [tile]
    simp only [fill_at]
    by_cases h1 : 64 ≤ k.val
    · by_cases h2 : k.val - 64 < 576
      · refine Eq.trans ?_ ((if_pos h1).trans (ct_at X h 1 i ⟨k.val - 64, h2⟩)).symm
        split_ifs <;> first
          | (exfalso; omega)
          | exact congrArg (fun r => X (ix4 h 1 r ⟨k.val - 64, h2⟩)) (Fin.ext (a := ⟨64 + i.val - 64, by omega⟩) (b := i) (by dsimp only; omega))
          | rfl
      · refine Eq.trans ?_ ((if_pos h1).trans (ct_beyond X h 1 i.val (k.val - 64) (by omega))).symm
        split_ifs <;> first
          | (exfalso; omega)
          | rfl
    · refine Eq.trans ?_ (if_neg h1).symm
      split_ifs <;> first
        | (exfalso; omega)
        | rfl
  | ⟨2, _⟩ =>
    pointwise [tile]
    simp only [fill_at]
    by_cases h1 : 128 ≤ k.val
    · by_cases h2 : k.val - 128 < 576
      · refine Eq.trans ?_ ((if_pos h1).trans (ct_at X h 2 i ⟨k.val - 128, h2⟩)).symm
        split_ifs <;> first
          | (exfalso; omega)
          | exact congrArg (fun r => X (ix4 h 2 r ⟨k.val - 128, h2⟩)) (Fin.ext (a := ⟨128 + i.val - 64 - 64, by omega⟩) (b := i) (by dsimp only; omega))
          | rfl
      · refine Eq.trans ?_ ((if_pos h1).trans (ct_beyond X h 2 i.val (k.val - 128) (by omega))).symm
        split_ifs <;> first
          | (exfalso; omega)
          | rfl
    · refine Eq.trans ?_ (if_neg h1).symm
      split_ifs <;> first
        | (exfalso; omega)
        | rfl
  | ⟨3, _⟩ =>
    pointwise [tile]
    simp only [fill_at]
    by_cases h1 : 192 ≤ k.val
    · by_cases h2 : k.val - 192 < 576
      · refine Eq.trans ?_ ((if_pos h1).trans (ct_at X h 3 i ⟨k.val - 192, h2⟩)).symm
        split_ifs <;> first
          | (exfalso; omega)
          | exact congrArg (fun r => X (ix4 h 3 r ⟨k.val - 192, h2⟩)) (Fin.ext (a := ⟨192 + i.val - 64 - 64 - 64, by omega⟩) (b := i) (by dsimp only; omega))
          | rfl
      · refine Eq.trans ?_ ((if_pos h1).trans (ct_beyond X h 3 i.val (k.val - 192) (by omega))).symm
        split_ifs <;> first
          | (exfalso; omega)
          | rfl
    · refine Eq.trans ?_ (if_neg h1).symm
      split_ifs <;> first
        | (exfalso; omega)
        | rfl

theorem band_at (T : FVec Ideal S8x256x768 .f32) (h : Fin 8) (q : Fin 4) (i : Fin 64) (k : Fin 256) :
    band T (ix4 h q i k) = T (ix3 h ⟨64 * q.val + i.val, by omega⟩ ⟨(if q.val = 0 then 384 else 512) + k.val, by split <;> omega⟩) := by
  match q with
  | ⟨0, _⟩ => pointwise [band]
  | ⟨1, _⟩ => pointwise [band]
  | ⟨2, _⟩ => pointwise [band]
  | ⟨3, _⟩ => pointwise [band]

theorem total_at (T : FVec Ideal S8x256x768 .f32) (h : Fin 8) (r : Fin 256) (l : Fin 128) :
    total T (ix3 h r l) = ∑ k : Fin 6, T (ix3 h r ⟨k.val * 128 + l.val, by omega⟩) := by
  pointwise [total]

variable (m : (ℓ : Loc nD τ sig) → Buf (Elt Ideal) ℓ) (c : Dev nD)

theorem V_tile : V m c main_v12 = tile (m ((c : Thread nD τ).loc main_arg0)) := by
  entry_read
  rfl

set_option maxHeartbeats 4000000 in
theorem V_band : V m c main_v21 = band (tile (m ((c : Thread nD τ).loc main_arg0))) := by
  entry_read
  unfold band tile fill
  rfl

theorem V_total : V m c main_v23 = total (tile (m ((c : Thread nD τ).loc main_arg0))) := by
  entry_read
  rfl

end PackHost
-- ==== Proof.PackFold.lean ====
/-
  What the packing kernel leaves: three rows copied, one row per head from the head's bands and total, nothing elsewhere.
-/
module

public import proofs.«01_k».proof.Proof.PackHost

@[expose] public section

set_option maxRecDepth 16384

noncomputable section

open Idealize.ShloMosaic Idealize.ShloMosaic.TcCoe Idealize.SL.Sem

namespace PackFold

open Cert.PackIdeal Cert.PackIdeal.Gen RealOps PackTile PackHost

/-! ## A head's row in the cotangent's terms -/

section Head

variable (X : FVec Ideal S8x4x64x576 .f32) (h : Fin 8)

/-- A head's cotangent at a row and a column, the four chunks added. -/
def u (i j : ℕ) : EReal := ct X h 0 i j + ct X h 1 i j + ct X h 2 i j + ct X h 3 i j

theorem u_beyond (i j : ℕ) (hj : 576 ≤ j) : u X h i j = 0 := by
  unfold u
  rw [ct_beyond X h 0 i j hj, ct_beyond X h 1 i j hj, ct_beyond X h 2 i j hj, ct_beyond X h 3 i j hj]
  simp

/-- The tile at a row and a column. -/
def cell (r k : ℕ) : EReal := if 64 * (r / 64) ≤ k then ct X h ⟨r / 64 % 4, Nat.mod_lt _ (by decide)⟩ (r % 64) (k - 64 * (r / 64)) else 0

theorem tile_cell (r : Fin 256) (k : Fin 768) : tile X (ix3 h r k) = cell X h r.val k.val := by
  have hr := r.isLt
  have e := tile_at X h ⟨r.val / 64, by omega⟩ ⟨r.val % 64, Nat.mod_lt _ (by decide)⟩ k
  unfold cell
  rw [show (⟨r.val / 64 % 4, Nat.mod_lt _ (by decide)⟩ : Fin 4) = ⟨r.val / 64, by omega⟩ from Fin.ext (Nat.mod_eq_of_lt (by omega))]
  exact (congrArg (fun q => tile X (ix3 h q k)) (Fin.ext (by dsimp only; omega))).trans e

theorem cell_at (q : Fin 4) (i k : ℕ) (hi : i < 64) (hk : 64 * q.val ≤ k) : cell X h (64 * q.val + i) k = ct X h q i (k - 64 * q.val) := by
  have hq := q.isLt
  unfold cell
  simp only [show (64 * q.val + i) / 64 = q.val by omega, show (64 * q.val + i) % 64 = i by omega, if_pos hk]
  exact congrArg (fun p => ct X h p i (k - 64 * q.val)) (Fin.ext (Nat.mod_eq_of_lt hq))

theorem cell_before (q : Fin 4) (i k : ℕ) (hi : i < 64) (hk : k < 64 * q.val) : cell X h (64 * q.val + i) k = 0 := by
  unfold cell
  simp only [show (64 * q.val + i) / 64 = q.val by omega]
  exact if_neg (by omega)

theorem sum_groups (f : ℕ → EReal) (T : ℕ) : ∀ n : ℕ, ∑ k ∈ Finset.range n, ∑ l ∈ Finset.range T, f (k * T + l) = ∑ c ∈ Finset.range (n * T), f c
  | 0 => by simp
  | n + 1 => by rw [Finset.sum_range_succ, sum_groups f T n, Nat.succ_mul, Finset.sum_range_add]

theorem cells (q : Fin 4) (i : ℕ) (hi : i < 64) : ∑ k ∈ Finset.range 768, cell X h (64 * q.val + i) k = ∑ j ∈ Finset.range 576, ct X h q i j := by
  have hq := q.isLt
  rw [show 768 = 64 * q.val + (576 + (192 - 64 * q.val)) by omega, Finset.sum_range_add, Finset.sum_range_add]
  have e0 : ∑ k ∈ Finset.range (64 * q.val), cell X h (64 * q.val + i) k = 0 :=
    Finset.sum_eq_zero fun k hk => cell_before X h q i k hi (Finset.mem_range.mp hk)
  have e1 : ∑ k ∈ Finset.range (192 - 64 * q.val), cell X h (64 * q.val + i) (64 * q.val + (576 + k)) = 0 :=
    Finset.sum_eq_zero fun k hk => (cell_at X h q i _ hi (by omega)).trans (ct_beyond X h q i _ (by omega))
  rw [e0, e1, zero_add, add_zero]
  exact Finset.sum_congr rfl fun k _ => (cell_at X h q i _ hi (by omega)).trans (congrArg (ct X h q i) (by omega))

/-- The tile's sum over a head is the cotangent's. -/
theorem total_sum : ∑ l : Fin 128, ∑ r : Fin 256, total (tile X) (ix3 h r l) = ∑ i ∈ Finset.range 64, ∑ j ∈ Finset.range 576, u X h i j := by
  have e (r : Fin 256) (l : Fin 128) : total (tile X) (ix3 h r l) = ∑ k ∈ Finset.range 6, cell X h r.val (k * 128 + l.val) := by
    rw [total_at, sum_range_fin 6 fun k => cell X h r.val (k * 128 + l.val)]
    exact Finset.sum_congr rfl fun k _ => tile_cell X h r _
  simp only [e]
  rw [Finset.sum_comm, ← sum_range_fin 256 fun r => ∑ l : Fin 128, ∑ k ∈ Finset.range 6, cell X h r (k * 128 + l.val)]
  have e2 (r : ℕ) : ∑ l : Fin 128, ∑ k ∈ Finset.range 6, cell X h r (k * 128 + l.val) = ∑ k ∈ Finset.range 768, cell X h r k := by
    rw [← sum_range_fin 128 fun l => ∑ k ∈ Finset.range 6, cell X h r (k * 128 + l), Finset.sum_comm]
    exact sum_groups (cell X h r) 128 6
  simp only [e2]
  rw [show 256 = 4 * 64 from rfl, ← sum_groups (fun r => ∑ k ∈ Finset.range 768, cell X h r k) 64 4, Finset.sum_comm]
  refine Finset.sum_congr rfl fun i hi => ?_
  have hi := Finset.mem_range.mp hi
  have a0 := cells X h 0 i hi
  have a1 := cells X h 1 i hi
  have a2 := cells X h 2 i hi
  have a3 := cells X h 3 i hi
  unfold u
  rw [Finset.sum_add_distrib, Finset.sum_add_distrib, Finset.sum_add_distrib, ← a0, ← a1, ← a2, ← a3]
  simp only [Finset.sum_range_succ, Finset.sum_range_zero, zero_add]
  rfl

/-- A head's row: the diagonals 1 up to 127, and at 0 the head's sum without them. -/
def rowVal (r : ℕ) : EReal :=
  if r = 0 then ∑ i ∈ Finset.range 64, ∑ j ∈ Finset.range 576, u X h i j - ∑ r ∈ Finset.range 127, ∑ i ∈ Finset.range 64, u X h i (449 + i + r)
  else if r < 128 then ∑ i ∈ Finset.range 64, u X h i (448 + i + r) else 0

/-- What the kernel computes from a head's bands and totals. -/
theorem head_at (b0 b1 b2 b3 : Vec Ideal S1x1x64x256 .f32) (T : Vec Ideal S1x256x128 .f32)
    (h0 : ∀ (i : Fin 64) (k : Fin 256), b0 (ix4 0 0 i k) = band (tile X) (ix4 h 0 i k))
    (h1 : ∀ (i : Fin 64) (k : Fin 256), b1 (ix4 0 0 i k) = band (tile X) (ix4 h 1 i k))
    (h2 : ∀ (i : Fin 64) (k : Fin 256), b2 (ix4 0 0 i k) = band (tile X) (ix4 h 2 i k))
    (h3 : ∀ (i : Fin 64) (k : Fin 256), b3 (ix4 0 0 i k) = band (tile X) (ix4 h 3 i k))
    (hT : ∀ (r : Fin 256) (l : Fin 128), T (ix3 0 r l) = total (tile X) (ix3 h r l)) (r : Fin 256) :
    head b0 b1 b2 b3 T (ix2 0 r) = rowVal X h r.val := by
  have bd (q : Fin 4) (i : Fin 64) (k : Fin 256) (s : ℕ) (hs : (if q.val = 0 then 384 else 512) + k.val = 64 * q.val + (448 + s)) :
      band (tile X) (ix4 h q i k) = ct X h q i.val (448 + s) := by
    rw [band_at, tile_cell]
    refine (congrArg (cell X h (64 * q.val + i.val)) (show (if q.val = 0 then 384 else 512) + k.val = _ from hs)).trans ?_
    rw [cell_at X h q i.val _ i.isLt (by omega)]
    exact congrArg (ct X h q i.val) (by omega)
  have hn (r : Fin 256) : near (skew (bands b0 b1 b2 b3)) (ix2 0 r)
      = if 1 ≤ r.val ∧ r.val < 128 then ∑ i ∈ Finset.range 64, u X h i (448 + i + r.val) else 0 := by
    rw [near_bands b0 b1 b2 b3 (fun i s => u X h i (448 + s)) ?_ r]
    · rw [sum_range_fin 64 fun i => u X h i (448 + i + r.val)]
      by_cases hr : 1 ≤ r.val ∧ r.val < 128
      · rw [if_pos hr, if_pos hr]
        exact Finset.sum_congr rfl fun i _ => congrArg (u X h i.val) (by omega)
      · rw [if_neg hr, if_neg hr]
    · intro i s hs
      rw [h0, h1, h2]
      unfold u
      refine congrArg₂ (fun a b : EReal => a + b) (congrArg₂ (fun a b : EReal => a + b) (congrArg₂ (fun a b : EReal => a + b) ?_ ?_) ?_) ?_
      · exact bd 0 i _ s (by show 384 + (s + 64) = 64 * 0 + (448 + s); omega)
      · exact bd 1 i _ s (by show 512 + s = 64 * 1 + (448 + s); omega)
      · exact bd 2 i _ s (by show 512 + (s + 64) = 64 * 2 + (448 + s); omega)
      · by_cases h128 : s < 128
        · rw [dif_pos h128, h3]
          exact bd 3 i _ s (by show 512 + (s + 128) = 64 * 3 + (448 + s); omega)
        · rw [dif_neg h128]
          exact (ct_beyond X h 3 i.val (448 + s) (by omega)).symm
  unfold head rowVal
  rw [row_at]
  by_cases hr : r.val = 0
  · rw [if_pos hr, if_pos hr, everything_at]
    refine congrArg₂ (fun a b : EReal => a - b) ?_ ?_
    · rw [← total_sum]
      exact Finset.sum_congr rfl fun l _ => Finset.sum_congr rfl fun r _ => hT r l
    · rw [Finset.sum_congr rfl fun k _ => hn k, near_sum fun r => ∑ i ∈ Finset.range 64, u X h i (448 + i + r)]
      exact Finset.sum_congr rfl fun r _ => Finset.sum_congr rfl fun i _ => congrArg (u X h i) (by omega)
  · rw [if_neg hr, if_neg hr, hn]
    by_cases h1 : r.val < 128
    · rw [if_pos ⟨by omega, h1⟩, if_pos h1]
    · rw [if_neg (by omega), if_neg h1]

end Head

end PackFold
-- ==== Proof.PackOut.lean ====
/-
  The packed array read row by row from the kernel's twelve stores.
-/
module

public import proofs.«01_k».proof.Proof.PackFold
public import Idealize.ShloMosaic.Lib.WritesUnit
public import Idealize.ShloMosaic.Lib.WholeRead

@[expose] public section

set_option maxRecDepth 16384

noncomputable section

open Idealize.ShloMosaic Idealize.ShloMosaic.TcCoe Idealize.SL.Sem

namespace PackOut

open Cert.PackIdeal Cert.PackIdeal.Gen RealOps PackTile PackHost PackFold

variable (m : (ℓ : Loc nD τ sig) → Buf (Elt Ideal) ℓ) (c : Dev nD)

theorem idx : ∀ t : Fin cfg0.N, win0_0.index t = ![0, 0, 0, 0] ∧ win0_1.index t = ![0, 0, 0] ∧ win0_2.index t = ![0, 0] ∧ win0_3.index t = ![0, 0]
    ∧ win0_4.index t = ![0, 0] ∧ win0_5.index t = ![0, 0] :=
  (by decide +kernel : ∀ t : Fin grid0.N, _)

/-- The cotangent of the bias, the kernel's first argument. -/
abbrev arg0 : FVec Ideal S8x4x64x576 .f32 := m ((c : Thread nD τ).loc main_arg0)

section Blocks

variable (t : Fin cfg0.N)

theorem blk_band (h : Fin 8) (q : Fin 4) (i : Fin 64) (k : Fin 256) :
    (iblk m c 0 t : Vec Ideal S8x4x64x256 .f32) (ix4 h q i k) = band (tile (arg0 m c)) (ix4 h q i k) := by
  refine Eq.trans ?_ (congrFun (V_band m c) (ix4 h q i k))
  blk_ext [iblk, idx t]

theorem blk_total (h : Fin 8) (r : Fin 256) (l : Fin 128) :
    (iblk m c 1 t : Vec Ideal S8x256x128 .f32) (ix3 h r l) = total (tile (arg0 m c)) (ix3 h r l) := by
  refine Eq.trans ?_ (congrFun (V_total m c) (ix3 h r l))
  blk_ext [iblk, idx t]

theorem blk_g2 (k : Fin 1024) : (iblk m c 2 t : Vec Ideal S1x1024 .f32) (ix2 0 k) = m ((c : Thread nD τ).loc main_arg1) (ix2 0 k) := by
  blk_ext [iblk, V, idx t]

theorem blk_ps (k : Fin 512) : (iblk m c 3 t : Vec Ideal S1x512 .f32) (ix2 0 k) = m ((c : Thread nD τ).loc main_arg2) (ix2 0 k) := by
  blk_ext [iblk, V, idx t]

theorem blk_loss (k : Fin 128) : (iblk m c 4 t : Vec Ideal S8x128 .f32) (ix2 0 k) = m ((c : Thread nD τ).loc main_arg3) (ix2 0 k) := by
  blk_ext [iblk, V, idx t]

/-! ## The loads -/

theorem inb_band (h : Fin 8) (q : Fin 4) : ∀ a, (![h.val, q.val, 0, 0] : Fin 4 → ℕ) a + S1x1x64x256.size a ≤ S8x4x64x256.size a := by
  revert h q; decide +kernel

theorem inb_total (h : Fin 8) : ∀ a, (![h.val, 0, 0] : Fin 3 → ℕ) a + S1x256x128.size a ≤ S8x256x128.size a := by
  revert h; decide +kernel

theorem inb_row (h : Fin 8) : ∀ a, (![8 + h.val, 0] : Fin 2 → ℕ) a + (![1, 256] : Fin 2 → ℕ) a ≤ S16x1024.size a := by
  revert h; decide +kernel

def bnd (h : Fin 8) (q : Fin 4) : Vec Ideal S1x1x64x256 .f32 :=
  View.readAt (Elt Ideal) (ms0_0 t).view (Rect.unit (s := S8x4x64x256) ![h.val, q.val, 0, 0] S1x1x64x256.size (inb_band h q)).toLoadRect ((hs0_0 t).unread (iblk m c 0 t))

def tot (h : Fin 8) : Vec Ideal S1x256x128 .f32 :=
  View.readAt (Elt Ideal) (ms0_1 t).view (Rect.unit (s := S8x256x128) ![h.val, 0, 0] S1x256x128.size (inb_total h)).toLoadRect ((hs0_1 t).unread (iblk m c 1 t))

def g2 : Vec Ideal S1x1024 .f32 :=
  View.readAt (Elt Ideal) (ms0_2 t).view (Rect.unit (s := S1x1024) ![0, 0] S1x1024.size inb_S1x1024_S1x1024_0_0).toLoadRect ((hs0_2 t).unread (iblk m c 2 t))

def ps : Vec Ideal S1x512 .f32 :=
  View.readAt (Elt Ideal) (ms0_3 t).view (Rect.unit (s := S1x512) ![0, 0] S1x512.size inb_S1x512_S1x512_0_0).toLoadRect ((hs0_3 t).unread (iblk m c 3 t))

def loss : Vec Ideal S1x128 .f32 :=
  View.readAt (Elt Ideal) (ms0_4 t).view (Rect.unit (s := S8x128) ![0, 0] S1x128.size inb_S8x128_S1x128_0_0).toLoadRect ((hs0_4 t).unread (iblk m c 4 t))

theorem bnd_at (h : Fin 8) (q : Fin 4) (i : Fin 64) (k : Fin 256) : bnd m c t h q (ix4 0 0 i k) = band (tile (arg0 m c)) (ix4 h q i k) := by
  refine ((hs0_0 t).readAt_unread _ _ _).trans (Eq.trans (congrArg (iblk m c 0 t) ?_) (blk_band m c t h q i k))
  idx_ext

theorem tot_at (h : Fin 8) (r : Fin 256) (l : Fin 128) : tot m c t h (ix3 0 r l) = total (tile (arg0 m c)) (ix3 h r l) := by
  refine ((hs0_1 t).readAt_unread _ _ _).trans (Eq.trans (congrArg (iblk m c 1 t) ?_) (blk_total m c t h r l))
  idx_ext

theorem g2_at (k : Fin 1024) : g2 m c t (ix2 0 k) = m ((c : Thread nD τ).loc main_arg1) (ix2 0 k) := by
  refine ((hs0_2 t).readAt_unread _ _ _).trans (Eq.trans (congrArg (iblk m c 2 t) ?_) (blk_g2 m c t k))
  idx_ext

theorem ps_at (k : Fin 512) : ps m c t (ix2 0 k) = m ((c : Thread nD τ).loc main_arg2) (ix2 0 k) := by
  refine ((hs0_3 t).readAt_unread _ _ _).trans (Eq.trans (congrArg (iblk m c 3 t) ?_) (blk_ps m c t k))
  idx_ext

theorem loss_at (k : Fin 128) : loss m c t (ix2 0 k) = m ((c : Thread nD τ).loc main_arg3) (ix2 0 k) := by
  refine ((hs0_4 t).readAt_unread _ _ _).trans (Eq.trans (congrArg (iblk m c 4 t) ?_) (blk_loss m c t k))
  idx_ext

/-! ## The stores -/

/-- A head's row. -/
def line (h : Fin 8) : View.Piece (Elt Ideal) S16x1024 .f32 :=
  ⟨Rect.unit (s := S16x1024) ![8 + h.val, 0] ![1, 256] (inb_row h), head (bnd m c t h 0) (bnd m c t h 1) (bnd m c t h 2) (bnd m c t h 3) (tot m c t h)⟩

/-- The rows copied, over the filling. -/
def copies : List (View.Piece (Elt Ideal) S16x1024 .f32) :=
  [⟨Rect.unit (s := S16x1024) ![3, 0] S1x128.size inb_S16x1024_S1x128_3_0, loss m c t⟩,
   ⟨Rect.unit (s := S16x1024) ![2, 0] S1x512.size inb_S16x1024_S1x512_2_0, ps m c t⟩,
   ⟨Rect.unit (s := S16x1024) ![1, 0] S1x1024.size inb_S16x1024_S1x1024_1_0, g2 m c t⟩,
   ⟨Rect.unit (s := S16x1024) ![0, 0] S16x1024.size inb_S16x1024_S16x1024_0_0, k0_pay2 (F := Ideal)⟩]

/-- All stores, the last first. -/
def stores : List (View.Piece (Elt Ideal) S16x1024 .f32) :=
  line m c t 7 :: line m c t 6 :: line m c t 5 :: line m c t 4 :: line m c t 3 :: line m c t 2 :: line m c t 1 :: line m c t 0 :: copies m c t

theorem outs_stores : outsAt0 m c t = VO0_5.read (Elt Ideal) (VO0_5.writes (Elt Ideal) VO0_5.junk (stores m c t)) := by
  unfold outsAt0 out0_A_5
  refine congrArg (fun L => VO0_5.read (Elt Ideal) (VO0_5.writes (Elt Ideal) VO0_5.junk L)) ?_
  sl_unfold_run_names
  rfl

/-! ## Row by row -/

/-- The packed array at a row and a column. -/
def packed (a : Fin 16) (k : Fin 1024) : EReal :=
  if ha : 8 ≤ a.val then (if k.val < 256 then rowVal (arg0 m c) ⟨a.val - 8, by omega⟩ k.val else (0 : EReal))
  else if a.val = 1 then m ((c : Thread nD τ).loc main_arg1) (ix2 0 k)
  else if a.val = 2 then (if hk : k.val < 512 then m ((c : Thread nD τ).loc main_arg2) (ix2 0 ⟨k.val, hk⟩) else (0 : EReal))
  else if a.val = 3 then (if hk : k.val < 128 then m ((c : Thread nD τ).loc main_arg3) (ix2 0 ⟨k.val, hk⟩) else (0 : EReal))
  else (0 : EReal)

theorem line_hit (h : Fin 8) (L : List (View.Piece (Elt Ideal) S16x1024 .f32)) (a : Fin 16) (k : Fin 1024) (ha : a.val = 8 + h.val) (hk : k.val < 256) :
    VO0_5.read (Elt Ideal) (VO0_5.writes (Elt Ideal) VO0_5.junk (line m c t h :: L)) (ix2 a k) = rowVal (arg0 m c) h k.val := by
  refine (View.read_writes_cons_unit_of_mem VO0_5 _ (inb_row h) _ L (ix2 a k) (ix2 0 ⟨k.val, hk⟩) rfl ?_).trans
    (head_at (arg0 m c) h _ _ _ _ _ (bnd_at m c t h 0) (bnd_at m c t h 1) (bnd_at m c t h 2) (bnd_at m c t h 3) (tot_at m c t h) ⟨k.val, hk⟩)
  exact Fin.forall_fin_two.mpr ⟨ha, (Nat.zero_add _).symm⟩

theorem line_row (h : Fin 8) (L : List (View.Piece (Elt Ideal) S16x1024 .f32)) (a : Fin 16) (k : Fin 1024) (ha : a.val ≠ 8 + h.val) :
    VO0_5.read (Elt Ideal) (VO0_5.writes (Elt Ideal) VO0_5.junk (line m c t h :: L)) (ix2 a k) = VO0_5.read (Elt Ideal) (VO0_5.writes (Elt Ideal) VO0_5.junk L) (ix2 a k) := by
  refine View.read_writes_cons_unit_of_not_mem VO0_5 _ (inb_row h) _ L (ix2 a k) rfl 0 ?_
  show a.val < 8 + h.val ∨ 8 + h.val + 1 ≤ a.val
  omega

theorem line_far (h : Fin 8) (L : List (View.Piece (Elt Ideal) S16x1024 .f32)) (a : Fin 16) (k : Fin 1024) (hk : 256 ≤ k.val) :
    VO0_5.read (Elt Ideal) (VO0_5.writes (Elt Ideal) VO0_5.junk (line m c t h :: L)) (ix2 a k) = VO0_5.read (Elt Ideal) (VO0_5.writes (Elt Ideal) VO0_5.junk L) (ix2 a k) := by
  refine View.read_writes_cons_unit_of_not_mem VO0_5 _ (inb_row h) _ L (ix2 a k) rfl 1 (Or.inr ?_)
  show 0 + 256 ≤ k.val
  omega

theorem line_at (h : Fin 8) (L : List (View.Piece (Elt Ideal) S16x1024 .f32)) (a : Fin 16) (k : Fin 1024) :
    VO0_5.read (Elt Ideal) (VO0_5.writes (Elt Ideal) VO0_5.junk (line m c t h :: L)) (ix2 a k)
      = if a.val = 8 + h.val ∧ k.val < 256 then rowVal (arg0 m c) h k.val else VO0_5.read (Elt Ideal) (VO0_5.writes (Elt Ideal) VO0_5.junk L) (ix2 a k) := by
  split_ifs with hh
  · exact line_hit m c t h L a k hh.1 hh.2
  · by_cases hk : k.val < 256
    · exact line_row m c t h L a k fun ha => hh ⟨ha, hk⟩
    · exact line_far m c t h L a k (by omega)

theorem copies_at (a : Fin 16) (k : Fin 1024) :
    VO0_5.read (Elt Ideal) (VO0_5.writes (Elt Ideal) VO0_5.junk (copies m c t)) (ix2 a k)
      = if a.val = 1 then (m ((c : Thread nD τ).loc main_arg1) (ix2 0 k) : EReal)
        else if a.val = 2 then (if hk : k.val < 512 then (m ((c : Thread nD τ).loc main_arg2) (ix2 0 ⟨k.val, hk⟩) : EReal) else (0 : EReal))
        else if a.val = 3 then (if hk : k.val < 128 then (m ((c : Thread nD τ).loc main_arg3) (ix2 0 ⟨k.val, hk⟩) : EReal) else (0 : EReal))
        else (0 : EReal) := by
  unfold copies
  by_cases h3 : a.val = 3 ∧ k.val < 128
  · rw [if_neg (by omega), if_neg (by omega), if_pos h3.1, dif_pos h3.2]
    refine (View.read_writes_cons_unit_of_mem VO0_5 _ _ _ _ (ix2 a k) (ix2 0 ⟨k.val, h3.2⟩) rfl ?_).trans (loss_at m c t ⟨k.val, h3.2⟩)
    exact Fin.forall_fin_two.mpr ⟨h3.1, (Nat.zero_add _).symm⟩
  · have s3 (L : List (View.Piece (Elt Ideal) S16x1024 .f32)) : VO0_5.read (Elt Ideal) (VO0_5.writes (Elt Ideal) VO0_5.junk
        (⟨Rect.unit (s := S16x1024) ![3, 0] S1x128.size inb_S16x1024_S1x128_3_0, loss m c t⟩ :: L)) (ix2 a k)
        = VO0_5.read (Elt Ideal) (VO0_5.writes (Elt Ideal) VO0_5.junk L) (ix2 a k) := by
      by_cases ha : a.val = 3
      · refine View.read_writes_cons_unit_of_not_mem VO0_5 _ _ _ L (ix2 a k) rfl 1 (Or.inr ?_)
        show 0 + 128 ≤ k.val
        omega
      · refine View.read_writes_cons_unit_of_not_mem VO0_5 _ _ _ L (ix2 a k) rfl 0 ?_
        show a.val < 3 ∨ 3 + 1 ≤ a.val
        omega
    rw [s3]
    by_cases h2 : a.val = 2 ∧ k.val < 512
    · rw [if_neg (by omega), if_pos h2.1, dif_pos h2.2]
      refine (View.read_writes_cons_unit_of_mem VO0_5 _ _ _ _ (ix2 a k) (ix2 0 ⟨k.val, h2.2⟩) rfl ?_).trans (ps_at m c t ⟨k.val, h2.2⟩)
      exact Fin.forall_fin_two.mpr ⟨h2.1, (Nat.zero_add _).symm⟩
    · have s2 (L : List (View.Piece (Elt Ideal) S16x1024 .f32)) : VO0_5.read (Elt Ideal) (VO0_5.writes (Elt Ideal) VO0_5.junk
          (⟨Rect.unit (s := S16x1024) ![2, 0] S1x512.size inb_S16x1024_S1x512_2_0, ps m c t⟩ :: L)) (ix2 a k)
          = VO0_5.read (Elt Ideal) (VO0_5.writes (Elt Ideal) VO0_5.junk L) (ix2 a k) := by
        by_cases ha : a.val = 2
        · refine View.read_writes_cons_unit_of_not_mem VO0_5 _ _ _ L (ix2 a k) rfl 1 (Or.inr ?_)
          show 0 + 512 ≤ k.val
          omega
        · refine View.read_writes_cons_unit_of_not_mem VO0_5 _ _ _ L (ix2 a k) rfl 0 ?_
          show a.val < 2 ∨ 2 + 1 ≤ a.val
          omega
      rw [s2]
      by_cases h1 : a.val = 1
      · rw [if_pos h1]
        refine (View.read_writes_cons_unit_of_mem VO0_5 _ _ _ _ (ix2 a k) (ix2 0 k) rfl ?_).trans (g2_at m c t k)
        exact Fin.forall_fin_two.mpr ⟨h1, (Nat.zero_add _).symm⟩
      · refine (View.read_writes_cons_unit_of_not_mem VO0_5 _ _ _ _ (ix2 a k) rfl 0 ?_).trans ?_
        · show a.val < 1 ∨ 1 + 1 ≤ a.val
          omega
        · refine (View.read_writes_cons_unit_of_mem VO0_5 _ _ _ _ (ix2 a k) (ix2 a k) rfl ?_).trans ?_
          · exact Fin.forall_fin_two.mpr ⟨(Nat.zero_add _).symm, (Nat.zero_add _).symm⟩
          · refine Eq.trans (b := (0 : EReal)) Ideal.ofBits_zero_f32 ?_
            rw [if_neg h1]
            split_ifs <;> first | rfl | (exfalso; omega)

theorem outs_at (a : Fin 16) (k : Fin 1024) : outsAt0 m c t (ix2 a k) = packed m c a k := by
  rw [outs_stores]
  unfold stores
  rw [line_at, line_at, line_at, line_at, line_at, line_at, line_at, line_at, copies_at]
  unfold packed
  by_cases ha : 8 ≤ a.val
  · rw [dif_pos ha]
    by_cases hk : k.val < 256
    · rw [if_pos hk]
      obtain ⟨a, hlt⟩ := a
      dsimp only at ha
      interval_cases a <;> simp [hk] <;> rfl
    · rw [if_neg hk]
      simp only [hk, and_false, if_false]
      rw [if_neg (by omega), if_neg (by omega), if_neg (by omega)]
  · rw [dif_neg ha]
    have no (h : Fin 8) : ¬ (a.val = 8 + h.val ∧ k.val < 256) := by omega
    rw [if_neg (no 7), if_neg (no 6), if_neg (no 5), if_neg (no 4), if_neg (no 3), if_neg (no 2), if_neg (no 1), if_neg (no 0)]

end Blocks

/-- The packed array as a whole. -/
def res : S16x1024.Idx → EReal := fun y => packed m c (y 0) (y 1)

theorem final : (dats m 0 c).arrAt 5 cfg0.N = res m c := by
  refine (dats m 0 c).arrAt_eq_of_covers 5 _ (by decide +kernel) fun t hf y => ?_
  blk_simp
  rw [after0_5, eq_ix2 y]
  refine (outs_at m c t _ _).trans ?_
  refine congrArg₂ (packed m c) (Fin.ext ?_) (Fin.ext ?_)
  · blk_simp [idx t]
    try simp
  · blk_simp [idx t]
    try simp

end PackOut
-- ==== Proof.PackRef.lean ====
/-
  The packing's reference: the table's gradient as a scatter of the cotangent by clipped distance, then the rows laid out.
-/
module

public import proofs.«01_k».proof.Proof.Gen.PackRefIdeal.Read
public import proofs.«01_k».proof.Proof.PackFold
public import proofs.«01_k».proof.Proof.PoolHost

@[expose] public section

set_option maxRecDepth 16384

noncomputable section

open Idealize.ShloMosaic Idealize.ShloMosaic.TcCoe Idealize.ShloMosaic.Routing Idealize.SL.Sem

namespace PackRef

open Cert.PackRefIdeal RealOps PackFold

/-! ## The scatter -/

section Scatter

/-- Where an update lands: in its head's row, at the column its word names. -/
theorem lands (idx : IVec S64x576x1 32) (h h' : Fin 8) (i : Fin 64) (j : Fin 576) (r : Fin 129) (a : ℕ)
    (ha : idx (ix3 i j (0 : Fin 1)) = BitVec.ofNat 32 a) (h31 : a < 2 ^ 31) :
    scatter_S8x129_S64x576x1_S8x64x576_0_1_1_2.resultIdx? (ix3 h' i j) idx = some (ix2 h r) ↔ a = r.val ∧ h' = h := by
  rw [resultIdx?_eq_some]
  generalize hd : scatter_S8x129_S64x576x1_S8x64x576_0_1_1_2 = d
  have h0 : d.start (ix3 h' i j) idx 0 = 0 := by subst hd; rfl
  have h0' : d.window (ix3 h' i j) 0 = h'.val := by subst hd; rfl
  have h1' : d.window (ix3 h' i j) 1 = 0 := by subst hd; rfl
  have h1 : d.start (ix3 h' i j) idx 1 = (a : Int) := by
    subst hd
    unfold ScatterDims.start
    rw [dif_pos (show (1 : Fin 2) ∈ scatter_S8x129_S64x576x1_S8x64x576_0_1_1_2.scatterDimsToOperandDims from List.mem_singleton.2 rfl)]
    refine (congrArg (fun q => (idx q).toInt) (funext fun b => ?_ : _ = ix3 i j (0 : Fin 1))).trans (by rw [ha, PoolHost.toInt_small _ h31])
    match b with
    | ⟨0, _⟩ => rfl
    | ⟨1, _⟩ => rfl
    | ⟨2, _⟩ => rfl
  constructor
  · intro e
    have e0 := e 0
    have e1 := e 1
    rw [h0, h0'] at e0
    rw [h1, h1'] at e1
    have e0' : ((0 : Int) + (h'.val : Int)) = (h.val : Int) := e0
    have e1' : ((a : Int) + ((0 : Nat) : Int)) = (r.val : Int) := e1
    exact ⟨by omega, Fin.ext (by omega)⟩
  · rintro ⟨e, rfl⟩ x
    match x with
    | ⟨0, _⟩ =>
      show d.start (ix3 h' i j) idx 0 + (d.window (ix3 h' i j) 0 : Int) = (h'.val : Int)
      rw [h0, h0']; omega
    | ⟨1, _⟩ =>
      show d.start (ix3 h' i j) idx 1 + (d.window (ix3 h' i j) 1 : Int) = (r.val : Int)
      rw [h1, h1']; omega

/-- The table's entry gains every update whose word is its column. -/
theorem scatter_at (x : S8x129.Idx → EReal) (idx : IVec S64x576x1 32) (upd : S8x64x576.Idx → EReal) (lo : ℕ → ℕ → ℕ)
    (hlo : ∀ (i : Fin 64) (j : Fin 576), idx (ix3 i j (0 : Fin 1)) = BitVec.ofNat 32 (lo i.val j.val)) (h31 : ∀ (i : Fin 64) (j : Fin 576), lo i.val j.val < 2 ^ 31)
    (h : Fin 8) (r : Fin 129) :
    Ideal.hostScatterAdd scatter_S8x129_S64x576x1_S8x64x576_0_1_1_2 x idx upd (ix2 h r)
      = x (ix2 h r) + ∑ i : Fin 64, ∑ j : Fin 576, if lo i.val j.val = r.val then upd (ix3 h i j) else 0 := by
  unfold Ideal.hostScatterAdd
  refine congrArg (fun q => x (ix2 h r) + q) ?_
  rw [← Fintype.sum_prod_type' fun (i : Fin 64) (j : Fin 576) => if lo i.val j.val = r.val then upd (ix3 h i j) else 0, ← Finset.sum_filter]
  refine (Finset.sum_bij (fun (p : Fin 64 × Fin 576) _ => (ix3 h p.1 p.2 : S8x64x576.Idx)) ?_ ?_ ?_ ?_).symm
  · intro p hp
    rw [Finset.mem_filter] at hp ⊢
    exact ⟨Finset.mem_univ _, (lands idx h h p.1 p.2 r _ (hlo _ _) (h31 _ _)).2 ⟨hp.2, rfl⟩⟩
  · intro p _ p' _ e
    exact Prod.ext (congrFun e 1) (congrFun e 2)
  · intro y hy
    rw [Finset.mem_filter] at hy
    have ey : y = ix3 (y 0) (y 1) (y 2) := eq_ix3 y
    have hy2 := hy.2
    rw [ey] at hy2
    have q := (lands idx h (y 0) (y 1) (y 2) r _ (hlo _ _) (h31 _ _)).1 hy2
    refine ⟨(y 1, y 2), Finset.mem_filter.2 ⟨Finset.mem_univ _, q.1⟩, ?_⟩
    exact (congrArg (fun b : Fin 8 => (ix3 b (y 1) (y 2) : S8x64x576.Idx)) q.2.symm).trans ey.symm
  · intro p _
    rfl

end Scatter

/-! ## The words -/

/-- The table's column of a row and a column of the cotangent, as the words compute it. -/
def word (i : Fin 64) (j : Fin 576) : BitVec 32 :=
  let d := IntOp.subi (IntOp.subi (BitVec.ofNat 32 j.val) 512#32) (BitVec.ofNat 32 i.val)
  let e := IntOp.addi (IntOp.minsi 64#32 (IntOp.maxsi 4294967232#32 d)) 64#32
  Scalar.select (IntOp.cmpi .slt e 0#32) (IntOp.addi e 129#32) e

theorem word_eq : ∀ (i : Fin 64) (j : Fin 576), word i j = BitVec.ofNat 32 (j.val - (448 + i.val)) := by
  decide +kernel

theorem words (i : Fin 64) (j : Fin 576) : Read.val_main_v18 (F := Ideal) (ix3 i j (0 : Fin 1)) = BitVec.ofNat 32 (j.val - (448 + i.val)) := by
  rw [← word_eq i j]
  pointwise [Read.val_main_v18, Read.val_main_v17, Read.val_main_v16, Read.val_main_v15, Read.val_main_v14, Read.val_main_v13, Read.val_main_v12, Read.val_main_v11, Read.val_main_v10,
    Read.val_main_v9, Read.val_main_v8, Read.val_main_v7, Read.val_main_v6, Read.val_main_v5, Read.val_main_v4, Read.val_main_v3, Read.val_main_v2, Read.val_main_v1, Read.val_main_call0_v4, Read.val_main_call0_v3, Read.val_main_call0_v2, Read.val_main_call0_v1, Read.val_main_call0_v0,
    Read.val_main_c, Read.val_main_c_0, Read.val_main_c_1, Read.val_main_c_2, Read.val_main_c_3, Read.val_main_c_4]
  rfl

theorem summed (X : FVec Ideal S8x4x64x576 .f32) (h : Fin 8) (i : Fin 64) (j : Fin 576) :
    Read.val_main_v24 (F := Ideal) X (ix3 h i j) = u X h i.val j.val := by
  rw [Read.val_main_v24_apply]
  pointwise [Read.val_main_v23, Read.val_main_v22, Read.val_main_cst_6, Read.val_main_cst_5]
  rw [Fin.sum_univ_one, Fin.sum_univ_four]
  unfold u
  simp only [PackHost.ct_at]

/-! ## The table -/

section Table

variable (X : FVec Ideal S8x4x64x576 .f32) (h : Fin 8)

/-- The table's gradient at a head and a column: the diagonal of that distance; at 0 everything as far away or farther. -/
def tab (r : ℕ) : EReal :=
  if r = 0 then ∑ i ∈ Finset.range 64, ∑ j ∈ Finset.range (449 + i), u X h i j else ∑ i ∈ Finset.range 64, u X h i (448 + i + r)

theorem table_at (r : Fin 129) : Read.val_main_v26 (F := Ideal) X (ix2 h r) = tab X h r.val := by
  refine (scatter_at _ _ _ (fun i j => j - (448 + i)) words (fun i j => by have := j.isLt; show j.val - (448 + i.val) < 2 ^ 31; omega) h r).trans ?_
  have e0 : Read.val_main_v25 (F := Ideal) (ix2 h r) = 0 := by
    pointwise [Read.val_main_v25, Read.val_main_cst_7]
  rw [e0, zero_add]
  have e (i : Fin 64) : (∑ j : Fin 576, if j.val - (448 + i.val) = r.val then Read.val_main_v24 (F := Ideal) X (ix3 h i j) else 0)
      = ∑ j ∈ Finset.range 576, if j - (448 + i.val) = r.val then u X h i.val j else 0 := by
    rw [sum_range_fin 576 fun j => if j - (448 + i.val) = r.val then u X h i.val j else 0]
    exact Finset.sum_congr rfl fun j _ => by rw [summed]
  rw [Finset.sum_congr rfl fun i _ => e i, ← sum_range_fin 64 fun i => ∑ j ∈ Finset.range 576, if j - (448 + i) = r.val then u X h i j else 0]
  unfold tab
  by_cases hr : r.val = 0
  · rw [if_pos hr, hr]
    refine Finset.sum_congr rfl fun i hi => ?_
    have hi := Finset.mem_range.mp hi
    rw [show 576 = (449 + i) + (127 - i) by omega, Finset.sum_range_add, Finset.sum_eq_zero (s := Finset.range (127 - i)), add_zero]
    · exact Finset.sum_congr rfl fun j hj => if_pos (by have := Finset.mem_range.mp hj; omega)
    · exact fun j _ => if_neg (by omega)
  · rw [if_neg hr]
    refine Finset.sum_congr rfl fun i hi => ?_
    by_cases hb : 448 + i + r.val < 576
    · rw [Finset.sum_eq_single (448 + i + r.val)]
      · exact if_pos (by omega)
      · exact fun j _ hj => if_neg (by omega)
      · exact fun hn => absurd (Finset.mem_range.mpr hb) hn
    · rw [u_beyond X h i _ (by omega)]
      exact Finset.sum_eq_zero fun j hj => if_neg (by have := Finset.mem_range.mp hj; omega)

/-- A head's row is the table's, once the diagonals' sum is a real. -/
theorem row_tab (R : ℝ) (hR : ∑ r ∈ Finset.range 127, ∑ i ∈ Finset.range 64, u X h i (449 + i + r) = (R : EReal)) (r : ℕ) :
    rowVal X h r = if r < 129 then tab X h r else 0 := by
  unfold rowVal tab
  by_cases h0 : r = 0
  · subst h0
    rw [if_pos rfl, if_pos (by omega), if_pos rfl, PackTile.diagonals (u X h) fun i j hj => u_beyond X h i j hj, hR]
    exact EReal.add_sub_cancel_right
  · rw [if_neg h0, if_neg h0]
    by_cases h1 : r < 128
    · rw [if_pos h1, if_pos (by omega)]
    · rw [if_neg h1]
      split_ifs
      · exact (Finset.sum_eq_zero fun i _ => u_beyond X h i _ (by omega)).symm
      · rfl

end Table

/-- The reference's array at a row and a column. -/
def laid (X : FVec Ideal S8x4x64x576 .f32) (x1 : FVec Ideal S1x1024 .f32) (x2 : FVec Ideal S1x512 .f32) (x3 : FVec Ideal S8x128 .f32) (a : Fin 16) (k : Fin 1024) : EReal :=
  if ha : 8 ≤ a.val then (if k.val < 129 then tab X ⟨a.val - 8, by omega⟩ k.val else 0)
  else if a.val = 1 then x1 (ix2 0 k)
  else if a.val = 2 then (if hk : k.val < 512 then x2 (ix2 0 ⟨k.val, hk⟩) else (0 : EReal))
  else if a.val = 3 then (if hk : k.val < 128 then x3 (ix2 0 ⟨k.val, hk⟩) else (0 : EReal))
  else (0 : EReal)

theorem zero_word : (FloatOps.sitofp FTy.f32 0#32 : Ideal .f32) = (0 : EReal) := by
  show (((0#32 : BitVec 32).toInt : ℝ) : EReal) = 0
  simp

theorem rows (X : FVec Ideal S8x4x64x576 .f32) (x1 : FVec Ideal S1x1024 .f32) (x2 : FVec Ideal S1x512 .f32) (x3 : FVec Ideal S8x128 .f32) (a : Fin 16) (k : Fin 1024) :
    Read.val_main_v32 (F := Ideal) X x1 x2 x3 (ix2 a k) = laid X x1 x2 x3 a k := by
  pointwise [Read.val_main_v32, Read.val_main_v31, Read.val_main_v30, Read.val_main_v29, Read.val_main_v28, Read.val_main_v27, Read.val_main_cst_8, Read.val_main_call1_v0, Read.val_main_call2_v0, Read.val_main_call3_v0, Read.val_main_c_9, Read.val_main_c_10, Read.val_main_c_11]
  unfold laid
  fin_vals a with ha
  all_goals simp only [ha, Nat.reduceSub, Nat.reduceLT, Nat.reduceLeDiff, ↓reduceDIte, ↓reduceIte, Nat.reduceEqDiff, true_and, zero_word, table_at]
  all_goals rfl

end PackRef
-- ==== Proof.PackClaim.lean ====
/-
  The packed array is the reference's, for a cotangent that meets the stated precondition.
-/
module

public import proofs.«01_k».proof.Proof.PackOut
public import proofs.«01_k».proof.Proof.PackRef
public import proofs.«01_k».proof.Proof.Gen.Pre_pack_small_finite
public import Idealize.ShloMosaic.Lib.ReduceAll

@[expose] public section

set_option maxRecDepth 16384

noncomputable section

open Idealize.ShloMosaic Idealize.ShloMosaic.TcCoe Idealize.SL.Sem

namespace PackClaim

open Cert.PackIdeal Cert.PackIdeal.Gen RealOps PackFold PackOut

variable (m : (ℓ : Loc nD τ sig) → Buf (Elt Ideal) ℓ) (c : Dev nD)

/-- The precondition, read: the cotangent holds real numbers. -/
theorem finite_of_pre
    (h : Cert.Pre_pack_small_finite.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    ∀ i, ∃ r : ℝ, arg0 m c i = (r : EReal) := by
  unfold Cert.Pre_pack_small_finite.fn at h
  exact fun i => ⟨_, real_of_abs_lt _ (Host.reduce_andi_all _ _ _ _ _ (congrFun h ix0) i)⟩

theorem real_add (a b : EReal) : (∃ r : ℝ, a = (r : EReal)) → (∃ r : ℝ, b = (r : EReal)) → ∃ r : ℝ, a + b = (r : EReal) := by
  rintro ⟨x, rfl⟩ ⟨y, rfl⟩
  exact ⟨x + y, (EReal.coe_add x y).symm⟩

theorem real_sum (s : Finset ℕ) (f : ℕ → EReal) (h : ∀ i, ∃ r : ℝ, f i = (r : EReal)) : ∃ r : ℝ, ∑ i ∈ s, f i = (r : EReal) :=
  Finset.sum_induction f (fun a => ∃ r : ℝ, a = (r : EReal)) real_add ⟨0, rfl⟩ fun i _ => h i

variable (f : ∀ i, ∃ r : ℝ, arg0 m c i = (r : EReal))

include f

theorem real_u (h : Fin 8) (i j : ℕ) : ∃ r : ℝ, u (arg0 m c) h i j = (r : EReal) := by
  have e (q : Fin 4) : ∃ r : ℝ, PackHost.ct (arg0 m c) h q i j = (r : EReal) := by
    unfold PackHost.ct
    split_ifs
    · exact f _
    · exact ⟨0, rfl⟩
  exact real_add _ _ (real_add _ _ (real_add _ _ (e 0) (e 1)) (e 2)) (e 3)

theorem packed_eq : (dats m 0 c).arrAt 5 cfg0.N
    = Cert.PackRefIdeal.Read.val_main_v32 (F := Ideal) (m ((c : Thread nD τ).loc main_arg0)) (m ((c : Thread nD τ).loc main_arg1))
        (m ((c : Thread nD τ).loc main_arg2)) (m ((c : Thread nD τ).loc main_arg3)) := by
  rw [PackOut.final]
  funext y
  rw [eq_ix2 y]
  refine Eq.trans ?_ (PackRef.rows _ _ _ _ (y 0) (y 1)).symm
  show packed m c (y 0) (y 1) = _
  unfold packed PackRef.laid
  by_cases ha : 8 ≤ (y 0).val
  · rw [dif_pos ha, dif_pos ha]
    obtain ⟨R, hR⟩ := real_sum (Finset.range 127) _ fun r => real_sum (Finset.range 64) _ fun i =>
      real_u m c f ⟨(y 0).val - 8, by have : (y 0).val < 16 := (y 0).isLt; omega⟩ i (449 + i + r)
    rw [PackRef.row_tab _ _ R hR]
    split_ifs <;> first | rfl | (exfalso; omega)
  · rw [dif_neg ha, dif_neg ha]

end PackClaim

end
-- ==== Proof.Keep.lean ====
/- Programs that read and write buffers they hold, whatever the buffers contain: they run to their
   end and still hold them. -/
module

public import Idealize.ShloMosaic.Lib.Pipeline.FrameBody
public import Idealize.ShloMosaic.Lib.Tactic
public import Idealize.ShloMosaic.Lib.Scf
public import Idealize.ShloMosaic.Lib.Writes
public import Idealize.ShloMosaic.Lib.Pipeline.Kit

@[expose] public section

noncomputable section

namespace Keep

open Idealize.ShloMosaic Idealize.ShloMosaic.TcCoe Idealize.ShloMosaic.Tactic
open Idealize.SL Idealize.SL.RA
open Idealize.SL.BI (sProp)
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val Nat U Nat

/-- A buffer held whole, at contents left open. -/
def some (c : Dev nD) {sp : Space} {s : Shape} {e : EltTy} (M : Memref sig .tc sp s e) : sProp 𝕄 :=
  iprop(∃ X, owns (c : Thread nD τ) M fullShare X)

/-- What is held, `R`, includes the buffer of `M`, which may be taken out and put back. -/
def Lends (R : sProp 𝕄) (c : Dev nD) {sp : Space} {s : Shape} {e : EltTy} (M : Memref sig .tc sp s e) : Prop :=
  R ⊢ iprop(some c M ∗ (some c M -∗ R))

/-- The program runs to its end from `R` and leaves `R`. -/
def Keeps (defs : Defs nD τ sig Val Λ) (R : sProp 𝕄) (c : Dev nD) {α : Type} (p : Prog (TpuEff nD τ sig Val Λ .tc) α) : Prop :=
  R ⊢ wp Idealize.ShloMosaic.frame (wpE defs Variants.none (c : Thread nD τ) none) Set.univ p fun _ => R

variable {defs : Defs nD τ sig Val Λ} {c : Dev nD} {α β : Type}

theorem lends_left (Q : sProp 𝕄) {sp : Space} {s : Shape} {e : EltTy} (M : Memref sig .tc sp s e) :
    Lends iprop(some c M ∗ Q) c M := by
  unfold Lends
  iintro ⟨H, HQ⟩
  isplitl [H]
  · iexact H
  · iintro H
    isplitl [H]
    · iexact H
    · iexact HQ

theorem lends_right {R : sProp 𝕄} (Q : sProp 𝕄) {sp : Space} {s : Shape} {e : EltTy} {M : Memref sig .tc sp s e} (h : Lends R c M) :
    Lends iprop(Q ∗ R) c M := by
  unfold Lends
  iintro ⟨HQ, HR⟩
  ihave H := (show R ⊢ iprop(some c M ∗ (some c M -∗ R)) from h) $$ HR
  icases H with ⟨H, HR⟩
  isplitl [H]
  · iexact H
  · iintro H
    isplitl [HQ]
    · iexact HQ
    · iapply HR
      iexact H

theorem done {R : sProp 𝕄} (a : α) : Keeps defs R c (pure a) := by
  unfold Keeps
  rw [wp_pure]
  iintro H
  imodintro
  iexact H

theorem bind {R : sProp 𝕄} {p : Prog (TpuEff nD τ sig Val Λ .tc) α} {k : α → Prog (TpuEff nD τ sig Val Λ .tc) β}
    (hp : Keeps defs R c p) (hk : ∀ x, Keeps defs R c (k x)) : Keeps defs R c (p >>= k) := by
  unfold Keeps
  rw [wp_bind]
  exact hp.trans (wp_mono _ _ _ hk)

theorem load {R : sProp 𝕄} {sp : CoreSpace} {s : Shape} {e : EltTy} {M : Memref sig .tc sp s e} {r : LoadRect s} {hl : M.view.LoadsAt r}
    (h : Lends R c M) :
    Keeps defs R c (Prog.lift (TpuEff.load M r hl) : Prog (TpuEff nD τ sig Val Λ .tc) _) := by
  unfold Keeps
  refine h.trans ?_
  unfold some owns
  iintro ⟨⟨%X, %f, -, H⟩, Hr⟩
  iapply (wp_load (defs := defs) Variants.none (c : Thread nD τ) none Set.univ (hl := hl) (View.setOn_subset_set _ _)) $$ H
  iintro H
  rw [wp_ret]
  imodintro
  iapply Hr
  iexists _, _
  isplitr; swap; · iexact H
  ipureintro; rfl

theorem store {R : sProp 𝕄} {sp : CoreSpace} {s : Shape} {e : EltTy} {M : Memref sig .tc sp s e} {r : Rect s} {w : r.shape.Idx → Val e}
    {Mk : Finset r.shape.Idx} {hx : (M.access r).Stores Mk} {hm : Mk = Finset.univ ∨ ∀ a, r.stride a = 1}
    (h : Lends R c M) :
    Keeps defs R c (Prog.lift (TpuEff.store M r w Mk hx hm) : Prog (TpuEff nD τ sig Val Λ .tc) _) := by
  unfold Keeps
  refine h.trans ?_
  unfold some owns
  iintro ⟨⟨%X, %f, -, H⟩, Hr⟩
  iapply (wp_store (defs := defs) Variants.none (c : Thread nD τ) none Set.univ (hx := hx) (hm := hm) (Memref.setOn_access_subset M r Mk)) $$ H
  iintro H
  rw [wp_ret]
  imodintro
  iapply Hr
  iexists _, _
  isplitr; swap; · iexact H
  ipureintro; rfl

theorem loop {R : sProp 𝕄} {w : Nat} {σ : Type} (l : Scf.Loop w) (hok : l.OK) (init : σ) {body : Fin l.trips → σ → Prog (TpuEff nD τ sig Val Λ .tc) σ}
    (h : ∀ k a, Keeps defs R c (body k a)) : Keeps defs R c (Scf.Loop.for l hok init body) := by
  unfold Keeps
  have := Scf.wp_for Idealize.ShloMosaic.frame (wpE defs Variants.none (c : Thread nD τ) none) Set.univ l.lb l.ub l.st hok init body
    (fun _ _ => R) h (Q := fun _ => R)
  refine Entails.trans ?_ this
  iintro H
  isplitl [H]
  · iexact H
  · iintro %a H
    iexact H

end Keep

end
-- ==== Proof.AttnKeeps.lean ====
/- The attention's gradient kernel at a grid point, for any float values: it reads and writes the blocks and the
   scratch it is given and runs to its end, still holding them. -/
module

public import proofs.«01_k».proof.Proof.Gen.AttnBwdIdeal.Frame
public import proofs.«01_k».proof.Proof.Keep

@[expose] public section

set_option maxRecDepth 16384

noncomputable section

namespace AttnBwd

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 40000000 in
/-- The body holds what it is given throughout. -/
theorem body_keeps (R : sProp 𝕄) (c : Dev nD) (i : grid0.Coords) (arg1 : Memref sig .tc .vmem S8192x128 .bf16) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2x256x768 .f32) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S2x4x64x256 .f32) (harg9 : arg9.IsWhole) (arg10 : Memref sig .tc .vmem S2x256x128 .f32) (harg10 : arg10.IsWhole) (arg11 : Memref sig .tc .vmem S2x256x768 .f32) (harg11 : arg11.IsWhole) (arg12 : Memref sig .tc .vmem S2x256x768 .f32) (harg12 : arg12.IsWhole) (arg13 : Memref sig .tc .vmem S2x256x768 .bf16) (harg13 : arg13.IsWhole) (arg14 : Memref sig .tc .vmem S2x256x768 .bf16) (harg14 : arg14.IsWhole) (arg15 : Memref sig .tc .vmem S256x128 .f32) (harg15 : arg15.IsWhole) (arg16 : Memref sig .tc .vmem S3x256x128 .f32) (harg16 : arg16.IsWhole) (arg17 : Memref sig .tc .vmem S3x256x128 .f32) (harg17 : arg17.IsWhole)
    (l1 : Keep.Lends R c arg1) (l2 : Keep.Lends R c arg2) (l3 : Keep.Lends R c arg3) (l4 : Keep.Lends R c arg4) (l5 : Keep.Lends R c arg5)
    (l6 : Keep.Lends R c arg6) (l7 : Keep.Lends R c arg7) (l8 : Keep.Lends R c arg8) (l9 : Keep.Lends R c arg9) (l10 : Keep.Lends R c arg10)
    (l11 : Keep.Lends R c arg11) (l12 : Keep.Lends R c arg12) (l13 : Keep.Lends R c arg13) (l14 : Keep.Lends R c arg14) (l15 : Keep.Lends R c arg15)
    (l16 : Keep.Lends R c arg16) (l17 : Keep.Lends R c arg17) :
    Keep.Keeps (defs₀ (F := F)) R c (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  unfold cc0_attn_bwd
  repeat' first
    | with_reducible exact Keep.done _
    | with_reducible (refine Keep.load ?_; assumption)
    | with_reducible (refine Keep.store ?_; assumption)
    | with_reducible refine Keep.bind ?_ fun _ => ?_
    | with_reducible refine Keep.loop _ _ _ fun _ _ => ?_
    | refine Keep.bind ?_ fun _ => ?_

end AttnBwd

end
-- ==== Proof.AttnRun.lean ====
/- The attention's gradient kernel run over its grid, for any float values: it ends, its arguments are as they were and
   no semaphore is left raised. -/
module

public import proofs.«01_k».proof.Proof.AttnKeeps
public import Idealize.ShloMosaic.Lib.Pipeline.Frame

@[expose] public section

set_option maxRecDepth 16384

noncomputable section

namespace AttnBwd

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! The blocks a grid point works on and the scratch. -/

abbrev blk0 (t : Fin cfg0.N) : Memref sig .tc .vmem S8192x128 .bf16 := win0_0.stage (cfg0.slots t 0)
abbrev blk1 (t : Fin cfg0.N) : Memref sig .tc .vmem S8192x128 .bf16 := win0_1.stage (cfg0.slots t 1)
abbrev blk2 (t : Fin cfg0.N) : Memref sig .tc .vmem S8192x128 .bf16 := win0_2.stage (cfg0.slots t 2)
abbrev blk3 (t : Fin cfg0.N) : Memref sig .tc .vmem S8192x128 .bf16 := win0_3.stage (cfg0.slots t 3)
abbrev blk4 (t : Fin cfg0.N) : Memref sig .tc .vmem S2x256x768 .f32 := win0_4.stage (cfg0.slots t 4)
abbrev blk5 (t : Fin cfg0.N) : Memref sig .tc .vmem S8192x128 .bf16 := win0_5.stage (cfg0.slots t 5)
abbrev blk6 (t : Fin cfg0.N) : Memref sig .tc .vmem S8192x128 .bf16 := win0_6.stage (cfg0.slots t 6)
abbrev blk7 (t : Fin cfg0.N) : Memref sig .tc .vmem S8192x128 .bf16 := win0_7.stage (cfg0.slots t 7)
abbrev blk8 (t : Fin cfg0.N) : Memref sig .tc .vmem S2x4x64x256 .f32 := win0_8.stage (cfg0.slots t 8)
abbrev blk9 (t : Fin cfg0.N) : Memref sig .tc .vmem S2x256x128 .f32 := win0_9.stage (cfg0.slots t 9)
abbrev scr0 : Memref sig .tc .vmem S2x256x768 .f32 := Memref.whole cc0_scratch0
abbrev scr1 : Memref sig .tc .vmem S2x256x768 .f32 := Memref.whole cc0_scratch1
abbrev scr2 : Memref sig .tc .vmem S2x256x768 .bf16 := Memref.whole cc0_scratch2
abbrev scr3 : Memref sig .tc .vmem S2x256x768 .bf16 := Memref.whole cc0_scratch3
abbrev scr4 : Memref sig .tc .vmem S256x128 .f32 := Memref.whole cc0_scratch4
abbrev scr5 : Memref sig .tc .vmem S3x256x128 .f32 := Memref.whole cc0_scratch5
abbrev scr6 : Memref sig .tc .vmem S3x256x128 .f32 := Memref.whole cc0_scratch6

/-- The scratch, the blocks and whatever else is held. -/
def held (Q : sProp 𝕄) (c : Dev nD) (t : Fin cfg0.N) : sProp 𝕄 :=
  iprop(Keep.some c scr0 ∗ Keep.some c scr1 ∗ Keep.some c scr2 ∗ Keep.some c scr3 ∗ Keep.some c scr4 ∗ Keep.some c scr5 ∗ Keep.some c scr6 ∗ Keep.some c (blk0 t) ∗ Keep.some c (blk1 t) ∗ Keep.some c (blk2 t) ∗ Keep.some c (blk3 t) ∗ Keep.some c (blk4 t) ∗ Keep.some c (blk5 t) ∗ Keep.some c (blk6 t) ∗ Keep.some c (blk7 t) ∗ Keep.some c (blk8 t) ∗ Keep.some c (blk9 t) ∗ Q)

theorem held_keeps (Q : sProp 𝕄) (c : Dev nD) (t : Fin cfg0.N) :
    Keep.Keeps (defs₀ (F := F)) (held Q c t) c (bodyAt0 t) := by
  unfold held
  exact body_keeps _ c _ _ _ _ _ _ _ _ _ _ _ _ _ _ _ _ _ _ _ _ _ _ _ _ _ _ _ _ _ _ _ _ _ _ _
    (Keep.lends_right _ (Keep.lends_right _ (Keep.lends_right _ (Keep.lends_right _ (Keep.lends_right _ (Keep.lends_right _ (Keep.lends_right _ (Keep.lends_left _ _))))))))
    (Keep.lends_right _ (Keep.lends_right _ (Keep.lends_right _ (Keep.lends_right _ (Keep.lends_right _ (Keep.lends_right _ (Keep.lends_right _ (Keep.lends_right _ (Keep.lends_left _ _)))))))))
    (Keep.lends_right _ (Keep.lends_right _ (Keep.lends_right _ (Keep.lends_right _ (Keep.lends_right _ (Keep.lends_right _ (Keep.lends_right _ (Keep.lends_right _ (Keep.lends_right _ (Keep.lends_left _ _))))))))))
    (Keep.lends_right _ (Keep.lends_right _ (Keep.lends_right _ (Keep.lends_right _ (Keep.lends_right _ (Keep.lends_right _ (Keep.lends_right _ (Keep.lends_right _ (Keep.lends_right _ (Keep.lends_right _ (Keep.lends_left _ _)))))))))))
    (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_left _ _))))))))))))
    (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_left _ _)))))))))))))
    (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_left _ _))))))))))))))
    (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_left _ _)))))))))))))))
    (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_left _ _))))))))))))))))
    (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_right _ (Keep.lends_left _ _)))))))))))))))))
    (Keep.lends_left _ _)
    (Keep.lends_right _ (Keep.lends_left _ _))
    (Keep.lends_right _ (Keep.lends_right _ (Keep.lends_left _ _)))
    (Keep.lends_right _ (Keep.lends_right _ (Keep.lends_right _ (Keep.lends_left _ _))))
    (Keep.lends_right _ (Keep.lends_right _ (Keep.lends_right _ (Keep.lends_right _ (Keep.lends_left _ _)))))
    (Keep.lends_right _ (Keep.lends_right _ (Keep.lends_right _ (Keep.lends_right _ (Keep.lends_right _ (Keep.lends_left _ _))))))
    (Keep.lends_right _ (Keep.lends_right _ (Keep.lends_right _ (Keep.lends_right _ (Keep.lends_right _ (Keep.lends_right _ (Keep.lends_left _ _)))))))

/-- Every block is left at contents not named. -/
def forgets : Fin 10 → Bool := fun _ => true

def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem scratch_eq (c : Dev nD) :
    (Pipeline.ΦA spec0 c : sProp 𝕄) = iprop(iprop(Keep.some c scr0 ∗ Keep.some c scr1 ∗ Keep.some c scr2 ∗ Keep.some c scr3 ∗ Keep.some c scr4 ∗ Keep.some c scr5 ∗ Keep.some c scr6) ∗ (∃ r, prngReg c r)) := by
  unfold Pipeline.ΦA Keep.some
  rw [scopedRest0_eq]
  simp only [owns_whole]
  rfl

def bodyPre (c : Dev nD) (t : Fin cfg0.N) : sProp 𝕄 :=
  iprop((dats m 0 c).Φ t.castSucc ∗ (dats m 0 c).owesAt () t.castSucc ∗ Keep.some c (blk0 t) ∗ Keep.some c (blk1 t) ∗ Keep.some c (blk2 t) ∗ Keep.some c (blk3 t) ∗ Keep.some c (blk4 t) ∗ Keep.some c (blk5 t) ∗ Keep.some c (blk6 t) ∗ Keep.some c (blk7 t) ∗ Keep.some c (blk8 t) ∗ Keep.some c (blk9 t))
def bodyPost (c : Dev nD) (t : Fin cfg0.N) : sProp 𝕄 :=
  iprop((dats m 0 c).Φ t.succ ∗ (dats m 0 c).owesAt () t.succ ∗ Keep.some c (blk0 t) ∗ Keep.some c (blk1 t) ∗ Keep.some c (blk2 t) ∗ Keep.some c (blk3 t) ∗ Keep.some c (blk4 t) ∗ Keep.some c (blk5 t) ∗ Keep.some c (blk6 t) ∗ Keep.some c (blk7 t) ∗ Keep.some c (blk8 t) ∗ Keep.some c (blk9 t))

theorem body_runs (c : Dev nD) (t : Fin cfg0.N) :
    bodyPre m c t ⊢ wp Idealize.ShloMosaic.frame (wpE (defs₀ (F := F)) Variants.none c none) Set.univ (bodyAt0 t) (fun _ => bodyPost m c t) := by
  have hin : bodyPre m c t ⊢ held iprop((∃ r, prngReg c r) ∗ (dats m 0 c).owesAt () t.castSucc) c t := by
    unfold bodyPre held
    rw [show (dats m 0 c).Φ t.castSucc = Pipeline.ΦA spec0 c from rfl, scratch_eq]
    iintro ⟨⟨⟨S0, S1, S2, S3, S4, S5, S6⟩, G⟩, O, B0, B1, B2, B3, B4, B5, B6, B7, B8, B9⟩
    iframe
  have hout : held iprop((∃ r, prngReg c r) ∗ (dats m 0 c).owesAt () t.castSucc) c t ⊢ bodyPost m c t := by
    unfold bodyPost held
    rw [show (dats m 0 c).Φ t.succ = Pipeline.ΦA spec0 c from rfl, scratch_eq,
      show (dats m 0 c).owesAt () t.succ = (dats m 0 c).owesAt () t.castSucc from rfl]
    iintro ⟨S0, S1, S2, S3, S4, S5, S6, B0, B1, B2, B3, B4, B5, B6, B7, B8, B9, G, O⟩
    iframe
  exact (hin.trans (held_keeps _ c t)).trans (wp_mono _ _ _ fun _ => hout)

theorem row (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ forgets := fun t => by
  rw [bigSep_W0, bigSep_W0, row]
  exact triple_restated (body_runs m c t) rfl .rfl fun _ => .rfl

set_option backward.isDefEq.respectTransparency.types false in
theorem run_all :
    θ_run defs (onTc (τ := τ) (main (F := F))) ⟨m, fun _ => 0, ρ⟩
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (obligation m c).loose) (hq := fun _ _ _ => rfl)
    (howed := fun _ _ => rfl) (V := V m) (hmain := hmain m Variants.none) (hA := A_eq m) (hΦ := fun _ _ => rfl)

/-- The arguments are as they were. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono
    (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_all m ρ)

end AttnBwd

end
-- ==== Proof.FwdKeeps.lean ====
/- The attention's forward kernel at a grid point, for any float values: it reads and writes the blocks and the
   scratch it is given and runs to its end, still holding them. -/
module

public import proofs.«01_k».proof.Proof.Gen.AttnFwdIdeal.Frame
public import proofs.«01_k».proof.Proof.Keep

@[expose] public section

set_option maxRecDepth 16384

noncomputable section

namespace AttnFwd

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 40000000 in
/-- The body holds what it is given throughout. -/
theorem body_keeps (R : sProp 𝕄) (c : Dev nD) (i : grid0.Coords) (arg1 : Memref sig .tc .vmem S8192x128 .bf16) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S2x256x768 .f32) (harg4 : arg4.IsWhole) (arg5 : Memref sig .tc .vmem S8192x128 .bf16) (harg5 : arg5.IsWhole) (arg6 : Memref sig .tc .vmem S2x2x256x768 .f32) (harg6 : arg6.IsWhole) (arg7 : Memref sig .tc .vmem S2x2x256x768 .bf16) (harg7 : arg7.IsWhole)
    (l1 : Keep.Lends R c arg1) (l2 : Keep.Lends R c arg2) (l3 : Keep.Lends R c arg3) (l4 : Keep.Lends R c arg4) (l5 : Keep.Lends R c arg5)
    (l6 : Keep.Lends R c arg6) (l7 : Keep.Lends R c arg7) :
    Keep.Keeps (defs₀ (F := F)) R c (cc0_attn_fwd i arg1 harg1 arg2 harg2 arg3 harg3 arg4 harg4 arg5 harg5 arg6 harg6 arg7 harg7) := by
  unfold cc0_attn_fwd
  repeat' first
    | with_reducible exact Keep.done _
    | with_reducible (refine Keep.load ?_; assumption)
    | with_reducible (refine Keep.store ?_; assumption)
    | with_reducible refine Keep.bind ?_ fun _ => ?_
    | with_reducible refine Keep.loop _ _ _ fun _ _ => ?_
    | refine Keep.bind ?_ fun _ => ?_

end AttnFwd

end
-- ==== Proof.FwdRun.lean ====
/- The attention's forward kernel run over its grid, for any float values: it ends, its arguments are as they were and
   no semaphore is left raised. -/
module

public import proofs.«01_k».proof.Proof.FwdKeeps
public import Idealize.ShloMosaic.Lib.Pipeline.Frame

@[expose] public section

set_option maxRecDepth 16384

noncomputable section

namespace AttnFwd

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! The blocks a grid point works on and the scratch. -/

abbrev blk0 (t : Fin cfg0.N) : Memref sig .tc .vmem S8192x128 .bf16 := win0_0.stage (cfg0.slots t 0)
abbrev blk1 (t : Fin cfg0.N) : Memref sig .tc .vmem S8192x128 .bf16 := win0_1.stage (cfg0.slots t 1)
abbrev blk2 (t : Fin cfg0.N) : Memref sig .tc .vmem S8192x128 .bf16 := win0_2.stage (cfg0.slots t 2)
abbrev blk3 (t : Fin cfg0.N) : Memref sig .tc .vmem S2x256x768 .f32 := win0_3.stage (cfg0.slots t 3)
abbrev blk4 (t : Fin cfg0.N) : Memref sig .tc .vmem S8192x128 .bf16 := win0_4.stage (cfg0.slots t 4)
abbrev scr0 : Memref sig .tc .vmem S2x2x256x768 .f32 := Memref.whole cc0_scratch0
abbrev scr1 : Memref sig .tc .vmem S2x2x256x768 .bf16 := Memref.whole cc0_scratch1

/-- The scratch, the blocks and whatever else is held. -/
def held (Q : sProp 𝕄) (c : Dev nD) (t : Fin cfg0.N) : sProp 𝕄 :=
  iprop(Keep.some c scr0 ∗ Keep.some c scr1 ∗ Keep.some c (blk0 t) ∗ Keep.some c (blk1 t) ∗ Keep.some c (blk2 t) ∗ Keep.some c (blk3 t) ∗ Keep.some c (blk4 t) ∗ Q)

theorem held_keeps (Q : sProp 𝕄) (c : Dev nD) (t : Fin cfg0.N) :
    Keep.Keeps (defs₀ (F := F)) (held Q c t) c (bodyAt0 t) := by
  unfold held
  exact body_keeps _ c _ _ _ _ _ _ _ _ _ _ _ _ _ _ _
    (Keep.lends_right _ (Keep.lends_right _ (Keep.lends_left _ _)))
    (Keep.lends_right _ (Keep.lends_right _ (Keep.lends_right _ (Keep.lends_left _ _))))
    (Keep.lends_right _ (Keep.lends_right _ (Keep.lends_right _ (Keep.lends_right _ (Keep.lends_left _ _)))))
    (Keep.lends_right _ (Keep.lends_right _ (Keep.lends_right _ (Keep.lends_right _ (Keep.lends_right _ (Keep.lends_left _ _))))))
    (Keep.lends_right _ (Keep.lends_right _ (Keep.lends_right _ (Keep.lends_right _ (Keep.lends_right _ (Keep.lends_right _ (Keep.lends_left _ _)))))))
    (Keep.lends_left _ _)
    (Keep.lends_right _ (Keep.lends_left _ _))

/-- Every block is left at contents not named. -/
def forgets : Fin 5 → Bool := fun _ => true

def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem scratch_eq (c : Dev nD) :
    (Pipeline.ΦA spec0 c : sProp 𝕄) = iprop(iprop(Keep.some c scr0 ∗ Keep.some c scr1) ∗ (∃ r, prngReg c r)) := by
  unfold Pipeline.ΦA Keep.some
  rw [scopedRest0_eq]
  simp only [owns_whole]
  rfl

def bodyPre (c : Dev nD) (t : Fin cfg0.N) : sProp 𝕄 :=
  iprop((dats m 0 c).Φ t.castSucc ∗ (dats m 0 c).owesAt () t.castSucc ∗ Keep.some c (blk0 t) ∗ Keep.some c (blk1 t) ∗ Keep.some c (blk2 t) ∗ Keep.some c (blk3 t) ∗ Keep.some c (blk4 t))
def bodyPost (c : Dev nD) (t : Fin cfg0.N) : sProp 𝕄 :=
  iprop((dats m 0 c).Φ t.succ ∗ (dats m 0 c).owesAt () t.succ ∗ Keep.some c (blk0 t) ∗ Keep.some c (blk1 t) ∗ Keep.some c (blk2 t) ∗ Keep.some c (blk3 t) ∗ Keep.some c (blk4 t))

theorem body_runs (c : Dev nD) (t : Fin cfg0.N) :
    bodyPre m c t ⊢ wp Idealize.ShloMosaic.frame (wpE (defs₀ (F := F)) Variants.none c none) Set.univ (bodyAt0 t) (fun _ => bodyPost m c t) := by
  have hin : bodyPre m c t ⊢ held iprop((∃ r, prngReg c r) ∗ (dats m 0 c).owesAt () t.castSucc) c t := by
    unfold bodyPre held
    rw [show (dats m 0 c).Φ t.castSucc = Pipeline.ΦA spec0 c from rfl, scratch_eq]
    iintro ⟨⟨⟨S0, S1⟩, G⟩, O, B0, B1, B2, B3, B4⟩
    iframe
  have hout : held iprop((∃ r, prngReg c r) ∗ (dats m 0 c).owesAt () t.castSucc) c t ⊢ bodyPost m c t := by
    unfold bodyPost held
    rw [show (dats m 0 c).Φ t.succ = Pipeline.ΦA spec0 c from rfl, scratch_eq,
      show (dats m 0 c).owesAt () t.succ = (dats m 0 c).owesAt () t.castSucc from rfl]
    iintro ⟨S0, S1, B0, B1, B2, B3, B4, G, O⟩
    iframe
  exact (hin.trans (held_keeps _ c t)).trans (wp_mono _ _ _ fun _ => hout)

theorem row (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ forgets := fun t => by
  rw [bigSep_W0, bigSep_W0, row]
  exact triple_restated (body_runs m c t) rfl .rfl fun _ => .rfl

set_option backward.isDefEq.respectTransparency.types false in
theorem run_all :
    θ_run defs (onTc (τ := τ) (main (F := F))) ⟨m, fun _ => 0, ρ⟩
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (obligation m c).loose) (hq := fun _ _ _ => rfl)
    (howed := fun _ _ => rfl) (V := V m) (hmain := hmain m Variants.none) (hA := A_eq m) (hΦ := fun _ _ => rfl)

/-- The arguments are as they were. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono
    (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_all m ρ)

end AttnFwd

end
-- ==== Proof.InProjWeight.lean ====
/- The first projection's weight arrives in eight groups of columns, one transfer each: its buffer and its array by groups,
   and what the buffer holds once all have landed. -/
module

public import proofs.«01_k».proof.Proof.NormWeight
public import proofs.«01_k».proof.Proof.Gen.InProjIdeal.Frame.Runs
public import Idealize.ShloMosaic.Lib.Pointwise

@[expose] public section

set_option maxRecDepth 16384

noncomputable section

namespace InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open NormDx (to_in from_in groups toSet fromSet to_apart to_all from_apart from_all to_at same_of_read)

open Idealize.ShloMosaic.Pointwise

variable {F : FTy → Type} [FloatOps F]

local notation "𝕄" => MT nD τ sig Unit (Elt F) ℕ (Pipeline.UD sig nD τ) ℕ

/-- Columns `384 s` and after of the buffer. -/
def wTo (s : Fin 8) : Memref sig .tc .vmem S1024x384 .bf16 :=
  scM0_0.slice (Rect.unit (s := S1024x3072) ![0, 384 * s.val] S1024x384.size (to_in s)) (fun _ => rfl)
/-- Group `s` of the array. -/
def wFrom (s : Fin 8) : Memref sig .tc .hbm S1024x384 .bf16 :=
  (hbM0_0.slice (Rect.unit (s := S8x1024x384) ![s.val, 0, 0] S1x1024x384.size (from_in s)) (fun _ => rfl)).squeeze S1024x384 squeezes_S1x1024x384_S1024x384

theorem wTo_of {o : Fin 2 → Nat} {s : Fin 8} (h : o = ![0, 384 * s.val]) (ho) :
    scM0_0.slice (Rect.unit (s := S1024x3072) o S1024x384.size ho) (fun _ => rfl) = wTo s := by
  subst h; rfl
theorem wFrom_of {o : Fin 3 → Nat} {s : Fin 8} (h : o = ![s.val, 0, 0]) (ho) :
    (hbM0_0.slice (Rect.unit (s := S8x1024x384) o S1x1024x384.size ho) (fun _ => rfl)).squeeze S1024x384 squeezes_S1x1024x384_S1024x384 = wFrom s := by
  subst h; rfl

section Groups

variable (c : Dev nD) (G : Buf (Elt F) (hbM0_0.view.loc (c : Thread nD τ)))

abbrev toAt (s : Fin 8) (f : Buf (Elt F) (scM0_0.view.loc (c : Thread nD τ))) : sProp 𝕄 :=
  (wTo s).view.loc (c : Thread nD τ) ↦[(wTo s).view.set]{fullShare} f
abbrev fromAt (s : Fin 8) : sProp 𝕄 :=
  (wFrom s).view.loc (c : Thread nD τ) ↦[(wFrom s).view.set]{fullShare} G

theorem toSet_eq (s : Fin 8) : (wTo s).view.set = toSet s := by
  unfold wTo; exact View.set_slice_whole _ _
theorem fromSet_eq (s : Fin 8) : (wFrom s).view.set = fromSet s := by
  simp only [wFrom, Memref.view_squeeze, View.set_reshape]; exact View.set_slice_whole _ _
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The array is its groups. -/
theorem from_split : hbPt0 c hbM0_0 G = bigSep Finset.univ (fun s => fromAt c G s) := by
  unfold hbPt0
  refine (Ring.pointsTo_blocks (U := Pipeline.UD sig nD τ) (Ix := Unit) (Name := ℕ) (Lvl := ℕ) (ℓ := (c : Thread nD τ).loc main_v2) (q := fullShare) fromSet from_apart from_all G).trans ?_
  congr 1; funext s
  unfold fromAt; rw [fromSet_eq]; rfl
/-- The buffer is its groups of columns. -/
theorem to_split (f : Buf (Elt F) (scM0_0.view.loc (c : Thread nD τ))) : (scM0_0.view.loc (c : Thread nD τ) ↦[scM0_0.view.set]{fullShare} f : sProp 𝕄) = bigSep Finset.univ (fun s => toAt c s f) := by
  have e : scM0_0.view.set = Finset.univ := View.set_whole _
  rw [e]
  refine (Ring.pointsTo_blocks (U := Pipeline.UD sig nD τ) (Ix := Unit) (Name := ℕ) (Lvl := ℕ) (ℓ := (c : Thread nD τ).loc cc0_scratch0) (q := fullShare) toSet to_apart to_all f).trans ?_
  congr 1; funext s
  unfold toAt; rw [toSet_eq]; rfl

/-- Where an element of group `s` lies in the array. -/
theorem from_at (s : Fin 8) (x : S1024x384.Idx) :
    (wFrom s).view.read (Elt F) G x = hbM0_0.view.read (Elt F) G (ix3 (s : Fin 8) (x 0) (x 1)) := by
  show hbM0_0.view.read (Elt F) G ((Rect.unit (s := S8x1024x384) ![s.val, 0, 0] S1x1024x384.size (from_in s)).idx (Shape.reshapeEquiv _ x)) = _
  refine congrArg (hbM0_0.view.read (Elt F) G) ?_
  have q : Shape.reshapeEquiv (s := S1x1024x384) (s' := S1024x384) squeezes_S1x1024x384_S1024x384.numel_eq x = Fin.cons ⟨0, Nat.one_pos⟩ x := Shape.reshapeEquiv_cons_one _ x
  rw [q]
  funext a
  refine Fin.ext ?_
  fin_cases a
  · show s.val + 1 * 0 = s.val; omega
  · show 0 + 1 * (x 0).val = (x 0).val; omega
  · show 0 + 1 * (x 1).val = (x 1).val; omega

/-- What `scM0_0` holds once all the groups have landed. -/
def full (G : Buf (Elt F) (hbM0_0.view.loc (c : Thread nD τ))) : Buf (Elt F) (scM0_0.view.loc (c : Thread nD τ)) :=
  (Memref.isWhole_whole cc0_scratch0).unread (groups (hbM0_0.view.read (Elt F) G))
theorem full_read : scM0_0.view.read (Elt F) (full c G) = groups (hbM0_0.view.read (Elt F) G) :=
  (Memref.isWhole_whole cc0_scratch0).read_unread _

theorem full_at (s : Fin 8) (x : S1024x384.Idx) :
    (wTo s).view.read (Elt F) (full c G) x = (wFrom s).view.read (Elt F) G x := by
  refine Eq.trans ?_ ((to_at s x (hbM0_0.view.read (Elt F) G)).trans (from_at c G s x).symm)
  exact congrFun (full_read c G) _

/-- Group `s` of the buffer with its transfer landed. -/
def arrived (s : Fin 8) (f : Buf (Elt F) (scM0_0.view.loc (c : Thread nD τ))) : sProp 𝕄 :=
  toAt c s ((wTo s).view.writes (Elt F) f [⟨Rect.whole S1024x384, ReadAs.same.apply ((wFrom s).view.read (Elt F) G)⟩])

/-- Group `s`, landed: the buffer of all the groups on its columns. -/
theorem landed (s : Fin 8) (f : Buf (Elt F) (scM0_0.view.loc (c : Thread nD τ))) :
    arrived c G s f
      = toAt c s (full c G) :=
  pointsTo_congr (same_of_read (wTo s).view _ _ ((View.read_writes_whole (Val := Elt F) (wTo s).view f (ReadAs.same.apply ((wFrom s).view.read (Elt F) G))).trans
    (funext fun x => (full_at c G s x).symm)))

theorem to_parts (f : Buf (Elt F) (scM0_0.view.loc (c : Thread nD τ))) :
    (scM0_0.view.loc (c : Thread nD τ) ↦[scM0_0.view.set]{fullShare} f : sProp 𝕄) ⊢ iprop(toAt c 0 f ∗ toAt c 1 f ∗ toAt c 2 f ∗ toAt c 3 f ∗ toAt c 4 f ∗ toAt c 5 f ∗ toAt c 6 f ∗ toAt c 7 f) := by
  rw [to_split, eight]
theorem from_parts : (hbPt0 c hbM0_0 G : sProp 𝕄) ⊣⊢ iprop(fromAt c G 0 ∗ fromAt c G 1 ∗ fromAt c G 2 ∗ fromAt c G 3 ∗ fromAt c G 4 ∗ fromAt c G 5 ∗ fromAt c G 6 ∗ fromAt c G 7) := by
  rw [from_split, eight]
theorem to_whole (f : Buf (Elt F) (scM0_0.view.loc (c : Thread nD τ))) :
    iprop(arrived c G 0 f ∗ arrived c G 1 f ∗ arrived c G 2 f ∗ arrived c G 3 f ∗ arrived c G 4 f ∗ arrived c G 5 f ∗ arrived c G 6 f ∗ arrived c G 7 f) ⊢ (owns (c : Thread nD τ) scM0_0 fullShare (groups (hbM0_0.view.read (Elt F) G)) : sProp 𝕄) := by
  rw [landed, landed, landed, landed, landed, landed, landed, landed, ← eight (fun s => toAt c s (full c G)), ← to_split]
  unfold owns
  iintro H
  iexists full c G
  isplitr
  · ipureintro; exact full_read c G
  · iexact H

end Groups

end InProj

end
-- ==== Proof.InProjBody.lean ====
/- The first projection's body at one point, for any float values: at the first point, which brings the weight in, and at a later one. -/
module

public import proofs.«01_k».proof.Proof.InProjWeight

@[expose] public section

set_option maxRecDepth 16384

noncomputable section

namespace InProj

open Cert.InProjIdeal Cert.InProjIdeal.Gen
open NormDx (groups)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The eight semaphores of the weight. -/
def wSems (c : Dev nD) : sProp 𝕄 :=
  iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)

/-- The four staged operands at their contents. -/
abbrev staged (c : Dev nD) (a1 : Memref sig .tc .vmem S512x1024 .f32) (a2 : Memref sig .tc .vmem S1x1024 .f32) (a4 : Memref sig .tc .vmem S4x128x128 .f32) (a5 : Memref sig .tc .vmem S1x512 .f32) (x0 : Vec F S512x1024 .f32) (x1 : Vec F S1x1024 .f32) (x2 : Vec F S4x128x128 .f32) (x3 : Vec F S1x512 .f32) : sProp 𝕄 :=
  iprop(owns (c : Thread nD τ) a1 fullShare x0 ∗ owns (c : Thread nD τ) a2 fullShare x1 ∗ owns (c : Thread nD τ) a4 fullShare x2 ∗ owns (c : Thread nD τ) a5 fullShare x3)

set_option maxHeartbeats 1600000 in
/-- What the first point leaves in the four results' blocks, in the buffer of the weight and in the rows kept. -/
def firstRun (c : Dev nD) (i : grid0.Coords) (a1 : Memref sig .tc .vmem S512x1024 .f32) (h1 : a1.IsWhole) (a2 : Memref sig .tc .vmem S1x1024 .f32) (h2 : a2.IsWhole) (a4 : Memref sig .tc .vmem S4x128x128 .f32) (h4 : a4.IsWhole) (a5 : Memref sig .tc .vmem S1x512 .f32) (h5 : a5.IsWhole) (a6 : Memref sig .tc .vmem S512x1024 .f32) (h6 : a6.IsWhole) (a7 : Memref sig .tc .vmem S512x1536 .bf16) (h7 : a7.IsWhole) (a8 : Memref sig .tc .vmem S512x512 .f32) (h8 : a8.IsWhole) (a9 : Memref sig .tc .vmem S512x512 .bf16) (h9 : a9.IsWhole) (hc : cond0_0 i)
    (x0 : Vec F S512x1024 .f32) (x1 : Vec F S1x1024 .f32) (x2 : Vec F S4x128x128 .f32) (x3 : Vec F S1x512 .f32)
    (G : HbBuf0 (F := F) c hbM0_0) :
    Σ' (L4 : List (View.Piece (Elt F) S512x1024 .f32)), Σ' (L5 : List (View.Piece (Elt F) S512x1536 .bf16)), Σ' (L6 : List (View.Piece (Elt F) S512x512 .f32)), Σ' (L7 : List (View.Piece (Elt F) S512x512 .bf16)), { LS : List (View.Piece (Elt F) S16x512 .f32) //
      ∀ (Q : Waits sig Unit) (K : PUnit → sProp 𝕄),
        iprop(staged c a1 a2 a4 a5 x0 x1 x2 x3 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d)
          ∗ (∃ d, owns (c : Thread nD τ) scM0_0 fullShare d) ∗ (∃ d, owns (c : Thread nD τ) scM0_1 fullShare d) ∗ hbPt0 c hbM0_0 G ∗ wSems c
          ∗ owes (c : Thread nD τ) 0 Q
          ∗ (iprop(staged c a1 a2 a4 a5 x0 x1 x2 x3
              ∗ (∃ f, a6.view.loc (c : Thread nD τ) ↦[a6.view.set]{fullShare} a6.view.writes (Elt F) f L4)
              ∗ (∃ f, a7.view.loc (c : Thread nD τ) ↦[a7.view.set]{fullShare} a7.view.writes (Elt F) f L5)
              ∗ (∃ f, a8.view.loc (c : Thread nD τ) ↦[a8.view.set]{fullShare} a8.view.writes (Elt F) f L6)
              ∗ (∃ f, a9.view.loc (c : Thread nD τ) ↦[a9.view.set]{fullShare} a9.view.writes (Elt F) f L7)
              ∗ owns (c : Thread nD τ) scM0_0 fullShare (groups (hbM0_0.view.read (Elt F) G))
              ∗ (∃ f, scM0_1.view.loc (c : Thread nD τ) ↦[scM0_1.view.set]{fullShare} scM0_1.view.writes (Elt F) f LS)
              ∗ hbPt0 c hbM0_0 G ∗ wSems c
              ∗ (∃ Q', owes (c : Thread nD τ) 0 Q')) -∗ K ⟨⟩))
          ⊢ wp frame (wpE (defs₀ (F := F)) Variants.none c none) Set.univ
              (cc0_norm_inproj i a1 h1 a2 h2 (Memref.whole main_v2) (Memref.isWhole_whole _) a4 h4 a5 h5 a6 h6 a7 h7 a8 h8 a9 h9 scM0_0 (Memref.isWhole_whole _) scM0_1 (Memref.isWhole_whole _) cc0_scratch2) K } := by
  refine ⟨?_, ?_, ?_, ?_, ?_, fun Q K => ?run⟩
  case run =>
    simp only [cc0_norm_inproj_eq_skeleton]; unfold cc0_norm_inproj_skel
    simp only [k0_part4_eq_skeleton, k0_part5_eq_skeleton, k0_part6_eq_skeleton, k0_part7_eq_skeleton, k0_part8_eq_skeleton]
    unfold k0_part4_skel
    simp only [k0_part1_eq_skeleton, k0_part2_eq_skeleton, k0_part3_eq_skeleton]
    have hcanonT0 := wTo_of (o := ![0, 0]) (s := 0) rfl inb_S1024x3072_S1024x384_0_0
    have hcanonF0 := wFrom_of (o := ![0, 0, 0]) (s := 0) rfl inb_S8x1024x384_S1x1024x384_0_0_0
    have hcanonT1 := wTo_of (o := ![0, 384]) (s := 1) rfl inb_S1024x3072_S1024x384_0_384
    have hcanonF1 := wFrom_of (o := ![1, 0, 0]) (s := 1) rfl inb_S8x1024x384_S1x1024x384_1_0_0
    have hcanonT2 := wTo_of (o := ![0, 768]) (s := 2) rfl inb_S1024x3072_S1024x384_0_768
    have hcanonF2 := wFrom_of (o := ![2, 0, 0]) (s := 2) rfl inb_S8x1024x384_S1x1024x384_2_0_0
    have hcanonT3 := wTo_of (o := ![0, 1152]) (s := 3) rfl inb_S1024x3072_S1024x384_0_1152
    have hcanonF3 := wFrom_of (o := ![3, 0, 0]) (s := 3) rfl inb_S8x1024x384_S1x1024x384_3_0_0
    have hcanonT4 := wTo_of (o := ![0, 1536]) (s := 4) rfl inb_S1024x3072_S1024x384_0_1536
    have hcanonF4 := wFrom_of (o := ![4, 0, 0]) (s := 4) rfl inb_S8x1024x384_S1x1024x384_4_0_0
    have hcanonT5 := wTo_of (o := ![0, 1920]) (s := 5) rfl inb_S1024x3072_S1024x384_0_1920
    have hcanonF5 := wFrom_of (o := ![5, 0, 0]) (s := 5) rfl inb_S8x1024x384_S1x1024x384_5_0_0
    have hcanonT6 := wTo_of (o := ![0, 2304]) (s := 6) rfl inb_S1024x3072_S1024x384_0_2304
    have hcanonF6 := wFrom_of (o := ![6, 0, 0]) (s := 6) rfl inb_S8x1024x384_S1x1024x384_6_0_0
    have hcanonT7 := wTo_of (o := ![0, 2688]) (s := 7) rfl inb_S1024x3072_S1024x384_0_2688
    have hcanonF7 := wFrom_of (o := ![7, 0, 0]) (s := 7) rfl inb_S8x1024x384_S1x1024x384_7_0_0
    unfold staged wSems hbPt0 owns
    iintro ⟨⟨⟨%f0, %e0, H0⟩, ⟨%f1, %e1, H1⟩, ⟨%f2, %e2, H2⟩, ⟨%f3, %e3, H3⟩⟩, ⟨%d4, %f4, -, H4⟩, ⟨%d5, %f5, -, H5⟩, ⟨%d6, %f6, -, H6⟩, ⟨%d7, %f7, -, H7⟩, ⟨%dw, %fw, -, HA⟩, ⟨%dp, %fp, -, HP⟩, HG, ⟨S0, S1, S2, S3, S4, S5, S6, S7⟩, HQ, Hk⟩
    obtain rfl := h1.eq_unread e0; obtain rfl := h2.eq_unread e1; obtain rfl := h4.eq_unread e2; obtain rfl := h5.eq_unread e3
    ihave WT := to_parts c fw $$ HA
    icases WT with ⟨T0, T1, T2, T3, T4, T5, T6, T7⟩
    ihave WF := (from_parts c G).1 $$ HG
    icases WF with ⟨G0, G1, G2, G3, G4, G5, G6, G7⟩
    sl_exec (disch := first | sl_exact hc)
    ihave HA := to_whole c G fw $$ [T0 T1 T2 T3 T4 T5 T6 T7]
    · unfold arrived
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    unfold owns
    icases HA with ⟨%fa, %ea, HA⟩
    obtain rfl := (Memref.isWhole_whole cc0_scratch0).eq_unread ea
    sl_exec (disch := first | sl_exact hc)
    sl_step
    iapply Hk
    isplitl [H0 H1 H2 H3]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h4.read_unread _
        iexact H2
      iexists _; isplitr; · ipureintro; exact h5.read_unread _
      iexact H3
    isplitl [H4]; · iexists _; iexact H4
    isplitl [H5]; · iexists _; iexact H5
    isplitl [H6]; · iexists _; iexact H6
    isplitl [H7]; · iexists _; iexact H7
    isplitl [HA]; · iexists _; isplitr; · ipureintro; exact (Memref.isWhole_whole cc0_scratch0).read_unread _
                    iexact HA
    isplitl [HP]; · iexists _; iexact HP
    isplitl [G0 G1 G2 G3 G4 G5 G6 G7]
    · iapply (from_parts c G).2
      isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexists _; iexact HQ

set_option maxHeartbeats 1600000 in
/-- What a later point leaves in the four results' blocks and in the rows kept, over the weight and the rows before. -/
def nextRun (c : Dev nD) (i : grid0.Coords) (a1 : Memref sig .tc .vmem S512x1024 .f32) (h1 : a1.IsWhole) (a2 : Memref sig .tc .vmem S1x1024 .f32) (h2 : a2.IsWhole) (a4 : Memref sig .tc .vmem S4x128x128 .f32) (h4 : a4.IsWhole) (a5 : Memref sig .tc .vmem S1x512 .f32) (h5 : a5.IsWhole) (a6 : Memref sig .tc .vmem S512x1024 .f32) (h6 : a6.IsWhole) (a7 : Memref sig .tc .vmem S512x1536 .bf16) (h7 : a7.IsWhole) (a8 : Memref sig .tc .vmem S512x512 .f32) (h8 : a8.IsWhole) (a9 : Memref sig .tc .vmem S512x512 .bf16) (h9 : a9.IsWhole) (hc : ¬cond0_0 i)
    (x0 : Vec F S512x1024 .f32) (x1 : Vec F S1x1024 .f32) (x2 : Vec F S4x128x128 .f32) (x3 : Vec F S1x512 .f32)
    (xw : Vec F S1024x3072 .bf16) (xp : Vec F S16x512 .f32) :
    Σ' (L4 : List (View.Piece (Elt F) S512x1024 .f32)), Σ' (L5 : List (View.Piece (Elt F) S512x1536 .bf16)), Σ' (L6 : List (View.Piece (Elt F) S512x512 .f32)), Σ' (L7 : List (View.Piece (Elt F) S512x512 .bf16)), { LS : List (View.Piece (Elt F) S16x512 .f32) //
      ∀ (Q : Waits sig Unit) (K : PUnit → sProp 𝕄),
        iprop(staged c a1 a2 a4 a5 x0 x1 x2 x3 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d)
          ∗ owns (c : Thread nD τ) scM0_0 fullShare xw ∗ owns (c : Thread nD τ) scM0_1 fullShare xp
          ∗ owes (c : Thread nD τ) 0 Q
          ∗ (iprop(staged c a1 a2 a4 a5 x0 x1 x2 x3
              ∗ (∃ f, a6.view.loc (c : Thread nD τ) ↦[a6.view.set]{fullShare} a6.view.writes (Elt F) f L4)
              ∗ (∃ f, a7.view.loc (c : Thread nD τ) ↦[a7.view.set]{fullShare} a7.view.writes (Elt F) f L5)
              ∗ (∃ f, a8.view.loc (c : Thread nD τ) ↦[a8.view.set]{fullShare} a8.view.writes (Elt F) f L6)
              ∗ (∃ f, a9.view.loc (c : Thread nD τ) ↦[a9.view.set]{fullShare} a9.view.writes (Elt F) f L7)
              ∗ owns (c : Thread nD τ) scM0_0 fullShare xw
              ∗ (∃ f, scM0_1.view.loc (c : Thread nD τ) ↦[scM0_1.view.set]{fullShare} scM0_1.view.writes (Elt F) f LS)
              ∗ (∃ Q', owes (c : Thread nD τ) 0 Q')) -∗ K ⟨⟩))
          ⊢ wp frame (wpE (defs₀ (F := F)) Variants.none c none) Set.univ
              (cc0_norm_inproj i a1 h1 a2 h2 (Memref.whole main_v2) (Memref.isWhole_whole _) a4 h4 a5 h5 a6 h6 a7 h7 a8 h8 a9 h9 scM0_0 (Memref.isWhole_whole _) scM0_1 (Memref.isWhole_whole _) cc0_scratch2) K } := by
  refine ⟨?_, ?_, ?_, ?_, ?_, fun Q K => ?run⟩
  case run =>
    simp only [cc0_norm_inproj_eq_skeleton]; unfold cc0_norm_inproj_skel
    simp only [k0_part4_eq_skeleton, k0_part5_eq_skeleton, k0_part6_eq_skeleton, k0_part7_eq_skeleton, k0_part8_eq_skeleton]
    unfold k0_part4_skel
    simp only [k0_part1_eq_skeleton, k0_part2_eq_skeleton, k0_part3_eq_skeleton]
    unfold staged owns
    iintro ⟨⟨⟨%f0, %e0, H0⟩, ⟨%f1, %e1, H1⟩, ⟨%f2, %e2, H2⟩, ⟨%f3, %e3, H3⟩⟩, ⟨%d4, %f4, -, H4⟩, ⟨%d5, %f5, -, H5⟩, ⟨%d6, %f6, -, H6⟩, ⟨%d7, %f7, -, H7⟩, ⟨%fw, %ew, HA⟩, ⟨%fp, %ep, HP⟩, HQ, Hk⟩
    obtain rfl := h1.eq_unread e0; obtain rfl := h2.eq_unread e1; obtain rfl := h4.eq_unread e2; obtain rfl := h5.eq_unread e3
    obtain rfl := (Memref.isWhole_whole cc0_scratch0).eq_unread ew; obtain rfl := (Memref.isWhole_whole cc0_scratch1).eq_unread ep
    sl_exec (disch := first | sl_exact hc)
    sl_step
    iapply Hk
    isplitl [H0 H1 H2 H3]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h4.read_unread _
        iexact H2
      iexists _; isplitr; · ipureintro; exact h5.read_unread _
      iexact H3
    isplitl [H4]; · iexists _; iexact H4
    isplitl [H5]; · iexists _; iexact H5
    isplitl [H6]; · iexists _; iexact H6
    isplitl [H7]; · iexists _; iexact H7
    isplitl [HA]; · iexists _; isplitr; · ipureintro; exact (Memref.isWhole_whole cc0_scratch0).read_unread _
                    iexact HA
    isplitl [HP]; · iexists _; iexact HP
    iexists _; iexact HQ

end InProj

end
-- ==== Proof.InProjRun.lean ====
/- The first projection's run, for any float values: what each point leaves, and the launch. -/
module

public import proofs.«01_k».proof.Proof.InProjBody

@[expose] public section

set_option maxRecDepth 16384

noncomputable section

namespace InProj

open Cert.InProjIdeal Cert.InProjIdeal.Gen
open NormDx (groups)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Values

variable (m : (ℓ : Loc nD τ sig) → Buf (Elt F) ℓ) (ρ : Dev nD → PrngReg)

/-- The weight as the buffer holds it after the first point. -/
def held (c : Dev nD) : Vec F S1024x3072 .bf16 := groups (hbM0_0.view.read (Elt F) (V m c main_v2))

/-- The first point's run, at the blocks of the launch. -/
def firstAt (c : Dev nD) (t : Fin cfg0.N) (hc : cond0_0 (grid0.coords t)) :=
  firstRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk m c 0 t) (iblk m c 1 t) (iblk m c 2 t) (iblk m c 3 t) (V m c main_v2)

/-- A later point's run, over the weight and the rows kept, at the blocks of the launch. -/
def nextAt (c : Dev nD) (t : Fin cfg0.N) (hc : ¬cond0_0 (grid0.coords t)) (xp : Vec F S16x512 .f32) :=
  nextRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk m c 0 t) (iblk m c 1 t) (iblk m c 2 t) (iblk m c 3 t) (held m c) xp

/-! A list of stores read back. -/

def back4 (L : List (View.Piece (Elt F) S512x1024 .f32)) : Vec F S512x1024 .f32 := VO0_4.read (Elt F) (VO0_4.writes (Elt F) (View.junk _) L)
theorem back4_of (v : View sig .tc .vmem S512x1024 .f32) (f) (L : List (View.Piece (Elt F) S512x1024 .f32)) (h : ∀ y, ∃ p ∈ L, y ∈ p.1.set) :
    v.read (Elt F) (v.writes (Elt F) f L) = back4 L := View.read_writes_of_cover _ _ _ _ _ h
def back5 (L : List (View.Piece (Elt F) S512x1536 .bf16)) : Vec F S512x1536 .bf16 := VO0_5.read (Elt F) (VO0_5.writes (Elt F) (View.junk _) L)
theorem back5_of (v : View sig .tc .vmem S512x1536 .bf16) (f) (L : List (View.Piece (Elt F) S512x1536 .bf16)) (h : ∀ y, ∃ p ∈ L, y ∈ p.1.set) :
    v.read (Elt F) (v.writes (Elt F) f L) = back5 L := View.read_writes_of_cover _ _ _ _ _ h
def back6 (L : List (View.Piece (Elt F) S512x512 .f32)) : Vec F S512x512 .f32 := VO0_6.read (Elt F) (VO0_6.writes (Elt F) (View.junk _) L)
theorem back6_of (v : View sig .tc .vmem S512x512 .f32) (f) (L : List (View.Piece (Elt F) S512x512 .f32)) (h : ∀ y, ∃ p ∈ L, y ∈ p.1.set) :
    v.read (Elt F) (v.writes (Elt F) f L) = back6 L := View.read_writes_of_cover _ _ _ _ _ h
def back7 (L : List (View.Piece (Elt F) S512x512 .bf16)) : Vec F S512x512 .bf16 := VO0_7.read (Elt F) (VO0_7.writes (Elt F) (View.junk _) L)
theorem back7_of (v : View sig .tc .vmem S512x512 .bf16) (f) (L : List (View.Piece (Elt F) S512x512 .bf16)) (h : ∀ y, ∃ p ∈ L, y ∈ p.1.set) :
    v.read (Elt F) (v.writes (Elt F) f L) = back7 L := View.read_writes_of_cover _ _ _ _ _ h
def backP (L : List (View.Piece (Elt F) S16x512 .f32)) : Vec F S16x512 .f32 := VS0_1.read (Elt F) (VS0_1.writes (Elt F) (View.junk _) L)
theorem backP_of (v : View sig .tc .vmem S16x512 .f32) (f) (L : List (View.Piece (Elt F) S16x512 .f32)) (h : ∀ y, ∃ p ∈ L, y ∈ p.1.set) :
    v.read (Elt F) (v.writes (Elt F) f L) = backP L := View.read_writes_of_cover _ _ _ _ _ h

/-- What the body leaves at point `n` in the four results' blocks and in the rows kept. -/
abbrev Left (F : FTy → Type) : Type := Vec F S512x1024 .f32 × Vec F S512x1536 .bf16 × Vec F S512x512 .f32 × Vec F S512x512 .bf16 × Vec F S16x512 .f32

theorem cond_zero {n : ℕ} (hn : n < cfg0.N) (h : n = 0) : cond0_0 (grid0.coords ⟨n, hn⟩) := (hcond0_0 ⟨n, hn⟩).mpr (by dsimp only; omega)
theorem cond_succ {n : ℕ} (hn : n + 1 < cfg0.N) : ¬cond0_0 (grid0.coords ⟨n + 1, hn⟩) := fun h => by
  have h1 := (hcond0_0 ⟨n + 1, hn⟩).mp h
  have h2 : n + 1 < 16 := Nat.lt_of_lt_of_eq hn N_0
  dsimp only at h1; omega

/-- The first point's results. -/
def leftFirst (c : Dev nD) (t : Fin cfg0.N) (hc : cond0_0 (grid0.coords t)) : Left F :=
  (back4 (firstAt m c t hc).1, back5 (firstAt m c t hc).2.1, back6 (firstAt m c t hc).2.2.1, back7 (firstAt m c t hc).2.2.2.1, backP (firstAt m c t hc).2.2.2.2.1)
/-- A later point's results. -/
def leftNext (c : Dev nD) (t : Fin cfg0.N) (hc : ¬cond0_0 (grid0.coords t)) (xp : Vec F S16x512 .f32) : Left F :=
  (back4 (nextAt m c t hc xp).1, back5 (nextAt m c t hc xp).2.1, back6 (nextAt m c t hc xp).2.2.1, back7 (nextAt m c t hc xp).2.2.2.1, backP (nextAt m c t hc xp).2.2.2.2.1)

/-- What each point leaves. -/
def outs (c : Dev nD) : (n : ℕ) → n < cfg0.N → Left F
  | 0, hn => leftFirst m c ⟨0, hn⟩ (cond_zero hn rfl)
  | n + 1, hn => leftNext m c ⟨n + 1, hn⟩ (cond_succ hn) (outs c n (Nat.lt_of_succ_lt hn)).2.2.2.2

theorem prev_lt (t : Fin cfg0.N) : t.val - 1 < cfg0.N := Nat.lt_of_le_of_lt (Nat.sub_le _ _) t.isLt

theorem outs_first (c : Dev nD) (t : Fin cfg0.N) (hc : cond0_0 (grid0.coords t)) : outs m c t.val t.isLt = leftFirst m c t hc := by
  obtain ⟨n, hn⟩ := t
  cases n with
  | zero => exact rfl
  | succ n => exact absurd hc (cond_succ hn)
theorem outs_next (c : Dev nD) (t : Fin cfg0.N) (hc : ¬cond0_0 (grid0.coords t)) :
    outs m c t.val t.isLt = leftNext m c t hc (outs m c (t.val - 1) (prev_lt t)).2.2.2.2 := by
  obtain ⟨n, hn⟩ := t
  cases n with
  | zero => exact absurd (cond_zero hn rfl) hc
  | succ n => exact rfl

/-- The rows kept before point `k`: anything, then the last rows of the tile before. -/
def rows (c : Dev nD) : ℕ → sProp 𝕄
  | 0 => iprop(∃ d, owns (c : Thread nD τ) scM0_1 fullShare d)
  | n + 1 => if h : n < cfg0.N then owns (c : Thread nD τ) scM0_1 fullShare (outs m c n h).2.2.2.2 else iprop(∃ d, owns (c : Thread nD τ) scM0_1 fullShare d)
/-- The weight's buffer before point `k`: anything, then the groups. -/
def weight (c : Dev nD) (k : ℕ) : sProp 𝕄 :=
  if k = 0 then iprop(∃ d, owns (c : Thread nD τ) scM0_0 fullShare d) else owns (c : Thread nD τ) scM0_0 fullShare (held m c)
/-- What holds before point `k`. -/
def before (c : Dev nD) (k : ℕ) : sProp 𝕄 :=
  iprop((∃ r, prngReg c r) ∗ weight m c k ∗ rows m c k ∗ hbPt0 c hbM0_0 (V m c main_v2) ∗ wSems c)

theorem rows_here (c : Dev nD) (t : Fin cfg0.N) (h : t.val ≠ 0) :
    rows m c t.val = owns (c : Thread nD τ) scM0_1 fullShare (outs m c (t.val - 1) (prev_lt t)).2.2.2.2 := by
  obtain ⟨n, hn⟩ := t
  cases n with
  | zero => exact absurd rfl h
  | succ n => exact dif_pos (Nat.lt_of_succ_lt hn)
theorem rows_first (c : Dev nD) (t : Fin cfg0.N) (h : t.val = 0) : rows m c t.val = (iprop(∃ d, owns (c : Thread nD τ) scM0_1 fullShare d) : sProp 𝕄) := by
  rw [h]; rfl
theorem rows_next (c : Dev nD) (t : Fin cfg0.N) : rows m c (t.val + 1) = owns (c : Thread nD τ) scM0_1 fullShare (outs m c t.val t.isLt).2.2.2.2 :=
  dif_pos t.isLt

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outs m c t.val t.isLt).1
    | ⟨5, _⟩ => (outs m c t.val t.isLt).2.1
    | ⟨6, _⟩ => (outs m c t.val t.isLt).2.2.1
    | ⟨7, _⟩ => (outs m c t.val t.isLt).2.2.2.1
  Φ t := before m c t.val
  q _ := fullShare
  owed _ := 0

theorem A_eq (c : Dev nD) (w : Fin cfg0.W) : (dats m 0 c).A w = V m c (Pipeline.arrRef spec0 w) := by dsimp only [dats]
theorem Phi_cast (c : Dev nD) (t : Fin cfg0.N) : (dats m 0 c).Φ t.castSucc = before m c t.val := by dsimp only [dats, Fin.val_castSucc]
theorem Phi_succ (c : Dev nD) (t : Fin cfg0.N) : (dats m 0 c).Φ t.succ = before m c (t.val + 1) := by dsimp only [dats, Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outs m c t.val t.isLt).1 := by dsimp only [dats]
theorem after_5 (c : Dev nD) (t : Fin cfg0.N) : (dats m 0 c).after 5 t = (outs m c t.val t.isLt).2.1 := by dsimp only [dats]
theorem after_6 (c : Dev nD) (t : Fin cfg0.N) : (dats m 0 c).after 6 t = (outs m c t.val t.isLt).2.2.1 := by dsimp only [dats]
theorem after_7 (c : Dev nD) (t : Fin cfg0.N) : (dats m 0 c).after 7 t = (outs m c t.val t.isLt).2.2.2.1 := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-! ## One point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem cover4_first (c : Dev nD) (t : Fin cfg0.N) (hc : cond0_0 (grid0.coords t)) (y : S512x1024.Idx) : ∃ p ∈ (firstAt m c t hc).1, y ∈ p.1.set :=
  View.cover_of_tiledL (firstAt m c t hc).1 S512x512.size (by sl_kernel_rfl) y
theorem cover4_next (c : Dev nD) (t : Fin cfg0.N) (hc : ¬cond0_0 (grid0.coords t)) (xp) (y : S512x1024.Idx) : ∃ p ∈ (nextAt m c t hc xp).1, y ∈ p.1.set :=
  View.cover_of_tiledL (nextAt m c t hc xp).1 S512x512.size (by sl_kernel_rfl) y
theorem cover5_first (c : Dev nD) (t : Fin cfg0.N) (hc : cond0_0 (grid0.coords t)) (y : S512x1536.Idx) : ∃ p ∈ (firstAt m c t hc).2.1, y ∈ p.1.set :=
  View.cover_of_tiledL (firstAt m c t hc).2.1 S512x512.size (by sl_kernel_rfl) y
theorem cover5_next (c : Dev nD) (t : Fin cfg0.N) (hc : ¬cond0_0 (grid0.coords t)) (xp) (y : S512x1536.Idx) : ∃ p ∈ (nextAt m c t hc xp).2.1, y ∈ p.1.set :=
  View.cover_of_tiledL (nextAt m c t hc xp).2.1 S512x512.size (by sl_kernel_rfl) y
theorem cover6_first (c : Dev nD) (t : Fin cfg0.N) (hc : cond0_0 (grid0.coords t)) (y : S512x512.Idx) : ∃ p ∈ (firstAt m c t hc).2.2.1, y ∈ p.1.set :=
  View.cover_of_tiledL (firstAt m c t hc).2.2.1 S512x512.size (by sl_kernel_rfl) y
theorem cover6_next (c : Dev nD) (t : Fin cfg0.N) (hc : ¬cond0_0 (grid0.coords t)) (xp) (y : S512x512.Idx) : ∃ p ∈ (nextAt m c t hc xp).2.2.1, y ∈ p.1.set :=
  View.cover_of_tiledL (nextAt m c t hc xp).2.2.1 S512x512.size (by sl_kernel_rfl) y
theorem cover7_first (c : Dev nD) (t : Fin cfg0.N) (hc : cond0_0 (grid0.coords t)) (y : S512x512.Idx) : ∃ p ∈ (firstAt m c t hc).2.2.2.1, y ∈ p.1.set :=
  View.cover_of_tiledL (firstAt m c t hc).2.2.2.1 S512x128.size (by sl_kernel_rfl) y
theorem cover7_next (c : Dev nD) (t : Fin cfg0.N) (hc : ¬cond0_0 (grid0.coords t)) (xp) (y : S512x512.Idx) : ∃ p ∈ (nextAt m c t hc xp).2.2.2.1, y ∈ p.1.set :=
  View.cover_of_tiledL (nextAt m c t hc xp).2.2.2.1 S512x128.size (by sl_kernel_rfl) y
theorem coverP_first (c : Dev nD) (t : Fin cfg0.N) (hc : cond0_0 (grid0.coords t)) (y : S16x512.Idx) : ∃ p ∈ (firstAt m c t hc).2.2.2.2.1, y ∈ p.1.set :=
  View.cover_of_tiledL (firstAt m c t hc).2.2.2.2.1 S16x512.size (by sl_kernel_rfl) y
theorem coverP_next (c : Dev nD) (t : Fin cfg0.N) (hc : ¬cond0_0 (grid0.coords t)) (xp) (y : S16x512.Idx) : ∃ p ∈ (nextAt m c t hc xp).2.2.2.2.1, y ∈ p.1.set :=
  View.cover_of_tiledL (nextAt m c t hc xp).2.2.2.2.1 S16x512.size (by sl_kernel_rfl) y

set_option maxHeartbeats 2400000 in
theorem point_first (c : Dev nD) (t : Fin cfg0.N) (hc : cond0_0 (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3, after_4, after_5, after_6, after_7]
  rw [Phi_cast m c t, Phi_succ m c t]
  unfold Dat.owesAt Pipeline.owesWithin
  rw [show (dats m 0 c).owed t.castSucc = 0 from rfl, show (dats m 0 c).owed t.succ = 0 from rfl]
  have hN : t.val < 16 := Nat.lt_of_lt_of_eq t.isLt N_0
  have z : t.val = 0 := by have := (hcond0_0 t).mp hc; omega
  unfold before weight
  rw [if_pos z, if_neg (by omega), rows_first m c t z, rows_next]
  have e : outs m c t.val t.isLt = (back4 (firstAt m c t hc).1, back5 (firstAt m c t hc).2.1, back6 (firstAt m c t hc).2.2.1, back7 (firstAt m c t hc).2.2.2.1, backP (firstAt m c t hc).2.2.2.2.1) := outs_first m c t hc
  rw [e]
  dsimp only
  iintro ⟨⟨Hg, HA, HP, HG, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((firstAt m c t hc).2.2.2.2.2 W _)
  isplitl [H0 H1 H2 H3]
  · unfold staged
    isplitl [H0]; · iexact H0
    isplitl [H1]; · iexact H1
    isplitl [H2]; · iexact H2
    iexact H3
  isplitl [H4]; · iexists _; iexact H4
  isplitl [H5]; · iexists _; iexact H5
  isplitl [H6]; · iexists _; iexact H6
  isplitl [H7]; · iexists _; iexact H7
  isplitl [HA]; · iexact HA
  isplitl [HP]; · iexact HP
  isplitl [HG]; · iexact HG
  isplitl [HS]; · iexact HS
  isplitl [HW]; · iexact HW
  iintro ⟨HT, ⟨%f4, H4⟩, ⟨%f5, H5⟩, ⟨%f6, H6⟩, ⟨%f7, H7⟩, HA, ⟨%fp, HP⟩, HG, HS, ⟨%W', HW'⟩⟩
  isplitl [Hg HA HP HG HS]
  · isplitl [Hg]; · iexact Hg
    isplitl [HA]; · iexact HA
    isplitl [HP]
    · unfold owns; iexists _; isplitr
      swap; · iexact HP
      ipureintro; exact backP_of _ _ _ (coverP_first m c t hc)
    isplitl [HG]; · iexact HG
    iexact HS
  isplitl [HW']
  · iexists W'; isplitr; · ipureintro; exact fun _ _ => Or.inl trivial
    iexact HW'
  unfold staged
  icases HT with ⟨H0, H1, H2, H3⟩
  isplitl [H0]; · iexact H0
  isplitl [H1]; · iexact H1
  isplitl [H2]; · iexact H2
  isplitl [H3]; · iexact H3
  isplitl [H4]
  · unfold owns; iexists _; isplitr
    swap; · iexact H4
    ipureintro; exact back4_of _ _ _ (cover4_first m c t hc)
  isplitl [H5]
  · unfold owns; iexists _; isplitr
    swap; · iexact H5
    ipureintro; exact back5_of _ _ _ (cover5_first m c t hc)
  isplitl [H6]
  · unfold owns; iexists _; isplitr
    swap; · iexact H6
    ipureintro; exact back6_of _ _ _ (cover6_first m c t hc)
  unfold owns; iexists _; isplitr
  swap; · iexact H7
  ipureintro; exact back7_of _ _ _ (cover7_first m c t hc)

set_option maxHeartbeats 2400000 in
theorem point_next (c : Dev nD) (t : Fin cfg0.N) (hc : ¬cond0_0 (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3, after_4, after_5, after_6, after_7]
  rw [Phi_cast m c t, Phi_succ m c t]
  unfold Dat.owesAt Pipeline.owesWithin
  rw [show (dats m 0 c).owed t.castSucc = 0 from rfl, show (dats m 0 c).owed t.succ = 0 from rfl]
  have hN : t.val < 16 := Nat.lt_of_lt_of_eq t.isLt N_0
  have z : t.val ≠ 0 := fun h => hc ((hcond0_0 t).mpr (by omega))
  unfold before weight
  rw [if_neg z, if_neg (by omega), rows_here m c t z, rows_next]
  have e : outs m c t.val t.isLt = (back4 (nextAt m c t hc (outs m c (t.val - 1) (prev_lt t)).2.2.2.2).1, back5 (nextAt m c t hc (outs m c (t.val - 1) (prev_lt t)).2.2.2.2).2.1, back6 (nextAt m c t hc (outs m c (t.val - 1) (prev_lt t)).2.2.2.2).2.2.1, back7 (nextAt m c t hc (outs m c (t.val - 1) (prev_lt t)).2.2.2.2).2.2.2.1, backP (nextAt m c t hc (outs m c (t.val - 1) (prev_lt t)).2.2.2.2).2.2.2.2.1) := outs_next m c t hc
  rw [e]
  dsimp only
  iintro ⟨⟨Hg, HA, HP, HG, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((nextAt m c t hc (outs m c (t.val - 1) (prev_lt t)).2.2.2.2).2.2.2.2.2 W _)
  isplitl [H0 H1 H2 H3]
  · unfold staged
    isplitl [H0]; · iexact H0
    isplitl [H1]; · iexact H1
    isplitl [H2]; · iexact H2
    iexact H3
  isplitl [H4]; · iexists _; iexact H4
  isplitl [H5]; · iexists _; iexact H5
  isplitl [H6]; · iexists _; iexact H6
  isplitl [H7]; · iexists _; iexact H7
  isplitl [HA]; · iexact HA
  isplitl [HP]; · iexact HP
  isplitl [HW]; · iexact HW
  iintro ⟨HT, ⟨%f4, H4⟩, ⟨%f5, H5⟩, ⟨%f6, H6⟩, ⟨%f7, H7⟩, HA, ⟨%fp, HP⟩, ⟨%W', HW'⟩⟩
  isplitl [Hg HA HP HG HS]
  · isplitl [Hg]; · iexact Hg
    isplitl [HA]; · iexact HA
    isplitl [HP]
    · unfold owns; iexists _; isplitr
      swap; · iexact HP
      ipureintro; exact backP_of _ _ _ (coverP_next m c t hc _)
    isplitl [HG]; · iexact HG
    iexact HS
  isplitl [HW']
  · iexists W'; isplitr; · ipureintro; exact fun _ _ => Or.inl trivial
    iexact HW'
  unfold staged
  icases HT with ⟨H0, H1, H2, H3⟩
  isplitl [H0]; · iexact H0
  isplitl [H1]; · iexact H1
  isplitl [H2]; · iexact H2
  isplitl [H3]; · iexact H3
  isplitl [H4]
  · unfold owns; iexists _; isplitr
    swap; · iexact H4
    ipureintro; exact back4_of _ _ _ (cover4_next m c t hc _)
  isplitl [H5]
  · unfold owns; iexists _; isplitr
    swap; · iexact H5
    ipureintro; exact back5_of _ _ _ (cover5_next m c t hc _)
  isplitl [H6]
  · unfold owns; iexists _; isplitr
    swap; · iexact H6
    ipureintro; exact back6_of _ _ _ (cover6_next m c t hc _)
  unfold owns; iexists _; isplitr
  swap; · iexact H7
  ipureintro; exact back7_of _ _ _ (cover7_next m c t hc _)

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  refine triple_restated (?_ : bodyPre m c t ⊢ _) rfl .rfl fun _ => .rfl
  by_cases hc : cond0_0 (grid0.coords t)
  · exact point_first m c t hc
  · exact point_next m c t hc

/-! ## The launch -/

theorem launch_in (c : Dev nD) : Pipeline.ΦD osem0 spec0 H0 (V m) c ⊢ (dats m 0 c).Φ 0 := by
  rw [PhiD0_eq, show (dats m 0 c).Φ 0 = before m c 0 from rfl]
  unfold before weight rows wSems
  rw [if_pos rfl]
  iintro ⟨⟨HA, HP⟩, Hg, HS, HG⟩
  isplitl [Hg]; · iexact Hg
  isplitl [HA]; · iexact HA
  isplitl [HP]; · iexact HP
  isplitl [HG]; · iexact HG
  iexact HS

theorem end_lt : 15 < cfg0.N := Nat.lt_of_lt_of_eq (by decide : 15 < 16) N_0.symm

theorem launch_out (c : Dev nD) : (dats m 0 c).Φ (Fin.last cfg0.N) ⊢ Pipeline.ΦD osem0 spec0 H0 (V m) c := by
  rw [PhiD0_eq, show (dats m 0 c).Φ (Fin.last cfg0.N) = before m c grid0.N from rfl]
  unfold before weight wSems
  rw [show grid0.N = 15 + 1 by rw [N_0], if_neg (by decide)]
  rw [show rows m c (15 + 1) = owns (c : Thread nD τ) scM0_1 fullShare (outs m c 15 end_lt).2.2.2.2 from rows_next m c ⟨15, end_lt⟩]
  iintro ⟨Hg, HA, HP, HG, HS⟩
  isplitl [HA HP]
  · isplitl [HA]; · iexists _; iexact HA
    iexists _; iexact HP
  isplitl [Hg]; · iexact Hg
  isplitl [HS]; · iexact HS
  iexact HG

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := launch_in m) (hout := launch_out m)

/-- The arguments end unchanged and the semaphores at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c)⟩, h.2⟩) (run_all m ρ)

end Values

end InProj

end
-- ==== Proof.InProjTile.lean ====
/-
  One tile of the first projection: the products of the normalised rows with a block of the weight's columns, and the
  pooled half of one group of 128 columns, each at an index.
-/
module

public import proofs.«01_k».proof.Proof.Gen.InProjIdeal.Skeleton
public import proofs.«01_k».proof.Proof.PoolPieces

@[expose] public section

set_option maxRecDepth 16384

noncomputable section

open Idealize.ShloMosaic Idealize.ShloMosaic.TcCoe Idealize.SL.Sem

namespace InProjTile

open Cert.InProjIdeal Cert.InProjIdeal.Gen RealOps
open PoolFold (entry)

/-- The rows `H` times 512 columns of the weight. -/
def mm (H : FVec Ideal S512x1024 .bf16) (W : FVec Ideal S1024x512 .bf16) : FVec Ideal S512x512 .f32 :=
  matmul dot_S512x1024_S1024x512_S512x512_1_0_0_1_n_n none H W (constant S512x512 .f32 0x00000000#32)

/-- The same, narrowed. -/
def mmb (H : FVec Ideal S512x1024 .bf16) (W : FVec Ideal S1024x512 .bf16) : FVec Ideal S512x512 .bf16 :=
  truncf .bf16 (mm H W) bitsLt_bf16_f32

/-- The last 16 rows of a tile. -/
def keep (v : FVec Ideal S512x512 .f32) : FVec Ideal S16x512 .f32 :=
  shapeCast S16x512 (extractStridedSlice S16x512 ![496, 0] v slices_S512x512_o496_0_S16x512) shapeCasts_S16x512_S16x512

/-- Group `q`'s columns of a tile. -/
def cols (v : FVec Ideal S512x512 .f32) : ℕ → FVec Ideal S512x128 .f32
  | 0 => extractStridedSlice S512x128 ![0, 0] v slices_S512x512_o0_0_S512x128
  | 1 => extractStridedSlice S512x128 ![0, 128] v slices_S512x512_o0_128_S512x128
  | 2 => extractStridedSlice S512x128 ![0, 256] v slices_S512x512_o0_256_S512x128
  | _ => extractStridedSlice S512x128 ![0, 384] v slices_S512x512_o0_384_S512x128

/-- Group `q`'s columns of the 16 rows before. -/
def colsBefore (p : FVec Ideal S16x512 .f32) : ℕ → FVec Ideal S16x128 .f32
  | 0 => extractStridedSlice S16x128 ![0, 0] p slices_S16x512_o0_0_S16x128
  | 1 => extractStridedSlice S16x128 ![0, 128] p slices_S16x512_o0_128_S16x128
  | 2 => extractStridedSlice S16x128 ![0, 256] p slices_S16x512_o0_256_S16x128
  | _ => extractStridedSlice S16x128 ![0, 384] p slices_S16x512_o0_384_S16x128

/-- The rows of a group under the 16 rows before them. -/
def prior (p : FVec Ideal S16x128 .f32) (x : FVec Ideal S512x128 .f32) : FVec Ideal S528x128 .f32 :=
  concatenate S528x128 0 [⟨S16x128, p⟩, ⟨S512x128, x⟩] concatenates_S16x128_S512x128_S528x128_d0

/-- The difference `D` times the group's weight, scaled. -/
def scaled (D : FVec Ideal S512x128 .bf16) (P : FVec Ideal S1x128x128 .f32) (s : FVec Ideal S1x128 .f32) : FVec Ideal S512x128 .f32 :=
  mulf (matmul dot_S512x128_S128x128_S512x128_1_0_0_1_n_n none D
      (truncf .bf16 (shapeCast S128x128 P shapeCasts_S1x128x128_S128x128) bitsLt_bf16_f32) (constant S512x128 .f32 0x00000000#32))
    (broadcastTo S512x128 (shapeCast S1x128 s shapeCasts_S1x128_S1x128) broadcasts_S1x128_S512x128)

/-- The gate's SiLU. -/
def silu (g : FVec Ideal S512x128 .f32) : FVec Ideal S512x128 .f32 :=
  mulf g (divf (broadcast S512x128 (Scalar.ofBits .f32 0x3F800000#32)) (addf (broadcast S512x128 (Scalar.ofBits .f32 0x3F800000#32))
    (exp (subf (broadcast S512x128 (Scalar.ofBits .f32 0x00000000#32)) g))))

/-- Group `q`'s pooled half at a tile, from the value columns `v` and the rows `p` before them, and the gate's columns `g`. -/
def out (i : BitVec 32) (v g : FVec Ideal S512x512 .f32) (p : FVec Ideal S16x512 .f32) (P : FVec Ideal S1x128x128 .f32)
    (s : FVec Ideal S1x128 .f32) (q : ℕ) : FVec Ideal S512x128 .bf16 :=
  truncf .bf16 (mulf (scaled (PoolTile.less i (PoolTile.win q) (cols v q) (PoolTile.sums (prior (colsBefore p q) (cols v q)) q)) P s)
    (silu (cols g q))) bitsLt_bf16_f32

theorem mm_at (X : FVec Ideal S512x1024 .f32) (G : FVec Ideal S1x1024 .f32) (W : FVec Ideal S1024x512 .bf16)
    (x : Fin 512 → Fin 1024 → EReal) (g : Fin 1024 → EReal) (w : Fin 1024 → Fin 512 → EReal) (hX : ∀ r j, X (ix2 r j) = x r j)
    (hG : ∀ j, G (ix2 0 j) = g j) (hW : ∀ j k, W (ix2 j k) = w j k) (r k : Fin 512) :
    mm (k0_pay3 X G) W (ix2 r k) = entry (x r) g (fun j => w j k) := by
  pointwise [mm, k0_pay3]
  simp only [hX, hG, hW]
  rfl

theorem cols_at (v : FVec Ideal S512x512 .f32) (q : Fin 4) (r : Fin 512) (k : Fin 128) : cols v q.val (ix2 r k) = v (ix2 r (PoolArgs.col q k)) := by
  match q with
  | 0 => refine Eq.trans (b := v (ix2 r ⟨k.val, by omega⟩)) ?_ (congrArg (fun j => v (ix2 r j)) (Fin.ext (by show k.val = 128 * 0 + k.val; omega)))
         show cols v 0 _ = _
         pointwise [cols]
  | 1 => show cols v 1 _ = _
         pointwise [cols]; rfl
  | 2 => show cols v 2 _ = _
         pointwise [cols]; rfl
  | 3 => show cols v 3 _ = _
         pointwise [cols]; rfl

theorem colsBefore_at (v : FVec Ideal S16x512 .f32) (q : Fin 4) (r : Fin 16) (k : Fin 128) :
    colsBefore v q.val (ix2 r k) = v (ix2 r (PoolArgs.col q k)) := by
  match q with
  | 0 => refine Eq.trans (b := v (ix2 r ⟨k.val, by omega⟩)) ?_ (congrArg (fun j => v (ix2 r j)) (Fin.ext (by show k.val = 128 * 0 + k.val; omega)))
         show colsBefore v 0 _ = _
         pointwise [colsBefore]
  | 1 => show colsBefore v 1 _ = _
         pointwise [colsBefore]; rfl
  | 2 => show colsBefore v 2 _ = _
         pointwise [colsBefore]; rfl
  | 3 => show colsBefore v 3 _ = _
         pointwise [colsBefore]; rfl

theorem keep_at (v : FVec Ideal S512x512 .f32) (r : Fin 16) (k : Fin 512) : keep v (ix2 r k) = v (ix2 ⟨496 + r.val, by omega⟩ k) := by
  pointwise [keep]

theorem prior_at (t : ℕ) (v : ℕ → ℝ) (p : FVec Ideal S16x128 .f32) (x : FVec Ideal S512x128 .f32) (k : Fin 128)
    (hp : ∀ r : Fin 16, p (ix2 r k) = PoolTile.shifted v (512 * t + r.val)) (hx : ∀ r : Fin 512, x (ix2 r k) = (v (512 * t + r.val) : EReal))
    (r : Fin 528) : prior p x (ix2 r k) = PoolTile.shifted v (512 * t + r.val) := by
  pointwise [prior]
  split
  · exact hp _
  · refine (hx _).trans ?_
    unfold PoolTile.shifted
    show ((v (512 * t + (r.val - 16)) : ℝ) : EReal) = if 16 ≤ 512 * t + r.val then ((v (512 * t + r.val - 16) : ℝ) : EReal) else 0
    rw [if_pos (by omega), show 512 * t + r.val - 16 = 512 * t + (r.val - 16) by omega]

/-- A gate's SiLU. -/
def gate (g : EReal) : EReal := g * Ideal.div 1 (1 + Ideal.exp (-g))

theorem silu_at (g : FVec Ideal S512x128 .f32) (r : Fin 512) (k : Fin 128) : silu g (ix2 r k) = gate (g (ix2 r k)) := by
  pointwise [silu]
  rw [zero_sub]
  rfl

theorem scaled_at (D : FVec Ideal S512x128 .bf16) (P : FVec Ideal S1x128x128 .f32) (s : FVec Ideal S1x128 .f32) (r : Fin 512) (k : Fin 128) :
    scaled D P s (ix2 r k) = (∑ j : Fin 128, D (ix2 r j) * P (ix3 0 j k)) * s (ix2 0 k) := by
  pointwise [scaled]

/-- The pooled half at an index: the difference times the group's weight, scaled, times the gate. -/
def pooled (G : PoolReal.Grp) (P : Fin 128 → Fin 128 → EReal) (s g : EReal) (n : ℕ) (k : Fin 128) : EReal :=
  (∑ j, (PoolReal.d G n j : EReal) * P j k) * s * gate g

theorem out_at (t : ℕ) (ht : t < 16) (G : PoolReal.Grp) (q : Fin 4) (hw : G.w = 2 ^ (q.val + 1)) (v g : FVec Ideal S512x512 .f32)
    (p : FVec Ideal S16x512 .f32) (P : FVec Ideal S1x128x128 .f32) (s : FVec Ideal S1x128 .f32)
    (hv : ∀ r k, v (ix2 r (PoolArgs.col q k)) = (G.v (512 * t + r.val) k : EReal))
    (hp : ∀ r k, p (ix2 r (PoolArgs.col q k)) = PoolTile.shifted (fun n => G.v n k) (512 * t + r.val)) (r : Fin 512) (k : Fin 128) :
    out (BitVec.ofNat 32 t) v g p P s q.val (ix2 r k)
      = pooled G (fun j k => P (ix3 0 j k)) (s (ix2 0 k)) (g (ix2 r (PoolArgs.col q k))) (512 * t + r.val) k := by
  have hx : ∀ (k : Fin 128) (r : Fin 512), cols v q.val (ix2 r k) = (G.v (512 * t + r.val) k : EReal) := fun k r => (cols_at v q r k).trans (hv r k)
  have hD : ∀ k : Fin 128, PoolTile.less (BitVec.ofNat 32 t) (PoolTile.win q.val) (cols v q.val)
      (PoolTile.sums (prior (colsBefore p q.val) (cols v q.val)) q.val) (ix2 r k) = (PoolReal.d G (512 * t + r.val) k : EReal) := fun k =>
    PoolTile.less_at t G q.val q.isLt hw ht _ _ k (hx k)
      (fun r => prior_at t (fun n => G.v n k) _ _ k (fun r => (colsBefore_at p q r k).trans (hp r k)) (hx k) r) r
  unfold out
  generalize PoolTile.less (BitVec.ofNat 32 t) (PoolTile.win q.val) (cols v q.val)
      (PoolTile.sums (prior (colsBefore p q.val) (cols v q.val)) q.val) = D at hD ⊢
  have e : silu (cols g q.val) (ix2 r k) = gate (g (ix2 r (PoolArgs.col q k))) := (silu_at _ r k).trans (congrArg gate (cols_at g q r k))
  refine Eq.trans (b := scaled D P s (ix2 r k) * silu (cols g q.val) (ix2 r k)) rfl ?_
  rw [scaled_at, e]
  simp only [hD]
  rfl

end InProjTile

end
-- ==== Proof.InProjFold.lean ====
/-
  The first projection's points, read: what each point leaves in its four results' blocks and in the rows it keeps, as
  entries of the projection and of the pooled half.
-/
module

public import proofs.«01_k».proof.Proof.InProjRun
public import proofs.«01_k».proof.Proof.InProjTile
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.ShloMosaic.Tactic Idealize.SL.Sem

namespace InProjFold

open Cert.InProjIdeal Cert.InProjIdeal.Gen RealOps InProj InProjTile
open NormDx (groups)
open PoolFold (entry)

variable (m : (ℓ : Loc nD τ sig) → Buf (Elt Ideal) ℓ) (c : Dev nD)

/-- Row `n` of the batch (counted modulo the batch). -/
def xAt (n : ℕ) (j : Fin 1024) : EReal := m ((c : Thread nD τ).loc main_arg0) (ix2 ⟨n % 8192, Nat.mod_lt _ (by decide)⟩ j)

def gAt (j : Fin 1024) : EReal := m ((c : Thread nD τ).loc main_arg1) (ix1 j)

def wAt (j : Fin 1024) (k : Fin 3072) : EReal := m ((c : Thread nD τ).loc main_arg2) (ix2 j k)

def pAt (q : Fin 4) (j k : Fin 128) : EReal := m ((c : Thread nD τ).loc main_arg3) (ix3 q j k)

def sAt (k : Fin 512) : EReal := m ((c : Thread nD τ).loc main_arg4) (ix1 k)

/-- The projection. -/
def proj (n : ℕ) (k : Fin 3072) : EReal := entry (xAt m c n) (gAt m c) (fun j => wAt m c j k)

/-- What the windows' means are of: the rows, the gain and the value columns of the weight. -/
def args : PoolArgs.Args where
  x := xAt m c
  gain j := (gAt m c j).toReal
  w j k := (wAt m c j ⟨k.val, by omega⟩).toReal
  P _ _ _ := 0
  s _ := 0
  dy _ _ := 0
  dq _ _ := 0
  dk _ _ := 0
  dv _ _ := 0
  dag _ _ := 0

/-- The gain and the value columns of the weight are real numbers. -/
structure Finite : Prop where
  gain : ∀ j, gAt m c j = ((gAt m c j).toReal : EReal)
  w : ∀ j (k : Fin 512), wAt m c j ⟨k.val, by omega⟩ = ((wAt m c j ⟨k.val, by omega⟩).toReal : EReal)

/-- The pooled half. -/
def half (n : ℕ) (q : Fin 4) (k : Fin 128) : EReal :=
  pooled (PoolArgs.grp (args m c) q) (pAt m c q) (sAt m c (PoolArgs.col q k)) (proj m c n ⟨512 + (PoolArgs.col q k).val, by omega⟩) n k

theorem proj_real (f : Finite m c) (n : ℕ) (q : Fin 4) (k : Fin 128) :
    proj m c n ⟨(PoolArgs.col q k).val, by omega⟩ = ((PoolArgs.grp (args m c) q).v n k : EReal) :=
  PoolFold.entry_real _ _ _ _ (fun j => (wAt m c j ⟨(PoolArgs.col q k).val, by omega⟩).toReal) f.gain fun j => f.w j (PoolArgs.col q k)

theorem tile_lt (t : Fin cfg0.N) (r : Fin 512) : 512 * t.val + r.val < 8192 := by
  have := lt_of_lt_of_eq t.isLt (show cfg0.N = 16 from N_0)
  omega

theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, _)

theorem blk_x (t : Fin cfg0.N) (r : Fin 512) (j : Fin 1024) : iblk m c 0 t (ix2 r j) = xAt m c (512 * t.val + r.val) j := by
  refine Eq.trans (b := m ((c : Thread nD τ).loc main_arg0) (ix2 ⟨512 * t.val + r.val, tile_lt t r⟩ j)) ?_
    (congrArg (fun n => m ((c : Thread nD τ).loc main_arg0) (ix2 n j)) (Fin.ext (Nat.mod_eq_of_lt (tile_lt t r)).symm))
  blk_ext [iblk, V, idx t]

theorem blk_g (t : Fin cfg0.N) (j : Fin 1024) : iblk m c 1 t (ix2 0 j) = gAt m c j := by
  unfold gAt
  blk_point [iblk, V, idx t]

theorem blk_P (t : Fin cfg0.N) (q : Fin 4) (j k : Fin 128) : iblk m c 2 t (ix3 q j k) = pAt m c q j k := by
  unfold pAt
  blk_ext [iblk, V, idx t]

theorem blk_s (t : Fin cfg0.N) (k : Fin 512) : iblk m c 3 t (ix2 0 k) = sAt m c k := by
  unfold sAt
  blk_point [iblk, V, idx t]

theorem held_at (j : Fin 1024) (k : Fin 3072) : held m c (ix2 j k) = wAt m c j k := by
  unfold held groups wAt
  show V m c main_v2 _ = _
  blk_point [V]

/-- A load of part of a whole buffer reads what the buffer holds there. -/
theorem load_at {sp : Space} {s : Shape} {e : EltTy} (M : Memref sig .tc sp s e) (h : M.IsWhole) (X : s.Idx → Elt Ideal e)
    (o n : Fin s.rank → ℕ) (inb : ∀ a, o a + n a ≤ s.size a) (x : (Rect.unit (s := s) o n inb).toLoadRect.shape.Idx) (y : s.Idx)
    (hy : ∀ a, (y a).val = o a + (x a).val) :
    M.view.readAt (Elt Ideal) (Rect.unit (s := s) o n inb).toLoadRect (h.unread X) x = X y := by
  refine (h.readAt_unread X (Rect.unit (s := s) o n inb).toLoadRect x).trans (congrArg X (funext fun a => Fin.ext ?_))
  refine Eq.trans ?_ (hy a).symm
  simp [Rect.toLoadRect, Rect.unit, Rect.emb]

variable (t : Fin cfg0.N)

/-! The loads of a point. -/

def ldX : FVec Ideal S512x1024 .f32 :=
  (ms0_0 t).view.readAt (Elt Ideal) (Rect.unit (s := S512x1024) ![0, 0] ![512, 1024] inb_S512x1024_S512x1024_0_0).toLoadRect ((hs0_0 t).unread (iblk m c 0 t))
def ldG : FVec Ideal S1x1024 .f32 :=
  (ms0_1 t).view.readAt (Elt Ideal) (Rect.unit (s := S1x1024) ![0, 0] ![1, 1024] inb_S1x1024_S1x1024_0_0).toLoadRect ((hs0_1 t).unread (iblk m c 1 t))
def ldW (o : ℕ) (inb : ∀ a, (![0, o] : Fin 2 → ℕ) a + (![1024, 512] : Fin 2 → ℕ) a ≤ S1024x3072.size a) : FVec Ideal S1024x512 .bf16 :=
  (Memref.whole cc0_scratch0).view.readAt (Elt Ideal) (Rect.unit (s := S1024x3072) ![0, o] ![1024, 512] inb).toLoadRect
    ((Memref.isWhole_whole cc0_scratch0).unread (held m c))
def ldP (q : ℕ) (inb : ∀ a, (![q, 0, 0] : Fin 3 → ℕ) a + (![1, 128, 128] : Fin 3 → ℕ) a ≤ S4x128x128.size a) : FVec Ideal S1x128x128 .f32 :=
  (ms0_2 t).view.readAt (Elt Ideal) (Rect.unit (s := S4x128x128) ![q, 0, 0] ![1, 128, 128] inb).toLoadRect ((hs0_2 t).unread (iblk m c 2 t))
def ldS (o : ℕ) (inb : ∀ a, (![0, o] : Fin 2 → ℕ) a + (![1, 128] : Fin 2 → ℕ) a ≤ S1x512.size a) : FVec Ideal S1x128 .f32 :=
  (ms0_3 t).view.readAt (Elt Ideal) (Rect.unit (s := S1x512) ![0, o] ![1, 128] inb).toLoadRect ((hs0_3 t).unread (iblk m c 3 t))

theorem ldX_at (r : Fin 512) (j : Fin 1024) : ldX m c t (ix2 r j) = xAt m c (512 * t.val + r.val) j := by
  refine (load_at (ms0_0 t) (hs0_0 t) _ _ _ _ _ (ix2 r j) fun a => ?_).trans (blk_x m c t r j)
  match a with
  | ⟨0, _⟩ => exact (Nat.zero_add _).symm
  | ⟨1, _⟩ => exact (Nat.zero_add _).symm

theorem ldG_at (j : Fin 1024) : ldG m c t (ix2 0 j) = gAt m c j := by
  refine (load_at (ms0_1 t) (hs0_1 t) _ _ _ _ _ (ix2 0 j) fun a => ?_).trans (blk_g m c t j)
  match a with
  | ⟨0, _⟩ => exact (Nat.zero_add _).symm
  | ⟨1, _⟩ => exact (Nat.zero_add _).symm

theorem ldW_at (o : ℕ) (inb) (j : Fin 1024) (k : Fin 512) (h : o + k.val < 3072) : ldW m c o inb (ix2 j k) = wAt m c j ⟨o + k.val, h⟩ := by
  refine (load_at (Memref.whole cc0_scratch0) _ _ _ _ _ _ (ix2 j ⟨o + k.val, h⟩) fun a => ?_).trans (held_at m c j _)
  match a with
  | ⟨0, _⟩ => exact (Nat.zero_add _).symm
  | ⟨1, _⟩ => exact rfl

theorem ldP_at (q : Fin 4) (inb) (j k : Fin 128) : ldP m c t q.val inb (ix3 0 j k) = pAt m c q j k := by
  refine (load_at (ms0_2 t) (hs0_2 t) _ _ _ _ _ (ix3 q j k) fun a => ?_).trans (blk_P m c t q j k)
  match a with
  | ⟨0, _⟩ => exact rfl
  | ⟨1, _⟩ => exact (Nat.zero_add _).symm
  | ⟨2, _⟩ => exact (Nat.zero_add _).symm

theorem ldS_at (q : Fin 4) (o : ℕ) (ho : o = 128 * q.val) (inb) (k : Fin 128) : ldS m c t o inb (ix2 0 k) = sAt m c (PoolArgs.col q k) := by
  subst ho
  refine (load_at (ms0_3 t) (hs0_3 t) _ _ _ _ _ (ix2 0 (PoolArgs.col q k)) fun a => ?_).trans (blk_s m c t _)
  match a with
  | ⟨0, _⟩ => exact rfl
  | ⟨1, _⟩ => exact rfl

/-- The tile's normalised rows times 512 columns of the weight. -/
abbrev part (o : ℕ) (inb : ∀ a, (![0, o] : Fin 2 → ℕ) a + (![1024, 512] : Fin 2 → ℕ) a ≤ S1024x3072.size a) : FVec Ideal S512x512 .f32 := mm (k0_pay3 (ldX m c t) (ldG m c t)) (ldW m c o inb)

theorem part_at (o : ℕ) (inb) (r k : Fin 512) (h : o + k.val < 3072) :
    part m c t o inb (ix2 r k) = proj m c (512 * t.val + r.val) ⟨o + k.val, h⟩ := by
  have hW : ∀ (j : Fin 1024) (k : Fin 512), ldW m c o inb (ix2 j k) = wAt m c j ⟨o + k.val, by have := inb 1; have : o + 512 ≤ 3072 := this; omega⟩ :=
    fun j k => ldW_at m c o inb j k _
  exact mm_at _ _ _ (fun r => xAt m c (512 * t.val + r.val)) (gAt m c) _ (ldX_at m c t) (ldG_at m c t) hW r k

/-- The value columns and the gate's columns of the tile. -/
abbrev val : FVec Ideal S512x512 .f32 := part m c t 0 inb_S1024x3072_S1024x512_0_0
abbrev gat : FVec Ideal S512x512 .f32 := part m c t 512 inb_S1024x3072_S1024x512_0_512

/-- The word of a point's number. -/
abbrev wd : BitVec 32 := BitVec.ofNat 32 (grid0.coords t 0).val

theorem wd_eq : wd t = BitVec.ofNat 32 t.val :=
  congrArg (BitVec.ofNat 32) ((by decide +kernel : ∀ t : Fin grid0.N, (grid0.coords t 0).val = t.val) t)

/-- Group `q`'s pooled half at the tile, over the rows `p` kept from the tile before. -/
abbrev grp (p : FVec Ideal S16x512 .f32) (q o : ℕ)
    (i1 : ∀ a, (![q, 0, 0] : Fin 3 → ℕ) a + (![1, 128, 128] : Fin 3 → ℕ) a ≤ S4x128x128.size a)
    (i2 : ∀ a, (![0, o] : Fin 2 → ℕ) a + (![1, 128] : Fin 2 → ℕ) a ≤ S1x512.size a) : FVec Ideal S512x128 .bf16 :=
  out (wd t) (val m c t) (gat m c t) p (ldP m c t q i1) (ldS m c t o i2) q

/-! The stores of a point. -/

abbrev st4 : List (View.Piece (Elt Ideal) S512x1024 .f32) :=
  [⟨Rect.unit ![0, 512] ![512, 512] inb_S512x1024_S512x512_0_512, gat m c t⟩,
   ⟨Rect.unit ![0, 0] ![512, 512] inb_S512x1024_S512x512_0_0, val m c t⟩]

abbrev st5 : List (View.Piece (Elt Ideal) S512x1536 .bf16) :=
  [⟨Rect.unit ![0, 1024] ![512, 512] inb_S512x1536_S512x512_0_1024, mmb (k0_pay3 (ldX m c t) (ldG m c t)) (ldW m c 2048 inb_S1024x3072_S1024x512_0_2048)⟩,
   ⟨Rect.unit ![0, 512] ![512, 512] inb_S512x1536_S512x512_0_512, mmb (k0_pay3 (ldX m c t) (ldG m c t)) (ldW m c 1536 inb_S1024x3072_S1024x512_0_1536)⟩,
   ⟨Rect.unit ![0, 0] ![512, 512] inb_S512x1536_S512x512_0_0, mmb (k0_pay3 (ldX m c t) (ldG m c t)) (ldW m c 1024 inb_S1024x3072_S1024x512_0_1024)⟩]

abbrev st6 : List (View.Piece (Elt Ideal) S512x512 .f32) :=
  [⟨Rect.unit ![0, 0] ![512, 512] inb_S512x512_S512x512_0_0, part m c t 2560 inb_S1024x3072_S1024x512_0_2560⟩]

abbrev st7 (p : FVec Ideal S16x512 .f32) : List (View.Piece (Elt Ideal) S512x512 .bf16) :=
  [⟨Rect.unit ![0, 384] ![512, 128] inb_S512x512_S512x128_0_384, grp m c t p 3 384 inb_S4x128x128_S1x128x128_3_0_0 inb_S1x512_S1x128_0_384⟩,
   ⟨Rect.unit ![0, 256] ![512, 128] inb_S512x512_S512x128_0_256, grp m c t p 2 256 inb_S4x128x128_S1x128x128_2_0_0 inb_S1x512_S1x128_0_256⟩,
   ⟨Rect.unit ![0, 128] ![512, 128] inb_S512x512_S512x128_0_128, grp m c t p 1 128 inb_S4x128x128_S1x128x128_1_0_0 inb_S1x512_S1x128_0_128⟩,
   ⟨Rect.unit ![0, 0] ![512, 128] inb_S512x512_S512x128_0_0, grp m c t p 0 0 inb_S4x128x128_S1x128x128_0_0_0 inb_S1x512_S1x128_0_0⟩]

abbrev stP (L : List (View.Piece (Elt Ideal) S16x512 .f32)) : List (View.Piece (Elt Ideal) S16x512 .f32) :=
  ⟨Rect.unit ![0, 0] ![16, 512] inb_S16x512_S16x512_0_0, keep (val m c t)⟩ :: L

/-- The rows kept, as a later point loads them. -/
abbrev kept (xp : FVec Ideal S16x512 .f32) : FVec Ideal S16x512 .f32 :=
  (Memref.whole cc0_scratch1).view.readAt (Elt Ideal) (Rect.unit (s := S16x512) ![0, 0] ![16, 512] inb_S16x512_S16x512_0_0).toLoadRect
    ((Memref.isWhole_whole cc0_scratch1).unread xp)

section Next

variable (hc : ¬cond0_0 (grid0.coords t)) (xp : FVec Ideal S16x512 .f32)

theorem next4 : (nextAt m c t hc xp).1 = st4 m c t := rfl
theorem next5 : (nextAt m c t hc xp).2.1 = st5 m c t := rfl
theorem next6 : (nextAt m c t hc xp).2.2.1 = st6 m c t := rfl
theorem next7 : (nextAt m c t hc xp).2.2.2.1 = st7 m c t (kept xp) := rfl
theorem nextP : (nextAt m c t hc xp).2.2.2.2.1 = stP m c t [] := rfl

end Next

section First

variable (hc : cond0_0 (grid0.coords t))

theorem first4 : (firstAt m c t hc).1 = st4 m c t := rfl
theorem first5 : (firstAt m c t hc).2.1 = st5 m c t := rfl
theorem first6 : (firstAt m c t hc).2.2.1 = st6 m c t := rfl
theorem first7 : ∃ p : FVec Ideal S16x512 .f32, (firstAt m c t hc).2.2.2.1 = st7 m c t p ∧ ∀ x, p x = 0 := ⟨_, rfl, fun x => by
  simp (disch := decide) only [↓ View.readCov_cons_toLoadRect]
  pointwise [k0_pay2]⟩
theorem firstP : ∃ L, (firstAt m c t hc).2.2.2.2.1 = stP m c t L := ⟨_, rfl⟩

end First

/-! The stores, as entries. -/

/-- The columns from `a` on of the projection, over a tile. -/
def tile (a b : ℕ) (h : a + b ≤ 3072) (y : (⟨2, ![512, b]⟩ : Shape).Idx) : EReal :=
  proj m c (512 * t.val + (y 0).val) ⟨a + (y 1).val, by have : (y 1).val < b := (y 1).isLt; omega⟩

theorem piece (a b : ℕ) (h : a + b ≤ 3072) (o o' : ℕ) (ho : o = a + o') (inb)
    (inb' : ∀ x, (![0, o'] : Fin 2 → ℕ) x + (![512, 512] : Fin 2 → ℕ) x ≤ (⟨2, ![512, b]⟩ : Shape).size x) (x : S512x512.Idx) :
    part m c t o inb x = tile m c t a b h ((Rect.unit (s := (⟨2, ![512, b]⟩ : Shape)) ![0, o'] ![512, 512] inb').emb x) := by
  have h1 : o + (x 1).val < 3072 := by have := inb 1; have : o + 512 ≤ 3072 := this; have : (x 1).val < 512 := (x 1).isLt; omega
  refine (congrArg (part m c t o inb) (eq_ix2 x)).trans ((part_at m c t o inb (x 0) (x 1) h1).trans ?_)
  unfold tile
  refine congrArg₂ (fun n k => proj m c (512 * t.val + n) k) (PoolFold.emb0 inb' x).symm (Fin.ext ?_)
  have e := PoolFold.emb1 inb' x
  show o + (x 1).val = a + _
  rw [e]
  omega

/-- The pooled half over a tile. -/
def tileHalf (y : S512x512.Idx) : EReal :=
  half m c (512 * t.val + (y 0).val) ⟨(y 1).val / 128, by have : (y 1).val < 512 := (y 1).isLt; omega⟩ ⟨(y 1).val % 128, by omega⟩

/-- The rows kept are those before the tile, zero before the first. -/
def Before (p : FVec Ideal S16x512 .f32) : Prop :=
  ∀ (q : Fin 4) (r : Fin 16) (k : Fin 128), p (ix2 r (PoolArgs.col q k)) = PoolTile.shifted (fun n => (PoolArgs.grp (args m c) q).v n k) (512 * t.val + r.val)

theorem grp_at (f : Finite m c) (p : FVec Ideal S16x512 .f32) (hp : Before m c t p) (q : Fin 4) (o : ℕ) (ho : o = 128 * q.val) (i1) (i2)
    (r : Fin 512) (k : Fin 128) : grp m c t p q.val o i1 i2 (ix2 r k) = half m c (512 * t.val + r.val) q k := by
  have ht : t.val < 16 := lt_of_lt_of_eq t.isLt N_0
  unfold grp
  rw [wd_eq]
  refine (out_at t.val ht (PoolArgs.grp (args m c) q) q rfl _ _ _ _ _ (fun r k => ?_) (hp q) r k).trans ?_
  · refine (part_at m c t 0 _ r (PoolArgs.col q k) (by omega)).trans ?_
    refine Eq.trans (congrArg (proj m c _) (Fin.ext ?_)) (proj_real m c f (512 * t.val + r.val) q k)
    exact Nat.zero_add _
  · unfold half
    have e : gat m c t (ix2 r (PoolArgs.col q k)) = proj m c (512 * t.val + r.val) ⟨512 + (PoolArgs.col q k).val, by omega⟩ :=
      part_at m c t 512 _ r (PoolArgs.col q k) (by omega)
    rw [ldS_at m c t q o ho, e]
    simp only [ldP_at]

theorem piece_half (f : Finite m c) (p : FVec Ideal S16x512 .f32) (hp : Before m c t p) (q : Fin 4) (o : ℕ) (ho : o = 128 * q.val) (i1) (i2)
    (inb : ∀ x, (![0, o] : Fin 2 → ℕ) x + (![512, 128] : Fin 2 → ℕ) x ≤ (⟨2, ![512, 512]⟩ : Shape).size x) (x : S512x128.Idx) :
    grp m c t p q.val o i1 i2 x = tileHalf m c t ((Rect.unit (s := (⟨2, ![512, 512]⟩ : Shape)) ![0, o] ![512, 128] inb).emb x) := by
  refine (congrArg (grp m c t p q.val o i1 i2) (eq_ix2 x)).trans ((grp_at m c t f p hp q o ho i1 i2 (x 0) (x 1)).trans ?_)
  unfold tileHalf
  have h1 : (x 1).val < 128 := (x 1).isLt
  have e := PoolFold.emb1 inb x
  have e0 := PoolFold.emb0 inb x
  have a : ∀ (n : ℕ) (Q : Fin 4) (K : Fin 128), n = (x 0).val → Q = q → K = x 1 →
      half m c (512 * t.val + (x 0).val) q (x 1) = half m c (512 * t.val + n) Q K := by rintro _ _ _ rfl rfl rfl; rfl
  exact a _ _ _ e0 (Fin.ext (by show _ / 128 = _; rw [e]; omega)) (Fin.ext (by show _ % 128 = (x 1).val; rw [e]; omega))

/-- What a point leaves. -/
structure Leaves (o : Left Ideal) : Prop where
  vg : ∀ y, o.1 y = tile m c t 0 1024 (by decide) y
  qkv : ∀ y, o.2.1 y = tile m c t 1024 1536 (by decide) y
  ag : ∀ y, o.2.2.1 y = tile m c t 2560 512 (by decide) y
  pool : ∀ y, o.2.2.2.1 y = tileHalf m c t y
  rows : ∀ (r : Fin 16) (k : Fin 512), o.2.2.2.2 (ix2 r k) = proj m c (512 * t.val + 496 + r.val) ⟨k.val, by omega⟩

theorem holds {s : Shape} {e : EltTy} {sp : Space} (v : View sig .tc sp s e) (f) (G : s.Idx → Elt Ideal e) (L K : List (View.Piece (Elt Ideal) s e)) (hL : L = K)
    (h : View.PiecesOf G K) (hc : ∀ y, ∃ p ∈ L, y ∈ p.1.set) (y : s.Idx) : v.read (Elt Ideal) (v.writes (Elt Ideal) f L) y = G y := by
  subst hL
  have a := View.canon_append_of_piecesOf G [] L h y (hc y)
  rw [List.append_nil] at a
  exact (View.read_writes_apply_eq_canon v f y L (hc y)).trans a

theorem back4_at (G : S512x1024.Idx → EReal) (L K : List (View.Piece (Elt Ideal) S512x1024 .f32)) (hL : L = K) (h : View.PiecesOf G K)
    (hc : ∀ y, ∃ p ∈ L, y ∈ p.1.set) (y : S512x1024.Idx) : back4 (F := Ideal) L y = G y := holds VO0_4 _ G L K hL h hc y

theorem back5_at (G : S512x1536.Idx → EReal) (L K : List (View.Piece (Elt Ideal) S512x1536 .bf16)) (hL : L = K) (h : View.PiecesOf G K)
    (hc : ∀ y, ∃ p ∈ L, y ∈ p.1.set) (y : S512x1536.Idx) : back5 (F := Ideal) L y = G y := holds VO0_5 _ G L K hL h hc y

theorem back6_at (G : S512x512.Idx → EReal) (L K : List (View.Piece (Elt Ideal) S512x512 .f32)) (hL : L = K) (h : View.PiecesOf G K)
    (hc : ∀ y, ∃ p ∈ L, y ∈ p.1.set) (y : S512x512.Idx) : back6 (F := Ideal) L y = G y := holds VO0_6 _ G L K hL h hc y

theorem back7_at (G : S512x512.Idx → EReal) (L K : List (View.Piece (Elt Ideal) S512x512 .bf16)) (hL : L = K) (h : View.PiecesOf G K)
    (hc : ∀ y, ∃ p ∈ L, y ∈ p.1.set) (y : S512x512.Idx) : back7 (F := Ideal) L y = G y := holds VO0_7 _ G L K hL h hc y

theorem whole_emb (inb) (y : S16x512.Idx) : (Rect.unit (s := S16x512) ![0, 0] ![16, 512] inb).emb y = y := by
  funext a
  match a with
  | ⟨0, _⟩ => exact Fin.ext (PoolFold.emb0 inb y)
  | ⟨1, _⟩ => exact Fin.ext ((PoolFold.emb1 inb y).trans (Nat.zero_add _))

theorem whole_mem (inb) (y : S16x512.Idx) : y ∈ (Rect.unit (s := S16x512) ![0, 0] ![16, 512] inb).set := by
  have h : (y 1).val < 512 := (y 1).isLt
  exact PoolFold.col_mem inb y rfl ⟨Nat.zero_le _, by omega⟩

/-- A whole store is read back. -/
theorem backP_at (b : FVec Ideal S16x512 .f32) (inb) (L : List (View.Piece (Elt Ideal) S16x512 .f32)) (y : S16x512.Idx) :
    backP (F := Ideal) (⟨Rect.unit (s := S16x512) ![0, 0] ![16, 512] inb, b⟩ :: L) y = b y := by
  have hy := whole_mem inb y
  have hm : ∃ p ∈ ((⟨Rect.unit (s := S16x512) ![0, 0] ![16, 512] inb, b⟩ : View.Piece (Elt Ideal) S16x512 .f32) :: L), y ∈ p.1.set :=
    ⟨⟨Rect.unit (s := S16x512) ![0, 0] ![16, 512] inb, b⟩, List.mem_cons_self, hy⟩
  unfold backP
  rw [View.read_writes_apply_eq_canon _ _ _ _ hm]
  have a := View.canon_cons_emb (Val := Elt Ideal) (e := .f32) (Rect.unit (s := S16x512) ![0, 0] ![16, 512] inb) b L y
  rw [whole_emb] at a
  exact a

theorem st4_of : View.PiecesOf (tile m c t 0 1024 (by decide)) (st4 m c t) :=
  ⟨piece m c t 0 1024 _ 512 512 rfl _ inb_S512x1024_S512x512_0_512, piece m c t 0 1024 _ 0 0 rfl _ inb_S512x1024_S512x512_0_0, trivial⟩

theorem st5_of : View.PiecesOf (tile m c t 1024 1536 (by decide)) (st5 m c t) :=
  ⟨piece m c t 1024 1536 _ 2048 1024 rfl _ inb_S512x1536_S512x512_0_1024, piece m c t 1024 1536 _ 1536 512 rfl _ inb_S512x1536_S512x512_0_512,
    piece m c t 1024 1536 _ 1024 0 rfl _ inb_S512x1536_S512x512_0_0, trivial⟩

theorem st6_of : View.PiecesOf (tile m c t 2560 512 (by decide)) (st6 m c t) :=
  ⟨piece m c t 2560 512 _ 2560 0 rfl _ inb_S512x512_S512x512_0_0, trivial⟩

theorem st7_of (f : Finite m c) (p : FVec Ideal S16x512 .f32) (hp : Before m c t p) : View.PiecesOf (tileHalf m c t) (st7 m c t p) :=
  ⟨piece_half m c t f p hp 3 384 rfl _ _ inb_S512x512_S512x128_0_384, piece_half m c t f p hp 2 256 rfl _ _ inb_S512x512_S512x128_0_256,
    piece_half m c t f p hp 1 128 rfl _ _ inb_S512x512_S512x128_0_128, piece_half m c t f p hp 0 0 rfl _ _ inb_S512x512_S512x128_0_0, trivial⟩

theorem keep_val (r : Fin 16) (k : Fin 512) : keep (val m c t) (ix2 r k) = proj m c (512 * t.val + 496 + r.val) ⟨k.val, by omega⟩ := by
  refine (keep_at _ r k).trans ((part_at m c t 0 _ ⟨496 + r.val, by omega⟩ k (by omega)).trans ?_)
  exact congrArg₂ (fun n k => proj m c n k) (by show 512 * t.val + (496 + r.val) = _; omega) (Fin.ext (Nat.zero_add _))

theorem kept_at (xp : FVec Ideal S16x512 .f32) (r : Fin 16) (k : Fin 512) : kept xp (ix2 r k) = xp (ix2 r k) := by
  refine load_at (Memref.whole cc0_scratch1) _ _ _ _ _ _ (ix2 r k) fun a => ?_
  match a with
  | ⟨0, _⟩ => exact (Nat.zero_add _).symm
  | ⟨1, _⟩ => exact (Nat.zero_add _).symm

theorem next_pool (f : Finite m c) (hc : ¬cond0_0 (grid0.coords t)) (xp : FVec Ideal S16x512 .f32) (hp : Before m c t xp) (y : S512x512.Idx) :
    back7 (nextAt m c t hc xp).2.2.2.1 y = tileHalf m c t y := by
  refine back7_at _ _ _ (next7 m c t hc xp) (st7_of m c t f (kept xp) fun q r k => ?_) (cover7_next m c t hc xp) y
  exact (kept_at xp r _).trans (hp q r k)

theorem next_rows (hc : ¬cond0_0 (grid0.coords t)) (xp : FVec Ideal S16x512 .f32) (r : Fin 16) (k : Fin 512) :
    backP (nextAt m c t hc xp).2.2.2.2.1 (ix2 r k) = proj m c (512 * t.val + 496 + r.val) ⟨k.val, by omega⟩ := by
  rw [nextP]
  exact (backP_at _ _ _ _).trans (keep_val m c t r k)

theorem first_pool (f : Finite m c) (hc : cond0_0 (grid0.coords t)) (h0 : t.val = 0) (y : S512x512.Idx) :
    back7 (firstAt m c t hc).2.2.2.1 y = tileHalf m c t y := by
  obtain ⟨p, e, hz⟩ := first7 m c t hc
  refine back7_at _ _ _ e (st7_of m c t f p fun q r k => ?_) (cover7_first m c t hc) y
  rw [hz, h0]
  unfold PoolTile.shifted
  rw [if_neg (by omega)]

theorem first_rows (hc : cond0_0 (grid0.coords t)) (r : Fin 16) (k : Fin 512) :
    backP (firstAt m c t hc).2.2.2.2.1 (ix2 r k) = proj m c (512 * t.val + 496 + r.val) ⟨k.val, by omega⟩ := by
  obtain ⟨L, e⟩ := firstP m c t hc
  rw [e]
  exact (backP_at _ _ _ _).trans (keep_val m c t r k)

theorem leaves_of (o : Left Ideal) (a b d e g) (ho : o = (a, b, d, e, g)) (h4 : ∀ y, a y = tile m c t 0 1024 (by decide) y)
    (h5 : ∀ y, b y = tile m c t 1024 1536 (by decide) y) (h6 : ∀ y, d y = tile m c t 2560 512 (by decide) y) (h7 : ∀ y, e y = tileHalf m c t y)
    (h8 : ∀ (r : Fin 16) (k : Fin 512), g (ix2 r k) = proj m c (512 * t.val + 496 + r.val) ⟨k.val, by omega⟩) : Leaves m c t o := by
  subst ho
  exact ⟨h4, h5, h6, h7, h8⟩

theorem leaves_next (f : Finite m c) (hc : ¬cond0_0 (grid0.coords t)) (xp : FVec Ideal S16x512 .f32) (hp : Before m c t xp) :
    Leaves m c t (leftNext m c t hc xp) :=
  leaves_of m c t _ _ _ _ _ _ (by unfold leftNext; rfl) (back4_at _ _ _ (next4 m c t hc xp) (st4_of m c t) (cover4_next m c t hc xp))
    (back5_at _ _ _ (next5 m c t hc xp) (st5_of m c t) (cover5_next m c t hc xp)) (back6_at _ _ _ (next6 m c t hc xp) (st6_of m c t) (cover6_next m c t hc xp))
    (next_pool m c t f hc xp hp) (next_rows m c t hc xp)

theorem leaves_first (f : Finite m c) (hc : cond0_0 (grid0.coords t)) (h0 : t.val = 0) : Leaves m c t (leftFirst m c t hc) :=
  leaves_of m c t _ _ _ _ _ _ (by unfold leftFirst; rfl) (back4_at _ _ _ (first4 m c t hc) (st4_of m c t) (cover4_first m c t hc))
    (back5_at _ _ _ (first5 m c t hc) (st5_of m c t) (cover5_first m c t hc)) (back6_at _ _ _ (first6 m c t hc) (st6_of m c t) (cover6_first m c t hc))
    (first_pool m c t f hc h0) (first_rows m c t hc)

/-- What every point leaves. -/
theorem leaves (f : Finite m c) : ∀ (n : ℕ) (hn : n < cfg0.N), Leaves m c ⟨n, hn⟩ (outs m c n hn)
  | 0, hn => leaves_first m c ⟨0, hn⟩ f (cond_zero hn rfl) rfl
  | n + 1, hn => by
    have ih := leaves f n (Nat.lt_of_succ_lt hn)
    refine leaves_next m c ⟨n + 1, hn⟩ f (cond_succ hn) _ fun q r k => ?_
    refine (ih.rows r (PoolArgs.col q k)).trans ((proj_real m c f _ q k).trans ?_)
    unfold PoolTile.shifted
    show _ = if 16 ≤ 512 * (n + 1) + r.val then (((PoolArgs.grp (args m c) q).v (512 * (n + 1) + r.val - 16) k : ℝ) : EReal) else 0
    rw [if_pos (by omega), show 512 * (n + 1) + r.val - 16 = 512 * n + 496 + r.val by omega]

end InProjFold

end
-- ==== Proof.InProjClaim.lean ====
/-
  The first projection's four results after the last point, and the reference's, equal for arguments that meet the stated
  precondition.
-/
module

public import proofs.«01_k».proof.Proof.InProjFold
public import proofs.«01_k».proof.Proof.PoolFwd
public import proofs.«01_k».proof.Proof.Gen.InProjRefIdeal.Read
public import proofs.«01_k».proof.Proof.Gen.Pre_norm_inproj_finite
public import Idealize.ShloMosaic.Lib.ReduceAll

@[expose] public section

set_option maxRecDepth 16384

noncomputable section

open Idealize.ShloMosaic Idealize.ShloMosaic.TcCoe Idealize.SL.Sem

namespace InProjFold

open Cert.InProjIdeal Cert.InProjIdeal.Gen RealOps InProj InProjTile Cert.InProjRefIdeal.Read

variable (m : (ℓ : Loc nD τ sig) → Buf (Elt Ideal) ℓ) (c : Dev nD)

/-- The columns from `a` on of the projection. -/
def res (a b : ℕ) (h : a + b ≤ 3072) (y : (⟨2, ![8192, b]⟩ : Shape).Idx) : EReal :=
  proj m c (y 0).val ⟨a + (y 1).val, by have : (y 1).val < b := (y 1).isLt; omega⟩

/-- The pooled half. -/
def resHalf (y : S8192x512.Idx) : EReal :=
  half m c (y 0).val ⟨(y 1).val / 128, by have : (y 1).val < 512 := (y 1).isLt; omega⟩ ⟨(y 1).val % 128, by omega⟩

theorem final_vg (f : Finite m c) : (dats m 0 c).arrAt 4 cfg0.N = res m c 0 1024 (by decide) := by
  refine (dats m 0 c).arrAt_eq_of_covers 4 _ (by decide +kernel) fun t hf y => ?_
  blk_simp
  rw [after_4]
  refine ((leaves m c f t.val t.isLt).vg y).trans ?_
  refine congrArg₂ (fun n k => proj m c n k) ?_ (Fin.ext ?_)
  · blk_simp [idx t]
    simp
    omega
  · blk_simp [idx t]

theorem final_qkv (f : Finite m c) : (dats m 0 c).arrAt 5 cfg0.N = res m c 1024 1536 (by decide) := by
  refine (dats m 0 c).arrAt_eq_of_covers 5 _ (by decide +kernel) fun t hf y => ?_
  blk_simp
  rw [after_5]
  refine ((leaves m c f t.val t.isLt).qkv y).trans ?_
  refine congrArg₂ (fun n k => proj m c n k) ?_ (Fin.ext ?_)
  · blk_simp [idx t]
    simp
    omega
  · blk_simp [idx t]

theorem final_ag (f : Finite m c) : (dats m 0 c).arrAt 6 cfg0.N = res m c 2560 512 (by decide) := by
  refine (dats m 0 c).arrAt_eq_of_covers 6 _ (by decide +kernel) fun t hf y => ?_
  blk_simp
  rw [after_6]
  refine ((leaves m c f t.val t.isLt).ag y).trans ?_
  refine congrArg₂ (fun n k => proj m c n k) ?_ (Fin.ext ?_)
  · blk_simp [idx t]
    simp
    omega
  · blk_simp [idx t]

theorem half_congr {n n' : ℕ} {q q' : Fin 4} {k k' : Fin 128} (hn : n = n') (hq : q = q') (hk : k = k') : half m c n q k = half m c n' q' k' := by
  subst hn hq hk
  rfl

theorem final_pool (f : Finite m c) : (dats m 0 c).arrAt 7 cfg0.N = resHalf m c := by
  refine (dats m 0 c).arrAt_eq_of_covers 7 _ (by decide +kernel) fun t hf y => ?_
  blk_simp
  rw [after_7]
  refine ((leaves m c f t.val t.isLt).pool y).trans ?_
  refine half_congr m c ?_ (Fin.ext ?_) (Fin.ext ?_)
  · blk_simp [idx t]
    simp
    omega
  · blk_simp [idx t]
  · blk_simp [idx t]

/-- The four results and the arguments kept. -/
theorem run_main (ρ : Dev nD → PrngReg) (f : ∀ c, Finite m c) :
    θ_run defs (onTc (τ := τ) (main (F := Ideal))) ⟨m, fun _ => 0, ρ⟩ (fun r => ∀ c : Dev nD,
      r.2.mem ((c.tc : Thread nD τ).loc main_v5_0) = res m c 0 1024 (by decide)
      ∧ r.2.mem ((c.tc : Thread nD τ).loc main_v5_1) = res m c 1024 1536 (by decide)
      ∧ r.2.mem ((c.tc : Thread nD τ).loc main_v5_2) = res m c 2560 512 (by decide)
      ∧ r.2.mem ((c.tc : Thread nD τ).loc main_v5_3) = resHalf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨((h.1.1 c).1 4).trans (final_vg m c (f c)), ((h.1.1 c).1 5).trans (final_qkv m c (f c)),
      ((h.1.1 c).1 6).trans (final_ag m c (f c)), ((h.1.1 c).1 7).trans (final_pool m c (f c)), h.2.1 c⟩)
    (θ_run_and (run_all m ρ) (quiet m ρ))

/-- The precondition, read: the gain and the value columns of the weight hold real numbers. -/
theorem finite_of_pre
    (h : Cert.Pre_norm_inproj_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Finite m c := by
  unfold Cert.Pre_norm_inproj_finite.fn at h
  obtain ⟨h1, h2⟩ := (and_one _ _).mp (congrFun h ix0)
  refine ⟨fun j => real_of_abs_lt _ (Host.reduce_andi_all _ _ _ _ _ h1 (ix1 j)), fun j k => ?_⟩
  have e := real_of_abs_lt _ (Host.reduce_andi_all _ _ _ _ _ h2 (ix2 j k))
  pointwise at e
  exact e

/-! The reference. -/

abbrev X : FVec Ideal S8192x1024 .f32 := m ((c : Thread nD τ).loc main_arg0)
abbrev G : FVec Ideal S1024 .f32 := m ((c : Thread nD τ).loc main_arg1)
abbrev W : FVec Ideal S1024x3072 .f32 := m ((c : Thread nD τ).loc main_arg2)
abbrev P : FVec Ideal S4x128x128 .f32 := m ((c : Thread nD τ).loc main_arg3)
abbrev S : FVec Ideal S512 .f32 := m ((c : Thread nD τ).loc main_arg4)

theorem x_at (n : Fin 8192) (k : Fin 1024) : X m c (ix2 n k) = xAt m c n.val k :=
  congrArg (fun i => m ((c : Thread nD τ).loc main_arg0) (ix2 i k)) (PoolFold.at_of_lt n.val n.isLt).symm

theorem reads (f : Finite m c) : PoolFwd.Reads (X m c) (G m c) (W m c) (args m c) where
  x n k := x_at m c n k
  gain k := f.gain k
  w j k := f.w j k

theorem proj_at (n : Fin 8192) (k : Fin 3072) : val_main_v13 (F := Ideal) (X m c) (G m c) (W m c) (ix2 n k) = proj m c n.val k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  have hx : ∀ k, xAt m c n.val k = X m c (ix2 n k) := fun k => (x_at m c n k).symm
  unfold proj PoolFold.entry
  simp only [hx]
  rfl

theorem vg_eq : res m c 0 1024 (by decide) = val_main_v113 (F := Ideal) (X m c) (G m c) (W m c) := by
  funext y
  idx_vars y
  refine Eq.symm ?_
  pointwise [val_main_v113]
  exact (proj_at m c _ _).trans (congrArg (proj m c _) (Fin.ext (Nat.zero_add _).symm))

theorem qkv_eq : res m c 1024 1536 (by decide) = val_main_v115 (F := Ideal) (X m c) (G m c) (W m c) := by
  funext y
  idx_vars y
  refine Eq.symm ?_
  pointwise [val_main_v115, val_main_v114]
  exact proj_at m c _ _

theorem ag_eq : res m c 2560 512 (by decide) = val_main_v116 (F := Ideal) (X m c) (G m c) (W m c) := by
  funext y
  idx_vars y
  refine Eq.symm ?_
  pointwise [val_main_v116]
  exact proj_at m c _ _

theorem diffs_same : val_main_v103 (F := Ideal) (X m c) (G m c) (W m c) = Cert.PoolDwRefIdeal.Read.val_main_v104 (F := Ideal) (X m c) (G m c) (W m c) := rfl

theorem prod_at (f : Finite m c) (n : Fin 8192) (q : Fin 4) (k : Fin 128) :
    val_main_v105 (F := Ideal) (X m c) (G m c) (W m c) (P m c) (ix4 0 n q k)
      = ∑ j, (PoolReal.d (PoolArgs.grp (args m c) q) n.val j : EReal) * pAt m c q j k := by
  pointwise [val_main_v105, val_main_v104]
  rw [diffs_same]
  simp only [PoolFwd.diffs_at (reads m c f)]
  exact Finset.sum_congr rfl fun j _ => mul_comm _ _

theorem gate_at (n : Fin 8192) (k : Fin 512) : val_main_v110 (F := Ideal) (X m c) (G m c) (W m c) (ix3 0 n k) = gate (proj m c n.val ⟨512 + k.val, by omega⟩) := by
  pointwise [val_main_v110, val_main_call5_v5, val_main_call5_v4, val_main_call5_v3, val_main_call5_v2, val_main_call5_v1, val_main_call5_v0,
    val_main_call5_cst, val_main_call5_cst_0, val_main_v17, val_main_v16]
  simp only [proj_at]
  rfl

theorem half_at (f : Finite m c) (n : Fin 8192) (q : Fin 4) (k : Fin 128) :
    val_main_v117 (F := Ideal) (X m c) (G m c) (W m c) (P m c) (S m c) (ix2 n (PoolArgs.col q k)) = half m c n.val q k := by
  have e : val_main_v106 (F := Ideal) (X m c) (G m c) (W m c) (P m c) (ix3 0 n (PoolArgs.col q k))
      = ∑ j, (PoolReal.d (PoolArgs.grp (args m c) q) n.val j : EReal) * pAt m c q j k := by
    refine (val_main_v106_apply _ _ _ _ _).trans (Eq.trans (congrArg _ ?_) (prod_at m c f n q k))
    funext a
    have hq := q.isLt
    have hk := k.isLt
    have hn := n.isLt
    match a with
    | ⟨0, _⟩ => rfl
    | ⟨1, _⟩ => exact Fin.ext (by show ((0 * 8192 + n.val) * 512 + (128 * q.val + k.val)) / 512 % 8192 = n.val; omega)
    | ⟨2, _⟩ => exact Fin.ext (by show ((0 * 8192 + n.val) * 512 + (128 * q.val + k.val)) / 128 % 4 = q.val; omega)
    | ⟨3, _⟩ => exact Fin.ext (by show ((0 * 8192 + n.val) * 512 + (128 * q.val + k.val)) % 128 = k.val; omega)
  pointwise [val_main_v117, val_main_v112, val_main_v111, val_main_v109, val_main_v108, val_main_v107]
  rw [e, gate_at]
  rfl

theorem pool_eq (f : Finite m c) : resHalf m c = val_main_v117 (F := Ideal) (X m c) (G m c) (W m c) (P m c) (S m c) := by
  funext y
  idx_vars y
  refine (half_at m c f y0 ⟨y1.val / 128, by omega⟩ ⟨y1.val % 128, by omega⟩).symm.trans (congrArg _ ?_)
  exact congrArg (ix2 y0) (Fin.ext (by show 128 * (y1.val / 128) + y1.val % 128 = y1.val; omega))

end InProjFold

end
-- ==== Proof.lean ====
module

public import proofs.«01_k».proof.Defs
public import proofs.«01_k».proof.Proof.Gen.OutLoss
public import proofs.«01_k».proof.Proof.Gen.OutLoss.Skeleton
public import proofs.«01_k».proof.Proof.Gen.OutLoss.Launch
public import proofs.«01_k».proof.Proof.Gen.OutLoss.Points
public import proofs.«01_k».proof.Proof.Gen.OutLoss.Frame
public import proofs.«01_k».proof.Proof.Gen.OutLossIdeal
public import proofs.«01_k».proof.Proof.Gen.OutLossIdeal.Skeleton
public import proofs.«01_k».proof.Proof.Gen.OutLossIdeal.Launch
public import proofs.«01_k».proof.Proof.Gen.OutLossIdeal.Points
public import proofs.«01_k».proof.Proof.Gen.OutLossIdeal.Frame
public import proofs.«01_k».proof.Proof.Gen.OutLossRefIdeal
public import proofs.«01_k».proof.Proof.Gen.Pre_out_loss_finite
public import proofs.«01_k».proof.Proof.Gen.OutLossIdeal.Value
public import proofs.«01_k».proof.Proof.Gen.OutLossRefIdeal.Run
public import proofs.«01_k».proof.Proof.Gen.OutLossRefIdeal.Read
public import proofs.«01_k».proof.Proof.LossClaim
public import proofs.«01_k».proof.Proof.PoolClaim
public import proofs.«01_k».proof.Proof.NormClaim
public import proofs.«01_k».proof.Proof.PackClaim
public import Idealize.ShloMosaic.Adequacy
public import proofs.«01_k».proof.Proof.Gen.PoolDw
public import proofs.«01_k».proof.Proof.Gen.PoolDw.Skeleton
public import proofs.«01_k».proof.Proof.Gen.PoolDw.Launch
public import proofs.«01_k».proof.Proof.Gen.PoolDw.Points
public import proofs.«01_k».proof.Proof.Gen.PoolDw.Frame
public import proofs.«01_k».proof.Proof.Gen.PoolDwIdeal
public import proofs.«01_k».proof.Proof.Gen.PoolDwIdeal.Skeleton
public import proofs.«01_k».proof.Proof.Gen.PoolDwIdeal.Launch
public import proofs.«01_k».proof.Proof.Gen.PoolDwIdeal.Points
public import proofs.«01_k».proof.Proof.Gen.PoolDwIdeal.Frame
public import proofs.«01_k».proof.Proof.Gen.PoolDwRefIdeal
public import proofs.«01_k».proof.Proof.Gen.Pre_pool_dw_finite
public import proofs.«01_k».proof.Proof.Gen.PoolDwRefIdeal.Run
public import proofs.«01_k».proof.Proof.Gen.PoolDwRefIdeal.Read
public import proofs.«01_k».proof.Proof.Gen.NormDx
public import proofs.«01_k».proof.Proof.Gen.NormDx.Skeleton
public import proofs.«01_k».proof.Proof.Gen.NormDx.Launch
public import proofs.«01_k».proof.Proof.Gen.NormDx.Points
public import proofs.«01_k».proof.Proof.Gen.NormDxIdeal
public import proofs.«01_k».proof.Proof.Gen.NormDxIdeal.Skeleton
public import proofs.«01_k».proof.Proof.Gen.NormDxIdeal.Launch
public import proofs.«01_k».proof.Proof.Gen.NormDxIdeal.Points
public import proofs.«01_k».proof.Proof.Gen.NormDxIdeal.Frame
public import proofs.«01_k».proof.Proof.Gen.NormDx.Frame
public import proofs.«01_k».proof.Proof.Gen.NormDxRefIdeal
public import proofs.«01_k».proof.Proof.Gen.NormDxRefIdeal.Run
public import proofs.«01_k».proof.Proof.Gen.NormDxRefIdeal.Read
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.PackIdeal
public import proofs.«01_k».proof.Proof.Gen.PackIdeal.Skeleton
public import proofs.«01_k».proof.Proof.Gen.PackIdeal.Launch
public import proofs.«01_k».proof.Proof.Gen.PackIdeal.Points
public import proofs.«01_k».proof.Proof.Gen.PackIdeal.Frame
public import proofs.«01_k».proof.Proof.Gen.PackIdeal.Value
public import proofs.«01_k».proof.Proof.Gen.PackRefIdeal
public import proofs.«01_k».proof.Proof.Gen.PackRefIdeal.Run
public import proofs.«01_k».proof.Proof.Gen.PackRefIdeal.Read
public import proofs.«01_k».proof.Proof.Gen.Pre_pack_small_finite
public import proofs.«01_k».proof.Proof.Gen.AttnBwd
public import proofs.«01_k».proof.Proof.Gen.AttnBwd.Launch
public import proofs.«01_k».proof.Proof.Gen.AttnBwd.Frame
public import proofs.«01_k».proof.Proof.Gen.AttnBwd.Points
public import proofs.«01_k».proof.Proof.Gen.AttnBwdIdeal
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.InProj
public import proofs.«01_k».proof.Proof.Gen.InProjIdeal
public import proofs.«01_k».proof.Proof.Gen.InProjIdeal.Launch
public import proofs.«01_k».proof.Proof.Gen.InProjIdeal.Points
public import proofs.«01_k».proof.Proof.Gen.InProjIdeal.Frame.Runs
public import proofs.«01_k».proof.Proof.Gen.InProjIdeal.Skeleton
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Pre_norm_inproj_finite
public import proofs.«01_k».proof.Proof.Gen.AttnFwd
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.AttnFwdRefIdeal.Run
public import proofs.«01_k».proof.Proof.AttnRun
public import proofs.«01_k».proof.Proof.FwdRun
public import proofs.«01_k».proof.Proof.InProjRun
public import proofs.«01_k».proof.Proof.InProjClaim
public import Idealize.ShloMosaic.Init

@[expose] public section

noncomputable section

namespace Cert.Proof

open Idealize.ShloMosaic Idealize.SL.Sem Cert.OutLoss

/-- The out-projection's reference runs, keeps its arguments and declares no semaphore. -/
theorem out_loss_ref : Cert.quiescent_OutLossRefIdeal (hOutLossRefIdeal := Cert.OutLossRefIdeal.Gen.facts) :=
  fun m ρ _ => (θ_run Cert.OutLossRefIdeal.defs _ _).mono
    (fun r h => ⟨fun c => (h c).2.2.2.2.2.2.2, sem_eq_zero_of_no_sems (by decide) r.2⟩)
    (Cert.OutLossRefIdeal.Value.run (F := Ideal) m ρ)

/-- The out-projection kernel and its reference end with equal results. -/
theorem out_loss : Cert.algebraic_OutLossIdeal_OutLossRefIdeal_pre_out_loss_finite
    (hOutLossIdeal := Cert.OutLossIdeal.Gen.facts) (hOutLossRefIdeal := Cert.OutLossRefIdeal.Gen.facts)
    (hPre_out_loss_finite := Cert.Pre_out_loss_finite.Gen.facts) := by
  intro m ρ m' ρ' hpre hagree
  have f := fun c => OutLossClaim.finite_of_pre m c (hpre c)
  refine ⟨_, _, _, _, _, _, _, Cert.OutLossIdeal.Value.run m ρ,
    (θ_run Cert.OutLossRefIdeal.defs _ _).mono (fun r h c => ?_) (Cert.OutLossRefIdeal.Value.run (F := Ideal) m' ρ')⟩
  obtain ⟨a0, a1, a2, a3, a4, a5, a6⟩ := hagree c
  obtain ⟨h0, h1, h2, h3, h4, h5, h6, kept⟩ := h c
  rw [Cert.OutLossRefIdeal.Read.val_main_v55_eq, a0, a1, a2, a3, a4, a5, a6] at h0
  rw [Cert.OutLossRefIdeal.Read.val_main_v64_eq, a0, a1, a2, a3, a4, a5, a6] at h1
  rw [Cert.OutLossRefIdeal.Read.val_main_v65_eq, a0, a1, a2, a3, a4, a5, a6] at h2
  rw [Cert.OutLossRefIdeal.Read.val_main_v66_eq, a0, a1, a2, a3, a4, a5, a6] at h3
  rw [Cert.OutLossRefIdeal.Read.val_main_v68_eq, a0, a1, a2, a3, a4, a5, a6] at h4
  rw [Cert.OutLossRefIdeal.Read.val_main_v69_eq, a0, a1, a2, a3, a4, a5, a6] at h5
  rw [Cert.OutLossRefIdeal.Read.val_main_v71_eq, a0, a1, a2, a3, a4, a5, a6] at h6
  exact ⟨h0.trans (OutLossClaim.dx_eq m c (f c)).symm, h1.trans (OutLossClaim.dpool_eq m c (f c)).symm,
    h2.trans (OutLossClaim.dattn_eq m c (f c)).symm, h3.trans (OutLossClaim.dgate_eq m c (f c)).symm,
    h4.trans (OutLossClaim.dweight_eq m c (f c)).symm, h5.trans (OutLossClaim.dgain_eq m c (f c)).symm,
    h6.trans (OutLossClaim.loss_eq m c (f c)).symm, kept⟩

/-- The pooling gradient's reference runs, keeps its arguments and declares no semaphore. -/
theorem pool_dw_ref : Cert.quiescent_PoolDwRefIdeal (hPoolDwRefIdeal := Cert.PoolDwRefIdeal.Gen.facts) :=
  fun m ρ _ => (θ_run Cert.PoolDwRefIdeal.defs _ _).mono
    (fun r h => ⟨fun c => (h c).2.2.2.2, sem_eq_zero_of_no_sems (by decide) r.2⟩)
    (Cert.PoolDwRefIdeal.Value.run (F := Ideal) m ρ)

/-- The pooling's gradient kernel and its reference end with equal results. -/
theorem pool_dw : Cert.algebraic_PoolDwIdeal_PoolDwRefIdeal_pre_pool_dw_finite
    (hPoolDwIdeal := Cert.PoolDwIdeal.Gen.facts) (hPoolDwRefIdeal := Cert.PoolDwRefIdeal.Gen.facts)
    (hPre_pool_dw_finite := Cert.Pre_pool_dw_finite.Gen.facts) := by
  intro m ρ m' ρ' hpre hagree
  have f := fun c => PoolClaim.finite_of_pre m c (hpre c)
  refine ⟨_, _, _, _, PoolFold.run_all m ρ f,
    (θ_run Cert.PoolDwRefIdeal.defs _ _).mono (fun r h c => ?_) (Cert.PoolDwRefIdeal.Value.run (F := Ideal) m' ρ')⟩
  obtain ⟨a0, a1, a2, a3, a4, a5, a6, a7, a8, a9⟩ := hagree c
  obtain ⟨h0, h1, h2, h3, kept⟩ := h c
  have e0 : StableHlo.launchContents m' c (Proc.tc.devRef Cert.PoolDwRefIdeal.main_arg0) = _ := a0
  have e1 : StableHlo.launchContents m' c (Proc.tc.devRef Cert.PoolDwRefIdeal.main_arg1) = _ := a1
  have e2 : StableHlo.launchContents m' c (Proc.tc.devRef Cert.PoolDwRefIdeal.main_arg2) = _ := a2
  have e3 : StableHlo.launchContents m' c (Proc.tc.devRef Cert.PoolDwRefIdeal.main_arg3) = _ := a3
  have e4 : StableHlo.launchContents m' c (Proc.tc.devRef Cert.PoolDwRefIdeal.main_arg4) = _ := a4
  have e5 : StableHlo.launchContents m' c (Proc.tc.devRef Cert.PoolDwRefIdeal.main_arg5) = _ := a5
  have e6 : StableHlo.launchContents m' c (Proc.tc.devRef Cert.PoolDwRefIdeal.main_arg6) = _ := a6
  have e7 : StableHlo.launchContents m' c (Proc.tc.devRef Cert.PoolDwRefIdeal.main_arg7) = _ := a7
  have e8 : StableHlo.launchContents m' c (Proc.tc.devRef Cert.PoolDwRefIdeal.main_arg8) = _ := a8
  have e9 : StableHlo.launchContents m' c (Proc.tc.devRef Cert.PoolDwRefIdeal.main_arg9) = _ := a9
  rw [Cert.PoolDwRefIdeal.Read.val_main_v197_eq, e0, e1, e2, e3, e4, e5, e6, e7, e8, e9] at h0
  rw [Cert.PoolDwRefIdeal.Read.val_main_v199_eq, e0, e1, e2, e3, e4, e5, e6, e7, e8, e9] at h1
  rw [Cert.PoolDwRefIdeal.Read.val_main_v132_eq, e0, e1, e2, e4, e5] at h2
  rw [Cert.PoolDwRefIdeal.Read.val_main_v200_eq, e0, e1, e2, e3, e5] at h3
  exact ⟨h0.trans (PoolClaim.dw_eq m c (f c)).symm, h1.trans (PoolClaim.pool_eq m c (f c)).symm,
    h2.trans (PoolClaim.pw_eq m c (f c)).symm, h3.trans (PoolClaim.ps_eq m c (f c)).symm, kept⟩

/-- The normalisation's gradient kernel keeps its arguments and leaves the semaphores at zero. -/
theorem norm_dx_kernel : Cert.quiescent_NormDx (hNormDx := Cert.NormDx.Gen.facts) :=
  fun m ρ _ => by
    refine Eq.mp ?_ (NormDx.quiet (F := Bits) m ρ)
    sl_kernel_rfl

/-- Its reference keeps its arguments and leaves the semaphores at zero. -/
theorem norm_dx_ref : Cert.quiescent_NormDxRefIdeal (hNormDxRefIdeal := Cert.NormDxRefIdeal.Gen.facts) :=
  fun m ρ _ => (θ_run Cert.NormDxRefIdeal.defs _ _).mono
    (fun r h => ⟨fun c => (h c).2.2, sem_eq_zero_of_no_sems (by decide) r.2⟩)
    (Cert.NormDxRefIdeal.Value.run (F := Ideal) m ρ)

/-- The normalisation's gradient kernel and its reference end with equal results. -/
theorem norm_dx : Cert.algebraic_NormDxIdeal_NormDxRefIdeal
    (hNormDxIdeal := Cert.NormDxIdeal.Gen.facts) (hNormDxRefIdeal := Cert.NormDxRefIdeal.Gen.facts) := by
  intro m ρ m' ρ' _ hagree
  refine ⟨_, _, NormFold.run_main m ρ,
    (θ_run Cert.NormDxRefIdeal.defs _ _).mono (fun r h c => ?_) (Cert.NormDxRefIdeal.Value.run (F := Ideal) m' ρ')⟩
  obtain ⟨a0, a1, a2, a3, a4⟩ := hagree c
  obtain ⟨h0, h1, kept⟩ := h c
  rw [Cert.NormDxRefIdeal.Read.val_main_v38_eq, a0, a1, a2, a3, a4] at h0
  rw [Cert.NormDxRefIdeal.Read.val_main_v39_eq, a0, a2, a4] at h1
  exact ⟨h0.trans (NormFold.gx_ref m c), h1.trans (NormFold.dg_ref m c), kept⟩

/-- The packing's reference keeps its arguments and leaves the semaphores at zero. -/
theorem pack_small_ref : Cert.quiescent_PackRefIdeal (hPackRefIdeal := Cert.PackRefIdeal.Gen.facts) :=
  fun m ρ _ => (θ_run Cert.PackRefIdeal.defs _ _).mono
    (fun r h => ⟨fun c => (h c).2, sem_eq_zero_of_no_sems (by decide) r.2⟩)
    (Cert.PackRefIdeal.Value.run (F := Ideal) m ρ)

/-- The attention's gradient kernel keeps its arguments and leaves the semaphores at zero. -/
theorem attn_bwd_kernel : Cert.quiescent_AttnBwd (hAttnBwd := Cert.AttnBwd.Gen.facts) :=
  fun m ρ _ => by
    refine Eq.mp ?_ (AttnBwd.quiet (F := Bits) m ρ)
    sl_kernel_rfl

/-- Its reference keeps its arguments and leaves the semaphores at zero. -/
theorem attn_bwd_ref : Cert.quiescent_AttnBwdRefIdeal (hAttnBwdRefIdeal := Cert.AttnBwdRefIdeal.Gen.facts) :=
  fun m ρ _ => (θ_run Cert.AttnBwdRefIdeal.defs _ _).mono
    (fun r h => ⟨fun c => (h c).2.2.2, sem_eq_zero_of_no_sems (by decide) r.2⟩)
    (Cert.AttnBwdRefIdeal.Value.run (F := Ideal) m ρ)

/-- The packing kernel and its reference end with equal results. -/
theorem pack_small : Cert.algebraic_PackIdeal_PackRefIdeal_pre_pack_small_finite
    (hPackIdeal := Cert.PackIdeal.Gen.facts) (hPackRefIdeal := Cert.PackRefIdeal.Gen.facts)
    (hPre_pack_small_finite := Cert.Pre_pack_small_finite.Gen.facts) := by
  intro m ρ m' ρ' hpre hagree
  have f := fun c => PackClaim.finite_of_pre m c (hpre c)
  refine ⟨_, Cert.PackIdeal.Value.run_blocks m ρ,
    (θ_run Cert.PackRefIdeal.defs _ _).mono (fun r h c => ?_) (Cert.PackRefIdeal.Value.run (F := Ideal) m' ρ')⟩
  obtain ⟨a0, a1, a2, a3⟩ := hagree c
  obtain ⟨h0, kept⟩ := h c
  rw [Cert.PackRefIdeal.Read.val_main_v32_eq, a0, a1, a2, a3] at h0
  exact ⟨h0.trans (PackClaim.packed_eq m c (f c)).symm, kept⟩

/-- The first projection's kernel keeps its arguments and leaves the semaphores at zero. -/
theorem norm_inproj_kernel : Cert.quiescent_InProj (hInProj := Cert.InProj.Gen.facts) :=
  fun m ρ _ => by
    refine Eq.mp ?_ (InProj.quiet (F := Bits) m ρ)
    sl_kernel_rfl

/-- The attention's forward kernel keeps its arguments and leaves the semaphores at zero. -/
theorem attn_fwd_kernel : Cert.quiescent_AttnFwd (hAttnFwd := Cert.AttnFwd.Gen.facts) :=
  fun m ρ _ => by
    refine Eq.mp ?_ (AttnFwd.quiet (F := Bits) m ρ)
    sl_kernel_rfl

/-- Its reference keeps its arguments and leaves the semaphores at zero. -/
theorem attn_fwd_ref : Cert.quiescent_AttnFwdRefIdeal (hAttnFwdRefIdeal := Cert.AttnFwdRefIdeal.Gen.facts) :=
  fun m ρ _ => (θ_run Cert.AttnFwdRefIdeal.defs _ _).mono
    (fun r h => ⟨fun c => (h c).2, sem_eq_zero_of_no_sems (by decide) r.2⟩)
    (Cert.AttnFwdRefIdeal.Value.run (F := Ideal) m ρ)

/-- The first projection and its reference end with equal results. -/
theorem norm_inproj : Cert.algebraic_InProjIdeal_InProjRefIdeal_pre_norm_inproj_finite
    (hInProjIdeal := Cert.InProjIdeal.Gen.facts) (hInProjRefIdeal := Cert.InProjRefIdeal.Gen.facts)
    (hPre_norm_inproj_finite := Cert.Pre_norm_inproj_finite.Gen.facts) := by
  intro m ρ m' ρ' hpre hagree
  have f := fun c => InProjFold.finite_of_pre m c (hpre c)
  refine ⟨_, _, _, _, InProjFold.run_main m ρ f,
    (θ_run Cert.InProjRefIdeal.defs _ _).mono (fun r h c => ?_) (Cert.InProjRefIdeal.Value.run (F := Ideal) m' ρ')⟩
  obtain ⟨a0, a1, a2, a3, a4⟩ := hagree c
  obtain ⟨h0, h1, h2, h3, kept⟩ := h c
  have e0 : StableHlo.launchContents m' c (Proc.tc.devRef Cert.InProjRefIdeal.main_arg0) = _ := a0
  have e1 : StableHlo.launchContents m' c (Proc.tc.devRef Cert.InProjRefIdeal.main_arg1) = _ := a1
  have e2 : StableHlo.launchContents m' c (Proc.tc.devRef Cert.InProjRefIdeal.main_arg2) = _ := a2
  have e3 : StableHlo.launchContents m' c (Proc.tc.devRef Cert.InProjRefIdeal.main_arg3) = _ := a3
  have e4 : StableHlo.launchContents m' c (Proc.tc.devRef Cert.InProjRefIdeal.main_arg4) = _ := a4
  rw [Cert.InProjRefIdeal.Read.val_main_v113_eq, e0, e1, e2] at h0
  rw [Cert.InProjRefIdeal.Read.val_main_v115_eq, e0, e1, e2] at h1
  rw [Cert.InProjRefIdeal.Read.val_main_v116_eq, e0, e1, e2] at h2
  rw [Cert.InProjRefIdeal.Read.val_main_v117_eq, e0, e1, e2, e3, e4] at h3
  exact ⟨h0.trans (InProjFold.vg_eq m c).symm, h1.trans (InProjFold.qkv_eq m c).symm,
    h2.trans (InProjFold.ag_eq m c).symm, h3.trans (InProjFold.pool_eq m c (f c)).symm, kept⟩

/-- Its reference keeps its arguments and leaves the semaphores at zero. -/
theorem norm_inproj_ref : Cert.quiescent_InProjRefIdeal (hInProjRefIdeal := Cert.InProjRefIdeal.Gen.facts) :=
  fun m ρ _ => (θ_run Cert.InProjRefIdeal.defs _ _).mono
    (fun r h => ⟨fun c => (h c).2.2.2.2, sem_eq_zero_of_no_sems (by decide) r.2⟩)
    (Cert.InProjRefIdeal.Value.run (F := Ideal) m ρ)

theorem claim : Cert.Claim :=
  ⟨Cert.OutLoss.Gen.facts, Cert.OutLossIdeal.Gen.facts, Cert.OutLossRefIdeal.Gen.facts, Cert.PoolDw.Gen.facts, Cert.PoolDwIdeal.Gen.facts,
    Cert.PoolDwRefIdeal.Gen.facts, Cert.NormDx.Gen.facts, Cert.NormDxIdeal.Gen.facts, Cert.NormDxRefIdeal.Gen.facts,
    Cert.Pack.Gen.facts, Cert.PackIdeal.Gen.facts, Cert.PackRefIdeal.Gen.facts,
    Cert.AttnBwd.Gen.facts, Cert.AttnBwdIdeal.Gen.facts, Cert.AttnBwdRefIdeal.Gen.facts,
    Cert.InProj.Gen.facts, Cert.InProjIdeal.Gen.facts, Cert.InProjRefIdeal.Gen.facts,
    Cert.AttnFwd.Gen.facts, Cert.AttnFwdIdeal.Gen.facts, Cert.AttnFwdRefIdeal.Gen.facts,
    Cert.Pre_out_loss_finite.Gen.facts, Cert.Pre_pool_dw_finite.Gen.facts, Cert.Pre_pack_small_finite.Gen.facts,
    Cert.Pre_norm_inproj_finite.Gen.facts,
    fun m ρ _ => Cert.OutLoss.Gen.frame m ρ, fun m ρ _ => Cert.OutLossIdeal.Gen.frame m ρ,
    fun m ρ _ => Cert.OutLossIdeal.Gen.frame m ρ, out_loss_ref, fun m ρ _ => out_loss_ref m ρ trivial,
    fun m ρ _ => Cert.PoolDw.Gen.frame m ρ, fun m ρ _ => Cert.PoolDwIdeal.Gen.frame m ρ,
    fun m ρ _ => Cert.PoolDwIdeal.Gen.frame m ρ, pool_dw_ref, fun m ρ _ => pool_dw_ref m ρ trivial,
    norm_dx_kernel, fun m ρ _ => NormDx.quiet (F := Ideal) m ρ, norm_dx_ref,
    fun m ρ _ => Cert.Pack.Gen.frame m ρ, fun m ρ _ => Cert.PackIdeal.Gen.frame m ρ,
    fun m ρ _ => Cert.PackIdeal.Gen.frame m ρ, pack_small_ref, fun m ρ _ => pack_small_ref m ρ trivial,
    attn_bwd_kernel, fun m ρ _ => AttnBwd.quiet (F := Ideal) m ρ, attn_bwd_ref,
    norm_inproj_kernel, fun m ρ _ => InProj.quiet (F := Ideal) m ρ, fun m ρ _ => InProj.quiet (F := Ideal) m ρ,
    norm_inproj_ref, fun m ρ _ => norm_inproj_ref m ρ trivial,
    attn_fwd_kernel, fun m ρ _ => AttnFwd.quiet (F := Ideal) m ρ, attn_fwd_ref,
    trivial, out_loss, trivial, pool_dw, trivial, norm_dx, trivial, pack_small, trivial, trivial, norm_inproj, trivial⟩

end Cert.Proof

end
